-- ==== Defs.lean ====
def Pre_Sc (m : (ℓ : Loc Cert.Sc.nD Cert.Sc.τ Cert.Sc.sig) → Buf (Elt Bits) ℓ) : Prop :=
  True

def Pre_ScIdeal (m : (ℓ : Loc Cert.ScIdeal.nD Cert.ScIdeal.τ Cert.ScIdeal.sig) → Buf (Elt Ideal) ℓ) : Prop :=
  True

def Pre_ScRefIdeal (m : (ℓ : Loc Cert.ScRefIdeal.nD Cert.ScRefIdeal.τ Cert.ScRefIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoRefIdeal (m : (ℓ : Loc Cert.DwoRefIdeal.nD Cert.DwoRefIdeal.τ Cert.DwoRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dwi (m : (ℓ : Loc Cert.Dwi.nD Cert.Dwi.τ Cert.Dwi.sig) → Buf (Elt Bits) ℓ) : Prop :=
  True

def Pre_DwiIdeal (m : (ℓ : Loc Cert.DwiIdeal.nD Cert.DwiIdeal.τ Cert.DwiIdeal.sig) → Buf (Elt Ideal) ℓ) : Prop :=
  True

def Pre_DwiRefIdeal (m : (ℓ : Loc Cert.DwiRefIdeal.nD Cert.DwiRefIdeal.τ Cert.DwiRefIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def Pre_DnRefIdeal (m : (ℓ : Loc Cert.DnRefIdeal.nD Cert.DnRefIdeal.τ Cert.DnRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Xa (m : (ℓ : Loc Cert.Xa.nD Cert.Xa.τ Cert.Xa.sig) → Buf (Elt Bits) ℓ) : Prop :=
  True

def Pre_XaIdeal (m : (ℓ : Loc Cert.XaIdeal.nD Cert.XaIdeal.τ Cert.XaIdeal.sig) → Buf (Elt Ideal) ℓ) : Prop :=
  True

def Pre_XaIdeal_xa_finite [hPre_xa_finite : Cert.Pre_xa_finite.Facts] (m : (ℓ : Loc Cert.XaIdeal.nD Cert.XaIdeal.τ Cert.XaIdeal.sig) → Buf (Elt Ideal) ℓ) : Prop :=
  ∀ c : Dev Cert.XaIdeal.nD,
    (Cert.Pre_xa_finite.fn (F := Ideal) (m ((c.tc : Thread Cert.XaIdeal.nD Cert.XaIdeal.τ).loc Cert.XaIdeal.main_arg0)) (m ((c.tc : Thread Cert.XaIdeal.nD Cert.XaIdeal.τ).loc Cert.XaIdeal.main_arg1)) (m ((c.tc : Thread Cert.XaIdeal.nD Cert.XaIdeal.τ).loc Cert.XaIdeal.main_arg2))) = (fun _ => 1#1)

def Pre_XaRefIdeal (m : (ℓ : Loc Cert.XaRefIdeal.nD Cert.XaRefIdeal.τ Cert.XaRefIdeal.sig) → Buf (Elt Ideal) ℓ) : Prop :=
  True

def Pre_XaRefIdeal_xa_finite [hPre_xa_finite : Cert.Pre_xa_finite.Facts] (m : (ℓ : Loc Cert.XaRefIdeal.nD Cert.XaRefIdeal.τ Cert.XaRefIdeal.sig) → Buf (Elt Ideal) ℓ) : Prop :=
  ∀ c : Dev Cert.XaRefIdeal.nD,
    (Cert.Pre_xa_finite.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2))) = (fun _ => 1#1)

def Pre_AdMin (m : (ℓ : Loc Cert.AdMin.nD Cert.AdMin.τ Cert.AdMin.sig) → Buf (Elt Bits) ℓ) : Prop :=
  True

def Pre_AdMinIdeal (m : (ℓ : Loc Cert.AdMinIdeal.nD Cert.AdMinIdeal.τ Cert.AdMinIdeal.sig) → Buf (Elt Ideal) ℓ) : Prop :=
  True

def Pre_AdMinRefIdeal (m : (ℓ : Loc Cert.AdMinRefIdeal.nD Cert.AdMinRefIdeal.τ Cert.AdMinRefIdeal.sig) → Buf (Elt Ideal) ℓ) : Prop :=
  True

def Pre_AdMuq (m : (ℓ : Loc Cert.AdMuq.nD Cert.AdMuq.τ Cert.AdMuq.sig) → Buf (Elt Bits) ℓ) : Prop :=
  True

def Pre_AdMuqIdeal (m : (ℓ : Loc Cert.AdMuqIdeal.nD Cert.AdMuqIdeal.τ Cert.AdMuqIdeal.sig) → Buf (Elt Ideal) ℓ) : Prop :=
  True

def Pre_AdMuqRefIdeal (m : (ℓ : Loc Cert.AdMuqRefIdeal.nD Cert.AdMuqRefIdeal.τ Cert.AdMuqRefIdeal.sig) → Buf (Elt Ideal) ℓ) : Prop :=
  True

def Pre_AdMukv (m : (ℓ : Loc Cert.AdMukv.nD Cert.AdMukv.τ Cert.AdMukv.sig) → Buf (Elt Bits) ℓ) : Prop :=
  True

def Pre_AdMukvIdeal (m : (ℓ : Loc Cert.AdMukvIdeal.nD Cert.AdMukvIdeal.τ Cert.AdMukvIdeal.sig) → Buf (Elt Ideal) ℓ) : Prop :=
  True

def Pre_AdMukvRefIdeal (m : (ℓ : Loc Cert.AdMukvRefIdeal.nD Cert.AdMukvRefIdeal.τ Cert.AdMukvRefIdeal.sig) → Buf (Elt Ideal) ℓ) : Prop :=
  True

def Pre_AdGin (m : (ℓ : Loc Cert.AdGin.nD Cert.AdGin.τ Cert.AdGin.sig) → Buf (Elt Bits) ℓ) : Prop :=
  True

def Pre_AdGinIdeal (m : (ℓ : Loc Cert.AdGinIdeal.nD Cert.AdGinIdeal.τ Cert.AdGinIdeal.sig) → Buf (Elt Ideal) ℓ) : Prop :=
  True

def Pre_AdGinRefIdeal (m : (ℓ : Loc Cert.AdGinRefIdeal.nD Cert.AdGinRefIdeal.τ Cert.AdGinRefIdeal.sig) → Buf (Elt Ideal) ℓ) : Prop :=
  True

def Pre_AdSin (m : (ℓ : Loc Cert.AdSin.nD Cert.AdSin.τ Cert.AdSin.sig) → Buf (Elt Bits) ℓ) : Prop :=
  True

def Pre_AdSinIdeal (m : (ℓ : Loc Cert.AdSinIdeal.nD Cert.AdSinIdeal.τ Cert.AdSinIdeal.sig) → Buf (Elt Ideal) ℓ) : Prop :=
  True

def Pre_AdSinRefIdeal (m : (ℓ : Loc Cert.AdSinRefIdeal.nD Cert.AdSinRefIdeal.τ Cert.AdSinRefIdeal.sig) → Buf (Elt Ideal) ℓ) : Prop :=
  True

def Pre_AdGo (m : (ℓ : Loc Cert.AdGo.nD Cert.AdGo.τ Cert.AdGo.sig) → Buf (Elt Bits) ℓ) : Prop :=
  True

def Pre_AdGoIdeal (m : (ℓ : Loc Cert.AdGoIdeal.nD Cert.AdGoIdeal.τ Cert.AdGoIdeal.sig) → Buf (Elt Ideal) ℓ) : Prop :=
  True

def Pre_AdGoRefIdeal (m : (ℓ : Loc Cert.AdGoRefIdeal.nD Cert.AdGoRefIdeal.τ Cert.AdGoRefIdeal.sig) → Buf (Elt Ideal) ℓ) : Prop :=
  True

def Pre_AdSo (m : (ℓ : Loc Cert.AdSo.nD Cert.AdSo.τ Cert.AdSo.sig) → Buf (Elt Bits) ℓ) : Prop :=
  True

def Pre_AdSoIdeal (m : (ℓ : Loc Cert.AdSoIdeal.nD Cert.AdSoIdeal.τ Cert.AdSoIdeal.sig) → Buf (Elt Ideal) ℓ) : Prop :=
  True

def Pre_AdSoRefIdeal (m : (ℓ : Loc Cert.AdSoRefIdeal.nD Cert.AdSoRefIdeal.τ Cert.AdSoRefIdeal.sig) → Buf (Elt Ideal) ℓ) : Prop :=
  True

def Pre_AdFi (m : (ℓ : Loc Cert.AdFi.nD Cert.AdFi.τ Cert.AdFi.sig) → Buf (Elt Bits) ℓ) : Prop :=
  True

def Pre_AdFiIdeal (m : (ℓ : Loc Cert.AdFiIdeal.nD Cert.AdFiIdeal.τ Cert.AdFiIdeal.sig) → Buf (Elt Ideal) ℓ) : Prop :=
  True

def Pre_AdFiRefIdeal (m : (ℓ : Loc Cert.AdFiRefIdeal.nD Cert.AdFiRefIdeal.τ Cert.AdFiRefIdeal.sig) → Buf (Elt Ideal) ℓ) : Prop :=
  True

def Pre_AdFo (m : (ℓ : Loc Cert.AdFo.nD Cert.AdFo.τ Cert.AdFo.sig) → Buf (Elt Bits) ℓ) : Prop :=
  True

def Pre_AdFoIdeal (m : (ℓ : Loc Cert.AdFoIdeal.nD Cert.AdFoIdeal.τ Cert.AdFoIdeal.sig) → Buf (Elt Ideal) ℓ) : Prop :=
  True

def Pre_AdFoRefIdeal (m : (ℓ : Loc Cert.AdFoRefIdeal.nD Cert.AdFoRefIdeal.τ Cert.AdFoRefIdeal.sig) → Buf (Elt Ideal) ℓ) : Prop :=
  True

def Pre_AdXq (m : (ℓ : Loc Cert.AdXq.nD Cert.AdXq.τ Cert.AdXq.sig) → Buf (Elt Bits) ℓ) : Prop :=
  True

def Pre_AdXqIdeal (m : (ℓ : Loc Cert.AdXqIdeal.nD Cert.AdXqIdeal.τ Cert.AdXqIdeal.sig) → Buf (Elt Ideal) ℓ) : Prop :=
  True

def Pre_AdXqRefIdeal (m : (ℓ : Loc Cert.AdXqRefIdeal.nD Cert.AdXqRefIdeal.τ Cert.AdXqRefIdeal.sig) → Buf (Elt Ideal) ℓ) : Prop :=
  True

def Pre_AdXo (m : (ℓ : Loc Cert.AdXo.nD Cert.AdXo.τ Cert.AdXo.sig) → Buf (Elt Bits) ℓ) : Prop :=
  True

def Pre_AdXoIdeal (m : (ℓ : Loc Cert.AdXoIdeal.nD Cert.AdXoIdeal.τ Cert.AdXoIdeal.sig) → Buf (Elt Ideal) ℓ) : Prop :=
  True

def Pre_AdXoRefIdeal (m : (ℓ : Loc Cert.AdXoRefIdeal.nD Cert.AdXoRefIdeal.τ Cert.AdXoRefIdeal.sig) → Buf (Elt Ideal) ℓ) : Prop :=
  True

def Pre_AdXkv (m : (ℓ : Loc Cert.AdXkv.nD Cert.AdXkv.τ Cert.AdXkv.sig) → Buf (Elt Bits) ℓ) : Prop :=
  True

def Pre_AdXkvIdeal (m : (ℓ : Loc Cert.AdXkvIdeal.nD Cert.AdXkvIdeal.τ Cert.AdXkvIdeal.sig) → Buf (Elt Ideal) ℓ) : Prop :=
  True

def Pre_AdXkvRefIdeal (m : (ℓ : Loc Cert.AdXkvRefIdeal.nD Cert.AdXkvRefIdeal.τ Cert.AdXkvRefIdeal.sig) → Buf (Elt Ideal) ℓ) : Prop :=
  True

def Pre_AdMo (m : (ℓ : Loc Cert.AdMo.nD Cert.AdMo.τ Cert.AdMo.sig) → Buf (Elt Bits) ℓ) : Prop :=
  True

def Pre_AdMoIdeal (m : (ℓ : Loc Cert.AdMoIdeal.nD Cert.AdMoIdeal.τ Cert.AdMoIdeal.sig) → Buf (Elt Ideal) ℓ) : Prop :=
  True

def Pre_AdMoRefIdeal (m : (ℓ : Loc Cert.AdMoRefIdeal.nD Cert.AdMoRefIdeal.τ Cert.AdMoRefIdeal.sig) → Buf (Elt Ideal) ℓ) : Prop :=
  True

def quiescent_Sc [hSc : Cert.Sc.Facts] : Prop :=
  ∀ (m : (ℓ : Loc Cert.Sc.nD Cert.Sc.τ Cert.Sc.sig) → Buf (Elt Bits) ℓ) (g : Dev Cert.Sc.nD → PrngReg), Pre_Sc m →
    θ_run (Cert.Sc.defs (F := Bits)) (onTc (τ := Cert.Sc.τ) (Cert.Sc.main (F := Bits))) ⟨m, fun _ => 0, g⟩ (fun r => (∀ c : Dev Cert.Sc.nD,
      r.2.mem ((c.tc : Thread Cert.Sc.nD Cert.Sc.τ).loc Cert.Sc.main_arg0) = m ((c.tc : Thread Cert.Sc.nD Cert.Sc.τ).loc Cert.Sc.main_arg0)
      ∧ r.2.mem ((c.tc : Thread Cert.Sc.nD Cert.Sc.τ).loc Cert.Sc.main_arg1) = m ((c.tc : Thread Cert.Sc.nD Cert.Sc.τ).loc Cert.Sc.main_arg1)
      ∧ r.2.mem ((c.tc : Thread Cert.Sc.nD Cert.Sc.τ).loc Cert.Sc.main_arg2) = m ((c.tc : Thread Cert.Sc.nD Cert.Sc.τ).loc Cert.Sc.main_arg2))
      ∧ r.2.sem = fun _ => 0)

def quiescent_ScIdeal [hScIdeal : Cert.ScIdeal.Facts] : Prop :=
  ∀ (m : (ℓ : Loc Cert.ScIdeal.nD Cert.ScIdeal.τ Cert.ScIdeal.sig) → Buf (Elt Ideal) ℓ) (g : Dev Cert.ScIdeal.nD → PrngReg), Pre_ScIdeal m →
    θ_run (Cert.ScIdeal.defs (F := Ideal)) (onTc (τ := Cert.ScIdeal.τ) (Cert.ScIdeal.main (F := Ideal))) ⟨m, fun _ => 0, g⟩ (fun r => (∀ c : Dev Cert.ScIdeal.nD,
      r.2.mem ((c.tc : Thread Cert.ScIdeal.nD Cert.ScIdeal.τ).loc Cert.ScIdeal.main_arg0) = m ((c.tc : Thread Cert.ScIdeal.nD Cert.ScIdeal.τ).loc Cert.ScIdeal.main_arg0)
      ∧ r.2.mem ((c.tc : Thread Cert.ScIdeal.nD Cert.ScIdeal.τ).loc Cert.ScIdeal.main_arg1) = m ((c.tc : Thread Cert.ScIdeal.nD Cert.ScIdeal.τ).loc Cert.ScIdeal.main_arg1)
      ∧ r.2.mem ((c.tc : Thread Cert.ScIdeal.nD Cert.ScIdeal.τ).loc Cert.ScIdeal.main_arg2) = m ((c.tc : Thread Cert.ScIdeal.nD Cert.ScIdeal.τ).loc Cert.ScIdeal.main_arg2))
      ∧ r.2.sem = fun _ => 0)

def quiescent_ScRefIdeal [hScRefIdeal : Cert.ScRefIdeal.Facts] : Prop :=
  ∀ (m : (ℓ : Loc Cert.ScRefIdeal.nD Cert.ScRefIdeal.τ Cert.ScRefIdeal.sig) → Buf (Elt Ideal) ℓ) (g : Dev Cert.ScRefIdeal.nD → PrngReg), Pre_ScRefIdeal m →
    θ_run (Cert.ScRefIdeal.defs (F := Ideal)) (onTc (τ := Cert.ScRefIdeal.τ) (Cert.ScRefIdeal.main (F := Ideal))) ⟨m, fun _ => 0, g⟩ (fun r => (∀ c : Dev Cert.ScRefIdeal.nD,
      r.2.mem ((c.tc : Thread Cert.ScRefIdeal.nD Cert.ScRefIdeal.τ).loc Cert.ScRefIdeal.main_arg0) = m ((c.tc : Thread Cert.ScRefIdeal.nD Cert.ScRefIdeal.τ).loc Cert.ScRefIdeal.main_arg0)
      ∧ r.2.mem ((c.tc : Thread Cert.ScRefIdeal.nD Cert.ScRefIdeal.τ).loc Cert.ScRefIdeal.main_arg1) = m ((c.tc : Thread Cert.ScRefIdeal.nD Cert.ScRefIdeal.τ).loc Cert.ScRefIdeal.main_arg1)
      ∧ r.2.mem ((c.tc : Thread Cert.ScRefIdeal.nD Cert.ScRefIdeal.τ).loc Cert.ScRefIdeal.main_arg2) = m ((c.tc : Thread Cert.ScRefIdeal.nD Cert.ScRefIdeal.τ).loc Cert.ScRefIdeal.main_arg2))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1)
      ∧ r.2.mem ((c.tc : Thread Cert.Dwo.nD Cert.Dwo.τ).loc Cert.Dwo.main_arg2) = m ((c.tc : Thread Cert.Dwo.nD Cert.Dwo.τ).loc Cert.Dwo.main_arg2))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1)
      ∧ r.2.mem ((c.tc : Thread Cert.DwoIdeal.nD Cert.DwoIdeal.τ).loc Cert.DwoIdeal.main_arg2) = m ((c.tc : Thread Cert.DwoIdeal.nD Cert.DwoIdeal.τ).loc Cert.DwoIdeal.main_arg2))
      ∧ r.2.sem = fun _ => 0)

def quiescent_DwoRefIdeal [hDwoRefIdeal : Cert.DwoRefIdeal.Facts] : Prop :=
  ∀ (m : (ℓ : Loc Cert.DwoRefIdeal.nD Cert.DwoRefIdeal.τ Cert.DwoRefIdeal.sig) → Buf (Elt Ideal) ℓ) (g : Dev Cert.DwoRefIdeal.nD → PrngReg), Pre_DwoRefIdeal m →
    θ_run (Cert.DwoRefIdeal.defs (F := Ideal)) (onTc (τ := Cert.DwoRefIdeal.τ) (Cert.DwoRefIdeal.main (F := Ideal))) ⟨m, fun _ => 0, g⟩ (fun r => (∀ c : Dev Cert.DwoRefIdeal.nD,
      r.2.mem ((c.tc : Thread Cert.DwoRefIdeal.nD Cert.DwoRefIdeal.τ).loc Cert.DwoRefIdeal.main_arg0) = m ((c.tc : Thread Cert.DwoRefIdeal.nD Cert.DwoRefIdeal.τ).loc Cert.DwoRefIdeal.main_arg0)
      ∧ r.2.mem ((c.tc : Thread Cert.DwoRefIdeal.nD Cert.DwoRefIdeal.τ).loc Cert.DwoRefIdeal.main_arg1) = m ((c.tc : Thread Cert.DwoRefIdeal.nD Cert.DwoRefIdeal.τ).loc Cert.DwoRefIdeal.main_arg1)
      ∧ r.2.mem ((c.tc : Thread Cert.DwoRefIdeal.nD Cert.DwoRefIdeal.τ).loc Cert.DwoRefIdeal.main_arg2) = m ((c.tc : Thread Cert.DwoRefIdeal.nD Cert.DwoRefIdeal.τ).loc Cert.DwoRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2))
      ∧ r.2.sem = fun _ => 0)

def quiescent_Dwi [hDwi : Cert.Dwi.Facts] : Prop :=
  ∀ (m : (ℓ : Loc Cert.Dwi.nD Cert.Dwi.τ Cert.Dwi.sig) → Buf (Elt Bits) ℓ) (g : Dev Cert.Dwi.nD → PrngReg), Pre_Dwi m →
    θ_run (Cert.Dwi.defs (F := Bits)) (onTc (τ := Cert.Dwi.τ) (Cert.Dwi.main (F := Bits))) ⟨m, fun _ => 0, g⟩ (fun r => (∀ c : Dev Cert.Dwi.nD,
      r.2.mem ((c.tc : Thread Cert.Dwi.nD Cert.Dwi.τ).loc Cert.Dwi.main_arg0) = m ((c.tc : Thread Cert.Dwi.nD Cert.Dwi.τ).loc Cert.Dwi.main_arg0)
      ∧ r.2.mem ((c.tc : Thread Cert.Dwi.nD Cert.Dwi.τ).loc Cert.Dwi.main_arg1) = m ((c.tc : Thread Cert.Dwi.nD Cert.Dwi.τ).loc Cert.Dwi.main_arg1)
      ∧ r.2.mem ((c.tc : Thread Cert.Dwi.nD Cert.Dwi.τ).loc Cert.Dwi.main_arg2) = m ((c.tc : Thread Cert.Dwi.nD Cert.Dwi.τ).loc Cert.Dwi.main_arg2))
      ∧ r.2.sem = fun _ => 0)

def quiescent_DwiIdeal [hDwiIdeal : Cert.DwiIdeal.Facts] : Prop :=
  ∀ (m : (ℓ : Loc Cert.DwiIdeal.nD Cert.DwiIdeal.τ Cert.DwiIdeal.sig) → Buf (Elt Ideal) ℓ) (g : Dev Cert.DwiIdeal.nD → PrngReg), Pre_DwiIdeal m →
    θ_run (Cert.DwiIdeal.defs (F := Ideal)) (onTc (τ := Cert.DwiIdeal.τ) (Cert.DwiIdeal.main (F := Ideal))) ⟨m, fun _ => 0, g⟩ (fun r => (∀ c : Dev Cert.DwiIdeal.nD,
      r.2.mem ((c.tc : Thread Cert.DwiIdeal.nD Cert.DwiIdeal.τ).loc Cert.DwiIdeal.main_arg0) = m ((c.tc : Thread Cert.DwiIdeal.nD Cert.DwiIdeal.τ).loc Cert.DwiIdeal.main_arg0)
      ∧ r.2.mem ((c.tc : Thread Cert.DwiIdeal.nD Cert.DwiIdeal.τ).loc Cert.DwiIdeal.main_arg1) = m ((c.tc : Thread Cert.DwiIdeal.nD Cert.DwiIdeal.τ).loc Cert.DwiIdeal.main_arg1)
      ∧ r.2.mem ((c.tc : Thread Cert.DwiIdeal.nD Cert.DwiIdeal.τ).loc Cert.DwiIdeal.main_arg2) = m ((c.tc : Thread Cert.DwiIdeal.nD Cert.DwiIdeal.τ).loc Cert.DwiIdeal.main_arg2))
      ∧ r.2.sem = fun _ => 0)

def quiescent_DwiRefIdeal [hDwiRefIdeal : Cert.DwiRefIdeal.Facts] : Prop :=
  ∀ (m : (ℓ : Loc Cert.DwiRefIdeal.nD Cert.DwiRefIdeal.τ Cert.DwiRefIdeal.sig) → Buf (Elt Ideal) ℓ) (g : Dev Cert.DwiRefIdeal.nD → PrngReg), Pre_DwiRefIdeal m →
    θ_run (Cert.DwiRefIdeal.defs (F := Ideal)) (onTc (τ := Cert.DwiRefIdeal.τ) (Cert.DwiRefIdeal.main (F := Ideal))) ⟨m, fun _ => 0, g⟩ (fun r => (∀ c : Dev Cert.DwiRefIdeal.nD,
      r.2.mem ((c.tc : Thread Cert.DwiRefIdeal.nD Cert.DwiRefIdeal.τ).loc Cert.DwiRefIdeal.main_arg0) = m ((c.tc : Thread Cert.DwiRefIdeal.nD Cert.DwiRefIdeal.τ).loc Cert.DwiRefIdeal.main_arg0)
      ∧ r.2.mem ((c.tc : Thread Cert.DwiRefIdeal.nD Cert.DwiRefIdeal.τ).loc Cert.DwiRefIdeal.main_arg1) = m ((c.tc : Thread Cert.DwiRefIdeal.nD Cert.DwiRefIdeal.τ).loc Cert.DwiRefIdeal.main_arg1)
      ∧ r.2.mem ((c.tc : Thread Cert.DwiRefIdeal.nD Cert.DwiRefIdeal.τ).loc Cert.DwiRefIdeal.main_arg2) = m ((c.tc : Thread Cert.DwiRefIdeal.nD Cert.DwiRefIdeal.τ).loc Cert.DwiRefIdeal.main_arg2))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1)
      ∧ r.2.mem ((c.tc : Thread Cert.Dn.nD Cert.Dn.τ).loc Cert.Dn.main_arg2) = m ((c.tc : Thread Cert.Dn.nD Cert.Dn.τ).loc Cert.Dn.main_arg2)
      ∧ r.2.mem ((c.tc : Thread Cert.Dn.nD Cert.Dn.τ).loc Cert.Dn.main_arg3) = m ((c.tc : Thread Cert.Dn.nD Cert.Dn.τ).loc Cert.Dn.main_arg3)
      ∧ r.2.mem ((c.tc : Thread Cert.Dn.nD Cert.Dn.τ).loc Cert.Dn.main_arg4) = m ((c.tc : Thread Cert.Dn.nD Cert.Dn.τ).loc Cert.Dn.main_arg4))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
      ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
      ∧ r.2.mem ((c.tc : Thread Cert.DnIdeal.nD Cert.DnIdeal.τ).loc Cert.DnIdeal.main_arg3) = m ((c.tc : Thread Cert.DnIdeal.nD Cert.DnIdeal.τ).loc Cert.DnIdeal.main_arg3)
      ∧ r.2.mem ((c.tc : Thread Cert.DnIdeal.nD Cert.DnIdeal.τ).loc Cert.DnIdeal.main_arg4) = m ((c.tc : Thread Cert.DnIdeal.nD Cert.DnIdeal.τ).loc Cert.DnIdeal.main_arg4))
      ∧ r.2.sem = fun _ => 0)

def quiescent_DnRefIdeal [hDnRefIdeal : Cert.DnRefIdeal.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1)
      ∧ r.2.mem ((c.tc : Thread Cert.DnRefIdeal.nD Cert.DnRefIdeal.τ).loc Cert.DnRefIdeal.main_arg2) = m ((c.tc : Thread Cert.DnRefIdeal.nD Cert.DnRefIdeal.τ).loc Cert.DnRefIdeal.main_arg2)
      ∧ r.2.mem ((c.tc : Thread Cert.DnRefIdeal.nD Cert.DnRefIdeal.τ).loc Cert.DnRefIdeal.main_arg3) = m ((c.tc : Thread Cert.DnRefIdeal.nD Cert.DnRefIdeal.τ).loc Cert.DnRefIdeal.main_arg3)
      ∧ r.2.mem ((c.tc : Thread Cert.DnRefIdeal.nD Cert.DnRefIdeal.τ).loc Cert.DnRefIdeal.main_arg4) = m ((c.tc : Thread Cert.DnRefIdeal.nD Cert.DnRefIdeal.τ).loc Cert.DnRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_Xa [hXa : Cert.Xa.Facts] : Prop :=
  ∀ (m : (ℓ : Loc Cert.Xa.nD Cert.Xa.τ Cert.Xa.sig) → Buf (Elt Bits) ℓ) (g : Dev Cert.Xa.nD → PrngReg), Pre_Xa m →
    θ_run (Cert.Xa.defs (F := Bits)) (onTc (τ := Cert.Xa.τ) (Cert.Xa.main (F := Bits))) ⟨m, fun _ => 0, g⟩ (fun r => (∀ c : Dev Cert.Xa.nD,
      r.2.mem ((c.tc : Thread Cert.Xa.nD Cert.Xa.τ).loc Cert.Xa.main_arg0) = m ((c.tc : Thread Cert.Xa.nD Cert.Xa.τ).loc Cert.Xa.main_arg0)
      ∧ r.2.mem ((c.tc : Thread Cert.Xa.nD Cert.Xa.τ).loc Cert.Xa.main_arg1) = m ((c.tc : Thread Cert.Xa.nD Cert.Xa.τ).loc Cert.Xa.main_arg1)
      ∧ r.2.mem ((c.tc : Thread Cert.Xa.nD Cert.Xa.τ).loc Cert.Xa.main_arg2) = m ((c.tc : Thread Cert.Xa.nD Cert.Xa.τ).loc Cert.Xa.main_arg2))
      ∧ r.2.sem = fun _ => 0)

def quiescent_XaIdeal [hXaIdeal : Cert.XaIdeal.Facts] : Prop :=
  ∀ (m : (ℓ : Loc Cert.XaIdeal.nD Cert.XaIdeal.τ Cert.XaIdeal.sig) → Buf (Elt Ideal) ℓ) (g : Dev Cert.XaIdeal.nD → PrngReg), Pre_XaIdeal m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2))
      ∧ r.2.sem = fun _ => 0)

def quiescent_XaIdeal_pre_xa_finite [hXaIdeal : Cert.XaIdeal.Facts] [hPre_xa_finite : Cert.Pre_xa_finite.Facts] : Prop :=
  ∀ (m : (ℓ : Loc Cert.XaIdeal.nD Cert.XaIdeal.τ Cert.XaIdeal.sig) → Buf (Elt Ideal) ℓ) (g : Dev Cert.XaIdeal.nD → PrngReg), Pre_XaIdeal_xa_finite m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2))
      ∧ r.2.sem = fun _ => 0)

def quiescent_XaRefIdeal [hXaRefIdeal : Cert.XaRefIdeal.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2))
      ∧ r.2.sem = fun _ => 0)

def quiescent_XaRefIdeal_pre_xa_finite [hXaRefIdeal : Cert.XaRefIdeal.Facts] [hPre_xa_finite : Cert.Pre_xa_finite.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal_xa_finite m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2))
      ∧ r.2.sem = fun _ => 0)

def quiescent_AdMin [hAdMin : Cert.AdMin.Facts] : Prop :=
  ∀ (m : (ℓ : Loc Cert.AdMin.nD Cert.AdMin.τ Cert.AdMin.sig) → Buf (Elt Bits) ℓ) (g : Dev Cert.AdMin.nD → PrngReg), Pre_AdMin m →
    θ_run (Cert.AdMin.defs (F := Bits)) (onTc (τ := Cert.AdMin.τ) (Cert.AdMin.main (F := Bits))) ⟨m, fun _ => 0, g⟩ (fun r => (∀ c : Dev Cert.AdMin.nD,
      r.2.mem ((c.tc : Thread Cert.AdMin.nD Cert.AdMin.τ).loc Cert.AdMin.main_arg0) = m ((c.tc : Thread Cert.AdMin.nD Cert.AdMin.τ).loc Cert.AdMin.main_arg0)
      ∧ r.2.mem ((c.tc : Thread Cert.AdMin.nD Cert.AdMin.τ).loc Cert.AdMin.main_arg1) = m ((c.tc : Thread Cert.AdMin.nD Cert.AdMin.τ).loc Cert.AdMin.main_arg1)
      ∧ r.2.mem ((c.tc : Thread Cert.AdMin.nD Cert.AdMin.τ).loc Cert.AdMin.main_arg2) = m ((c.tc : Thread Cert.AdMin.nD Cert.AdMin.τ).loc Cert.AdMin.main_arg2)
      ∧ r.2.mem ((c.tc : Thread Cert.AdMin.nD Cert.AdMin.τ).loc Cert.AdMin.main_arg3) = m ((c.tc : Thread Cert.AdMin.nD Cert.AdMin.τ).loc Cert.AdMin.main_arg3))
      ∧ r.2.sem = fun _ => 0)

def quiescent_AdMinIdeal [hAdMinIdeal : Cert.AdMinIdeal.Facts] : Prop :=
  ∀ (m : (ℓ : Loc Cert.AdMinIdeal.nD Cert.AdMinIdeal.τ Cert.AdMinIdeal.sig) → Buf (Elt Ideal) ℓ) (g : Dev Cert.AdMinIdeal.nD → PrngReg), Pre_AdMinIdeal m →
    θ_run (Cert.AdMinIdeal.defs (F := Ideal)) (onTc (τ := Cert.AdMinIdeal.τ) (Cert.AdMinIdeal.main (F := Ideal))) ⟨m, fun _ => 0, g⟩ (fun r => (∀ c : Dev Cert.AdMinIdeal.nD,
      r.2.mem ((c.tc : Thread Cert.AdMinIdeal.nD Cert.AdMinIdeal.τ).loc Cert.AdMinIdeal.main_arg0) = m ((c.tc : Thread Cert.AdMinIdeal.nD Cert.AdMinIdeal.τ).loc Cert.AdMinIdeal.main_arg0)
      ∧ r.2.mem ((c.tc : Thread Cert.AdMinIdeal.nD Cert.AdMinIdeal.τ).loc Cert.AdMinIdeal.main_arg1) = m ((c.tc : Thread Cert.AdMinIdeal.nD Cert.AdMinIdeal.τ).loc Cert.AdMinIdeal.main_arg1)
      ∧ r.2.mem ((c.tc : Thread Cert.AdMinIdeal.nD Cert.AdMinIdeal.τ).loc Cert.AdMinIdeal.main_arg2) = m ((c.tc : Thread Cert.AdMinIdeal.nD Cert.AdMinIdeal.τ).loc Cert.AdMinIdeal.main_arg2)
      ∧ r.2.mem ((c.tc : Thread Cert.AdMinIdeal.nD Cert.AdMinIdeal.τ).loc Cert.AdMinIdeal.main_arg3) = m ((c.tc : Thread Cert.AdMinIdeal.nD Cert.AdMinIdeal.τ).loc Cert.AdMinIdeal.main_arg3))
      ∧ r.2.sem = fun _ => 0)

def quiescent_AdMinRefIdeal [hAdMinRefIdeal : Cert.AdMinRefIdeal.Facts] : Prop :=
  ∀ (m : (ℓ : Loc Cert.AdMinRefIdeal.nD Cert.AdMinRefIdeal.τ Cert.AdMinRefIdeal.sig) → Buf (Elt Ideal) ℓ) (g : Dev Cert.AdMinRefIdeal.nD → PrngReg), Pre_AdMinRefIdeal m →
    θ_run (Cert.AdMinRefIdeal.defs (F := Ideal)) (onTc (τ := Cert.AdMinRefIdeal.τ) (Cert.AdMinRefIdeal.main (F := Ideal))) ⟨m, fun _ => 0, g⟩ (fun r => (∀ c : Dev Cert.AdMinRefIdeal.nD,
      r.2.mem ((c.tc : Thread Cert.AdMinRefIdeal.nD Cert.AdMinRefIdeal.τ).loc Cert.AdMinRefIdeal.main_arg0) = m ((c.tc : Thread Cert.AdMinRefIdeal.nD Cert.AdMinRefIdeal.τ).loc Cert.AdMinRefIdeal.main_arg0)
      ∧ r.2.mem ((c.tc : Thread Cert.AdMinRefIdeal.nD Cert.AdMinRefIdeal.τ).loc Cert.AdMinRefIdeal.main_arg1) = m ((c.tc : Thread Cert.AdMinRefIdeal.nD Cert.AdMinRefIdeal.τ).loc Cert.AdMinRefIdeal.main_arg1)
      ∧ r.2.mem ((c.tc : Thread Cert.AdMinRefIdeal.nD Cert.AdMinRefIdeal.τ).loc Cert.AdMinRefIdeal.main_arg2) = m ((c.tc : Thread Cert.AdMinRefIdeal.nD Cert.AdMinRefIdeal.τ).loc Cert.AdMinRefIdeal.main_arg2)
      ∧ r.2.mem ((c.tc : Thread Cert.AdMinRefIdeal.nD Cert.AdMinRefIdeal.τ).loc Cert.AdMinRefIdeal.main_arg3) = m ((c.tc : Thread Cert.AdMinRefIdeal.nD Cert.AdMinRefIdeal.τ).loc Cert.AdMinRefIdeal.main_arg3))
      ∧ r.2.sem = fun _ => 0)

def quiescent_AdMuq [hAdMuq : Cert.AdMuq.Facts] : Prop :=
  ∀ (m : (ℓ : Loc Cert.AdMuq.nD Cert.AdMuq.τ Cert.AdMuq.sig) → Buf (Elt Bits) ℓ) (g : Dev Cert.AdMuq.nD → PrngReg), Pre_AdMuq m →
    θ_run (Cert.AdMuq.defs (F := Bits)) (onTc (τ := Cert.AdMuq.τ) (Cert.AdMuq.main (F := Bits))) ⟨m, fun _ => 0, g⟩ (fun r => (∀ c : Dev Cert.AdMuq.nD,
      r.2.mem ((c.tc : Thread Cert.AdMuq.nD Cert.AdMuq.τ).loc Cert.AdMuq.main_arg0) = m ((c.tc : Thread Cert.AdMuq.nD Cert.AdMuq.τ).loc Cert.AdMuq.main_arg0)
      ∧ r.2.mem ((c.tc : Thread Cert.AdMuq.nD Cert.AdMuq.τ).loc Cert.AdMuq.main_arg1) = m ((c.tc : Thread Cert.AdMuq.nD Cert.AdMuq.τ).loc Cert.AdMuq.main_arg1)
      ∧ r.2.mem ((c.tc : Thread Cert.AdMuq.nD Cert.AdMuq.τ).loc Cert.AdMuq.main_arg2) = m ((c.tc : Thread Cert.AdMuq.nD Cert.AdMuq.τ).loc Cert.AdMuq.main_arg2)
      ∧ r.2.mem ((c.tc : Thread Cert.AdMuq.nD Cert.AdMuq.τ).loc Cert.AdMuq.main_arg3) = m ((c.tc : Thread Cert.AdMuq.nD Cert.AdMuq.τ).loc Cert.AdMuq.main_arg3))
      ∧ r.2.sem = fun _ => 0)

def quiescent_AdMuqIdeal [hAdMuqIdeal : Cert.AdMuqIdeal.Facts] : Prop :=
  ∀ (m : (ℓ : Loc Cert.AdMuqIdeal.nD Cert.AdMuqIdeal.τ Cert.AdMuqIdeal.sig) → Buf (Elt Ideal) ℓ) (g : Dev Cert.AdMuqIdeal.nD → PrngReg), Pre_AdMuqIdeal m →
    θ_run (Cert.AdMuqIdeal.defs (F := Ideal)) (onTc (τ := Cert.AdMuqIdeal.τ) (Cert.AdMuqIdeal.main (F := Ideal))) ⟨m, fun _ => 0, g⟩ (fun r => (∀ c : Dev Cert.AdMuqIdeal.nD,
      r.2.mem ((c.tc : Thread Cert.AdMuqIdeal.nD Cert.AdMuqIdeal.τ).loc Cert.AdMuqIdeal.main_arg0) = m ((c.tc : Thread Cert.AdMuqIdeal.nD Cert.AdMuqIdeal.τ).loc Cert.AdMuqIdeal.main_arg0)
      ∧ r.2.mem ((c.tc : Thread Cert.AdMuqIdeal.nD Cert.AdMuqIdeal.τ).loc Cert.AdMuqIdeal.main_arg1) = m ((c.tc : Thread Cert.AdMuqIdeal.nD Cert.AdMuqIdeal.τ).loc Cert.AdMuqIdeal.main_arg1)
      ∧ r.2.mem ((c.tc : Thread Cert.AdMuqIdeal.nD Cert.AdMuqIdeal.τ).loc Cert.AdMuqIdeal.main_arg2) = m ((c.tc : Thread Cert.AdMuqIdeal.nD Cert.AdMuqIdeal.τ).loc Cert.AdMuqIdeal.main_arg2)
      ∧ r.2.mem ((c.tc : Thread Cert.AdMuqIdeal.nD Cert.AdMuqIdeal.τ).loc Cert.AdMuqIdeal.main_arg3) = m ((c.tc : Thread Cert.AdMuqIdeal.nD Cert.AdMuqIdeal.τ).loc Cert.AdMuqIdeal.main_arg3))
      ∧ r.2.sem = fun _ => 0)

def quiescent_AdMuqRefIdeal [hAdMuqRefIdeal : Cert.AdMuqRefIdeal.Facts] : Prop :=
  ∀ (m : (ℓ : Loc Cert.AdMuqRefIdeal.nD Cert.AdMuqRefIdeal.τ Cert.AdMuqRefIdeal.sig) → Buf (Elt Ideal) ℓ) (g : Dev Cert.AdMuqRefIdeal.nD → PrngReg), Pre_AdMuqRefIdeal m →
    θ_run (Cert.AdMuqRefIdeal.defs (F := Ideal)) (onTc (τ := Cert.AdMuqRefIdeal.τ) (Cert.AdMuqRefIdeal.main (F := Ideal))) ⟨m, fun _ => 0, g⟩ (fun r => (∀ c : Dev Cert.AdMuqRefIdeal.nD,
      r.2.mem ((c.tc : Thread Cert.AdMuqRefIdeal.nD Cert.AdMuqRefIdeal.τ).loc Cert.AdMuqRefIdeal.main_arg0) = m ((c.tc : Thread Cert.AdMuqRefIdeal.nD Cert.AdMuqRefIdeal.τ).loc Cert.AdMuqRefIdeal.main_arg0)
      ∧ r.2.mem ((c.tc : Thread Cert.AdMuqRefIdeal.nD Cert.AdMuqRefIdeal.τ).loc Cert.AdMuqRefIdeal.main_arg1) = m ((c.tc : Thread Cert.AdMuqRefIdeal.nD Cert.AdMuqRefIdeal.τ).loc Cert.AdMuqRefIdeal.main_arg1)
      ∧ r.2.mem ((c.tc : Thread Cert.AdMuqRefIdeal.nD Cert.AdMuqRefIdeal.τ).loc Cert.AdMuqRefIdeal.main_arg2) = m ((c.tc : Thread Cert.AdMuqRefIdeal.nD Cert.AdMuqRefIdeal.τ).loc Cert.AdMuqRefIdeal.main_arg2)
      ∧ r.2.mem ((c.tc : Thread Cert.AdMuqRefIdeal.nD Cert.AdMuqRefIdeal.τ).loc Cert.AdMuqRefIdeal.main_arg3) = m ((c.tc : Thread Cert.AdMuqRefIdeal.nD Cert.AdMuqRefIdeal.τ).loc Cert.AdMuqRefIdeal.main_arg3))
      ∧ r.2.sem = fun _ => 0)

def quiescent_AdMukv [hAdMukv : Cert.AdMukv.Facts] : Prop :=
  ∀ (m : (ℓ : Loc Cert.AdMukv.nD Cert.AdMukv.τ Cert.AdMukv.sig) → Buf (Elt Bits) ℓ) (g : Dev Cert.AdMukv.nD → PrngReg), Pre_AdMukv m →
    θ_run (Cert.AdMukv.defs (F := Bits)) (onTc (τ := Cert.AdMukv.τ) (Cert.AdMukv.main (F := Bits))) ⟨m, fun _ => 0, g⟩ (fun r => (∀ c : Dev Cert.AdMukv.nD,
      r.2.mem ((c.tc : Thread Cert.AdMukv.nD Cert.AdMukv.τ).loc Cert.AdMukv.main_arg0) = m ((c.tc : Thread Cert.AdMukv.nD Cert.AdMukv.τ).loc Cert.AdMukv.main_arg0)
      ∧ r.2.mem ((c.tc : Thread Cert.AdMukv.nD Cert.AdMukv.τ).loc Cert.AdMukv.main_arg1) = m ((c.tc : Thread Cert.AdMukv.nD Cert.AdMukv.τ).loc Cert.AdMukv.main_arg1)
      ∧ r.2.mem ((c.tc : Thread Cert.AdMukv.nD Cert.AdMukv.τ).loc Cert.AdMukv.main_arg2) = m ((c.tc : Thread Cert.AdMukv.nD Cert.AdMukv.τ).loc Cert.AdMukv.main_arg2)
      ∧ r.2.mem ((c.tc : Thread Cert.AdMukv.nD Cert.AdMukv.τ).loc Cert.AdMukv.main_arg3) = m ((c.tc : Thread Cert.AdMukv.nD Cert.AdMukv.τ).loc Cert.AdMukv.main_arg3))
      ∧ r.2.sem = fun _ => 0)

def quiescent_AdMukvIdeal [hAdMukvIdeal : Cert.AdMukvIdeal.Facts] : Prop :=
  ∀ (m : (ℓ : Loc Cert.AdMukvIdeal.nD Cert.AdMukvIdeal.τ Cert.AdMukvIdeal.sig) → Buf (Elt Ideal) ℓ) (g : Dev Cert.AdMukvIdeal.nD → PrngReg), Pre_AdMukvIdeal m →
    θ_run (Cert.AdMukvIdeal.defs (F := Ideal)) (onTc (τ := Cert.AdMukvIdeal.τ) (Cert.AdMukvIdeal.main (F := Ideal))) ⟨m, fun _ => 0, g⟩ (fun r => (∀ c : Dev Cert.AdMukvIdeal.nD,
      r.2.mem ((c.tc : Thread Cert.AdMukvIdeal.nD Cert.AdMukvIdeal.τ).loc Cert.AdMukvIdeal.main_arg0) = m ((c.tc : Thread Cert.AdMukvIdeal.nD Cert.AdMukvIdeal.τ).loc Cert.AdMukvIdeal.main_arg0)
      ∧ r.2.mem ((c.tc : Thread Cert.AdMukvIdeal.nD Cert.AdMukvIdeal.τ).loc Cert.AdMukvIdeal.main_arg1) = m ((c.tc : Thread Cert.AdMukvIdeal.nD Cert.AdMukvIdeal.τ).loc Cert.AdMukvIdeal.main_arg1)
      ∧ r.2.mem ((c.tc : Thread Cert.AdMukvIdeal.nD Cert.AdMukvIdeal.τ).loc Cert.AdMukvIdeal.main_arg2) = m ((c.tc : Thread Cert.AdMukvIdeal.nD Cert.AdMukvIdeal.τ).loc Cert.AdMukvIdeal.main_arg2)
      ∧ r.2.mem ((c.tc : Thread Cert.AdMukvIdeal.nD Cert.AdMukvIdeal.τ).loc Cert.AdMukvIdeal.main_arg3) = m ((c.tc : Thread Cert.AdMukvIdeal.nD Cert.AdMukvIdeal.τ).loc Cert.AdMukvIdeal.main_arg3))
      ∧ r.2.sem = fun _ => 0)

def quiescent_AdMukvRefIdeal [hAdMukvRefIdeal : Cert.AdMukvRefIdeal.Facts] : Prop :=
  ∀ (m : (ℓ : Loc Cert.AdMukvRefIdeal.nD Cert.AdMukvRefIdeal.τ Cert.AdMukvRefIdeal.sig) → Buf (Elt Ideal) ℓ) (g : Dev Cert.AdMukvRefIdeal.nD → PrngReg), Pre_AdMukvRefIdeal m →
    θ_run (Cert.AdMukvRefIdeal.defs (F := Ideal)) (onTc (τ := Cert.AdMukvRefIdeal.τ) (Cert.AdMukvRefIdeal.main (F := Ideal))) ⟨m, fun _ => 0, g⟩ (fun r => (∀ c : Dev Cert.AdMukvRefIdeal.nD,
      r.2.mem ((c.tc : Thread Cert.AdMukvRefIdeal.nD Cert.AdMukvRefIdeal.τ).loc Cert.AdMukvRefIdeal.main_arg0) = m ((c.tc : Thread Cert.AdMukvRefIdeal.nD Cert.AdMukvRefIdeal.τ).loc Cert.AdMukvRefIdeal.main_arg0)
      ∧ r.2.mem ((c.tc : Thread Cert.AdMukvRefIdeal.nD Cert.AdMukvRefIdeal.τ).loc Cert.AdMukvRefIdeal.main_arg1) = m ((c.tc : Thread Cert.AdMukvRefIdeal.nD Cert.AdMukvRefIdeal.τ).loc Cert.AdMukvRefIdeal.main_arg1)
      ∧ r.2.mem ((c.tc : Thread Cert.AdMukvRefIdeal.nD Cert.AdMukvRefIdeal.τ).loc Cert.AdMukvRefIdeal.main_arg2) = m ((c.tc : Thread Cert.AdMukvRefIdeal.nD Cert.AdMukvRefIdeal.τ).loc Cert.AdMukvRefIdeal.main_arg2)
      ∧ r.2.mem ((c.tc : Thread Cert.AdMukvRefIdeal.nD Cert.AdMukvRefIdeal.τ).loc Cert.AdMukvRefIdeal.main_arg3) = m ((c.tc : Thread Cert.AdMukvRefIdeal.nD Cert.AdMukvRefIdeal.τ).loc Cert.AdMukvRefIdeal.main_arg3))
      ∧ r.2.sem = fun _ => 0)

def quiescent_AdGin [hAdGin : Cert.AdGin.Facts] : Prop :=
  ∀ (m : (ℓ : Loc Cert.AdGin.nD Cert.AdGin.τ Cert.AdGin.sig) → Buf (Elt Bits) ℓ) (g : Dev Cert.AdGin.nD → PrngReg), Pre_AdGin m →
    θ_run (Cert.AdGin.defs (F := Bits)) (onTc (τ := Cert.AdGin.τ) (Cert.AdGin.main (F := Bits))) ⟨m, fun _ => 0, g⟩ (fun r => (∀ c : Dev Cert.AdGin.nD,
      r.2.mem ((c.tc : Thread Cert.AdGin.nD Cert.AdGin.τ).loc Cert.AdGin.main_arg0) = m ((c.tc : Thread Cert.AdGin.nD Cert.AdGin.τ).loc Cert.AdGin.main_arg0)
      ∧ r.2.mem ((c.tc : Thread Cert.AdGin.nD Cert.AdGin.τ).loc Cert.AdGin.main_arg1) = m ((c.tc : Thread Cert.AdGin.nD Cert.AdGin.τ).loc Cert.AdGin.main_arg1)
      ∧ r.2.mem ((c.tc : Thread Cert.AdGin.nD Cert.AdGin.τ).loc Cert.AdGin.main_arg2) = m ((c.tc : Thread Cert.AdGin.nD Cert.AdGin.τ).loc Cert.AdGin.main_arg2)
      ∧ r.2.mem ((c.tc : Thread Cert.AdGin.nD Cert.AdGin.τ).loc Cert.AdGin.main_arg3) = m ((c.tc : Thread Cert.AdGin.nD Cert.AdGin.τ).loc Cert.AdGin.main_arg3))
      ∧ r.2.sem = fun _ => 0)

def quiescent_AdGinIdeal [hAdGinIdeal : Cert.AdGinIdeal.Facts] : Prop :=
  ∀ (m : (ℓ : Loc Cert.AdGinIdeal.nD Cert.AdGinIdeal.τ Cert.AdGinIdeal.sig) → Buf (Elt Ideal) ℓ) (g : Dev Cert.AdGinIdeal.nD → PrngReg), Pre_AdGinIdeal m →
    θ_run (Cert.AdGinIdeal.defs (F := Ideal)) (onTc (τ := Cert.AdGinIdeal.τ) (Cert.AdGinIdeal.main (F := Ideal))) ⟨m, fun _ => 0, g⟩ (fun r => (∀ c : Dev Cert.AdGinIdeal.nD,
      r.2.mem ((c.tc : Thread Cert.AdGinIdeal.nD Cert.AdGinIdeal.τ).loc Cert.AdGinIdeal.main_arg0) = m ((c.tc : Thread Cert.AdGinIdeal.nD Cert.AdGinIdeal.τ).loc Cert.AdGinIdeal.main_arg0)
      ∧ r.2.mem ((c.tc : Thread Cert.AdGinIdeal.nD Cert.AdGinIdeal.τ).loc Cert.AdGinIdeal.main_arg1) = m ((c.tc : Thread Cert.AdGinIdeal.nD Cert.AdGinIdeal.τ).loc Cert.AdGinIdeal.main_arg1)
      ∧ r.2.mem ((c.tc : Thread Cert.AdGinIdeal.nD Cert.AdGinIdeal.τ).loc Cert.AdGinIdeal.main_arg2) = m ((c.tc : Thread Cert.AdGinIdeal.nD Cert.AdGinIdeal.τ).loc Cert.AdGinIdeal.main_arg2)
      ∧ r.2.mem ((c.tc : Thread Cert.AdGinIdeal.nD Cert.AdGinIdeal.τ).loc Cert.AdGinIdeal.main_arg3) = m ((c.tc : Thread Cert.AdGinIdeal.nD Cert.AdGinIdeal.τ).loc Cert.AdGinIdeal.main_arg3))
      ∧ r.2.sem = fun _ => 0)

def quiescent_AdGinRefIdeal [hAdGinRefIdeal : Cert.AdGinRefIdeal.Facts] : Prop :=
  ∀ (m : (ℓ : Loc Cert.AdGinRefIdeal.nD Cert.AdGinRefIdeal.τ Cert.AdGinRefIdeal.sig) → Buf (Elt Ideal) ℓ) (g : Dev Cert.AdGinRefIdeal.nD → PrngReg), Pre_AdGinRefIdeal m →
    θ_run (Cert.AdGinRefIdeal.defs (F := Ideal)) (onTc (τ := Cert.AdGinRefIdeal.τ) (Cert.AdGinRefIdeal.main (F := Ideal))) ⟨m, fun _ => 0, g⟩ (fun r => (∀ c : Dev Cert.AdGinRefIdeal.nD,
      r.2.mem ((c.tc : Thread Cert.AdGinRefIdeal.nD Cert.AdGinRefIdeal.τ).loc Cert.AdGinRefIdeal.main_arg0) = m ((c.tc : Thread Cert.AdGinRefIdeal.nD Cert.AdGinRefIdeal.τ).loc Cert.AdGinRefIdeal.main_arg0)
      ∧ r.2.mem ((c.tc : Thread Cert.AdGinRefIdeal.nD Cert.AdGinRefIdeal.τ).loc Cert.AdGinRefIdeal.main_arg1) = m ((c.tc : Thread Cert.AdGinRefIdeal.nD Cert.AdGinRefIdeal.τ).loc Cert.AdGinRefIdeal.main_arg1)
      ∧ r.2.mem ((c.tc : Thread Cert.AdGinRefIdeal.nD Cert.AdGinRefIdeal.τ).loc Cert.AdGinRefIdeal.main_arg2) = m ((c.tc : Thread Cert.AdGinRefIdeal.nD Cert.AdGinRefIdeal.τ).loc Cert.AdGinRefIdeal.main_arg2)
      ∧ r.2.mem ((c.tc : Thread Cert.AdGinRefIdeal.nD Cert.AdGinRefIdeal.τ).loc Cert.AdGinRefIdeal.main_arg3) = m ((c.tc : Thread Cert.AdGinRefIdeal.nD Cert.AdGinRefIdeal.τ).loc Cert.AdGinRefIdeal.main_arg3))
      ∧ r.2.sem = fun _ => 0)

def quiescent_AdSin [hAdSin : Cert.AdSin.Facts] : Prop :=
  ∀ (m : (ℓ : Loc Cert.AdSin.nD Cert.AdSin.τ Cert.AdSin.sig) → Buf (Elt Bits) ℓ) (g : Dev Cert.AdSin.nD → PrngReg), Pre_AdSin m →
    θ_run (Cert.AdSin.defs (F := Bits)) (onTc (τ := Cert.AdSin.τ) (Cert.AdSin.main (F := Bits))) ⟨m, fun _ => 0, g⟩ (fun r => (∀ c : Dev Cert.AdSin.nD,
      r.2.mem ((c.tc : Thread Cert.AdSin.nD Cert.AdSin.τ).loc Cert.AdSin.main_arg0) = m ((c.tc : Thread Cert.AdSin.nD Cert.AdSin.τ).loc Cert.AdSin.main_arg0)
      ∧ r.2.mem ((c.tc : Thread Cert.AdSin.nD Cert.AdSin.τ).loc Cert.AdSin.main_arg1) = m ((c.tc : Thread Cert.AdSin.nD Cert.AdSin.τ).loc Cert.AdSin.main_arg1)
      ∧ r.2.mem ((c.tc : Thread Cert.AdSin.nD Cert.AdSin.τ).loc Cert.AdSin.main_arg2) = m ((c.tc : Thread Cert.AdSin.nD Cert.AdSin.τ).loc Cert.AdSin.main_arg2)
      ∧ r.2.mem ((c.tc : Thread Cert.AdSin.nD Cert.AdSin.τ).loc Cert.AdSin.main_arg3) = m ((c.tc : Thread Cert.AdSin.nD Cert.AdSin.τ).loc Cert.AdSin.main_arg3))
      ∧ r.2.sem = fun _ => 0)

def quiescent_AdSinIdeal [hAdSinIdeal : Cert.AdSinIdeal.Facts] : Prop :=
  ∀ (m : (ℓ : Loc Cert.AdSinIdeal.nD Cert.AdSinIdeal.τ Cert.AdSinIdeal.sig) → Buf (Elt Ideal) ℓ) (g : Dev Cert.AdSinIdeal.nD → PrngReg), Pre_AdSinIdeal m →
    θ_run (Cert.AdSinIdeal.defs (F := Ideal)) (onTc (τ := Cert.AdSinIdeal.τ) (Cert.AdSinIdeal.main (F := Ideal))) ⟨m, fun _ => 0, g⟩ (fun r => (∀ c : Dev Cert.AdSinIdeal.nD,
      r.2.mem ((c.tc : Thread Cert.AdSinIdeal.nD Cert.AdSinIdeal.τ).loc Cert.AdSinIdeal.main_arg0) = m ((c.tc : Thread Cert.AdSinIdeal.nD Cert.AdSinIdeal.τ).loc Cert.AdSinIdeal.main_arg0)
      ∧ r.2.mem ((c.tc : Thread Cert.AdSinIdeal.nD Cert.AdSinIdeal.τ).loc Cert.AdSinIdeal.main_arg1) = m ((c.tc : Thread Cert.AdSinIdeal.nD Cert.AdSinIdeal.τ).loc Cert.AdSinIdeal.main_arg1)
      ∧ r.2.mem ((c.tc : Thread Cert.AdSinIdeal.nD Cert.AdSinIdeal.τ).loc Cert.AdSinIdeal.main_arg2) = m ((c.tc : Thread Cert.AdSinIdeal.nD Cert.AdSinIdeal.τ).loc Cert.AdSinIdeal.main_arg2)
      ∧ r.2.mem ((c.tc : Thread Cert.AdSinIdeal.nD Cert.AdSinIdeal.τ).loc Cert.AdSinIdeal.main_arg3) = m ((c.tc : Thread Cert.AdSinIdeal.nD Cert.AdSinIdeal.τ).loc Cert.AdSinIdeal.main_arg3))
      ∧ r.2.sem = fun _ => 0)

def quiescent_AdSinRefIdeal [hAdSinRefIdeal : Cert.AdSinRefIdeal.Facts] : Prop :=
  ∀ (m : (ℓ : Loc Cert.AdSinRefIdeal.nD Cert.AdSinRefIdeal.τ Cert.AdSinRefIdeal.sig) → Buf (Elt Ideal) ℓ) (g : Dev Cert.AdSinRefIdeal.nD → PrngReg), Pre_AdSinRefIdeal m →
    θ_run (Cert.AdSinRefIdeal.defs (F := Ideal)) (onTc (τ := Cert.AdSinRefIdeal.τ) (Cert.AdSinRefIdeal.main (F := Ideal))) ⟨m, fun _ => 0, g⟩ (fun r => (∀ c : Dev Cert.AdSinRefIdeal.nD,
      r.2.mem ((c.tc : Thread Cert.AdSinRefIdeal.nD Cert.AdSinRefIdeal.τ).loc Cert.AdSinRefIdeal.main_arg0) = m ((c.tc : Thread Cert.AdSinRefIdeal.nD Cert.AdSinRefIdeal.τ).loc Cert.AdSinRefIdeal.main_arg0)
      ∧ r.2.mem ((c.tc : Thread Cert.AdSinRefIdeal.nD Cert.AdSinRefIdeal.τ).loc Cert.AdSinRefIdeal.main_arg1) = m ((c.tc : Thread Cert.AdSinRefIdeal.nD Cert.AdSinRefIdeal.τ).loc Cert.AdSinRefIdeal.main_arg1)
      ∧ r.2.mem ((c.tc : Thread Cert.AdSinRefIdeal.nD Cert.AdSinRefIdeal.τ).loc Cert.AdSinRefIdeal.main_arg2) = m ((c.tc : Thread Cert.AdSinRefIdeal.nD Cert.AdSinRefIdeal.τ).loc Cert.AdSinRefIdeal.main_arg2)
      ∧ r.2.mem ((c.tc : Thread Cert.AdSinRefIdeal.nD Cert.AdSinRefIdeal.τ).loc Cert.AdSinRefIdeal.main_arg3) = m ((c.tc : Thread Cert.AdSinRefIdeal.nD Cert.AdSinRefIdeal.τ).loc Cert.AdSinRefIdeal.main_arg3))
      ∧ r.2.sem = fun _ => 0)

def quiescent_AdGo [hAdGo : Cert.AdGo.Facts] : Prop :=
  ∀ (m : (ℓ : Loc Cert.AdGo.nD Cert.AdGo.τ Cert.AdGo.sig) → Buf (Elt Bits) ℓ) (g : Dev Cert.AdGo.nD → PrngReg), Pre_AdGo m →
    θ_run (Cert.AdGo.defs (F := Bits)) (onTc (τ := Cert.AdGo.τ) (Cert.AdGo.main (F := Bits))) ⟨m, fun _ => 0, g⟩ (fun r => (∀ c : Dev Cert.AdGo.nD,
      r.2.mem ((c.tc : Thread Cert.AdGo.nD Cert.AdGo.τ).loc Cert.AdGo.main_arg0) = m ((c.tc : Thread Cert.AdGo.nD Cert.AdGo.τ).loc Cert.AdGo.main_arg0)
      ∧ r.2.mem ((c.tc : Thread Cert.AdGo.nD Cert.AdGo.τ).loc Cert.AdGo.main_arg1) = m ((c.tc : Thread Cert.AdGo.nD Cert.AdGo.τ).loc Cert.AdGo.main_arg1)
      ∧ r.2.mem ((c.tc : Thread Cert.AdGo.nD Cert.AdGo.τ).loc Cert.AdGo.main_arg2) = m ((c.tc : Thread Cert.AdGo.nD Cert.AdGo.τ).loc Cert.AdGo.main_arg2)
      ∧ r.2.mem ((c.tc : Thread Cert.AdGo.nD Cert.AdGo.τ).loc Cert.AdGo.main_arg3) = m ((c.tc : Thread Cert.AdGo.nD Cert.AdGo.τ).loc Cert.AdGo.main_arg3))
      ∧ r.2.sem = fun _ => 0)

def quiescent_AdGoIdeal [hAdGoIdeal : Cert.AdGoIdeal.Facts] : Prop :=
  ∀ (m : (ℓ : Loc Cert.AdGoIdeal.nD Cert.AdGoIdeal.τ Cert.AdGoIdeal.sig) → Buf (Elt Ideal) ℓ) (g : Dev Cert.AdGoIdeal.nD → PrngReg), Pre_AdGoIdeal m →
    θ_run (Cert.AdGoIdeal.defs (F := Ideal)) (onTc (τ := Cert.AdGoIdeal.τ) (Cert.AdGoIdeal.main (F := Ideal))) ⟨m, fun _ => 0, g⟩ (fun r => (∀ c : Dev Cert.AdGoIdeal.nD,
      r.2.mem ((c.tc : Thread Cert.AdGoIdeal.nD Cert.AdGoIdeal.τ).loc Cert.AdGoIdeal.main_arg0) = m ((c.tc : Thread Cert.AdGoIdeal.nD Cert.AdGoIdeal.τ).loc Cert.AdGoIdeal.main_arg0)
      ∧ r.2.mem ((c.tc : Thread Cert.AdGoIdeal.nD Cert.AdGoIdeal.τ).loc Cert.AdGoIdeal.main_arg1) = m ((c.tc : Thread Cert.AdGoIdeal.nD Cert.AdGoIdeal.τ).loc Cert.AdGoIdeal.main_arg1)
      ∧ r.2.mem ((c.tc : Thread Cert.AdGoIdeal.nD Cert.AdGoIdeal.τ).loc Cert.AdGoIdeal.main_arg2) = m ((c.tc : Thread Cert.AdGoIdeal.nD Cert.AdGoIdeal.τ).loc Cert.AdGoIdeal.main_arg2)
      ∧ r.2.mem ((c.tc : Thread Cert.AdGoIdeal.nD Cert.AdGoIdeal.τ).loc Cert.AdGoIdeal.main_arg3) = m ((c.tc : Thread Cert.AdGoIdeal.nD Cert.AdGoIdeal.τ).loc Cert.AdGoIdeal.main_arg3))
      ∧ r.2.sem = fun _ => 0)

def quiescent_AdGoRefIdeal [hAdGoRefIdeal : Cert.AdGoRefIdeal.Facts] : Prop :=
  ∀ (m : (ℓ : Loc Cert.AdGoRefIdeal.nD Cert.AdGoRefIdeal.τ Cert.AdGoRefIdeal.sig) → Buf (Elt Ideal) ℓ) (g : Dev Cert.AdGoRefIdeal.nD → PrngReg), Pre_AdGoRefIdeal m →
    θ_run (Cert.AdGoRefIdeal.defs (F := Ideal)) (onTc (τ := Cert.AdGoRefIdeal.τ) (Cert.AdGoRefIdeal.main (F := Ideal))) ⟨m, fun _ => 0, g⟩ (fun r => (∀ c : Dev Cert.AdGoRefIdeal.nD,
      r.2.mem ((c.tc : Thread Cert.AdGoRefIdeal.nD Cert.AdGoRefIdeal.τ).loc Cert.AdGoRefIdeal.main_arg0) = m ((c.tc : Thread Cert.AdGoRefIdeal.nD Cert.AdGoRefIdeal.τ).loc Cert.AdGoRefIdeal.main_arg0)
      ∧ r.2.mem ((c.tc : Thread Cert.AdGoRefIdeal.nD Cert.AdGoRefIdeal.τ).loc Cert.AdGoRefIdeal.main_arg1) = m ((c.tc : Thread Cert.AdGoRefIdeal.nD Cert.AdGoRefIdeal.τ).loc Cert.AdGoRefIdeal.main_arg1)
      ∧ r.2.mem ((c.tc : Thread Cert.AdGoRefIdeal.nD Cert.AdGoRefIdeal.τ).loc Cert.AdGoRefIdeal.main_arg2) = m ((c.tc : Thread Cert.AdGoRefIdeal.nD Cert.AdGoRefIdeal.τ).loc Cert.AdGoRefIdeal.main_arg2)
      ∧ r.2.mem ((c.tc : Thread Cert.AdGoRefIdeal.nD Cert.AdGoRefIdeal.τ).loc Cert.AdGoRefIdeal.main_arg3) = m ((c.tc : Thread Cert.AdGoRefIdeal.nD Cert.AdGoRefIdeal.τ).loc Cert.AdGoRefIdeal.main_arg3))
      ∧ r.2.sem = fun _ => 0)

def quiescent_AdSo [hAdSo : Cert.AdSo.Facts] : Prop :=
  ∀ (m : (ℓ : Loc Cert.AdSo.nD Cert.AdSo.τ Cert.AdSo.sig) → Buf (Elt Bits) ℓ) (g : Dev Cert.AdSo.nD → PrngReg), Pre_AdSo m →
    θ_run (Cert.AdSo.defs (F := Bits)) (onTc (τ := Cert.AdSo.τ) (Cert.AdSo.main (F := Bits))) ⟨m, fun _ => 0, g⟩ (fun r => (∀ c : Dev Cert.AdSo.nD,
      r.2.mem ((c.tc : Thread Cert.AdSo.nD Cert.AdSo.τ).loc Cert.AdSo.main_arg0) = m ((c.tc : Thread Cert.AdSo.nD Cert.AdSo.τ).loc Cert.AdSo.main_arg0)
      ∧ r.2.mem ((c.tc : Thread Cert.AdSo.nD Cert.AdSo.τ).loc Cert.AdSo.main_arg1) = m ((c.tc : Thread Cert.AdSo.nD Cert.AdSo.τ).loc Cert.AdSo.main_arg1)
      ∧ r.2.mem ((c.tc : Thread Cert.AdSo.nD Cert.AdSo.τ).loc Cert.AdSo.main_arg2) = m ((c.tc : Thread Cert.AdSo.nD Cert.AdSo.τ).loc Cert.AdSo.main_arg2)
      ∧ r.2.mem ((c.tc : Thread Cert.AdSo.nD Cert.AdSo.τ).loc Cert.AdSo.main_arg3) = m ((c.tc : Thread Cert.AdSo.nD Cert.AdSo.τ).loc Cert.AdSo.main_arg3))
      ∧ r.2.sem = fun _ => 0)

def quiescent_AdSoIdeal [hAdSoIdeal : Cert.AdSoIdeal.Facts] : Prop :=
  ∀ (m : (ℓ : Loc Cert.AdSoIdeal.nD Cert.AdSoIdeal.τ Cert.AdSoIdeal.sig) → Buf (Elt Ideal) ℓ) (g : Dev Cert.AdSoIdeal.nD → PrngReg), Pre_AdSoIdeal m →
    θ_run (Cert.AdSoIdeal.defs (F := Ideal)) (onTc (τ := Cert.AdSoIdeal.τ) (Cert.AdSoIdeal.main (F := Ideal))) ⟨m, fun _ => 0, g⟩ (fun r => (∀ c : Dev Cert.AdSoIdeal.nD,
      r.2.mem ((c.tc : Thread Cert.AdSoIdeal.nD Cert.AdSoIdeal.τ).loc Cert.AdSoIdeal.main_arg0) = m ((c.tc : Thread Cert.AdSoIdeal.nD Cert.AdSoIdeal.τ).loc Cert.AdSoIdeal.main_arg0)
      ∧ r.2.mem ((c.tc : Thread Cert.AdSoIdeal.nD Cert.AdSoIdeal.τ).loc Cert.AdSoIdeal.main_arg1) = m ((c.tc : Thread Cert.AdSoIdeal.nD Cert.AdSoIdeal.τ).loc Cert.AdSoIdeal.main_arg1)
      ∧ r.2.mem ((c.tc : Thread Cert.AdSoIdeal.nD Cert.AdSoIdeal.τ).loc Cert.AdSoIdeal.main_arg2) = m ((c.tc : Thread Cert.AdSoIdeal.nD Cert.AdSoIdeal.τ).loc Cert.AdSoIdeal.main_arg2)
      ∧ r.2.mem ((c.tc : Thread Cert.AdSoIdeal.nD Cert.AdSoIdeal.τ).loc Cert.AdSoIdeal.main_arg3) = m ((c.tc : Thread Cert.AdSoIdeal.nD Cert.AdSoIdeal.τ).loc Cert.AdSoIdeal.main_arg3))
      ∧ r.2.sem = fun _ => 0)

def quiescent_AdSoRefIdeal [hAdSoRefIdeal : Cert.AdSoRefIdeal.Facts] : Prop :=
  ∀ (m : (ℓ : Loc Cert.AdSoRefIdeal.nD Cert.AdSoRefIdeal.τ Cert.AdSoRefIdeal.sig) → Buf (Elt Ideal) ℓ) (g : Dev Cert.AdSoRefIdeal.nD → PrngReg), Pre_AdSoRefIdeal m →
    θ_run (Cert.AdSoRefIdeal.defs (F := Ideal)) (onTc (τ := Cert.AdSoRefIdeal.τ) (Cert.AdSoRefIdeal.main (F := Ideal))) ⟨m, fun _ => 0, g⟩ (fun r => (∀ c : Dev Cert.AdSoRefIdeal.nD,
      r.2.mem ((c.tc : Thread Cert.AdSoRefIdeal.nD Cert.AdSoRefIdeal.τ).loc Cert.AdSoRefIdeal.main_arg0) = m ((c.tc : Thread Cert.AdSoRefIdeal.nD Cert.AdSoRefIdeal.τ).loc Cert.AdSoRefIdeal.main_arg0)
      ∧ r.2.mem ((c.tc : Thread Cert.AdSoRefIdeal.nD Cert.AdSoRefIdeal.τ).loc Cert.AdSoRefIdeal.main_arg1) = m ((c.tc : Thread Cert.AdSoRefIdeal.nD Cert.AdSoRefIdeal.τ).loc Cert.AdSoRefIdeal.main_arg1)
      ∧ r.2.mem ((c.tc : Thread Cert.AdSoRefIdeal.nD Cert.AdSoRefIdeal.τ).loc Cert.AdSoRefIdeal.main_arg2) = m ((c.tc : Thread Cert.AdSoRefIdeal.nD Cert.AdSoRefIdeal.τ).loc Cert.AdSoRefIdeal.main_arg2)
      ∧ r.2.mem ((c.tc : Thread Cert.AdSoRefIdeal.nD Cert.AdSoRefIdeal.τ).loc Cert.AdSoRefIdeal.main_arg3) = m ((c.tc : Thread Cert.AdSoRefIdeal.nD Cert.AdSoRefIdeal.τ).loc Cert.AdSoRefIdeal.main_arg3))
      ∧ r.2.sem = fun _ => 0)

def quiescent_AdFi [hAdFi : Cert.AdFi.Facts] : Prop :=
  ∀ (m : (ℓ : Loc Cert.AdFi.nD Cert.AdFi.τ Cert.AdFi.sig) → Buf (Elt Bits) ℓ) (g : Dev Cert.AdFi.nD → PrngReg), Pre_AdFi m →
    θ_run (Cert.AdFi.defs (F := Bits)) (onTc (τ := Cert.AdFi.τ) (Cert.AdFi.main (F := Bits))) ⟨m, fun _ => 0, g⟩ (fun r => (∀ c : Dev Cert.AdFi.nD,
      r.2.mem ((c.tc : Thread Cert.AdFi.nD Cert.AdFi.τ).loc Cert.AdFi.main_arg0) = m ((c.tc : Thread Cert.AdFi.nD Cert.AdFi.τ).loc Cert.AdFi.main_arg0)
      ∧ r.2.mem ((c.tc : Thread Cert.AdFi.nD Cert.AdFi.τ).loc Cert.AdFi.main_arg1) = m ((c.tc : Thread Cert.AdFi.nD Cert.AdFi.τ).loc Cert.AdFi.main_arg1)
      ∧ r.2.mem ((c.tc : Thread Cert.AdFi.nD Cert.AdFi.τ).loc Cert.AdFi.main_arg2) = m ((c.tc : Thread Cert.AdFi.nD Cert.AdFi.τ).loc Cert.AdFi.main_arg2)
      ∧ r.2.mem ((c.tc : Thread Cert.AdFi.nD Cert.AdFi.τ).loc Cert.AdFi.main_arg3) = m ((c.tc : Thread Cert.AdFi.nD Cert.AdFi.τ).loc Cert.AdFi.main_arg3)
      ∧ r.2.mem ((c.tc : Thread Cert.AdFi.nD Cert.AdFi.τ).loc Cert.AdFi.main_arg4) = m ((c.tc : Thread Cert.AdFi.nD Cert.AdFi.τ).loc Cert.AdFi.main_arg4)
      ∧ r.2.mem ((c.tc : Thread Cert.AdFi.nD Cert.AdFi.τ).loc Cert.AdFi.main_arg5) = m ((c.tc : Thread Cert.AdFi.nD Cert.AdFi.τ).loc Cert.AdFi.main_arg5))
      ∧ r.2.sem = fun _ => 0)

def quiescent_AdFiIdeal [hAdFiIdeal : Cert.AdFiIdeal.Facts] : Prop :=
  ∀ (m : (ℓ : Loc Cert.AdFiIdeal.nD Cert.AdFiIdeal.τ Cert.AdFiIdeal.sig) → Buf (Elt Ideal) ℓ) (g : Dev Cert.AdFiIdeal.nD → PrngReg), Pre_AdFiIdeal m →
    θ_run (Cert.AdFiIdeal.defs (F := Ideal)) (onTc (τ := Cert.AdFiIdeal.τ) (Cert.AdFiIdeal.main (F := Ideal))) ⟨m, fun _ => 0, g⟩ (fun r => (∀ c : Dev Cert.AdFiIdeal.nD,
      r.2.mem ((c.tc : Thread Cert.AdFiIdeal.nD Cert.AdFiIdeal.τ).loc Cert.AdFiIdeal.main_arg0) = m ((c.tc : Thread Cert.AdFiIdeal.nD Cert.AdFiIdeal.τ).loc Cert.AdFiIdeal.main_arg0)
      ∧ r.2.mem ((c.tc : Thread Cert.AdFiIdeal.nD Cert.AdFiIdeal.τ).loc Cert.AdFiIdeal.main_arg1) = m ((c.tc : Thread Cert.AdFiIdeal.nD Cert.AdFiIdeal.τ).loc Cert.AdFiIdeal.main_arg1)
      ∧ r.2.mem ((c.tc : Thread Cert.AdFiIdeal.nD Cert.AdFiIdeal.τ).loc Cert.AdFiIdeal.main_arg2) = m ((c.tc : Thread Cert.AdFiIdeal.nD Cert.AdFiIdeal.τ).loc Cert.AdFiIdeal.main_arg2)
      ∧ r.2.mem ((c.tc : Thread Cert.AdFiIdeal.nD Cert.AdFiIdeal.τ).loc Cert.AdFiIdeal.main_arg3) = m ((c.tc : Thread Cert.AdFiIdeal.nD Cert.AdFiIdeal.τ).loc Cert.AdFiIdeal.main_arg3)
      ∧ r.2.mem ((c.tc : Thread Cert.AdFiIdeal.nD Cert.AdFiIdeal.τ).loc Cert.AdFiIdeal.main_arg4) = m ((c.tc : Thread Cert.AdFiIdeal.nD Cert.AdFiIdeal.τ).loc Cert.AdFiIdeal.main_arg4)
      ∧ r.2.mem ((c.tc : Thread Cert.AdFiIdeal.nD Cert.AdFiIdeal.τ).loc Cert.AdFiIdeal.main_arg5) = m ((c.tc : Thread Cert.AdFiIdeal.nD Cert.AdFiIdeal.τ).loc Cert.AdFiIdeal.main_arg5))
      ∧ r.2.sem = fun _ => 0)

def quiescent_AdFiRefIdeal [hAdFiRefIdeal : Cert.AdFiRefIdeal.Facts] : Prop :=
  ∀ (m : (ℓ : Loc Cert.AdFiRefIdeal.nD Cert.AdFiRefIdeal.τ Cert.AdFiRefIdeal.sig) → Buf (Elt Ideal) ℓ) (g : Dev Cert.AdFiRefIdeal.nD → PrngReg), Pre_AdFiRefIdeal m →
    θ_run (Cert.AdFiRefIdeal.defs (F := Ideal)) (onTc (τ := Cert.AdFiRefIdeal.τ) (Cert.AdFiRefIdeal.main (F := Ideal))) ⟨m, fun _ => 0, g⟩ (fun r => (∀ c : Dev Cert.AdFiRefIdeal.nD,
      r.2.mem ((c.tc : Thread Cert.AdFiRefIdeal.nD Cert.AdFiRefIdeal.τ).loc Cert.AdFiRefIdeal.main_arg0) = m ((c.tc : Thread Cert.AdFiRefIdeal.nD Cert.AdFiRefIdeal.τ).loc Cert.AdFiRefIdeal.main_arg0)
      ∧ r.2.mem ((c.tc : Thread Cert.AdFiRefIdeal.nD Cert.AdFiRefIdeal.τ).loc Cert.AdFiRefIdeal.main_arg1) = m ((c.tc : Thread Cert.AdFiRefIdeal.nD Cert.AdFiRefIdeal.τ).loc Cert.AdFiRefIdeal.main_arg1)
      ∧ r.2.mem ((c.tc : Thread Cert.AdFiRefIdeal.nD Cert.AdFiRefIdeal.τ).loc Cert.AdFiRefIdeal.main_arg2) = m ((c.tc : Thread Cert.AdFiRefIdeal.nD Cert.AdFiRefIdeal.τ).loc Cert.AdFiRefIdeal.main_arg2)
      ∧ r.2.mem ((c.tc : Thread Cert.AdFiRefIdeal.nD Cert.AdFiRefIdeal.τ).loc Cert.AdFiRefIdeal.main_arg3) = m ((c.tc : Thread Cert.AdFiRefIdeal.nD Cert.AdFiRefIdeal.τ).loc Cert.AdFiRefIdeal.main_arg3)
      ∧ r.2.mem ((c.tc : Thread Cert.AdFiRefIdeal.nD Cert.AdFiRefIdeal.τ).loc Cert.AdFiRefIdeal.main_arg4) = m ((c.tc : Thread Cert.AdFiRefIdeal.nD Cert.AdFiRefIdeal.τ).loc Cert.AdFiRefIdeal.main_arg4)
      ∧ r.2.mem ((c.tc : Thread Cert.AdFiRefIdeal.nD Cert.AdFiRefIdeal.τ).loc Cert.AdFiRefIdeal.main_arg5) = m ((c.tc : Thread Cert.AdFiRefIdeal.nD Cert.AdFiRefIdeal.τ).loc Cert.AdFiRefIdeal.main_arg5))
      ∧ r.2.sem = fun _ => 0)

def quiescent_AdFo [hAdFo : Cert.AdFo.Facts] : Prop :=
  ∀ (m : (ℓ : Loc Cert.AdFo.nD Cert.AdFo.τ Cert.AdFo.sig) → Buf (Elt Bits) ℓ) (g : Dev Cert.AdFo.nD → PrngReg), Pre_AdFo m →
    θ_run (Cert.AdFo.defs (F := Bits)) (onTc (τ := Cert.AdFo.τ) (Cert.AdFo.main (F := Bits))) ⟨m, fun _ => 0, g⟩ (fun r => (∀ c : Dev Cert.AdFo.nD,
      r.2.mem ((c.tc : Thread Cert.AdFo.nD Cert.AdFo.τ).loc Cert.AdFo.main_arg0) = m ((c.tc : Thread Cert.AdFo.nD Cert.AdFo.τ).loc Cert.AdFo.main_arg0)
      ∧ r.2.mem ((c.tc : Thread Cert.AdFo.nD Cert.AdFo.τ).loc Cert.AdFo.main_arg1) = m ((c.tc : Thread Cert.AdFo.nD Cert.AdFo.τ).loc Cert.AdFo.main_arg1)
      ∧ r.2.mem ((c.tc : Thread Cert.AdFo.nD Cert.AdFo.τ).loc Cert.AdFo.main_arg2) = m ((c.tc : Thread Cert.AdFo.nD Cert.AdFo.τ).loc Cert.AdFo.main_arg2)
      ∧ r.2.mem ((c.tc : Thread Cert.AdFo.nD Cert.AdFo.τ).loc Cert.AdFo.main_arg3) = m ((c.tc : Thread Cert.AdFo.nD Cert.AdFo.τ).loc Cert.AdFo.main_arg3)
      ∧ r.2.mem ((c.tc : Thread Cert.AdFo.nD Cert.AdFo.τ).loc Cert.AdFo.main_arg4) = m ((c.tc : Thread Cert.AdFo.nD Cert.AdFo.τ).loc Cert.AdFo.main_arg4)
      ∧ r.2.mem ((c.tc : Thread Cert.AdFo.nD Cert.AdFo.τ).loc Cert.AdFo.main_arg5) = m ((c.tc : Thread Cert.AdFo.nD Cert.AdFo.τ).loc Cert.AdFo.main_arg5))
      ∧ r.2.sem = fun _ => 0)

def quiescent_AdFoIdeal [hAdFoIdeal : Cert.AdFoIdeal.Facts] : Prop :=
  ∀ (m : (ℓ : Loc Cert.AdFoIdeal.nD Cert.AdFoIdeal.τ Cert.AdFoIdeal.sig) → Buf (Elt Ideal) ℓ) (g : Dev Cert.AdFoIdeal.nD → PrngReg), Pre_AdFoIdeal m →
    θ_run (Cert.AdFoIdeal.defs (F := Ideal)) (onTc (τ := Cert.AdFoIdeal.τ) (Cert.AdFoIdeal.main (F := Ideal))) ⟨m, fun _ => 0, g⟩ (fun r => (∀ c : Dev Cert.AdFoIdeal.nD,
      r.2.mem ((c.tc : Thread Cert.AdFoIdeal.nD Cert.AdFoIdeal.τ).loc Cert.AdFoIdeal.main_arg0) = m ((c.tc : Thread Cert.AdFoIdeal.nD Cert.AdFoIdeal.τ).loc Cert.AdFoIdeal.main_arg0)
      ∧ r.2.mem ((c.tc : Thread Cert.AdFoIdeal.nD Cert.AdFoIdeal.τ).loc Cert.AdFoIdeal.main_arg1) = m ((c.tc : Thread Cert.AdFoIdeal.nD Cert.AdFoIdeal.τ).loc Cert.AdFoIdeal.main_arg1)
      ∧ r.2.mem ((c.tc : Thread Cert.AdFoIdeal.nD Cert.AdFoIdeal.τ).loc Cert.AdFoIdeal.main_arg2) = m ((c.tc : Thread Cert.AdFoIdeal.nD Cert.AdFoIdeal.τ).loc Cert.AdFoIdeal.main_arg2)
      ∧ r.2.mem ((c.tc : Thread Cert.AdFoIdeal.nD Cert.AdFoIdeal.τ).loc Cert.AdFoIdeal.main_arg3) = m ((c.tc : Thread Cert.AdFoIdeal.nD Cert.AdFoIdeal.τ).loc Cert.AdFoIdeal.main_arg3)
      ∧ r.2.mem ((c.tc : Thread Cert.AdFoIdeal.nD Cert.AdFoIdeal.τ).loc Cert.AdFoIdeal.main_arg4) = m ((c.tc : Thread Cert.AdFoIdeal.nD Cert.AdFoIdeal.τ).loc Cert.AdFoIdeal.main_arg4)
      ∧ r.2.mem ((c.tc : Thread Cert.AdFoIdeal.nD Cert.AdFoIdeal.τ).loc Cert.AdFoIdeal.main_arg5) = m ((c.tc : Thread Cert.AdFoIdeal.nD Cert.AdFoIdeal.τ).loc Cert.AdFoIdeal.main_arg5))
      ∧ r.2.sem = fun _ => 0)

def quiescent_AdFoRefIdeal [hAdFoRefIdeal : Cert.AdFoRefIdeal.Facts] : Prop :=
  ∀ (m : (ℓ : Loc Cert.AdFoRefIdeal.nD Cert.AdFoRefIdeal.τ Cert.AdFoRefIdeal.sig) → Buf (Elt Ideal) ℓ) (g : Dev Cert.AdFoRefIdeal.nD → PrngReg), Pre_AdFoRefIdeal m →
    θ_run (Cert.AdFoRefIdeal.defs (F := Ideal)) (onTc (τ := Cert.AdFoRefIdeal.τ) (Cert.AdFoRefIdeal.main (F := Ideal))) ⟨m, fun _ => 0, g⟩ (fun r => (∀ c : Dev Cert.AdFoRefIdeal.nD,
      r.2.mem ((c.tc : Thread Cert.AdFoRefIdeal.nD Cert.AdFoRefIdeal.τ).loc Cert.AdFoRefIdeal.main_arg0) = m ((c.tc : Thread Cert.AdFoRefIdeal.nD Cert.AdFoRefIdeal.τ).loc Cert.AdFoRefIdeal.main_arg0)
      ∧ r.2.mem ((c.tc : Thread Cert.AdFoRefIdeal.nD Cert.AdFoRefIdeal.τ).loc Cert.AdFoRefIdeal.main_arg1) = m ((c.tc : Thread Cert.AdFoRefIdeal.nD Cert.AdFoRefIdeal.τ).loc Cert.AdFoRefIdeal.main_arg1)
      ∧ r.2.mem ((c.tc : Thread Cert.AdFoRefIdeal.nD Cert.AdFoRefIdeal.τ).loc Cert.AdFoRefIdeal.main_arg2) = m ((c.tc : Thread Cert.AdFoRefIdeal.nD Cert.AdFoRefIdeal.τ).loc Cert.AdFoRefIdeal.main_arg2)
      ∧ r.2.mem ((c.tc : Thread Cert.AdFoRefIdeal.nD Cert.AdFoRefIdeal.τ).loc Cert.AdFoRefIdeal.main_arg3) = m ((c.tc : Thread Cert.AdFoRefIdeal.nD Cert.AdFoRefIdeal.τ).loc Cert.AdFoRefIdeal.main_arg3)
      ∧ r.2.mem ((c.tc : Thread Cert.AdFoRefIdeal.nD Cert.AdFoRefIdeal.τ).loc Cert.AdFoRefIdeal.main_arg4) = m ((c.tc : Thread Cert.AdFoRefIdeal.nD Cert.AdFoRefIdeal.τ).loc Cert.AdFoRefIdeal.main_arg4)
      ∧ r.2.mem ((c.tc : Thread Cert.AdFoRefIdeal.nD Cert.AdFoRefIdeal.τ).loc Cert.AdFoRefIdeal.main_arg5) = m ((c.tc : Thread Cert.AdFoRefIdeal.nD Cert.AdFoRefIdeal.τ).loc Cert.AdFoRefIdeal.main_arg5))
      ∧ r.2.sem = fun _ => 0)

def quiescent_AdXq [hAdXq : Cert.AdXq.Facts] : Prop :=
  ∀ (m : (ℓ : Loc Cert.AdXq.nD Cert.AdXq.τ Cert.AdXq.sig) → Buf (Elt Bits) ℓ) (g : Dev Cert.AdXq.nD → PrngReg), Pre_AdXq m →
    θ_run (Cert.AdXq.defs (F := Bits)) (onTc (τ := Cert.AdXq.τ) (Cert.AdXq.main (F := Bits))) ⟨m, fun _ => 0, g⟩ (fun r => (∀ c : Dev Cert.AdXq.nD,
      r.2.mem ((c.tc : Thread Cert.AdXq.nD Cert.AdXq.τ).loc Cert.AdXq.main_arg0) = m ((c.tc : Thread Cert.AdXq.nD Cert.AdXq.τ).loc Cert.AdXq.main_arg0)
      ∧ r.2.mem ((c.tc : Thread Cert.AdXq.nD Cert.AdXq.τ).loc Cert.AdXq.main_arg1) = m ((c.tc : Thread Cert.AdXq.nD Cert.AdXq.τ).loc Cert.AdXq.main_arg1)
      ∧ r.2.mem ((c.tc : Thread Cert.AdXq.nD Cert.AdXq.τ).loc Cert.AdXq.main_arg2) = m ((c.tc : Thread Cert.AdXq.nD Cert.AdXq.τ).loc Cert.AdXq.main_arg2)
      ∧ r.2.mem ((c.tc : Thread Cert.AdXq.nD Cert.AdXq.τ).loc Cert.AdXq.main_arg3) = m ((c.tc : Thread Cert.AdXq.nD Cert.AdXq.τ).loc Cert.AdXq.main_arg3)
      ∧ r.2.mem ((c.tc : Thread Cert.AdXq.nD Cert.AdXq.τ).loc Cert.AdXq.main_arg4) = m ((c.tc : Thread Cert.AdXq.nD Cert.AdXq.τ).loc Cert.AdXq.main_arg4)
      ∧ r.2.mem ((c.tc : Thread Cert.AdXq.nD Cert.AdXq.τ).loc Cert.AdXq.main_arg5) = m ((c.tc : Thread Cert.AdXq.nD Cert.AdXq.τ).loc Cert.AdXq.main_arg5))
      ∧ r.2.sem = fun _ => 0)

def quiescent_AdXqIdeal [hAdXqIdeal : Cert.AdXqIdeal.Facts] : Prop :=
  ∀ (m : (ℓ : Loc Cert.AdXqIdeal.nD Cert.AdXqIdeal.τ Cert.AdXqIdeal.sig) → Buf (Elt Ideal) ℓ) (g : Dev Cert.AdXqIdeal.nD → PrngReg), Pre_AdXqIdeal m →
    θ_run (Cert.AdXqIdeal.defs (F := Ideal)) (onTc (τ := Cert.AdXqIdeal.τ) (Cert.AdXqIdeal.main (F := Ideal))) ⟨m, fun _ => 0, g⟩ (fun r => (∀ c : Dev Cert.AdXqIdeal.nD,
      r.2.mem ((c.tc : Thread Cert.AdXqIdeal.nD Cert.AdXqIdeal.τ).loc Cert.AdXqIdeal.main_arg0) = m ((c.tc : Thread Cert.AdXqIdeal.nD Cert.AdXqIdeal.τ).loc Cert.AdXqIdeal.main_arg0)
      ∧ r.2.mem ((c.tc : Thread Cert.AdXqIdeal.nD Cert.AdXqIdeal.τ).loc Cert.AdXqIdeal.main_arg1) = m ((c.tc : Thread Cert.AdXqIdeal.nD Cert.AdXqIdeal.τ).loc Cert.AdXqIdeal.main_arg1)
      ∧ r.2.mem ((c.tc : Thread Cert.AdXqIdeal.nD Cert.AdXqIdeal.τ).loc Cert.AdXqIdeal.main_arg2) = m ((c.tc : Thread Cert.AdXqIdeal.nD Cert.AdXqIdeal.τ).loc Cert.AdXqIdeal.main_arg2)
      ∧ r.2.mem ((c.tc : Thread Cert.AdXqIdeal.nD Cert.AdXqIdeal.τ).loc Cert.AdXqIdeal.main_arg3) = m ((c.tc : Thread Cert.AdXqIdeal.nD Cert.AdXqIdeal.τ).loc Cert.AdXqIdeal.main_arg3)
      ∧ r.2.mem ((c.tc : Thread Cert.AdXqIdeal.nD Cert.AdXqIdeal.τ).loc Cert.AdXqIdeal.main_arg4) = m ((c.tc : Thread Cert.AdXqIdeal.nD Cert.AdXqIdeal.τ).loc Cert.AdXqIdeal.main_arg4)
      ∧ r.2.mem ((c.tc : Thread Cert.AdXqIdeal.nD Cert.AdXqIdeal.τ).loc Cert.AdXqIdeal.main_arg5) = m ((c.tc : Thread Cert.AdXqIdeal.nD Cert.AdXqIdeal.τ).loc Cert.AdXqIdeal.main_arg5))
      ∧ r.2.sem = fun _ => 0)

def quiescent_AdXqRefIdeal [hAdXqRefIdeal : Cert.AdXqRefIdeal.Facts] : Prop :=
  ∀ (m : (ℓ : Loc Cert.AdXqRefIdeal.nD Cert.AdXqRefIdeal.τ Cert.AdXqRefIdeal.sig) → Buf (Elt Ideal) ℓ) (g : Dev Cert.AdXqRefIdeal.nD → PrngReg), Pre_AdXqRefIdeal m →
    θ_run (Cert.AdXqRefIdeal.defs (F := Ideal)) (onTc (τ := Cert.AdXqRefIdeal.τ) (Cert.AdXqRefIdeal.main (F := Ideal))) ⟨m, fun _ => 0, g⟩ (fun r => (∀ c : Dev Cert.AdXqRefIdeal.nD,
      r.2.mem ((c.tc : Thread Cert.AdXqRefIdeal.nD Cert.AdXqRefIdeal.τ).loc Cert.AdXqRefIdeal.main_arg0) = m ((c.tc : Thread Cert.AdXqRefIdeal.nD Cert.AdXqRefIdeal.τ).loc Cert.AdXqRefIdeal.main_arg0)
      ∧ r.2.mem ((c.tc : Thread Cert.AdXqRefIdeal.nD Cert.AdXqRefIdeal.τ).loc Cert.AdXqRefIdeal.main_arg1) = m ((c.tc : Thread Cert.AdXqRefIdeal.nD Cert.AdXqRefIdeal.τ).loc Cert.AdXqRefIdeal.main_arg1)
      ∧ r.2.mem ((c.tc : Thread Cert.AdXqRefIdeal.nD Cert.AdXqRefIdeal.τ).loc Cert.AdXqRefIdeal.main_arg2) = m ((c.tc : Thread Cert.AdXqRefIdeal.nD Cert.AdXqRefIdeal.τ).loc Cert.AdXqRefIdeal.main_arg2)
      ∧ r.2.mem ((c.tc : Thread Cert.AdXqRefIdeal.nD Cert.AdXqRefIdeal.τ).loc Cert.AdXqRefIdeal.main_arg3) = m ((c.tc : Thread Cert.AdXqRefIdeal.nD Cert.AdXqRefIdeal.τ).loc Cert.AdXqRefIdeal.main_arg3)
      ∧ r.2.mem ((c.tc : Thread Cert.AdXqRefIdeal.nD Cert.AdXqRefIdeal.τ).loc Cert.AdXqRefIdeal.main_arg4) = m ((c.tc : Thread Cert.AdXqRefIdeal.nD Cert.AdXqRefIdeal.τ).loc Cert.AdXqRefIdeal.main_arg4)
      ∧ r.2.mem ((c.tc : Thread Cert.AdXqRefIdeal.nD Cert.AdXqRefIdeal.τ).loc Cert.AdXqRefIdeal.main_arg5) = m ((c.tc : Thread Cert.AdXqRefIdeal.nD Cert.AdXqRefIdeal.τ).loc Cert.AdXqRefIdeal.main_arg5))
      ∧ r.2.sem = fun _ => 0)

def quiescent_AdXo [hAdXo : Cert.AdXo.Facts] : Prop :=
  ∀ (m : (ℓ : Loc Cert.AdXo.nD Cert.AdXo.τ Cert.AdXo.sig) → Buf (Elt Bits) ℓ) (g : Dev Cert.AdXo.nD → PrngReg), Pre_AdXo m →
    θ_run (Cert.AdXo.defs (F := Bits)) (onTc (τ := Cert.AdXo.τ) (Cert.AdXo.main (F := Bits))) ⟨m, fun _ => 0, g⟩ (fun r => (∀ c : Dev Cert.AdXo.nD,
      r.2.mem ((c.tc : Thread Cert.AdXo.nD Cert.AdXo.τ).loc Cert.AdXo.main_arg0) = m ((c.tc : Thread Cert.AdXo.nD Cert.AdXo.τ).loc Cert.AdXo.main_arg0)
      ∧ r.2.mem ((c.tc : Thread Cert.AdXo.nD Cert.AdXo.τ).loc Cert.AdXo.main_arg1) = m ((c.tc : Thread Cert.AdXo.nD Cert.AdXo.τ).loc Cert.AdXo.main_arg1)
      ∧ r.2.mem ((c.tc : Thread Cert.AdXo.nD Cert.AdXo.τ).loc Cert.AdXo.main_arg2) = m ((c.tc : Thread Cert.AdXo.nD Cert.AdXo.τ).loc Cert.AdXo.main_arg2)
      ∧ r.2.mem ((c.tc : Thread Cert.AdXo.nD Cert.AdXo.τ).loc Cert.AdXo.main_arg3) = m ((c.tc : Thread Cert.AdXo.nD Cert.AdXo.τ).loc Cert.AdXo.main_arg3)
      ∧ r.2.mem ((c.tc : Thread Cert.AdXo.nD Cert.AdXo.τ).loc Cert.AdXo.main_arg4) = m ((c.tc : Thread Cert.AdXo.nD Cert.AdXo.τ).loc Cert.AdXo.main_arg4)
      ∧ r.2.mem ((c.tc : Thread Cert.AdXo.nD Cert.AdXo.τ).loc Cert.AdXo.main_arg5) = m ((c.tc : Thread Cert.AdXo.nD Cert.AdXo.τ).loc Cert.AdXo.main_arg5))
      ∧ r.2.sem = fun _ => 0)

def quiescent_AdXoIdeal [hAdXoIdeal : Cert.AdXoIdeal.Facts] : Prop :=
  ∀ (m : (ℓ : Loc Cert.AdXoIdeal.nD Cert.AdXoIdeal.τ Cert.AdXoIdeal.sig) → Buf (Elt Ideal) ℓ) (g : Dev Cert.AdXoIdeal.nD → PrngReg), Pre_AdXoIdeal m →
    θ_run (Cert.AdXoIdeal.defs (F := Ideal)) (onTc (τ := Cert.AdXoIdeal.τ) (Cert.AdXoIdeal.main (F := Ideal))) ⟨m, fun _ => 0, g⟩ (fun r => (∀ c : Dev Cert.AdXoIdeal.nD,
      r.2.mem ((c.tc : Thread Cert.AdXoIdeal.nD Cert.AdXoIdeal.τ).loc Cert.AdXoIdeal.main_arg0) = m ((c.tc : Thread Cert.AdXoIdeal.nD Cert.AdXoIdeal.τ).loc Cert.AdXoIdeal.main_arg0)
      ∧ r.2.mem ((c.tc : Thread Cert.AdXoIdeal.nD Cert.AdXoIdeal.τ).loc Cert.AdXoIdeal.main_arg1) = m ((c.tc : Thread Cert.AdXoIdeal.nD Cert.AdXoIdeal.τ).loc Cert.AdXoIdeal.main_arg1)
      ∧ r.2.mem ((c.tc : Thread Cert.AdXoIdeal.nD Cert.AdXoIdeal.τ).loc Cert.AdXoIdeal.main_arg2) = m ((c.tc : Thread Cert.AdXoIdeal.nD Cert.AdXoIdeal.τ).loc Cert.AdXoIdeal.main_arg2)
      ∧ r.2.mem ((c.tc : Thread Cert.AdXoIdeal.nD Cert.AdXoIdeal.τ).loc Cert.AdXoIdeal.main_arg3) = m ((c.tc : Thread Cert.AdXoIdeal.nD Cert.AdXoIdeal.τ).loc Cert.AdXoIdeal.main_arg3)
      ∧ r.2.mem ((c.tc : Thread Cert.AdXoIdeal.nD Cert.AdXoIdeal.τ).loc Cert.AdXoIdeal.main_arg4) = m ((c.tc : Thread Cert.AdXoIdeal.nD Cert.AdXoIdeal.τ).loc Cert.AdXoIdeal.main_arg4)
      ∧ r.2.mem ((c.tc : Thread Cert.AdXoIdeal.nD Cert.AdXoIdeal.τ).loc Cert.AdXoIdeal.main_arg5) = m ((c.tc : Thread Cert.AdXoIdeal.nD Cert.AdXoIdeal.τ).loc Cert.AdXoIdeal.main_arg5))
      ∧ r.2.sem = fun _ => 0)

def quiescent_AdXoRefIdeal [hAdXoRefIdeal : Cert.AdXoRefIdeal.Facts] : Prop :=
  ∀ (m : (ℓ : Loc Cert.AdXoRefIdeal.nD Cert.AdXoRefIdeal.τ Cert.AdXoRefIdeal.sig) → Buf (Elt Ideal) ℓ) (g : Dev Cert.AdXoRefIdeal.nD → PrngReg), Pre_AdXoRefIdeal m →
    θ_run (Cert.AdXoRefIdeal.defs (F := Ideal)) (onTc (τ := Cert.AdXoRefIdeal.τ) (Cert.AdXoRefIdeal.main (F := Ideal))) ⟨m, fun _ => 0, g⟩ (fun r => (∀ c : Dev Cert.AdXoRefIdeal.nD,
      r.2.mem ((c.tc : Thread Cert.AdXoRefIdeal.nD Cert.AdXoRefIdeal.τ).loc Cert.AdXoRefIdeal.main_arg0) = m ((c.tc : Thread Cert.AdXoRefIdeal.nD Cert.AdXoRefIdeal.τ).loc Cert.AdXoRefIdeal.main_arg0)
      ∧ r.2.mem ((c.tc : Thread Cert.AdXoRefIdeal.nD Cert.AdXoRefIdeal.τ).loc Cert.AdXoRefIdeal.main_arg1) = m ((c.tc : Thread Cert.AdXoRefIdeal.nD Cert.AdXoRefIdeal.τ).loc Cert.AdXoRefIdeal.main_arg1)
      ∧ r.2.mem ((c.tc : Thread Cert.AdXoRefIdeal.nD Cert.AdXoRefIdeal.τ).loc Cert.AdXoRefIdeal.main_arg2) = m ((c.tc : Thread Cert.AdXoRefIdeal.nD Cert.AdXoRefIdeal.τ).loc Cert.AdXoRefIdeal.main_arg2)
      ∧ r.2.mem ((c.tc : Thread Cert.AdXoRefIdeal.nD Cert.AdXoRefIdeal.τ).loc Cert.AdXoRefIdeal.main_arg3) = m ((c.tc : Thread Cert.AdXoRefIdeal.nD Cert.AdXoRefIdeal.τ).loc Cert.AdXoRefIdeal.main_arg3)
      ∧ r.2.mem ((c.tc : Thread Cert.AdXoRefIdeal.nD Cert.AdXoRefIdeal.τ).loc Cert.AdXoRefIdeal.main_arg4) = m ((c.tc : Thread Cert.AdXoRefIdeal.nD Cert.AdXoRefIdeal.τ).loc Cert.AdXoRefIdeal.main_arg4)
      ∧ r.2.mem ((c.tc : Thread Cert.AdXoRefIdeal.nD Cert.AdXoRefIdeal.τ).loc Cert.AdXoRefIdeal.main_arg5) = m ((c.tc : Thread Cert.AdXoRefIdeal.nD Cert.AdXoRefIdeal.τ).loc Cert.AdXoRefIdeal.main_arg5))
      ∧ r.2.sem = fun _ => 0)

def quiescent_AdXkv [hAdXkv : Cert.AdXkv.Facts] : Prop :=
  ∀ (m : (ℓ : Loc Cert.AdXkv.nD Cert.AdXkv.τ Cert.AdXkv.sig) → Buf (Elt Bits) ℓ) (g : Dev Cert.AdXkv.nD → PrngReg), Pre_AdXkv m →
    θ_run (Cert.AdXkv.defs (F := Bits)) (onTc (τ := Cert.AdXkv.τ) (Cert.AdXkv.main (F := Bits))) ⟨m, fun _ => 0, g⟩ (fun r => (∀ c : Dev Cert.AdXkv.nD,
      r.2.mem ((c.tc : Thread Cert.AdXkv.nD Cert.AdXkv.τ).loc Cert.AdXkv.main_arg0) = m ((c.tc : Thread Cert.AdXkv.nD Cert.AdXkv.τ).loc Cert.AdXkv.main_arg0)
      ∧ r.2.mem ((c.tc : Thread Cert.AdXkv.nD Cert.AdXkv.τ).loc Cert.AdXkv.main_arg1) = m ((c.tc : Thread Cert.AdXkv.nD Cert.AdXkv.τ).loc Cert.AdXkv.main_arg1)
      ∧ r.2.mem ((c.tc : Thread Cert.AdXkv.nD Cert.AdXkv.τ).loc Cert.AdXkv.main_arg2) = m ((c.tc : Thread Cert.AdXkv.nD Cert.AdXkv.τ).loc Cert.AdXkv.main_arg2)
      ∧ r.2.mem ((c.tc : Thread Cert.AdXkv.nD Cert.AdXkv.τ).loc Cert.AdXkv.main_arg3) = m ((c.tc : Thread Cert.AdXkv.nD Cert.AdXkv.τ).loc Cert.AdXkv.main_arg3)
      ∧ r.2.mem ((c.tc : Thread Cert.AdXkv.nD Cert.AdXkv.τ).loc Cert.AdXkv.main_arg4) = m ((c.tc : Thread Cert.AdXkv.nD Cert.AdXkv.τ).loc Cert.AdXkv.main_arg4)
      ∧ r.2.mem ((c.tc : Thread Cert.AdXkv.nD Cert.AdXkv.τ).loc Cert.AdXkv.main_arg5) = m ((c.tc : Thread Cert.AdXkv.nD Cert.AdXkv.τ).loc Cert.AdXkv.main_arg5))
      ∧ r.2.sem = fun _ => 0)

def quiescent_AdXkvIdeal [hAdXkvIdeal : Cert.AdXkvIdeal.Facts] : Prop :=
  ∀ (m : (ℓ : Loc Cert.AdXkvIdeal.nD Cert.AdXkvIdeal.τ Cert.AdXkvIdeal.sig) → Buf (Elt Ideal) ℓ) (g : Dev Cert.AdXkvIdeal.nD → PrngReg), Pre_AdXkvIdeal m →
    θ_run (Cert.AdXkvIdeal.defs (F := Ideal)) (onTc (τ := Cert.AdXkvIdeal.τ) (Cert.AdXkvIdeal.main (F := Ideal))) ⟨m, fun _ => 0, g⟩ (fun r => (∀ c : Dev Cert.AdXkvIdeal.nD,
      r.2.mem ((c.tc : Thread Cert.AdXkvIdeal.nD Cert.AdXkvIdeal.τ).loc Cert.AdXkvIdeal.main_arg0) = m ((c.tc : Thread Cert.AdXkvIdeal.nD Cert.AdXkvIdeal.τ).loc Cert.AdXkvIdeal.main_arg0)
      ∧ r.2.mem ((c.tc : Thread Cert.AdXkvIdeal.nD Cert.AdXkvIdeal.τ).loc Cert.AdXkvIdeal.main_arg1) = m ((c.tc : Thread Cert.AdXkvIdeal.nD Cert.AdXkvIdeal.τ).loc Cert.AdXkvIdeal.main_arg1)
      ∧ r.2.mem ((c.tc : Thread Cert.AdXkvIdeal.nD Cert.AdXkvIdeal.τ).loc Cert.AdXkvIdeal.main_arg2) = m ((c.tc : Thread Cert.AdXkvIdeal.nD Cert.AdXkvIdeal.τ).loc Cert.AdXkvIdeal.main_arg2)
      ∧ r.2.mem ((c.tc : Thread Cert.AdXkvIdeal.nD Cert.AdXkvIdeal.τ).loc Cert.AdXkvIdeal.main_arg3) = m ((c.tc : Thread Cert.AdXkvIdeal.nD Cert.AdXkvIdeal.τ).loc Cert.AdXkvIdeal.main_arg3)
      ∧ r.2.mem ((c.tc : Thread Cert.AdXkvIdeal.nD Cert.AdXkvIdeal.τ).loc Cert.AdXkvIdeal.main_arg4) = m ((c.tc : Thread Cert.AdXkvIdeal.nD Cert.AdXkvIdeal.τ).loc Cert.AdXkvIdeal.main_arg4)
      ∧ r.2.mem ((c.tc : Thread Cert.AdXkvIdeal.nD Cert.AdXkvIdeal.τ).loc Cert.AdXkvIdeal.main_arg5) = m ((c.tc : Thread Cert.AdXkvIdeal.nD Cert.AdXkvIdeal.τ).loc Cert.AdXkvIdeal.main_arg5))
      ∧ r.2.sem = fun _ => 0)

def quiescent_AdXkvRefIdeal [hAdXkvRefIdeal : Cert.AdXkvRefIdeal.Facts] : Prop :=
  ∀ (m : (ℓ : Loc Cert.AdXkvRefIdeal.nD Cert.AdXkvRefIdeal.τ Cert.AdXkvRefIdeal.sig) → Buf (Elt Ideal) ℓ) (g : Dev Cert.AdXkvRefIdeal.nD → PrngReg), Pre_AdXkvRefIdeal m →
    θ_run (Cert.AdXkvRefIdeal.defs (F := Ideal)) (onTc (τ := Cert.AdXkvRefIdeal.τ) (Cert.AdXkvRefIdeal.main (F := Ideal))) ⟨m, fun _ => 0, g⟩ (fun r => (∀ c : Dev Cert.AdXkvRefIdeal.nD,
      r.2.mem ((c.tc : Thread Cert.AdXkvRefIdeal.nD Cert.AdXkvRefIdeal.τ).loc Cert.AdXkvRefIdeal.main_arg0) = m ((c.tc : Thread Cert.AdXkvRefIdeal.nD Cert.AdXkvRefIdeal.τ).loc Cert.AdXkvRefIdeal.main_arg0)
      ∧ r.2.mem ((c.tc : Thread Cert.AdXkvRefIdeal.nD Cert.AdXkvRefIdeal.τ).loc Cert.AdXkvRefIdeal.main_arg1) = m ((c.tc : Thread Cert.AdXkvRefIdeal.nD Cert.AdXkvRefIdeal.τ).loc Cert.AdXkvRefIdeal.main_arg1)
      ∧ r.2.mem ((c.tc : Thread Cert.AdXkvRefIdeal.nD Cert.AdXkvRefIdeal.τ).loc Cert.AdXkvRefIdeal.main_arg2) = m ((c.tc : Thread Cert.AdXkvRefIdeal.nD Cert.AdXkvRefIdeal.τ).loc Cert.AdXkvRefIdeal.main_arg2)
      ∧ r.2.mem ((c.tc : Thread Cert.AdXkvRefIdeal.nD Cert.AdXkvRefIdeal.τ).loc Cert.AdXkvRefIdeal.main_arg3) = m ((c.tc : Thread Cert.AdXkvRefIdeal.nD Cert.AdXkvRefIdeal.τ).loc Cert.AdXkvRefIdeal.main_arg3)
      ∧ r.2.mem ((c.tc : Thread Cert.AdXkvRefIdeal.nD Cert.AdXkvRefIdeal.τ).loc Cert.AdXkvRefIdeal.main_arg4) = m ((c.tc : Thread Cert.AdXkvRefIdeal.nD Cert.AdXkvRefIdeal.τ).loc Cert.AdXkvRefIdeal.main_arg4)
      ∧ r.2.mem ((c.tc : Thread Cert.AdXkvRefIdeal.nD Cert.AdXkvRefIdeal.τ).loc Cert.AdXkvRefIdeal.main_arg5) = m ((c.tc : Thread Cert.AdXkvRefIdeal.nD Cert.AdXkvRefIdeal.τ).loc Cert.AdXkvRefIdeal.main_arg5))
      ∧ r.2.sem = fun _ => 0)

def quiescent_AdMo [hAdMo : Cert.AdMo.Facts] : Prop :=
  ∀ (m : (ℓ : Loc Cert.AdMo.nD Cert.AdMo.τ Cert.AdMo.sig) → Buf (Elt Bits) ℓ) (g : Dev Cert.AdMo.nD → PrngReg), Pre_AdMo m →
    θ_run (Cert.AdMo.defs (F := Bits)) (onTc (τ := Cert.AdMo.τ) (Cert.AdMo.main (F := Bits))) ⟨m, fun _ => 0, g⟩ (fun r => (∀ c : Dev Cert.AdMo.nD,
      r.2.mem ((c.tc : Thread Cert.AdMo.nD Cert.AdMo.τ).loc Cert.AdMo.main_arg0) = m ((c.tc : Thread Cert.AdMo.nD Cert.AdMo.τ).loc Cert.AdMo.main_arg0)
      ∧ r.2.mem ((c.tc : Thread Cert.AdMo.nD Cert.AdMo.τ).loc Cert.AdMo.main_arg1) = m ((c.tc : Thread Cert.AdMo.nD Cert.AdMo.τ).loc Cert.AdMo.main_arg1)
      ∧ r.2.mem ((c.tc : Thread Cert.AdMo.nD Cert.AdMo.τ).loc Cert.AdMo.main_arg2) = m ((c.tc : Thread Cert.AdMo.nD Cert.AdMo.τ).loc Cert.AdMo.main_arg2)
      ∧ r.2.mem ((c.tc : Thread Cert.AdMo.nD Cert.AdMo.τ).loc Cert.AdMo.main_arg3) = m ((c.tc : Thread Cert.AdMo.nD Cert.AdMo.τ).loc Cert.AdMo.main_arg3)
      ∧ r.2.mem ((c.tc : Thread Cert.AdMo.nD Cert.AdMo.τ).loc Cert.AdMo.main_arg4) = m ((c.tc : Thread Cert.AdMo.nD Cert.AdMo.τ).loc Cert.AdMo.main_arg4))
      ∧ r.2.sem = fun _ => 0)

def quiescent_AdMoIdeal [hAdMoIdeal : Cert.AdMoIdeal.Facts] : Prop :=
  ∀ (m : (ℓ : Loc Cert.AdMoIdeal.nD Cert.AdMoIdeal.τ Cert.AdMoIdeal.sig) → Buf (Elt Ideal) ℓ) (g : Dev Cert.AdMoIdeal.nD → PrngReg), Pre_AdMoIdeal m →
    θ_run (Cert.AdMoIdeal.defs (F := Ideal)) (onTc (τ := Cert.AdMoIdeal.τ) (Cert.AdMoIdeal.main (F := Ideal))) ⟨m, fun _ => 0, g⟩ (fun r => (∀ c : Dev Cert.AdMoIdeal.nD,
      r.2.mem ((c.tc : Thread Cert.AdMoIdeal.nD Cert.AdMoIdeal.τ).loc Cert.AdMoIdeal.main_arg0) = m ((c.tc : Thread Cert.AdMoIdeal.nD Cert.AdMoIdeal.τ).loc Cert.AdMoIdeal.main_arg0)
      ∧ r.2.mem ((c.tc : Thread Cert.AdMoIdeal.nD Cert.AdMoIdeal.τ).loc Cert.AdMoIdeal.main_arg1) = m ((c.tc : Thread Cert.AdMoIdeal.nD Cert.AdMoIdeal.τ).loc Cert.AdMoIdeal.main_arg1)
      ∧ r.2.mem ((c.tc : Thread Cert.AdMoIdeal.nD Cert.AdMoIdeal.τ).loc Cert.AdMoIdeal.main_arg2) = m ((c.tc : Thread Cert.AdMoIdeal.nD Cert.AdMoIdeal.τ).loc Cert.AdMoIdeal.main_arg2)
      ∧ r.2.mem ((c.tc : Thread Cert.AdMoIdeal.nD Cert.AdMoIdeal.τ).loc Cert.AdMoIdeal.main_arg3) = m ((c.tc : Thread Cert.AdMoIdeal.nD Cert.AdMoIdeal.τ).loc Cert.AdMoIdeal.main_arg3)
      ∧ r.2.mem ((c.tc : Thread Cert.AdMoIdeal.nD Cert.AdMoIdeal.τ).loc Cert.AdMoIdeal.main_arg4) = m ((c.tc : Thread Cert.AdMoIdeal.nD Cert.AdMoIdeal.τ).loc Cert.AdMoIdeal.main_arg4))
      ∧ r.2.sem = fun _ => 0)

def quiescent_AdMoRefIdeal [hAdMoRefIdeal : Cert.AdMoRefIdeal.Facts] : Prop :=
  ∀ (m : (ℓ : Loc Cert.AdMoRefIdeal.nD Cert.AdMoRefIdeal.τ Cert.AdMoRefIdeal.sig) → Buf (Elt Ideal) ℓ) (g : Dev Cert.AdMoRefIdeal.nD → PrngReg), Pre_AdMoRefIdeal m →
    θ_run (Cert.AdMoRefIdeal.defs (F := Ideal)) (onTc (τ := Cert.AdMoRefIdeal.τ) (Cert.AdMoRefIdeal.main (F := Ideal))) ⟨m, fun _ => 0, g⟩ (fun r => (∀ c : Dev Cert.AdMoRefIdeal.nD,
      r.2.mem ((c.tc : Thread Cert.AdMoRefIdeal.nD Cert.AdMoRefIdeal.τ).loc Cert.AdMoRefIdeal.main_arg0) = m ((c.tc : Thread Cert.AdMoRefIdeal.nD Cert.AdMoRefIdeal.τ).loc Cert.AdMoRefIdeal.main_arg0)
      ∧ r.2.mem ((c.tc : Thread Cert.AdMoRefIdeal.nD Cert.AdMoRefIdeal.τ).loc Cert.AdMoRefIdeal.main_arg1) = m ((c.tc : Thread Cert.AdMoRefIdeal.nD Cert.AdMoRefIdeal.τ).loc Cert.AdMoRefIdeal.main_arg1)
      ∧ r.2.mem ((c.tc : Thread Cert.AdMoRefIdeal.nD Cert.AdMoRefIdeal.τ).loc Cert.AdMoRefIdeal.main_arg2) = m ((c.tc : Thread Cert.AdMoRefIdeal.nD Cert.AdMoRefIdeal.τ).loc Cert.AdMoRefIdeal.main_arg2)
      ∧ r.2.mem ((c.tc : Thread Cert.AdMoRefIdeal.nD Cert.AdMoRefIdeal.τ).loc Cert.AdMoRefIdeal.main_arg3) = m ((c.tc : Thread Cert.AdMoRefIdeal.nD Cert.AdMoRefIdeal.τ).loc Cert.AdMoRefIdeal.main_arg3)
      ∧ r.2.mem ((c.tc : Thread Cert.AdMoRefIdeal.nD Cert.AdMoRefIdeal.τ).loc Cert.AdMoRefIdeal.main_arg4) = m ((c.tc : Thread Cert.AdMoRefIdeal.nD Cert.AdMoRefIdeal.τ).loc Cert.AdMoRefIdeal.main_arg4))
      ∧ r.2.sem = fun _ => 0)

def preserves_Sc_ScIdeal : Prop :=
  True

def algebraic_ScIdeal_ScRefIdeal [hScIdeal : Cert.ScIdeal.Facts] [hScRefIdeal : Cert.ScRefIdeal.Facts] : Prop :=
  ∀ (m : (ℓ : Loc Cert.ScIdeal.nD Cert.ScIdeal.τ Cert.ScIdeal.sig) → Buf (Elt Ideal) ℓ) (g : Dev Cert.ScIdeal.nD → PrngReg)
    (m' : (ℓ : Loc Cert.ScRefIdeal.nD Cert.ScRefIdeal.τ Cert.ScRefIdeal.sig) → Buf (Elt Ideal) ℓ) (g' : Dev Cert.ScRefIdeal.nD → PrngReg), Pre_ScIdeal m →
    (∀ c : Dev Cert.ScIdeal.nD,
      m' ((c.tc : Thread Cert.ScRefIdeal.nD Cert.ScRefIdeal.τ).loc Cert.ScRefIdeal.main_arg0) = m ((c.tc : Thread Cert.ScIdeal.nD Cert.ScIdeal.τ).loc Cert.ScIdeal.main_arg0)
      ∧ m' ((c.tc : Thread Cert.ScRefIdeal.nD Cert.ScRefIdeal.τ).loc Cert.ScRefIdeal.main_arg1) = m ((c.tc : Thread Cert.ScIdeal.nD Cert.ScIdeal.τ).loc Cert.ScIdeal.main_arg1)
      ∧ m' ((c.tc : Thread Cert.ScRefIdeal.nD Cert.ScRefIdeal.τ).loc Cert.ScRefIdeal.main_arg2) = m ((c.tc : Thread Cert.ScIdeal.nD Cert.ScIdeal.τ).loc Cert.ScIdeal.main_arg2)) →
    ∃ (v0 : (c : Dev Cert.ScIdeal.nD) → Buf (Elt Ideal) ((c.tc : Thread Cert.ScIdeal.nD Cert.ScIdeal.τ).loc Cert.ScIdeal.main_v0_0)) (v1 : (c : Dev Cert.ScIdeal.nD) → Buf (Elt Ideal) ((c.tc : Thread Cert.ScIdeal.nD Cert.ScIdeal.τ).loc Cert.ScIdeal.main_v0_1)) (v2 : (c : Dev Cert.ScIdeal.nD) → Buf (Elt Ideal) ((c.tc : Thread Cert.ScIdeal.nD Cert.ScIdeal.τ).loc Cert.ScIdeal.main_v0_2)) (v3 : (c : Dev Cert.ScIdeal.nD) → Buf (Elt Ideal) ((c.tc : Thread Cert.ScIdeal.nD Cert.ScIdeal.τ).loc Cert.ScIdeal.main_v0_3)),
      θ_run (Cert.ScIdeal.defs (F := Ideal)) (onTc (τ := Cert.ScIdeal.τ) (Cert.ScIdeal.main (F := Ideal))) ⟨m, fun _ => 0, g⟩ (fun r => ∀ c : Dev Cert.ScIdeal.nD,
          r.2.mem ((c.tc : Thread Cert.ScIdeal.nD Cert.ScIdeal.τ).loc Cert.ScIdeal.main_v0_0) = v0 c
          ∧ r.2.mem ((c.tc : Thread Cert.ScIdeal.nD Cert.ScIdeal.τ).loc Cert.ScIdeal.main_v0_1) = v1 c
          ∧ r.2.mem ((c.tc : Thread Cert.ScIdeal.nD Cert.ScIdeal.τ).loc Cert.ScIdeal.main_v0_2) = v2 c
          ∧ r.2.mem ((c.tc : Thread Cert.ScIdeal.nD Cert.ScIdeal.τ).loc Cert.ScIdeal.main_v0_3) = v3 c
          ∧ r.2.mem ((c.tc : Thread Cert.ScIdeal.nD Cert.ScIdeal.τ).loc Cert.ScIdeal.main_arg0) = m ((c.tc : Thread Cert.ScIdeal.nD Cert.ScIdeal.τ).loc Cert.ScIdeal.main_arg0)
          ∧ r.2.mem ((c.tc : Thread Cert.ScIdeal.nD Cert.ScIdeal.τ).loc Cert.ScIdeal.main_arg1) = m ((c.tc : Thread Cert.ScIdeal.nD Cert.ScIdeal.τ).loc Cert.ScIdeal.main_arg1)
          ∧ r.2.mem ((c.tc : Thread Cert.ScIdeal.nD Cert.ScIdeal.τ).loc Cert.ScIdeal.main_arg2) = m ((c.tc : Thread Cert.ScIdeal.nD Cert.ScIdeal.τ).loc Cert.ScIdeal.main_arg2))
      ∧ θ_run (Cert.ScRefIdeal.defs (F := Ideal)) (onTc (τ := Cert.ScRefIdeal.τ) (Cert.ScRefIdeal.main (F := Ideal))) ⟨m', fun _ => 0, g'⟩ (fun r => ∀ c : Dev Cert.ScRefIdeal.nD,
          r.2.mem ((c.tc : Thread Cert.ScRefIdeal.nD Cert.ScRefIdeal.τ).loc Cert.ScRefIdeal.main_v71) = v0 c
          ∧ r.2.mem ((c.tc : Thread Cert.ScRefIdeal.nD Cert.ScRefIdeal.τ).loc Cert.ScRefIdeal.main_v72) = v1 c
          ∧ r.2.mem ((c.tc : Thread Cert.ScRefIdeal.nD Cert.ScRefIdeal.τ).loc Cert.ScRefIdeal.main_v73) = v2 c
          ∧ r.2.mem ((c.tc : Thread Cert.ScRefIdeal.nD Cert.ScRefIdeal.τ).loc Cert.ScRefIdeal.main_v62) = v3 c
          ∧ r.2.mem ((c.tc : Thread Cert.ScRefIdeal.nD Cert.ScRefIdeal.τ).loc Cert.ScRefIdeal.main_arg0) = m' ((c.tc : Thread Cert.ScRefIdeal.nD Cert.ScRefIdeal.τ).loc Cert.ScRefIdeal.main_arg0)
          ∧ r.2.mem ((c.tc : Thread Cert.ScRefIdeal.nD Cert.ScRefIdeal.τ).loc Cert.ScRefIdeal.main_arg1) = m' ((c.tc : Thread Cert.ScRefIdeal.nD Cert.ScRefIdeal.τ).loc Cert.ScRefIdeal.main_arg1)
          ∧ r.2.mem ((c.tc : Thread Cert.ScRefIdeal.nD Cert.ScRefIdeal.τ).loc Cert.ScRefIdeal.main_arg2) = m' ((c.tc : Thread Cert.ScRefIdeal.nD Cert.ScRefIdeal.τ).loc Cert.ScRefIdeal.main_arg2))

def preserves_Dwo_DwoIdeal : Prop :=
  True

def algebraic_DwoIdeal_DwoRefIdeal [hDwoIdeal : Cert.DwoIdeal.Facts] [hDwoRefIdeal : Cert.DwoRefIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoRefIdeal.nD Cert.DwoRefIdeal.τ Cert.DwoRefIdeal.sig) → Buf (Elt Ideal) ℓ) (g' : Dev Cert.DwoRefIdeal.nD → PrngReg), Pre_DwoIdeal m →
    (∀ c : Dev Cert.DwoIdeal.nD,
      m' ((c.tc : Thread Cert.DwoRefIdeal.nD Cert.DwoRefIdeal.τ).loc Cert.DwoRefIdeal.main_arg0) = m ((c.tc : Thread Cert.DwoIdeal.nD Cert.DwoIdeal.τ).loc Cert.DwoIdeal.main_arg0)
      ∧ m' ((c.tc : Thread Cert.DwoRefIdeal.nD Cert.DwoRefIdeal.τ).loc Cert.DwoRefIdeal.main_arg1) = m ((c.tc : Thread Cert.DwoIdeal.nD Cert.DwoIdeal.τ).loc Cert.DwoIdeal.main_arg1)
      ∧ m' ((c.tc : Thread Cert.DwoRefIdeal.nD Cert.DwoRefIdeal.τ).loc Cert.DwoRefIdeal.main_arg2) = m ((c.tc : Thread Cert.DwoIdeal.nD Cert.DwoIdeal.τ).loc Cert.DwoIdeal.main_arg2)) →
    ∃ (v0 : (c : Dev Cert.DwoIdeal.nD) → Buf (Elt Ideal) ((c.tc : Thread Cert.DwoIdeal.nD Cert.DwoIdeal.τ).loc Cert.DwoIdeal.main_v0)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v0) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1)
          ∧ r.2.mem ((c.tc : Thread Cert.DwoIdeal.nD Cert.DwoIdeal.τ).loc Cert.DwoIdeal.main_arg2) = m ((c.tc : Thread Cert.DwoIdeal.nD Cert.DwoIdeal.τ).loc Cert.DwoIdeal.main_arg2))
      ∧ θ_run (Cert.DwoRefIdeal.defs (F := Ideal)) (onTc (τ := Cert.DwoRefIdeal.τ) (Cert.DwoRefIdeal.main (F := Ideal))) ⟨m', fun _ => 0, g'⟩ (fun r => ∀ c : Dev Cert.DwoRefIdeal.nD,
          r.2.mem ((c.tc : Thread Cert.DwoRefIdeal.nD Cert.DwoRefIdeal.τ).loc Cert.DwoRefIdeal.main_v6) = v0 c
          ∧ r.2.mem ((c.tc : Thread Cert.DwoRefIdeal.nD Cert.DwoRefIdeal.τ).loc Cert.DwoRefIdeal.main_arg0) = m' ((c.tc : Thread Cert.DwoRefIdeal.nD Cert.DwoRefIdeal.τ).loc Cert.DwoRefIdeal.main_arg0)
          ∧ r.2.mem ((c.tc : Thread Cert.DwoRefIdeal.nD Cert.DwoRefIdeal.τ).loc Cert.DwoRefIdeal.main_arg1) = m' ((c.tc : Thread Cert.DwoRefIdeal.nD Cert.DwoRefIdeal.τ).loc Cert.DwoRefIdeal.main_arg1)
          ∧ r.2.mem ((c.tc : Thread Cert.DwoRefIdeal.nD Cert.DwoRefIdeal.τ).loc Cert.DwoRefIdeal.main_arg2) = m' ((c.tc : Thread Cert.DwoRefIdeal.nD Cert.DwoRefIdeal.τ).loc Cert.DwoRefIdeal.main_arg2))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v2) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v14) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2))

def preserves_Dwi_DwiIdeal : Prop :=
  True

def algebraic_DwiIdeal_DwiRefIdeal [hDwiIdeal : Cert.DwiIdeal.Facts] [hDwiRefIdeal : Cert.DwiRefIdeal.Facts] : Prop :=
  ∀ (m : (ℓ : Loc Cert.DwiIdeal.nD Cert.DwiIdeal.τ Cert.DwiIdeal.sig) → Buf (Elt Ideal) ℓ) (g : Dev Cert.DwiIdeal.nD → PrngReg)
    (m' : (ℓ : Loc Cert.DwiRefIdeal.nD Cert.DwiRefIdeal.τ Cert.DwiRefIdeal.sig) → Buf (Elt Ideal) ℓ) (g' : Dev Cert.DwiRefIdeal.nD → PrngReg), Pre_DwiIdeal m →
    (∀ c : Dev Cert.DwiIdeal.nD,
      m' ((c.tc : Thread Cert.DwiRefIdeal.nD Cert.DwiRefIdeal.τ).loc Cert.DwiRefIdeal.main_arg0) = m ((c.tc : Thread Cert.DwiIdeal.nD Cert.DwiIdeal.τ).loc Cert.DwiIdeal.main_arg0)
      ∧ m' ((c.tc : Thread Cert.DwiRefIdeal.nD Cert.DwiRefIdeal.τ).loc Cert.DwiRefIdeal.main_arg1) = m ((c.tc : Thread Cert.DwiIdeal.nD Cert.DwiIdeal.τ).loc Cert.DwiIdeal.main_arg1)
      ∧ m' ((c.tc : Thread Cert.DwiRefIdeal.nD Cert.DwiRefIdeal.τ).loc Cert.DwiRefIdeal.main_arg2) = m ((c.tc : Thread Cert.DwiIdeal.nD Cert.DwiIdeal.τ).loc Cert.DwiIdeal.main_arg2)) →
    ∃ (v0 : (c : Dev Cert.DwiIdeal.nD) → Buf (Elt Ideal) ((c.tc : Thread Cert.DwiIdeal.nD Cert.DwiIdeal.τ).loc Cert.DwiIdeal.main_v0)),
      θ_run (Cert.DwiIdeal.defs (F := Ideal)) (onTc (τ := Cert.DwiIdeal.τ) (Cert.DwiIdeal.main (F := Ideal))) ⟨m, fun _ => 0, g⟩ (fun r => ∀ c : Dev Cert.DwiIdeal.nD,
          r.2.mem ((c.tc : Thread Cert.DwiIdeal.nD Cert.DwiIdeal.τ).loc Cert.DwiIdeal.main_v0) = v0 c
          ∧ r.2.mem ((c.tc : Thread Cert.DwiIdeal.nD Cert.DwiIdeal.τ).loc Cert.DwiIdeal.main_arg0) = m ((c.tc : Thread Cert.DwiIdeal.nD Cert.DwiIdeal.τ).loc Cert.DwiIdeal.main_arg0)
          ∧ r.2.mem ((c.tc : Thread Cert.DwiIdeal.nD Cert.DwiIdeal.τ).loc Cert.DwiIdeal.main_arg1) = m ((c.tc : Thread Cert.DwiIdeal.nD Cert.DwiIdeal.τ).loc Cert.DwiIdeal.main_arg1)
          ∧ r.2.mem ((c.tc : Thread Cert.DwiIdeal.nD Cert.DwiIdeal.τ).loc Cert.DwiIdeal.main_arg2) = m ((c.tc : Thread Cert.DwiIdeal.nD Cert.DwiIdeal.τ).loc Cert.DwiIdeal.main_arg2))
      ∧ θ_run (Cert.DwiRefIdeal.defs (F := Ideal)) (onTc (τ := Cert.DwiRefIdeal.τ) (Cert.DwiRefIdeal.main (F := Ideal))) ⟨m', fun _ => 0, g'⟩ (fun r => ∀ c : Dev Cert.DwiRefIdeal.nD,
          r.2.mem ((c.tc : Thread Cert.DwiRefIdeal.nD Cert.DwiRefIdeal.τ).loc Cert.DwiRefIdeal.main_v7) = v0 c
          ∧ r.2.mem ((c.tc : Thread Cert.DwiRefIdeal.nD Cert.DwiRefIdeal.τ).loc Cert.DwiRefIdeal.main_arg0) = m' ((c.tc : Thread Cert.DwiRefIdeal.nD Cert.DwiRefIdeal.τ).loc Cert.DwiRefIdeal.main_arg0)
          ∧ r.2.mem ((c.tc : Thread Cert.DwiRefIdeal.nD Cert.DwiRefIdeal.τ).loc Cert.DwiRefIdeal.main_arg1) = m' ((c.tc : Thread Cert.DwiRefIdeal.nD Cert.DwiRefIdeal.τ).loc Cert.DwiRefIdeal.main_arg1)
          ∧ r.2.mem ((c.tc : Thread Cert.DwiRefIdeal.nD Cert.DwiRefIdeal.τ).loc Cert.DwiRefIdeal.main_arg2) = m' ((c.tc : Thread Cert.DwiRefIdeal.nD Cert.DwiRefIdeal.τ).loc Cert.DwiRefIdeal.main_arg2))

def preserves_Dn_DnIdeal : Prop :=
  True

def algebraic_DnIdeal_DnRefIdeal [hDnIdeal : Cert.DnIdeal.Facts] [hDnRefIdeal : Cert.DnRefIdeal.Facts] : Prop :=
  ∀ (m : (ℓ : Loc Cert.DnIdeal.nD Cert.DnIdeal.τ Cert.DnIdeal.sig) → Buf (Elt Ideal) ℓ) (g : Dev Cert.DnIdeal.nD → PrngReg)
    (m' : (ℓ : Loc Cert.DnRefIdeal.nD Cert.DnRefIdeal.τ Cert.DnRefIdeal.sig) → Buf (Elt Ideal) ℓ) (g' : Dev Cert.DnRefIdeal.nD → PrngReg), Pre_DnIdeal m →
    (∀ c : Dev Cert.DnIdeal.nD,
      m' ((c.tc : Thread Cert.DnRefIdeal.nD Cert.DnRefIdeal.τ).loc Cert.DnRefIdeal.main_arg0) = m ((c.tc : Thread Cert.DnIdeal.nD Cert.DnIdeal.τ).loc Cert.DnIdeal.main_arg0)
      ∧ m' ((c.tc : Thread Cert.DnRefIdeal.nD Cert.DnRefIdeal.τ).loc Cert.DnRefIdeal.main_arg1) = m ((c.tc : Thread Cert.DnIdeal.nD Cert.DnIdeal.τ).loc Cert.DnIdeal.main_arg1)
      ∧ m' ((c.tc : Thread Cert.DnRefIdeal.nD Cert.DnRefIdeal.τ).loc Cert.DnRefIdeal.main_arg2) = m ((c.tc : Thread Cert.DnIdeal.nD Cert.DnIdeal.τ).loc Cert.DnIdeal.main_arg2)
      ∧ m' ((c.tc : Thread Cert.DnRefIdeal.nD Cert.DnRefIdeal.τ).loc Cert.DnRefIdeal.main_arg3) = m ((c.tc : Thread Cert.DnIdeal.nD Cert.DnIdeal.τ).loc Cert.DnIdeal.main_arg3)
      ∧ m' ((c.tc : Thread Cert.DnRefIdeal.nD Cert.DnRefIdeal.τ).loc Cert.DnRefIdeal.main_arg4) = m ((c.tc : Thread Cert.DnIdeal.nD Cert.DnIdeal.τ).loc Cert.DnIdeal.main_arg4)) →
    ∃ (v0 : (c : Dev Cert.DnIdeal.nD) → Buf (Elt Ideal) ((c.tc : Thread Cert.DnIdeal.nD Cert.DnIdeal.τ).loc Cert.DnIdeal.main_v4_0)) (v1 : (c : Dev Cert.DnIdeal.nD) → Buf (Elt Ideal) ((c.tc : Thread Cert.DnIdeal.nD Cert.DnIdeal.τ).loc Cert.DnIdeal.main_v4_1)) (v2 : (c : Dev Cert.DnIdeal.nD) → Buf (Elt Ideal) ((c.tc : Thread Cert.DnIdeal.nD Cert.DnIdeal.τ).loc Cert.DnIdeal.main_v4_2)),
      θ_run (Cert.DnIdeal.defs (F := Ideal)) (onTc (τ := Cert.DnIdeal.τ) (Cert.DnIdeal.main (F := Ideal))) ⟨m, fun _ => 0, g⟩ (fun r => ∀ c : Dev Cert.DnIdeal.nD,
          r.2.mem ((c.tc : Thread Cert.DnIdeal.nD Cert.DnIdeal.τ).loc Cert.DnIdeal.main_v4_0) = v0 c
          ∧ r.2.mem ((c.tc : Thread Cert.DnIdeal.nD Cert.DnIdeal.τ).loc Cert.DnIdeal.main_v4_1) = v1 c
          ∧ r.2.mem ((c.tc : Thread Cert.DnIdeal.nD Cert.DnIdeal.τ).loc Cert.DnIdeal.main_v4_2) = v2 c
          ∧ r.2.mem ((c.tc : Thread Cert.DnIdeal.nD Cert.DnIdeal.τ).loc Cert.DnIdeal.main_arg0) = m ((c.tc : Thread Cert.DnIdeal.nD Cert.DnIdeal.τ).loc Cert.DnIdeal.main_arg0)
          ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
          ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
          ∧ r.2.mem ((c.tc : Thread Cert.DnIdeal.nD Cert.DnIdeal.τ).loc Cert.DnIdeal.main_arg3) = m ((c.tc : Thread Cert.DnIdeal.nD Cert.DnIdeal.τ).loc Cert.DnIdeal.main_arg3)
          ∧ r.2.mem ((c.tc : Thread Cert.DnIdeal.nD Cert.DnIdeal.τ).loc Cert.DnIdeal.main_arg4) = m ((c.tc : Thread Cert.DnIdeal.nD Cert.DnIdeal.τ).loc Cert.DnIdeal.main_arg4))
      ∧ θ_run (Cert.DnRefIdeal.defs (F := Ideal)) (onTc (τ := Cert.DnRefIdeal.τ) (Cert.DnRefIdeal.main (F := Ideal))) ⟨m', fun _ => 0, g'⟩ (fun r => ∀ c : Dev Cert.DnRefIdeal.nD,
          r.2.mem ((c.tc : Thread Cert.DnRefIdeal.nD Cert.DnRefIdeal.τ).loc Cert.DnRefIdeal.main_v39) = v0 c
          ∧ r.2.mem ((c.tc : Thread Cert.DnRefIdeal.nD Cert.DnRefIdeal.τ).loc Cert.DnRefIdeal.main_v40) = v1 c
          ∧ r.2.mem ((c.tc : Thread Cert.DnRefIdeal.nD Cert.DnRefIdeal.τ).loc Cert.DnRefIdeal.main_v41) = v2 c
          ∧ r.2.mem ((c.tc : Thread Cert.DnRefIdeal.nD Cert.DnRefIdeal.τ).loc Cert.DnRefIdeal.main_arg0) = m' ((c.tc : Thread Cert.DnRefIdeal.nD Cert.DnRefIdeal.τ).loc Cert.DnRefIdeal.main_arg0)
          ∧ r.2.mem ((c.tc : Thread Cert.DnRefIdeal.nD Cert.DnRefIdeal.τ).loc Cert.DnRefIdeal.main_arg1) = m' ((c.tc : Thread Cert.DnRefIdeal.nD Cert.DnRefIdeal.τ).loc Cert.DnRefIdeal.main_arg1)
          ∧ r.2.mem ((c.tc : Thread Cert.DnRefIdeal.nD Cert.DnRefIdeal.τ).loc Cert.DnRefIdeal.main_arg2) = m' ((c.tc : Thread Cert.DnRefIdeal.nD Cert.DnRefIdeal.τ).loc Cert.DnRefIdeal.main_arg2)
          ∧ r.2.mem ((c.tc : Thread Cert.DnRefIdeal.nD Cert.DnRefIdeal.τ).loc Cert.DnRefIdeal.main_arg3) = m' ((c.tc : Thread Cert.DnRefIdeal.nD Cert.DnRefIdeal.τ).loc Cert.DnRefIdeal.main_arg3)
          ∧ r.2.mem ((c.tc : Thread Cert.DnRefIdeal.nD Cert.DnRefIdeal.τ).loc Cert.DnRefIdeal.main_arg4) = m' ((c.tc : Thread Cert.DnRefIdeal.nD Cert.DnRefIdeal.τ).loc Cert.DnRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_v5) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_v16) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v3_0)) (v1 : (c : Dev Cert.DxIdeal.nD) → Buf (Elt Ideal) ((c.tc : Thread Cert.DxIdeal.nD Cert.DxIdeal.τ).loc Cert.DxIdeal.main_v3_1)) (v2 : (c : Dev Cert.DxIdeal.nD) → Buf (Elt Ideal) ((c.tc : Thread Cert.DxIdeal.nD Cert.DxIdeal.τ).loc Cert.DxIdeal.main_v3_2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v3_0) = v0 c
          ∧ r.2.mem ((c.tc : Thread Cert.DxIdeal.nD Cert.DxIdeal.τ).loc Cert.DxIdeal.main_v3_1) = v1 c
          ∧ r.2.mem ((c.tc : Thread Cert.DxIdeal.nD Cert.DxIdeal.τ).loc Cert.DxIdeal.main_v3_2) = v2 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v40) = v0 c
          ∧ r.2.mem ((c.tc : Thread Cert.DxRefIdeal.nD Cert.DxRefIdeal.τ).loc Cert.DxRefIdeal.main_v41) = v1 c
          ∧ r.2.mem ((c.tc : Thread Cert.DxRefIdeal.nD Cert.DxRefIdeal.τ).loc Cert.DxRefIdeal.main_v42) = v2 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4))

def preserves_Xa_XaIdeal : Prop :=
  True

def algebraic_XaIdeal_XaRefIdeal_pre_xa_finite [hXaIdeal : Cert.XaIdeal.Facts] [hXaRefIdeal : Cert.XaRefIdeal.Facts] [hPre_xa_finite : Cert.Pre_xa_finite.Facts] : Prop :=
  ∀ (m : (ℓ : Loc Cert.XaIdeal.nD Cert.XaIdeal.τ Cert.XaIdeal.sig) → Buf (Elt Ideal) ℓ) (g : Dev Cert.XaIdeal.nD → PrngReg)
    (m' : (ℓ : Loc Cert.XaRefIdeal.nD Cert.XaRefIdeal.τ Cert.XaRefIdeal.sig) → Buf (Elt Ideal) ℓ) (g' : Dev Cert.XaRefIdeal.nD → PrngReg), Pre_XaIdeal_xa_finite m →
    (∀ c : Dev Cert.XaIdeal.nD,
      m' ((c.tc : Thread Cert.XaRefIdeal.nD Cert.XaRefIdeal.τ).loc Cert.XaRefIdeal.main_arg0) = m ((c.tc : Thread Cert.XaIdeal.nD Cert.XaIdeal.τ).loc Cert.XaIdeal.main_arg0)
      ∧ m' ((c.tc : Thread Cert.XaRefIdeal.nD Cert.XaRefIdeal.τ).loc Cert.XaRefIdeal.main_arg1) = m ((c.tc : Thread Cert.XaIdeal.nD Cert.XaIdeal.τ).loc Cert.XaIdeal.main_arg1)
      ∧ m' ((c.tc : Thread Cert.XaRefIdeal.nD Cert.XaRefIdeal.τ).loc Cert.XaRefIdeal.main_arg2) = m ((c.tc : Thread Cert.XaIdeal.nD Cert.XaIdeal.τ).loc Cert.XaIdeal.main_arg2)) →
    ∃ (v0 : (c : Dev Cert.XaIdeal.nD) → Buf (Elt Ideal) ((c.tc : Thread Cert.XaIdeal.nD Cert.XaIdeal.τ).loc Cert.XaIdeal.main_v1_0)) (v1 : (c : Dev Cert.XaIdeal.nD) → Buf (Elt Ideal) ((c.tc : Thread Cert.XaIdeal.nD Cert.XaIdeal.τ).loc Cert.XaIdeal.main_v4)),
      θ_run (Cert.XaIdeal.defs (F := Ideal)) (onTc (τ := Cert.XaIdeal.τ) (Cert.XaIdeal.main (F := Ideal))) ⟨m, fun _ => 0, g⟩ (fun r => ∀ c : Dev Cert.XaIdeal.nD,
          r.2.mem ((c.tc : Thread Cert.XaIdeal.nD Cert.XaIdeal.τ).loc Cert.XaIdeal.main_v1_0) = v0 c
          ∧ r.2.mem ((c.tc : Thread Cert.XaIdeal.nD Cert.XaIdeal.τ).loc Cert.XaIdeal.main_v4) = v1 c
          ∧ r.2.mem ((c.tc : Thread Cert.XaIdeal.nD Cert.XaIdeal.τ).loc Cert.XaIdeal.main_arg0) = m ((c.tc : Thread Cert.XaIdeal.nD Cert.XaIdeal.τ).loc Cert.XaIdeal.main_arg0)
          ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
          ∧ r.2.mem ((c.tc : Thread Cert.XaIdeal.nD Cert.XaIdeal.τ).loc Cert.XaIdeal.main_arg2) = m ((c.tc : Thread Cert.XaIdeal.nD Cert.XaIdeal.τ).loc Cert.XaIdeal.main_arg2))
      ∧ θ_run (Cert.XaRefIdeal.defs (F := Ideal)) (onTc (τ := Cert.XaRefIdeal.τ) (Cert.XaRefIdeal.main (F := Ideal))) ⟨m', fun _ => 0, g'⟩ (fun r => ∀ c : Dev Cert.XaRefIdeal.nD,
          r.2.mem ((c.tc : Thread Cert.XaRefIdeal.nD Cert.XaRefIdeal.τ).loc Cert.XaRefIdeal.main_v72) = v0 c
          ∧ r.2.mem ((c.tc : Thread Cert.XaRefIdeal.nD Cert.XaRefIdeal.τ).loc Cert.XaRefIdeal.main_v73) = v1 c
          ∧ r.2.mem ((c.tc : Thread Cert.XaRefIdeal.nD Cert.XaRefIdeal.τ).loc Cert.XaRefIdeal.main_arg0) = m' ((c.tc : Thread Cert.XaRefIdeal.nD Cert.XaRefIdeal.τ).loc Cert.XaRefIdeal.main_arg0)
          ∧ r.2.mem ((c.tc : Thread Cert.XaRefIdeal.nD Cert.XaRefIdeal.τ).loc Cert.XaRefIdeal.main_arg1) = m' ((c.tc : Thread Cert.XaRefIdeal.nD Cert.XaRefIdeal.τ).loc Cert.XaRefIdeal.main_arg1)
          ∧ r.2.mem ((c.tc : Thread Cert.XaRefIdeal.nD Cert.XaRefIdeal.τ).loc Cert.XaRefIdeal.main_arg2) = m' ((c.tc : Thread Cert.XaRefIdeal.nD Cert.XaRefIdeal.τ).loc Cert.XaRefIdeal.main_arg2))

def preserves_AdMin_AdMinIdeal : Prop :=
  True

def algebraic_AdMinIdeal_AdMinRefIdeal [hAdMinIdeal : Cert.AdMinIdeal.Facts] [hAdMinRefIdeal : Cert.AdMinRefIdeal.Facts] : Prop :=
  ∀ (m : (ℓ : Loc Cert.AdMinIdeal.nD Cert.AdMinIdeal.τ Cert.AdMinIdeal.sig) → Buf (Elt Ideal) ℓ) (g : Dev Cert.AdMinIdeal.nD → PrngReg)
    (m' : (ℓ : Loc Cert.AdMinRefIdeal.nD Cert.AdMinRefIdeal.τ Cert.AdMinRefIdeal.sig) → Buf (Elt Ideal) ℓ) (g' : Dev Cert.AdMinRefIdeal.nD → PrngReg), Pre_AdMinIdeal m →
    (∀ c : Dev Cert.AdMinIdeal.nD,
      m' ((c.tc : Thread Cert.AdMinRefIdeal.nD Cert.AdMinRefIdeal.τ).loc Cert.AdMinRefIdeal.main_arg0) = m ((c.tc : Thread Cert.AdMinIdeal.nD Cert.AdMinIdeal.τ).loc Cert.AdMinIdeal.main_arg0)
      ∧ m' ((c.tc : Thread Cert.AdMinRefIdeal.nD Cert.AdMinRefIdeal.τ).loc Cert.AdMinRefIdeal.main_arg1) = m ((c.tc : Thread Cert.AdMinIdeal.nD Cert.AdMinIdeal.τ).loc Cert.AdMinIdeal.main_arg1)
      ∧ m' ((c.tc : Thread Cert.AdMinRefIdeal.nD Cert.AdMinRefIdeal.τ).loc Cert.AdMinRefIdeal.main_arg2) = m ((c.tc : Thread Cert.AdMinIdeal.nD Cert.AdMinIdeal.τ).loc Cert.AdMinIdeal.main_arg2)
      ∧ m' ((c.tc : Thread Cert.AdMinRefIdeal.nD Cert.AdMinRefIdeal.τ).loc Cert.AdMinRefIdeal.main_arg3) = m ((c.tc : Thread Cert.AdMinIdeal.nD Cert.AdMinIdeal.τ).loc Cert.AdMinIdeal.main_arg3)) →
    ∃ (v0 : (c : Dev Cert.AdMinIdeal.nD) → Buf (Elt Ideal) ((c.tc : Thread Cert.AdMinIdeal.nD Cert.AdMinIdeal.τ).loc Cert.AdMinIdeal.main_v3_0)) (v1 : (c : Dev Cert.AdMinIdeal.nD) → Buf (Elt Ideal) ((c.tc : Thread Cert.AdMinIdeal.nD Cert.AdMinIdeal.τ).loc Cert.AdMinIdeal.main_v3_1)) (v2 : (c : Dev Cert.AdMinIdeal.nD) → Buf (Elt Ideal) ((c.tc : Thread Cert.AdMinIdeal.nD Cert.AdMinIdeal.τ).loc Cert.AdMinIdeal.main_v3_2)) (v3 : (c : Dev Cert.AdMinIdeal.nD) → Buf (Elt Ideal) ((c.tc : Thread Cert.AdMinIdeal.nD Cert.AdMinIdeal.τ).loc Cert.AdMinIdeal.main_v3_3)),
      θ_run (Cert.AdMinIdeal.defs (F := Ideal)) (onTc (τ := Cert.AdMinIdeal.τ) (Cert.AdMinIdeal.main (F := Ideal))) ⟨m, fun _ => 0, g⟩ (fun r => ∀ c : Dev Cert.AdMinIdeal.nD,
          r.2.mem ((c.tc : Thread Cert.AdMinIdeal.nD Cert.AdMinIdeal.τ).loc Cert.AdMinIdeal.main_v3_0) = v0 c
          ∧ r.2.mem ((c.tc : Thread Cert.AdMinIdeal.nD Cert.AdMinIdeal.τ).loc Cert.AdMinIdeal.main_v3_1) = v1 c
          ∧ r.2.mem ((c.tc : Thread Cert.AdMinIdeal.nD Cert.AdMinIdeal.τ).loc Cert.AdMinIdeal.main_v3_2) = v2 c
          ∧ r.2.mem ((c.tc : Thread Cert.AdMinIdeal.nD Cert.AdMinIdeal.τ).loc Cert.AdMinIdeal.main_v3_3) = v3 c
          ∧ r.2.mem ((c.tc : Thread Cert.AdMinIdeal.nD Cert.AdMinIdeal.τ).loc Cert.AdMinIdeal.main_arg0) = m ((c.tc : Thread Cert.AdMinIdeal.nD Cert.AdMinIdeal.τ).loc Cert.AdMinIdeal.main_arg0)
          ∧ r.2.mem ((c.tc : Thread Cert.AdMinIdeal.nD Cert.AdMinIdeal.τ).loc Cert.AdMinIdeal.main_arg1) = m ((c.tc : Thread Cert.AdMinIdeal.nD Cert.AdMinIdeal.τ).loc Cert.AdMinIdeal.main_arg1)
          ∧ r.2.mem ((c.tc : Thread Cert.AdMinIdeal.nD Cert.AdMinIdeal.τ).loc Cert.AdMinIdeal.main_arg2) = m ((c.tc : Thread Cert.AdMinIdeal.nD Cert.AdMinIdeal.τ).loc Cert.AdMinIdeal.main_arg2)
          ∧ r.2.mem ((c.tc : Thread Cert.AdMinIdeal.nD Cert.AdMinIdeal.τ).loc Cert.AdMinIdeal.main_arg3) = m ((c.tc : Thread Cert.AdMinIdeal.nD Cert.AdMinIdeal.τ).loc Cert.AdMinIdeal.main_arg3))
      ∧ θ_run (Cert.AdMinRefIdeal.defs (F := Ideal)) (onTc (τ := Cert.AdMinRefIdeal.τ) (Cert.AdMinRefIdeal.main (F := Ideal))) ⟨m', fun _ => 0, g'⟩ (fun r => ∀ c : Dev Cert.AdMinRefIdeal.nD,
          r.2.mem ((c.tc : Thread Cert.AdMinRefIdeal.nD Cert.AdMinRefIdeal.τ).loc Cert.AdMinRefIdeal.main_v26) = v0 c
          ∧ r.2.mem ((c.tc : Thread Cert.AdMinRefIdeal.nD Cert.AdMinRefIdeal.τ).loc Cert.AdMinRefIdeal.main_v27) = v1 c
          ∧ r.2.mem ((c.tc : Thread Cert.AdMinRefIdeal.nD Cert.AdMinRefIdeal.τ).loc Cert.AdMinRefIdeal.main_v28) = v2 c
          ∧ r.2.mem ((c.tc : Thread Cert.AdMinRefIdeal.nD Cert.AdMinRefIdeal.τ).loc Cert.AdMinRefIdeal.main_v29) = v3 c
          ∧ r.2.mem ((c.tc : Thread Cert.AdMinRefIdeal.nD Cert.AdMinRefIdeal.τ).loc Cert.AdMinRefIdeal.main_arg0) = m' ((c.tc : Thread Cert.AdMinRefIdeal.nD Cert.AdMinRefIdeal.τ).loc Cert.AdMinRefIdeal.main_arg0)
          ∧ r.2.mem ((c.tc : Thread Cert.AdMinRefIdeal.nD Cert.AdMinRefIdeal.τ).loc Cert.AdMinRefIdeal.main_arg1) = m' ((c.tc : Thread Cert.AdMinRefIdeal.nD Cert.AdMinRefIdeal.τ).loc Cert.AdMinRefIdeal.main_arg1)
          ∧ r.2.mem ((c.tc : Thread Cert.AdMinRefIdeal.nD Cert.AdMinRefIdeal.τ).loc Cert.AdMinRefIdeal.main_arg2) = m' ((c.tc : Thread Cert.AdMinRefIdeal.nD Cert.AdMinRefIdeal.τ).loc Cert.AdMinRefIdeal.main_arg2)
          ∧ r.2.mem ((c.tc : Thread Cert.AdMinRefIdeal.nD Cert.AdMinRefIdeal.τ).loc Cert.AdMinRefIdeal.main_arg3) = m' ((c.tc : Thread Cert.AdMinRefIdeal.nD Cert.AdMinRefIdeal.τ).loc Cert.AdMinRefIdeal.main_arg3))

def preserves_AdMuq_AdMuqIdeal : Prop :=
  True

def algebraic_AdMuqIdeal_AdMuqRefIdeal [hAdMuqIdeal : Cert.AdMuqIdeal.Facts] [hAdMuqRefIdeal : Cert.AdMuqRefIdeal.Facts] : Prop :=
  ∀ (m : (ℓ : Loc Cert.AdMuqIdeal.nD Cert.AdMuqIdeal.τ Cert.AdMuqIdeal.sig) → Buf (Elt Ideal) ℓ) (g : Dev Cert.AdMuqIdeal.nD → PrngReg)
    (m' : (ℓ : Loc Cert.AdMuqRefIdeal.nD Cert.AdMuqRefIdeal.τ Cert.AdMuqRefIdeal.sig) → Buf (Elt Ideal) ℓ) (g' : Dev Cert.AdMuqRefIdeal.nD → PrngReg), Pre_AdMuqIdeal m →
    (∀ c : Dev Cert.AdMuqIdeal.nD,
      m' ((c.tc : Thread Cert.AdMuqRefIdeal.nD Cert.AdMuqRefIdeal.τ).loc Cert.AdMuqRefIdeal.main_arg0) = m ((c.tc : Thread Cert.AdMuqIdeal.nD Cert.AdMuqIdeal.τ).loc Cert.AdMuqIdeal.main_arg0)
      ∧ m' ((c.tc : Thread Cert.AdMuqRefIdeal.nD Cert.AdMuqRefIdeal.τ).loc Cert.AdMuqRefIdeal.main_arg1) = m ((c.tc : Thread Cert.AdMuqIdeal.nD Cert.AdMuqIdeal.τ).loc Cert.AdMuqIdeal.main_arg1)
      ∧ m' ((c.tc : Thread Cert.AdMuqRefIdeal.nD Cert.AdMuqRefIdeal.τ).loc Cert.AdMuqRefIdeal.main_arg2) = m ((c.tc : Thread Cert.AdMuqIdeal.nD Cert.AdMuqIdeal.τ).loc Cert.AdMuqIdeal.main_arg2)
      ∧ m' ((c.tc : Thread Cert.AdMuqRefIdeal.nD Cert.AdMuqRefIdeal.τ).loc Cert.AdMuqRefIdeal.main_arg3) = m ((c.tc : Thread Cert.AdMuqIdeal.nD Cert.AdMuqIdeal.τ).loc Cert.AdMuqIdeal.main_arg3)) →
    ∃ (v0 : (c : Dev Cert.AdMuqIdeal.nD) → Buf (Elt Ideal) ((c.tc : Thread Cert.AdMuqIdeal.nD Cert.AdMuqIdeal.τ).loc Cert.AdMuqIdeal.main_v3_0)) (v1 : (c : Dev Cert.AdMuqIdeal.nD) → Buf (Elt Ideal) ((c.tc : Thread Cert.AdMuqIdeal.nD Cert.AdMuqIdeal.τ).loc Cert.AdMuqIdeal.main_v3_1)) (v2 : (c : Dev Cert.AdMuqIdeal.nD) → Buf (Elt Ideal) ((c.tc : Thread Cert.AdMuqIdeal.nD Cert.AdMuqIdeal.τ).loc Cert.AdMuqIdeal.main_v3_2)) (v3 : (c : Dev Cert.AdMuqIdeal.nD) → Buf (Elt Ideal) ((c.tc : Thread Cert.AdMuqIdeal.nD Cert.AdMuqIdeal.τ).loc Cert.AdMuqIdeal.main_v3_3)),
      θ_run (Cert.AdMuqIdeal.defs (F := Ideal)) (onTc (τ := Cert.AdMuqIdeal.τ) (Cert.AdMuqIdeal.main (F := Ideal))) ⟨m, fun _ => 0, g⟩ (fun r => ∀ c : Dev Cert.AdMuqIdeal.nD,
          r.2.mem ((c.tc : Thread Cert.AdMuqIdeal.nD Cert.AdMuqIdeal.τ).loc Cert.AdMuqIdeal.main_v3_0) = v0 c
          ∧ r.2.mem ((c.tc : Thread Cert.AdMuqIdeal.nD Cert.AdMuqIdeal.τ).loc Cert.AdMuqIdeal.main_v3_1) = v1 c
          ∧ r.2.mem ((c.tc : Thread Cert.AdMuqIdeal.nD Cert.AdMuqIdeal.τ).loc Cert.AdMuqIdeal.main_v3_2) = v2 c
          ∧ r.2.mem ((c.tc : Thread Cert.AdMuqIdeal.nD Cert.AdMuqIdeal.τ).loc Cert.AdMuqIdeal.main_v3_3) = v3 c
          ∧ r.2.mem ((c.tc : Thread Cert.AdMuqIdeal.nD Cert.AdMuqIdeal.τ).loc Cert.AdMuqIdeal.main_arg0) = m ((c.tc : Thread Cert.AdMuqIdeal.nD Cert.AdMuqIdeal.τ).loc Cert.AdMuqIdeal.main_arg0)
          ∧ r.2.mem ((c.tc : Thread Cert.AdMuqIdeal.nD Cert.AdMuqIdeal.τ).loc Cert.AdMuqIdeal.main_arg1) = m ((c.tc : Thread Cert.AdMuqIdeal.nD Cert.AdMuqIdeal.τ).loc Cert.AdMuqIdeal.main_arg1)
          ∧ r.2.mem ((c.tc : Thread Cert.AdMuqIdeal.nD Cert.AdMuqIdeal.τ).loc Cert.AdMuqIdeal.main_arg2) = m ((c.tc : Thread Cert.AdMuqIdeal.nD Cert.AdMuqIdeal.τ).loc Cert.AdMuqIdeal.main_arg2)
          ∧ r.2.mem ((c.tc : Thread Cert.AdMuqIdeal.nD Cert.AdMuqIdeal.τ).loc Cert.AdMuqIdeal.main_arg3) = m ((c.tc : Thread Cert.AdMuqIdeal.nD Cert.AdMuqIdeal.τ).loc Cert.AdMuqIdeal.main_arg3))
      ∧ θ_run (Cert.AdMuqRefIdeal.defs (F := Ideal)) (onTc (τ := Cert.AdMuqRefIdeal.τ) (Cert.AdMuqRefIdeal.main (F := Ideal))) ⟨m', fun _ => 0, g'⟩ (fun r => ∀ c : Dev Cert.AdMuqRefIdeal.nD,
          r.2.mem ((c.tc : Thread Cert.AdMuqRefIdeal.nD Cert.AdMuqRefIdeal.τ).loc Cert.AdMuqRefIdeal.main_v26) = v0 c
          ∧ r.2.mem ((c.tc : Thread Cert.AdMuqRefIdeal.nD Cert.AdMuqRefIdeal.τ).loc Cert.AdMuqRefIdeal.main_v27) = v1 c
          ∧ r.2.mem ((c.tc : Thread Cert.AdMuqRefIdeal.nD Cert.AdMuqRefIdeal.τ).loc Cert.AdMuqRefIdeal.main_v28) = v2 c
          ∧ r.2.mem ((c.tc : Thread Cert.AdMuqRefIdeal.nD Cert.AdMuqRefIdeal.τ).loc Cert.AdMuqRefIdeal.main_v29) = v3 c
          ∧ r.2.mem ((c.tc : Thread Cert.AdMuqRefIdeal.nD Cert.AdMuqRefIdeal.τ).loc Cert.AdMuqRefIdeal.main_arg0) = m' ((c.tc : Thread Cert.AdMuqRefIdeal.nD Cert.AdMuqRefIdeal.τ).loc Cert.AdMuqRefIdeal.main_arg0)
          ∧ r.2.mem ((c.tc : Thread Cert.AdMuqRefIdeal.nD Cert.AdMuqRefIdeal.τ).loc Cert.AdMuqRefIdeal.main_arg1) = m' ((c.tc : Thread Cert.AdMuqRefIdeal.nD Cert.AdMuqRefIdeal.τ).loc Cert.AdMuqRefIdeal.main_arg1)
          ∧ r.2.mem ((c.tc : Thread Cert.AdMuqRefIdeal.nD Cert.AdMuqRefIdeal.τ).loc Cert.AdMuqRefIdeal.main_arg2) = m' ((c.tc : Thread Cert.AdMuqRefIdeal.nD Cert.AdMuqRefIdeal.τ).loc Cert.AdMuqRefIdeal.main_arg2)
          ∧ r.2.mem ((c.tc : Thread Cert.AdMuqRefIdeal.nD Cert.AdMuqRefIdeal.τ).loc Cert.AdMuqRefIdeal.main_arg3) = m' ((c.tc : Thread Cert.AdMuqRefIdeal.nD Cert.AdMuqRefIdeal.τ).loc Cert.AdMuqRefIdeal.main_arg3))

def preserves_AdMukv_AdMukvIdeal : Prop :=
  True

def algebraic_AdMukvIdeal_AdMukvRefIdeal [hAdMukvIdeal : Cert.AdMukvIdeal.Facts] [hAdMukvRefIdeal : Cert.AdMukvRefIdeal.Facts] : Prop :=
  ∀ (m : (ℓ : Loc Cert.AdMukvIdeal.nD Cert.AdMukvIdeal.τ Cert.AdMukvIdeal.sig) → Buf (Elt Ideal) ℓ) (g : Dev Cert.AdMukvIdeal.nD → PrngReg)
    (m' : (ℓ : Loc Cert.AdMukvRefIdeal.nD Cert.AdMukvRefIdeal.τ Cert.AdMukvRefIdeal.sig) → Buf (Elt Ideal) ℓ) (g' : Dev Cert.AdMukvRefIdeal.nD → PrngReg), Pre_AdMukvIdeal m →
    (∀ c : Dev Cert.AdMukvIdeal.nD,
      m' ((c.tc : Thread Cert.AdMukvRefIdeal.nD Cert.AdMukvRefIdeal.τ).loc Cert.AdMukvRefIdeal.main_arg0) = m ((c.tc : Thread Cert.AdMukvIdeal.nD Cert.AdMukvIdeal.τ).loc Cert.AdMukvIdeal.main_arg0)
      ∧ m' ((c.tc : Thread Cert.AdMukvRefIdeal.nD Cert.AdMukvRefIdeal.τ).loc Cert.AdMukvRefIdeal.main_arg1) = m ((c.tc : Thread Cert.AdMukvIdeal.nD Cert.AdMukvIdeal.τ).loc Cert.AdMukvIdeal.main_arg1)
      ∧ m' ((c.tc : Thread Cert.AdMukvRefIdeal.nD Cert.AdMukvRefIdeal.τ).loc Cert.AdMukvRefIdeal.main_arg2) = m ((c.tc : Thread Cert.AdMukvIdeal.nD Cert.AdMukvIdeal.τ).loc Cert.AdMukvIdeal.main_arg2)
      ∧ m' ((c.tc : Thread Cert.AdMukvRefIdeal.nD Cert.AdMukvRefIdeal.τ).loc Cert.AdMukvRefIdeal.main_arg3) = m ((c.tc : Thread Cert.AdMukvIdeal.nD Cert.AdMukvIdeal.τ).loc Cert.AdMukvIdeal.main_arg3)) →
    ∃ (v0 : (c : Dev Cert.AdMukvIdeal.nD) → Buf (Elt Ideal) ((c.tc : Thread Cert.AdMukvIdeal.nD Cert.AdMukvIdeal.τ).loc Cert.AdMukvIdeal.main_v3_0)) (v1 : (c : Dev Cert.AdMukvIdeal.nD) → Buf (Elt Ideal) ((c.tc : Thread Cert.AdMukvIdeal.nD Cert.AdMukvIdeal.τ).loc Cert.AdMukvIdeal.main_v3_1)) (v2 : (c : Dev Cert.AdMukvIdeal.nD) → Buf (Elt Ideal) ((c.tc : Thread Cert.AdMukvIdeal.nD Cert.AdMukvIdeal.τ).loc Cert.AdMukvIdeal.main_v3_2)) (v3 : (c : Dev Cert.AdMukvIdeal.nD) → Buf (Elt Ideal) ((c.tc : Thread Cert.AdMukvIdeal.nD Cert.AdMukvIdeal.τ).loc Cert.AdMukvIdeal.main_v3_3)),
      θ_run (Cert.AdMukvIdeal.defs (F := Ideal)) (onTc (τ := Cert.AdMukvIdeal.τ) (Cert.AdMukvIdeal.main (F := Ideal))) ⟨m, fun _ => 0, g⟩ (fun r => ∀ c : Dev Cert.AdMukvIdeal.nD,
          r.2.mem ((c.tc : Thread Cert.AdMukvIdeal.nD Cert.AdMukvIdeal.τ).loc Cert.AdMukvIdeal.main_v3_0) = v0 c
          ∧ r.2.mem ((c.tc : Thread Cert.AdMukvIdeal.nD Cert.AdMukvIdeal.τ).loc Cert.AdMukvIdeal.main_v3_1) = v1 c
          ∧ r.2.mem ((c.tc : Thread Cert.AdMukvIdeal.nD Cert.AdMukvIdeal.τ).loc Cert.AdMukvIdeal.main_v3_2) = v2 c
          ∧ r.2.mem ((c.tc : Thread Cert.AdMukvIdeal.nD Cert.AdMukvIdeal.τ).loc Cert.AdMukvIdeal.main_v3_3) = v3 c
          ∧ r.2.mem ((c.tc : Thread Cert.AdMukvIdeal.nD Cert.AdMukvIdeal.τ).loc Cert.AdMukvIdeal.main_arg0) = m ((c.tc : Thread Cert.AdMukvIdeal.nD Cert.AdMukvIdeal.τ).loc Cert.AdMukvIdeal.main_arg0)
          ∧ r.2.mem ((c.tc : Thread Cert.AdMukvIdeal.nD Cert.AdMukvIdeal.τ).loc Cert.AdMukvIdeal.main_arg1) = m ((c.tc : Thread Cert.AdMukvIdeal.nD Cert.AdMukvIdeal.τ).loc Cert.AdMukvIdeal.main_arg1)
          ∧ r.2.mem ((c.tc : Thread Cert.AdMukvIdeal.nD Cert.AdMukvIdeal.τ).loc Cert.AdMukvIdeal.main_arg2) = m ((c.tc : Thread Cert.AdMukvIdeal.nD Cert.AdMukvIdeal.τ).loc Cert.AdMukvIdeal.main_arg2)
          ∧ r.2.mem ((c.tc : Thread Cert.AdMukvIdeal.nD Cert.AdMukvIdeal.τ).loc Cert.AdMukvIdeal.main_arg3) = m ((c.tc : Thread Cert.AdMukvIdeal.nD Cert.AdMukvIdeal.τ).loc Cert.AdMukvIdeal.main_arg3))
      ∧ θ_run (Cert.AdMukvRefIdeal.defs (F := Ideal)) (onTc (τ := Cert.AdMukvRefIdeal.τ) (Cert.AdMukvRefIdeal.main (F := Ideal))) ⟨m', fun _ => 0, g'⟩ (fun r => ∀ c : Dev Cert.AdMukvRefIdeal.nD,
          r.2.mem ((c.tc : Thread Cert.AdMukvRefIdeal.nD Cert.AdMukvRefIdeal.τ).loc Cert.AdMukvRefIdeal.main_v26) = v0 c
          ∧ r.2.mem ((c.tc : Thread Cert.AdMukvRefIdeal.nD Cert.AdMukvRefIdeal.τ).loc Cert.AdMukvRefIdeal.main_v27) = v1 c
          ∧ r.2.mem ((c.tc : Thread Cert.AdMukvRefIdeal.nD Cert.AdMukvRefIdeal.τ).loc Cert.AdMukvRefIdeal.main_v28) = v2 c
          ∧ r.2.mem ((c.tc : Thread Cert.AdMukvRefIdeal.nD Cert.AdMukvRefIdeal.τ).loc Cert.AdMukvRefIdeal.main_v29) = v3 c
          ∧ r.2.mem ((c.tc : Thread Cert.AdMukvRefIdeal.nD Cert.AdMukvRefIdeal.τ).loc Cert.AdMukvRefIdeal.main_arg0) = m' ((c.tc : Thread Cert.AdMukvRefIdeal.nD Cert.AdMukvRefIdeal.τ).loc Cert.AdMukvRefIdeal.main_arg0)
          ∧ r.2.mem ((c.tc : Thread Cert.AdMukvRefIdeal.nD Cert.AdMukvRefIdeal.τ).loc Cert.AdMukvRefIdeal.main_arg1) = m' ((c.tc : Thread Cert.AdMukvRefIdeal.nD Cert.AdMukvRefIdeal.τ).loc Cert.AdMukvRefIdeal.main_arg1)
          ∧ r.2.mem ((c.tc : Thread Cert.AdMukvRefIdeal.nD Cert.AdMukvRefIdeal.τ).loc Cert.AdMukvRefIdeal.main_arg2) = m' ((c.tc : Thread Cert.AdMukvRefIdeal.nD Cert.AdMukvRefIdeal.τ).loc Cert.AdMukvRefIdeal.main_arg2)
          ∧ r.2.mem ((c.tc : Thread Cert.AdMukvRefIdeal.nD Cert.AdMukvRefIdeal.τ).loc Cert.AdMukvRefIdeal.main_arg3) = m' ((c.tc : Thread Cert.AdMukvRefIdeal.nD Cert.AdMukvRefIdeal.τ).loc Cert.AdMukvRefIdeal.main_arg3))

def preserves_AdGin_AdGinIdeal : Prop :=
  True

def algebraic_AdGinIdeal_AdGinRefIdeal [hAdGinIdeal : Cert.AdGinIdeal.Facts] [hAdGinRefIdeal : Cert.AdGinRefIdeal.Facts] : Prop :=
  ∀ (m : (ℓ : Loc Cert.AdGinIdeal.nD Cert.AdGinIdeal.τ Cert.AdGinIdeal.sig) → Buf (Elt Ideal) ℓ) (g : Dev Cert.AdGinIdeal.nD → PrngReg)
    (m' : (ℓ : Loc Cert.AdGinRefIdeal.nD Cert.AdGinRefIdeal.τ Cert.AdGinRefIdeal.sig) → Buf (Elt Ideal) ℓ) (g' : Dev Cert.AdGinRefIdeal.nD → PrngReg), Pre_AdGinIdeal m →
    (∀ c : Dev Cert.AdGinIdeal.nD,
      m' ((c.tc : Thread Cert.AdGinRefIdeal.nD Cert.AdGinRefIdeal.τ).loc Cert.AdGinRefIdeal.main_arg0) = m ((c.tc : Thread Cert.AdGinIdeal.nD Cert.AdGinIdeal.τ).loc Cert.AdGinIdeal.main_arg0)
      ∧ m' ((c.tc : Thread Cert.AdGinRefIdeal.nD Cert.AdGinRefIdeal.τ).loc Cert.AdGinRefIdeal.main_arg1) = m ((c.tc : Thread Cert.AdGinIdeal.nD Cert.AdGinIdeal.τ).loc Cert.AdGinIdeal.main_arg1)
      ∧ m' ((c.tc : Thread Cert.AdGinRefIdeal.nD Cert.AdGinRefIdeal.τ).loc Cert.AdGinRefIdeal.main_arg2) = m ((c.tc : Thread Cert.AdGinIdeal.nD Cert.AdGinIdeal.τ).loc Cert.AdGinIdeal.main_arg2)
      ∧ m' ((c.tc : Thread Cert.AdGinRefIdeal.nD Cert.AdGinRefIdeal.τ).loc Cert.AdGinRefIdeal.main_arg3) = m ((c.tc : Thread Cert.AdGinIdeal.nD Cert.AdGinIdeal.τ).loc Cert.AdGinIdeal.main_arg3)) →
    ∃ (v0 : (c : Dev Cert.AdGinIdeal.nD) → Buf (Elt Ideal) ((c.tc : Thread Cert.AdGinIdeal.nD Cert.AdGinIdeal.τ).loc Cert.AdGinIdeal.main_v3_0)) (v1 : (c : Dev Cert.AdGinIdeal.nD) → Buf (Elt Ideal) ((c.tc : Thread Cert.AdGinIdeal.nD Cert.AdGinIdeal.τ).loc Cert.AdGinIdeal.main_v3_1)) (v2 : (c : Dev Cert.AdGinIdeal.nD) → Buf (Elt Ideal) ((c.tc : Thread Cert.AdGinIdeal.nD Cert.AdGinIdeal.τ).loc Cert.AdGinIdeal.main_v3_2)) (v3 : (c : Dev Cert.AdGinIdeal.nD) → Buf (Elt Ideal) ((c.tc : Thread Cert.AdGinIdeal.nD Cert.AdGinIdeal.τ).loc Cert.AdGinIdeal.main_v3_3)),
      θ_run (Cert.AdGinIdeal.defs (F := Ideal)) (onTc (τ := Cert.AdGinIdeal.τ) (Cert.AdGinIdeal.main (F := Ideal))) ⟨m, fun _ => 0, g⟩ (fun r => ∀ c : Dev Cert.AdGinIdeal.nD,
          r.2.mem ((c.tc : Thread Cert.AdGinIdeal.nD Cert.AdGinIdeal.τ).loc Cert.AdGinIdeal.main_v3_0) = v0 c
          ∧ r.2.mem ((c.tc : Thread Cert.AdGinIdeal.nD Cert.AdGinIdeal.τ).loc Cert.AdGinIdeal.main_v3_1) = v1 c
          ∧ r.2.mem ((c.tc : Thread Cert.AdGinIdeal.nD Cert.AdGinIdeal.τ).loc Cert.AdGinIdeal.main_v3_2) = v2 c
          ∧ r.2.mem ((c.tc : Thread Cert.AdGinIdeal.nD Cert.AdGinIdeal.τ).loc Cert.AdGinIdeal.main_v3_3) = v3 c
          ∧ r.2.mem ((c.tc : Thread Cert.AdGinIdeal.nD Cert.AdGinIdeal.τ).loc Cert.AdGinIdeal.main_arg0) = m ((c.tc : Thread Cert.AdGinIdeal.nD Cert.AdGinIdeal.τ).loc Cert.AdGinIdeal.main_arg0)
          ∧ r.2.mem ((c.tc : Thread Cert.AdGinIdeal.nD Cert.AdGinIdeal.τ).loc Cert.AdGinIdeal.main_arg1) = m ((c.tc : Thread Cert.AdGinIdeal.nD Cert.AdGinIdeal.τ).loc Cert.AdGinIdeal.main_arg1)
          ∧ r.2.mem ((c.tc : Thread Cert.AdGinIdeal.nD Cert.AdGinIdeal.τ).loc Cert.AdGinIdeal.main_arg2) = m ((c.tc : Thread Cert.AdGinIdeal.nD Cert.AdGinIdeal.τ).loc Cert.AdGinIdeal.main_arg2)
          ∧ r.2.mem ((c.tc : Thread Cert.AdGinIdeal.nD Cert.AdGinIdeal.τ).loc Cert.AdGinIdeal.main_arg3) = m ((c.tc : Thread Cert.AdGinIdeal.nD Cert.AdGinIdeal.τ).loc Cert.AdGinIdeal.main_arg3))
      ∧ θ_run (Cert.AdGinRefIdeal.defs (F := Ideal)) (onTc (τ := Cert.AdGinRefIdeal.τ) (Cert.AdGinRefIdeal.main (F := Ideal))) ⟨m', fun _ => 0, g'⟩ (fun r => ∀ c : Dev Cert.AdGinRefIdeal.nD,
          r.2.mem ((c.tc : Thread Cert.AdGinRefIdeal.nD Cert.AdGinRefIdeal.τ).loc Cert.AdGinRefIdeal.main_v26) = v0 c
          ∧ r.2.mem ((c.tc : Thread Cert.AdGinRefIdeal.nD Cert.AdGinRefIdeal.τ).loc Cert.AdGinRefIdeal.main_v27) = v1 c
          ∧ r.2.mem ((c.tc : Thread Cert.AdGinRefIdeal.nD Cert.AdGinRefIdeal.τ).loc Cert.AdGinRefIdeal.main_v28) = v2 c
          ∧ r.2.mem ((c.tc : Thread Cert.AdGinRefIdeal.nD Cert.AdGinRefIdeal.τ).loc Cert.AdGinRefIdeal.main_v29) = v3 c
          ∧ r.2.mem ((c.tc : Thread Cert.AdGinRefIdeal.nD Cert.AdGinRefIdeal.τ).loc Cert.AdGinRefIdeal.main_arg0) = m' ((c.tc : Thread Cert.AdGinRefIdeal.nD Cert.AdGinRefIdeal.τ).loc Cert.AdGinRefIdeal.main_arg0)
          ∧ r.2.mem ((c.tc : Thread Cert.AdGinRefIdeal.nD Cert.AdGinRefIdeal.τ).loc Cert.AdGinRefIdeal.main_arg1) = m' ((c.tc : Thread Cert.AdGinRefIdeal.nD Cert.AdGinRefIdeal.τ).loc Cert.AdGinRefIdeal.main_arg1)
          ∧ r.2.mem ((c.tc : Thread Cert.AdGinRefIdeal.nD Cert.AdGinRefIdeal.τ).loc Cert.AdGinRefIdeal.main_arg2) = m' ((c.tc : Thread Cert.AdGinRefIdeal.nD Cert.AdGinRefIdeal.τ).loc Cert.AdGinRefIdeal.main_arg2)
          ∧ r.2.mem ((c.tc : Thread Cert.AdGinRefIdeal.nD Cert.AdGinRefIdeal.τ).loc Cert.AdGinRefIdeal.main_arg3) = m' ((c.tc : Thread Cert.AdGinRefIdeal.nD Cert.AdGinRefIdeal.τ).loc Cert.AdGinRefIdeal.main_arg3))

def preserves_AdSin_AdSinIdeal : Prop :=
  True

def algebraic_AdSinIdeal_AdSinRefIdeal [hAdSinIdeal : Cert.AdSinIdeal.Facts] [hAdSinRefIdeal : Cert.AdSinRefIdeal.Facts] : Prop :=
  ∀ (m : (ℓ : Loc Cert.AdSinIdeal.nD Cert.AdSinIdeal.τ Cert.AdSinIdeal.sig) → Buf (Elt Ideal) ℓ) (g : Dev Cert.AdSinIdeal.nD → PrngReg)
    (m' : (ℓ : Loc Cert.AdSinRefIdeal.nD Cert.AdSinRefIdeal.τ Cert.AdSinRefIdeal.sig) → Buf (Elt Ideal) ℓ) (g' : Dev Cert.AdSinRefIdeal.nD → PrngReg), Pre_AdSinIdeal m →
    (∀ c : Dev Cert.AdSinIdeal.nD,
      m' ((c.tc : Thread Cert.AdSinRefIdeal.nD Cert.AdSinRefIdeal.τ).loc Cert.AdSinRefIdeal.main_arg0) = m ((c.tc : Thread Cert.AdSinIdeal.nD Cert.AdSinIdeal.τ).loc Cert.AdSinIdeal.main_arg0)
      ∧ m' ((c.tc : Thread Cert.AdSinRefIdeal.nD Cert.AdSinRefIdeal.τ).loc Cert.AdSinRefIdeal.main_arg1) = m ((c.tc : Thread Cert.AdSinIdeal.nD Cert.AdSinIdeal.τ).loc Cert.AdSinIdeal.main_arg1)
      ∧ m' ((c.tc : Thread Cert.AdSinRefIdeal.nD Cert.AdSinRefIdeal.τ).loc Cert.AdSinRefIdeal.main_arg2) = m ((c.tc : Thread Cert.AdSinIdeal.nD Cert.AdSinIdeal.τ).loc Cert.AdSinIdeal.main_arg2)
      ∧ m' ((c.tc : Thread Cert.AdSinRefIdeal.nD Cert.AdSinRefIdeal.τ).loc Cert.AdSinRefIdeal.main_arg3) = m ((c.tc : Thread Cert.AdSinIdeal.nD Cert.AdSinIdeal.τ).loc Cert.AdSinIdeal.main_arg3)) →
    ∃ (v0 : (c : Dev Cert.AdSinIdeal.nD) → Buf (Elt Ideal) ((c.tc : Thread Cert.AdSinIdeal.nD Cert.AdSinIdeal.τ).loc Cert.AdSinIdeal.main_v3_0)) (v1 : (c : Dev Cert.AdSinIdeal.nD) → Buf (Elt Ideal) ((c.tc : Thread Cert.AdSinIdeal.nD Cert.AdSinIdeal.τ).loc Cert.AdSinIdeal.main_v3_1)) (v2 : (c : Dev Cert.AdSinIdeal.nD) → Buf (Elt Ideal) ((c.tc : Thread Cert.AdSinIdeal.nD Cert.AdSinIdeal.τ).loc Cert.AdSinIdeal.main_v3_2)) (v3 : (c : Dev Cert.AdSinIdeal.nD) → Buf (Elt Ideal) ((c.tc : Thread Cert.AdSinIdeal.nD Cert.AdSinIdeal.τ).loc Cert.AdSinIdeal.main_v3_3)),
      θ_run (Cert.AdSinIdeal.defs (F := Ideal)) (onTc (τ := Cert.AdSinIdeal.τ) (Cert.AdSinIdeal.main (F := Ideal))) ⟨m, fun _ => 0, g⟩ (fun r => ∀ c : Dev Cert.AdSinIdeal.nD,
          r.2.mem ((c.tc : Thread Cert.AdSinIdeal.nD Cert.AdSinIdeal.τ).loc Cert.AdSinIdeal.main_v3_0) = v0 c
          ∧ r.2.mem ((c.tc : Thread Cert.AdSinIdeal.nD Cert.AdSinIdeal.τ).loc Cert.AdSinIdeal.main_v3_1) = v1 c
          ∧ r.2.mem ((c.tc : Thread Cert.AdSinIdeal.nD Cert.AdSinIdeal.τ).loc Cert.AdSinIdeal.main_v3_2) = v2 c
          ∧ r.2.mem ((c.tc : Thread Cert.AdSinIdeal.nD Cert.AdSinIdeal.τ).loc Cert.AdSinIdeal.main_v3_3) = v3 c
          ∧ r.2.mem ((c.tc : Thread Cert.AdSinIdeal.nD Cert.AdSinIdeal.τ).loc Cert.AdSinIdeal.main_arg0) = m ((c.tc : Thread Cert.AdSinIdeal.nD Cert.AdSinIdeal.τ).loc Cert.AdSinIdeal.main_arg0)
          ∧ r.2.mem ((c.tc : Thread Cert.AdSinIdeal.nD Cert.AdSinIdeal.τ).loc Cert.AdSinIdeal.main_arg1) = m ((c.tc : Thread Cert.AdSinIdeal.nD Cert.AdSinIdeal.τ).loc Cert.AdSinIdeal.main_arg1)
          ∧ r.2.mem ((c.tc : Thread Cert.AdSinIdeal.nD Cert.AdSinIdeal.τ).loc Cert.AdSinIdeal.main_arg2) = m ((c.tc : Thread Cert.AdSinIdeal.nD Cert.AdSinIdeal.τ).loc Cert.AdSinIdeal.main_arg2)
          ∧ r.2.mem ((c.tc : Thread Cert.AdSinIdeal.nD Cert.AdSinIdeal.τ).loc Cert.AdSinIdeal.main_arg3) = m ((c.tc : Thread Cert.AdSinIdeal.nD Cert.AdSinIdeal.τ).loc Cert.AdSinIdeal.main_arg3))
      ∧ θ_run (Cert.AdSinRefIdeal.defs (F := Ideal)) (onTc (τ := Cert.AdSinRefIdeal.τ) (Cert.AdSinRefIdeal.main (F := Ideal))) ⟨m', fun _ => 0, g'⟩ (fun r => ∀ c : Dev Cert.AdSinRefIdeal.nD,
          r.2.mem ((c.tc : Thread Cert.AdSinRefIdeal.nD Cert.AdSinRefIdeal.τ).loc Cert.AdSinRefIdeal.main_v26) = v0 c
          ∧ r.2.mem ((c.tc : Thread Cert.AdSinRefIdeal.nD Cert.AdSinRefIdeal.τ).loc Cert.AdSinRefIdeal.main_v27) = v1 c
          ∧ r.2.mem ((c.tc : Thread Cert.AdSinRefIdeal.nD Cert.AdSinRefIdeal.τ).loc Cert.AdSinRefIdeal.main_v28) = v2 c
          ∧ r.2.mem ((c.tc : Thread Cert.AdSinRefIdeal.nD Cert.AdSinRefIdeal.τ).loc Cert.AdSinRefIdeal.main_v29) = v3 c
          ∧ r.2.mem ((c.tc : Thread Cert.AdSinRefIdeal.nD Cert.AdSinRefIdeal.τ).loc Cert.AdSinRefIdeal.main_arg0) = m' ((c.tc : Thread Cert.AdSinRefIdeal.nD Cert.AdSinRefIdeal.τ).loc Cert.AdSinRefIdeal.main_arg0)
          ∧ r.2.mem ((c.tc : Thread Cert.AdSinRefIdeal.nD Cert.AdSinRefIdeal.τ).loc Cert.AdSinRefIdeal.main_arg1) = m' ((c.tc : Thread Cert.AdSinRefIdeal.nD Cert.AdSinRefIdeal.τ).loc Cert.AdSinRefIdeal.main_arg1)
          ∧ r.2.mem ((c.tc : Thread Cert.AdSinRefIdeal.nD Cert.AdSinRefIdeal.τ).loc Cert.AdSinRefIdeal.main_arg2) = m' ((c.tc : Thread Cert.AdSinRefIdeal.nD Cert.AdSinRefIdeal.τ).loc Cert.AdSinRefIdeal.main_arg2)
          ∧ r.2.mem ((c.tc : Thread Cert.AdSinRefIdeal.nD Cert.AdSinRefIdeal.τ).loc Cert.AdSinRefIdeal.main_arg3) = m' ((c.tc : Thread Cert.AdSinRefIdeal.nD Cert.AdSinRefIdeal.τ).loc Cert.AdSinRefIdeal.main_arg3))

def preserves_AdGo_AdGoIdeal : Prop :=
  True

def algebraic_AdGoIdeal_AdGoRefIdeal [hAdGoIdeal : Cert.AdGoIdeal.Facts] [hAdGoRefIdeal : Cert.AdGoRefIdeal.Facts] : Prop :=
  ∀ (m : (ℓ : Loc Cert.AdGoIdeal.nD Cert.AdGoIdeal.τ Cert.AdGoIdeal.sig) → Buf (Elt Ideal) ℓ) (g : Dev Cert.AdGoIdeal.nD → PrngReg)
    (m' : (ℓ : Loc Cert.AdGoRefIdeal.nD Cert.AdGoRefIdeal.τ Cert.AdGoRefIdeal.sig) → Buf (Elt Ideal) ℓ) (g' : Dev Cert.AdGoRefIdeal.nD → PrngReg), Pre_AdGoIdeal m →
    (∀ c : Dev Cert.AdGoIdeal.nD,
      m' ((c.tc : Thread Cert.AdGoRefIdeal.nD Cert.AdGoRefIdeal.τ).loc Cert.AdGoRefIdeal.main_arg0) = m ((c.tc : Thread Cert.AdGoIdeal.nD Cert.AdGoIdeal.τ).loc Cert.AdGoIdeal.main_arg0)
      ∧ m' ((c.tc : Thread Cert.AdGoRefIdeal.nD Cert.AdGoRefIdeal.τ).loc Cert.AdGoRefIdeal.main_arg1) = m ((c.tc : Thread Cert.AdGoIdeal.nD Cert.AdGoIdeal.τ).loc Cert.AdGoIdeal.main_arg1)
      ∧ m' ((c.tc : Thread Cert.AdGoRefIdeal.nD Cert.AdGoRefIdeal.τ).loc Cert.AdGoRefIdeal.main_arg2) = m ((c.tc : Thread Cert.AdGoIdeal.nD Cert.AdGoIdeal.τ).loc Cert.AdGoIdeal.main_arg2)
      ∧ m' ((c.tc : Thread Cert.AdGoRefIdeal.nD Cert.AdGoRefIdeal.τ).loc Cert.AdGoRefIdeal.main_arg3) = m ((c.tc : Thread Cert.AdGoIdeal.nD Cert.AdGoIdeal.τ).loc Cert.AdGoIdeal.main_arg3)) →
    ∃ (v0 : (c : Dev Cert.AdGoIdeal.nD) → Buf (Elt Ideal) ((c.tc : Thread Cert.AdGoIdeal.nD Cert.AdGoIdeal.τ).loc Cert.AdGoIdeal.main_v3_0)) (v1 : (c : Dev Cert.AdGoIdeal.nD) → Buf (Elt Ideal) ((c.tc : Thread Cert.AdGoIdeal.nD Cert.AdGoIdeal.τ).loc Cert.AdGoIdeal.main_v3_1)) (v2 : (c : Dev Cert.AdGoIdeal.nD) → Buf (Elt Ideal) ((c.tc : Thread Cert.AdGoIdeal.nD Cert.AdGoIdeal.τ).loc Cert.AdGoIdeal.main_v3_2)) (v3 : (c : Dev Cert.AdGoIdeal.nD) → Buf (Elt Ideal) ((c.tc : Thread Cert.AdGoIdeal.nD Cert.AdGoIdeal.τ).loc Cert.AdGoIdeal.main_v3_3)),
      θ_run (Cert.AdGoIdeal.defs (F := Ideal)) (onTc (τ := Cert.AdGoIdeal.τ) (Cert.AdGoIdeal.main (F := Ideal))) ⟨m, fun _ => 0, g⟩ (fun r => ∀ c : Dev Cert.AdGoIdeal.nD,
          r.2.mem ((c.tc : Thread Cert.AdGoIdeal.nD Cert.AdGoIdeal.τ).loc Cert.AdGoIdeal.main_v3_0) = v0 c
          ∧ r.2.mem ((c.tc : Thread Cert.AdGoIdeal.nD Cert.AdGoIdeal.τ).loc Cert.AdGoIdeal.main_v3_1) = v1 c
          ∧ r.2.mem ((c.tc : Thread Cert.AdGoIdeal.nD Cert.AdGoIdeal.τ).loc Cert.AdGoIdeal.main_v3_2) = v2 c
          ∧ r.2.mem ((c.tc : Thread Cert.AdGoIdeal.nD Cert.AdGoIdeal.τ).loc Cert.AdGoIdeal.main_v3_3) = v3 c
          ∧ r.2.mem ((c.tc : Thread Cert.AdGoIdeal.nD Cert.AdGoIdeal.τ).loc Cert.AdGoIdeal.main_arg0) = m ((c.tc : Thread Cert.AdGoIdeal.nD Cert.AdGoIdeal.τ).loc Cert.AdGoIdeal.main_arg0)
          ∧ r.2.mem ((c.tc : Thread Cert.AdGoIdeal.nD Cert.AdGoIdeal.τ).loc Cert.AdGoIdeal.main_arg1) = m ((c.tc : Thread Cert.AdGoIdeal.nD Cert.AdGoIdeal.τ).loc Cert.AdGoIdeal.main_arg1)
          ∧ r.2.mem ((c.tc : Thread Cert.AdGoIdeal.nD Cert.AdGoIdeal.τ).loc Cert.AdGoIdeal.main_arg2) = m ((c.tc : Thread Cert.AdGoIdeal.nD Cert.AdGoIdeal.τ).loc Cert.AdGoIdeal.main_arg2)
          ∧ r.2.mem ((c.tc : Thread Cert.AdGoIdeal.nD Cert.AdGoIdeal.τ).loc Cert.AdGoIdeal.main_arg3) = m ((c.tc : Thread Cert.AdGoIdeal.nD Cert.AdGoIdeal.τ).loc Cert.AdGoIdeal.main_arg3))
      ∧ θ_run (Cert.AdGoRefIdeal.defs (F := Ideal)) (onTc (τ := Cert.AdGoRefIdeal.τ) (Cert.AdGoRefIdeal.main (F := Ideal))) ⟨m', fun _ => 0, g'⟩ (fun r => ∀ c : Dev Cert.AdGoRefIdeal.nD,
          r.2.mem ((c.tc : Thread Cert.AdGoRefIdeal.nD Cert.AdGoRefIdeal.τ).loc Cert.AdGoRefIdeal.main_v27) = v0 c
          ∧ r.2.mem ((c.tc : Thread Cert.AdGoRefIdeal.nD Cert.AdGoRefIdeal.τ).loc Cert.AdGoRefIdeal.main_v28) = v1 c
          ∧ r.2.mem ((c.tc : Thread Cert.AdGoRefIdeal.nD Cert.AdGoRefIdeal.τ).loc Cert.AdGoRefIdeal.main_v29) = v2 c
          ∧ r.2.mem ((c.tc : Thread Cert.AdGoRefIdeal.nD Cert.AdGoRefIdeal.τ).loc Cert.AdGoRefIdeal.main_v30) = v3 c
          ∧ r.2.mem ((c.tc : Thread Cert.AdGoRefIdeal.nD Cert.AdGoRefIdeal.τ).loc Cert.AdGoRefIdeal.main_arg0) = m' ((c.tc : Thread Cert.AdGoRefIdeal.nD Cert.AdGoRefIdeal.τ).loc Cert.AdGoRefIdeal.main_arg0)
          ∧ r.2.mem ((c.tc : Thread Cert.AdGoRefIdeal.nD Cert.AdGoRefIdeal.τ).loc Cert.AdGoRefIdeal.main_arg1) = m' ((c.tc : Thread Cert.AdGoRefIdeal.nD Cert.AdGoRefIdeal.τ).loc Cert.AdGoRefIdeal.main_arg1)
          ∧ r.2.mem ((c.tc : Thread Cert.AdGoRefIdeal.nD Cert.AdGoRefIdeal.τ).loc Cert.AdGoRefIdeal.main_arg2) = m' ((c.tc : Thread Cert.AdGoRefIdeal.nD Cert.AdGoRefIdeal.τ).loc Cert.AdGoRefIdeal.main_arg2)
          ∧ r.2.mem ((c.tc : Thread Cert.AdGoRefIdeal.nD Cert.AdGoRefIdeal.τ).loc Cert.AdGoRefIdeal.main_arg3) = m' ((c.tc : Thread Cert.AdGoRefIdeal.nD Cert.AdGoRefIdeal.τ).loc Cert.AdGoRefIdeal.main_arg3))

def preserves_AdSo_AdSoIdeal : Prop :=
  True

def algebraic_AdSoIdeal_AdSoRefIdeal [hAdSoIdeal : Cert.AdSoIdeal.Facts] [hAdSoRefIdeal : Cert.AdSoRefIdeal.Facts] : Prop :=
  ∀ (m : (ℓ : Loc Cert.AdSoIdeal.nD Cert.AdSoIdeal.τ Cert.AdSoIdeal.sig) → Buf (Elt Ideal) ℓ) (g : Dev Cert.AdSoIdeal.nD → PrngReg)
    (m' : (ℓ : Loc Cert.AdSoRefIdeal.nD Cert.AdSoRefIdeal.τ Cert.AdSoRefIdeal.sig) → Buf (Elt Ideal) ℓ) (g' : Dev Cert.AdSoRefIdeal.nD → PrngReg), Pre_AdSoIdeal m →
    (∀ c : Dev Cert.AdSoIdeal.nD,
      m' ((c.tc : Thread Cert.AdSoRefIdeal.nD Cert.AdSoRefIdeal.τ).loc Cert.AdSoRefIdeal.main_arg0) = m ((c.tc : Thread Cert.AdSoIdeal.nD Cert.AdSoIdeal.τ).loc Cert.AdSoIdeal.main_arg0)
      ∧ m' ((c.tc : Thread Cert.AdSoRefIdeal.nD Cert.AdSoRefIdeal.τ).loc Cert.AdSoRefIdeal.main_arg1) = m ((c.tc : Thread Cert.AdSoIdeal.nD Cert.AdSoIdeal.τ).loc Cert.AdSoIdeal.main_arg1)
      ∧ m' ((c.tc : Thread Cert.AdSoRefIdeal.nD Cert.AdSoRefIdeal.τ).loc Cert.AdSoRefIdeal.main_arg2) = m ((c.tc : Thread Cert.AdSoIdeal.nD Cert.AdSoIdeal.τ).loc Cert.AdSoIdeal.main_arg2)
      ∧ m' ((c.tc : Thread Cert.AdSoRefIdeal.nD Cert.AdSoRefIdeal.τ).loc Cert.AdSoRefIdeal.main_arg3) = m ((c.tc : Thread Cert.AdSoIdeal.nD Cert.AdSoIdeal.τ).loc Cert.AdSoIdeal.main_arg3)) →
    ∃ (v0 : (c : Dev Cert.AdSoIdeal.nD) → Buf (Elt Ideal) ((c.tc : Thread Cert.AdSoIdeal.nD Cert.AdSoIdeal.τ).loc Cert.AdSoIdeal.main_v3_0)) (v1 : (c : Dev Cert.AdSoIdeal.nD) → Buf (Elt Ideal) ((c.tc : Thread Cert.AdSoIdeal.nD Cert.AdSoIdeal.τ).loc Cert.AdSoIdeal.main_v3_1)) (v2 : (c : Dev Cert.AdSoIdeal.nD) → Buf (Elt Ideal) ((c.tc : Thread Cert.AdSoIdeal.nD Cert.AdSoIdeal.τ).loc Cert.AdSoIdeal.main_v3_2)) (v3 : (c : Dev Cert.AdSoIdeal.nD) → Buf (Elt Ideal) ((c.tc : Thread Cert.AdSoIdeal.nD Cert.AdSoIdeal.τ).loc Cert.AdSoIdeal.main_v3_3)),
      θ_run (Cert.AdSoIdeal.defs (F := Ideal)) (onTc (τ := Cert.AdSoIdeal.τ) (Cert.AdSoIdeal.main (F := Ideal))) ⟨m, fun _ => 0, g⟩ (fun r => ∀ c : Dev Cert.AdSoIdeal.nD,
          r.2.mem ((c.tc : Thread Cert.AdSoIdeal.nD Cert.AdSoIdeal.τ).loc Cert.AdSoIdeal.main_v3_0) = v0 c
          ∧ r.2.mem ((c.tc : Thread Cert.AdSoIdeal.nD Cert.AdSoIdeal.τ).loc Cert.AdSoIdeal.main_v3_1) = v1 c
          ∧ r.2.mem ((c.tc : Thread Cert.AdSoIdeal.nD Cert.AdSoIdeal.τ).loc Cert.AdSoIdeal.main_v3_2) = v2 c
          ∧ r.2.mem ((c.tc : Thread Cert.AdSoIdeal.nD Cert.AdSoIdeal.τ).loc Cert.AdSoIdeal.main_v3_3) = v3 c
          ∧ r.2.mem ((c.tc : Thread Cert.AdSoIdeal.nD Cert.AdSoIdeal.τ).loc Cert.AdSoIdeal.main_arg0) = m ((c.tc : Thread Cert.AdSoIdeal.nD Cert.AdSoIdeal.τ).loc Cert.AdSoIdeal.main_arg0)
          ∧ r.2.mem ((c.tc : Thread Cert.AdSoIdeal.nD Cert.AdSoIdeal.τ).loc Cert.AdSoIdeal.main_arg1) = m ((c.tc : Thread Cert.AdSoIdeal.nD Cert.AdSoIdeal.τ).loc Cert.AdSoIdeal.main_arg1)
          ∧ r.2.mem ((c.tc : Thread Cert.AdSoIdeal.nD Cert.AdSoIdeal.τ).loc Cert.AdSoIdeal.main_arg2) = m ((c.tc : Thread Cert.AdSoIdeal.nD Cert.AdSoIdeal.τ).loc Cert.AdSoIdeal.main_arg2)
          ∧ r.2.mem ((c.tc : Thread Cert.AdSoIdeal.nD Cert.AdSoIdeal.τ).loc Cert.AdSoIdeal.main_arg3) = m ((c.tc : Thread Cert.AdSoIdeal.nD Cert.AdSoIdeal.τ).loc Cert.AdSoIdeal.main_arg3))
      ∧ θ_run (Cert.AdSoRefIdeal.defs (F := Ideal)) (onTc (τ := Cert.AdSoRefIdeal.τ) (Cert.AdSoRefIdeal.main (F := Ideal))) ⟨m', fun _ => 0, g'⟩ (fun r => ∀ c : Dev Cert.AdSoRefIdeal.nD,
          r.2.mem ((c.tc : Thread Cert.AdSoRefIdeal.nD Cert.AdSoRefIdeal.τ).loc Cert.AdSoRefIdeal.main_v27) = v0 c
          ∧ r.2.mem ((c.tc : Thread Cert.AdSoRefIdeal.nD Cert.AdSoRefIdeal.τ).loc Cert.AdSoRefIdeal.main_v28) = v1 c
          ∧ r.2.mem ((c.tc : Thread Cert.AdSoRefIdeal.nD Cert.AdSoRefIdeal.τ).loc Cert.AdSoRefIdeal.main_v29) = v2 c
          ∧ r.2.mem ((c.tc : Thread Cert.AdSoRefIdeal.nD Cert.AdSoRefIdeal.τ).loc Cert.AdSoRefIdeal.main_v30) = v3 c
          ∧ r.2.mem ((c.tc : Thread Cert.AdSoRefIdeal.nD Cert.AdSoRefIdeal.τ).loc Cert.AdSoRefIdeal.main_arg0) = m' ((c.tc : Thread Cert.AdSoRefIdeal.nD Cert.AdSoRefIdeal.τ).loc Cert.AdSoRefIdeal.main_arg0)
          ∧ r.2.mem ((c.tc : Thread Cert.AdSoRefIdeal.nD Cert.AdSoRefIdeal.τ).loc Cert.AdSoRefIdeal.main_arg1) = m' ((c.tc : Thread Cert.AdSoRefIdeal.nD Cert.AdSoRefIdeal.τ).loc Cert.AdSoRefIdeal.main_arg1)
          ∧ r.2.mem ((c.tc : Thread Cert.AdSoRefIdeal.nD Cert.AdSoRefIdeal.τ).loc Cert.AdSoRefIdeal.main_arg2) = m' ((c.tc : Thread Cert.AdSoRefIdeal.nD Cert.AdSoRefIdeal.τ).loc Cert.AdSoRefIdeal.main_arg2)
          ∧ r.2.mem ((c.tc : Thread Cert.AdSoRefIdeal.nD Cert.AdSoRefIdeal.τ).loc Cert.AdSoRefIdeal.main_arg3) = m' ((c.tc : Thread Cert.AdSoRefIdeal.nD Cert.AdSoRefIdeal.τ).loc Cert.AdSoRefIdeal.main_arg3))

def preserves_AdFi_AdFiIdeal : Prop :=
  True

def algebraic_AdFiIdeal_AdFiRefIdeal [hAdFiIdeal : Cert.AdFiIdeal.Facts] [hAdFiRefIdeal : Cert.AdFiRefIdeal.Facts] : Prop :=
  ∀ (m : (ℓ : Loc Cert.AdFiIdeal.nD Cert.AdFiIdeal.τ Cert.AdFiIdeal.sig) → Buf (Elt Ideal) ℓ) (g : Dev Cert.AdFiIdeal.nD → PrngReg)
    (m' : (ℓ : Loc Cert.AdFiRefIdeal.nD Cert.AdFiRefIdeal.τ Cert.AdFiRefIdeal.sig) → Buf (Elt Ideal) ℓ) (g' : Dev Cert.AdFiRefIdeal.nD → PrngReg), Pre_AdFiIdeal m →
    (∀ c : Dev Cert.AdFiIdeal.nD,
      m' ((c.tc : Thread Cert.AdFiRefIdeal.nD Cert.AdFiRefIdeal.τ).loc Cert.AdFiRefIdeal.main_arg0) = m ((c.tc : Thread Cert.AdFiIdeal.nD Cert.AdFiIdeal.τ).loc Cert.AdFiIdeal.main_arg0)
      ∧ m' ((c.tc : Thread Cert.AdFiRefIdeal.nD Cert.AdFiRefIdeal.τ).loc Cert.AdFiRefIdeal.main_arg1) = m ((c.tc : Thread Cert.AdFiIdeal.nD Cert.AdFiIdeal.τ).loc Cert.AdFiIdeal.main_arg1)
      ∧ m' ((c.tc : Thread Cert.AdFiRefIdeal.nD Cert.AdFiRefIdeal.τ).loc Cert.AdFiRefIdeal.main_arg2) = m ((c.tc : Thread Cert.AdFiIdeal.nD Cert.AdFiIdeal.τ).loc Cert.AdFiIdeal.main_arg2)
      ∧ m' ((c.tc : Thread Cert.AdFiRefIdeal.nD Cert.AdFiRefIdeal.τ).loc Cert.AdFiRefIdeal.main_arg3) = m ((c.tc : Thread Cert.AdFiIdeal.nD Cert.AdFiIdeal.τ).loc Cert.AdFiIdeal.main_arg3)
      ∧ m' ((c.tc : Thread Cert.AdFiRefIdeal.nD Cert.AdFiRefIdeal.τ).loc Cert.AdFiRefIdeal.main_arg4) = m ((c.tc : Thread Cert.AdFiIdeal.nD Cert.AdFiIdeal.τ).loc Cert.AdFiIdeal.main_arg4)
      ∧ m' ((c.tc : Thread Cert.AdFiRefIdeal.nD Cert.AdFiRefIdeal.τ).loc Cert.AdFiRefIdeal.main_arg5) = m ((c.tc : Thread Cert.AdFiIdeal.nD Cert.AdFiIdeal.τ).loc Cert.AdFiIdeal.main_arg5)) →
    ∃ (v0 : (c : Dev Cert.AdFiIdeal.nD) → Buf (Elt Ideal) ((c.tc : Thread Cert.AdFiIdeal.nD Cert.AdFiIdeal.τ).loc Cert.AdFiIdeal.main_v11_0)) (v1 : (c : Dev Cert.AdFiIdeal.nD) → Buf (Elt Ideal) ((c.tc : Thread Cert.AdFiIdeal.nD Cert.AdFiIdeal.τ).loc Cert.AdFiIdeal.main_v11_1)) (v2 : (c : Dev Cert.AdFiIdeal.nD) → Buf (Elt Ideal) ((c.tc : Thread Cert.AdFiIdeal.nD Cert.AdFiIdeal.τ).loc Cert.AdFiIdeal.main_v11_2)) (v3 : (c : Dev Cert.AdFiIdeal.nD) → Buf (Elt Ideal) ((c.tc : Thread Cert.AdFiIdeal.nD Cert.AdFiIdeal.τ).loc Cert.AdFiIdeal.main_v11_3)),
      θ_run (Cert.AdFiIdeal.defs (F := Ideal)) (onTc (τ := Cert.AdFiIdeal.τ) (Cert.AdFiIdeal.main (F := Ideal))) ⟨m, fun _ => 0, g⟩ (fun r => ∀ c : Dev Cert.AdFiIdeal.nD,
          r.2.mem ((c.tc : Thread Cert.AdFiIdeal.nD Cert.AdFiIdeal.τ).loc Cert.AdFiIdeal.main_v11_0) = v0 c
          ∧ r.2.mem ((c.tc : Thread Cert.AdFiIdeal.nD Cert.AdFiIdeal.τ).loc Cert.AdFiIdeal.main_v11_1) = v1 c
          ∧ r.2.mem ((c.tc : Thread Cert.AdFiIdeal.nD Cert.AdFiIdeal.τ).loc Cert.AdFiIdeal.main_v11_2) = v2 c
          ∧ r.2.mem ((c.tc : Thread Cert.AdFiIdeal.nD Cert.AdFiIdeal.τ).loc Cert.AdFiIdeal.main_v11_3) = v3 c
          ∧ r.2.mem ((c.tc : Thread Cert.AdFiIdeal.nD Cert.AdFiIdeal.τ).loc Cert.AdFiIdeal.main_arg0) = m ((c.tc : Thread Cert.AdFiIdeal.nD Cert.AdFiIdeal.τ).loc Cert.AdFiIdeal.main_arg0)
          ∧ r.2.mem ((c.tc : Thread Cert.AdFiIdeal.nD Cert.AdFiIdeal.τ).loc Cert.AdFiIdeal.main_arg1) = m ((c.tc : Thread Cert.AdFiIdeal.nD Cert.AdFiIdeal.τ).loc Cert.AdFiIdeal.main_arg1)
          ∧ r.2.mem ((c.tc : Thread Cert.AdFiIdeal.nD Cert.AdFiIdeal.τ).loc Cert.AdFiIdeal.main_arg2) = m ((c.tc : Thread Cert.AdFiIdeal.nD Cert.AdFiIdeal.τ).loc Cert.AdFiIdeal.main_arg2)
          ∧ r.2.mem ((c.tc : Thread Cert.AdFiIdeal.nD Cert.AdFiIdeal.τ).loc Cert.AdFiIdeal.main_arg3) = m ((c.tc : Thread Cert.AdFiIdeal.nD Cert.AdFiIdeal.τ).loc Cert.AdFiIdeal.main_arg3)
          ∧ r.2.mem ((c.tc : Thread Cert.AdFiIdeal.nD Cert.AdFiIdeal.τ).loc Cert.AdFiIdeal.main_arg4) = m ((c.tc : Thread Cert.AdFiIdeal.nD Cert.AdFiIdeal.τ).loc Cert.AdFiIdeal.main_arg4)
          ∧ r.2.mem ((c.tc : Thread Cert.AdFiIdeal.nD Cert.AdFiIdeal.τ).loc Cert.AdFiIdeal.main_arg5) = m ((c.tc : Thread Cert.AdFiIdeal.nD Cert.AdFiIdeal.τ).loc Cert.AdFiIdeal.main_arg5))
      ∧ θ_run (Cert.AdFiRefIdeal.defs (F := Ideal)) (onTc (τ := Cert.AdFiRefIdeal.τ) (Cert.AdFiRefIdeal.main (F := Ideal))) ⟨m', fun _ => 0, g'⟩ (fun r => ∀ c : Dev Cert.AdFiRefIdeal.nD,
          r.2.mem ((c.tc : Thread Cert.AdFiRefIdeal.nD Cert.AdFiRefIdeal.τ).loc Cert.AdFiRefIdeal.main_v32) = v0 c
          ∧ r.2.mem ((c.tc : Thread Cert.AdFiRefIdeal.nD Cert.AdFiRefIdeal.τ).loc Cert.AdFiRefIdeal.main_v33) = v1 c
          ∧ r.2.mem ((c.tc : Thread Cert.AdFiRefIdeal.nD Cert.AdFiRefIdeal.τ).loc Cert.AdFiRefIdeal.main_v34) = v2 c
          ∧ r.2.mem ((c.tc : Thread Cert.AdFiRefIdeal.nD Cert.AdFiRefIdeal.τ).loc Cert.AdFiRefIdeal.main_v35) = v3 c
          ∧ r.2.mem ((c.tc : Thread Cert.AdFiRefIdeal.nD Cert.AdFiRefIdeal.τ).loc Cert.AdFiRefIdeal.main_arg0) = m' ((c.tc : Thread Cert.AdFiRefIdeal.nD Cert.AdFiRefIdeal.τ).loc Cert.AdFiRefIdeal.main_arg0)
          ∧ r.2.mem ((c.tc : Thread Cert.AdFiRefIdeal.nD Cert.AdFiRefIdeal.τ).loc Cert.AdFiRefIdeal.main_arg1) = m' ((c.tc : Thread Cert.AdFiRefIdeal.nD Cert.AdFiRefIdeal.τ).loc Cert.AdFiRefIdeal.main_arg1)
          ∧ r.2.mem ((c.tc : Thread Cert.AdFiRefIdeal.nD Cert.AdFiRefIdeal.τ).loc Cert.AdFiRefIdeal.main_arg2) = m' ((c.tc : Thread Cert.AdFiRefIdeal.nD Cert.AdFiRefIdeal.τ).loc Cert.AdFiRefIdeal.main_arg2)
          ∧ r.2.mem ((c.tc : Thread Cert.AdFiRefIdeal.nD Cert.AdFiRefIdeal.τ).loc Cert.AdFiRefIdeal.main_arg3) = m' ((c.tc : Thread Cert.AdFiRefIdeal.nD Cert.AdFiRefIdeal.τ).loc Cert.AdFiRefIdeal.main_arg3)
          ∧ r.2.mem ((c.tc : Thread Cert.AdFiRefIdeal.nD Cert.AdFiRefIdeal.τ).loc Cert.AdFiRefIdeal.main_arg4) = m' ((c.tc : Thread Cert.AdFiRefIdeal.nD Cert.AdFiRefIdeal.τ).loc Cert.AdFiRefIdeal.main_arg4)
          ∧ r.2.mem ((c.tc : Thread Cert.AdFiRefIdeal.nD Cert.AdFiRefIdeal.τ).loc Cert.AdFiRefIdeal.main_arg5) = m' ((c.tc : Thread Cert.AdFiRefIdeal.nD Cert.AdFiRefIdeal.τ).loc Cert.AdFiRefIdeal.main_arg5))

def preserves_AdFo_AdFoIdeal : Prop :=
  True

def algebraic_AdFoIdeal_AdFoRefIdeal [hAdFoIdeal : Cert.AdFoIdeal.Facts] [hAdFoRefIdeal : Cert.AdFoRefIdeal.Facts] : Prop :=
  ∀ (m : (ℓ : Loc Cert.AdFoIdeal.nD Cert.AdFoIdeal.τ Cert.AdFoIdeal.sig) → Buf (Elt Ideal) ℓ) (g : Dev Cert.AdFoIdeal.nD → PrngReg)
    (m' : (ℓ : Loc Cert.AdFoRefIdeal.nD Cert.AdFoRefIdeal.τ Cert.AdFoRefIdeal.sig) → Buf (Elt Ideal) ℓ) (g' : Dev Cert.AdFoRefIdeal.nD → PrngReg), Pre_AdFoIdeal m →
    (∀ c : Dev Cert.AdFoIdeal.nD,
      m' ((c.tc : Thread Cert.AdFoRefIdeal.nD Cert.AdFoRefIdeal.τ).loc Cert.AdFoRefIdeal.main_arg0) = m ((c.tc : Thread Cert.AdFoIdeal.nD Cert.AdFoIdeal.τ).loc Cert.AdFoIdeal.main_arg0)
      ∧ m' ((c.tc : Thread Cert.AdFoRefIdeal.nD Cert.AdFoRefIdeal.τ).loc Cert.AdFoRefIdeal.main_arg1) = m ((c.tc : Thread Cert.AdFoIdeal.nD Cert.AdFoIdeal.τ).loc Cert.AdFoIdeal.main_arg1)
      ∧ m' ((c.tc : Thread Cert.AdFoRefIdeal.nD Cert.AdFoRefIdeal.τ).loc Cert.AdFoRefIdeal.main_arg2) = m ((c.tc : Thread Cert.AdFoIdeal.nD Cert.AdFoIdeal.τ).loc Cert.AdFoIdeal.main_arg2)
      ∧ m' ((c.tc : Thread Cert.AdFoRefIdeal.nD Cert.AdFoRefIdeal.τ).loc Cert.AdFoRefIdeal.main_arg3) = m ((c.tc : Thread Cert.AdFoIdeal.nD Cert.AdFoIdeal.τ).loc Cert.AdFoIdeal.main_arg3)
      ∧ m' ((c.tc : Thread Cert.AdFoRefIdeal.nD Cert.AdFoRefIdeal.τ).loc Cert.AdFoRefIdeal.main_arg4) = m ((c.tc : Thread Cert.AdFoIdeal.nD Cert.AdFoIdeal.τ).loc Cert.AdFoIdeal.main_arg4)
      ∧ m' ((c.tc : Thread Cert.AdFoRefIdeal.nD Cert.AdFoRefIdeal.τ).loc Cert.AdFoRefIdeal.main_arg5) = m ((c.tc : Thread Cert.AdFoIdeal.nD Cert.AdFoIdeal.τ).loc Cert.AdFoIdeal.main_arg5)) →
    ∃ (v0 : (c : Dev Cert.AdFoIdeal.nD) → Buf (Elt Ideal) ((c.tc : Thread Cert.AdFoIdeal.nD Cert.AdFoIdeal.τ).loc Cert.AdFoIdeal.main_v11_0)) (v1 : (c : Dev Cert.AdFoIdeal.nD) → Buf (Elt Ideal) ((c.tc : Thread Cert.AdFoIdeal.nD Cert.AdFoIdeal.τ).loc Cert.AdFoIdeal.main_v11_1)) (v2 : (c : Dev Cert.AdFoIdeal.nD) → Buf (Elt Ideal) ((c.tc : Thread Cert.AdFoIdeal.nD Cert.AdFoIdeal.τ).loc Cert.AdFoIdeal.main_v11_2)) (v3 : (c : Dev Cert.AdFoIdeal.nD) → Buf (Elt Ideal) ((c.tc : Thread Cert.AdFoIdeal.nD Cert.AdFoIdeal.τ).loc Cert.AdFoIdeal.main_v11_3)),
      θ_run (Cert.AdFoIdeal.defs (F := Ideal)) (onTc (τ := Cert.AdFoIdeal.τ) (Cert.AdFoIdeal.main (F := Ideal))) ⟨m, fun _ => 0, g⟩ (fun r => ∀ c : Dev Cert.AdFoIdeal.nD,
          r.2.mem ((c.tc : Thread Cert.AdFoIdeal.nD Cert.AdFoIdeal.τ).loc Cert.AdFoIdeal.main_v11_0) = v0 c
          ∧ r.2.mem ((c.tc : Thread Cert.AdFoIdeal.nD Cert.AdFoIdeal.τ).loc Cert.AdFoIdeal.main_v11_1) = v1 c
          ∧ r.2.mem ((c.tc : Thread Cert.AdFoIdeal.nD Cert.AdFoIdeal.τ).loc Cert.AdFoIdeal.main_v11_2) = v2 c
          ∧ r.2.mem ((c.tc : Thread Cert.AdFoIdeal.nD Cert.AdFoIdeal.τ).loc Cert.AdFoIdeal.main_v11_3) = v3 c
          ∧ r.2.mem ((c.tc : Thread Cert.AdFoIdeal.nD Cert.AdFoIdeal.τ).loc Cert.AdFoIdeal.main_arg0) = m ((c.tc : Thread Cert.AdFoIdeal.nD Cert.AdFoIdeal.τ).loc Cert.AdFoIdeal.main_arg0)
          ∧ r.2.mem ((c.tc : Thread Cert.AdFoIdeal.nD Cert.AdFoIdeal.τ).loc Cert.AdFoIdeal.main_arg1) = m ((c.tc : Thread Cert.AdFoIdeal.nD Cert.AdFoIdeal.τ).loc Cert.AdFoIdeal.main_arg1)
          ∧ r.2.mem ((c.tc : Thread Cert.AdFoIdeal.nD Cert.AdFoIdeal.τ).loc Cert.AdFoIdeal.main_arg2) = m ((c.tc : Thread Cert.AdFoIdeal.nD Cert.AdFoIdeal.τ).loc Cert.AdFoIdeal.main_arg2)
          ∧ r.2.mem ((c.tc : Thread Cert.AdFoIdeal.nD Cert.AdFoIdeal.τ).loc Cert.AdFoIdeal.main_arg3) = m ((c.tc : Thread Cert.AdFoIdeal.nD Cert.AdFoIdeal.τ).loc Cert.AdFoIdeal.main_arg3)
          ∧ r.2.mem ((c.tc : Thread Cert.AdFoIdeal.nD Cert.AdFoIdeal.τ).loc Cert.AdFoIdeal.main_arg4) = m ((c.tc : Thread Cert.AdFoIdeal.nD Cert.AdFoIdeal.τ).loc Cert.AdFoIdeal.main_arg4)
          ∧ r.2.mem ((c.tc : Thread Cert.AdFoIdeal.nD Cert.AdFoIdeal.τ).loc Cert.AdFoIdeal.main_arg5) = m ((c.tc : Thread Cert.AdFoIdeal.nD Cert.AdFoIdeal.τ).loc Cert.AdFoIdeal.main_arg5))
      ∧ θ_run (Cert.AdFoRefIdeal.defs (F := Ideal)) (onTc (τ := Cert.AdFoRefIdeal.τ) (Cert.AdFoRefIdeal.main (F := Ideal))) ⟨m', fun _ => 0, g'⟩ (fun r => ∀ c : Dev Cert.AdFoRefIdeal.nD,
          r.2.mem ((c.tc : Thread Cert.AdFoRefIdeal.nD Cert.AdFoRefIdeal.τ).loc Cert.AdFoRefIdeal.main_v32) = v0 c
          ∧ r.2.mem ((c.tc : Thread Cert.AdFoRefIdeal.nD Cert.AdFoRefIdeal.τ).loc Cert.AdFoRefIdeal.main_v33) = v1 c
          ∧ r.2.mem ((c.tc : Thread Cert.AdFoRefIdeal.nD Cert.AdFoRefIdeal.τ).loc Cert.AdFoRefIdeal.main_v34) = v2 c
          ∧ r.2.mem ((c.tc : Thread Cert.AdFoRefIdeal.nD Cert.AdFoRefIdeal.τ).loc Cert.AdFoRefIdeal.main_v35) = v3 c
          ∧ r.2.mem ((c.tc : Thread Cert.AdFoRefIdeal.nD Cert.AdFoRefIdeal.τ).loc Cert.AdFoRefIdeal.main_arg0) = m' ((c.tc : Thread Cert.AdFoRefIdeal.nD Cert.AdFoRefIdeal.τ).loc Cert.AdFoRefIdeal.main_arg0)
          ∧ r.2.mem ((c.tc : Thread Cert.AdFoRefIdeal.nD Cert.AdFoRefIdeal.τ).loc Cert.AdFoRefIdeal.main_arg1) = m' ((c.tc : Thread Cert.AdFoRefIdeal.nD Cert.AdFoRefIdeal.τ).loc Cert.AdFoRefIdeal.main_arg1)
          ∧ r.2.mem ((c.tc : Thread Cert.AdFoRefIdeal.nD Cert.AdFoRefIdeal.τ).loc Cert.AdFoRefIdeal.main_arg2) = m' ((c.tc : Thread Cert.AdFoRefIdeal.nD Cert.AdFoRefIdeal.τ).loc Cert.AdFoRefIdeal.main_arg2)
          ∧ r.2.mem ((c.tc : Thread Cert.AdFoRefIdeal.nD Cert.AdFoRefIdeal.τ).loc Cert.AdFoRefIdeal.main_arg3) = m' ((c.tc : Thread Cert.AdFoRefIdeal.nD Cert.AdFoRefIdeal.τ).loc Cert.AdFoRefIdeal.main_arg3)
          ∧ r.2.mem ((c.tc : Thread Cert.AdFoRefIdeal.nD Cert.AdFoRefIdeal.τ).loc Cert.AdFoRefIdeal.main_arg4) = m' ((c.tc : Thread Cert.AdFoRefIdeal.nD Cert.AdFoRefIdeal.τ).loc Cert.AdFoRefIdeal.main_arg4)
          ∧ r.2.mem ((c.tc : Thread Cert.AdFoRefIdeal.nD Cert.AdFoRefIdeal.τ).loc Cert.AdFoRefIdeal.main_arg5) = m' ((c.tc : Thread Cert.AdFoRefIdeal.nD Cert.AdFoRefIdeal.τ).loc Cert.AdFoRefIdeal.main_arg5))

def preserves_AdXq_AdXqIdeal : Prop :=
  True

def algebraic_AdXqIdeal_AdXqRefIdeal [hAdXqIdeal : Cert.AdXqIdeal.Facts] [hAdXqRefIdeal : Cert.AdXqRefIdeal.Facts] : Prop :=
  ∀ (m : (ℓ : Loc Cert.AdXqIdeal.nD Cert.AdXqIdeal.τ Cert.AdXqIdeal.sig) → Buf (Elt Ideal) ℓ) (g : Dev Cert.AdXqIdeal.nD → PrngReg)
    (m' : (ℓ : Loc Cert.AdXqRefIdeal.nD Cert.AdXqRefIdeal.τ Cert.AdXqRefIdeal.sig) → Buf (Elt Ideal) ℓ) (g' : Dev Cert.AdXqRefIdeal.nD → PrngReg), Pre_AdXqIdeal m →
    (∀ c : Dev Cert.AdXqIdeal.nD,
      m' ((c.tc : Thread Cert.AdXqRefIdeal.nD Cert.AdXqRefIdeal.τ).loc Cert.AdXqRefIdeal.main_arg0) = m ((c.tc : Thread Cert.AdXqIdeal.nD Cert.AdXqIdeal.τ).loc Cert.AdXqIdeal.main_arg0)
      ∧ m' ((c.tc : Thread Cert.AdXqRefIdeal.nD Cert.AdXqRefIdeal.τ).loc Cert.AdXqRefIdeal.main_arg1) = m ((c.tc : Thread Cert.AdXqIdeal.nD Cert.AdXqIdeal.τ).loc Cert.AdXqIdeal.main_arg1)
      ∧ m' ((c.tc : Thread Cert.AdXqRefIdeal.nD Cert.AdXqRefIdeal.τ).loc Cert.AdXqRefIdeal.main_arg2) = m ((c.tc : Thread Cert.AdXqIdeal.nD Cert.AdXqIdeal.τ).loc Cert.AdXqIdeal.main_arg2)
      ∧ m' ((c.tc : Thread Cert.AdXqRefIdeal.nD Cert.AdXqRefIdeal.τ).loc Cert.AdXqRefIdeal.main_arg3) = m ((c.tc : Thread Cert.AdXqIdeal.nD Cert.AdXqIdeal.τ).loc Cert.AdXqIdeal.main_arg3)
      ∧ m' ((c.tc : Thread Cert.AdXqRefIdeal.nD Cert.AdXqRefIdeal.τ).loc Cert.AdXqRefIdeal.main_arg4) = m ((c.tc : Thread Cert.AdXqIdeal.nD Cert.AdXqIdeal.τ).loc Cert.AdXqIdeal.main_arg4)
      ∧ m' ((c.tc : Thread Cert.AdXqRefIdeal.nD Cert.AdXqRefIdeal.τ).loc Cert.AdXqRefIdeal.main_arg5) = m ((c.tc : Thread Cert.AdXqIdeal.nD Cert.AdXqIdeal.τ).loc Cert.AdXqIdeal.main_arg5)) →
    ∃ (v0 : (c : Dev Cert.AdXqIdeal.nD) → Buf (Elt Ideal) ((c.tc : Thread Cert.AdXqIdeal.nD Cert.AdXqIdeal.τ).loc Cert.AdXqIdeal.main_v11_0)) (v1 : (c : Dev Cert.AdXqIdeal.nD) → Buf (Elt Ideal) ((c.tc : Thread Cert.AdXqIdeal.nD Cert.AdXqIdeal.τ).loc Cert.AdXqIdeal.main_v11_1)) (v2 : (c : Dev Cert.AdXqIdeal.nD) → Buf (Elt Ideal) ((c.tc : Thread Cert.AdXqIdeal.nD Cert.AdXqIdeal.τ).loc Cert.AdXqIdeal.main_v11_2)) (v3 : (c : Dev Cert.AdXqIdeal.nD) → Buf (Elt Ideal) ((c.tc : Thread Cert.AdXqIdeal.nD Cert.AdXqIdeal.τ).loc Cert.AdXqIdeal.main_v11_3)),
      θ_run (Cert.AdXqIdeal.defs (F := Ideal)) (onTc (τ := Cert.AdXqIdeal.τ) (Cert.AdXqIdeal.main (F := Ideal))) ⟨m, fun _ => 0, g⟩ (fun r => ∀ c : Dev Cert.AdXqIdeal.nD,
          r.2.mem ((c.tc : Thread Cert.AdXqIdeal.nD Cert.AdXqIdeal.τ).loc Cert.AdXqIdeal.main_v11_0) = v0 c
          ∧ r.2.mem ((c.tc : Thread Cert.AdXqIdeal.nD Cert.AdXqIdeal.τ).loc Cert.AdXqIdeal.main_v11_1) = v1 c
          ∧ r.2.mem ((c.tc : Thread Cert.AdXqIdeal.nD Cert.AdXqIdeal.τ).loc Cert.AdXqIdeal.main_v11_2) = v2 c
          ∧ r.2.mem ((c.tc : Thread Cert.AdXqIdeal.nD Cert.AdXqIdeal.τ).loc Cert.AdXqIdeal.main_v11_3) = v3 c
          ∧ r.2.mem ((c.tc : Thread Cert.AdXqIdeal.nD Cert.AdXqIdeal.τ).loc Cert.AdXqIdeal.main_arg0) = m ((c.tc : Thread Cert.AdXqIdeal.nD Cert.AdXqIdeal.τ).loc Cert.AdXqIdeal.main_arg0)
          ∧ r.2.mem ((c.tc : Thread Cert.AdXqIdeal.nD Cert.AdXqIdeal.τ).loc Cert.AdXqIdeal.main_arg1) = m ((c.tc : Thread Cert.AdXqIdeal.nD Cert.AdXqIdeal.τ).loc Cert.AdXqIdeal.main_arg1)
          ∧ r.2.mem ((c.tc : Thread Cert.AdXqIdeal.nD Cert.AdXqIdeal.τ).loc Cert.AdXqIdeal.main_arg2) = m ((c.tc : Thread Cert.AdXqIdeal.nD Cert.AdXqIdeal.τ).loc Cert.AdXqIdeal.main_arg2)
          ∧ r.2.mem ((c.tc : Thread Cert.AdXqIdeal.nD Cert.AdXqIdeal.τ).loc Cert.AdXqIdeal.main_arg3) = m ((c.tc : Thread Cert.AdXqIdeal.nD Cert.AdXqIdeal.τ).loc Cert.AdXqIdeal.main_arg3)
          ∧ r.2.mem ((c.tc : Thread Cert.AdXqIdeal.nD Cert.AdXqIdeal.τ).loc Cert.AdXqIdeal.main_arg4) = m ((c.tc : Thread Cert.AdXqIdeal.nD Cert.AdXqIdeal.τ).loc Cert.AdXqIdeal.main_arg4)
          ∧ r.2.mem ((c.tc : Thread Cert.AdXqIdeal.nD Cert.AdXqIdeal.τ).loc Cert.AdXqIdeal.main_arg5) = m ((c.tc : Thread Cert.AdXqIdeal.nD Cert.AdXqIdeal.τ).loc Cert.AdXqIdeal.main_arg5))
      ∧ θ_run (Cert.AdXqRefIdeal.defs (F := Ideal)) (onTc (τ := Cert.AdXqRefIdeal.τ) (Cert.AdXqRefIdeal.main (F := Ideal))) ⟨m', fun _ => 0, g'⟩ (fun r => ∀ c : Dev Cert.AdXqRefIdeal.nD,
          r.2.mem ((c.tc : Thread Cert.AdXqRefIdeal.nD Cert.AdXqRefIdeal.τ).loc Cert.AdXqRefIdeal.main_v32) = v0 c
          ∧ r.2.mem ((c.tc : Thread Cert.AdXqRefIdeal.nD Cert.AdXqRefIdeal.τ).loc Cert.AdXqRefIdeal.main_v33) = v1 c
          ∧ r.2.mem ((c.tc : Thread Cert.AdXqRefIdeal.nD Cert.AdXqRefIdeal.τ).loc Cert.AdXqRefIdeal.main_v34) = v2 c
          ∧ r.2.mem ((c.tc : Thread Cert.AdXqRefIdeal.nD Cert.AdXqRefIdeal.τ).loc Cert.AdXqRefIdeal.main_v35) = v3 c
          ∧ r.2.mem ((c.tc : Thread Cert.AdXqRefIdeal.nD Cert.AdXqRefIdeal.τ).loc Cert.AdXqRefIdeal.main_arg0) = m' ((c.tc : Thread Cert.AdXqRefIdeal.nD Cert.AdXqRefIdeal.τ).loc Cert.AdXqRefIdeal.main_arg0)
          ∧ r.2.mem ((c.tc : Thread Cert.AdXqRefIdeal.nD Cert.AdXqRefIdeal.τ).loc Cert.AdXqRefIdeal.main_arg1) = m' ((c.tc : Thread Cert.AdXqRefIdeal.nD Cert.AdXqRefIdeal.τ).loc Cert.AdXqRefIdeal.main_arg1)
          ∧ r.2.mem ((c.tc : Thread Cert.AdXqRefIdeal.nD Cert.AdXqRefIdeal.τ).loc Cert.AdXqRefIdeal.main_arg2) = m' ((c.tc : Thread Cert.AdXqRefIdeal.nD Cert.AdXqRefIdeal.τ).loc Cert.AdXqRefIdeal.main_arg2)
          ∧ r.2.mem ((c.tc : Thread Cert.AdXqRefIdeal.nD Cert.AdXqRefIdeal.τ).loc Cert.AdXqRefIdeal.main_arg3) = m' ((c.tc : Thread Cert.AdXqRefIdeal.nD Cert.AdXqRefIdeal.τ).loc Cert.AdXqRefIdeal.main_arg3)
          ∧ r.2.mem ((c.tc : Thread Cert.AdXqRefIdeal.nD Cert.AdXqRefIdeal.τ).loc Cert.AdXqRefIdeal.main_arg4) = m' ((c.tc : Thread Cert.AdXqRefIdeal.nD Cert.AdXqRefIdeal.τ).loc Cert.AdXqRefIdeal.main_arg4)
          ∧ r.2.mem ((c.tc : Thread Cert.AdXqRefIdeal.nD Cert.AdXqRefIdeal.τ).loc Cert.AdXqRefIdeal.main_arg5) = m' ((c.tc : Thread Cert.AdXqRefIdeal.nD Cert.AdXqRefIdeal.τ).loc Cert.AdXqRefIdeal.main_arg5))

def preserves_AdXo_AdXoIdeal : Prop :=
  True

def algebraic_AdXoIdeal_AdXoRefIdeal [hAdXoIdeal : Cert.AdXoIdeal.Facts] [hAdXoRefIdeal : Cert.AdXoRefIdeal.Facts] : Prop :=
  ∀ (m : (ℓ : Loc Cert.AdXoIdeal.nD Cert.AdXoIdeal.τ Cert.AdXoIdeal.sig) → Buf (Elt Ideal) ℓ) (g : Dev Cert.AdXoIdeal.nD → PrngReg)
    (m' : (ℓ : Loc Cert.AdXoRefIdeal.nD Cert.AdXoRefIdeal.τ Cert.AdXoRefIdeal.sig) → Buf (Elt Ideal) ℓ) (g' : Dev Cert.AdXoRefIdeal.nD → PrngReg), Pre_AdXoIdeal m →
    (∀ c : Dev Cert.AdXoIdeal.nD,
      m' ((c.tc : Thread Cert.AdXoRefIdeal.nD Cert.AdXoRefIdeal.τ).loc Cert.AdXoRefIdeal.main_arg0) = m ((c.tc : Thread Cert.AdXoIdeal.nD Cert.AdXoIdeal.τ).loc Cert.AdXoIdeal.main_arg0)
      ∧ m' ((c.tc : Thread Cert.AdXoRefIdeal.nD Cert.AdXoRefIdeal.τ).loc Cert.AdXoRefIdeal.main_arg1) = m ((c.tc : Thread Cert.AdXoIdeal.nD Cert.AdXoIdeal.τ).loc Cert.AdXoIdeal.main_arg1)
      ∧ m' ((c.tc : Thread Cert.AdXoRefIdeal.nD Cert.AdXoRefIdeal.τ).loc Cert.AdXoRefIdeal.main_arg2) = m ((c.tc : Thread Cert.AdXoIdeal.nD Cert.AdXoIdeal.τ).loc Cert.AdXoIdeal.main_arg2)
      ∧ m' ((c.tc : Thread Cert.AdXoRefIdeal.nD Cert.AdXoRefIdeal.τ).loc Cert.AdXoRefIdeal.main_arg3) = m ((c.tc : Thread Cert.AdXoIdeal.nD Cert.AdXoIdeal.τ).loc Cert.AdXoIdeal.main_arg3)
      ∧ m' ((c.tc : Thread Cert.AdXoRefIdeal.nD Cert.AdXoRefIdeal.τ).loc Cert.AdXoRefIdeal.main_arg4) = m ((c.tc : Thread Cert.AdXoIdeal.nD Cert.AdXoIdeal.τ).loc Cert.AdXoIdeal.main_arg4)
      ∧ m' ((c.tc : Thread Cert.AdXoRefIdeal.nD Cert.AdXoRefIdeal.τ).loc Cert.AdXoRefIdeal.main_arg5) = m ((c.tc : Thread Cert.AdXoIdeal.nD Cert.AdXoIdeal.τ).loc Cert.AdXoIdeal.main_arg5)) →
    ∃ (v0 : (c : Dev Cert.AdXoIdeal.nD) → Buf (Elt Ideal) ((c.tc : Thread Cert.AdXoIdeal.nD Cert.AdXoIdeal.τ).loc Cert.AdXoIdeal.main_v11_0)) (v1 : (c : Dev Cert.AdXoIdeal.nD) → Buf (Elt Ideal) ((c.tc : Thread Cert.AdXoIdeal.nD Cert.AdXoIdeal.τ).loc Cert.AdXoIdeal.main_v11_1)) (v2 : (c : Dev Cert.AdXoIdeal.nD) → Buf (Elt Ideal) ((c.tc : Thread Cert.AdXoIdeal.nD Cert.AdXoIdeal.τ).loc Cert.AdXoIdeal.main_v11_2)) (v3 : (c : Dev Cert.AdXoIdeal.nD) → Buf (Elt Ideal) ((c.tc : Thread Cert.AdXoIdeal.nD Cert.AdXoIdeal.τ).loc Cert.AdXoIdeal.main_v11_3)),
      θ_run (Cert.AdXoIdeal.defs (F := Ideal)) (onTc (τ := Cert.AdXoIdeal.τ) (Cert.AdXoIdeal.main (F := Ideal))) ⟨m, fun _ => 0, g⟩ (fun r => ∀ c : Dev Cert.AdXoIdeal.nD,
          r.2.mem ((c.tc : Thread Cert.AdXoIdeal.nD Cert.AdXoIdeal.τ).loc Cert.AdXoIdeal.main_v11_0) = v0 c
          ∧ r.2.mem ((c.tc : Thread Cert.AdXoIdeal.nD Cert.AdXoIdeal.τ).loc Cert.AdXoIdeal.main_v11_1) = v1 c
          ∧ r.2.mem ((c.tc : Thread Cert.AdXoIdeal.nD Cert.AdXoIdeal.τ).loc Cert.AdXoIdeal.main_v11_2) = v2 c
          ∧ r.2.mem ((c.tc : Thread Cert.AdXoIdeal.nD Cert.AdXoIdeal.τ).loc Cert.AdXoIdeal.main_v11_3) = v3 c
          ∧ r.2.mem ((c.tc : Thread Cert.AdXoIdeal.nD Cert.AdXoIdeal.τ).loc Cert.AdXoIdeal.main_arg0) = m ((c.tc : Thread Cert.AdXoIdeal.nD Cert.AdXoIdeal.τ).loc Cert.AdXoIdeal.main_arg0)
          ∧ r.2.mem ((c.tc : Thread Cert.AdXoIdeal.nD Cert.AdXoIdeal.τ).loc Cert.AdXoIdeal.main_arg1) = m ((c.tc : Thread Cert.AdXoIdeal.nD Cert.AdXoIdeal.τ).loc Cert.AdXoIdeal.main_arg1)
          ∧ r.2.mem ((c.tc : Thread Cert.AdXoIdeal.nD Cert.AdXoIdeal.τ).loc Cert.AdXoIdeal.main_arg2) = m ((c.tc : Thread Cert.AdXoIdeal.nD Cert.AdXoIdeal.τ).loc Cert.AdXoIdeal.main_arg2)
          ∧ r.2.mem ((c.tc : Thread Cert.AdXoIdeal.nD Cert.AdXoIdeal.τ).loc Cert.AdXoIdeal.main_arg3) = m ((c.tc : Thread Cert.AdXoIdeal.nD Cert.AdXoIdeal.τ).loc Cert.AdXoIdeal.main_arg3)
          ∧ r.2.mem ((c.tc : Thread Cert.AdXoIdeal.nD Cert.AdXoIdeal.τ).loc Cert.AdXoIdeal.main_arg4) = m ((c.tc : Thread Cert.AdXoIdeal.nD Cert.AdXoIdeal.τ).loc Cert.AdXoIdeal.main_arg4)
          ∧ r.2.mem ((c.tc : Thread Cert.AdXoIdeal.nD Cert.AdXoIdeal.τ).loc Cert.AdXoIdeal.main_arg5) = m ((c.tc : Thread Cert.AdXoIdeal.nD Cert.AdXoIdeal.τ).loc Cert.AdXoIdeal.main_arg5))
      ∧ θ_run (Cert.AdXoRefIdeal.defs (F := Ideal)) (onTc (τ := Cert.AdXoRefIdeal.τ) (Cert.AdXoRefIdeal.main (F := Ideal))) ⟨m', fun _ => 0, g'⟩ (fun r => ∀ c : Dev Cert.AdXoRefIdeal.nD,
          r.2.mem ((c.tc : Thread Cert.AdXoRefIdeal.nD Cert.AdXoRefIdeal.τ).loc Cert.AdXoRefIdeal.main_v32) = v0 c
          ∧ r.2.mem ((c.tc : Thread Cert.AdXoRefIdeal.nD Cert.AdXoRefIdeal.τ).loc Cert.AdXoRefIdeal.main_v33) = v1 c
          ∧ r.2.mem ((c.tc : Thread Cert.AdXoRefIdeal.nD Cert.AdXoRefIdeal.τ).loc Cert.AdXoRefIdeal.main_v34) = v2 c
          ∧ r.2.mem ((c.tc : Thread Cert.AdXoRefIdeal.nD Cert.AdXoRefIdeal.τ).loc Cert.AdXoRefIdeal.main_v35) = v3 c
          ∧ r.2.mem ((c.tc : Thread Cert.AdXoRefIdeal.nD Cert.AdXoRefIdeal.τ).loc Cert.AdXoRefIdeal.main_arg0) = m' ((c.tc : Thread Cert.AdXoRefIdeal.nD Cert.AdXoRefIdeal.τ).loc Cert.AdXoRefIdeal.main_arg0)
          ∧ r.2.mem ((c.tc : Thread Cert.AdXoRefIdeal.nD Cert.AdXoRefIdeal.τ).loc Cert.AdXoRefIdeal.main_arg1) = m' ((c.tc : Thread Cert.AdXoRefIdeal.nD Cert.AdXoRefIdeal.τ).loc Cert.AdXoRefIdeal.main_arg1)
          ∧ r.2.mem ((c.tc : Thread Cert.AdXoRefIdeal.nD Cert.AdXoRefIdeal.τ).loc Cert.AdXoRefIdeal.main_arg2) = m' ((c.tc : Thread Cert.AdXoRefIdeal.nD Cert.AdXoRefIdeal.τ).loc Cert.AdXoRefIdeal.main_arg2)
          ∧ r.2.mem ((c.tc : Thread Cert.AdXoRefIdeal.nD Cert.AdXoRefIdeal.τ).loc Cert.AdXoRefIdeal.main_arg3) = m' ((c.tc : Thread Cert.AdXoRefIdeal.nD Cert.AdXoRefIdeal.τ).loc Cert.AdXoRefIdeal.main_arg3)
          ∧ r.2.mem ((c.tc : Thread Cert.AdXoRefIdeal.nD Cert.AdXoRefIdeal.τ).loc Cert.AdXoRefIdeal.main_arg4) = m' ((c.tc : Thread Cert.AdXoRefIdeal.nD Cert.AdXoRefIdeal.τ).loc Cert.AdXoRefIdeal.main_arg4)
          ∧ r.2.mem ((c.tc : Thread Cert.AdXoRefIdeal.nD Cert.AdXoRefIdeal.τ).loc Cert.AdXoRefIdeal.main_arg5) = m' ((c.tc : Thread Cert.AdXoRefIdeal.nD Cert.AdXoRefIdeal.τ).loc Cert.AdXoRefIdeal.main_arg5))

def preserves_AdXkv_AdXkvIdeal : Prop :=
  True

def algebraic_AdXkvIdeal_AdXkvRefIdeal [hAdXkvIdeal : Cert.AdXkvIdeal.Facts] [hAdXkvRefIdeal : Cert.AdXkvRefIdeal.Facts] : Prop :=
  ∀ (m : (ℓ : Loc Cert.AdXkvIdeal.nD Cert.AdXkvIdeal.τ Cert.AdXkvIdeal.sig) → Buf (Elt Ideal) ℓ) (g : Dev Cert.AdXkvIdeal.nD → PrngReg)
    (m' : (ℓ : Loc Cert.AdXkvRefIdeal.nD Cert.AdXkvRefIdeal.τ Cert.AdXkvRefIdeal.sig) → Buf (Elt Ideal) ℓ) (g' : Dev Cert.AdXkvRefIdeal.nD → PrngReg), Pre_AdXkvIdeal m →
    (∀ c : Dev Cert.AdXkvIdeal.nD,
      m' ((c.tc : Thread Cert.AdXkvRefIdeal.nD Cert.AdXkvRefIdeal.τ).loc Cert.AdXkvRefIdeal.main_arg0) = m ((c.tc : Thread Cert.AdXkvIdeal.nD Cert.AdXkvIdeal.τ).loc Cert.AdXkvIdeal.main_arg0)
      ∧ m' ((c.tc : Thread Cert.AdXkvRefIdeal.nD Cert.AdXkvRefIdeal.τ).loc Cert.AdXkvRefIdeal.main_arg1) = m ((c.tc : Thread Cert.AdXkvIdeal.nD Cert.AdXkvIdeal.τ).loc Cert.AdXkvIdeal.main_arg1)
      ∧ m' ((c.tc : Thread Cert.AdXkvRefIdeal.nD Cert.AdXkvRefIdeal.τ).loc Cert.AdXkvRefIdeal.main_arg2) = m ((c.tc : Thread Cert.AdXkvIdeal.nD Cert.AdXkvIdeal.τ).loc Cert.AdXkvIdeal.main_arg2)
      ∧ m' ((c.tc : Thread Cert.AdXkvRefIdeal.nD Cert.AdXkvRefIdeal.τ).loc Cert.AdXkvRefIdeal.main_arg3) = m ((c.tc : Thread Cert.AdXkvIdeal.nD Cert.AdXkvIdeal.τ).loc Cert.AdXkvIdeal.main_arg3)
      ∧ m' ((c.tc : Thread Cert.AdXkvRefIdeal.nD Cert.AdXkvRefIdeal.τ).loc Cert.AdXkvRefIdeal.main_arg4) = m ((c.tc : Thread Cert.AdXkvIdeal.nD Cert.AdXkvIdeal.τ).loc Cert.AdXkvIdeal.main_arg4)
      ∧ m' ((c.tc : Thread Cert.AdXkvRefIdeal.nD Cert.AdXkvRefIdeal.τ).loc Cert.AdXkvRefIdeal.main_arg5) = m ((c.tc : Thread Cert.AdXkvIdeal.nD Cert.AdXkvIdeal.τ).loc Cert.AdXkvIdeal.main_arg5)) →
    ∃ (v0 : (c : Dev Cert.AdXkvIdeal.nD) → Buf (Elt Ideal) ((c.tc : Thread Cert.AdXkvIdeal.nD Cert.AdXkvIdeal.τ).loc Cert.AdXkvIdeal.main_v11_0)) (v1 : (c : Dev Cert.AdXkvIdeal.nD) → Buf (Elt Ideal) ((c.tc : Thread Cert.AdXkvIdeal.nD Cert.AdXkvIdeal.τ).loc Cert.AdXkvIdeal.main_v11_1)) (v2 : (c : Dev Cert.AdXkvIdeal.nD) → Buf (Elt Ideal) ((c.tc : Thread Cert.AdXkvIdeal.nD Cert.AdXkvIdeal.τ).loc Cert.AdXkvIdeal.main_v11_2)) (v3 : (c : Dev Cert.AdXkvIdeal.nD) → Buf (Elt Ideal) ((c.tc : Thread Cert.AdXkvIdeal.nD Cert.AdXkvIdeal.τ).loc Cert.AdXkvIdeal.main_v11_3)),
      θ_run (Cert.AdXkvIdeal.defs (F := Ideal)) (onTc (τ := Cert.AdXkvIdeal.τ) (Cert.AdXkvIdeal.main (F := Ideal))) ⟨m, fun _ => 0, g⟩ (fun r => ∀ c : Dev Cert.AdXkvIdeal.nD,
          r.2.mem ((c.tc : Thread Cert.AdXkvIdeal.nD Cert.AdXkvIdeal.τ).loc Cert.AdXkvIdeal.main_v11_0) = v0 c
          ∧ r.2.mem ((c.tc : Thread Cert.AdXkvIdeal.nD Cert.AdXkvIdeal.τ).loc Cert.AdXkvIdeal.main_v11_1) = v1 c
          ∧ r.2.mem ((c.tc : Thread Cert.AdXkvIdeal.nD Cert.AdXkvIdeal.τ).loc Cert.AdXkvIdeal.main_v11_2) = v2 c
          ∧ r.2.mem ((c.tc : Thread Cert.AdXkvIdeal.nD Cert.AdXkvIdeal.τ).loc Cert.AdXkvIdeal.main_v11_3) = v3 c
          ∧ r.2.mem ((c.tc : Thread Cert.AdXkvIdeal.nD Cert.AdXkvIdeal.τ).loc Cert.AdXkvIdeal.main_arg0) = m ((c.tc : Thread Cert.AdXkvIdeal.nD Cert.AdXkvIdeal.τ).loc Cert.AdXkvIdeal.main_arg0)
          ∧ r.2.mem ((c.tc : Thread Cert.AdXkvIdeal.nD Cert.AdXkvIdeal.τ).loc Cert.AdXkvIdeal.main_arg1) = m ((c.tc : Thread Cert.AdXkvIdeal.nD Cert.AdXkvIdeal.τ).loc Cert.AdXkvIdeal.main_arg1)
          ∧ r.2.mem ((c.tc : Thread Cert.AdXkvIdeal.nD Cert.AdXkvIdeal.τ).loc Cert.AdXkvIdeal.main_arg2) = m ((c.tc : Thread Cert.AdXkvIdeal.nD Cert.AdXkvIdeal.τ).loc Cert.AdXkvIdeal.main_arg2)
          ∧ r.2.mem ((c.tc : Thread Cert.AdXkvIdeal.nD Cert.AdXkvIdeal.τ).loc Cert.AdXkvIdeal.main_arg3) = m ((c.tc : Thread Cert.AdXkvIdeal.nD Cert.AdXkvIdeal.τ).loc Cert.AdXkvIdeal.main_arg3)
          ∧ r.2.mem ((c.tc : Thread Cert.AdXkvIdeal.nD Cert.AdXkvIdeal.τ).loc Cert.AdXkvIdeal.main_arg4) = m ((c.tc : Thread Cert.AdXkvIdeal.nD Cert.AdXkvIdeal.τ).loc Cert.AdXkvIdeal.main_arg4)
          ∧ r.2.mem ((c.tc : Thread Cert.AdXkvIdeal.nD Cert.AdXkvIdeal.τ).loc Cert.AdXkvIdeal.main_arg5) = m ((c.tc : Thread Cert.AdXkvIdeal.nD Cert.AdXkvIdeal.τ).loc Cert.AdXkvIdeal.main_arg5))
      ∧ θ_run (Cert.AdXkvRefIdeal.defs (F := Ideal)) (onTc (τ := Cert.AdXkvRefIdeal.τ) (Cert.AdXkvRefIdeal.main (F := Ideal))) ⟨m', fun _ => 0, g'⟩ (fun r => ∀ c : Dev Cert.AdXkvRefIdeal.nD,
          r.2.mem ((c.tc : Thread Cert.AdXkvRefIdeal.nD Cert.AdXkvRefIdeal.τ).loc Cert.AdXkvRefIdeal.main_v29) = v0 c
          ∧ r.2.mem ((c.tc : Thread Cert.AdXkvRefIdeal.nD Cert.AdXkvRefIdeal.τ).loc Cert.AdXkvRefIdeal.main_v30) = v1 c
          ∧ r.2.mem ((c.tc : Thread Cert.AdXkvRefIdeal.nD Cert.AdXkvRefIdeal.τ).loc Cert.AdXkvRefIdeal.main_v31) = v2 c
          ∧ r.2.mem ((c.tc : Thread Cert.AdXkvRefIdeal.nD Cert.AdXkvRefIdeal.τ).loc Cert.AdXkvRefIdeal.main_v32) = v3 c
          ∧ r.2.mem ((c.tc : Thread Cert.AdXkvRefIdeal.nD Cert.AdXkvRefIdeal.τ).loc Cert.AdXkvRefIdeal.main_arg0) = m' ((c.tc : Thread Cert.AdXkvRefIdeal.nD Cert.AdXkvRefIdeal.τ).loc Cert.AdXkvRefIdeal.main_arg0)
          ∧ r.2.mem ((c.tc : Thread Cert.AdXkvRefIdeal.nD Cert.AdXkvRefIdeal.τ).loc Cert.AdXkvRefIdeal.main_arg1) = m' ((c.tc : Thread Cert.AdXkvRefIdeal.nD Cert.AdXkvRefIdeal.τ).loc Cert.AdXkvRefIdeal.main_arg1)
          ∧ r.2.mem ((c.tc : Thread Cert.AdXkvRefIdeal.nD Cert.AdXkvRefIdeal.τ).loc Cert.AdXkvRefIdeal.main_arg2) = m' ((c.tc : Thread Cert.AdXkvRefIdeal.nD Cert.AdXkvRefIdeal.τ).loc Cert.AdXkvRefIdeal.main_arg2)
          ∧ r.2.mem ((c.tc : Thread Cert.AdXkvRefIdeal.nD Cert.AdXkvRefIdeal.τ).loc Cert.AdXkvRefIdeal.main_arg3) = m' ((c.tc : Thread Cert.AdXkvRefIdeal.nD Cert.AdXkvRefIdeal.τ).loc Cert.AdXkvRefIdeal.main_arg3)
          ∧ r.2.mem ((c.tc : Thread Cert.AdXkvRefIdeal.nD Cert.AdXkvRefIdeal.τ).loc Cert.AdXkvRefIdeal.main_arg4) = m' ((c.tc : Thread Cert.AdXkvRefIdeal.nD Cert.AdXkvRefIdeal.τ).loc Cert.AdXkvRefIdeal.main_arg4)
          ∧ r.2.mem ((c.tc : Thread Cert.AdXkvRefIdeal.nD Cert.AdXkvRefIdeal.τ).loc Cert.AdXkvRefIdeal.main_arg5) = m' ((c.tc : Thread Cert.AdXkvRefIdeal.nD Cert.AdXkvRefIdeal.τ).loc Cert.AdXkvRefIdeal.main_arg5))

def preserves_AdMo_AdMoIdeal : Prop :=
  True

def algebraic_AdMoIdeal_AdMoRefIdeal [hAdMoIdeal : Cert.AdMoIdeal.Facts] [hAdMoRefIdeal : Cert.AdMoRefIdeal.Facts] : Prop :=
  ∀ (m : (ℓ : Loc Cert.AdMoIdeal.nD Cert.AdMoIdeal.τ Cert.AdMoIdeal.sig) → Buf (Elt Ideal) ℓ) (g : Dev Cert.AdMoIdeal.nD → PrngReg)
    (m' : (ℓ : Loc Cert.AdMoRefIdeal.nD Cert.AdMoRefIdeal.τ Cert.AdMoRefIdeal.sig) → Buf (Elt Ideal) ℓ) (g' : Dev Cert.AdMoRefIdeal.nD → PrngReg), Pre_AdMoIdeal m →
    (∀ c : Dev Cert.AdMoIdeal.nD,
      m' ((c.tc : Thread Cert.AdMoRefIdeal.nD Cert.AdMoRefIdeal.τ).loc Cert.AdMoRefIdeal.main_arg0) = m ((c.tc : Thread Cert.AdMoIdeal.nD Cert.AdMoIdeal.τ).loc Cert.AdMoIdeal.main_arg0)
      ∧ m' ((c.tc : Thread Cert.AdMoRefIdeal.nD Cert.AdMoRefIdeal.τ).loc Cert.AdMoRefIdeal.main_arg1) = m ((c.tc : Thread Cert.AdMoIdeal.nD Cert.AdMoIdeal.τ).loc Cert.AdMoIdeal.main_arg1)
      ∧ m' ((c.tc : Thread Cert.AdMoRefIdeal.nD Cert.AdMoRefIdeal.τ).loc Cert.AdMoRefIdeal.main_arg2) = m ((c.tc : Thread Cert.AdMoIdeal.nD Cert.AdMoIdeal.τ).loc Cert.AdMoIdeal.main_arg2)
      ∧ m' ((c.tc : Thread Cert.AdMoRefIdeal.nD Cert.AdMoRefIdeal.τ).loc Cert.AdMoRefIdeal.main_arg3) = m ((c.tc : Thread Cert.AdMoIdeal.nD Cert.AdMoIdeal.τ).loc Cert.AdMoIdeal.main_arg3)
      ∧ m' ((c.tc : Thread Cert.AdMoRefIdeal.nD Cert.AdMoRefIdeal.τ).loc Cert.AdMoRefIdeal.main_arg4) = m ((c.tc : Thread Cert.AdMoIdeal.nD Cert.AdMoIdeal.τ).loc Cert.AdMoIdeal.main_arg4)) →
    ∃ (v0 : (c : Dev Cert.AdMoIdeal.nD) → Buf (Elt Ideal) ((c.tc : Thread Cert.AdMoIdeal.nD Cert.AdMoIdeal.τ).loc Cert.AdMoIdeal.main_v7_0)) (v1 : (c : Dev Cert.AdMoIdeal.nD) → Buf (Elt Ideal) ((c.tc : Thread Cert.AdMoIdeal.nD Cert.AdMoIdeal.τ).loc Cert.AdMoIdeal.main_v7_1)) (v2 : (c : Dev Cert.AdMoIdeal.nD) → Buf (Elt Ideal) ((c.tc : Thread Cert.AdMoIdeal.nD Cert.AdMoIdeal.τ).loc Cert.AdMoIdeal.main_v7_2)) (v3 : (c : Dev Cert.AdMoIdeal.nD) → Buf (Elt Ideal) ((c.tc : Thread Cert.AdMoIdeal.nD Cert.AdMoIdeal.τ).loc Cert.AdMoIdeal.main_v7_3)),
      θ_run (Cert.AdMoIdeal.defs (F := Ideal)) (onTc (τ := Cert.AdMoIdeal.τ) (Cert.AdMoIdeal.main (F := Ideal))) ⟨m, fun _ => 0, g⟩ (fun r => ∀ c : Dev Cert.AdMoIdeal.nD,
          r.2.mem ((c.tc : Thread Cert.AdMoIdeal.nD Cert.AdMoIdeal.τ).loc Cert.AdMoIdeal.main_v7_0) = v0 c
          ∧ r.2.mem ((c.tc : Thread Cert.AdMoIdeal.nD Cert.AdMoIdeal.τ).loc Cert.AdMoIdeal.main_v7_1) = v1 c
          ∧ r.2.mem ((c.tc : Thread Cert.AdMoIdeal.nD Cert.AdMoIdeal.τ).loc Cert.AdMoIdeal.main_v7_2) = v2 c
          ∧ r.2.mem ((c.tc : Thread Cert.AdMoIdeal.nD Cert.AdMoIdeal.τ).loc Cert.AdMoIdeal.main_v7_3) = v3 c
          ∧ r.2.mem ((c.tc : Thread Cert.AdMoIdeal.nD Cert.AdMoIdeal.τ).loc Cert.AdMoIdeal.main_arg0) = m ((c.tc : Thread Cert.AdMoIdeal.nD Cert.AdMoIdeal.τ).loc Cert.AdMoIdeal.main_arg0)
          ∧ r.2.mem ((c.tc : Thread Cert.AdMoIdeal.nD Cert.AdMoIdeal.τ).loc Cert.AdMoIdeal.main_arg1) = m ((c.tc : Thread Cert.AdMoIdeal.nD Cert.AdMoIdeal.τ).loc Cert.AdMoIdeal.main_arg1)
          ∧ r.2.mem ((c.tc : Thread Cert.AdMoIdeal.nD Cert.AdMoIdeal.τ).loc Cert.AdMoIdeal.main_arg2) = m ((c.tc : Thread Cert.AdMoIdeal.nD Cert.AdMoIdeal.τ).loc Cert.AdMoIdeal.main_arg2)
          ∧ r.2.mem ((c.tc : Thread Cert.AdMoIdeal.nD Cert.AdMoIdeal.τ).loc Cert.AdMoIdeal.main_arg3) = m ((c.tc : Thread Cert.AdMoIdeal.nD Cert.AdMoIdeal.τ).loc Cert.AdMoIdeal.main_arg3)
          ∧ r.2.mem ((c.tc : Thread Cert.AdMoIdeal.nD Cert.AdMoIdeal.τ).loc Cert.AdMoIdeal.main_arg4) = m ((c.tc : Thread Cert.AdMoIdeal.nD Cert.AdMoIdeal.τ).loc Cert.AdMoIdeal.main_arg4))
      ∧ θ_run (Cert.AdMoRefIdeal.defs (F := Ideal)) (onTc (τ := Cert.AdMoRefIdeal.τ) (Cert.AdMoRefIdeal.main (F := Ideal))) ⟨m', fun _ => 0, g'⟩ (fun r => ∀ c : Dev Cert.AdMoRefIdeal.nD,
          r.2.mem ((c.tc : Thread Cert.AdMoRefIdeal.nD Cert.AdMoRefIdeal.τ).loc Cert.AdMoRefIdeal.main_v29) = v0 c
          ∧ r.2.mem ((c.tc : Thread Cert.AdMoRefIdeal.nD Cert.AdMoRefIdeal.τ).loc Cert.AdMoRefIdeal.main_v30) = v1 c
          ∧ r.2.mem ((c.tc : Thread Cert.AdMoRefIdeal.nD Cert.AdMoRefIdeal.τ).loc Cert.AdMoRefIdeal.main_v31) = v2 c
          ∧ r.2.mem ((c.tc : Thread Cert.AdMoRefIdeal.nD Cert.AdMoRefIdeal.τ).loc Cert.AdMoRefIdeal.main_v32) = v3 c
          ∧ r.2.mem ((c.tc : Thread Cert.AdMoRefIdeal.nD Cert.AdMoRefIdeal.τ).loc Cert.AdMoRefIdeal.main_arg0) = m' ((c.tc : Thread Cert.AdMoRefIdeal.nD Cert.AdMoRefIdeal.τ).loc Cert.AdMoRefIdeal.main_arg0)
          ∧ r.2.mem ((c.tc : Thread Cert.AdMoRefIdeal.nD Cert.AdMoRefIdeal.τ).loc Cert.AdMoRefIdeal.main_arg1) = m' ((c.tc : Thread Cert.AdMoRefIdeal.nD Cert.AdMoRefIdeal.τ).loc Cert.AdMoRefIdeal.main_arg1)
          ∧ r.2.mem ((c.tc : Thread Cert.AdMoRefIdeal.nD Cert.AdMoRefIdeal.τ).loc Cert.AdMoRefIdeal.main_arg2) = m' ((c.tc : Thread Cert.AdMoRefIdeal.nD Cert.AdMoRefIdeal.τ).loc Cert.AdMoRefIdeal.main_arg2)
          ∧ r.2.mem ((c.tc : Thread Cert.AdMoRefIdeal.nD Cert.AdMoRefIdeal.τ).loc Cert.AdMoRefIdeal.main_arg3) = m' ((c.tc : Thread Cert.AdMoRefIdeal.nD Cert.AdMoRefIdeal.τ).loc Cert.AdMoRefIdeal.main_arg3)
          ∧ r.2.mem ((c.tc : Thread Cert.AdMoRefIdeal.nD Cert.AdMoRefIdeal.τ).loc Cert.AdMoRefIdeal.main_arg4) = m' ((c.tc : Thread Cert.AdMoRefIdeal.nD Cert.AdMoRefIdeal.τ).loc Cert.AdMoRefIdeal.main_arg4))

def Claim : Prop :=
  ∃ (hSc : Cert.Sc.Facts) (hScIdeal : Cert.ScIdeal.Facts) (hScRefIdeal : Cert.ScRefIdeal.Facts) (hDwo : Cert.Dwo.Facts) (hDwoIdeal : Cert.DwoIdeal.Facts) (hDwoRefIdeal : Cert.DwoRefIdeal.Facts) (hDh : Cert.Dh.Facts) (hDhIdeal : Cert.DhIdeal.Facts) (hDhRefIdeal : Cert.DhRefIdeal.Facts) (hDwi : Cert.Dwi.Facts) (hDwiIdeal : Cert.DwiIdeal.Facts) (hDwiRefIdeal : Cert.DwiRefIdeal.Facts) (hDn : Cert.Dn.Facts) (hDnIdeal : Cert.DnIdeal.Facts) (hDnRefIdeal : Cert.DnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDx : Cert.Dx.Facts) (hDxIdeal : Cert.DxIdeal.Facts) (hDxRefIdeal : Cert.DxRefIdeal.Facts) (hXa : Cert.Xa.Facts) (hXaIdeal : Cert.XaIdeal.Facts) (hXaRefIdeal : Cert.XaRefIdeal.Facts) (hAdMin : Cert.AdMin.Facts) (hAdMinIdeal : Cert.AdMinIdeal.Facts) (hAdMinRefIdeal : Cert.AdMinRefIdeal.Facts) (hAdMuq : Cert.AdMuq.Facts) (hAdMuqIdeal : Cert.AdMuqIdeal.Facts) (hAdMuqRefIdeal : Cert.AdMuqRefIdeal.Facts) (hAdMukv : Cert.AdMukv.Facts) (hAdMukvIdeal : Cert.AdMukvIdeal.Facts) (hAdMukvRefIdeal : Cert.AdMukvRefIdeal.Facts) (hAdGin : Cert.AdGin.Facts) (hAdGinIdeal : Cert.AdGinIdeal.Facts) (hAdGinRefIdeal : Cert.AdGinRefIdeal.Facts) (hAdSin : Cert.AdSin.Facts) (hAdSinIdeal : Cert.AdSinIdeal.Facts) (hAdSinRefIdeal : Cert.AdSinRefIdeal.Facts) (hAdGo : Cert.AdGo.Facts) (hAdGoIdeal : Cert.AdGoIdeal.Facts) (hAdGoRefIdeal : Cert.AdGoRefIdeal.Facts) (hAdSo : Cert.AdSo.Facts) (hAdSoIdeal : Cert.AdSoIdeal.Facts) (hAdSoRefIdeal : Cert.AdSoRefIdeal.Facts) (hAdFi : Cert.AdFi.Facts) (hAdFiIdeal : Cert.AdFiIdeal.Facts) (hAdFiRefIdeal : Cert.AdFiRefIdeal.Facts) (hAdFo : Cert.AdFo.Facts) (hAdFoIdeal : Cert.AdFoIdeal.Facts) (hAdFoRefIdeal : Cert.AdFoRefIdeal.Facts) (hAdXq : Cert.AdXq.Facts) (hAdXqIdeal : Cert.AdXqIdeal.Facts) (hAdXqRefIdeal : Cert.AdXqRefIdeal.Facts) (hAdXo : Cert.AdXo.Facts) (hAdXoIdeal : Cert.AdXoIdeal.Facts) (hAdXoRefIdeal : Cert.AdXoRefIdeal.Facts) (hAdXkv : Cert.AdXkv.Facts) (hAdXkvIdeal : Cert.AdXkvIdeal.Facts) (hAdXkvRefIdeal : Cert.AdXkvRefIdeal.Facts) (hAdMo : Cert.AdMo.Facts) (hAdMoIdeal : Cert.AdMoIdeal.Facts) (hAdMoRefIdeal : Cert.AdMoRefIdeal.Facts) (hPre_xa_finite : Cert.Pre_xa_finite.Facts),
    quiescent_Sc (hSc := hSc)
    ∧ quiescent_ScIdeal (hScIdeal := hScIdeal)
    ∧ quiescent_ScRefIdeal (hScRefIdeal := hScRefIdeal)
    ∧ quiescent_Dwo (hDwo := hDwo)
    ∧ quiescent_DwoIdeal (hDwoIdeal := hDwoIdeal)
    ∧ quiescent_DwoRefIdeal (hDwoRefIdeal := hDwoRefIdeal)
    ∧ quiescent_Dh (hDh := hDh)
    ∧ quiescent_DhIdeal (hDhIdeal := hDhIdeal)
    ∧ quiescent_DhRefIdeal (hDhRefIdeal := hDhRefIdeal)
    ∧ quiescent_Dwi (hDwi := hDwi)
    ∧ quiescent_DwiIdeal (hDwiIdeal := hDwiIdeal)
    ∧ quiescent_DwiRefIdeal (hDwiRefIdeal := hDwiRefIdeal)
    ∧ quiescent_Dn (hDn := hDn)
    ∧ quiescent_DnIdeal (hDnIdeal := hDnIdeal)
    ∧ quiescent_DnRefIdeal (hDnRefIdeal := hDnRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Dx (hDx := hDx)
    ∧ quiescent_DxIdeal (hDxIdeal := hDxIdeal)
    ∧ quiescent_DxRefIdeal (hDxRefIdeal := hDxRefIdeal)
    ∧ quiescent_Xa (hXa := hXa)
    ∧ quiescent_XaIdeal (hXaIdeal := hXaIdeal)
    ∧ quiescent_XaIdeal_pre_xa_finite (hXaIdeal := hXaIdeal) (hPre_xa_finite := hPre_xa_finite)
    ∧ quiescent_XaRefIdeal (hXaRefIdeal := hXaRefIdeal)
    ∧ quiescent_XaRefIdeal_pre_xa_finite (hXaRefIdeal := hXaRefIdeal) (hPre_xa_finite := hPre_xa_finite)
    ∧ quiescent_AdMin (hAdMin := hAdMin)
    ∧ quiescent_AdMinIdeal (hAdMinIdeal := hAdMinIdeal)
    ∧ quiescent_AdMinRefIdeal (hAdMinRefIdeal := hAdMinRefIdeal)
    ∧ quiescent_AdMuq (hAdMuq := hAdMuq)
    ∧ quiescent_AdMuqIdeal (hAdMuqIdeal := hAdMuqIdeal)
    ∧ quiescent_AdMuqRefIdeal (hAdMuqRefIdeal := hAdMuqRefIdeal)
    ∧ quiescent_AdMukv (hAdMukv := hAdMukv)
    ∧ quiescent_AdMukvIdeal (hAdMukvIdeal := hAdMukvIdeal)
    ∧ quiescent_AdMukvRefIdeal (hAdMukvRefIdeal := hAdMukvRefIdeal)
    ∧ quiescent_AdGin (hAdGin := hAdGin)
    ∧ quiescent_AdGinIdeal (hAdGinIdeal := hAdGinIdeal)
    ∧ quiescent_AdGinRefIdeal (hAdGinRefIdeal := hAdGinRefIdeal)
    ∧ quiescent_AdSin (hAdSin := hAdSin)
    ∧ quiescent_AdSinIdeal (hAdSinIdeal := hAdSinIdeal)
    ∧ quiescent_AdSinRefIdeal (hAdSinRefIdeal := hAdSinRefIdeal)
    ∧ quiescent_AdGo (hAdGo := hAdGo)
    ∧ quiescent_AdGoIdeal (hAdGoIdeal := hAdGoIdeal)
    ∧ quiescent_AdGoRefIdeal (hAdGoRefIdeal := hAdGoRefIdeal)
    ∧ quiescent_AdSo (hAdSo := hAdSo)
    ∧ quiescent_AdSoIdeal (hAdSoIdeal := hAdSoIdeal)
    ∧ quiescent_AdSoRefIdeal (hAdSoRefIdeal := hAdSoRefIdeal)
    ∧ quiescent_AdFi (hAdFi := hAdFi)
    ∧ quiescent_AdFiIdeal (hAdFiIdeal := hAdFiIdeal)
    ∧ quiescent_AdFiRefIdeal (hAdFiRefIdeal := hAdFiRefIdeal)
    ∧ quiescent_AdFo (hAdFo := hAdFo)
    ∧ quiescent_AdFoIdeal (hAdFoIdeal := hAdFoIdeal)
    ∧ quiescent_AdFoRefIdeal (hAdFoRefIdeal := hAdFoRefIdeal)
    ∧ quiescent_AdXq (hAdXq := hAdXq)
    ∧ quiescent_AdXqIdeal (hAdXqIdeal := hAdXqIdeal)
    ∧ quiescent_AdXqRefIdeal (hAdXqRefIdeal := hAdXqRefIdeal)
    ∧ quiescent_AdXo (hAdXo := hAdXo)
    ∧ quiescent_AdXoIdeal (hAdXoIdeal := hAdXoIdeal)
    ∧ quiescent_AdXoRefIdeal (hAdXoRefIdeal := hAdXoRefIdeal)
    ∧ quiescent_AdXkv (hAdXkv := hAdXkv)
    ∧ quiescent_AdXkvIdeal (hAdXkvIdeal := hAdXkvIdeal)
    ∧ quiescent_AdXkvRefIdeal (hAdXkvRefIdeal := hAdXkvRefIdeal)
    ∧ quiescent_AdMo (hAdMo := hAdMo)
    ∧ quiescent_AdMoIdeal (hAdMoIdeal := hAdMoIdeal)
    ∧ quiescent_AdMoRefIdeal (hAdMoRefIdeal := hAdMoRefIdeal)
    ∧ preserves_Sc_ScIdeal
    ∧ algebraic_ScIdeal_ScRefIdeal (hScIdeal := hScIdeal) (hScRefIdeal := hScRefIdeal)
    ∧ preserves_Dwo_DwoIdeal
    ∧ algebraic_DwoIdeal_DwoRefIdeal (hDwoIdeal := hDwoIdeal) (hDwoRefIdeal := hDwoRefIdeal)
    ∧ preserves_Dh_DhIdeal
    ∧ algebraic_DhIdeal_DhRefIdeal (hDhIdeal := hDhIdeal) (hDhRefIdeal := hDhRefIdeal)
    ∧ preserves_Dwi_DwiIdeal
    ∧ algebraic_DwiIdeal_DwiRefIdeal (hDwiIdeal := hDwiIdeal) (hDwiRefIdeal := hDwiRefIdeal)
    ∧ preserves_Dn_DnIdeal
    ∧ algebraic_DnIdeal_DnRefIdeal (hDnIdeal := hDnIdeal) (hDnRefIdeal := hDnRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Dx_DxIdeal
    ∧ algebraic_DxIdeal_DxRefIdeal (hDxIdeal := hDxIdeal) (hDxRefIdeal := hDxRefIdeal)
    ∧ preserves_Xa_XaIdeal
    ∧ algebraic_XaIdeal_XaRefIdeal_pre_xa_finite (hXaIdeal := hXaIdeal) (hXaRefIdeal := hXaRefIdeal) (hPre_xa_finite := hPre_xa_finite)
    ∧ preserves_AdMin_AdMinIdeal
    ∧ algebraic_AdMinIdeal_AdMinRefIdeal (hAdMinIdeal := hAdMinIdeal) (hAdMinRefIdeal := hAdMinRefIdeal)
    ∧ preserves_AdMuq_AdMuqIdeal
    ∧ algebraic_AdMuqIdeal_AdMuqRefIdeal (hAdMuqIdeal := hAdMuqIdeal) (hAdMuqRefIdeal := hAdMuqRefIdeal)
    ∧ preserves_AdMukv_AdMukvIdeal
    ∧ algebraic_AdMukvIdeal_AdMukvRefIdeal (hAdMukvIdeal := hAdMukvIdeal) (hAdMukvRefIdeal := hAdMukvRefIdeal)
    ∧ preserves_AdGin_AdGinIdeal
    ∧ algebraic_AdGinIdeal_AdGinRefIdeal (hAdGinIdeal := hAdGinIdeal) (hAdGinRefIdeal := hAdGinRefIdeal)
    ∧ preserves_AdSin_AdSinIdeal
    ∧ algebraic_AdSinIdeal_AdSinRefIdeal (hAdSinIdeal := hAdSinIdeal) (hAdSinRefIdeal := hAdSinRefIdeal)
    ∧ preserves_AdGo_AdGoIdeal
    ∧ algebraic_AdGoIdeal_AdGoRefIdeal (hAdGoIdeal := hAdGoIdeal) (hAdGoRefIdeal := hAdGoRefIdeal)
    ∧ preserves_AdSo_AdSoIdeal
    ∧ algebraic_AdSoIdeal_AdSoRefIdeal (hAdSoIdeal := hAdSoIdeal) (hAdSoRefIdeal := hAdSoRefIdeal)
    ∧ preserves_AdFi_AdFiIdeal
    ∧ algebraic_AdFiIdeal_AdFiRefIdeal (hAdFiIdeal := hAdFiIdeal) (hAdFiRefIdeal := hAdFiRefIdeal)
    ∧ preserves_AdFo_AdFoIdeal
    ∧ algebraic_AdFoIdeal_AdFoRefIdeal (hAdFoIdeal := hAdFoIdeal) (hAdFoRefIdeal := hAdFoRefIdeal)
    ∧ preserves_AdXq_AdXqIdeal
    ∧ algebraic_AdXqIdeal_AdXqRefIdeal (hAdXqIdeal := hAdXqIdeal) (hAdXqRefIdeal := hAdXqRefIdeal)
    ∧ preserves_AdXo_AdXoIdeal
    ∧ algebraic_AdXoIdeal_AdXoRefIdeal (hAdXoIdeal := hAdXoIdeal) (hAdXoRefIdeal := hAdXoRefIdeal)
    ∧ preserves_AdXkv_AdXkvIdeal
    ∧ algebraic_AdXkvIdeal_AdXkvRefIdeal (hAdXkvIdeal := hAdXkvIdeal) (hAdXkvRefIdeal := hAdXkvRefIdeal)
    ∧ preserves_AdMo_AdMoIdeal
    ∧ algebraic_AdMoIdeal_AdMoRefIdeal (hAdMoIdeal := hAdMoIdeal) (hAdMoRefIdeal := hAdMoRefIdeal)
-- ==== Pre_xa_finite.lean ====
abbrev S2048x1024 : Shape := ⟨2, ![2048, 1024]⟩
abbrev S256x2048 : Shape := ⟨2, ![256, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S2048x1024 .bf16) (main_arg1 : FVec F S256x2048 .bf16) (main_arg2 : FVec F S2048x1024 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S256x2048 .f32 := (extf .f32 · bitsLt_bf16_f32) main_arg1
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  let main_v11 : FVec F S2048x1024 .f32 := (extf .f32 · bitsLt_bf16_f32) main_arg2
  let main_v12 : FVec F S2048x1024 .f32 := Host.absf main_v11
  let main_cst_2 : FVec F S_ .f32 := constant S_ .f32 0x7F800000#32
  let main_v13 : FVec F S2048x1024 .f32 := broadcastInDim S2048x1024 ![] bcast_S_S2048x1024 main_cst_2
  let main_v14 : IVec S2048x1024 1 := cmpf .olt main_v12 main_v13
  let main_c_3 : IVec S_ 1 := constantI S_ 1 1#1
  let main_v15 : IVec S_ 1 := (fun x v => Host.reduce IntOp.andi x v reducesTo_S2048x1024_S_d0_1 h_S_) main_v14 main_c_3
  let main_v16 : IVec S_ 1 := andi main_v10 main_v15
  main_v16
-- ==== Sc.lean ====
abbrev S2048x3072 : Shape := ⟨2, ![2048, 3072]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 7
  | .vmem => 18
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S3x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .f32⟩
  | .local _ .vmem, ⟨9, _⟩ => ⟨S2048x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S3x256, .f32⟩
  | .local _ .vmem, ⟨17, _⟩ => ⟨S3x256, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ScRefIdeal.lean ====
abbrev S2048x3072 : Shape := ⟨2, ![2048, 3072]⟩
abbrev S3x1024 : Shape := ⟨2, ![3, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2x1024, .f32⟩
  | .hbm, ⟨9, _⟩ => ⟨S2050x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S2050x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S3x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S2050x1024, .f32⟩
  | .hbm, ⟨59, _⟩ => ⟨S2050x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S3x1024, .f32⟩
  | .hbm, ⟨65, _⟩ => ⟨S3x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S2050x1024, .f32⟩
  | .hbm, ⟨74, _⟩ => ⟨S2050x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S3x1024, .f32⟩
  | .hbm, ⟨80, _⟩ => ⟨S3x1024, .f32⟩
  | .hbm, ⟨81, _⟩ => ⟨S2x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x3072, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .bf16⟩
  | .hbm, ⟨90, _⟩ => ⟨S2048x1024, .bf16⟩
  | .hbm, ⟨91, _⟩ => ⟨S2048x1024, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Dwo.lean ====
abbrev S2048x4096 : Shape := ⟨2, ![2048, 4096]⟩
abbrev S4096x1024 : Shape := ⟨2, ![4096, 1024]⟩
abbrev S2048x1024 : Shape := ⟨2, ![2048, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x1024, .bf16⟩
  | .hbm, ⟨3, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwoRefIdeal.lean ====
abbrev S2048x4096 : Shape := ⟨2, ![2048, 4096]⟩
abbrev S4096x1024 : Shape := ⟨2, ![4096, 1024]⟩
abbrev S2048x1024 : Shape := ⟨2, ![2048, 1024]⟩
abbrev S1024x4096 : Shape := ⟨2, ![1024, 4096]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x1024, .bf16⟩
  | .hbm, ⟨3, _⟩ => ⟨S2048x4096, .f32⟩
  | .hbm, ⟨4, _⟩ => ⟨S2048x1024, .f32⟩
  | .hbm, ⟨5, _⟩ => ⟨S2048x1024, .f32⟩
  | .hbm, ⟨6, _⟩ => ⟨S1024x4096, .f32⟩
  | .hbm, ⟨7, _⟩ => ⟨S4096x1024, .f32⟩
  | .hbm, ⟨8, _⟩ => ⟨S4x1024x1024, .f32⟩
  | .hbm, ⟨9, _⟩ => ⟨S4x1024x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh.lean ====
abbrev S2048x4096 : Shape := ⟨2, ![2048, 4096]⟩
abbrev S4096x1024 : Shape := ⟨2, ![4096, 1024]⟩
abbrev S2048x1024 : Shape := ⟨2, ![2048, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x1024, .bf16⟩
  | .hbm, ⟨3, _⟩ => ⟨S4x1024x1024, .f32⟩
  | .hbm, ⟨4, _⟩ => ⟨S4x1024x1024, .bf16⟩
  | .hbm, ⟨5, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, v27.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DhRefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x1024, .bf16⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .i1⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x1024, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Dwi.lean ====
abbrev S2048x1024 : Shape := ⟨2, ![2048, 1024]⟩
abbrev S1024x4096 : Shape := ⟨2, ![1024, 4096]⟩
abbrev S2048x4096 : Shape := ⟨2, ![2048, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S2048x4096, .bf16⟩
  | .hbm, ⟨3, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg0
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwiRefIdeal.lean ====
abbrev S2048x1024 : Shape := ⟨2, ![2048, 1024]⟩
abbrev S1024x4096 : Shape := ⟨2, ![1024, 4096]⟩
abbrev S2048x4096 : Shape := ⟨2, ![2048, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S2048x4096, .bf16⟩
  | .hbm, ⟨3, _⟩ => ⟨S2048x1024, .f32⟩
  | .hbm, ⟨4, _⟩ => ⟨S2048x4096, .f32⟩
  | .hbm, ⟨5, _⟩ => ⟨S2048x4096, .f32⟩
  | .hbm, ⟨6, _⟩ => ⟨S4096x1024, .f32⟩
  | .hbm, ⟨7, _⟩ => ⟨S1024x4096, .f32⟩
  | .hbm, ⟨8, _⟩ => ⟨S1024x4x1024, .f32⟩
  | .hbm, ⟨9, _⟩ => ⟨S4x1024x1024, .f32⟩
  | .hbm, ⟨10, _⟩ => ⟨S4x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dn.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S512x4096 : Shape := ⟨2, ![512, 4096]⟩
abbrev S1x1024x1024 : Shape := ⟨3, ![1, 1024, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .bf16⟩
  | .hbm, ⟨4, _⟩ => ⟨S2048x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S1x1024, .f32⟩
  | .hbm, ⟨9, _⟩ => ⟨S2048x1024, .f32⟩
  | .hbm, ⟨10, _⟩ => ⟨S2048x1024, .bf16⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]
-- ==== DnRefIdeal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S2048x4096, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .bf16⟩
  | .hbm, ⟨55, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Up.lean ====
abbrev S2048x1024 : Shape := ⟨2, ![2048, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S1024x1024 : Shape := ⟨2, ![1024, 1024]⟩
abbrev S1x1024x1024 : Shape := ⟨3, ![1, 1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S2048x4096, .bf16⟩
  | .hbm, ⟨6, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S2048x1024, .f32⟩
  | .hbm, ⟨3, _⟩ => ⟨S2048x4096, .f32⟩
  | .hbm, ⟨4, _⟩ => ⟨S2048x4096, .bf16⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S4x1024x1024 : Shape := ⟨3, ![4, 1024, 1024]⟩
abbrev S1x1024 : Shape := ⟨2, ![1, 1024]⟩
abbrev S512x4096 : Shape := ⟨2, ![512, 4096]⟩
abbrev S1x1024x1024 : Shape := ⟨3, ![1, 1024, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x1024, .f32⟩
  | .hbm, ⟨3, _⟩ => ⟨S1024, .f32⟩
  | .hbm, ⟨4, _⟩ => ⟨S4x1024x1024, .f32⟩
  | .hbm, ⟨5, _⟩ => ⟨S4x1024x1024, .bf16⟩
  | .hbm, ⟨6, _⟩ => ⟨S1x1024, .f32⟩
  | .hbm, ⟨7, _⟩ => ⟨S2048x1024, .f32⟩
  | .hbm, ⟨8, _⟩ => ⟨S2048x1024, .bf16⟩
  | .local _ .vmem, ⟨0, _⟩ => ⟨S512x4096, .bf16⟩
  | .local _ .vmem, ⟨1, _⟩ => ⟨S512x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DownRefIdeal.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x1024, .f32⟩
  | .hbm, ⟨3, _⟩ => ⟨S1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Dx.lean ====
abbrev S2048x1024 : Shape := ⟨2, ![2048, 1024]⟩
abbrev S1024 : Shape := ⟨1, ![1024]⟩
abbrev S1024x704 : Shape := ⟨2, ![1024, 704]⟩
abbrev S2048x768 : Shape := ⟨2, ![2048, 768]⟩
abbrev S_ : Shape := ⟨0, ![]⟩
abbrev S1024x768 : Shape := ⟨2, ![1024, 768]⟩
abbrev S1x1024 : Shape := ⟨2, ![1, 1024]⟩
abbrev S512x768 : Shape := ⟨2, ![512, 768]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x704, .f32⟩
  | .hbm, ⟨3, _⟩ => ⟨S2048x768, .bf16⟩
  | .hbm, ⟨4, _⟩ => ⟨S2048x1024, .f32⟩
  | .hbm, ⟨5, _⟩ => ⟨S1024x704, .bf16⟩
  | .hbm, ⟨6, _⟩ => ⟨S_, .i32⟩
  | .hbm, ⟨7, _⟩ => ⟨S_, .bf16⟩
  | .hbm, ⟨8, _⟩ => ⟨S1024x768, .bf16⟩
  | .hbm, ⟨9, _⟩ => ⟨S1x1024, .f32⟩
  | .hbm, ⟨10, _⟩ => ⟨S2048x1024, .f32⟩
  | .hbm, ⟨11, _⟩ => ⟨S2048x1024, .bf16⟩
  | .hbm, ⟨12, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== DxRefIdeal.lean ====
abbrev S2048x1024 : Shape := ⟨2, ![2048, 1024]⟩
abbrev S1024 : Shape := ⟨1, ![1024]⟩
abbrev S1024x704 : Shape := ⟨2, ![1024, 704]⟩
abbrev S2048x768 : Shape := ⟨2, ![2048, 768]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x704 : Shape := ⟨2, ![2048, 704]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x704, .f32⟩
  | .hbm, ⟨3, _⟩ => ⟨S2048x768, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x704, .f32⟩
  | .hbm, ⟨26, _⟩ => ⟨S2048x704, .bf16⟩
  | .hbm, ⟨27, _⟩ => ⟨S2048x704, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .bf16⟩
  | .hbm, ⟨56, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Xa.lean ====
abbrev S2048x1024 : Shape := ⟨2, ![2048, 1024]⟩
abbrev S256x2048 : Shape := ⟨2, ![256, 2048]⟩
abbrev S4x2048x1 : Shape := ⟨3, ![4, 2048, 1]⟩
abbrev S1024x1024 : Shape := ⟨2, ![1024, 1024]⟩
abbrev S256x1024 : Shape := ⟨2, ![256, 1024]⟩
abbrev S4x1024x1 : Shape := ⟨3, ![4, 1024, 1]⟩
abbrev S1024x256 : Shape := ⟨2, ![1024, 256]⟩
abbrev S1024x1 : Shape := ⟨2, ![1024, 1]⟩
abbrev S256x256 : Shape := ⟨2, ![256, 256]⟩
abbrev S1024 : Shape := ⟨1, ![1024]⟩
abbrev S1x1024x1 : Shape := ⟨3, ![1, 1024, 1]⟩
abbrev S4x1x2048 : Shape := ⟨3, ![4, 1, 2048]⟩
abbrev S1x1x1024 : Shape := ⟨3, ![1, 1, 1024]⟩
abbrev S1x1024 : Shape := ⟨2, ![1, 1024]⟩

abbrev nBuf : Space → Nat
  | .hbm => 10
  | .vmem => 29
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S2048x1024, .bf16⟩
  | .hbm, ⟨4, _⟩ => ⟨S4x2048x1, .f32⟩
  | .hbm, ⟨5, _⟩ => ⟨S2048x1024, .bf16⟩
  | .hbm, ⟨6, _⟩ => ⟨S4x2048x1, .f32⟩
  | .hbm, ⟨7, _⟩ => ⟨S4x1x2048, .f32⟩
  | .hbm, ⟨8, _⟩ => ⟨S4x1x2048, .f32⟩
  | .hbm, ⟨9, _⟩ => ⟨S256x2048, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S4x1024x1, .f32⟩
  | .local _ .vmem, ⟨7, _⟩ => ⟨S4x1024x1, .f32⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S256x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S4x1024x1, .f32⟩
  | .local _ .vmem, ⟨17, _⟩ => ⟨S4x1024x1, .f32⟩
  | .local _ .vmem, ⟨18, _⟩ => ⟨S1024x1024, .bf16⟩
  | .local _ .vmem, ⟨19, _⟩ => ⟨S1024x1024, .bf16⟩
  | .local _ .vmem, ⟨20, _⟩ => ⟨S4x1024x1, .f32⟩
  | .local _ .vmem, ⟨21, _⟩ => ⟨S4x1024x1, .f32⟩
  | .local _ .vmem, ⟨22, _⟩ => ⟨S2048x1024, .bf16⟩
  | .local _ .vmem, ⟨23, _⟩ => ⟨S256x1024, .bf16⟩
  | .local _ .vmem, ⟨24, _⟩ => ⟨S256x1024, .bf16⟩
  | .local _ .vmem, ⟨25, _⟩ => ⟨S2048x1024, .bf16⟩
  | .local _ .vmem, ⟨26, _⟩ => ⟨S4x1x2048, .f32⟩
  | .local _ .vmem, ⟨27, _⟩ => ⟨S4x1x2048, .f32⟩
  | .local _ .vmem, ⟨28, _⟩ => ⟨S256x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28

abbrev nD : Nat := 1
abbrev τ : Topo := Topo.v7x

variable {F : FTy → Type} [FloatOps F]

abbrev grid0 : Pipeline.Grid := ⟨2, ![1, 2], ![false, false]⟩

def k0_mult1 : BitVec 32 :=
  let c0_i32 : BitVec 32 := 0#32
  let c256_i32 : BitVec 32 := 256#32
  let v16 : BitVec 32 := Scalar.muli c0_i32 c256_i32
  v16
def k0_off1 : Fin 2 → Nat :=
  let c0_i32 : BitVec 32 := 0#32
  let c256_i32 : BitVec 32 := 256#32
  let v16 : BitVec 32 := Scalar.muli c0_i32 c256_i32
  let v17 : BitVec 32 := v16
  let v18 : Index := Scalar.indexCast v17
  let c0_15 : Index := 0#32
  ![v18.toNat, 0]
def k0_off2 : Fin 2 → Nat :=
  let c0_i32 : BitVec 32 := 0#32
  let c256_i32 : BitVec 32 := 256#32
  let v16 : BitVec 32 := Scalar.muli c0_i32 c256_i32
  let v17 : BitVec 32 := v16
  let v42 : Index := Scalar.indexCast v17
  let c256_22 : Index := 256#32
  ![v42.toNat, 256]
def k0_off3 : Fin 2 → Nat :=
  let c0_i32 : BitVec 32 := 0#32
  let c256_i32 : BitVec 32 := 256#32
  let v16 : BitVec 32 := Scalar.muli c0_i32 c256_i32
  let v17 : BitVec 32 := v16
  let v66 : Index := Scalar.indexCast v17
  let c512_29 : Index := 512#32
  ![v66.toNat, 512]
def k0_off4 : Fin 2 → Nat :=
  let c0_i32 : BitVec 32 := 0#32
  let c256_i32 : BitVec 32 := 256#32
  let v16 : BitVec 32 := Scalar.muli c0_i32 c256_i32
  let v17 : BitVec 32 := v16
  let v90 : Index := Scalar.indexCast v17
  let c768_36 : Index := 768#32
  ![v90.toNat, 768]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![1, 2], ![false, false]⟩

def k1_mult1 : BitVec 32 :=
  let c0_i32 : BitVec 32 := 0#32
  let c256_i32 : BitVec 32 := 256#32
  let v60 : BitVec 32 := Scalar.muli c0_i32 c256_i32
  v60
def k1_off1 : Fin 2 → Nat :=
  let c0_i32 : BitVec 32 := 0#32
  let c256_i32 : BitVec 32 := 256#32
  let v60 : BitVec 32 := Scalar.muli c0_i32 c256_i32
  let v61 : BitVec 32 := v60
  let v62 : Index := Scalar.indexCast v61
  let c0_48 : Index := 0#32
  ![v62.toNat, 0]
def k1_off2 : Fin 2 → Nat :=
  let c0_i32 : BitVec 32 := 0#32
  let c256_i32 : BitVec 32 := 256#32
  let v60 : BitVec 32 := Scalar.muli c0_i32 c256_i32
  let v61 : BitVec 32 := v60
  let v81 : Index := Scalar.indexCast v61
  let c256_55 : Index := 256#32
  ![v81.toNat, 256]
def k1_off3 : Fin 2 → Nat :=
  let c0_i32 : BitVec 32 := 0#32
  let c256_i32 : BitVec 32 := 256#32
  let v60 : BitVec 32 := Scalar.muli c0_i32 c256_i32
  let v61 : BitVec 32 := v60
  let v100 : Index := Scalar.indexCast v61
  let c512_62 : Index := 512#32
  ![v100.toNat, 512]
def k1_off4 : Fin 2 → Nat :=
  let c0_i32 : BitVec 32 := 0#32
  let c256_i32 : BitVec 32 := 256#32
  let v60 : BitVec 32 := Scalar.muli c0_i32 c256_i32
  let v61 : BitVec 32 := v60
  let v119 : Index := Scalar.indexCast v61
  let c768_69 : Index := 768#32
  ![v119.toNat, 768]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4x1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4x1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![1, 1], ![false, false]⟩

@[reducible] def k2_t1_loop : Scf.Loop 32 :=
  let c0_i32 : BitVec 32 := 0#32
  let c2_i32 : BitVec 32 := 2#32
  let v16 : BitVec 32 := Scalar.addi c0_i32 c2_i32
  let c1_i32 : BitVec 32 := 1#32
  ⟨c0_i32, v16, c1_i32⟩
def k2_mult1 (k2_t1 : Fin k2_t1_loop.trips) : BitVec 32 :=
  let c0_i32 : BitVec 32 := 0#32
  let c1_i32 : BitVec 32 := 1#32
  let arg9 : BitVec 32 := Scf.iv c0_i32 c1_i32 k2_t1
  let c1024_i32 : BitVec 32 := 1024#32
  let v34 : BitVec 32 := Scalar.muli arg9 c1024_i32
  v34
def k2_off1 (k2_t1 : Fin k2_t1_loop.trips) : Fin 2 → Nat :=
  let c0_i32 : BitVec 32 := 0#32
  let c1_i32 : BitVec 32 := 1#32
  let arg9 : BitVec 32 := Scf.iv c0_i32 c1_i32 k2_t1
  let c1024_i32 : BitVec 32 := 1024#32
  let v34 : BitVec 32 := Scalar.muli arg9 c1024_i32
  let v35 : BitVec 32 := v34
  let v36 : Index := Scalar.indexCast v35
  let c0_32 : Index := 0#32
  ![v36.toNat, 0]
def k2_off2 (k2_t1 : Fin k2_t1_loop.trips) : Fin 3 → Nat :=
  let c0_36 : Index := 0#32
  let c0_37 : Index := 0#32
  let c0_i32 : BitVec 32 := 0#32
  let c1_i32 : BitVec 32 := 1#32
  let arg9 : BitVec 32 := Scf.iv c0_i32 c1_i32 k2_t1
  let c1024_i32 : BitVec 32 := 1024#32
  let v34 : BitVec 32 := Scalar.muli arg9 c1024_i32
  let v35 : BitVec 32 := v34
  let v43 : Index := Scalar.indexCast v35
  ![0, 0, v43.toNat]
def k2_off3 (k2_t1 : Fin k2_t1_loop.trips) : Fin 2 → Nat :=
  let c0_i32 : BitVec 32 := 0#32
  let c1_i32 : BitVec 32 := 1#32
  let arg9 : BitVec 32 := Scf.iv c0_i32 c1_i32 k2_t1
  let c1024_i32 : BitVec 32 := 1024#32
  let v34 : BitVec 32 := Scalar.muli arg9 c1024_i32
  let v35 : BitVec 32 := v34
  let v64 : Index := Scalar.indexCast v35
  let c256_44 : Index := 256#32
  ![v64.toNat, 256]
def k2_off4 (k2_t1 : Fin k2_t1_loop.trips) : Fin 3 → Nat :=
  let c1 : Index := 1#32
  let c0_48 : Index := 0#32
  let c0_i32 : BitVec 32 := 0#32
  let c1_i32 : BitVec 32 := 1#32
  let arg9 : BitVec 32 := Scf.iv c0_i32 c1_i32 k2_t1
  let c1024_i32 : BitVec 32 := 1024#32
  let v34 : BitVec 32 := Scalar.muli arg9 c1024_i32
  let v35 : BitVec 32 := v34
  let v71 : Index := Scalar.indexCast v35
  ![1, 0, v71.toNat]
def k2_off5 (k2_t1 : Fin k2_t1_loop.trips) : Fin 2 → Nat :=
  let c0_i32 : BitVec 32 := 0#32
  let c1_i32 : BitVec 32 := 1#32
  let arg9 : BitVec 32 := Scf.iv c0_i32 c1_i32 k2_t1
  let c1024_i32 : BitVec 32 := 1024#32
  let v34 : BitVec 32 := Scalar.muli arg9 c1024_i32
  let v35 : BitVec 32 := v34
  let v92 : Index := Scalar.indexCast v35
  let c512_55 : Index := 512#32
  ![v92.toNat, 512]
def k2_off6 (k2_t1 : Fin k2_t1_loop.trips) : Fin 3 → Nat :=
  let c2 : Index := 2#32
  let c0_59 : Index := 0#32
  let c0_i32 : BitVec 32 := 0#32
  let c1_i32 : BitVec 32 := 1#32
  let arg9 : BitVec 32 := Scf.iv c0_i32 c1_i32 k2_t1
  let c1024_i32 : BitVec 32 := 1024#32
  let v34 : BitVec 32 := Scalar.muli arg9 c1024_i32
  let v35 : BitVec 32 := v34
  let v99 : Index := Scalar.indexCast v35
  ![2, 0, v99.toNat]
def k2_off7 (k2_t1 : Fin k2_t1_loop.trips) : Fin 2 → Nat :=
  let c0_i32 : BitVec 32 := 0#32
  let c1_i32 : BitVec 32 := 1#32
  let arg9 : BitVec 32 := Scf.iv c0_i32 c1_i32 k2_t1
  let c1024_i32 : BitVec 32 := 1024#32
  let v34 : BitVec 32 := Scalar.muli arg9 c1024_i32
  let v35 : BitVec 32 := v34
  let v120 : Index := Scalar.indexCast v35
  let c768_66 : Index := 768#32
  ![v120.toNat, 768]
def k2_off8 (k2_t1 : Fin k2_t1_loop.trips) : Fin 3 → Nat :=
  let c3 : Index := 3#32
  let c0_70 : Index := 0#32
  let c0_i32 : BitVec 32 := 0#32
  let c1_i32 : BitVec 32 := 1#32
  let arg9 : BitVec 32 := Scf.iv c0_i32 c1_i32 k2_t1
  let c1024_i32 : BitVec 32 := 1024#32
  let v34 : BitVec 32 := Scalar.muli arg9 c1024_i32
  let v35 : BitVec 32 := v34
  let v127 : Index := Scalar.indexCast v35
  ![3, 0, v127.toNat]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 1 → Memref sig .tc .vmem S256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true]

abbrev stage2_2 : Fin 1 → Memref sig .tc .vmem S256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev stage2_3 : Fin 1 → Memref sig .tc .vmem S2048x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true]

abbrev stage2_4 : Fin 1 → Memref sig .tc .vmem S4x1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, true]

abbrev stage2_5 : Fin 1 → Memref sig .tc .vmem S4x1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, true]

abbrev stage2_6 : Fin 1 → Memref sig .tc .vmem S256x2048 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, false]
-- ==== XaRefIdeal.lean ====
abbrev S2048x1024 : Shape := ⟨2, ![2048, 1024]⟩
abbrev S256x2048 : Shape := ⟨2, ![256, 2048]⟩
abbrev S1x2048x4x256 : Shape := ⟨4, ![1, 2048, 4, 256]⟩
abbrev S1x256x2048 : Shape := ⟨3, ![1, 256, 2048]⟩
abbrev S1x256x1024 : Shape := ⟨3, ![1, 256, 1024]⟩
abbrev S1x256x4x256 : Shape := ⟨4, ![1, 256, 4, 256]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x256x2048 : Shape := ⟨4, ![1, 4, 256, 2048]⟩
abbrev S1x4x256x256 : Shape := ⟨4, ![1, 4, 256, 256]⟩
abbrev S4x2048 : Shape := ⟨2, ![4, 2048]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S2048x1024, .f32⟩
  | .hbm, ⟨4, _⟩ => ⟨S256x2048, .f32⟩
  | .hbm, ⟨5, _⟩ => ⟨S1x2048x4x256, .f32⟩
  | .hbm, ⟨6, _⟩ => ⟨S1x256x2048, .f32⟩
  | .hbm, ⟨7, _⟩ => ⟨S1x256x1024, .f32⟩
  | .hbm, ⟨8, _⟩ => ⟨S1x256x1024, .f32⟩
  | .hbm, ⟨9, _⟩ => ⟨S1x256x4x256, .f32⟩
  | .hbm, ⟨10, _⟩ => ⟨S1x256x4x256, .f32⟩
  | .hbm, ⟨11, _⟩ => ⟨S1x4x2048x256, .f32⟩
  | .hbm, ⟨12, _⟩ => ⟨S_, .f32⟩
  | .hbm, ⟨13, _⟩ => ⟨S1x4x2048x256, .f32⟩
  | .hbm, ⟨14, _⟩ => ⟨S1x4x2048x256, .f32⟩
  | .hbm, ⟨15, _⟩ => ⟨S_, .f32⟩
  | .hbm, ⟨16, _⟩ => ⟨S1x4x2048, .f32⟩
  | .hbm, ⟨17, _⟩ => ⟨S1x4x2048x1, .f32⟩
  | .hbm, ⟨18, _⟩ => ⟨S1x4x2048x256, .f32⟩
  | .hbm, ⟨19, _⟩ => ⟨S1x4x2048x256, .i1⟩
  | .hbm, ⟨20, _⟩ => ⟨S1x4x2048x256, .f32⟩
  | .hbm, ⟨21, _⟩ => ⟨S_, .f32⟩
  | .hbm, ⟨22, _⟩ => ⟨S1x4x2048, .f32⟩
  | .hbm, ⟨23, _⟩ => ⟨S_, .f32⟩
  | .hbm, ⟨24, _⟩ => ⟨S1x4x2048, .f32⟩
  | .hbm, ⟨25, _⟩ => ⟨S1x4x2048, .f32⟩
  | .hbm, ⟨26, _⟩ => ⟨S_, .f32⟩
  | .hbm, ⟨27, _⟩ => ⟨S1x4x2048, .f32⟩
  | .hbm, ⟨28, _⟩ => ⟨S1x4x2048, .i1⟩
  | .hbm, ⟨29, _⟩ => ⟨S_, .f32⟩
  | .hbm, ⟨30, _⟩ => ⟨S1x4x2048, .f32⟩
  | .hbm, ⟨31, _⟩ => ⟨S1x4x2048, .i1⟩
  | .hbm, ⟨32, _⟩ => ⟨S_, .f32⟩
  | .hbm, ⟨33, _⟩ => ⟨S1x4x2048, .f32⟩
  | .hbm, ⟨34, _⟩ => ⟨S_, .f32⟩
  | .hbm, ⟨35, _⟩ => ⟨S1x4x2048, .f32⟩
  | .hbm, ⟨36, _⟩ => ⟨S_, .f32⟩
  | .hbm, ⟨37, _⟩ => ⟨S1x4x2048, .f32⟩
  | .hbm, ⟨38, _⟩ => ⟨S1x4x2048, .f32⟩
  | .hbm, ⟨39, _⟩ => ⟨S1x4x2048, .f32⟩
  | .hbm, ⟨40, _⟩ => ⟨S1x4x2048x1, .f32⟩
  | .hbm, ⟨41, _⟩ => ⟨S1x4x2048x256, .f32⟩
  | .hbm, ⟨42, _⟩ => ⟨S1x4x2048x256, .f32⟩
  | .hbm, ⟨43, _⟩ => ⟨S1x4x2048x256, .f32⟩
  | .hbm, ⟨44, _⟩ => ⟨S_, .f32⟩
  | .hbm, ⟨45, _⟩ => ⟨S1x4x2048, .f32⟩
  | .hbm, ⟨46, _⟩ => ⟨S1x4x2048x1, .f32⟩
  | .hbm, ⟨47, _⟩ => ⟨S1x4x2048x256, .f32⟩
  | .hbm, ⟨48, _⟩ => ⟨S1x4x2048x256, .f32⟩
  | .hbm, ⟨49, _⟩ => ⟨S1x4x2048x1, .f32⟩
  | .hbm, ⟨50, _⟩ => ⟨S_, .f32⟩
  | .hbm, ⟨51, _⟩ => ⟨S1x4x2048x1, .f32⟩
  | .hbm, ⟨52, _⟩ => ⟨S1x4x2048x1, .f32⟩
  | .hbm, ⟨53, _⟩ => ⟨S1x4x256x2048, .f32⟩
  | .hbm, ⟨54, _⟩ => ⟨S1x2048x4x256, .f32⟩
  | .hbm, ⟨55, _⟩ => ⟨S2048x1024, .f32⟩
  | .hbm, ⟨56, _⟩ => ⟨S2048x1024, .f32⟩
  | .hbm, ⟨57, _⟩ => ⟨S1x2048x4x256, .f32⟩
  | .hbm, ⟨58, _⟩ => ⟨S1x4x256x2048, .f32⟩
  | .hbm, ⟨59, _⟩ => ⟨S1x4x2048x256, .f32⟩
  | .hbm, ⟨60, _⟩ => ⟨S1x4x256x256, .f32⟩
  | .hbm, ⟨61, _⟩ => ⟨S1x256x4x256, .f32⟩
  | .hbm, ⟨62, _⟩ => ⟨S1x4x2048x256, .f32⟩
  | .hbm, ⟨63, _⟩ => ⟨S1x4x2048x256, .f32⟩
  | .hbm, ⟨64, _⟩ => ⟨S1x4x2048x256, .f32⟩
  | .hbm, ⟨65, _⟩ => ⟨S_, .f32⟩
  | .hbm, ⟨66, _⟩ => ⟨S1x4x2048, .f32⟩
  | .hbm, ⟨67, _⟩ => ⟨S1x4x2048x1, .f32⟩
  | .hbm, ⟨68, _⟩ => ⟨S1x4x2048x1, .f32⟩
  | .hbm, ⟨69, _⟩ => ⟨S1x4x2048x256, .f32⟩
  | .hbm, ⟨70, _⟩ => ⟨S1x4x2048x256, .f32⟩
  | .hbm, ⟨71, _⟩ => ⟨S_, .f32⟩
  | .hbm, ⟨72, _⟩ => ⟨S4x2048, .f32⟩
  | .hbm, ⟨73, _⟩ => ⟨S1x4x2048, .f32⟩
  | .hbm, ⟨74, _⟩ => ⟨S1x4x2048x256, .f32⟩
  | .hbm, ⟨75, _⟩ => ⟨S1x4x2048x256, .f32⟩
  | .hbm, ⟨76, _⟩ => ⟨S1x4x2048x256, .f32⟩
  | .hbm, ⟨77, _⟩ => ⟨S_, .f32⟩
  | .hbm, ⟨78, _⟩ => ⟨S1x4x2048x256, .f32⟩
  | .hbm, ⟨79, _⟩ => ⟨S1x4x2048x256, .f32⟩
  | .hbm, ⟨80, _⟩ => ⟨S1x4x256x256, .f32⟩
  | .hbm, ⟨81, _⟩ => ⟨S1x256x4x256, .f32⟩
  | .hbm, ⟨82, _⟩ => ⟨S1x4x2048x256, .f32⟩
  | .hbm, ⟨83, _⟩ => ⟨S1x2048x4x256, .f32⟩
  | .hbm, ⟨84, _⟩ => ⟨S1x256x1024, .f32⟩
  | .hbm, ⟨85, _⟩ => ⟨S1x256x1024, .f32⟩
  | .hbm, ⟨86, _⟩ => ⟨S1x256x2048, .f32⟩
  | .hbm, ⟨87, _⟩ => ⟨S256x2048, .f32⟩
  | .hbm, ⟨88, _⟩ => ⟨S2048x1024, .f32⟩
  | .hbm, ⟨89, _⟩ => ⟨S2048x1024, .bf16⟩
  | .hbm, ⟨90, _⟩ => ⟨S256x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== AdMin.lean ====
abbrev S512x704 : Shape := ⟨2, ![512, 704]⟩
abbrev S2x256x704 : Shape := ⟨3, ![2, 256, 704]⟩

abbrev nBuf : Space → Nat
  | .hbm => 11
  | .vmem => 8
  | .smem => 0
  | _ => 0

abbrev bufTy : (tb : Table) → Fin (tcTables nBuf tb) → BufTy
  | .hbm, ⟨0, _⟩ => ⟨S512x704, .bf16⟩
  | .hbm, ⟨1, _⟩ => ⟨S2x256x704, .f32⟩
  | .hbm, ⟨2, _⟩ => ⟨S2x256x704, .f32⟩
  | .hbm, ⟨3, _⟩ => ⟨S2x256x704, .f32⟩
  | .hbm, ⟨4, _⟩ => ⟨S512x704, .f32⟩
  | .hbm, ⟨5, _⟩ => ⟨S512x704, .f32⟩
  | .hbm, ⟨6, _⟩ => ⟨S512x704, .f32⟩
  | .hbm, ⟨7, _⟩ => ⟨S512x704, .f32⟩
  | .hbm, ⟨8, _⟩ => ⟨S512x704, .f32⟩
  | .hbm, ⟨9, _⟩ => ⟨S512x704, .f32⟩
  | .hbm, ⟨10, _⟩ => ⟨S512x704, .f32⟩
  | .local _ .vmem, ⟨0, _⟩ => ⟨S512x704, .bf16⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | _, _ => ⟨S512x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S512x704 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdMinIdeal.lean ====
abbrev S512x704 : Shape := ⟨2, ![512, 704]⟩
abbrev S2x256x704 : Shape := ⟨3, ![2, 256, 704]⟩

abbrev nBuf : Space → Nat
  | .hbm => 11
  | .vmem => 8
  | .smem => 0
  | _ => 0

abbrev bufTy : (tb : Table) → Fin (tcTables nBuf tb) → BufTy
  | .hbm, ⟨0, _⟩ => ⟨S512x704, .bf16⟩
  | .hbm, ⟨1, _⟩ => ⟨S2x256x704, .f32⟩
  | .hbm, ⟨2, _⟩ => ⟨S2x256x704, .f32⟩
  | .hbm, ⟨3, _⟩ => ⟨S2x256x704, .f32⟩
  | .hbm, ⟨4, _⟩ => ⟨S512x704, .f32⟩
  | .hbm, ⟨5, _⟩ => ⟨S512x704, .f32⟩
  | .hbm, ⟨6, _⟩ => ⟨S512x704, .f32⟩
  | .hbm, ⟨7, _⟩ => ⟨S512x704, .f32⟩
  | .hbm, ⟨8, _⟩ => ⟨S512x704, .f32⟩
  | .hbm, ⟨9, _⟩ => ⟨S512x704, .f32⟩
  | .hbm, ⟨10, _⟩ => ⟨S512x704, .f32⟩
  | .local _ .vmem, ⟨0, _⟩ => ⟨S512x704, .bf16⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | _, _ => ⟨S512x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S512x704 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdMinRefIdeal.lean ====
abbrev S512x704 : Shape := ⟨2, ![512, 704]⟩
abbrev S2x256x704 : Shape := ⟨3, ![2, 256, 704]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S512x704, .bf16⟩
  | .hbm, ⟨1, _⟩ => ⟨S2x256x704, .f32⟩
  | .hbm, ⟨2, _⟩ => ⟨S2x256x704, .f32⟩
  | .hbm, ⟨3, _⟩ => ⟨S2x256x704, .f32⟩
  | .hbm, ⟨4, _⟩ => ⟨S2x256x704, .bf16⟩
  | .hbm, ⟨5, _⟩ => ⟨S2x256x704, .f32⟩
  | .hbm, ⟨6, _⟩ => ⟨S_, .f32⟩
  | .hbm, ⟨7, _⟩ => ⟨S2x256x704, .f32⟩
  | .hbm, ⟨8, _⟩ => ⟨S2x256x704, .f32⟩
  | .hbm, ⟨9, _⟩ => ⟨S_, .f32⟩
  | .hbm, ⟨10, _⟩ => ⟨S2x256x704, .f32⟩
  | .hbm, ⟨11, _⟩ => ⟨S2x256x704, .f32⟩
  | .hbm, ⟨12, _⟩ => ⟨S2x256x704, .f32⟩
  | .hbm, ⟨13, _⟩ => ⟨S_, .f32⟩
  | .hbm, ⟨14, _⟩ => ⟨S2x256x704, .f32⟩
  | .hbm, ⟨15, _⟩ => ⟨S2x256x704, .f32⟩
  | .hbm, ⟨16, _⟩ => ⟨S2x256x704, .f32⟩
  | .hbm, ⟨17, _⟩ => ⟨S_, .f32⟩
  | .hbm, ⟨18, _⟩ => ⟨S2x256x704, .f32⟩
  | .hbm, ⟨19, _⟩ => ⟨S2x256x704, .f32⟩
  | .hbm, ⟨20, _⟩ => ⟨S2x256x704, .f32⟩
  | .hbm, ⟨21, _⟩ => ⟨S_, .f32⟩
  | .hbm, ⟨22, _⟩ => ⟨S2x256x704, .f32⟩
  | .hbm, ⟨23, _⟩ => ⟨S2x256x704, .f32⟩
  | .hbm, ⟨24, _⟩ => ⟨S_, .f32⟩
  | .hbm, ⟨25, _⟩ => ⟨S2x256x704, .f32⟩
  | .hbm, ⟨26, _⟩ => ⟨S2x256x704, .f32⟩
  | .hbm, ⟨27, _⟩ => ⟨S2x256x704, .f32⟩
  | .hbm, ⟨28, _⟩ => ⟨S_, .f32⟩
  | .hbm, ⟨29, _⟩ => ⟨S2x256x704, .f32⟩
  | .hbm, ⟨30, _⟩ => ⟨S2x256x704, .f32⟩
  | .hbm, ⟨31, _⟩ => ⟨S2x256x704, .f32⟩
  | .hbm, ⟨32, _⟩ => ⟨S_, .f32⟩
  | .hbm, ⟨33, _⟩ => ⟨S2x256x704, .f32⟩
  | .hbm, ⟨34, _⟩ => ⟨S2x256x704, .f32⟩
  | .hbm, ⟨35, _⟩ => ⟨S2x256x704, .f32⟩
  | .hbm, ⟨36, _⟩ => ⟨S_, .f32⟩
  | .hbm, ⟨37, _⟩ => ⟨S2x256x704, .f32⟩
  | .hbm, ⟨38, _⟩ => ⟨S2x256x704, .f32⟩
  | .hbm, ⟨39, _⟩ => ⟨S512x704, .f32⟩
  | .hbm, ⟨40, _⟩ => ⟨S512x704, .f32⟩
  | .hbm, ⟨41, _⟩ => ⟨S512x704, .f32⟩
  | .hbm, ⟨42, _⟩ => ⟨S512x704, .f32⟩
  | _, _ => ⟨S512x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdMuq.lean ====
abbrev S768x384 : Shape := ⟨2, ![768, 384]⟩
abbrev S2x384x384 : Shape := ⟨3, ![2, 384, 384]⟩
abbrev S384x384 : Shape := ⟨2, ![384, 384]⟩

abbrev nBuf : Space → Nat
  | .hbm => 11
  | .vmem => 16
  | .smem => 0
  | _ => 0

abbrev bufTy : (tb : Table) → Fin (tcTables nBuf tb) → BufTy
  | .hbm, ⟨0, _⟩ => ⟨S768x384, .bf16⟩
  | .hbm, ⟨1, _⟩ => ⟨S2x384x384, .f32⟩
  | .hbm, ⟨2, _⟩ => ⟨S2x384x384, .f32⟩
  | .hbm, ⟨3, _⟩ => ⟨S2x384x384, .f32⟩
  | .hbm, ⟨4, _⟩ => ⟨S768x384, .f32⟩
  | .hbm, ⟨5, _⟩ => ⟨S768x384, .f32⟩
  | .hbm, ⟨6, _⟩ => ⟨S768x384, .f32⟩
  | .hbm, ⟨7, _⟩ => ⟨S768x384, .f32⟩
  | .hbm, ⟨8, _⟩ => ⟨S768x384, .f32⟩
  | .hbm, ⟨9, _⟩ => ⟨S768x384, .f32⟩
  | .hbm, ⟨10, _⟩ => ⟨S768x384, .f32⟩
  | .local _ .vmem, ⟨0, _⟩ => ⟨S384x384, .bf16⟩
  | .local _ .vmem, ⟨1, _⟩ => ⟨S384x384, .bf16⟩
  | .local _ .vmem, ⟨2, _⟩ => ⟨S384x384, .f32⟩
  | .local _ .vmem, ⟨3, _⟩ => ⟨S384x384, .f32⟩
  | .local _ .vmem, ⟨4, _⟩ => ⟨S384x384, .f32⟩
  | .local _ .vmem, ⟨5, _⟩ => ⟨S384x384, .f32⟩
  | .local _ .vmem, ⟨6, _⟩ => ⟨S384x384, .f32⟩
  | .local _ .vmem, ⟨7, _⟩ => ⟨S384x384, .f32⟩
  | .local _ .vmem, ⟨8, _⟩ => ⟨S384x384, .f32⟩
  | .local _ .vmem, ⟨9, _⟩ => ⟨S384x384, .f32⟩
  | .local _ .vmem, ⟨10, _⟩ => ⟨S384x384, .f32⟩
  | .local _ .vmem, ⟨11, _⟩ => ⟨S384x384, .f32⟩
  | .local _ .vmem, ⟨12, _⟩ => ⟨S384x384, .f32⟩
  | .local _ .vmem, ⟨13, _⟩ => ⟨S384x384, .f32⟩
  | .local _ .vmem, ⟨14, _⟩ => ⟨S384x384, .f32⟩
  | .local _ .vmem, ⟨15, _⟩ => ⟨S384x384, .f32⟩
  | _, _ => ⟨S768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S384x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdMuqIdeal.lean ====
abbrev S768x384 : Shape := ⟨2, ![768, 384]⟩
abbrev S2x384x384 : Shape := ⟨3, ![2, 384, 384]⟩
abbrev S384x384 : Shape := ⟨2, ![384, 384]⟩

abbrev nBuf : Space → Nat
  | .hbm => 11
  | .vmem => 16
  | .smem => 0
  | _ => 0

abbrev bufTy : (tb : Table) → Fin (tcTables nBuf tb) → BufTy
  | .hbm, ⟨0, _⟩ => ⟨S768x384, .bf16⟩
  | .hbm, ⟨1, _⟩ => ⟨S2x384x384, .f32⟩
  | .hbm, ⟨2, _⟩ => ⟨S2x384x384, .f32⟩
  | .hbm, ⟨3, _⟩ => ⟨S2x384x384, .f32⟩
  | .hbm, ⟨4, _⟩ => ⟨S768x384, .f32⟩
  | .hbm, ⟨5, _⟩ => ⟨S768x384, .f32⟩
  | .hbm, ⟨6, _⟩ => ⟨S768x384, .f32⟩
  | .hbm, ⟨7, _⟩ => ⟨S768x384, .f32⟩
  | .hbm, ⟨8, _⟩ => ⟨S768x384, .f32⟩
  | .hbm, ⟨9, _⟩ => ⟨S768x384, .f32⟩
  | .hbm, ⟨10, _⟩ => ⟨S768x384, .f32⟩
  | .local _ .vmem, ⟨0, _⟩ => ⟨S384x384, .bf16⟩
  | .local _ .vmem, ⟨1, _⟩ => ⟨S384x384, .bf16⟩
  | .local _ .vmem, ⟨2, _⟩ => ⟨S384x384, .f32⟩
  | .local _ .vmem, ⟨3, _⟩ => ⟨S384x384, .f32⟩
  | .local _ .vmem, ⟨4, _⟩ => ⟨S384x384, .f32⟩
  | .local _ .vmem, ⟨5, _⟩ => ⟨S384x384, .f32⟩
  | .local _ .vmem, ⟨6, _⟩ => ⟨S384x384, .f32⟩
  | .local _ .vmem, ⟨7, _⟩ => ⟨S384x384, .f32⟩
  | .local _ .vmem, ⟨8, _⟩ => ⟨S384x384, .f32⟩
  | .local _ .vmem, ⟨9, _⟩ => ⟨S384x384, .f32⟩
  | .local _ .vmem, ⟨10, _⟩ => ⟨S384x384, .f32⟩
  | .local _ .vmem, ⟨11, _⟩ => ⟨S384x384, .f32⟩
  | .local _ .vmem, ⟨12, _⟩ => ⟨S384x384, .f32⟩
  | .local _ .vmem, ⟨13, _⟩ => ⟨S384x384, .f32⟩
  | .local _ .vmem, ⟨14, _⟩ => ⟨S384x384, .f32⟩
  | .local _ .vmem, ⟨15, _⟩ => ⟨S384x384, .f32⟩
  | _, _ => ⟨S768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S384x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdMuqRefIdeal.lean ====
abbrev S768x384 : Shape := ⟨2, ![768, 384]⟩
abbrev S2x384x384 : Shape := ⟨3, ![2, 384, 384]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S768x384, .bf16⟩
  | .hbm, ⟨1, _⟩ => ⟨S2x384x384, .f32⟩
  | .hbm, ⟨2, _⟩ => ⟨S2x384x384, .f32⟩
  | .hbm, ⟨3, _⟩ => ⟨S2x384x384, .f32⟩
  | .hbm, ⟨4, _⟩ => ⟨S2x384x384, .bf16⟩
  | .hbm, ⟨5, _⟩ => ⟨S2x384x384, .f32⟩
  | .hbm, ⟨6, _⟩ => ⟨S_, .f32⟩
  | .hbm, ⟨7, _⟩ => ⟨S2x384x384, .f32⟩
  | .hbm, ⟨8, _⟩ => ⟨S2x384x384, .f32⟩
  | .hbm, ⟨9, _⟩ => ⟨S_, .f32⟩
  | .hbm, ⟨10, _⟩ => ⟨S2x384x384, .f32⟩
  | .hbm, ⟨11, _⟩ => ⟨S2x384x384, .f32⟩
  | .hbm, ⟨12, _⟩ => ⟨S2x384x384, .f32⟩
  | .hbm, ⟨13, _⟩ => ⟨S_, .f32⟩
  | .hbm, ⟨14, _⟩ => ⟨S2x384x384, .f32⟩
  | .hbm, ⟨15, _⟩ => ⟨S2x384x384, .f32⟩
  | .hbm, ⟨16, _⟩ => ⟨S2x384x384, .f32⟩
  | .hbm, ⟨17, _⟩ => ⟨S_, .f32⟩
  | .hbm, ⟨18, _⟩ => ⟨S2x384x384, .f32⟩
  | .hbm, ⟨19, _⟩ => ⟨S2x384x384, .f32⟩
  | .hbm, ⟨20, _⟩ => ⟨S2x384x384, .f32⟩
  | .hbm, ⟨21, _⟩ => ⟨S_, .f32⟩
  | .hbm, ⟨22, _⟩ => ⟨S2x384x384, .f32⟩
  | .hbm, ⟨23, _⟩ => ⟨S2x384x384, .f32⟩
  | .hbm, ⟨24, _⟩ => ⟨S_, .f32⟩
  | .hbm, ⟨25, _⟩ => ⟨S2x384x384, .f32⟩
  | .hbm, ⟨26, _⟩ => ⟨S2x384x384, .f32⟩
  | .hbm, ⟨27, _⟩ => ⟨S2x384x384, .f32⟩
  | .hbm, ⟨28, _⟩ => ⟨S_, .f32⟩
  | .hbm, ⟨29, _⟩ => ⟨S2x384x384, .f32⟩
  | .hbm, ⟨30, _⟩ => ⟨S2x384x384, .f32⟩
  | .hbm, ⟨31, _⟩ => ⟨S2x384x384, .f32⟩
  | .hbm, ⟨32, _⟩ => ⟨S_, .f32⟩
  | .hbm, ⟨33, _⟩ => ⟨S2x384x384, .f32⟩
  | .hbm, ⟨34, _⟩ => ⟨S2x384x384, .f32⟩
  | .hbm, ⟨35, _⟩ => ⟨S2x384x384, .f32⟩
  | .hbm, ⟨36, _⟩ => ⟨S_, .f32⟩
  | .hbm, ⟨37, _⟩ => ⟨S2x384x384, .f32⟩
  | .hbm, ⟨38, _⟩ => ⟨S2x384x384, .f32⟩
  | .hbm, ⟨39, _⟩ => ⟨S768x384, .f32⟩
  | .hbm, ⟨40, _⟩ => ⟨S768x384, .f32⟩
  | .hbm, ⟨41, _⟩ => ⟨S768x384, .f32⟩
  | .hbm, ⟨42, _⟩ => ⟨S768x384, .f32⟩
  | _, _ => ⟨S768x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdMukv.lean ====
abbrev S512x512 : Shape := ⟨2, ![512, 512]⟩
abbrev S2x256x512 : Shape := ⟨3, ![2, 256, 512]⟩

abbrev nBuf : Space → Nat
  | .hbm => 11
  | .vmem => 8
  | .smem => 0
  | _ => 0

abbrev bufTy : (tb : Table) → Fin (tcTables nBuf tb) → BufTy
  | .hbm, ⟨0, _⟩ => ⟨S512x512, .bf16⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .local _ .vmem, ⟨0, _⟩ => ⟨S512x512, .bf16⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdMukvIdeal.lean ====
abbrev S512x512 : Shape := ⟨2, ![512, 512]⟩
abbrev S2x256x512 : Shape := ⟨3, ![2, 256, 512]⟩

abbrev nBuf : Space → Nat
  | .hbm => 11
  | .vmem => 8
  | .smem => 0
  | _ => 0

abbrev bufTy : (tb : Table) → Fin (tcTables nBuf tb) → BufTy
  | .hbm, ⟨0, _⟩ => ⟨S512x512, .bf16⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .local _ .vmem, ⟨0, _⟩ => ⟨S512x512, .bf16⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdMukvRefIdeal.lean ====
abbrev S512x512 : Shape := ⟨2, ![512, 512]⟩
abbrev S2x256x512 : Shape := ⟨3, ![2, 256, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S2x256x512, .bf16⟩
  | .hbm, ⟨5, _⟩ => ⟨S2x256x512, .f32⟩
  | .hbm, ⟨6, _⟩ => ⟨S_, .f32⟩
  | .hbm, ⟨7, _⟩ => ⟨S2x256x512, .f32⟩
  | .hbm, ⟨8, _⟩ => ⟨S2x256x512, .f32⟩
  | .hbm, ⟨9, _⟩ => ⟨S_, .f32⟩
  | .hbm, ⟨10, _⟩ => ⟨S2x256x512, .f32⟩
  | .hbm, ⟨11, _⟩ => ⟨S2x256x512, .f32⟩
  | .hbm, ⟨12, _⟩ => ⟨S2x256x512, .f32⟩
  | .hbm, ⟨13, _⟩ => ⟨S_, .f32⟩
  | .hbm, ⟨14, _⟩ => ⟨S2x256x512, .f32⟩
  | .hbm, ⟨15, _⟩ => ⟨S2x256x512, .f32⟩
  | .hbm, ⟨16, _⟩ => ⟨S2x256x512, .f32⟩
  | .hbm, ⟨17, _⟩ => ⟨S_, .f32⟩
  | .hbm, ⟨18, _⟩ => ⟨S2x256x512, .f32⟩
  | .hbm, ⟨19, _⟩ => ⟨S2x256x512, .f32⟩
  | .hbm, ⟨20, _⟩ => ⟨S2x256x512, .f32⟩
  | .hbm, ⟨21, _⟩ => ⟨S_, .f32⟩
  | .hbm, ⟨22, _⟩ => ⟨S2x256x512, .f32⟩
  | .hbm, ⟨23, _⟩ => ⟨S2x256x512, .f32⟩
  | .hbm, ⟨24, _⟩ => ⟨S_, .f32⟩
  | .hbm, ⟨25, _⟩ => ⟨S2x256x512, .f32⟩
  | .hbm, ⟨26, _⟩ => ⟨S2x256x512, .f32⟩
  | .hbm, ⟨27, _⟩ => ⟨S2x256x512, .f32⟩
  | .hbm, ⟨28, _⟩ => ⟨S_, .f32⟩
  | .hbm, ⟨29, _⟩ => ⟨S2x256x512, .f32⟩
  | .hbm, ⟨30, _⟩ => ⟨S2x256x512, .f32⟩
  | .hbm, ⟨31, _⟩ => ⟨S2x256x512, .f32⟩
  | .hbm, ⟨32, _⟩ => ⟨S_, .f32⟩
  | .hbm, ⟨33, _⟩ => ⟨S2x256x512, .f32⟩
  | .hbm, ⟨34, _⟩ => ⟨S2x256x512, .f32⟩
  | .hbm, ⟨35, _⟩ => ⟨S2x256x512, .f32⟩
  | .hbm, ⟨36, _⟩ => ⟨S_, .f32⟩
  | .hbm, ⟨37, _⟩ => ⟨S2x256x512, .f32⟩
  | .hbm, ⟨38, _⟩ => ⟨S2x256x512, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdGin.lean ====
abbrev S1024x1028 : Shape := ⟨2, ![1024, 1028]⟩
abbrev S1x1024x1028 : Shape := ⟨3, ![1, 1024, 1028]⟩
abbrev S512x1028 : Shape := ⟨2, ![512, 1028]⟩

abbrev nBuf : Space → Nat
  | .hbm => 11
  | .vmem => 16
  | .smem => 0
  | _ => 0

abbrev bufTy : (tb : Table) → Fin (tcTables nBuf tb) → BufTy
  | .hbm, ⟨0, _⟩ => ⟨S1024x1028, .bf16⟩
  | .hbm, ⟨1, _⟩ => ⟨S1x1024x1028, .f32⟩
  | .hbm, ⟨2, _⟩ => ⟨S1x1024x1028, .f32⟩
  | .hbm, ⟨3, _⟩ => ⟨S1x1024x1028, .f32⟩
  | .hbm, ⟨4, _⟩ => ⟨S1024x1028, .f32⟩
  | .hbm, ⟨5, _⟩ => ⟨S1024x1028, .f32⟩
  | .hbm, ⟨6, _⟩ => ⟨S1024x1028, .f32⟩
  | .hbm, ⟨7, _⟩ => ⟨S1024x1028, .f32⟩
  | .hbm, ⟨8, _⟩ => ⟨S1024x1028, .f32⟩
  | .hbm, ⟨9, _⟩ => ⟨S1024x1028, .f32⟩
  | .hbm, ⟨10, _⟩ => ⟨S1024x1028, .f32⟩
  | .local _ .vmem, ⟨0, _⟩ => ⟨S512x1028, .bf16⟩
  | .local _ .vmem, ⟨1, _⟩ => ⟨S512x1028, .bf16⟩
  | .local _ .vmem, ⟨2, _⟩ => ⟨S512x1028, .f32⟩
  | .local _ .vmem, ⟨3, _⟩ => ⟨S512x1028, .f32⟩
  | .local _ .vmem, ⟨4, _⟩ => ⟨S512x1028, .f32⟩
  | .local _ .vmem, ⟨5, _⟩ => ⟨S512x1028, .f32⟩
  | .local _ .vmem, ⟨6, _⟩ => ⟨S512x1028, .f32⟩
  | .local _ .vmem, ⟨7, _⟩ => ⟨S512x1028, .f32⟩
  | .local _ .vmem, ⟨8, _⟩ => ⟨S512x1028, .f32⟩
  | .local _ .vmem, ⟨9, _⟩ => ⟨S512x1028, .f32⟩
  | .local _ .vmem, ⟨10, _⟩ => ⟨S512x1028, .f32⟩
  | .local _ .vmem, ⟨11, _⟩ => ⟨S512x1028, .f32⟩
  | .local _ .vmem, ⟨12, _⟩ => ⟨S512x1028, .f32⟩
  | .local _ .vmem, ⟨13, _⟩ => ⟨S512x1028, .f32⟩
  | .local _ .vmem, ⟨14, _⟩ => ⟨S512x1028, .f32⟩
  | .local _ .vmem, ⟨15, _⟩ => ⟨S512x1028, .f32⟩
  | _, _ => ⟨S1024x1028, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1028 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdGinIdeal.lean ====
abbrev S1024x1028 : Shape := ⟨2, ![1024, 1028]⟩
abbrev S1x1024x1028 : Shape := ⟨3, ![1, 1024, 1028]⟩
abbrev S512x1028 : Shape := ⟨2, ![512, 1028]⟩

abbrev nBuf : Space → Nat
  | .hbm => 11
  | .vmem => 16
  | .smem => 0
  | _ => 0

abbrev bufTy : (tb : Table) → Fin (tcTables nBuf tb) → BufTy
  | .hbm, ⟨0, _⟩ => ⟨S1024x1028, .bf16⟩
  | .hbm, ⟨1, _⟩ => ⟨S1x1024x1028, .f32⟩
  | .hbm, ⟨2, _⟩ => ⟨S1x1024x1028, .f32⟩
  | .hbm, ⟨3, _⟩ => ⟨S1x1024x1028, .f32⟩
  | .hbm, ⟨4, _⟩ => ⟨S1024x1028, .f32⟩
  | .hbm, ⟨5, _⟩ => ⟨S1024x1028, .f32⟩
  | .hbm, ⟨6, _⟩ => ⟨S1024x1028, .f32⟩
  | .hbm, ⟨7, _⟩ => ⟨S1024x1028, .f32⟩
  | .hbm, ⟨8, _⟩ => ⟨S1024x1028, .f32⟩
  | .hbm, ⟨9, _⟩ => ⟨S1024x1028, .f32⟩
  | .hbm, ⟨10, _⟩ => ⟨S1024x1028, .f32⟩
  | .local _ .vmem, ⟨0, _⟩ => ⟨S512x1028, .bf16⟩
  | .local _ .vmem, ⟨1, _⟩ => ⟨S512x1028, .bf16⟩
  | .local _ .vmem, ⟨2, _⟩ => ⟨S512x1028, .f32⟩
  | .local _ .vmem, ⟨3, _⟩ => ⟨S512x1028, .f32⟩
  | .local _ .vmem, ⟨4, _⟩ => ⟨S512x1028, .f32⟩
  | .local _ .vmem, ⟨5, _⟩ => ⟨S512x1028, .f32⟩
  | .local _ .vmem, ⟨6, _⟩ => ⟨S512x1028, .f32⟩
  | .local _ .vmem, ⟨7, _⟩ => ⟨S512x1028, .f32⟩
  | .local _ .vmem, ⟨8, _⟩ => ⟨S512x1028, .f32⟩
  | .local _ .vmem, ⟨9, _⟩ => ⟨S512x1028, .f32⟩
  | .local _ .vmem, ⟨10, _⟩ => ⟨S512x1028, .f32⟩
  | .local _ .vmem, ⟨11, _⟩ => ⟨S512x1028, .f32⟩
  | .local _ .vmem, ⟨12, _⟩ => ⟨S512x1028, .f32⟩
  | .local _ .vmem, ⟨13, _⟩ => ⟨S512x1028, .f32⟩
  | .local _ .vmem, ⟨14, _⟩ => ⟨S512x1028, .f32⟩
  | .local _ .vmem, ⟨15, _⟩ => ⟨S512x1028, .f32⟩
  | _, _ => ⟨S1024x1028, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1028 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdGinRefIdeal.lean ====
abbrev S1024x1028 : Shape := ⟨2, ![1024, 1028]⟩
abbrev S1x1024x1028 : Shape := ⟨3, ![1, 1024, 1028]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1024x1028, .bf16⟩
  | .hbm, ⟨1, _⟩ => ⟨S1x1024x1028, .f32⟩
  | .hbm, ⟨2, _⟩ => ⟨S1x1024x1028, .f32⟩
  | .hbm, ⟨3, _⟩ => ⟨S1x1024x1028, .f32⟩
  | .hbm, ⟨4, _⟩ => ⟨S1x1024x1028, .bf16⟩
  | .hbm, ⟨5, _⟩ => ⟨S1x1024x1028, .f32⟩
  | .hbm, ⟨6, _⟩ => ⟨S_, .f32⟩
  | .hbm, ⟨7, _⟩ => ⟨S1x1024x1028, .f32⟩
  | .hbm, ⟨8, _⟩ => ⟨S1x1024x1028, .f32⟩
  | .hbm, ⟨9, _⟩ => ⟨S_, .f32⟩
  | .hbm, ⟨10, _⟩ => ⟨S1x1024x1028, .f32⟩
  | .hbm, ⟨11, _⟩ => ⟨S1x1024x1028, .f32⟩
  | .hbm, ⟨12, _⟩ => ⟨S1x1024x1028, .f32⟩
  | .hbm, ⟨13, _⟩ => ⟨S_, .f32⟩
  | .hbm, ⟨14, _⟩ => ⟨S1x1024x1028, .f32⟩
  | .hbm, ⟨15, _⟩ => ⟨S1x1024x1028, .f32⟩
  | .hbm, ⟨16, _⟩ => ⟨S1x1024x1028, .f32⟩
  | .hbm, ⟨17, _⟩ => ⟨S_, .f32⟩
  | .hbm, ⟨18, _⟩ => ⟨S1x1024x1028, .f32⟩
  | .hbm, ⟨19, _⟩ => ⟨S1x1024x1028, .f32⟩
  | .hbm, ⟨20, _⟩ => ⟨S1x1024x1028, .f32⟩
  | .hbm, ⟨21, _⟩ => ⟨S_, .f32⟩
  | .hbm, ⟨22, _⟩ => ⟨S1x1024x1028, .f32⟩
  | .hbm, ⟨23, _⟩ => ⟨S1x1024x1028, .f32⟩
  | .hbm, ⟨24, _⟩ => ⟨S_, .f32⟩
  | .hbm, ⟨25, _⟩ => ⟨S1x1024x1028, .f32⟩
  | .hbm, ⟨26, _⟩ => ⟨S1x1024x1028, .f32⟩
  | .hbm, ⟨27, _⟩ => ⟨S1x1024x1028, .f32⟩
  | .hbm, ⟨28, _⟩ => ⟨S_, .f32⟩
  | .hbm, ⟨29, _⟩ => ⟨S1x1024x1028, .f32⟩
  | .hbm, ⟨30, _⟩ => ⟨S1x1024x1028, .f32⟩
  | .hbm, ⟨31, _⟩ => ⟨S1x1024x1028, .f32⟩
  | .hbm, ⟨32, _⟩ => ⟨S_, .f32⟩
  | .hbm, ⟨33, _⟩ => ⟨S1x1024x1028, .f32⟩
  | .hbm, ⟨34, _⟩ => ⟨S1x1024x1028, .f32⟩
  | .hbm, ⟨35, _⟩ => ⟨S1x1024x1028, .f32⟩
  | .hbm, ⟨36, _⟩ => ⟨S_, .f32⟩
  | .hbm, ⟨37, _⟩ => ⟨S1x1024x1028, .f32⟩
  | .hbm, ⟨38, _⟩ => ⟨S1x1024x1028, .f32⟩
  | .hbm, ⟨39, _⟩ => ⟨S1024x1028, .f32⟩
  | .hbm, ⟨40, _⟩ => ⟨S1024x1028, .f32⟩
  | .hbm, ⟨41, _⟩ => ⟨S1024x1028, .f32⟩
  | .hbm, ⟨42, _⟩ => ⟨S1024x1028, .f32⟩
  | _, _ => ⟨S1024x1028, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdSin.lean ====
abbrev S1024x768 : Shape := ⟨2, ![1024, 768]⟩
abbrev S1x1024x768 : Shape := ⟨3, ![1, 1024, 768]⟩
abbrev S512x768 : Shape := ⟨2, ![512, 768]⟩

abbrev nBuf : Space → Nat
  | .hbm => 11
  | .vmem => 16
  | .smem => 0
  | _ => 0

abbrev bufTy : (tb : Table) → Fin (tcTables nBuf tb) → BufTy
  | .hbm, ⟨0, _⟩ => ⟨S1024x768, .bf16⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .local _ .vmem, ⟨0, _⟩ => ⟨S512x768, .bf16⟩
  | .local _ .vmem, ⟨1, _⟩ => ⟨S512x768, .bf16⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdSinIdeal.lean ====
abbrev S1024x768 : Shape := ⟨2, ![1024, 768]⟩
abbrev S1x1024x768 : Shape := ⟨3, ![1, 1024, 768]⟩
abbrev S512x768 : Shape := ⟨2, ![512, 768]⟩

abbrev nBuf : Space → Nat
  | .hbm => 11
  | .vmem => 16
  | .smem => 0
  | _ => 0

abbrev bufTy : (tb : Table) → Fin (tcTables nBuf tb) → BufTy
  | .hbm, ⟨0, _⟩ => ⟨S1024x768, .bf16⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .local _ .vmem, ⟨0, _⟩ => ⟨S512x768, .bf16⟩
  | .local _ .vmem, ⟨1, _⟩ => ⟨S512x768, .bf16⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdSinRefIdeal.lean ====
abbrev S1024x768 : Shape := ⟨2, ![1024, 768]⟩
abbrev S1x1024x768 : Shape := ⟨3, ![1, 1024, 768]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1024x768, .bf16⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .bf16⟩
  | .hbm, ⟨5, _⟩ => ⟨S1x1024x768, .f32⟩
  | .hbm, ⟨6, _⟩ => ⟨S_, .f32⟩
  | .hbm, ⟨7, _⟩ => ⟨S1x1024x768, .f32⟩
  | .hbm, ⟨8, _⟩ => ⟨S1x1024x768, .f32⟩
  | .hbm, ⟨9, _⟩ => ⟨S_, .f32⟩
  | .hbm, ⟨10, _⟩ => ⟨S1x1024x768, .f32⟩
  | .hbm, ⟨11, _⟩ => ⟨S1x1024x768, .f32⟩
  | .hbm, ⟨12, _⟩ => ⟨S1x1024x768, .f32⟩
  | .hbm, ⟨13, _⟩ => ⟨S_, .f32⟩
  | .hbm, ⟨14, _⟩ => ⟨S1x1024x768, .f32⟩
  | .hbm, ⟨15, _⟩ => ⟨S1x1024x768, .f32⟩
  | .hbm, ⟨16, _⟩ => ⟨S1x1024x768, .f32⟩
  | .hbm, ⟨17, _⟩ => ⟨S_, .f32⟩
  | .hbm, ⟨18, _⟩ => ⟨S1x1024x768, .f32⟩
  | .hbm, ⟨19, _⟩ => ⟨S1x1024x768, .f32⟩
  | .hbm, ⟨20, _⟩ => ⟨S1x1024x768, .f32⟩
  | .hbm, ⟨21, _⟩ => ⟨S_, .f32⟩
  | .hbm, ⟨22, _⟩ => ⟨S1x1024x768, .f32⟩
  | .hbm, ⟨23, _⟩ => ⟨S1x1024x768, .f32⟩
  | .hbm, ⟨24, _⟩ => ⟨S_, .f32⟩
  | .hbm, ⟨25, _⟩ => ⟨S1x1024x768, .f32⟩
  | .hbm, ⟨26, _⟩ => ⟨S1x1024x768, .f32⟩
  | .hbm, ⟨27, _⟩ => ⟨S1x1024x768, .f32⟩
  | .hbm, ⟨28, _⟩ => ⟨S_, .f32⟩
  | .hbm, ⟨29, _⟩ => ⟨S1x1024x768, .f32⟩
  | .hbm, ⟨30, _⟩ => ⟨S1x1024x768, .f32⟩
  | .hbm, ⟨31, _⟩ => ⟨S1x1024x768, .f32⟩
  | .hbm, ⟨32, _⟩ => ⟨S_, .f32⟩
  | .hbm, ⟨33, _⟩ => ⟨S1x1024x768, .f32⟩
  | .hbm, ⟨34, _⟩ => ⟨S1x1024x768, .f32⟩
  | .hbm, ⟨35, _⟩ => ⟨S1x1024x768, .f32⟩
  | .hbm, ⟨36, _⟩ => ⟨S_, .f32⟩
  | .hbm, ⟨37, _⟩ => ⟨S1x1024x768, .f32⟩
  | .hbm, ⟨38, _⟩ => ⟨S1x1024x768, .f32⟩
  | .hbm, ⟨39, _⟩ => ⟨S1024x768, .f32⟩
  | .hbm, ⟨40, _⟩ => ⟨S1024x768, .f32⟩
  | .hbm, ⟨41, _⟩ => ⟨S1024x768, .f32⟩
  | .hbm, ⟨42, _⟩ => ⟨S1024x768, .f32⟩
  | _, _ => ⟨S1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdGo.lean ====
abbrev S2816x1024 : Shape := ⟨2, ![2816, 1024]⟩
abbrev S1x256x1024 : Shape := ⟨3, ![1, 256, 1024]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2816x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdGoIdeal.lean ====
abbrev S2816x1024 : Shape := ⟨2, ![2816, 1024]⟩
abbrev S1x256x1024 : Shape := ⟨3, ![1, 256, 1024]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2816x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdGoRefIdeal.lean ====
abbrev S2816x1024 : Shape := ⟨2, ![2816, 1024]⟩
abbrev S1x256x1024 : Shape := ⟨3, ![1, 256, 1024]⟩
abbrev S256x1024 : Shape := ⟨2, ![256, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .bf16⟩
  | .hbm, ⟨5, _⟩ => ⟨S1x256x1024, .bf16⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S_, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S_, .f32⟩
  | .hbm, ⟨15, _⟩ => ⟨S1x256x1024, .f32⟩
  | .hbm, ⟨16, _⟩ => ⟨S1x256x1024, .f32⟩
  | .hbm, ⟨17, _⟩ => ⟨S1x256x1024, .f32⟩
  | .hbm, ⟨18, _⟩ => ⟨S_, .f32⟩
  | .hbm, ⟨19, _⟩ => ⟨S1x256x1024, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S1x256x1024, .f32⟩
  | .hbm, ⟨37, _⟩ => ⟨S_, .f32⟩
  | .hbm, ⟨38, _⟩ => ⟨S1x256x1024, .f32⟩
  | .hbm, ⟨39, _⟩ => ⟨S1x256x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== AdSo.lean ====
abbrev S5632x1024 : Shape := ⟨2, ![5632, 1024]⟩
abbrev S1x256x1024 : Shape := ⟨3, ![1, 256, 1024]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S5632x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S5632x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c21_i32 : BitVec 32 := 21#32
  let v0 : BitVec 32 := Scalar.addi c21_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdSoIdeal.lean ====
abbrev S5632x1024 : Shape := ⟨2, ![5632, 1024]⟩
abbrev S1x256x1024 : Shape := ⟨3, ![1, 256, 1024]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S5632x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S5632x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c21_i32 : BitVec 32 := 21#32
  let v0 : BitVec 32 := Scalar.addi c21_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdSoRefIdeal.lean ====
abbrev S5632x1024 : Shape := ⟨2, ![5632, 1024]⟩
abbrev S1x256x1024 : Shape := ⟨3, ![1, 256, 1024]⟩
abbrev S256x1024 : Shape := ⟨2, ![256, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S5632x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .bf16⟩
  | .hbm, ⟨5, _⟩ => ⟨S1x256x1024, .bf16⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S_, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S_, .f32⟩
  | .hbm, ⟨15, _⟩ => ⟨S1x256x1024, .f32⟩
  | .hbm, ⟨16, _⟩ => ⟨S1x256x1024, .f32⟩
  | .hbm, ⟨17, _⟩ => ⟨S1x256x1024, .f32⟩
  | .hbm, ⟨18, _⟩ => ⟨S_, .f32⟩
  | .hbm, ⟨19, _⟩ => ⟨S1x256x1024, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S1x256x1024, .f32⟩
  | .hbm, ⟨37, _⟩ => ⟨S_, .f32⟩
  | .hbm, ⟨38, _⟩ => ⟨S1x256x1024, .f32⟩
  | .hbm, ⟨39, _⟩ => ⟨S1x256x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | _, _ => ⟨S5632x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== AdFi.lean ====
abbrev S2048x1024 : Shape := ⟨2, ![2048, 1024]⟩
abbrev S4096x1024 : Shape := ⟨2, ![4096, 1024]⟩
abbrev S4x1024x1024 : Shape := ⟨3, ![4, 1024, 1024]⟩
abbrev S512x1024 : Shape := ⟨2, ![512, 1024]⟩

abbrev nBuf : Space → Nat
  | .hbm => 27
  | .vmem => 48
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4096x1024, .bf16⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | .local _ .vmem, ⟨33, _⟩ => ⟨S512x1024, .bf16⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== AdFiIdeal.lean ====
abbrev S2048x1024 : Shape := ⟨2, ![2048, 1024]⟩
abbrev S4096x1024 : Shape := ⟨2, ![4096, 1024]⟩
abbrev S4x1024x1024 : Shape := ⟨3, ![4, 1024, 1024]⟩
abbrev S512x1024 : Shape := ⟨2, ![512, 1024]⟩

abbrev nBuf : Space → Nat
  | .hbm => 27
  | .vmem => 48
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4096x1024, .bf16⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | .local _ .vmem, ⟨33, _⟩ => ⟨S512x1024, .bf16⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== AdFiRefIdeal.lean ====
abbrev S2048x1024 : Shape := ⟨2, ![2048, 1024]⟩
abbrev S4096x1024 : Shape := ⟨2, ![4096, 1024]⟩
abbrev S4x1024x1024 : Shape := ⟨3, ![4, 1024, 1024]⟩
abbrev S1024x1024 : Shape := ⟨2, ![1024, 1024]⟩
abbrev S1x1024x1024 : Shape := ⟨3, ![1, 1024, 1024]⟩
abbrev S2x1024x1024 : Shape := ⟨3, ![2, 1024, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4096x1024, .bf16⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S1024x1024, .bf16⟩
  | .hbm, ⟨7, _⟩ => ⟨S1x1024x1024, .bf16⟩
  | .hbm, ⟨8, _⟩ => ⟨S1024x1024, .bf16⟩
  | .hbm, ⟨9, _⟩ => ⟨S1x1024x1024, .bf16⟩
  | .hbm, ⟨10, _⟩ => ⟨S2048x1024, .bf16⟩
  | .hbm, ⟨11, _⟩ => ⟨S2x1024x1024, .bf16⟩
  | .hbm, ⟨12, _⟩ => ⟨S4x1024x1024, .bf16⟩
  | .hbm, ⟨13, _⟩ => ⟨S4x1024x1024, .f32⟩
  | .hbm, ⟨14, _⟩ => ⟨S_, .f32⟩
  | .hbm, ⟨15, _⟩ => ⟨S4x1024x1024, .f32⟩
  | .hbm, ⟨16, _⟩ => ⟨S4x1024x1024, .f32⟩
  | .hbm, ⟨17, _⟩ => ⟨S_, .f32⟩
  | .hbm, ⟨18, _⟩ => ⟨S4x1024x1024, .f32⟩
  | .hbm, ⟨19, _⟩ => ⟨S4x1024x1024, .f32⟩
  | .hbm, ⟨20, _⟩ => ⟨S4x1024x1024, .f32⟩
  | .hbm, ⟨21, _⟩ => ⟨S_, .f32⟩
  | .hbm, ⟨22, _⟩ => ⟨S4x1024x1024, .f32⟩
  | .hbm, ⟨23, _⟩ => ⟨S4x1024x1024, .f32⟩
  | .hbm, ⟨24, _⟩ => ⟨S4x1024x1024, .f32⟩
  | .hbm, ⟨25, _⟩ => ⟨S_, .f32⟩
  | .hbm, ⟨26, _⟩ => ⟨S4x1024x1024, .f32⟩
  | .hbm, ⟨27, _⟩ => ⟨S4x1024x1024, .f32⟩
  | .hbm, ⟨28, _⟩ => ⟨S4x1024x1024, .f32⟩
  | .hbm, ⟨29, _⟩ => ⟨S_, .f32⟩
  | .hbm, ⟨30, _⟩ => ⟨S4x1024x1024, .f32⟩
  | .hbm, ⟨31, _⟩ => ⟨S4x1024x1024, .f32⟩
  | .hbm, ⟨32, _⟩ => ⟨S_, .f32⟩
  | .hbm, ⟨33, _⟩ => ⟨S4x1024x1024, .f32⟩
  | .hbm, ⟨34, _⟩ => ⟨S4x1024x1024, .f32⟩
  | .hbm, ⟨35, _⟩ => ⟨S4x1024x1024, .f32⟩
  | .hbm, ⟨36, _⟩ => ⟨S_, .f32⟩
  | .hbm, ⟨37, _⟩ => ⟨S4x1024x1024, .f32⟩
  | .hbm, ⟨38, _⟩ => ⟨S4x1024x1024, .f32⟩
  | .hbm, ⟨39, _⟩ => ⟨S4x1024x1024, .f32⟩
  | .hbm, ⟨40, _⟩ => ⟨S_, .f32⟩
  | .hbm, ⟨41, _⟩ => ⟨S4x1024x1024, .f32⟩
  | .hbm, ⟨42, _⟩ => ⟨S4x1024x1024, .f32⟩
  | .hbm, ⟨43, _⟩ => ⟨S4x1024x1024, .f32⟩
  | .hbm, ⟨44, _⟩ => ⟨S_, .f32⟩
  | .hbm, ⟨45, _⟩ => ⟨S4x1024x1024, .f32⟩
  | .hbm, ⟨46, _⟩ => ⟨S4x1024x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== AdFo.lean ====
abbrev S2048x1024 : Shape := ⟨2, ![2048, 1024]⟩
abbrev S4096x1024 : Shape := ⟨2, ![4096, 1024]⟩
abbrev S4x1024x1024 : Shape := ⟨3, ![4, 1024, 1024]⟩
abbrev S512x1024 : Shape := ⟨2, ![512, 1024]⟩

abbrev nBuf : Space → Nat
  | .hbm => 27
  | .vmem => 48
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4096x1024, .bf16⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | .local _ .vmem, ⟨33, _⟩ => ⟨S512x1024, .bf16⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== AdFoIdeal.lean ====
abbrev S2048x1024 : Shape := ⟨2, ![2048, 1024]⟩
abbrev S4096x1024 : Shape := ⟨2, ![4096, 1024]⟩
abbrev S4x1024x1024 : Shape := ⟨3, ![4, 1024, 1024]⟩
abbrev S512x1024 : Shape := ⟨2, ![512, 1024]⟩

abbrev nBuf : Space → Nat
  | .hbm => 27
  | .vmem => 48
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4096x1024, .bf16⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | .local _ .vmem, ⟨33, _⟩ => ⟨S512x1024, .bf16⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== AdFoRefIdeal.lean ====
abbrev S2048x1024 : Shape := ⟨2, ![2048, 1024]⟩
abbrev S4096x1024 : Shape := ⟨2, ![4096, 1024]⟩
abbrev S4x1024x1024 : Shape := ⟨3, ![4, 1024, 1024]⟩
abbrev S1024x1024 : Shape := ⟨2, ![1024, 1024]⟩
abbrev S1x1024x1024 : Shape := ⟨3, ![1, 1024, 1024]⟩
abbrev S2x1024x1024 : Shape := ⟨3, ![2, 1024, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4096x1024, .bf16⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S1024x1024, .bf16⟩
  | .hbm, ⟨7, _⟩ => ⟨S1x1024x1024, .bf16⟩
  | .hbm, ⟨8, _⟩ => ⟨S1024x1024, .bf16⟩
  | .hbm, ⟨9, _⟩ => ⟨S1x1024x1024, .bf16⟩
  | .hbm, ⟨10, _⟩ => ⟨S2048x1024, .bf16⟩
  | .hbm, ⟨11, _⟩ => ⟨S2x1024x1024, .bf16⟩
  | .hbm, ⟨12, _⟩ => ⟨S4x1024x1024, .bf16⟩
  | .hbm, ⟨13, _⟩ => ⟨S4x1024x1024, .f32⟩
  | .hbm, ⟨14, _⟩ => ⟨S_, .f32⟩
  | .hbm, ⟨15, _⟩ => ⟨S4x1024x1024, .f32⟩
  | .hbm, ⟨16, _⟩ => ⟨S4x1024x1024, .f32⟩
  | .hbm, ⟨17, _⟩ => ⟨S_, .f32⟩
  | .hbm, ⟨18, _⟩ => ⟨S4x1024x1024, .f32⟩
  | .hbm, ⟨19, _⟩ => ⟨S4x1024x1024, .f32⟩
  | .hbm, ⟨20, _⟩ => ⟨S4x1024x1024, .f32⟩
  | .hbm, ⟨21, _⟩ => ⟨S_, .f32⟩
  | .hbm, ⟨22, _⟩ => ⟨S4x1024x1024, .f32⟩
  | .hbm, ⟨23, _⟩ => ⟨S4x1024x1024, .f32⟩
  | .hbm, ⟨24, _⟩ => ⟨S4x1024x1024, .f32⟩
  | .hbm, ⟨25, _⟩ => ⟨S_, .f32⟩
  | .hbm, ⟨26, _⟩ => ⟨S4x1024x1024, .f32⟩
  | .hbm, ⟨27, _⟩ => ⟨S4x1024x1024, .f32⟩
  | .hbm, ⟨28, _⟩ => ⟨S4x1024x1024, .f32⟩
  | .hbm, ⟨29, _⟩ => ⟨S_, .f32⟩
  | .hbm, ⟨30, _⟩ => ⟨S4x1024x1024, .f32⟩
  | .hbm, ⟨31, _⟩ => ⟨S4x1024x1024, .f32⟩
  | .hbm, ⟨32, _⟩ => ⟨S_, .f32⟩
  | .hbm, ⟨33, _⟩ => ⟨S4x1024x1024, .f32⟩
  | .hbm, ⟨34, _⟩ => ⟨S4x1024x1024, .f32⟩
  | .hbm, ⟨35, _⟩ => ⟨S4x1024x1024, .f32⟩
  | .hbm, ⟨36, _⟩ => ⟨S_, .f32⟩
  | .hbm, ⟨37, _⟩ => ⟨S4x1024x1024, .f32⟩
  | .hbm, ⟨38, _⟩ => ⟨S4x1024x1024, .f32⟩
  | .hbm, ⟨39, _⟩ => ⟨S4x1024x1024, .f32⟩
  | .hbm, ⟨40, _⟩ => ⟨S_, .f32⟩
  | .hbm, ⟨41, _⟩ => ⟨S4x1024x1024, .f32⟩
  | .hbm, ⟨42, _⟩ => ⟨S4x1024x1024, .f32⟩
  | .hbm, ⟨43, _⟩ => ⟨S4x1024x1024, .f32⟩
  | .hbm, ⟨44, _⟩ => ⟨S_, .f32⟩
  | .hbm, ⟨45, _⟩ => ⟨S4x1024x1024, .f32⟩
  | .hbm, ⟨46, _⟩ => ⟨S4x1024x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== AdXq.lean ====
abbrev S2560x1024 : Shape := ⟨2, ![2560, 1024]⟩
abbrev S2816x1024 : Shape := ⟨2, ![2816, 1024]⟩
abbrev S5632x1024 : Shape := ⟨2, ![5632, 1024]⟩
abbrev S4x256x1024 : Shape := ⟨3, ![4, 256, 1024]⟩
abbrev S1024x1024 : Shape := ⟨2, ![1024, 1024]⟩
abbrev S256x1024 : Shape := ⟨2, ![256, 1024]⟩
abbrev S512x1024 : Shape := ⟨2, ![512, 1024]⟩

abbrev nBuf : Space → Nat
  | .hbm => 27
  | .vmem => 24
  | .smem => 0
  | _ => 0

abbrev bufTy : (tb : Table) → Fin (tcTables nBuf tb) → BufTy
  | .hbm, ⟨0, _⟩ => ⟨S2560x1024, .bf16⟩
  | .hbm, ⟨1, _⟩ => ⟨S2816x1024, .bf16⟩
  | .hbm, ⟨2, _⟩ => ⟨S5632x1024, .bf16⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | _, _ => ⟨S2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage1_0 : Fin 1 → Memref sig .tc .vmem S256x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage2_0 : Fin 1 → Memref sig .tc .vmem S512x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S512x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S512x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S512x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S512x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S512x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S512x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]
-- ==== AdXqIdeal.lean ====
abbrev S2560x1024 : Shape := ⟨2, ![2560, 1024]⟩
abbrev S2816x1024 : Shape := ⟨2, ![2816, 1024]⟩
abbrev S5632x1024 : Shape := ⟨2, ![5632, 1024]⟩
abbrev S4x256x1024 : Shape := ⟨3, ![4, 256, 1024]⟩
abbrev S1024x1024 : Shape := ⟨2, ![1024, 1024]⟩
abbrev S256x1024 : Shape := ⟨2, ![256, 1024]⟩
abbrev S512x1024 : Shape := ⟨2, ![512, 1024]⟩

abbrev nBuf : Space → Nat
  | .hbm => 27
  | .vmem => 24
  | .smem => 0
  | _ => 0

abbrev bufTy : (tb : Table) → Fin (tcTables nBuf tb) → BufTy
  | .hbm, ⟨0, _⟩ => ⟨S2560x1024, .bf16⟩
  | .hbm, ⟨1, _⟩ => ⟨S2816x1024, .bf16⟩
  | .hbm, ⟨2, _⟩ => ⟨S5632x1024, .bf16⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | _, _ => ⟨S2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage1_0 : Fin 1 → Memref sig .tc .vmem S256x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage2_0 : Fin 1 → Memref sig .tc .vmem S512x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S512x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S512x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S512x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S512x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S512x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S512x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]
-- ==== AdXqRefIdeal.lean ====
abbrev S2560x1024 : Shape := ⟨2, ![2560, 1024]⟩
abbrev S2816x1024 : Shape := ⟨2, ![2816, 1024]⟩
abbrev S5632x1024 : Shape := ⟨2, ![5632, 1024]⟩
abbrev S4x256x1024 : Shape := ⟨3, ![4, 256, 1024]⟩
abbrev S256x1024 : Shape := ⟨2, ![256, 1024]⟩
abbrev S1x256x1024 : Shape := ⟨3, ![1, 256, 1024]⟩
abbrev S512x1024 : Shape := ⟨2, ![512, 1024]⟩
abbrev S2x256x1024 : Shape := ⟨3, ![2, 256, 1024]⟩
abbrev S_ : Shape := ⟨0, ![]⟩
abbrev S1024x1024 : Shape := ⟨2, ![1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2560x1024, .bf16⟩
  | .hbm, ⟨1, _⟩ => ⟨S2816x1024, .bf16⟩
  | .hbm, ⟨2, _⟩ => ⟨S5632x1024, .bf16⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S256x1024, .bf16⟩
  | .hbm, ⟨7, _⟩ => ⟨S1x256x1024, .bf16⟩
  | .hbm, ⟨8, _⟩ => ⟨S256x1024, .bf16⟩
  | .hbm, ⟨9, _⟩ => ⟨S1x256x1024, .bf16⟩
  | .hbm, ⟨10, _⟩ => ⟨S512x1024, .bf16⟩
  | .hbm, ⟨11, _⟩ => ⟨S2x256x1024, .bf16⟩
  | .hbm, ⟨12, _⟩ => ⟨S4x256x1024, .bf16⟩
  | .hbm, ⟨13, _⟩ => ⟨S4x256x1024, .f32⟩
  | .hbm, ⟨14, _⟩ => ⟨S_, .f32⟩
  | .hbm, ⟨15, _⟩ => ⟨S4x256x1024, .f32⟩
  | .hbm, ⟨16, _⟩ => ⟨S4x256x1024, .f32⟩
  | .hbm, ⟨17, _⟩ => ⟨S_, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S_, .f32⟩
  | .hbm, ⟨22, _⟩ => ⟨S4x256x1024, .f32⟩
  | .hbm, ⟨23, _⟩ => ⟨S4x256x1024, .f32⟩
  | .hbm, ⟨24, _⟩ => ⟨S4x256x1024, .f32⟩
  | .hbm, ⟨25, _⟩ => ⟨S_, .f32⟩
  | .hbm, ⟨26, _⟩ => ⟨S4x256x1024, .f32⟩
  | .hbm, ⟨27, _⟩ => ⟨S4x256x1024, .f32⟩
  | .hbm, ⟨28, _⟩ => ⟨S4x256x1024, .f32⟩
  | .hbm, ⟨29, _⟩ => ⟨S_, .f32⟩
  | .hbm, ⟨30, _⟩ => ⟨S4x256x1024, .f32⟩
  | .hbm, ⟨31, _⟩ => ⟨S4x256x1024, .f32⟩
  | .hbm, ⟨32, _⟩ => ⟨S_, .f32⟩
  | .hbm, ⟨33, _⟩ => ⟨S4x256x1024, .f32⟩
  | .hbm, ⟨34, _⟩ => ⟨S4x256x1024, .f32⟩
  | .hbm, ⟨35, _⟩ => ⟨S4x256x1024, .f32⟩
  | .hbm, ⟨36, _⟩ => ⟨S_, .f32⟩
  | .hbm, ⟨37, _⟩ => ⟨S4x256x1024, .f32⟩
  | .hbm, ⟨38, _⟩ => ⟨S4x256x1024, .f32⟩
  | .hbm, ⟨39, _⟩ => ⟨S4x256x1024, .f32⟩
  | .hbm, ⟨40, _⟩ => ⟨S_, .f32⟩
  | .hbm, ⟨41, _⟩ => ⟨S4x256x1024, .f32⟩
  | .hbm, ⟨42, _⟩ => ⟨S4x256x1024, .f32⟩
  | .hbm, ⟨43, _⟩ => ⟨S4x256x1024, .f32⟩
  | .hbm, ⟨44, _⟩ => ⟨S_, .f32⟩
  | .hbm, ⟨45, _⟩ => ⟨S4x256x1024, .f32⟩
  | .hbm, ⟨46, _⟩ => ⟨S4x256x1024, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S1024x1024, .f32⟩
  | _, _ => ⟨S2560x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== AdXo.lean ====
abbrev S2560x1024 : Shape := ⟨2, ![2560, 1024]⟩
abbrev S2816x1024 : Shape := ⟨2, ![2816, 1024]⟩
abbrev S5632x1024 : Shape := ⟨2, ![5632, 1024]⟩
abbrev S4x256x1024 : Shape := ⟨3, ![4, 256, 1024]⟩
abbrev S1024x1024 : Shape := ⟨2, ![1024, 1024]⟩
abbrev S256x1024 : Shape := ⟨2, ![256, 1024]⟩
abbrev S512x1024 : Shape := ⟨2, ![512, 1024]⟩

abbrev nBuf : Space → Nat
  | .hbm => 27
  | .vmem => 24
  | .smem => 0
  | _ => 0

abbrev bufTy : (tb : Table) → Fin (tcTables nBuf tb) → BufTy
  | .hbm, ⟨0, _⟩ => ⟨S2560x1024, .bf16⟩
  | .hbm, ⟨1, _⟩ => ⟨S2816x1024, .bf16⟩
  | .hbm, ⟨2, _⟩ => ⟨S5632x1024, .bf16⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | _, _ => ⟨S2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage1_0 : Fin 1 → Memref sig .tc .vmem S256x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage2_0 : Fin 1 → Memref sig .tc .vmem S512x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S512x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S512x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S512x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S512x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S512x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S512x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]
-- ==== AdXoIdeal.lean ====
abbrev S2560x1024 : Shape := ⟨2, ![2560, 1024]⟩
abbrev S2816x1024 : Shape := ⟨2, ![2816, 1024]⟩
abbrev S5632x1024 : Shape := ⟨2, ![5632, 1024]⟩
abbrev S4x256x1024 : Shape := ⟨3, ![4, 256, 1024]⟩
abbrev S1024x1024 : Shape := ⟨2, ![1024, 1024]⟩
abbrev S256x1024 : Shape := ⟨2, ![256, 1024]⟩
abbrev S512x1024 : Shape := ⟨2, ![512, 1024]⟩

abbrev nBuf : Space → Nat
  | .hbm => 27
  | .vmem => 24
  | .smem => 0
  | _ => 0

abbrev bufTy : (tb : Table) → Fin (tcTables nBuf tb) → BufTy
  | .hbm, ⟨0, _⟩ => ⟨S2560x1024, .bf16⟩
  | .hbm, ⟨1, _⟩ => ⟨S2816x1024, .bf16⟩
  | .hbm, ⟨2, _⟩ => ⟨S5632x1024, .bf16⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | _, _ => ⟨S2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage1_0 : Fin 1 → Memref sig .tc .vmem S256x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage2_0 : Fin 1 → Memref sig .tc .vmem S512x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S512x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S512x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S512x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S512x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S512x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S512x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]
-- ==== AdXoRefIdeal.lean ====
abbrev S2560x1024 : Shape := ⟨2, ![2560, 1024]⟩
abbrev S2816x1024 : Shape := ⟨2, ![2816, 1024]⟩
abbrev S5632x1024 : Shape := ⟨2, ![5632, 1024]⟩
abbrev S4x256x1024 : Shape := ⟨3, ![4, 256, 1024]⟩
abbrev S256x1024 : Shape := ⟨2, ![256, 1024]⟩
abbrev S1x256x1024 : Shape := ⟨3, ![1, 256, 1024]⟩
abbrev S512x1024 : Shape := ⟨2, ![512, 1024]⟩
abbrev S2x256x1024 : Shape := ⟨3, ![2, 256, 1024]⟩
abbrev S_ : Shape := ⟨0, ![]⟩
abbrev S1024x1024 : Shape := ⟨2, ![1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2560x1024, .bf16⟩
  | .hbm, ⟨1, _⟩ => ⟨S2816x1024, .bf16⟩
  | .hbm, ⟨2, _⟩ => ⟨S5632x1024, .bf16⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S256x1024, .bf16⟩
  | .hbm, ⟨7, _⟩ => ⟨S1x256x1024, .bf16⟩
  | .hbm, ⟨8, _⟩ => ⟨S256x1024, .bf16⟩
  | .hbm, ⟨9, _⟩ => ⟨S1x256x1024, .bf16⟩
  | .hbm, ⟨10, _⟩ => ⟨S512x1024, .bf16⟩
  | .hbm, ⟨11, _⟩ => ⟨S2x256x1024, .bf16⟩
  | .hbm, ⟨12, _⟩ => ⟨S4x256x1024, .bf16⟩
  | .hbm, ⟨13, _⟩ => ⟨S4x256x1024, .f32⟩
  | .hbm, ⟨14, _⟩ => ⟨S_, .f32⟩
  | .hbm, ⟨15, _⟩ => ⟨S4x256x1024, .f32⟩
  | .hbm, ⟨16, _⟩ => ⟨S4x256x1024, .f32⟩
  | .hbm, ⟨17, _⟩ => ⟨S_, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S_, .f32⟩
  | .hbm, ⟨22, _⟩ => ⟨S4x256x1024, .f32⟩
  | .hbm, ⟨23, _⟩ => ⟨S4x256x1024, .f32⟩
  | .hbm, ⟨24, _⟩ => ⟨S4x256x1024, .f32⟩
  | .hbm, ⟨25, _⟩ => ⟨S_, .f32⟩
  | .hbm, ⟨26, _⟩ => ⟨S4x256x1024, .f32⟩
  | .hbm, ⟨27, _⟩ => ⟨S4x256x1024, .f32⟩
  | .hbm, ⟨28, _⟩ => ⟨S4x256x1024, .f32⟩
  | .hbm, ⟨29, _⟩ => ⟨S_, .f32⟩
  | .hbm, ⟨30, _⟩ => ⟨S4x256x1024, .f32⟩
  | .hbm, ⟨31, _⟩ => ⟨S4x256x1024, .f32⟩
  | .hbm, ⟨32, _⟩ => ⟨S_, .f32⟩
  | .hbm, ⟨33, _⟩ => ⟨S4x256x1024, .f32⟩
  | .hbm, ⟨34, _⟩ => ⟨S4x256x1024, .f32⟩
  | .hbm, ⟨35, _⟩ => ⟨S4x256x1024, .f32⟩
  | .hbm, ⟨36, _⟩ => ⟨S_, .f32⟩
  | .hbm, ⟨37, _⟩ => ⟨S4x256x1024, .f32⟩
  | .hbm, ⟨38, _⟩ => ⟨S4x256x1024, .f32⟩
  | .hbm, ⟨39, _⟩ => ⟨S4x256x1024, .f32⟩
  | .hbm, ⟨40, _⟩ => ⟨S_, .f32⟩
  | .hbm, ⟨41, _⟩ => ⟨S4x256x1024, .f32⟩
  | .hbm, ⟨42, _⟩ => ⟨S4x256x1024, .f32⟩
  | .hbm, ⟨43, _⟩ => ⟨S4x256x1024, .f32⟩
  | .hbm, ⟨44, _⟩ => ⟨S_, .f32⟩
  | .hbm, ⟨45, _⟩ => ⟨S4x256x1024, .f32⟩
  | .hbm, ⟨46, _⟩ => ⟨S4x256x1024, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S1024x1024, .f32⟩
  | _, _ => ⟨S2560x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== AdXkv.lean ====
abbrev S1024x512 : Shape := ⟨2, ![1024, 512]⟩
abbrev S2048x512 : Shape := ⟨2, ![2048, 512]⟩
abbrev S4x1024x512 : Shape := ⟨3, ![4, 1024, 512]⟩
abbrev S4096x512 : Shape := ⟨2, ![4096, 512]⟩
abbrev S512x512 : Shape := ⟨2, ![512, 512]⟩

abbrev nBuf : Space → Nat
  | .hbm => 27
  | .vmem => 48
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S2048x512, .bf16⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .bf16⟩
  | .local _ .vmem, ⟨33, _⟩ => ⟨S512x512, .bf16⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S512x512, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x512, .f32⟩
  | .local _ .vmem, ⟨46, _⟩ => ⟨S512x512, .f32⟩
  | .local _ .vmem, ⟨47, _⟩ => ⟨S512x512, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== AdXkvIdeal.lean ====
abbrev S1024x512 : Shape := ⟨2, ![1024, 512]⟩
abbrev S2048x512 : Shape := ⟨2, ![2048, 512]⟩
abbrev S4x1024x512 : Shape := ⟨3, ![4, 1024, 512]⟩
abbrev S4096x512 : Shape := ⟨2, ![4096, 512]⟩
abbrev S512x512 : Shape := ⟨2, ![512, 512]⟩

abbrev nBuf : Space → Nat
  | .hbm => 27
  | .vmem => 48
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S2048x512, .bf16⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .bf16⟩
  | .local _ .vmem, ⟨33, _⟩ => ⟨S512x512, .bf16⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S512x512, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x512, .f32⟩
  | .local _ .vmem, ⟨46, _⟩ => ⟨S512x512, .f32⟩
  | .local _ .vmem, ⟨47, _⟩ => ⟨S512x512, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_8 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_9 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_10 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_11 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== AdXkvRefIdeal.lean ====
abbrev S1024x512 : Shape := ⟨2, ![1024, 512]⟩
abbrev S2048x512 : Shape := ⟨2, ![2048, 512]⟩
abbrev S4x1024x512 : Shape := ⟨3, ![4, 1024, 512]⟩
abbrev S1x1024x512 : Shape := ⟨3, ![1, 1024, 512]⟩
abbrev S2x1024x512 : Shape := ⟨3, ![2, 1024, 512]⟩
abbrev S_ : Shape := ⟨0, ![]⟩
abbrev S4096x512 : Shape := ⟨2, ![4096, 512]⟩

abbrev nBuf : Space → Nat
  | .hbm => 48
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S2048x512, .bf16⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S1x1024x512, .bf16⟩
  | .hbm, ⟨7, _⟩ => ⟨S1x1024x512, .bf16⟩
  | .hbm, ⟨8, _⟩ => ⟨S2x1024x512, .bf16⟩
  | .hbm, ⟨9, _⟩ => ⟨S4x1024x512, .bf16⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S_, .f32⟩
  | .hbm, ⟨15, _⟩ => ⟨S4x1024x512, .f32⟩
  | .hbm, ⟨16, _⟩ => ⟨S4x1024x512, .f32⟩
  | .hbm, ⟨17, _⟩ => ⟨S4x1024x512, .f32⟩
  | .hbm, ⟨18, _⟩ => ⟨S_, .f32⟩
  | .hbm, ⟨19, _⟩ => ⟨S4x1024x512, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S_, .f32⟩
  | .hbm, ⟨30, _⟩ => ⟨S4x1024x512, .f32⟩
  | .hbm, ⟨31, _⟩ => ⟨S4x1024x512, .f32⟩
  | .hbm, ⟨32, _⟩ => ⟨S4x1024x512, .f32⟩
  | .hbm, ⟨33, _⟩ => ⟨S_, .f32⟩
  | .hbm, ⟨34, _⟩ => ⟨S4x1024x512, .f32⟩
  | .hbm, ⟨35, _⟩ => ⟨S4x1024x512, .f32⟩
  | .hbm, ⟨36, _⟩ => ⟨S4x1024x512, .f32⟩
  | .hbm, ⟨37, _⟩ => ⟨S_, .f32⟩
  | .hbm, ⟨38, _⟩ => ⟨S4x1024x512, .f32⟩
  | .hbm, ⟨39, _⟩ => ⟨S4x1024x512, .f32⟩
  | .hbm, ⟨40, _⟩ => ⟨S4x1024x512, .f32⟩
  | .hbm, ⟨41, _⟩ => ⟨S_, .f32⟩
  | .hbm, ⟨42, _⟩ => ⟨S4x1024x512, .f32⟩
  | .hbm, ⟨43, _⟩ => ⟨S4x1024x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== AdMo.lean ====
abbrev S256x1024 : Shape := ⟨2, ![256, 1024]⟩
abbrev S5632x1024 : Shape := ⟨2, ![5632, 1024]⟩
abbrev S2x256x1024 : Shape := ⟨3, ![2, 256, 1024]⟩
abbrev S512x1024 : Shape := ⟨2, ![512, 1024]⟩

abbrev nBuf : Space → Nat
  | .hbm => 19
  | .vmem => 16
  | .smem => 0
  | _ => 0

abbrev bufTy : (tb : Table) → Fin (tcTables nBuf tb) → BufTy
  | .hbm, ⟨0, _⟩ => ⟨S256x1024, .bf16⟩
  | .hbm, ⟨1, _⟩ => ⟨S5632x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage1_0 : Fin 1 → Memref sig .tc .vmem S256x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdMoRefIdeal.lean ====
abbrev S256x1024 : Shape := ⟨2, ![256, 1024]⟩
abbrev S5632x1024 : Shape := ⟨2, ![5632, 1024]⟩
abbrev S2x256x1024 : Shape := ⟨3, ![2, 256, 1024]⟩
abbrev S1x256x1024 : Shape := ⟨3, ![1, 256, 1024]⟩
abbrev S_ : Shape := ⟨0, ![]⟩
abbrev S512x1024 : Shape := ⟨2, ![512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S5632x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S1x256x1024, .bf16⟩
  | .hbm, ⟨6, _⟩ => ⟨S256x1024, .bf16⟩
  | .hbm, ⟨7, _⟩ => ⟨S1x256x1024, .bf16⟩
  | .hbm, ⟨8, _⟩ => ⟨S2x256x1024, .bf16⟩
  | .hbm, ⟨9, _⟩ => ⟨S2x256x1024, .f32⟩
  | .hbm, ⟨10, _⟩ => ⟨S_, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S512x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.ScRefPoint.lean ====
/- The gradient of the gated short convolution at one element: what the kernel's body stores there is the reference's value
   there, once every block the body loads is known to be its piece of the argument arrays. -/
module

public import proofs.«01_k».proof.Proof.Gen.ScRefIdeal.Read
public import proofs.«01_k».proof.Proof.Gen.ScIdeal.Frame
public import Idealize.ShloMosaic.Lib.Pointwise
public import Idealize.ShloMosaic.Lib.WordCmp

@[expose] public section

set_option maxRecDepth 16384

noncomputable section

open Idealize.ShloMosaic Idealize.ShloMosaic.TcCoe Idealize.SL.Sem

/-! ## The reference, read at an index -/

namespace Cert.ScRefIdeal.At
open Cert.ScRefIdeal Cert.ScRefIdeal.Gen Cert.ScRefIdeal.Read

variable (z : FVec Ideal S2048x3072 .f32) (w : FVec Ideal S3x1024 .f32) (dy : FVec Ideal S2048x1024 .f32)

/-- The product `c_gate * u` at row `r`, channel `q`: what the convolution runs over. -/
def cu (r : Fin 2048) (q : Fin 1024) : EReal := z (ix2 r ⟨1024 + q.val, by omega⟩) * z (ix2 r ⟨2048 + q.val, by omega⟩)

/-- The gradient that reaches the convolution's output: `dy * b_gate`. -/
def dc (r : Fin 2048) (q : Fin 1024) : EReal := dy (ix2 r q) * z (ix2 r ⟨q.val, by omega⟩)

/-- The convolution's padded input: two rows of zeros, then `cu`. -/
theorem xp_at (r : Fin 2050) (q : Fin 1024) : val_main_v5 (F := Ideal) z (ix2 r q)
    = if h : 2 ≤ r.val then cu z ⟨r.val - 2, by omega⟩ q else 0 := by
  pointwise [val_main_v5, val_main_v4, val_main_cst, val_main_v3, val_main_v2, val_main_v1, cu]
  by_cases h : 2 ≤ r.val
  · have h' : ¬ r.val < 2 := by omega
    simp only [dif_pos h, dif_neg h']
  · have h' : r.val < 2 := by omega
    simp only [dif_neg h, dif_pos h']

/-- The gradient of `b_gate`: `dy` times the convolution of the rows `r`, `r - 1` and `r - 2`. -/
theorem db_at (r : Fin 2048) (q : Fin 1024) : val_main_v71 (F := Ideal) z w dy (ix2 r q)
    = dy (ix2 r q) * (cu z r q * w (ix2 2 q) + (if h : 2 ≤ r.val then cu z ⟨r.val - 2, by omega⟩ q * w (ix2 0 q) else 0)
        + (if h : 1 ≤ r.val then cu z ⟨r.val - 1, by omega⟩ q * w (ix2 1 q) else 0)) := by
  pointwise [val_main_v71, val_main_v68, val_main_v67, val_main_v31, val_main_v28, val_main_v27, val_main_v26, val_main_v25,
    val_main_v24, val_main_v23, val_main_v22, val_main_v21, val_main_v20, val_main_v19, val_main_v18, val_main_v17,
    val_main_v16, val_main_v15, val_main_v14, val_main_v13, val_main_cst_1, val_main_v12, val_main_v11, val_main_v10,
    val_main_v9, val_main_v8, val_main_v7]
  simp only [xp_at]
  refine congrArg (_ * ·) ?_
  rw [add_comm, ← add_assoc]
  refine congrArg₂ (· + ·) (congrArg₂ (· + ·) ?_ ?_) ?_
  · have h2 : 2 ≤ 2 + r.val := by omega
    have e : 2 + r.val - 2 = r.val := by omega
    simp only [dif_pos h2, e, Fin.eta]
    exact mul_comm _ _
  · by_cases h : 2 ≤ r.val
    · simp only [dif_pos h]
      exact mul_comm _ _
    · simp only [dif_neg h, mul_zero]
  · by_cases h : 1 ≤ r.val
    · have h' : 2 ≤ 1 + r.val := by omega
      have e : 1 + r.val - 2 = r.val - 1 := by omega
      simp only [dif_pos h, dif_pos h', e]
      exact mul_comm _ _
    · have h' : ¬ 2 ≤ 1 + r.val := by omega
      simp only [dif_neg h, dif_neg h', mul_zero]

/-- The gradient of `c_gate * u`: the taps run forwards, over the rows `r`, `r + 1` and `r + 2`. -/
def dcu (r : Fin 2048) (q : Fin 1024) : EReal :=
  dc z dy r q * w (ix2 2 q) + (if h : r.val < 2046 then dc z dy ⟨r.val + 2, by omega⟩ q * w (ix2 0 q) else 0)
    + (if h : r.val < 2047 then dc z dy ⟨r.val + 1, by omega⟩ q * w (ix2 1 q) else 0)

theorem swap3 (a b c : EReal) : a * (b * c) = c * b * a := by
  rw [mul_comm, mul_comm b]

theorem dcu_at (r : Fin 2048) (q : Fin 1024) : val_main_v64 (F := Ideal) z w dy (ix2 r q) = dcu z w dy r q := by
  pointwise [val_main_v64, val_main_v58, val_main_v57, val_main_v47, val_main_v46, val_main_v42, val_main_v41, val_main_v37,
    val_main_v33, val_main_v32, val_main_v53, val_main_v52, val_main_cst_11, val_main_cst_7, val_main_cst_3, val_main_v30,
    val_main_v0, val_main_v9, val_main_v8, val_main_v7, val_main_v17, val_main_v16, val_main_v15, val_main_v24,
    val_main_v23, val_main_v22, dcu, dc]
  rw [add_right_comm]
  refine congrArg₂ (· + ·) (congrArg₂ (· + ·) (swap3 _ _ _) ?_) ?_
  · have e : 2 + r.val = r.val + 2 := by omega
    by_cases h : r.val < 2046
    · have h' : 2 + r.val < 2048 := by omega
      simp only [dif_pos h, dif_pos h']
      simp only [e]
      exact swap3 _ _ _
    · have h' : ¬ 2 + r.val < 2048 := by omega
      simp only [dif_neg h, dif_neg h']
  · have e : 2 + r.val - 1 = r.val + 1 := by omega
    by_cases h : r.val < 2047
    · have h' : 1 ≤ 2 + r.val ∧ 2 + r.val - 1 < 2048 := by omega
      simp only [dif_pos h, dif_pos h']
      simp only [e]
      exact swap3 _ _ _
    · have h' : ¬ (1 ≤ 2 + r.val ∧ 2 + r.val - 1 < 2048) := by omega
      simp only [dif_neg h, dif_neg h']

/-- The gradient of `c_gate`. -/
theorem dc_at (r : Fin 2048) (q : Fin 1024) : val_main_v72 (F := Ideal) z w dy (ix2 r q)
    = dcu z w dy r q * z (ix2 r ⟨2048 + q.val, by omega⟩) := by
  rw [← dcu_at]
  pointwise [val_main_v72, val_main_v69, val_main_v67, val_main_v66, val_main_v2]

/-- The gradient of `u`. -/
theorem du_at (r : Fin 2048) (q : Fin 1024) : val_main_v73 (F := Ideal) z w dy (ix2 r q)
    = dcu z w dy r q * z (ix2 r ⟨1024 + q.val, by omega⟩) := by
  rw [← dcu_at]
  pointwise [val_main_v73, val_main_v70, val_main_v67, val_main_v65, val_main_v1]
  have h0 : ¬ 2048 + q.val < 1024 := by omega
  have h1 : ¬ 2048 + q.val - 1024 < 1024 := by omega
  have e : 2048 + q.val - 1024 - 1024 = q.val := by omega
  simp only [dif_neg h0, dif_neg h1, e]
  exact mul_comm _ _

/-- The gradient of the taps: row `k` sums the gradient against the product `2 - k` rows earlier. -/
theorem dw_at (k : Fin 3) (q : Fin 1024) : val_main_v62 (F := Ideal) z dy (ix2 k q)
    = ∑ x : Fin 2048, (if h : 2 ≤ x.val + k.val then dc z dy x q * cu z ⟨x.val + k.val - 2, by omega⟩ q else 0) := by
  pointwise [val_main_v62, val_main_v61, val_main_v60, val_main_v59, val_main_v56, val_main_v55, val_main_v54, val_main_cst_10,
    val_main_cst_12, val_main_cst_13, val_main_v51, val_main_v50, val_main_v49, val_main_v48, val_main_v45, val_main_v44,
    val_main_v43, val_main_cst_6, val_main_cst_8, val_main_cst_9, val_main_v40, val_main_v39, val_main_v38, val_main_v36,
    val_main_v35, val_main_v34, val_main_cst_2, val_main_cst_4, val_main_cst_5, val_main_v30, val_main_v0, val_main_v10,
    val_main_v18, val_main_v25]
  simp only [xp_at, Fin.sum_univ_one]
  fin_vals k with hk <;> simp only [hk] <;> norm_num <;> refine Finset.sum_congr rfl fun x _ => ?_
  · by_cases h : 2 ≤ x.val
    · simp only [dif_pos h]
      exact congrArg (· * _) (mul_comm _ _)
    · simp only [dif_neg h]
  · have e : 1 + x.val = x.val + 1 := by omega
    by_cases h : 2 ≤ x.val + 1
    · simp only [e, dif_pos h]
      exact congrArg (· * _) (mul_comm _ _)
    · simp only [e, dif_neg h]
  · exact congrArg (· * _) (mul_comm _ _)

end Cert.ScRefIdeal.At

end
-- ==== Proof.ScPoint.lean ====
/- The gradient of the gated short convolution at one element: what the kernel's body stores there is the reference's value
   there, once every block the body loads is known to be its piece of the argument arrays. -/
module

public import proofs.«01_k».proof.Proof.ScRefPoint
public import proofs.«01_k».proof.Proof.Gen.ScIdeal.Frame
public import Idealize.ShloMosaic.Lib.Pointwise
public import Idealize.ShloMosaic.Lib.WordCmp

@[expose] public section

set_option maxRecDepth 16384

noncomputable section

open Idealize.ShloMosaic Idealize.ShloMosaic.TcCoe Idealize.SL.Sem

/-! ## The reference, read at an index -/

/-! ## The kernel's body -/

namespace Cert.ScIdeal.Point
open Cert.ScIdeal Cert.ScIdeal.Gen Cert.ScRefIdeal.At Cert.ScRefIdeal.Read

variable (z : FVec Ideal S2048x3072 .f32) (w : FVec Ideal S3x1024 .f32) (dy : FVec Ideal S2048x1024 .f32)
variable (b c u d : FVec Ideal S2048x256 .f32) (w2 w0 w1 : FVec Ideal S1x256 .f32)

/-- The blocks at lane `l` are column `q` of the arrays. -/
structure Blocks (q : Fin 1024) (l : Fin 256) : Prop where
  hb : ∀ r : Fin 2048, b (ix2 r l) = z (ix2 r ⟨q.val, by omega⟩)
  hc : ∀ r : Fin 2048, c (ix2 r l) = z (ix2 r ⟨1024 + q.val, by omega⟩)
  hu : ∀ r : Fin 2048, u (ix2 r l) = z (ix2 r ⟨2048 + q.val, by omega⟩)
  hd : ∀ r : Fin 2048, d (ix2 r l) = dy (ix2 r q)
  hw2 : w2 (ix2 0 l) = w (ix2 2 q)
  hw0 : w0 (ix2 0 l) = w (ix2 0 q)
  hw1 : w1 (ix2 0 l) = w (ix2 1 q)

variable {z w dy b c u d w2 w0 w1} {q : Fin 1024} {l : Fin 256}

theorem db_point (H : Blocks z w dy b c u d w2 w0 w1 q l) (r : Fin 2048) :
    k0_pay3 (F := Ideal) c u d w2 w0 w1 (ix2 r l) = val_main_v71 (F := Ideal) z w dy (ix2 r q) := by
  obtain ⟨hb, hc, hu, hd, hw2, hw0, hw1⟩ := H
  rw [db_at]
  pointwise [k0_pay3, k0_pay2, cu]
  word_cmp
  simp only [hc, hu, hd, hw2, hw0, hw1]
  refine congrArg (_ * ·) (congrArg₂ (· + ·) (congrArg₂ (· + ·) rfl ?_) ?_)
  · by_cases h : 2 ≤ r.val
    · have e : (r.val + 2048 - 2) % 2048 = r.val - 2 := by omega
      simp only [if_pos h, dif_pos h, e]
    · simp only [if_neg h, dif_neg h]
  · by_cases h : 1 ≤ r.val
    · have e : (r.val + 2048 - 1) % 2048 = r.val - 1 := by omega
      simp only [if_pos h, dif_pos h, e]
    · simp only [if_neg h, dif_neg h]

/-- The gradient of `c_gate * u`, as the body holds it. -/
theorem dcu_point (H : Blocks z w dy b c u d w2 w0 w1 q l) (r : Fin 2048) :
    k0_pay6 (F := Ideal) (k0_pay4 d b) (k0_pay5 w2) w0 w1 (ix2 r l) = dcu z w dy r q := by
  obtain ⟨hb, hc, hu, hd, hw2, hw0, hw1⟩ := H
  pointwise [k0_pay6, k0_pay5, k0_pay4, dcu, dc]
  word_cmp
  simp only [hb, hd, hw2, hw0, hw1]
  refine congrArg₂ (· + ·) (congrArg₂ (· + ·) rfl ?_) ?_
  · by_cases h : r.val < 2046
    · have e : (r.val + 2048 - 2046) % 2048 = r.val + 2 := by omega
      simp only [if_pos h, dif_pos h, e]
    · simp only [if_neg h, dif_neg h]
  · by_cases h : r.val < 2047
    · have e : (r.val + 2048 - 2047) % 2048 = r.val + 1 := by omega
      simp only [if_pos h, dif_pos h, e]
    · simp only [if_neg h, dif_neg h]

theorem dc_point (H : Blocks z w dy b c u d w2 w0 w1 q l) (r : Fin 2048) :
    k0_pay7 (F := Ideal) u (k0_pay4 d b) (k0_pay5 w2) w0 w1 (ix2 r l) = val_main_v72 (F := Ideal) z w dy (ix2 r q) := by
  rw [dc_at, ← dcu_point H, ← H.hu]
  pointwise [k0_pay7]

theorem du_point (H : Blocks z w dy b c u d w2 w0 w1 q l) (r : Fin 2048) :
    k0_pay8 (F := Ideal) c (k0_pay4 d b) (k0_pay5 w2) w0 w1 (ix2 r l) = val_main_v73 (F := Ideal) z w dy (ix2 r q) := by
  rw [du_at, ← dcu_point H, ← H.hc]
  pointwise [k0_pay8]

set_option maxHeartbeats 1600000 in
theorem dw_point (H : Blocks z w dy b c u d w2 w0 w1 q l) (k : Fin 3) :
    k0_pay1 (F := Ideal) (k0_pay2 c u) (k0_pay4 d b) (iota .tc S3x256 32 [0] iota_S3x256_d0_w32) (k0_pay9 (F := Ideal))
      (k0_pay10 (k0_pay2 c u) (k0_pay4 d b)) 0#32 (ix2 k l) = val_main_v62 (F := Ideal) z dy (ix2 k q) := by
  obtain ⟨hb, hc, hu, hd, hw2, hw0, hw1⟩ := H
  rw [dw_at]
  pointwise [k0_pay1, k0_pay9, k0_pay10, k0_pay2, k0_pay4, dc, cu]
  word_cmp
  simp only [hb, hd, hc, hu]
  fin_vals k with hk <;> simp only [hk]
  · rw [if_neg (by omega), if_neg (by omega), if_pos trivial]
    refine Finset.sum_congr rfl fun x _ => ?_
    by_cases h : 2 ≤ x.val
    · have e : (x.val + 2048 - 2) % 2048 = x.val + 0 - 2 := by omega
      have h' : 2 ≤ x.val + 0 := h
      simp only [if_pos h, dif_pos h', e]
    · have h' : ¬ 2 ≤ x.val + 0 := h
      simp only [if_neg h, dif_neg h']
  · rw [if_neg (by omega), if_pos trivial]
    refine Finset.sum_congr rfl fun x _ => ?_
    by_cases h : 1 ≤ x.val
    · have e : (x.val + 2048 - 1) % 2048 = x.val + 1 - 2 := by omega
      have h' : 2 ≤ x.val + 1 := by omega
      simp only [if_pos h, dif_pos h', e]
    · have h' : ¬ 2 ≤ x.val + 1 := by omega
      simp only [if_neg h, dif_neg h']
  · rw [if_pos trivial]
    refine Finset.sum_congr rfl fun x _ => ?_
    have h' : 2 ≤ x.val + 2 := by omega
    have e : x.val + 2 - 2 = x.val := by omega
    simp only [dif_pos h', e]

end Cert.ScIdeal.Point
end
-- ==== Proof.ScValue.lean ====
/- The gradient of the gated short convolution, whole arrays: the four blocks of 256 columns the kernel writes cover each of
   its four results, and each element is the reference's. -/
module

public import proofs.«01_k».proof.Proof.ScPoint
public import proofs.«01_k».proof.Proof.Gen.ScIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ScIdeal.Arr
open Cert.ScIdeal Cert.ScIdeal.Gen Cert.ScIdeal.Point Cert.ScRefIdeal.Read

variable (m : (ℓ : Loc nD τ sig) → Buf (Elt Ideal) ℓ) (c : Dev nD)

/-- The argument arrays in the entry store. -/
abbrev Z : FVec Ideal S2048x3072 .f32 := m ((c : Thread nD τ).loc main_arg0)
abbrev W : FVec Ideal S3x1024 .f32 := m ((c : Thread nD τ).loc main_arg1)
abbrev D : FVec Ideal S2048x1024 .f32 := m ((c : Thread nD τ).loc main_arg2)

theorem idx : ∀ t : Fin cfg0.N, win0_0.index t = ![0, t.val] ∧ win0_1.index t = ![0, 4 + t.val] ∧ win0_2.index t = ![0, 8 + t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] := (by decide +kernel : ∀ t : Fin grid0.N, _)

theorem blocks (t : Fin cfg0.N) (l : Fin 256) (q : Fin 1024) (hq : q.val = t.val * 256 + l.val) :
    Blocks (Z m c) (W m c) (D m c) (iblk m c 0 t) (iblk m c 1 t) (iblk m c 2 t) (iblk m c 4 t)
      (View.ld (iblk m c 3 t) r0_1) (View.ld (iblk m c 3 t) r0_2) (View.ld (iblk m c 3 t) r0_3) q l where
  hb r := by blk_ext [iblk, V, idx t, hq]
  hc r := by blk_ext [iblk, V, idx t, hq]
  hu r := by blk_ext [iblk, V, idx t, hq]
  hd r := by blk_ext [iblk, V, idx t, hq]
  hw2 := by
    show iblk m c 3 t (r0_1.idx (ix2 0 l)) = _
    blk_ext [iblk, V, idx t, hq]
    · rfl
    · show t.val * 256 + (0 + 1 * l.val) = _
      omega
  hw0 := by
    show iblk m c 3 t (r0_2.idx (ix2 0 l)) = _
    blk_ext [iblk, V, idx t, hq]
    · rfl
    · show t.val * 256 + (0 + 1 * l.val) = _
      omega
  hw1 := by
    show iblk m c 3 t (r0_3.idx (ix2 0 l)) = _
    blk_ext [iblk, V, idx t, hq]
    · rfl
    · show t.val * 256 + (0 + 1 * l.val) = _
      omega

/-- Block `t`'s lane `l` is column `t * 256 + l`. -/
theorem col_lt (t : Fin cfg0.N) (l : Fin 256) : t.val * 256 + l.val < 1024 := by
  have h : t.val < 4 := t.isLt
  omega

theorem final5 : (dats m 0 c).arrAt 5 (cfgs 0).N = val_main_v71 (F := Ideal) (Z m c) (W m c) (D m c) := by
  refine (dats m 0 c).arrAt_eq_of_covers 5 _ (by decide +kernel) fun t _ y => ?_
  blk_simp
  rw [after0_5]
  frame_out
  idx_vars y
  refine (db_point (blocks m c t y1 ⟨t.val * 256 + y1.val, col_lt t y1⟩ rfl) y0).trans ?_
  blk_ext [idx t]

theorem final6 : (dats m 0 c).arrAt 6 (cfgs 0).N = val_main_v72 (F := Ideal) (Z m c) (W m c) (D m c) := by
  refine (dats m 0 c).arrAt_eq_of_covers 6 _ (by decide +kernel) fun t _ y => ?_
  blk_simp
  rw [after0_6]
  unfold_out out0_6
  frame_out
  idx_vars y
  refine (dc_point (blocks m c t y1 ⟨t.val * 256 + y1.val, col_lt t y1⟩ rfl) y0).trans ?_
  blk_ext [idx t]

theorem final7 : (dats m 0 c).arrAt 7 (cfgs 0).N = val_main_v73 (F := Ideal) (Z m c) (W m c) (D m c) := by
  refine (dats m 0 c).arrAt_eq_of_covers 7 _ (by decide +kernel) fun t _ y => ?_
  blk_simp
  rw [after0_7]
  unfold_out out0_7
  frame_out
  idx_vars y
  refine (du_point (blocks m c t y1 ⟨t.val * 256 + y1.val, col_lt t y1⟩ rfl) y0).trans ?_
  blk_ext [idx t]

theorem final8 : (dats m 0 c).arrAt 8 (cfgs 0).N = val_main_v62 (F := Ideal) (Z m c) (D m c) := by
  refine (dats m 0 c).arrAt_eq_of_covers 8 _ (by decide +kernel) fun t _ y => ?_
  blk_simp
  rw [after0_8]
  unfold_out out0_8
  frame_out
  idx_vars y
  refine (dw_point (blocks m c t y1 ⟨t.val * 256 + y1.val, col_lt t y1⟩ rfl) y0).trans ?_
  blk_ext [idx t]

end Cert.ScIdeal.Arr
end
-- ==== Proof.DwoValue.lean ====
/- The gradient of the second MLP weight, whole array: each block the kernel writes is the reference's block, a sum over the
   2048 rows of the products of the activation and the incoming gradient. -/
module

public import proofs.«01_k».proof.Proof.Gen.DwoIdeal.Value
public import proofs.«01_k».proof.Proof.Gen.DwoRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DwoIdeal.Arr
open Cert.DwoIdeal Cert.DwoIdeal.Gen Cert.DwoRefIdeal.Read

variable (m : (ℓ : Loc nD τ sig) → Buf (Elt Ideal) ℓ) (c : Dev nD)

/-- The activation and the incoming gradient in the entry store. -/
abbrev A : FVec Ideal S2048x4096 .bf16 := m ((c : Thread nD τ).loc main_arg0)
abbrev D : FVec Ideal S2048x1024 .bf16 := m ((c : Thread nD τ).loc main_arg2)

theorem idx : ∀ t : Fin cfg0.N, win0_0.index t = ![0, t.val] ∧ win0_1.index t = ![0, 0] ∧ win0_2.index t = ![t.val, 0, 0] :=
  (by decide +kernel : ∀ t : Fin grid0.N, _)

/-- What a point stores, element by element. -/
theorem pay (x y : Vec Ideal S2048x1024 .bf16) (r q : Fin 1024) :
    k0_pay1 (F := Ideal) x y (ix3 0 r q) = ∑ k : Fin 2048, x (ix2 k r) * y (ix2 k q) := by
  pointwise [k0_pay1]

/-- The reference's element. -/
theorem ref (a : FVec Ideal S2048x4096 .bf16) (d : FVec Ideal S2048x1024 .bf16) (b : Fin 4) (r q : Fin 1024) (p : Fin 4096)
    (hp : p.val = b.val * 1024 + r.val) :
    val_main_v6 (F := Ideal) a d (ix3 b r q) = ∑ k : Fin 2048, a (ix2 k p) * d (ix2 k q) := by
  pointwise [val_main_v6, val_main_v5, val_main_v4, val_main_v3, val_main_v2, val_main_v0]
  have e : (⟨b.val * 1024 + r.val, by omega⟩ : Fin 4096) = p := Fin.ext hp.symm
  exact Finset.sum_congr rfl fun k _ => (mul_comm _ _).trans (congrArg (fun j => a (ix2 k j) * d (ix2 k q)) e)

theorem final2 : (dats m 0 c).arrAt 2 (cfgs 0).N = val_main_v6 (F := Ideal) (A m c) (D m c) := by
  refine (dats m 0 c).arrAt_eq_of_covers 2 _ (by decide +kernel) fun t _ y => ?_
  blk_simp
  rw [after0_2]
  frame_out
  idx_vars y
  obtain rfl : y0 = 0 := Subsingleton.elim _ _
  have hb : t.val < 4 := t.isLt
  rw [pay]
  refine (Eq.trans ?_ (ref (A m c) (D m c) ⟨t.val, hb⟩ y1 y2 ⟨t.val * 1024 + y1.val, by omega⟩ rfl).symm).trans ?_
  · refine Finset.sum_congr rfl fun k _ => congrArg₂ (· * ·) ?_ ?_
    · blk_ext [iblk, V, idx t]
    · blk_ext [iblk, V, idx t]
  · blk_ext [idx t]

end Cert.DwoIdeal.Arr
end
-- ==== Proof.DhValue.lean ====
/- The gradient through the second MLP product and the squared relu, whole array: each block the kernel writes is the reference's
   block, the row's product with the weight's row, times twice the positive part of the hidden value. -/
module

public import proofs.«01_k».proof.Proof.Gen.DhIdeal.Value
public import proofs.«01_k».proof.Proof.Gen.DhRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DhIdeal.Arr
open Cert.DhIdeal Cert.DhIdeal.Gen Cert.DhRefIdeal.Read

variable (m : (ℓ : Loc nD τ sig) → Buf (Elt Ideal) ℓ) (c : Dev nD)

/-- The hidden row, the weight and the incoming gradient in the entry store. -/
abbrev H : FVec Ideal S2048x4096 .bf16 := m ((c : Thread nD τ).loc main_arg0)
abbrev W : FVec Ideal S4096x1024 .f32 := m ((c : Thread nD τ).loc main_arg1)
abbrev D : FVec Ideal S2048x1024 .bf16 := m ((c : Thread nD τ).loc main_arg2)

theorem idx : ∀ t : Fin cfg0.N, win0_0.index t = ![t.val / 4, 0] ∧ win0_1.index t = ![t.val % 4, 0, 0]
    ∧ win0_2.index t = ![t.val / 4, t.val % 4] ∧ win0_3.index t = ![t.val / 4, t.val % 4] :=
  (by decide +kernel : ∀ t : Fin grid0.N, _)

/-- The weight as the host packs it: slot `b` holds rows `b * 1024 …`. -/
theorem slab (b : Fin 4) (r q : Fin 1024) (p : Fin 4096) (hp : p.val = b.val * 1024 + r.val) :
    V m c main_v1 (ix3 b r q) = W m c (ix2 p q) := by
  have e : V m c main_v1 = truncf .bf16 (shapeCast S4x1024x1024 (W m c) shapeCasts_S4096x1024_S4x1024x1024) bitsLt_bf16_f32 := by
    show StableHlo.after hostOps0 _ _ = _
    after_results
    rfl
  rw [e]
  pointwise
  exact congrArg (fun j => W m c (ix2 j q)) (Fin.ext hp.symm)

/-- The constant two of the square's derivative. -/
abbrev two : EReal := Ideal.ofBits .f32 1073741824#32

/-- What a point stores, element by element. -/
theorem pay (x : Vec Ideal S1024x1024 .bf16) (w : Vec Ideal S1x1024x1024 .bf16) (h : Vec Ideal S1024x1024 .bf16) (r q : Fin 1024) :
    k0_pay1 (F := Ideal) x w h (ix2 r q) = (∑ k : Fin 1024, x (ix2 r k) * w (ix3 0 q k)) * (two * max (h (ix2 r q)) 0) := by
  pointwise [k0_pay1]

theorem ref (h : FVec Ideal S2048x4096 .bf16) (w : FVec Ideal S4096x1024 .f32) (d : FVec Ideal S2048x1024 .bf16) (r : Fin 2048) (q : Fin 4096) :
    val_main_v14 (F := Ideal) h w d (ix2 r q) = (∑ k : Fin 1024, d (ix2 r k) * w (ix2 q k)) * (two * max (h (ix2 r q)) 0) := by
  pointwise [val_main_v14, val_main_v13, val_main_v12, val_main_v11, val_main_v10, val_main_v9, val_main_v7, val_main_v6, val_main_v4, val_main_v3, val_main_v2,
    val_main_v1, val_main_v0, val_main_cst, val_main_cst_1, val_main_cst_2, val_main_call0_v0, val_main_call0_cst]
  split_ifs with hp
  · rfl
  · rw [max_eq_right (not_lt.mp hp), mul_zero, mul_zero]

theorem final3 : (dats m 0 c).arrAt 3 (cfgs 0).N = val_main_v14 (F := Ideal) (H m c) (W m c) (D m c) := by
  refine (dats m 0 c).arrAt_eq_of_covers 3 _ (by decide +kernel) fun t _ y => ?_
  blk_simp
  rw [after0_3]
  frame_out
  idx_vars y
  have hb : t.val < 8 := t.isLt
  rw [pay]
  refine (Eq.trans ?_ (ref (H m c) (W m c) (D m c) ⟨t.val / 4 * 1024 + y0.val, by omega⟩ ⟨t.val % 4 * 1024 + y1.val, by omega⟩).symm).trans ?_
  · refine congrArg₂ (· * ·) (Finset.sum_congr rfl fun k _ => congrArg₂ (· * ·) ?_ ?_) (congrArg (two * max · 0) ?_)
    · blk_ext [iblk, V_main_arg2, idx t]
    · refine Eq.trans ?_ (slab m c ⟨t.val % 4, by omega⟩ y1 k _ rfl)
      blk_ext [iblk, idx t]
    · blk_ext [iblk, V_main_arg0, idx t]
  · blk_ext [idx t]

end Cert.DhIdeal.Arr
end
-- ==== Proof.DwiValue.lean ====
/- The gradient of the first MLP weight, whole array: each block the kernel writes is the reference's block, a sum over the
   2048 rows of the products of the normalised input and the gradient of the hidden row. -/
module

public import proofs.«01_k».proof.Proof.Gen.DwiIdeal.Value
public import proofs.«01_k».proof.Proof.Gen.DwiRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DwiIdeal.Arr
open Cert.DwiIdeal Cert.DwiIdeal.Gen Cert.DwiRefIdeal.Read

variable (m : (ℓ : Loc nD τ sig) → Buf (Elt Ideal) ℓ) (c : Dev nD)

/-- The normalised input and the gradient of the hidden row in the entry store. -/
abbrev A : FVec Ideal S2048x1024 .bf16 := m ((c : Thread nD τ).loc main_arg0)
abbrev D : FVec Ideal S2048x4096 .bf16 := m ((c : Thread nD τ).loc main_arg2)

theorem idx : ∀ t : Fin cfg0.N, win0_0.index t = ![0, 0] ∧ win0_1.index t = ![0, t.val] ∧ win0_2.index t = ![t.val, 0, 0] :=
  (by decide +kernel : ∀ t : Fin grid0.N, _)

/-- What a point stores, element by element. -/
theorem pay (x y : Vec Ideal S2048x1024 .bf16) (r q : Fin 1024) :
    k0_pay1 (F := Ideal) x y (ix3 0 r q) = ∑ k : Fin 2048, x (ix2 k r) * y (ix2 k q) := by
  pointwise [k0_pay1]

/-- The reference's element: column `b * 1024 + q` of the weight's gradient stands in slot `b`. -/
theorem ref (a : FVec Ideal S2048x1024 .bf16) (d : FVec Ideal S2048x4096 .bf16) (b : Fin 4) (r q : Fin 1024) (p : Fin 4096)
    (hp : p.val = b.val * 1024 + q.val) :
    val_main_v7 (F := Ideal) a d (ix3 b r q) = ∑ k : Fin 2048, a (ix2 k r) * d (ix2 k p) := by
  pointwise [val_main_v7, val_main_v6, val_main_v5, val_main_v4, val_main_v3, val_main_v2, val_main_v0]
  have e : (⟨b.val * 1024 + q.val, by omega⟩ : Fin 4096) = p := Fin.ext hp.symm
  exact Finset.sum_congr rfl fun k _ => (mul_comm _ _).trans (congrArg (fun j => a (ix2 k r) * d (ix2 k j)) e)

theorem final2 : (dats m 0 c).arrAt 2 (cfgs 0).N = val_main_v7 (F := Ideal) (A m c) (D m c) := by
  refine (dats m 0 c).arrAt_eq_of_covers 2 _ (by decide +kernel) fun t _ y => ?_
  blk_simp
  rw [after0_2]
  frame_out
  idx_vars y
  obtain rfl : y0 = 0 := Subsingleton.elim _ _
  have hb : t.val < 4 := t.isLt
  rw [pay]
  refine (Eq.trans ?_ (ref (A m c) (D m c) ⟨t.val, hb⟩ y1 y2 ⟨t.val * 1024 + y2.val, by omega⟩ rfl).symm).trans ?_
  · refine Finset.sum_congr rfl fun k _ => congrArg₂ (· * ·) ?_ ?_
    · blk_ext [iblk, V, idx t]
    · blk_ext [iblk, V, idx t]
  · blk_ext [idx t]

end Cert.DwiIdeal.Arr
end
-- ==== Proof.DnRms.lean ====
module

public import Idealize.ShloMosaic.Lib.Pipeline.ValueKit
public import Idealize.ShloMosaic.Lib.Pointwise

@[expose] public section

noncomputable section

open Idealize.ShloMosaic

/-! The gradient of the root-mean-square norm at one row, over the extended reals: the factored form and the
form of the chain rule are equal at every argument. -/

namespace Cert.Rms

/-- The length of a row. -/
abbrev len : EReal := Ideal.ofBits FTy.f32 1149239296#32
/-- What is added under the root. -/
abbrev eps : EReal := Ideal.ofBits FTy.f32 897988541#32
/-- The derivative's factor, one half with its sign. -/
abbrev mhalf : EReal := Ideal.ofBits FTy.f32 3204448256#32

theorem len_eq : len = ((1024 : ℝ) : EReal) := by
  unfold len; simp [Ideal.ofBits, Ideal.ieee, -EReal.coe_mul]; norm_num

theorem mhalf_eq : mhalf = ((-(1 / 2) : ℝ) : EReal) := by
  unfold mhalf; simp [Ideal.ofBits, Ideal.ieee, -EReal.coe_mul]; norm_num

theorem eps_pos : ∃ e : ℝ, 0 < e ∧ eps = (e : EReal) := by
  refine ⟨(8796093 : ℝ) * 2 ^ (-43 : ℤ), by positivity, ?_⟩
  unfold eps; simp [Ideal.ofBits, Ideal.ieee, -EReal.coe_mul]

theorem div_len (y : EReal) : Ideal.div y len = y * ((1024⁻¹ : ℝ) : EReal) := by
  rw [len_eq, Ideal.div, if_neg (by norm_num)]; rfl

/-- The mean of the squares of a row, and what is added. -/
def ms {n : ℕ} (x : Fin n → EReal) : EReal := Ideal.div (∑ j, x j * x j) len + eps

/-- The reciprocal root of it. -/
def rho {n : ℕ} (x : Fin n → EReal) : EReal := Ideal.rsqrt (ms x)

theorem ms_pos {n : ℕ} (x : Fin n → EReal) : 0 < ms x := by
  obtain ⟨e, he, hE⟩ := eps_pos
  have h : (0 : EReal) ≤ Ideal.div (∑ j, x j * x j) len := by
    rw [div_len]
    refine mul_nonneg (Finset.sum_nonneg fun j _ => ?_) (by norm_num)
    induction x j using EReal.rec with
    | bot => simp
    | top => simp
    | coe r => exact_mod_cast mul_self_nonneg r
  rw [ms, hE]
  exact lt_of_lt_of_le (by exact_mod_cast he : (0 : EReal) < (e : EReal)) (le_add_of_nonneg_left h)

theorem rho_real {n : ℕ} (x : Fin n → EReal) : ∃ p : ℝ, 0 ≤ p ∧ rho x = (p : EReal)
    ∧ Ideal.div (rho x) (ms x) = ((p * p * p : ℝ) : EReal) := by
  have h := ms_pos x
  rw [rho]
  generalize ms x = v at h ⊢
  induction v using EReal.rec with
  | bot => exact absurd h (by simp)
  | top => exact ⟨0, le_refl _, by simp, by simp [Ideal.div]⟩
  | coe r =>
    have hr : 0 < r := by exact_mod_cast h
    have e : Ideal.rsqrt ((r : ℝ) : EReal) = (((√r)⁻¹ : ℝ) : EReal) := by
      rw [Ideal.rsqrt_coe, if_neg (not_lt.2 hr.le), if_neg hr.ne']
    refine ⟨(√r)⁻¹, by positivity, e, ?_⟩
    rw [e, Ideal.div, if_neg (by exact_mod_cast hr.ne'), ← EReal.coe_inv, ← EReal.coe_mul]
    congr 1
    have : r⁻¹ = (√r)⁻¹ * (√r)⁻¹ := by rw [← mul_inv, Real.mul_self_sqrt hr.le]
    rw [this, mul_assoc]

theorem coe_mul_add {p : ℝ} (hp : 0 ≤ p) (a b : EReal) : (p : EReal) * (a + b) = p * a + p * b :=
  EReal.left_distrib_of_nonneg_of_ne_top (by exact_mod_cast hp) (EReal.coe_ne_top p) a b

theorem sum_mul_coe {p : ℝ} (hp : 0 ≤ p) {n : ℕ} (f : Fin n → EReal) :
    ∑ j, f j * (p : EReal) = (∑ j, f j) * (p : EReal) := by
  induction n with
  | zero => simp
  | succ n ih =>
    rw [Fin.sum_univ_castSucc, Fin.sum_univ_castSucc, ih, mul_comm _ (p : EReal), mul_comm (f _) (p : EReal),
      mul_comm _ (p : EReal), coe_mul_add hp]

theorem add_self (z : EReal) : z + z = z * ((2 : ℝ) : EReal) := by
  induction z using EReal.rec with
  | bot => rw [EReal.bot_mul_coe_of_pos (by norm_num)]; rfl
  | top => rw [EReal.top_mul_coe_of_pos (by norm_num)]; rfl
  | coe r => rw [← EReal.coe_add, ← EReal.coe_mul]; congr 1; ring

/-- The two forms of the gradient of the norm at one entry of a row. -/
theorem grad {n : ℕ} (x a : Fin n → EReal) (k : Fin n) (d : EReal) :
    d + rho x * (a k - x k * rho x * Ideal.div (∑ j, a j * (x j * rho x)) len)
      = d + (a k * rho x + x k * Ideal.div ((∑ j, x j * a j) * (mhalf * Ideal.div (rho x) (ms x))) len
          + Ideal.div ((∑ j, x j * a j) * (mhalf * Ideal.div (rho x) (ms x))) len * x k) := by
  obtain ⟨p, hp, e, e3⟩ := rho_real x
  rw [e3, e]
  have hs : ∑ j, a j * (x j * (p : EReal)) = (∑ j, x j * a j) * (p : EReal) := by
    rw [← sum_mul_coe hp]
    exact Finset.sum_congr rfl fun j _ => by rw [← mul_assoc, mul_comm (a j)]
  rw [hs]
  generalize (∑ j, x j * a j) = T
  generalize a k = A
  generalize x k = X
  rw [div_len, div_len, mhalf_eq, sub_eq_add_neg, coe_mul_add hp, add_assoc]
  congr 1
  rw [mul_comm (p : EReal) A]
  congr 1
  rw [mul_comm _ X, add_self, mul_neg, ← EReal.neg_mul]
  have l : ∀ Y Z : EReal, Y = Z → Y = Z := fun _ _ h => h
  have L : -(p : EReal) * (X * (p : EReal) * (T * (p : EReal) * ((1024⁻¹ : ℝ) : EReal)))
      = X * T * ((-(p * p * p * 1024⁻¹) : ℝ) : EReal) := by
    rw [show ((-(p * p * p * 1024⁻¹) : ℝ) : EReal) = -(p : EReal) * ((p : ℝ) : EReal) * (p : EReal) * ((1024⁻¹ : ℝ) : EReal) by
      rw [← EReal.coe_neg, ← EReal.coe_mul, ← EReal.coe_mul, ← EReal.coe_mul]; congr 1; ring]
    ac_rfl
  have R : X * (T * (((-(1 / 2) : ℝ) : EReal) * ((p * p * p : ℝ) : EReal)) * ((1024⁻¹ : ℝ) : EReal)) * ((2 : ℝ) : EReal)
      = X * T * ((-(p * p * p * 1024⁻¹) : ℝ) : EReal) := by
    rw [show ((-(p * p * p * 1024⁻¹) : ℝ) : EReal)
        = ((-(1 / 2) : ℝ) : EReal) * ((p * p * p : ℝ) : EReal) * ((1024⁻¹ : ℝ) : EReal) * ((2 : ℝ) : EReal) by
      rw [← EReal.coe_mul, ← EReal.coe_mul, ← EReal.coe_mul]; congr 1; ring]
    ac_rfl
  exact L.trans R.symm

end Cert.Rms
end
-- ==== Proof.DnValue.lean ====
/- The product with the gradient of the root-mean-square norm behind it: each block of 512 rows the kernel writes
   is the reference's, and the gain's gradient, added over the four blocks, is the sum over all rows. -/
module

public import proofs.«01_k».proof.Proof.DnRms
public import proofs.«01_k».proof.Proof.Gen.DnIdeal.Value
public import proofs.«01_k».proof.Proof.Gen.DnRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DnRefIdeal.At
open Cert.DnRefIdeal Cert.DnRefIdeal.Read Cert.Rms

variable (x : FVec Ideal S2048x1024 .f32) (g : FVec Ideal S1024 .f32) (w : FVec Ideal S1024x4096 .f32)
  (h : FVec Ideal S2048x4096 .bf16) (d : FVec Ideal S2048x1024 .f32) (r : Fin 2048) (k : Fin 1024)

/-- The gradient of the norm's result: the product. -/
def dy (k : Fin 1024) : EReal := ∑ n : Fin 4096, h (ix2 r n) * w (ix2 k n)

theorem dy_split : dy w h r k = (∑ n : Fin 1024, h (ix2 r ⟨n.val, by omega⟩) * w (ix2 k ⟨n.val, by omega⟩))
    + (∑ n : Fin 1024, h (ix2 r ⟨1024 + n.val, by omega⟩) * w (ix2 k ⟨1024 + n.val, by omega⟩))
    + (∑ n : Fin 1024, h (ix2 r ⟨2048 + n.val, by omega⟩) * w (ix2 k ⟨2048 + n.val, by omega⟩))
    + (∑ n : Fin 1024, h (ix2 r ⟨3072 + n.val, by omega⟩) * w (ix2 k ⟨3072 + n.val, by omega⟩)) := by
  rw [dy, ← Fin.sum_mul_add_fin 4 1024 (fun n => h (ix2 r n) * w (ix2 k n)), Fin.sum_univ_four]
  have e0 : ∀ n : Fin 1024, (⟨(0 : Fin 4).val * 1024 + n.val, by omega⟩ : Fin 4096) = ⟨n.val, by omega⟩ := fun n => Fin.ext (by simp)
  refine congrArg₂ (· + ·) (congrArg₂ (· + ·) (congrArg₂ (· + ·) ?_ ?_) ?_) ?_
  · exact Finset.sum_congr rfl fun n _ => by rw [e0 n]
  all_goals rfl

/-- The results' entries. -/
def dx : EReal := d (ix2 r k) + rho (fun j => x (ix2 r j)) * (dy w h r k * g (ix1 k) - x (ix2 r k) * rho (fun j => x (ix2 r j))
  * Ideal.div (∑ j, dy w h r j * g (ix1 j) * (x (ix2 r j) * rho (fun j => x (ix2 r j)))) len)

theorem v39 : val_main_v39 (F := Ideal) x g w h d (ix2 r k) = dx x g w h d r k := by
  refine Eq.trans ?_ (grad (fun j => x (ix2 r j)) (fun j => dy w h r j * g (ix1 j)) k (d (ix2 r k))).symm
  pointwise [val_main_v39, val_main_v38, val_main_v37, val_main_v36, val_main_v35, val_main_v34, val_main_v33, val_main_v32,
    val_main_v31, val_main_v30, val_main_v29, val_main_v28, val_main_v27, val_main_v26, val_main_v25, val_main_v23, val_main_v22,
    val_main_v18, val_main_v17, val_main_v13, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, val_main_cst_5, val_main_cst_6, val_main_cst_7]
  simp only [Fin.sum_univ_one, Finset.univ_unique, Finset.sum_singleton]
  rfl

theorem v40 : val_main_v40 (F := Ideal) x g w h d (ix2 r k) = dx x g w h d r k := by
  refine Eq.trans ?_ (v39 x g w h d r k)
  pointwise [val_main_v40]

theorem v41 : val_main_v41 (F := Ideal) x w h (ix2 0 k)
    = ∑ r : Fin 2048, dy w h r k * (x (ix2 r k) * rho (fun j => x (ix2 r j))) := by
  pointwise [val_main_v41, val_main_v24, val_main_v21, val_main_v20, val_main_v19, val_main_v18, val_main_v17, val_main_v12,
    val_main_v11, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6,
    val_main_cst_7]
  simp only [Fin.sum_univ_one, Finset.univ_unique, Finset.sum_singleton]
  exact Finset.sum_congr rfl fun r _ => mul_comm _ _
end Cert.DnRefIdeal.At

namespace Cert.DnIdeal.Arr
open Cert.DnIdeal Cert.DnIdeal.Gen Cert.DnRefIdeal.Read Cert.DnRefIdeal.At Cert.Rms

section pays
variable (A B C D : FVec Ideal S512x1024 .bf16) (a b e f : FVec Ideal S1x1024x1024 .bf16)
  (P x d : FVec Ideal S512x1024 .f32) (g s : FVec Ideal S1x1024 .f32) (p : Fin 512) (q : Fin 1024)

theorem pay7 : k0_pay7 (F := Ideal) A a B b C e D f (ix2 p q) = ∑ n, A (ix2 p n) * a (ix3 0 q n) + ∑ n, B (ix2 p n) * b (ix3 0 q n)
    + ∑ n, C (ix2 p n) * e (ix3 0 q n) + ∑ n, D (ix2 p n) * f (ix3 0 q n) := by
  pointwise [k0_pay7]

theorem pay3 : k0_pay3 (F := Ideal) P x d (k0_pay8 g) (k0_pay9 x) (FloatOps.ofBits FTy.f32 1149239296#32) (ix2 p q)
    = d (ix2 p q) + rho (fun j => x (ix2 p j)) * (P (ix2 p q) * g (ix2 0 q) - x (ix2 p q) * rho (fun j => x (ix2 p j))
      * Ideal.div (∑ j, P (ix2 p j) * g (ix2 0 j) * (x (ix2 p j) * rho (fun j => x (ix2 p j)))) len) := by
  pointwise [k0_pay3, k0_pay2, k0_pay1, k0_pay8, k0_pay9]
  rfl

theorem pay4 : k0_pay4 (F := Ideal) P x d (k0_pay8 g) (k0_pay9 x) (FloatOps.ofBits FTy.f32 1149239296#32) (ix2 p q)
    = d (ix2 p q) + rho (fun j => x (ix2 p j)) * (P (ix2 p q) * g (ix2 0 q) - x (ix2 p q) * rho (fun j => x (ix2 p j))
      * Ideal.div (∑ j, P (ix2 p j) * g (ix2 0 j) * (x (ix2 p j) * rho (fun j => x (ix2 p j)))) len) := by
  refine Eq.trans ?_ (pay3 P x d g p q)
  pointwise [k0_pay4]

theorem pay6 : k0_pay6 (F := Ideal) P x (k0_pay9 x) (FloatOps.ofBits FTy.f32 1149239296#32) s (ix2 0 q)
    = s (ix2 0 q) + ∑ r, P (ix2 r q) * (x (ix2 r q) * rho (fun j => x (ix2 r j))) := by
  pointwise [k0_pay6, k0_pay2, k0_pay1, k0_pay9]
  rfl

theorem pay5 : k0_pay5 (F := Ideal) (ix2 0 q) = 0 := by
  pointwise [k0_pay5]
end pays

variable (m : (ℓ : Loc nD τ sig) → Buf (Elt Ideal) ℓ) (c : Dev nD)

/-- The residual row, the gain, the weight, the incoming gradient and the gradient to add to, in the entry store. -/
abbrev X : FVec Ideal S2048x1024 .f32 := m ((c : Thread nD τ).loc main_arg0)
abbrev G : FVec Ideal S1024 .f32 := m ((c : Thread nD τ).loc main_arg1)
abbrev W : FVec Ideal S1024x4096 .f32 := m ((c : Thread nD τ).loc main_arg2)
abbrev H : FVec Ideal S2048x4096 .bf16 := m ((c : Thread nD τ).loc main_arg3)
abbrev D : FVec Ideal S2048x1024 .f32 := m ((c : Thread nD τ).loc main_arg4)

theorem idx : ∀ t : Fin cfg0.N, win0_0.index t = ![t.val, 0] ∧ win0_1.index t = ![0, 0, 0] ∧ win0_2.index t = ![1, 0, 0]
    ∧ win0_3.index t = ![2, 0, 0] ∧ win0_4.index t = ![3, 0, 0] ∧ win0_5.index t = ![t.val, 0] ∧ win0_6.index t = ![t.val, 0]
    ∧ win0_7.index t = ![0, 0] ∧ win0_8.index t = ![t.val, 0] ∧ win0_9.index t = ![t.val, 0] ∧ win0_10.index t = ![0, 0] :=
  (by decide +kernel : ∀ t : Fin grid0.N, _)

/-- The weight as the host packs it: slot `b` holds columns `b * 1024 …`. -/
theorem slab (b : Fin 4) (r q : Fin 1024) (p : Fin 4096) (hp : p.val = b.val * 1024 + q.val) :
    V m c main_v2 (ix3 b r q) = W m c (ix2 r p) := by
  have e : V m c main_v2 = truncf .bf16 (transpose S4x1024x1024 [1, 0, 2] (shapeCast S1024x4x1024 (W m c)
      shapeCasts_S1024x4096_S1024x4x1024) transposes_S1024x4x1024_S4x1024x1024_1_0_2) bitsLt_bf16_f32 := by
    show StableHlo.after hostOps0 _ _ = _
    after_results
    rfl
  rw [e]
  pointwise
  exact congrArg (fun j => W m c (ix2 r j)) (Fin.ext hp.symm)

/-- The gain as one row. -/
theorem gain (q : Fin 1024) : V m c main_v3 (ix2 0 q) = G m c (ix1 q) := by
  have e : V m c main_v3 = shapeCast S1x1024 (G m c) shapeCasts_S1024_S1x1024 := by
    show StableHlo.after hostOps0 _ _ = _
    after_results
    rfl
  rw [e]
  pointwise

/-- The product of a block's rows with the weight, as the point computes it. -/
def acc (t : Fin cfg0.N) : FVec Ideal S512x1024 .f32 :=
  k0_pay7 (View.ld (iblk m c 0 t) (Rect.unit ![0, 0] ![512, 1024] inb_S512x4096_S512x1024_0_0)) (iblk m c 1 t)
    (View.ld (iblk m c 0 t) (Rect.unit ![0, 1024] ![512, 1024] inb_S512x4096_S512x1024_0_1024)) (iblk m c 2 t)
    (View.ld (iblk m c 0 t) (Rect.unit ![0, 2048] ![512, 1024] inb_S512x4096_S512x1024_0_2048)) (iblk m c 3 t)
    (View.ld (iblk m c 0 t) (Rect.unit ![0, 3072] ![512, 1024] inb_S512x4096_S512x1024_0_3072)) (iblk m c 4 t)

theorem acc_at (t : Fin cfg0.N) (p : Fin 512) (q : Fin 1024) (r : Fin 2048) (hr : r.val = t.val * 512 + p.val) :
    acc m c t (ix2 p q) = dy (W m c) (H m c) r q := by
  have hb : t.val < 4 := t.isLt
  rw [acc, pay7, dy_split]
  refine congrArg₂ (· + ·) (congrArg₂ (· + ·) (congrArg₂ (· + ·) ?_ ?_) ?_) ?_ <;>
    refine Finset.sum_congr rfl fun n _ => congrArg₂ (· * ·) ?_ ?_
  · show iblk m c 0 t _ = _
    blk_ext [iblk, V_main_arg3, idx t, hr]
    · show t.val * 512 + (0 + 1 * p.val) = _
      omega
    · show 0 + 1 * n.val = _
      omega
  · refine Eq.trans ?_ (slab m c 0 q n _ (by simp))
    blk_ext [iblk, idx t]
  · show iblk m c 0 t _ = _
    blk_ext [iblk, V_main_arg3, idx t, hr]
    · show t.val * 512 + (0 + 1 * p.val) = _
      omega
    · show 1024 + 1 * n.val = _
      omega
  · refine Eq.trans ?_ (slab m c 1 q n _ (by simp))
    blk_ext [iblk, idx t]
  · show iblk m c 0 t _ = _
    blk_ext [iblk, V_main_arg3, idx t, hr]
    · show t.val * 512 + (0 + 1 * p.val) = _
      omega
    · show 2048 + 1 * n.val = _
      omega
  · refine Eq.trans ?_ (slab m c 2 q n _ (by simp))
    blk_ext [iblk, idx t]
  · show iblk m c 0 t _ = _
    blk_ext [iblk, V_main_arg3, idx t, hr]
    · show t.val * 512 + (0 + 1 * p.val) = _
      omega
    · show 3072 + 1 * n.val = _
      omega
  · refine Eq.trans ?_ (slab m c 3 q n _ (by simp))
    blk_ext [iblk, idx t]

/-- A block of the residual rows, of the gradient to add to, and the gain's row. -/
def xb (t : Fin cfg0.N) : FVec Ideal S512x1024 .f32 := iblk m c 5 t
def db (t : Fin cfg0.N) : FVec Ideal S512x1024 .f32 := iblk m c 6 t
def gb (t : Fin cfg0.N) : FVec Ideal S1x1024 .f32 := iblk m c 7 t

theorem x_at (t : Fin cfg0.N) (p : Fin 512) (q : Fin 1024) (r : Fin 2048) (hr : r.val = t.val * 512 + p.val) :
    xb m c t (ix2 p q) = X m c (ix2 r q) := by
  unfold xb
  blk_ext [iblk, V_main_arg0, idx t, hr]

theorem d_at (t : Fin cfg0.N) (p : Fin 512) (q : Fin 1024) (r : Fin 2048) (hr : r.val = t.val * 512 + p.val) :
    db m c t (ix2 p q) = D m c (ix2 r q) := by
  unfold db
  blk_ext [iblk, V_main_arg4, idx t, hr]

theorem g_at (t : Fin cfg0.N) (q : Fin 1024) : gb m c t (ix2 0 q) = G m c (ix1 q) := by
  refine Eq.trans ?_ (gain m c q)
  unfold gb
  blk_ext [iblk, idx t]

/-- The row's entry a point writes. -/
theorem row_at (t : Fin cfg0.N) (p : Fin 512) (q : Fin 1024) (r : Fin 2048) (hr : r.val = t.val * 512 + p.val) :
    db m c t (ix2 p q) + rho (fun j => xb m c t (ix2 p j)) * (acc m c t (ix2 p q) * gb m c t (ix2 0 q)
        - xb m c t (ix2 p q) * rho (fun j => xb m c t (ix2 p j))
      * Ideal.div (∑ j, acc m c t (ix2 p j) * gb m c t (ix2 0 j) * (xb m c t (ix2 p j) * rho (fun j => xb m c t (ix2 p j)))) len)
      = dx (X m c) (G m c) (W m c) (H m c) (D m c) r q := by
  unfold dx
  simp only [acc_at m c t p _ r hr, x_at m c t p _ r hr, d_at m c t p _ r hr, g_at m c t _]

theorem final8 : (dats m 0 c).arrAt 8 (cfgs 0).N = val_main_v39 (F := Ideal) (X m c) (G m c) (W m c) (H m c) (D m c) := by
  refine (dats m 0 c).arrAt_eq_of_covers 8 _ (by decide +kernel) fun t _ y => ?_
  blk_simp
  rw [after0_8]
  have hb : t.val < 4 := t.isLt
  by_cases h0 : t.val % 4 = 0
  · rw [outsAt0_A m c t h0]
    frame_out
    idx_vars y
    refine (pay3 (acc m c t) (xb m c t) (db m c t) (gb m c t) y0 y1).trans ((row_at m c t y0 y1 ⟨t.val * 512 + y0.val, by omega⟩ rfl).trans ((v39 ..).symm.trans ?_))
    blk_ext [idx t]
  · rw [outsAt0_B m c t h0]
    frame_out
    idx_vars y
    refine (pay3 (acc m c t) (xb m c t) (db m c t) (gb m c t) y0 y1).trans ((row_at m c t y0 y1 ⟨t.val * 512 + y0.val, by omega⟩ rfl).trans ((v39 ..).symm.trans ?_))
    blk_ext [idx t]

theorem final9 : (dats m 0 c).arrAt 9 (cfgs 0).N = val_main_v40 (F := Ideal) (X m c) (G m c) (W m c) (H m c) (D m c) := by
  refine (dats m 0 c).arrAt_eq_of_covers 9 _ (by decide +kernel) fun t _ y => ?_
  blk_simp
  rw [after0_9]
  have hb : t.val < 4 := t.isLt
  by_cases h0 : t.val % 4 = 0
  · rw [outsAt0_A m c t h0]
    frame_out
    idx_vars y
    refine (pay4 (acc m c t) (xb m c t) (db m c t) (gb m c t) y0 y1).trans ((row_at m c t y0 y1 ⟨t.val * 512 + y0.val, by omega⟩ rfl).trans ((v40 ..).symm.trans ?_))
    blk_ext [idx t]
  · rw [outsAt0_B m c t h0]
    frame_out
    idx_vars y
    refine (pay4 (acc m c t) (xb m c t) (db m c t) (gb m c t) y0 y1).trans ((row_at m c t y0 y1 ⟨t.val * 512 + y0.val, by omega⟩ rfl).trans ((v40 ..).symm.trans ?_))
    blk_ext [idx t]

/-- What a point adds to the gain's gradient. -/
def part (n : Fin cfg0.N) (q : Fin 1024) : EReal :=
  ∑ r, acc m c n (ix2 r q) * (xb m c n (ix2 r q) * rho (fun j => xb m c n (ix2 r j)))

theorem final10 : (dats m 0 c).arrAt 10 (cfgs 0).N = val_main_v41 (F := Ideal) (X m c) (W m c) (H m c) := by
  refine (dats m 0 c).arrAt_eq_of_after_last 10 t0_3 (by decide +kernel) _ fun j => ?_
  blk_simp
  rw [after0_10]
  idx_vars j
  obtain rfl : j0 = 0 := Subsingleton.elim _ _
  rw [Pipeline.eq_sum_fin_of_reset_step_apply_last (fun n h => (outsAt0 m c n h).2.2) 4 (fun _ => 0)
    (fun n j => part m c n (j 1))
    (fun t h j => by
      rw [outsAt0_A m c t h]
      frame_out
      idx_vars j
      obtain rfl : j0 = 0 := Subsingleton.elim _ _
      refine (pay6 (acc m c t) (xb m c t) _ j1).trans ?_
      rw [pay5]
      rfl)
    (fun t h j => by
      rw [outsAt0_B m c t h]
      frame_out
      idx_vars j
      obtain rfl : j0 = 0 := Subsingleton.elim _ _
      exact (pay6 (acc m c t) (xb m c t) _ j1)) (le_of_eq N_0) t0_3 rfl (ix2 0 j1), zero_add]
  refine Eq.trans ?_ ((v41 (X m c) (W m c) (H m c) j1).symm.trans ?_)
  · refine Fin.sum_mul_add_congr fun s k hl => ?_
    show acc m c s (ix2 k j1) * (xb m c s (ix2 k j1) * rho fun j => xb m c s (ix2 k j)) = _
    rw [acc_at m c _ k j1 ⟨s.val * 512 + k.val, hl⟩ rfl]
    simp only [x_at m c _ k _ ⟨s.val * 512 + k.val, hl⟩ rfl]
  · blk_ext [idx t0_3]
end Cert.DnIdeal.Arr
end
-- ==== Proof.UpValue.lean ====
/- The first layer's product and the square of its positive part. -/
module

public import proofs.«01_k».proof.Proof.Gen.UpIdeal.Value
public import proofs.«01_k».proof.Proof.Gen.UpRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpIdeal.Arr
open Cert.UpIdeal Cert.UpIdeal.Gen Cert.UpRefIdeal.Read

variable (m : (ℓ : Loc nD τ sig) → Buf (Elt Ideal) ℓ) (c : Dev nD)

/-- The normalised row and the weight in the entry store. -/
abbrev H : FVec Ideal S2048x1024 .bf16 := m ((c : Thread nD τ).loc main_arg0)
abbrev W : FVec Ideal S1024x4096 .f32 := m ((c : Thread nD τ).loc main_arg1)

theorem idx : ∀ t : Fin cfg0.N, win0_0.index t = ![t.val / 4, 0] ∧ win0_1.index t = ![t.val % 4, 0, 0]
    ∧ win0_2.index t = ![t.val / 4, t.val % 4] ∧ win0_3.index t = ![t.val / 4, t.val % 4] :=
  (by decide +kernel : ∀ t : Fin grid0.N, _)

/-- The weight as the host packs it: slot `b` holds columns `b * 1024 …`. -/
theorem slab (b : Fin 4) (r q : Fin 1024) (p : Fin 4096) (hp : p.val = b.val * 1024 + q.val) :
    V m c main_v2 (ix3 b r q) = W m c (ix2 r p) := by
  have e : V m c main_v2 = truncf .bf16 (transpose S4x1024x1024 [1, 0, 2] (shapeCast S1024x4x1024 (W m c)
      shapeCasts_S1024x4096_S1024x4x1024) transposes_S1024x4x1024_S4x1024x1024_1_0_2) bitsLt_bf16_f32 := by
    show StableHlo.after hostOps0 _ _ = _
    after_results
    rfl
  rw [e]
  pointwise
  exact congrArg (fun j => W m c (ix2 r j)) (Fin.ext hp.symm)

theorem pay2 (x : Vec Ideal S1024x1024 .bf16) (w : Vec Ideal S1x1024x1024 .bf16) (r q : Fin 1024) :
    k0_pay2 (F := Ideal) x w (ix2 r q) = ∑ k : Fin 1024, x (ix2 r k) * w (ix3 0 k q) := by
  pointwise [k0_pay2, k0_pay1]

theorem pay3 (x : Vec Ideal S1024x1024 .bf16) (w : Vec Ideal S1x1024x1024 .bf16) (r q : Fin 1024) :
    k0_pay3 (F := Ideal) x w (ix2 r q) = max (∑ k : Fin 1024, x (ix2 r k) * w (ix3 0 k q)) 0 * max (∑ k : Fin 1024, x (ix2 r k) * w (ix3 0 k q)) 0 := by
  pointwise [k0_pay3, k0_pay1]

variable (h : FVec Ideal S2048x1024 .bf16) (w : FVec Ideal S1024x4096 .f32)

theorem ref2 (r : Fin 2048) (q : Fin 4096) :
    val_main_v2 (F := Ideal) h w (ix2 r q) = ∑ k : Fin 1024, h (ix2 r k) * w (ix2 k q) := by
  pointwise [val_main_v2, val_main_v1, val_main_v0]

theorem ref5 (r : Fin 2048) (q : Fin 4096) :
    val_main_v5 (F := Ideal) h w (ix2 r q) = max (∑ k : Fin 1024, h (ix2 r k) * w (ix2 k q)) 0 * max (∑ k : Fin 1024, h (ix2 r k) * w (ix2 k q)) 0 := by
  pointwise [val_main_v5, val_main_v4, val_main_v3, val_main_v1, val_main_v0, val_main_call0_v0, val_main_call0_cst]

/-- A block of the rows and of the weight. -/
def xb (t : Fin cfg0.N) : Vec Ideal S1024x1024 .bf16 := iblk m c 0 t
def wb (t : Fin cfg0.N) : Vec Ideal S1x1024x1024 .bf16 := iblk m c 1 t

theorem dot_at (t : Fin cfg0.N) (y0 y1 : Fin 1024) (r : Fin 2048) (q : Fin 4096) (hr : r.val = t.val / 4 * 1024 + y0.val)
    (hq : q.val = t.val % 4 * 1024 + y1.val) :
    ∑ k : Fin 1024, xb m c t (ix2 y0 k) * wb m c t (ix3 0 k y1)
      = ∑ k : Fin 1024, H m c (ix2 r k) * W m c (ix2 k q) := by
  have hb : t.val < 8 := t.isLt
  refine Finset.sum_congr rfl fun k _ => congrArg₂ (· * ·) ?_ ?_
  · unfold xb
    blk_ext [iblk, V_main_arg0, idx t, hr]
  · refine Eq.trans ?_ (slab m c ⟨t.val % 4, by omega⟩ k y1 q hq)
    unfold wb
    blk_ext [iblk, idx t]

theorem final2 : (dats m 0 c).arrAt 2 (cfgs 0).N = val_main_v2 (F := Ideal) (H m c) (W m c) := by
  refine (dats m 0 c).arrAt_eq_of_covers 2 _ (by decide +kernel) fun t _ y => ?_
  blk_simp
  rw [after0_2]
  frame_out
  idx_vars y
  have hb : t.val < 8 := t.isLt
  refine (pay2 (xb m c t) (wb m c t) y0 y1).trans ?_
  refine (Eq.trans (dot_at m c t y0 y1 ⟨t.val / 4 * 1024 + y0.val, by omega⟩ ⟨t.val % 4 * 1024 + y1.val, by omega⟩ rfl rfl)
    (ref2 ..).symm).trans ?_
  blk_ext [idx t]

theorem final3 : (dats m 0 c).arrAt 3 (cfgs 0).N = val_main_v5 (F := Ideal) (H m c) (W m c) := by
  refine (dats m 0 c).arrAt_eq_of_covers 3 _ (by decide +kernel) fun t _ y => ?_
  blk_simp
  rw [after0_3]
  frame_out
  idx_vars y
  have hb : t.val < 8 := t.isLt
  refine (pay3 (xb m c t) (wb m c t) y0 y1).trans ?_
  rw [dot_at m c t y0 y1 ⟨t.val / 4 * 1024 + y0.val, by omega⟩ ⟨t.val % 4 * 1024 + y1.val, by omega⟩ rfl rfl]
  refine (ref5 ..).symm.trans ?_
  blk_ext [idx t]

end Cert.UpIdeal.Arr
end
-- ==== Proof.DownValue.lean ====
/- The second layer's product, added to the residual row, and the norm of the sum. -/
module

public import proofs.«01_k».proof.Proof.DnRms
public import proofs.«01_k».proof.Proof.Gen.DownIdeal.Value
public import proofs.«01_k».proof.Proof.Gen.DownRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownIdeal.Arr
open Cert.DownIdeal Cert.DownIdeal.Gen Cert.DownRefIdeal.Read Cert.Rms

section pays
variable (A B C D : FVec Ideal S512x1024 .bf16) (a b e f : FVec Ideal S1x1024x1024 .bf16)
  (P x : FVec Ideal S512x1024 .f32) (g : FVec Ideal S1x1024 .f32) (p : Fin 512) (q : Fin 1024)

theorem pay3 : k0_pay3 (F := Ideal) A a B b C e D f x (ix2 p q) = (∑ n, A (ix2 p n) * a (ix3 0 n q) + ∑ n, B (ix2 p n) * b (ix3 0 n q)
    + ∑ n, C (ix2 p n) * e (ix3 0 n q) + ∑ n, D (ix2 p n) * f (ix3 0 n q)) + x (ix2 p q) := by
  pointwise [k0_pay3]

theorem pay1 : k0_pay1 (F := Ideal) (k0_pay2 g) (k0_pay3 A a B b C e D f x) (k0_pay4 A a B b C e D f x) (ix2 p q)
    = k0_pay3 (F := Ideal) A a B b C e D f x (ix2 p q) * rho (fun j => k0_pay3 (F := Ideal) A a B b C e D f x (ix2 p j)) * g (ix2 0 q) := by
  pointwise [k0_pay1, k0_pay2, k0_pay4]
  rfl
end pays

section refs
variable (h : FVec Ideal S2048x4096 .bf16) (w : FVec Ideal S4096x1024 .f32) (x : FVec Ideal S2048x1024 .f32) (g : FVec Ideal S1024 .f32)
  (r : Fin 2048) (k : Fin 1024)

/-- The residual row's sum with the product. -/
def xn (k : Fin 1024) : EReal := x (ix2 r k) + ∑ n : Fin 4096, h (ix2 r n) * w (ix2 n k)

theorem xn_split : ((∑ n : Fin 1024, h (ix2 r ⟨n.val, by omega⟩) * w (ix2 ⟨n.val, by omega⟩ k))
    + (∑ n : Fin 1024, h (ix2 r ⟨1024 + n.val, by omega⟩) * w (ix2 ⟨1024 + n.val, by omega⟩ k))
    + (∑ n : Fin 1024, h (ix2 r ⟨2048 + n.val, by omega⟩) * w (ix2 ⟨2048 + n.val, by omega⟩ k))
    + (∑ n : Fin 1024, h (ix2 r ⟨3072 + n.val, by omega⟩) * w (ix2 ⟨3072 + n.val, by omega⟩ k))) + x (ix2 r k) = xn h w x r k := by
  rw [xn, add_comm (x (ix2 r k)), ← Fin.sum_mul_add_fin 4 1024 (fun n => h (ix2 r n) * w (ix2 n k)), Fin.sum_univ_four]
  have e0 : ∀ n : Fin 1024, (⟨(0 : Fin 4).val * 1024 + n.val, by omega⟩ : Fin 4096) = ⟨n.val, by omega⟩ := fun n => Fin.ext (by simp)
  refine congrArg (· + x (ix2 r k)) (congrArg₂ (· + ·) (congrArg₂ (· + ·) (congrArg₂ (· + ·) ?_ ?_) ?_) ?_)
  · exact Finset.sum_congr rfl fun n _ => by rw [e0 n]
  all_goals rfl

theorem v2 : val_main_v2 (F := Ideal) h w x (ix2 r k) = xn h w x r k := by
  pointwise [val_main_v2, val_main_v1, val_main_v0]
  rfl

theorem v16 : val_main_v16 (F := Ideal) h w x g (ix2 r k) = xn h w x r k * rho (fun j => xn h w x r j) * g (ix1 k) := by
  simp only [← v2]
  pointwise [val_main_v16, val_main_v15, val_main_v14, val_main_v13, val_main_v12, val_main_v11, val_main_v10, val_main_v9,
    val_main_v8, val_main_v7, val_main_v6, val_main_v5, val_main_v4, val_main_v3, val_main_cst, val_main_cst_0, val_main_cst_1]
  rfl
end refs

variable (m : (ℓ : Loc nD τ sig) → Buf (Elt Ideal) ℓ) (c : Dev nD)

/-- The hidden row, the weight, the residual row and the gain in the entry store. -/
abbrev H : FVec Ideal S2048x4096 .bf16 := m ((c : Thread nD τ).loc main_arg0)
abbrev W : FVec Ideal S4096x1024 .f32 := m ((c : Thread nD τ).loc main_arg1)
abbrev X : FVec Ideal S2048x1024 .f32 := m ((c : Thread nD τ).loc main_arg2)
abbrev G : FVec Ideal S1024 .f32 := m ((c : Thread nD τ).loc main_arg3)

theorem idx : ∀ t : Fin cfg0.N, win0_0.index t = ![t.val, 0] ∧ win0_1.index t = ![0, 0, 0] ∧ win0_2.index t = ![1, 0, 0]
    ∧ win0_3.index t = ![2, 0, 0] ∧ win0_4.index t = ![3, 0, 0] ∧ win0_5.index t = ![t.val, 0] ∧ win0_6.index t = ![0, 0]
    ∧ win0_7.index t = ![t.val, 0] ∧ win0_8.index t = ![t.val, 0] :=
  (by decide +kernel : ∀ t : Fin grid0.N, _)

/-- The weight as the host packs it: slot `b` holds rows `b * 1024 …`. -/
theorem slab (b : Fin 4) (r q : Fin 1024) (p : Fin 4096) (hp : p.val = b.val * 1024 + r.val) :
    V m c main_v1 (ix3 b r q) = W m c (ix2 p q) := by
  have e : V m c main_v1 = truncf .bf16 (shapeCast S4x1024x1024 (W m c) shapeCasts_S4096x1024_S4x1024x1024) bitsLt_bf16_f32 := by
    show StableHlo.after hostOps0 _ _ = _
    after_results
    rfl
  rw [e]
  pointwise
  exact congrArg (fun j => W m c (ix2 j q)) (Fin.ext hp.symm)

/-- The gain as one row. -/
theorem gain (q : Fin 1024) : V m c main_v2 (ix2 0 q) = G m c (ix1 q) := by
  have e : V m c main_v2 = shapeCast S1x1024 (G m c) shapeCasts_S1024_S1x1024 := by
    show StableHlo.after hostOps0 _ _ = _
    after_results
    rfl
  rw [e]
  pointwise

/-- The sum of a block's product and its residual rows, as the point computes it. -/
def acc (t : Fin cfg0.N) : FVec Ideal S512x1024 .f32 :=
  k0_pay3 (View.ld (iblk m c 0 t) (Rect.unit ![0, 0] ![512, 1024] inb_S512x4096_S512x1024_0_0)) (iblk m c 1 t)
    (View.ld (iblk m c 0 t) (Rect.unit ![0, 1024] ![512, 1024] inb_S512x4096_S512x1024_0_1024)) (iblk m c 2 t)
    (View.ld (iblk m c 0 t) (Rect.unit ![0, 2048] ![512, 1024] inb_S512x4096_S512x1024_0_2048)) (iblk m c 3 t)
    (View.ld (iblk m c 0 t) (Rect.unit ![0, 3072] ![512, 1024] inb_S512x4096_S512x1024_0_3072)) (iblk m c 4 t) (iblk m c 5 t)

theorem acc_at (t : Fin cfg0.N) (p : Fin 512) (q : Fin 1024) (r : Fin 2048) (hr : r.val = t.val * 512 + p.val) :
    acc m c t (ix2 p q) = xn (H m c) (W m c) (X m c) r q := by
  have hb : t.val < 4 := t.isLt
  rw [acc, pay3, ← xn_split]
  refine congrArg₂ (· + ·) (congrArg₂ (· + ·) (congrArg₂ (· + ·) (congrArg₂ (· + ·) ?_ ?_) ?_) ?_) ?_
  iterate 4
    refine Finset.sum_congr rfl fun n _ => congrArg₂ (· * ·) ?_ ?_
    · show iblk m c 0 t _ = _
      blk_ext [iblk, V_main_arg0, idx t, hr]
      · show t.val * 512 + (0 + 1 * p.val) = _
        omega
      · first
          | show 0 + 1 * n.val = n.val; omega
          | show 1024 + 1 * n.val = 1024 + n.val; omega
          | show 2048 + 1 * n.val = 2048 + n.val; omega
          | show 3072 + 1 * n.val = 3072 + n.val; omega
    · first
        | refine Eq.trans ?_ (slab m c 0 n q _ (by simp)); blk_ext [iblk, idx t]; done
        | refine Eq.trans ?_ (slab m c 1 n q _ (by simp)); blk_ext [iblk, idx t]; done
        | refine Eq.trans ?_ (slab m c 2 n q _ (by simp)); blk_ext [iblk, idx t]; done
        | refine Eq.trans ?_ (slab m c 3 n q _ (by simp)); blk_ext [iblk, idx t]; done
  · blk_ext [iblk, V_main_arg2, idx t, hr]

theorem g_at (t : Fin cfg0.N) (q : Fin 1024) : (iblk m c 6 t : FVec Ideal S1x1024 .f32) (ix2 0 q) = G m c (ix1 q) := by
  refine Eq.trans ?_ (gain m c q)
  blk_ext [iblk, idx t]

theorem final7 : (dats m 0 c).arrAt 7 (cfgs 0).N = val_main_v2 (F := Ideal) (H m c) (W m c) (X m c) := by
  refine (dats m 0 c).arrAt_eq_of_covers 7 _ (by decide +kernel) fun t _ y => ?_
  blk_simp
  rw [after0_7]
  unfold_out out0_7
  frame_out
  idx_vars y
  have hb : t.val < 4 := t.isLt
  refine Eq.trans (acc_at m c t y0 y1 ⟨t.val * 512 + y0.val, by omega⟩ rfl) ((v2 ..).symm.trans ?_)
  blk_ext [idx t]

theorem final8 : (dats m 0 c).arrAt 8 (cfgs 0).N = val_main_v16 (F := Ideal) (H m c) (W m c) (X m c) (G m c) := by
  refine (dats m 0 c).arrAt_eq_of_covers 8 _ (by decide +kernel) fun t _ y => ?_
  blk_simp
  rw [after0_8]
  unfold_out out0_8
  frame_out
  idx_vars y
  have hb : t.val < 4 := t.isLt
  rw [pay1]
  have e : ∀ j, acc m c t (ix2 y0 j) = _ := fun j => acc_at m c t y0 j ⟨t.val * 512 + y0.val, by omega⟩ rfl
  refine (congrArg₂ (· * ·) (congrArg₂ (· * ·) (e y1) (congrArg rho (funext e))) (g_at m c t y1)).trans ((v16 ..).symm.trans ?_)
  blk_ext [idx t]

end Cert.DownIdeal.Arr
end
-- ==== Proof.DxValue.lean ====
/- The last product of the backward pass with the gradient of the norm behind it: each block of 512 rows the kernel
   writes is the reference's, the weight's added columns are zeros, and the gain's gradient is the sum over all rows. -/
module

public import proofs.«01_k».proof.Proof.DnRms
public import proofs.«01_k».proof.Proof.Gen.DxIdeal.Value
public import proofs.«01_k».proof.Proof.Gen.DxRefIdeal.Read
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.DxRefIdeal.At
open Cert.DxRefIdeal Cert.DxRefIdeal.Read Cert.Rms

variable (x : FVec Ideal S2048x1024 .f32) (g : FVec Ideal S1024 .f32) (w : FVec Ideal S1024x704 .f32)
  (h : FVec Ideal S2048x768 .bf16) (d : FVec Ideal S2048x1024 .f32) (r : Fin 2048) (k : Fin 1024)

/-- The gradient of the norm's result: the product over the 704 columns the weight has. -/
def dy (k : Fin 1024) : EReal := ∑ n : Fin 704, h (ix2 r ⟨n.val, by omega⟩) * w (ix2 k n)

/-- The same with a weight widened by zeros. -/
theorem dy_wide (u : Fin 768 → EReal) (hu : ∀ n : Fin 768, u n = if hn : n.val < 704 then w (ix2 k ⟨n.val, hn⟩) else 0) :
    ∑ n : Fin 768, h (ix2 r n) * u n = dy w h r k := by
  rw [dy]
  refine (Fin.sum_univ_add (a := 704) (b := 64) fun n => h (ix2 r n) * u n).trans ?_
  rw [Finset.sum_eq_zero (s := (Finset.univ : Finset (Fin 64))) fun n _ => ?_, add_zero]
  · refine Finset.sum_congr rfl fun n _ => ?_
    rw [hu, dif_pos (show (Fin.castAdd 64 n).val < 704 from n.isLt)]
    rfl
  · rw [hu, dif_neg (show ¬ (Fin.natAdd 704 n).val < 704 by simp), mul_zero]

/-- The results' entries. -/
def dx : EReal := d (ix2 r k) + rho (fun j => x (ix2 r j)) * (dy w h r k * g (ix1 k) - x (ix2 r k) * rho (fun j => x (ix2 r j))
  * Ideal.div (∑ j, dy w h r j * g (ix1 j) * (x (ix2 r j) * rho (fun j => x (ix2 r j)))) len)

theorem v40 : val_main_v40 (F := Ideal) x g w h d (ix2 r k) = dx x g w h d r k := by
  refine Eq.trans ?_ (grad (fun j => x (ix2 r j)) (fun j => dy w h r j * g (ix1 j)) k (d (ix2 r k))).symm
  pointwise [val_main_v40, val_main_v39, val_main_v38, val_main_v37, val_main_v36, val_main_v35, val_main_v34, val_main_v33,
    val_main_v32, val_main_v31, val_main_v30, val_main_v29, val_main_v28, val_main_v27, val_main_v26, val_main_v24, val_main_v23,
    val_main_v19, val_main_v18, val_main_v17, val_main_v13, val_main_v10, val_main_v9, val_main_v8, val_main_v7, val_main_v6,
    val_main_v5, val_main_v4, val_main_v3, val_main_v2, val_main_v1, val_main_v0, val_main_cst, val_main_cst_0, val_main_cst_1,
    val_main_cst_2, val_main_cst_3, val_main_cst_4, val_main_cst_5, val_main_cst_6, val_main_cst_7]
  simp only [Fin.sum_univ_one, Finset.univ_unique, Finset.sum_singleton]
  rfl

theorem v41 : val_main_v41 (F := Ideal) x g w h d (ix2 r k) = dx x g w h d r k := by
  refine Eq.trans ?_ (v40 x g w h d r k)
  pointwise [val_main_v41]

theorem v42 : val_main_v42 (F := Ideal) x w h (ix2 0 k)
    = ∑ r : Fin 2048, dy w h r k * (x (ix2 r k) * rho (fun j => x (ix2 r j))) := by
  pointwise [val_main_v42, val_main_v25, val_main_v22, val_main_v21, val_main_v20, val_main_v19, val_main_v18, val_main_v17,
    val_main_v12, val_main_v11, val_main_v7, val_main_v6, val_main_v5, val_main_v4, val_main_v3, val_main_v2, val_main_v1,
    val_main_v0, val_main_cst, val_main_cst_0, val_main_cst_1, val_main_cst_2, val_main_cst_3, val_main_cst_4, val_main_cst_5,
    val_main_cst_6, val_main_cst_7]
  simp only [Fin.sum_univ_one, Finset.univ_unique, Finset.sum_singleton]
  exact Finset.sum_congr rfl fun r _ => mul_comm _ _
end Cert.DxRefIdeal.At

namespace Cert.DxIdeal.Arr
open Cert.DxIdeal Cert.DxIdeal.Gen Cert.DxRefIdeal.Read Cert.DxRefIdeal.At Cert.Rms

section pays
variable (A : FVec Ideal S512x768 .bf16) (B : FVec Ideal S1024x768 .bf16)
  (x d : FVec Ideal S512x1024 .f32) (g s : FVec Ideal S1x1024 .f32) (p : Fin 512) (q : Fin 1024)

/-- The product a point computes. -/
def mm (p : Fin 512) (q : Fin 1024) : EReal := ∑ n : Fin 768, A (ix2 p n) * B (ix2 q n)

theorem pay6 : k0_pay6 (F := Ideal) A B x d g (ix2 p q)
    = d (ix2 p q) + rho (fun j => x (ix2 p j)) * (mm A B p q * g (ix2 0 q) - x (ix2 p q) * rho (fun j => x (ix2 p j))
      * Ideal.div (∑ j, mm A B p j * g (ix2 0 j) * (x (ix2 p j) * rho (fun j => x (ix2 p j)))) len) := by
  pointwise [k0_pay6, k0_pay3, k0_pay4, k0_pay5]
  rfl

theorem pay8 : k0_pay8 (F := Ideal) A B x d g (ix2 p q)
    = d (ix2 p q) + rho (fun j => x (ix2 p j)) * (mm A B p q * g (ix2 0 q) - x (ix2 p q) * rho (fun j => x (ix2 p j))
      * Ideal.div (∑ j, mm A B p j * g (ix2 0 j) * (x (ix2 p j) * rho (fun j => x (ix2 p j)))) len) := by
  refine Eq.trans ?_ (pay6 A B x d g p q)
  pointwise [k0_pay8]

theorem pay2 : k0_pay2 (F := Ideal) (k0_pay7 A B x) s (ix2 0 q)
    = s (ix2 0 q) + ∑ r, mm A B r q * (x (ix2 r q) * rho (fun j => x (ix2 r j))) := by
  pointwise [k0_pay2, k0_pay7, k0_pay3, k0_pay4, k0_pay5]
  rfl

theorem pay1 : k0_pay1 (F := Ideal) (ix2 0 q) = 0 := by
  pointwise [k0_pay1]
end pays

variable (m : (ℓ : Loc nD τ sig) → Buf (Elt Ideal) ℓ) (c : Dev nD)

/-- The step's input, the gain, the weight, the mixer's gradient and the gradient to add to, in the entry store. -/
abbrev X : FVec Ideal S2048x1024 .f32 := m ((c : Thread nD τ).loc main_arg0)
abbrev G : FVec Ideal S1024 .f32 := m ((c : Thread nD τ).loc main_arg1)
abbrev W : FVec Ideal S1024x704 .f32 := m ((c : Thread nD τ).loc main_arg2)
abbrev H : FVec Ideal S2048x768 .bf16 := m ((c : Thread nD τ).loc main_arg3)
abbrev D : FVec Ideal S2048x1024 .f32 := m ((c : Thread nD τ).loc main_arg4)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

/-- The weight as the host widens it. -/
theorem wide (q : Fin 1024) (n : Fin 768) :
    V m c main_v1 (ix2 q n) = if hn : n.val < 704 then W m c (ix2 q ⟨n.val, hn⟩) else 0 := by
  have e : V m c main_v1 = pad S1024x768 ![0, 0] ![0, 64] ![0, 0] (truncf .bf16 (W m c) bitsLt_bf16_f32)
      (sitofp .bf16 (constantI S_ 32 0#32)) pads_S1024x704_S1024x768_000_0640 h_S_ := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  rw [e]
  split
  · next hn =>
    rw [pad_apply_of_inside ![0, 0] ![0, 64] ![0, 0] _ _ pads_S1024x704_S1024x768_000_0640 h_S_ (ix2 q n) (ix2 q ⟨n.val, hn⟩)
      (fun a => match a with | ⟨0, _⟩ => by show q.val = 0 + q.val * (0 + 1); omega | ⟨1, _⟩ => by show n.val = 0 + n.val * (0 + 1); omega)]
    pointwise
  · next hn =>
    refine (pad_apply_of_not_inside (s := S1024x704) (t := S1024x768) ![0, 0] ![0, 64] ![0, 0] _ _
      pads_S1024x704_S1024x768_000_0640 h_S_ (ix2 q n) (1 : Fin 2) (fun h => hn ?_)).trans ?_
    · have h2 : (n.val - 0) / (0 + 1) < 704 := h.2.2
      omega
    pointwise
    show (((0#32 : BitVec 32).toInt : ℝ) : EReal) = 0
    simp

/-- The gain as one row. -/
theorem gain (q : Fin 1024) : V m c main_v2 (ix2 0 q) = G m c (ix1 q) := by
  have e : V m c main_v2 = shapeCast S1x1024 (G m c) shapeCasts_S1024_S1x1024 := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  rw [e]
  pointwise

/-- A block of the mixer's gradient, the widened weight, a block of the input's rows, of the gradient to add to, and the
    gain's row. -/
def hb (t : Fin cfg0.N) : FVec Ideal S512x768 .bf16 := iblk m c 0 t
def wb (t : Fin cfg0.N) : FVec Ideal S1024x768 .bf16 := iblk m c 1 t
def xb (t : Fin cfg0.N) : FVec Ideal S512x1024 .f32 := iblk m c 2 t
def db (t : Fin cfg0.N) : FVec Ideal S512x1024 .f32 := iblk m c 3 t
def gb (t : Fin cfg0.N) : FVec Ideal S1x1024 .f32 := iblk m c 4 t

theorem h_at (t : Fin cfg0.N) (p : Fin 512) (q : Fin 768) (r : Fin 2048) (hr : r.val = t.val * 512 + p.val) :
    hb m c t (ix2 p q) = H m c (ix2 r q) := by
  unfold hb
  blk_ext [iblk, V_main_arg3, idx t, hr]

theorem w_at (t : Fin cfg0.N) (q : Fin 1024) (n : Fin 768) :
    wb m c t (ix2 q n) = if hn : n.val < 704 then W m c (ix2 q ⟨n.val, hn⟩) else 0 := by
  refine Eq.trans ?_ (wide m c q n)
  unfold wb
  blk_ext [iblk, idx t]

theorem x_at (t : Fin cfg0.N) (p : Fin 512) (q : Fin 1024) (r : Fin 2048) (hr : r.val = t.val * 512 + p.val) :
    xb m c t (ix2 p q) = X m c (ix2 r q) := by
  unfold xb
  blk_ext [iblk, V_main_arg0, idx t, hr]

theorem d_at (t : Fin cfg0.N) (p : Fin 512) (q : Fin 1024) (r : Fin 2048) (hr : r.val = t.val * 512 + p.val) :
    db m c t (ix2 p q) = D m c (ix2 r q) := by
  unfold db
  blk_ext [iblk, V_main_arg4, idx t, hr]

theorem g_at (t : Fin cfg0.N) (q : Fin 1024) : gb m c t (ix2 0 q) = G m c (ix1 q) := by
  refine Eq.trans ?_ (gain m c q)
  unfold gb
  blk_ext [iblk, idx t]

theorem acc_at (t : Fin cfg0.N) (p : Fin 512) (q : Fin 1024) (r : Fin 2048) (hr : r.val = t.val * 512 + p.val) :
    mm (hb m c t) (wb m c t) p q = dy (W m c) (H m c) r q := by
  rw [mm]
  simp only [h_at m c t p _ r hr]
  exact dy_wide (W m c) (H m c) r q (fun n => wb m c t (ix2 q n)) fun n => w_at m c t q n

/-- The row's entry a point writes. -/
theorem row_at (t : Fin cfg0.N) (p : Fin 512) (q : Fin 1024) (r : Fin 2048) (hr : r.val = t.val * 512 + p.val) :
    db m c t (ix2 p q) + rho (fun j => xb m c t (ix2 p j)) * (mm (hb m c t) (wb m c t) p q * gb m c t (ix2 0 q)
        - xb m c t (ix2 p q) * rho (fun j => xb m c t (ix2 p j))
      * Ideal.div (∑ j, mm (hb m c t) (wb m c t) p j * gb m c t (ix2 0 j)
          * (xb m c t (ix2 p j) * rho (fun j => xb m c t (ix2 p j)))) len)
      = dx (X m c) (G m c) (W m c) (H m c) (D m c) r q := by
  unfold dx
  simp only [acc_at m c t p _ r hr, x_at m c t p _ r hr, d_at m c t p _ r hr, g_at m c t _]

theorem final5 : (dats m 0 c).arrAt 5 (cfgs 0).N = val_main_v40 (F := Ideal) (X m c) (G m c) (W m c) (H m c) (D m c) := by
  refine (dats m 0 c).arrAt_eq_of_covers 5 _ (by decide +kernel) fun t _ y => ?_
  blk_simp
  rw [after0_5]
  have hb4 : t.val < 4 := t.isLt
  by_cases h0 : t.val % 4 = 0
  · rw [outsAt0_A m c t h0]
    frame_out
    idx_vars y
    refine (pay6 (hb m c t) (wb m c t) (xb m c t) (db m c t) (gb m c t) y0 y1).trans
      ((row_at m c t y0 y1 ⟨t.val * 512 + y0.val, by omega⟩ rfl).trans ((v40 ..).symm.trans ?_))
    blk_ext [idx t]
  · rw [outsAt0_B m c t h0]
    frame_out
    idx_vars y
    refine (pay6 (hb m c t) (wb m c t) (xb m c t) (db m c t) (gb m c t) y0 y1).trans
      ((row_at m c t y0 y1 ⟨t.val * 512 + y0.val, by omega⟩ rfl).trans ((v40 ..).symm.trans ?_))
    blk_ext [idx t]

theorem final6 : (dats m 0 c).arrAt 6 (cfgs 0).N = val_main_v41 (F := Ideal) (X m c) (G m c) (W m c) (H m c) (D m c) := by
  refine (dats m 0 c).arrAt_eq_of_covers 6 _ (by decide +kernel) fun t _ y => ?_
  blk_simp
  rw [after0_6]
  have hb4 : t.val < 4 := t.isLt
  by_cases h0 : t.val % 4 = 0
  · rw [outsAt0_A m c t h0]
    frame_out
    idx_vars y
    refine (pay8 (hb m c t) (wb m c t) (xb m c t) (db m c t) (gb m c t) y0 y1).trans
      ((row_at m c t y0 y1 ⟨t.val * 512 + y0.val, by omega⟩ rfl).trans ((v41 ..).symm.trans ?_))
    blk_ext [idx t]
  · rw [outsAt0_B m c t h0]
    frame_out
    idx_vars y
    refine (pay8 (hb m c t) (wb m c t) (xb m c t) (db m c t) (gb m c t) y0 y1).trans
      ((row_at m c t y0 y1 ⟨t.val * 512 + y0.val, by omega⟩ rfl).trans ((v41 ..).symm.trans ?_))
    blk_ext [idx t]

/-- What a point adds to the gain's gradient. -/
def part (n : Fin cfg0.N) (q : Fin 1024) : EReal :=
  ∑ r, mm (hb m c n) (wb m c n) r q * (xb m c n (ix2 r q) * rho (fun j => xb m c n (ix2 r j)))

theorem final7 : (dats m 0 c).arrAt 7 (cfgs 0).N = val_main_v42 (F := Ideal) (X m c) (W m c) (H m c) := by
  refine (dats m 0 c).arrAt_eq_of_after_last 7 t0_3 (by decide +kernel) _ fun j => ?_
  blk_simp
  rw [after0_7]
  idx_vars j
  obtain rfl : j0 = 0 := Subsingleton.elim _ _
  rw [Pipeline.eq_sum_fin_of_reset_step_apply_last (fun n h => (outsAt0 m c n h).2.2) 4 (fun _ => 0)
    (fun n j => part m c n (j 1))
    (fun t h j => by
      rw [outsAt0_A m c t h]
      frame_out
      idx_vars j
      obtain rfl : j0 = 0 := Subsingleton.elim _ _
      refine (pay2 (hb m c t) (wb m c t) (xb m c t) _ j1).trans ?_
      rw [pay1]
      rfl)
    (fun t h j => by
      rw [outsAt0_B m c t h]
      frame_out
      idx_vars j
      obtain rfl : j0 = 0 := Subsingleton.elim _ _
      exact (pay2 (hb m c t) (wb m c t) (xb m c t) _ j1)) (le_of_eq N_0) t0_3 rfl (ix2 0 j1), zero_add]
  refine Eq.trans ?_ ((v42 (X m c) (W m c) (H m c) j1).symm.trans ?_)
  · refine Fin.sum_mul_add_congr fun s k hl => ?_
    show mm (hb m c s) (wb m c s) k j1 * (xb m c s (ix2 k j1) * rho fun j => xb m c s (ix2 k j)) = _
    rw [acc_at m c _ k j1 ⟨s.val * 512 + k.val, hl⟩ rfl]
    simp only [x_at m c _ k _ ⟨s.val * 512 + k.val, hl⟩ rfl]
  · blk_ext [idx t0_3]
end Cert.DxIdeal.Arr
end
-- ==== Proof.XaMath.lean ====
module

public import Idealize.ShloMosaic.Lib.Pipeline.ValueKit
public import Idealize.ShloMosaic.Lib.Pointwise

@[expose] public section

noncomputable section

open Idealize.ShloMosaic

/-! The gradient of attention at one query row of one head, over the extended reals at real arguments: the form
that keeps the logarithm of the row's sum and the form of the chain rule through the softmax have the same real value.
A row of queries is `a`, the cotangent of its output `g`; the keys `K` and the values `V` are indexed by the
position attended to and the feature. -/

namespace Cert.Xm

/-- The factor of the scores. -/
abbrev scale : EReal := Ideal.ofBits FTy.f32 1031798784#32
/-- The least value the running maximum starts from. -/
abbrev neg : EReal := Ideal.ofBits FTy.f32 4048155338#32
/-- Minus infinity. -/
abbrev ninf : EReal := Ideal.ofBits FTy.f32 4286578688#32

theorem scale_eq : scale = ((1 / 16 : ℝ) : EReal) := by
  unfold scale; simp [Ideal.ofBits, Ideal.ieee, -EReal.coe_mul]; norm_num

theorem neg_real : ∃ r : ℝ, neg = (r : EReal) := by
  refine ⟨-((13234890 : ℝ) * 2 ^ (76 : ℤ)), ?_⟩
  unfold neg; simp [Ideal.ofBits, Ideal.ieee, -EReal.coe_mul]

theorem ninf_eq : ninf = ⊥ := by
  unfold ninf; simp [Ideal.ofBits, Ideal.ieee]

theorem coe_sum {n : ℕ} (f : Fin n → ℝ) : (∑ j, (f j : EReal)) = ((∑ j, f j : ℝ) : EReal) := by
  induction n with
  | zero => simp
  | succ n ih => rw [Fin.sum_univ_castSucc, Fin.sum_univ_castSucc, ih, EReal.coe_add]

theorem sum_eq {n : ℕ} {f : Fin n → EReal} {g : Fin n → ℝ} (h : ∀ j, f j = (g j : EReal)) :
    ∑ j, f j = ((∑ j, g j : ℝ) : EReal) :=
  (Finset.sum_congr rfl fun j _ => h j).trans (coe_sum g)

theorem div_real (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

variable {n m : ℕ} [NeZero m]

variable (a g : Fin n → EReal) (K V : Fin m → Fin n → EReal)

/-- The scores of the row. -/
def sc (j : Fin m) : EReal := (∑ d, a d * K j d) * scale
/-- Their greatest. -/
def top : EReal := Finset.univ.fold max ninf (sc a K)
/-- The running maximum. -/
def mk : EReal := max neg (top a K)
/-- The running sum. -/
def lk : EReal := Ideal.exp (neg - mk a K) * 0 + ∑ j, Ideal.exp (sc a K j - mk a K)
/-- The output row. -/
def ok (d : Fin n) : EReal :=
  Ideal.div (Ideal.exp (neg - mk a K) * 0 + ∑ j, Ideal.exp (sc a K j - mk a K) * V j d) (lk a K)
/-- The logarithm of the row's sum of exponentials. -/
def lse : EReal := mk a K + Ideal.log (lk a K)
/-- The row's sum of its output against its cotangent. -/
def dlt (o : Fin n → EReal) : EReal := ∑ e, g e * o e
/-- The gradient of the scores, from the saved logarithm `L` and sum `D`. -/
def dsk (L D : EReal) (j : Fin m) : EReal := Ideal.exp (sc a K j - L) * ((∑ e, g e * V j e) - D) * scale

/-- The exponentials of the softmax. -/
def er (j : Fin m) : EReal := Ideal.exp (sc a K j - max ninf (top a K))
/-- Their sum. -/
def zr : EReal := ∑ j, er a K j
/-- The gradient of the scores by the chain rule. -/
def dsr (j : Fin m) : EReal :=
  (Ideal.div (∑ e, g e * V j e) (zr a K)
    + -∑ i, (∑ e, g e * V i e) * Ideal.div 1 (zr a K * zr a K) * er a K i) * er a K j * scale

section Real
variable (x y : Fin n → ℝ) (k v : Fin m → Fin n → ℝ)

/-- The scores as real numbers. -/
def s (j : Fin m) : ℝ := (∑ d, x d * k j d) * (1 / 16)
/-- The softmax of the scores. -/
def P (j : Fin m) : ℝ := Real.exp (s x k j) / ∑ i, Real.exp (s x k i)
/-- The cotangent of the softmax. -/
def ct (j : Fin m) : ℝ := ∑ e, y e * v j e
/-- The gradient of the scores. -/
def G (j : Fin m) : ℝ := P x k j * (ct y v j - ∑ i, P x k i * ct y v i) * (1 / 16)

theorem sc_coe (j : Fin m) :
    sc (fun d => (x d : EReal)) (fun j d => (k j d : EReal)) j = (s x k j : EReal) := by
  rw [sc, scale_eq, sum_eq (fun d => (EReal.coe_mul (x d) (k j d)).symm), ← EReal.coe_mul, s]

theorem ct_coe (j : Fin m) : (∑ e, (y e : EReal) * (v j e : EReal)) = (ct y v j : EReal) :=
  sum_eq (fun e => (EReal.coe_mul (y e) (v j e)).symm)

theorem top_real : ∃ r : ℝ, top (fun d => (x d : EReal)) (fun j d => (k j d : EReal)) = (r : EReal) := by
  have h1 : top (fun d => (x d : EReal)) (fun j d => (k j d : EReal)) < ⊤ := by
    rw [top, Finset.fold_max_lt]
    exact ⟨by rw [ninf_eq]; exact bot_lt_top, fun j _ => by rw [sc_coe]; exact EReal.coe_lt_top _⟩
  have h2 : (s x k 0 : EReal) ≤ top (fun d => (x d : EReal)) (fun j d => (k j d : EReal)) := by
    rw [top, Finset.le_fold_max]
    exact .inr ⟨0, Finset.mem_univ _, by rw [sc_coe]⟩
  exact ⟨_, (EReal.coe_toReal h1.ne (fun h => by rw [h] at h2; exact absurd h2 (not_le.2 (EReal.bot_lt_coe _)))).symm⟩

theorem mk_real : ∃ r : ℝ, mk (fun d => (x d : EReal)) (fun j d => (k j d : EReal)) = (r : EReal) := by
  obtain ⟨r, hr⟩ := top_real x k
  obtain ⟨n, hn⟩ := neg_real
  exact ⟨max n r, by rw [mk, hr, hn]; exact (EReal.coe_strictMono.monotone.map_max).symm⟩

theorem shift (M : ℝ) : (∑ i, Real.exp (s x k i - M)) = (∑ i, Real.exp (s x k i)) / Real.exp M := by
  rw [Finset.sum_div]; exact Finset.sum_congr rfl fun i _ => Real.exp_sub _ _

theorem sum_pos (M : ℝ) : 0 < ∑ i, Real.exp (s x k i - M) :=
  Finset.sum_pos (fun i _ => Real.exp_pos _) ⟨0, Finset.mem_univ _⟩

theorem P_shift (M : ℝ) (j : Fin m) : Real.exp (s x k j - M) / (∑ i, Real.exp (s x k i - M)) = P x k j := by
  rw [shift, Real.exp_sub, div_div_div_cancel_right₀ (Real.exp_pos M).ne', P]

theorem exp_sub_coe (u w : ℝ) : Ideal.exp ((u : EReal) - (w : EReal)) = (Real.exp (u - w) : EReal) := by
  rw [← EReal.coe_sub, Ideal.exp_coe]

theorem lk_real {M : ℝ} (hM : mk (fun d => (x d : EReal)) (fun j d => (k j d : EReal)) = (M : EReal)) :
    lk (fun d => (x d : EReal)) (fun j d => (k j d : EReal)) = ((∑ i, Real.exp (s x k i - M) : ℝ) : EReal) := by
  rw [lk, mul_zero, zero_add]
  exact sum_eq fun j => by rw [hM, sc_coe, exp_sub_coe]

/-- The output row is the softmax against the values. -/
theorem ok_real (d : Fin n) :
    ok (fun d => (x d : EReal)) (fun j d => (k j d : EReal)) (fun j d => (v j d : EReal)) d
      = ((∑ j, P x k j * v j d : ℝ) : EReal) := by
  obtain ⟨M, hM⟩ := mk_real x k
  rw [ok, mul_zero, zero_add, lk_real x k hM,
    sum_eq (g := fun j => Real.exp (s x k j - M) * v j d) (fun j => by rw [hM, sc_coe, exp_sub_coe, ← EReal.coe_mul]),
    div_real _ _ (sum_pos x k M).ne', Finset.sum_div]
  refine congrArg (fun r : ℝ => (r : EReal)) ?_
  exact Finset.sum_congr rfl fun j _ => by rw [← P_shift x k M j, div_mul_eq_mul_div]

/-- The saved logarithm gives the softmax back. -/
theorem lse_real : ∃ z : ℝ, lse (fun d => (x d : EReal)) (fun j d => (k j d : EReal)) = (z : EReal)
    ∧ ∀ j, Real.exp (s x k j - z) = P x k j := by
  obtain ⟨M, hM⟩ := mk_real x k
  have hp := sum_pos x k M
  refine ⟨M + Real.log (∑ i, Real.exp (s x k i - M)), ?_, fun j => ?_⟩
  · rw [lse, lk_real x k hM, hM, Ideal.log_coe, if_neg (not_le.2 hp), EReal.coe_add]
  · rw [← sub_sub, Real.exp_sub (s x k j - M), Real.exp_log hp, P_shift]

theorem dlt_real : dlt (fun e => (y e : EReal))
      (ok (fun d => (x d : EReal)) (fun j d => (k j d : EReal)) (fun j d => (v j d : EReal)))
    = ((∑ i, P x k i * ct y v i : ℝ) : EReal) := by
  unfold dlt
  refine (sum_eq (g := fun e => y e * ∑ j, P x k j * v j e) fun e => ?_).trans ?_
  · rw [ok_real, EReal.coe_mul]
  refine congrArg (fun r : ℝ => (r : EReal)) ?_
  simp only [ct, Finset.mul_sum]
  rw [Finset.sum_comm]
  exact Finset.sum_congr rfl fun j _ => Finset.sum_congr rfl fun e _ => by ring

/-- The softmax from the saved logarithm. -/
theorem pk_real (j : Fin m) :
    Ideal.exp (sc (fun d => (x d : EReal)) (fun j d => (k j d : EReal)) j
      - lse (fun d => (x d : EReal)) (fun j d => (k j d : EReal))) = (P x k j : EReal) := by
  obtain ⟨z, hz, hP⟩ := lse_real x k
  rw [hz, sc_coe, exp_sub_coe, hP]

/-- The gradient of the scores from what the forward pass saved. -/
theorem dsk_real (j : Fin m) :
    dsk (fun d => (x d : EReal)) (fun e => (y e : EReal)) (fun j d => (k j d : EReal)) (fun j d => (v j d : EReal))
      (lse (fun d => (x d : EReal)) (fun j d => (k j d : EReal)))
      (dlt (fun e => (y e : EReal))
        (ok (fun d => (x d : EReal)) (fun j d => (k j d : EReal)) (fun j d => (v j d : EReal)))) j
      = (G x y k v j : EReal) := by
  rw [dsk, pk_real, dlt_real, ct_coe, scale_eq, ← EReal.coe_sub, ← EReal.coe_mul, ← EReal.coe_mul, G]

theorem er_real : ∃ M : ℝ, ∀ j, er (fun d => (x d : EReal)) (fun j d => (k j d : EReal)) j
    = (Real.exp (s x k j - M) : EReal) := by
  obtain ⟨M, hM⟩ := top_real x k
  exact ⟨M, fun j => by rw [er, ninf_eq, max_eq_right bot_le, hM, sc_coe, exp_sub_coe]⟩

/-- The softmax of the chain rule's form. -/
theorem pr_real (j : Fin m) :
    Ideal.div (er (fun d => (x d : EReal)) (fun j d => (k j d : EReal)) j)
      (zr (fun d => (x d : EReal)) (fun j d => (k j d : EReal))) = (P x k j : EReal) := by
  obtain ⟨M, hM⟩ := er_real x k
  rw [zr, sum_eq hM, hM, div_real _ _ (sum_pos x k M).ne', P_shift]

/-- The gradient of the scores by the chain rule. -/
theorem dsr_real (j : Fin m) :
    dsr (fun d => (x d : EReal)) (fun e => (y e : EReal)) (fun j d => (k j d : EReal)) (fun j d => (v j d : EReal)) j
      = (G x y k v j : EReal) := by
  obtain ⟨M, hM⟩ := er_real x k
  have hp := sum_pos x k M
  have hz : zr (fun d => (x d : EReal)) (fun j d => (k j d : EReal)) = ((∑ i, Real.exp (s x k i - M) : ℝ) : EReal) := by
    rw [zr, sum_eq hM]
  have h1 : Ideal.div (1 : EReal) (((∑ i, Real.exp (s x k i - M)) * (∑ i, Real.exp (s x k i - M)) : ℝ) : EReal)
      = ((1 / ((∑ i, Real.exp (s x k i - M)) * (∑ i, Real.exp (s x k i - M))) : ℝ) : EReal) := by
    rw [← EReal.coe_one, div_real _ _ (mul_pos hp hp).ne']
  have hs : (∑ i, (∑ e, (y e : EReal) * (v i e : EReal))
        * Ideal.div (1 : EReal) (((∑ i, Real.exp (s x k i - M)) * (∑ i, Real.exp (s x k i - M)) : ℝ) : EReal)
        * er (fun d => (x d : EReal)) (fun j d => (k j d : EReal)) i)
      = ((∑ i, ct y v i * (1 / ((∑ i, Real.exp (s x k i - M)) * (∑ i, Real.exp (s x k i - M))))
          * Real.exp (s x k i - M) : ℝ) : EReal) :=
    sum_eq fun i => by rw [h1, ct_coe, hM, ← EReal.coe_mul, ← EReal.coe_mul]
  rw [dsr, hz, ← EReal.coe_mul, hs, ct_coe, hM, scale_eq, div_real _ _ hp.ne', ← EReal.coe_neg, ← EReal.coe_add, ← EReal.coe_mul, ← EReal.coe_mul, G]
  refine congrArg (fun r : ℝ => (r : EReal)) ?_
  have e : (∑ i, ct y v i * (1 / ((∑ i, Real.exp (s x k i - M)) * (∑ i, Real.exp (s x k i - M))))
      * Real.exp (s x k i - M)) = (∑ i, P x k i * ct y v i) / (∑ i, Real.exp (s x k i - M)) := by
    rw [Finset.sum_div]
    refine Finset.sum_congr rfl fun i _ => ?_
    rw [← P_shift x k M i]
    generalize (∑ i, Real.exp (s x k i - M)) = Z
    generalize Real.exp (s x k i - M) = E
    generalize ct y v i = C
    ring
  rw [e, ← P_shift x k M j]
  generalize (∑ i, Real.exp (s x k i - M)) = Z
  generalize Real.exp (s x k j - M) = E
  generalize (∑ i, P x k i * ct y v i) = S
  generalize ct y v j = C
  ring

end Real
end Cert.Xm
end
-- ==== Proof.XaPayKv.lean ====
module
public import proofs.«01_k».proof.Proof.Gen.XaIdeal.Frame
public import proofs.«01_k».proof.Proof.XaMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! One trip of the gradient of the keys and the values, entry by entry: what a head's block of queries and cotangents
adds to the two sums it carries. -/

namespace Cert.XaIdeal.Pay

open Cert.XaIdeal Cert.XaIdeal.Gen

variable (A D : FVec Ideal S1024x256 .bf16) (K V : FVec Ideal S256x256 .bf16) (dv dk : FVec Ideal S256x256 .f32)
  (l1 l2 : FVec Ideal S1x1x1024 .f32) (j d : Fin 256)

theorem dv0 : k2_pay7 (F := Ideal) K dv A D l1 (ix2 j d) = dv (ix2 j d) + ∑ r : Fin 1024,
      Ideal.exp ((∑ e, K (ix2 j e) * A (ix2 r e)) * Xm.scale - l1 (ix3 0 0 r)) * D (ix2 r d) := by
  pointwise [k2_pay6, k2_pay7, k2_pay8, k2_pay9, k2_pay10, k2_pay11, k2_pay12, k2_pay13, k2_pay14, k2_pay15, k2_pay16, k2_pay25, k2_pay26, k2_pay27, k2_pay28]

theorem dk0 : k2_pay8 (F := Ideal) K V dk A D l1 l2 (ix2 j d) = dk (ix2 j d) + ∑ r : Fin 1024,
      Ideal.exp ((∑ e, K (ix2 j e) * A (ix2 r e)) * Xm.scale - l1 (ix3 0 0 r))
        * ((∑ e, V (ix2 j e) * D (ix2 r e)) - l2 (ix3 0 0 r)) * Xm.scale * A (ix2 r d) := by
  pointwise [k2_pay6, k2_pay7, k2_pay8, k2_pay9, k2_pay10, k2_pay11, k2_pay12, k2_pay13, k2_pay14, k2_pay15, k2_pay16, k2_pay25, k2_pay26, k2_pay27, k2_pay28]

theorem dv1 : k2_pay12 (F := Ideal) dv D (k2_pay9 K A) (k2_pay10 l1) (ix2 j d) = dv (ix2 j d) + ∑ r : Fin 1024,
      Ideal.exp ((∑ e, K (ix2 j e) * A (ix2 r e)) * Xm.scale - l1 (ix3 0 0 r)) * D (ix2 r d) := by
  pointwise [k2_pay6, k2_pay7, k2_pay8, k2_pay9, k2_pay10, k2_pay11, k2_pay12, k2_pay13, k2_pay14, k2_pay15, k2_pay16, k2_pay25, k2_pay26, k2_pay27, k2_pay28]

theorem dk1 : k2_pay13 (F := Ideal) V dk A D (k2_pay9 K A) (k2_pay10 l1) l2 (ix2 j d) = dk (ix2 j d) + ∑ r : Fin 1024,
      Ideal.exp ((∑ e, K (ix2 j e) * A (ix2 r e)) * Xm.scale - l1 (ix3 0 0 r))
        * ((∑ e, V (ix2 j e) * D (ix2 r e)) - l2 (ix3 0 0 r)) * Xm.scale * A (ix2 r d) := by
  pointwise [k2_pay6, k2_pay7, k2_pay8, k2_pay9, k2_pay10, k2_pay11, k2_pay12, k2_pay13, k2_pay14, k2_pay15, k2_pay16, k2_pay25, k2_pay26, k2_pay27, k2_pay28]

theorem dv2 : k2_pay15 (F := Ideal) K dv A D l1 (ix2 j d) = dv (ix2 j d) + ∑ r : Fin 1024,
      Ideal.exp ((∑ e, K (ix2 j e) * A (ix2 r e)) * Xm.scale - l1 (ix3 0 0 r)) * D (ix2 r d) := by
  pointwise [k2_pay6, k2_pay7, k2_pay8, k2_pay9, k2_pay10, k2_pay11, k2_pay12, k2_pay13, k2_pay14, k2_pay15, k2_pay16, k2_pay25, k2_pay26, k2_pay27, k2_pay28]

theorem dk2 : k2_pay25 (F := Ideal) dk A (k2_pay16 K V A D l1 l2) (ix2 j d) = dk (ix2 j d) + ∑ r : Fin 1024,
      Ideal.exp ((∑ e, K (ix2 j e) * A (ix2 r e)) * Xm.scale - l1 (ix3 0 0 r))
        * ((∑ e, V (ix2 j e) * D (ix2 r e)) - l2 (ix3 0 0 r)) * Xm.scale * A (ix2 r d) := by
  pointwise [k2_pay6, k2_pay7, k2_pay8, k2_pay9, k2_pay10, k2_pay11, k2_pay12, k2_pay13, k2_pay14, k2_pay15, k2_pay16, k2_pay25, k2_pay26, k2_pay27, k2_pay28]

theorem dv3 : k2_pay27 (F := Ideal) K dv A D l1 (ix2 j d) = dv (ix2 j d) + ∑ r : Fin 1024,
      Ideal.exp ((∑ e, K (ix2 j e) * A (ix2 r e)) * Xm.scale - l1 (ix3 0 0 r)) * D (ix2 r d) := by
  pointwise [k2_pay6, k2_pay7, k2_pay8, k2_pay9, k2_pay10, k2_pay11, k2_pay12, k2_pay13, k2_pay14, k2_pay15, k2_pay16, k2_pay25, k2_pay26, k2_pay27, k2_pay28]

theorem dk3 : k2_pay28 (F := Ideal) K V dk A D l1 l2 (ix2 j d) = dk (ix2 j d) + ∑ r : Fin 1024,
      Ideal.exp ((∑ e, K (ix2 j e) * A (ix2 r e)) * Xm.scale - l1 (ix3 0 0 r))
        * ((∑ e, V (ix2 j e) * D (ix2 r e)) - l2 (ix3 0 0 r)) * Xm.scale * A (ix2 r d) := by
  pointwise [k2_pay6, k2_pay7, k2_pay8, k2_pay9, k2_pay10, k2_pay11, k2_pay12, k2_pay13, k2_pay14, k2_pay15, k2_pay16, k2_pay25, k2_pay26, k2_pay27, k2_pay28]

end Cert.XaIdeal.Pay
end
-- ==== Proof.XaPay.lean ====
module
public import proofs.«01_k».proof.Proof.Gen.XaIdeal.Frame
public import proofs.«01_k».proof.Proof.XaMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! The forward attention and the gradient of its queries, entry by entry: what each head's stores hold, by the head's
blocks of queries, keys, values, outputs and cotangents. -/

namespace Cert.XaIdeal.Pay

open Cert.XaIdeal Cert.XaIdeal.Gen

variable (A D O : FVec Ideal S1024x256 .bf16) (K V : FVec Ideal S256x256 .bf16) (l : FVec Ideal S1x1024x1 .f32)
  (p : Fin 1024) (d : Fin 256)

/-- Row `p` of a block. -/
abbrev row (A : FVec Ideal S1024x256 .bf16) (p : Fin 1024) (d : Fin 256) : EReal := A (ix2 p d)
/-- A block by its two indices. -/
abbrev mat (K : FVec Ideal S256x256 .bf16) (j d : Fin 256) : EReal := K (ix2 j d)

theorem o0 : k0_pay45 (F := Ideal) (k0_pay24 (k0_pay21 A K) (k0_pay23 A K))
      (k0_pay25 k0_pay9 (k0_pay21 A K) (k0_pay22 A K) V) (ix2 p d) = Xm.ok (row A p) (mat K) (mat V) d := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  rfl

theorem lse0 : k0_pay1 (F := Ideal) (k0_pay46 (k0_pay20 A K) (k0_pay24 (k0_pay21 A K) (k0_pay23 A K))) (ix3 0 p 0)
    = Xm.lse (row A p) (mat K) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  rfl

theorem o1 : k0_pay2 (F := Ideal) (k0_pay30 A k0_pay10 k0_pay11 K)
      (k0_pay31 A k0_pay10 k0_pay12 K V) (ix2 p d) = Xm.ok (row A p) (mat K) (mat V) d := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  rfl

theorem lse1 : k0_pay3 (F := Ideal) (k0_pay27 A k0_pay10 K) (k0_pay30 A k0_pay10 k0_pay11 K) (ix3 0 p 0)
    = Xm.lse (row A p) (mat K) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  rfl

theorem o2 : k0_pay4 (F := Ideal) (k0_pay37 k0_pay14 (k0_pay34 A k0_pay13 K) (k0_pay35 A k0_pay13 K))
      (k0_pay38 k0_pay15 (k0_pay34 A k0_pay13 K) (k0_pay35 A k0_pay13 K) V) (ix2 p d) = Xm.ok (row A p) (mat K) (mat V) d := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  rfl

theorem lse2 : k0_pay5 (F := Ideal) (k0_pay33 A k0_pay13 K) (k0_pay37 k0_pay14 (k0_pay34 A k0_pay13 K) (k0_pay35 A k0_pay13 K)) (ix3 0 p 0)
    = Xm.lse (row A p) (mat K) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  rfl

theorem o3 : k0_pay6 (F := Ideal) (k0_pay43 A k0_pay16 k0_pay17 K)
      (k0_pay44 A k0_pay16 k0_pay18 K V) (ix2 p d) = Xm.ok (row A p) (mat K) (mat V) d := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  rfl

theorem lse3 : k0_pay7 (F := Ideal) (k0_pay40 A k0_pay16 K) (k0_pay43 A k0_pay16 k0_pay17 K) (ix3 0 p 0)
    = Xm.lse (row A p) (mat K) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  rfl

theorem delta0 : k1_pay8 (F := Ideal) (k1_pay7 D O) (ix3 0 p 0) = Xm.dlt (row D p) (row O p) := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24]
  rfl

theorem dq0 : k1_pay23 (F := Ideal) (k1_pay19 A D (k1_pay3 l) (k1_pay7 D O) k1_pay15 K V) (ix2 p d)
    = ∑ j, Xm.dsk (row A p) (row D p) (mat K) (mat V) (l (ix3 0 p 0)) (Xm.dlt (row D p) (row O p)) j * mat K j d := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24]
  rfl

theorem delta1 : k1_pay10 (F := Ideal) D O (ix3 0 p 0) = Xm.dlt (row D p) (row O p) := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24]
  rfl

theorem dq1 : k1_pay24 (F := Ideal) (k1_pay20 A D (k1_pay4 l) (k1_pay9 D O) k1_pay16 K V) (ix2 p d)
    = ∑ j, Xm.dsk (row A p) (row D p) (mat K) (mat V) (l (ix3 0 p 0)) (Xm.dlt (row D p) (row O p)) j * mat K j d := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24]
  rfl

theorem delta2 : k1_pay12 (F := Ideal) D O (ix3 0 p 0) = Xm.dlt (row D p) (row O p) := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24]
  rfl

theorem dq2 : k1_pay1 (F := Ideal) (k1_pay21 A D (k1_pay5 l) (k1_pay11 D O) k1_pay17 K V) (ix2 p d)
    = ∑ j, Xm.dsk (row A p) (row D p) (mat K) (mat V) (l (ix3 0 p 0)) (Xm.dlt (row D p) (row O p)) j * mat K j d := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24]
  rfl

theorem delta3 : k1_pay14 (F := Ideal) D O (ix3 0 p 0) = Xm.dlt (row D p) (row O p) := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24]
  rfl

theorem dq3 : k1_pay2 (F := Ideal) (k1_pay22 A D (k1_pay6 l) (k1_pay13 D O) k1_pay18 K V) (ix2 p d)
    = ∑ j, Xm.dsk (row A p) (row D p) (mat K) (mat V) (l (ix3 0 p 0)) (Xm.dlt (row D p) (row O p)) j * mat K j d := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24]
  rfl

end Cert.XaIdeal.Pay
end
-- ==== Proof.XaFwd.lean ====
/- The forward attention, whole arrays: the output and the logarithm of each row's sum that the first call leaves, by
   the entry contents of its operands. -/
module

public import proofs.«01_k».proof.Proof.XaPay
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.XaIdeal.Arr
open Cert.XaIdeal Cert.XaIdeal.Gen

/-- A row of queries of one head. -/
def qrow (q : FVec Ideal S2048x1024 .bf16) (h : Fin 4) (r : Fin 2048) (d : Fin 256) : EReal :=
  q (ix2 r ⟨h.val * 256 + d.val, by omega⟩)
/-- The keys of one head. -/
def kmat (kv : FVec Ideal S256x2048 .bf16) (h : Fin 4) (j d : Fin 256) : EReal :=
  kv (ix2 j ⟨h.val * 256 + d.val, by omega⟩)
/-- The values of one head. -/
def vmat (kv : FVec Ideal S256x2048 .bf16) (h : Fin 4) (j d : Fin 256) : EReal :=
  kv (ix2 j ⟨1024 + (h.val * 256 + d.val), by omega⟩)

/-- The output of attention at a row and a column. -/
def oAt (q : FVec Ideal S2048x1024 .bf16) (kv : FVec Ideal S256x2048 .bf16) (r : Fin 2048) (n : Fin 1024) : EReal :=
  Xm.ok (qrow q ⟨n.val / 256, by omega⟩ r) (kmat kv ⟨n.val / 256, by omega⟩) (vmat kv ⟨n.val / 256, by omega⟩)
    ⟨n.val % 256, by omega⟩
/-- The output of attention. -/
def oArr (q : FVec Ideal S2048x1024 .bf16) (kv : FVec Ideal S256x2048 .bf16) : FVec Ideal S2048x1024 .bf16 :=
  fun i => oAt q kv (i 0) (i 1)
/-- The logarithm of a row's sum. -/
def lAt (q : FVec Ideal S2048x1024 .bf16) (kv : FVec Ideal S256x2048 .bf16) (h : Fin 4) (r : Fin 2048) : EReal :=
  Xm.lse (qrow q h r) (kmat kv h)
/-- The logarithms of the rows' sums. -/
def lArr (q : FVec Ideal S2048x1024 .bf16) (kv : FVec Ideal S256x2048 .bf16) : FVec Ideal S4x2048x1 .f32 :=
  fun i => lAt q kv (i 0) (i 1)

theorem oAt_head (q : FVec Ideal S2048x1024 .bf16) (kv : FVec Ideal S256x2048 .bf16) (r : Fin 2048) (h : Fin 4) (d : Fin 256)
    (n : Fin 1024) (hn : n.val = h.val * 256 + d.val) : oAt q kv r n = Xm.ok (qrow q h r) (kmat kv h) (vmat kv h) d := by
  have e1 : (⟨n.val / 256, by omega⟩ : Fin 4) = h := Fin.ext (by show n.val / 256 = _; omega)
  have e2 : (⟨n.val % 256, by omega⟩ : Fin 256) = d := Fin.ext (by show n.val % 256 = _; omega)
  rw [oAt, e1, e2]

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![0, 1]
    ∧ win0_3.index t = ![t.val, 0] ∧ win0_4.index t = ![0, t.val, 0] :=
  (by decide +kernel : ∀ t : Fin grid0.N, _)

theorem q0_0 (t : Fin cfg0.N) (x : Fin 1024) (r : Fin 2048) (hr : r.val = t.val * 1024 + x.val) :
    Pay.row (View.ld (iblk0 V c 0 t) r0_0) x = qrow (V c main_arg0) 0 r := by
  funext e
  show iblk0 V c 0 t (r0_0.idx (ix2 x e)) = _
  unfold qrow
  blk_ext [iblk0, idx0 t]
  · show t.val * 1024 + (0 + 1 * x.val) = _
    omega
  · show 0 + 1 * e.val = 0 * 256 + e.val
    omega

theorem k0_0 (t : Fin cfg0.N) : Pay.mat (View.ld (iblk0 V c 1 t) r0_4) = kmat (V c main_arg1) 0 := by
  funext j e
  show iblk0 V c 1 t (r0_4.idx (ix2 j e)) = _
  unfold kmat
  blk_ext [iblk0, idx0 t]
  · show k0_off1 0 + 1 * j.val = _
    rw [k0_off1_eq]
    show 0 + 1 * j.val = _
    omega
  · show k0_off1 1 + 1 * e.val = 0 * 256 + e.val
    rw [k0_off1_eq]
    show 0 + 1 * e.val = 0 * 256 + e.val
    omega

theorem v0_0 (t : Fin cfg0.N) : Pay.mat (View.ld (iblk0 V c 2 t) r0_4) = vmat (V c main_arg1) 0 := by
  funext j e
  show iblk0 V c 2 t (r0_4.idx (ix2 j e)) = _
  unfold vmat
  blk_ext [iblk0, idx0 t]
  · show k0_off1 0 + 1 * j.val = _
    rw [k0_off1_eq]
    show 0 + 1 * j.val = _
    omega
  · show 1024 + (k0_off1 1 + 1 * e.val) = 1024 + (0 * 256 + e.val)
    rw [k0_off1_eq]
    show 1024 + (0 + 1 * e.val) = 1024 + (0 * 256 + e.val)
    omega

theorem q0_1 (t : Fin cfg0.N) (x : Fin 1024) (r : Fin 2048) (hr : r.val = t.val * 1024 + x.val) :
    Pay.row (View.ld (iblk0 V c 0 t) r0_1) x = qrow (V c main_arg0) 1 r := by
  funext e
  show iblk0 V c 0 t (r0_1.idx (ix2 x e)) = _
  unfold qrow
  blk_ext [iblk0, idx0 t]
  · show t.val * 1024 + (0 + 1 * x.val) = _
    omega
  · show 256 + 1 * e.val = 1 * 256 + e.val
    omega

theorem k0_1 (t : Fin cfg0.N) : Pay.mat (View.ld (iblk0 V c 1 t) r0_5) = kmat (V c main_arg1) 1 := by
  funext j e
  show iblk0 V c 1 t (r0_5.idx (ix2 j e)) = _
  unfold kmat
  blk_ext [iblk0, idx0 t]
  · show k0_off2 0 + 1 * j.val = _
    rw [k0_off2_eq]
    show 0 + 1 * j.val = _
    omega
  · show k0_off2 1 + 1 * e.val = 1 * 256 + e.val
    rw [k0_off2_eq]
    show 256 + 1 * e.val = 1 * 256 + e.val
    omega

theorem v0_1 (t : Fin cfg0.N) : Pay.mat (View.ld (iblk0 V c 2 t) r0_5) = vmat (V c main_arg1) 1 := by
  funext j e
  show iblk0 V c 2 t (r0_5.idx (ix2 j e)) = _
  unfold vmat
  blk_ext [iblk0, idx0 t]
  · show k0_off2 0 + 1 * j.val = _
    rw [k0_off2_eq]
    show 0 + 1 * j.val = _
    omega
  · show 1024 + (k0_off2 1 + 1 * e.val) = 1024 + (1 * 256 + e.val)
    rw [k0_off2_eq]
    show 1024 + (256 + 1 * e.val) = 1024 + (1 * 256 + e.val)
    omega

theorem q0_2 (t : Fin cfg0.N) (x : Fin 1024) (r : Fin 2048) (hr : r.val = t.val * 1024 + x.val) :
    Pay.row (View.ld (iblk0 V c 0 t) r0_2) x = qrow (V c main_arg0) 2 r := by
  funext e
  show iblk0 V c 0 t (r0_2.idx (ix2 x e)) = _
  unfold qrow
  blk_ext [iblk0, idx0 t]
  · show t.val * 1024 + (0 + 1 * x.val) = _
    omega
  · show 512 + 1 * e.val = 2 * 256 + e.val
    omega

theorem k0_2 (t : Fin cfg0.N) : Pay.mat (View.ld (iblk0 V c 1 t) r0_6) = kmat (V c main_arg1) 2 := by
  funext j e
  show iblk0 V c 1 t (r0_6.idx (ix2 j e)) = _
  unfold kmat
  blk_ext [iblk0, idx0 t]
  · show k0_off3 0 + 1 * j.val = _
    rw [k0_off3_eq]
    show 0 + 1 * j.val = _
    omega
  · show k0_off3 1 + 1 * e.val = 2 * 256 + e.val
    rw [k0_off3_eq]
    show 512 + 1 * e.val = 2 * 256 + e.val
    omega

theorem v0_2 (t : Fin cfg0.N) : Pay.mat (View.ld (iblk0 V c 2 t) r0_6) = vmat (V c main_arg1) 2 := by
  funext j e
  show iblk0 V c 2 t (r0_6.idx (ix2 j e)) = _
  unfold vmat
  blk_ext [iblk0, idx0 t]
  · show k0_off3 0 + 1 * j.val = _
    rw [k0_off3_eq]
    show 0 + 1 * j.val = _
    omega
  · show 1024 + (k0_off3 1 + 1 * e.val) = 1024 + (2 * 256 + e.val)
    rw [k0_off3_eq]
    show 1024 + (512 + 1 * e.val) = 1024 + (2 * 256 + e.val)
    omega

theorem q0_3 (t : Fin cfg0.N) (x : Fin 1024) (r : Fin 2048) (hr : r.val = t.val * 1024 + x.val) :
    Pay.row (View.ld (iblk0 V c 0 t) r0_3) x = qrow (V c main_arg0) 3 r := by
  funext e
  show iblk0 V c 0 t (r0_3.idx (ix2 x e)) = _
  unfold qrow
  blk_ext [iblk0, idx0 t]
  · show t.val * 1024 + (0 + 1 * x.val) = _
    omega
  · show 768 + 1 * e.val = 3 * 256 + e.val
    omega

theorem k0_3 (t : Fin cfg0.N) : Pay.mat (View.ld (iblk0 V c 1 t) r0_7) = kmat (V c main_arg1) 3 := by
  funext j e
  show iblk0 V c 1 t (r0_7.idx (ix2 j e)) = _
  unfold kmat
  blk_ext [iblk0, idx0 t]
  · show k0_off4 0 + 1 * j.val = _
    rw [k0_off4_eq]
    show 0 + 1 * j.val = _
    omega
  · show k0_off4 1 + 1 * e.val = 3 * 256 + e.val
    rw [k0_off4_eq]
    show 768 + 1 * e.val = 3 * 256 + e.val
    omega

theorem v0_3 (t : Fin cfg0.N) : Pay.mat (View.ld (iblk0 V c 2 t) r0_7) = vmat (V c main_arg1) 3 := by
  funext j e
  show iblk0 V c 2 t (r0_7.idx (ix2 j e)) = _
  unfold vmat
  blk_ext [iblk0, idx0 t]
  · show k0_off4 0 + 1 * j.val = _
    rw [k0_off4_eq]
    show 0 + 1 * j.val = _
    omega
  · show 1024 + (k0_off4 1 + 1 * e.val) = 1024 + (3 * 256 + e.val)
    rw [k0_off4_eq]
    show 1024 + (768 + 1 * e.val) = 1024 + (3 * 256 + e.val)
    omega

theorem final3 : (dat0 V c).arrAt 3 cfg0.N = oArr (V c main_arg0) (V c main_arg1) := by
  refine (dat0 V c).arrAt_eq_of_covers 3 _ (by decide +kernel) fun t _ y => ?_
  blk_simp
  rw [after0_3]
  unfold_out out0_3
  have hb : t.val < 2 := t.isLt
  canon_tiles x h
  all_goals idx_vars x
  case piece3 =>
    refine (Pay.o0 _ _ _ _ _).trans ?_
    rw [q0_0 V c t x0 ⟨t.val * 1024 + x0.val, by omega⟩ rfl, k0_0 V c t, v0_0 V c t]
    refine (oAt_head _ _ _ 0 x1 ⟨0 * 256 + x1.val, by omega⟩ rfl).symm.trans ?_
    show oAt _ _ _ _ = oAt _ _ _ _
    refine congrArg₂ (oAt _ _) (Fin.ext ?_) (Fin.ext ?_)
    · blk_simp [idx0 t]
      exact congrArg (t.val * 1024 + ·) h0.symm
    · blk_simp [idx0 t]
      exact h1.symm
  case piece2 =>
    refine (Pay.o1 _ _ _ _ _).trans ?_
    rw [q0_1 V c t x0 ⟨t.val * 1024 + x0.val, by omega⟩ rfl, k0_1 V c t, v0_1 V c t]
    refine (oAt_head _ _ _ 1 x1 ⟨1 * 256 + x1.val, by omega⟩ rfl).symm.trans ?_
    show oAt _ _ _ _ = oAt _ _ _ _
    refine congrArg₂ (oAt _ _) (Fin.ext ?_) (Fin.ext ?_)
    · blk_simp [idx0 t]
      exact congrArg (t.val * 1024 + ·) h0.symm
    · blk_simp [idx0 t]
      refine Eq.trans ?_ h1.symm
      show 1 * 256 + x1.val = _
      omega
  case piece1 =>
    refine (Pay.o2 _ _ _ _ _).trans ?_
    rw [q0_2 V c t x0 ⟨t.val * 1024 + x0.val, by omega⟩ rfl, k0_2 V c t, v0_2 V c t]
    refine (oAt_head _ _ _ 2 x1 ⟨2 * 256 + x1.val, by omega⟩ rfl).symm.trans ?_
    show oAt _ _ _ _ = oAt _ _ _ _
    refine congrArg₂ (oAt _ _) (Fin.ext ?_) (Fin.ext ?_)
    · blk_simp [idx0 t]
      exact congrArg (t.val * 1024 + ·) h0.symm
    · blk_simp [idx0 t]
      refine Eq.trans ?_ h1.symm
      show 2 * 256 + x1.val = _
      omega
  case piece0 =>
    refine (Pay.o3 _ _ _ _ _).trans ?_
    rw [q0_3 V c t x0 ⟨t.val * 1024 + x0.val, by omega⟩ rfl, k0_3 V c t, v0_3 V c t]
    refine (oAt_head _ _ _ 3 x1 ⟨3 * 256 + x1.val, by omega⟩ rfl).symm.trans ?_
    show oAt _ _ _ _ = oAt _ _ _ _
    refine congrArg₂ (oAt _ _) (Fin.ext ?_) (Fin.ext ?_)
    · blk_simp [idx0 t]
      exact congrArg (t.val * 1024 + ·) h0.symm
    · blk_simp [idx0 t]
      refine Eq.trans ?_ h1.symm
      show 3 * 256 + x1.val = _
      omega

theorem final4 : (dat0 V c).arrAt 4 cfg0.N = lArr (V c main_arg0) (V c main_arg1) := by
  refine (dat0 V c).arrAt_eq_of_covers 4 _ (by decide +kernel) fun t _ y => ?_
  blk_simp
  rw [after0_4]
  unfold_out out0_4
  have hb : t.val < 2 := t.isLt
  canon_tiles x h
  all_goals idx_vars x
  case piece3 =>
    obtain rfl : x0 = 0 := Subsingleton.elim _ _
    obtain rfl : x2 = 0 := Subsingleton.elim _ _
    refine (Pay.lse0 _ _ _).trans ?_
    rw [q0_0 V c t x1 ⟨t.val * 1024 + x1.val, by omega⟩ rfl, k0_0 V c t]
    show lAt _ _ _ _ = lAt _ _ _ _
    refine congrArg₂ (lAt _ _) (Fin.ext ?_) (Fin.ext ?_)
    · blk_simp [idx0 t]
      exact h0.symm
    · blk_simp [idx0 t]
      exact congrArg (t.val * 1024 + ·) h1.symm
  case piece2 =>
    obtain rfl : x0 = 0 := Subsingleton.elim _ _
    obtain rfl : x2 = 0 := Subsingleton.elim _ _
    refine (Pay.lse1 _ _ _).trans ?_
    rw [q0_1 V c t x1 ⟨t.val * 1024 + x1.val, by omega⟩ rfl, k0_1 V c t]
    show lAt _ _ _ _ = lAt _ _ _ _
    refine congrArg₂ (lAt _ _) (Fin.ext ?_) (Fin.ext ?_)
    · blk_simp [idx0 t]
      exact h0.symm
    · blk_simp [idx0 t]
      exact congrArg (t.val * 1024 + ·) h1.symm
  case piece1 =>
    obtain rfl : x0 = 0 := Subsingleton.elim _ _
    obtain rfl : x2 = 0 := Subsingleton.elim _ _
    refine (Pay.lse2 _ _ _).trans ?_
    rw [q0_2 V c t x1 ⟨t.val * 1024 + x1.val, by omega⟩ rfl, k0_2 V c t]
    show lAt _ _ _ _ = lAt _ _ _ _
    refine congrArg₂ (lAt _ _) (Fin.ext ?_) (Fin.ext ?_)
    · blk_simp [idx0 t]
      exact h0.symm
    · blk_simp [idx0 t]
      exact congrArg (t.val * 1024 + ·) h1.symm
  case piece0 =>
    obtain rfl : x0 = 0 := Subsingleton.elim _ _
    obtain rfl : x2 = 0 := Subsingleton.elim _ _
    refine (Pay.lse3 _ _ _).trans ?_
    rw [q0_3 V c t x1 ⟨t.val * 1024 + x1.val, by omega⟩ rfl, k0_3 V c t]
    show lAt _ _ _ _ = lAt _ _ _ _
    refine congrArg₂ (lAt _ _) (Fin.ext ?_) (Fin.ext ?_)
    · blk_simp [idx0 t]
      exact h0.symm
    · blk_simp [idx0 t]
      exact congrArg (t.val * 1024 + ·) h1.symm

end Cert.XaIdeal.Arr
end
-- ==== Proof.XaDq.lean ====
/- The gradient of the queries, whole arrays: what the second call leaves when it finds the output and the logarithms of
   the first call. -/
module

public import proofs.«01_k».proof.Proof.XaFwd
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.XaIdeal.Arr
open Cert.XaIdeal Cert.XaIdeal.Gen

/-- The sum of a row's output against its cotangent. -/
def dAt (q : FVec Ideal S2048x1024 .bf16) (kv : FVec Ideal S256x2048 .bf16) (dy : FVec Ideal S2048x1024 .bf16)
    (h : Fin 4) (r : Fin 2048) : EReal :=
  Xm.dlt (qrow dy h r) (Xm.ok (qrow q h r) (kmat kv h) (vmat kv h))
/-- The gradient of the scores. -/
def sAt (q : FVec Ideal S2048x1024 .bf16) (kv : FVec Ideal S256x2048 .bf16) (dy : FVec Ideal S2048x1024 .bf16)
    (h : Fin 4) (r : Fin 2048) (j : Fin 256) : EReal :=
  Xm.dsk (qrow q h r) (qrow dy h r) (kmat kv h) (vmat kv h) (lAt q kv h r) (dAt q kv dy h r) j
/-- The gradient of a query of one head. -/
def dqHead (q : FVec Ideal S2048x1024 .bf16) (kv : FVec Ideal S256x2048 .bf16) (dy : FVec Ideal S2048x1024 .bf16)
    (h : Fin 4) (r : Fin 2048) (d : Fin 256) : EReal :=
  ∑ j, sAt q kv dy h r j * kmat kv h j d
/-- The gradient of the queries at a row and a column. -/
def dqAt (q : FVec Ideal S2048x1024 .bf16) (kv : FVec Ideal S256x2048 .bf16) (dy : FVec Ideal S2048x1024 .bf16)
    (r : Fin 2048) (n : Fin 1024) : EReal :=
  dqHead q kv dy ⟨n.val / 256, by omega⟩ r ⟨n.val % 256, by omega⟩
/-- The gradient of the queries. -/
def dqArr (q : FVec Ideal S2048x1024 .bf16) (kv : FVec Ideal S256x2048 .bf16) (dy : FVec Ideal S2048x1024 .bf16) :
    FVec Ideal S2048x1024 .bf16 := fun i => dqAt q kv dy (i 0) (i 1)
/-- The rows' sums of the output against its cotangent. -/
def dArr (q : FVec Ideal S2048x1024 .bf16) (kv : FVec Ideal S256x2048 .bf16) (dy : FVec Ideal S2048x1024 .bf16) :
    FVec Ideal S4x2048x1 .f32 := fun i => dAt q kv dy (i 0) (i 1)

theorem dqAt_head (q : FVec Ideal S2048x1024 .bf16) (kv : FVec Ideal S256x2048 .bf16) (dy : FVec Ideal S2048x1024 .bf16)
    (r : Fin 2048) (h : Fin 4) (d : Fin 256) (n : Fin 1024) (hn : n.val = h.val * 256 + d.val) :
    dqAt q kv dy r n = dqHead q kv dy h r d := by
  have e1 : (⟨n.val / 256, by omega⟩ : Fin 4) = h := Fin.ext (by show n.val / 256 = _; omega)
  have e2 : (⟨n.val % 256, by omega⟩ : Fin 256) = d := Fin.ext (by show n.val % 256 = _; omega)
  rw [dqAt, e1, e2]

theorem qrow_oArr (q : FVec Ideal S2048x1024 .bf16) (kv : FVec Ideal S256x2048 .bf16) (h : Fin 4) (r : Fin 2048) :
    qrow (oArr q kv) h r = Xm.ok (qrow q h r) (kmat kv h) (vmat kv h) :=
  funext fun d => oAt_head q kv r h d _ rfl

variable (V : (c : Dev nD) → (b : Ref sig .tc) → Buf (Elt Ideal) ((c : Thread nD τ).loc b)) (c : Dev nD)

theorem idx1 : ∀ t : Fin cfg1.N, win1_0.index t = ![t.val, 0] ∧ win1_1.index t = ![0, 0] ∧ win1_2.index t = ![0, 1]
    ∧ win1_3.index t = ![t.val, 0] ∧ win1_4.index t = ![t.val, 0] ∧ win1_5.index t = ![0, t.val, 0]
    ∧ win1_6.index t = ![t.val, 0] ∧ win1_7.index t = ![0, t.val, 0] :=
  (by decide +kernel : ∀ t : Fin grid1.N, _)

theorem q1_0 (t : Fin cfg1.N) (x : Fin 1024) (r : Fin 2048) (hr : r.val = t.val * 1024 + x.val) :
    Pay.row (View.ld (iblk1 V c 0 t) r1_0) x = qrow (V c main_arg0) 0 r := by
  funext e
  show iblk1 V c 0 t (r1_0.idx (ix2 x e)) = _
  unfold qrow
  blk_ext [iblk1, idx1 t]
  · show t.val * 1024 + (0 + 1 * x.val) = _
    omega
  · show 0 + 1 * e.val = 0 * 256 + e.val
    omega

theorem o1_0 (t : Fin cfg1.N) (x : Fin 1024) (r : Fin 2048) (hr : r.val = t.val * 1024 + x.val) :
    Pay.row (View.ld (iblk1 V c 3 t) r1_0) x = qrow (V c main_v0_0) 0 r := by
  funext e
  show iblk1 V c 3 t (r1_0.idx (ix2 x e)) = _
  unfold qrow
  blk_ext [iblk1, idx1 t]
  · show t.val * 1024 + (0 + 1 * x.val) = _
    omega
  · show 0 + 1 * e.val = 0 * 256 + e.val
    omega

theorem y1_0 (t : Fin cfg1.N) (x : Fin 1024) (r : Fin 2048) (hr : r.val = t.val * 1024 + x.val) :
    Pay.row (View.ld (iblk1 V c 4 t) r1_0) x = qrow (V c main_arg2) 0 r := by
  funext e
  show iblk1 V c 4 t (r1_0.idx (ix2 x e)) = _
  unfold qrow
  blk_ext [iblk1, idx1 t]
  · show t.val * 1024 + (0 + 1 * x.val) = _
    omega
  · show 0 + 1 * e.val = 0 * 256 + e.val
    omega

theorem k1_0 (t : Fin cfg1.N) : Pay.mat (View.ld (iblk1 V c 1 t) r1_8) = kmat (V c main_arg1) 0 := by
  funext j e
  show iblk1 V c 1 t (r1_8.idx (ix2 j e)) = _
  unfold kmat
  blk_ext [iblk1, idx1 t]
  · show k1_off1 0 + 1 * j.val = _
    rw [k1_off1_eq]
    show 0 + 1 * j.val = _
    omega
  · show k1_off1 1 + 1 * e.val = 0 * 256 + e.val
    rw [k1_off1_eq]
    show 0 + 1 * e.val = 0 * 256 + e.val
    omega

theorem v1_0 (t : Fin cfg1.N) : Pay.mat (View.ld (iblk1 V c 2 t) r1_8) = vmat (V c main_arg1) 0 := by
  funext j e
  show iblk1 V c 2 t (r1_8.idx (ix2 j e)) = _
  unfold vmat
  blk_ext [iblk1, idx1 t]
  · show k1_off1 0 + 1 * j.val = _
    rw [k1_off1_eq]
    show 0 + 1 * j.val = _
    omega
  · show 1024 + (k1_off1 1 + 1 * e.val) = 1024 + (0 * 256 + e.val)
    rw [k1_off1_eq]
    show 1024 + (0 + 1 * e.val) = 1024 + (0 * 256 + e.val)
    omega

theorem l1_0 (t : Fin cfg1.N) (x : Fin 1024) (r : Fin 2048) (hr : r.val = t.val * 1024 + x.val) :
    View.ld (iblk1 V c 5 t) r1_4 (ix3 0 x 0) = V c main_v0_1 (ix3 0 r 0) := by
  show iblk1 V c 5 t (r1_4.idx (ix3 0 x 0)) = _
  blk_ext [iblk1, idx1 t]
  · rfl
  · show t.val * 1024 + (0 + 1 * x.val) = _
    omega

theorem q1_1 (t : Fin cfg1.N) (x : Fin 1024) (r : Fin 2048) (hr : r.val = t.val * 1024 + x.val) :
    Pay.row (View.ld (iblk1 V c 0 t) r1_1) x = qrow (V c main_arg0) 1 r := by
  funext e
  show iblk1 V c 0 t (r1_1.idx (ix2 x e)) = _
  unfold qrow
  blk_ext [iblk1, idx1 t]
  · show t.val * 1024 + (0 + 1 * x.val) = _
    omega
  · show 256 + 1 * e.val = 1 * 256 + e.val
    omega

theorem o1_1 (t : Fin cfg1.N) (x : Fin 1024) (r : Fin 2048) (hr : r.val = t.val * 1024 + x.val) :
    Pay.row (View.ld (iblk1 V c 3 t) r1_1) x = qrow (V c main_v0_0) 1 r := by
  funext e
  show iblk1 V c 3 t (r1_1.idx (ix2 x e)) = _
  unfold qrow
  blk_ext [iblk1, idx1 t]
  · show t.val * 1024 + (0 + 1 * x.val) = _
    omega
  · show 256 + 1 * e.val = 1 * 256 + e.val
    omega

theorem y1_1 (t : Fin cfg1.N) (x : Fin 1024) (r : Fin 2048) (hr : r.val = t.val * 1024 + x.val) :
    Pay.row (View.ld (iblk1 V c 4 t) r1_1) x = qrow (V c main_arg2) 1 r := by
  funext e
  show iblk1 V c 4 t (r1_1.idx (ix2 x e)) = _
  unfold qrow
  blk_ext [iblk1, idx1 t]
  · show t.val * 1024 + (0 + 1 * x.val) = _
    omega
  · show 256 + 1 * e.val = 1 * 256 + e.val
    omega

theorem k1_1 (t : Fin cfg1.N) : Pay.mat (View.ld (iblk1 V c 1 t) r1_9) = kmat (V c main_arg1) 1 := by
  funext j e
  show iblk1 V c 1 t (r1_9.idx (ix2 j e)) = _
  unfold kmat
  blk_ext [iblk1, idx1 t]
  · show k1_off2 0 + 1 * j.val = _
    rw [k1_off2_eq]
    show 0 + 1 * j.val = _
    omega
  · show k1_off2 1 + 1 * e.val = 1 * 256 + e.val
    rw [k1_off2_eq]
    show 256 + 1 * e.val = 1 * 256 + e.val
    omega

theorem v1_1 (t : Fin cfg1.N) : Pay.mat (View.ld (iblk1 V c 2 t) r1_9) = vmat (V c main_arg1) 1 := by
  funext j e
  show iblk1 V c 2 t (r1_9.idx (ix2 j e)) = _
  unfold vmat
  blk_ext [iblk1, idx1 t]
  · show k1_off2 0 + 1 * j.val = _
    rw [k1_off2_eq]
    show 0 + 1 * j.val = _
    omega
  · show 1024 + (k1_off2 1 + 1 * e.val) = 1024 + (1 * 256 + e.val)
    rw [k1_off2_eq]
    show 1024 + (256 + 1 * e.val) = 1024 + (1 * 256 + e.val)
    omega

theorem l1_1 (t : Fin cfg1.N) (x : Fin 1024) (r : Fin 2048) (hr : r.val = t.val * 1024 + x.val) :
    View.ld (iblk1 V c 5 t) r1_5 (ix3 0 x 0) = V c main_v0_1 (ix3 1 r 0) := by
  show iblk1 V c 5 t (r1_5.idx (ix3 0 x 0)) = _
  blk_ext [iblk1, idx1 t]
  · rfl
  · show t.val * 1024 + (0 + 1 * x.val) = _
    omega

theorem q1_2 (t : Fin cfg1.N) (x : Fin 1024) (r : Fin 2048) (hr : r.val = t.val * 1024 + x.val) :
    Pay.row (View.ld (iblk1 V c 0 t) r1_2) x = qrow (V c main_arg0) 2 r := by
  funext e
  show iblk1 V c 0 t (r1_2.idx (ix2 x e)) = _
  unfold qrow
  blk_ext [iblk1, idx1 t]
  · show t.val * 1024 + (0 + 1 * x.val) = _
    omega
  · show 512 + 1 * e.val = 2 * 256 + e.val
    omega

theorem o1_2 (t : Fin cfg1.N) (x : Fin 1024) (r : Fin 2048) (hr : r.val = t.val * 1024 + x.val) :
    Pay.row (View.ld (iblk1 V c 3 t) r1_2) x = qrow (V c main_v0_0) 2 r := by
  funext e
  show iblk1 V c 3 t (r1_2.idx (ix2 x e)) = _
  unfold qrow
  blk_ext [iblk1, idx1 t]
  · show t.val * 1024 + (0 + 1 * x.val) = _
    omega
  · show 512 + 1 * e.val = 2 * 256 + e.val
    omega

theorem y1_2 (t : Fin cfg1.N) (x : Fin 1024) (r : Fin 2048) (hr : r.val = t.val * 1024 + x.val) :
    Pay.row (View.ld (iblk1 V c 4 t) r1_2) x = qrow (V c main_arg2) 2 r := by
  funext e
  show iblk1 V c 4 t (r1_2.idx (ix2 x e)) = _
  unfold qrow
  blk_ext [iblk1, idx1 t]
  · show t.val * 1024 + (0 + 1 * x.val) = _
    omega
  · show 512 + 1 * e.val = 2 * 256 + e.val
    omega

theorem k1_2 (t : Fin cfg1.N) : Pay.mat (View.ld (iblk1 V c 1 t) r1_10) = kmat (V c main_arg1) 2 := by
  funext j e
  show iblk1 V c 1 t (r1_10.idx (ix2 j e)) = _
  unfold kmat
  blk_ext [iblk1, idx1 t]
  · show k1_off3 0 + 1 * j.val = _
    rw [k1_off3_eq]
    show 0 + 1 * j.val = _
    omega
  · show k1_off3 1 + 1 * e.val = 2 * 256 + e.val
    rw [k1_off3_eq]
    show 512 + 1 * e.val = 2 * 256 + e.val
    omega

theorem v1_2 (t : Fin cfg1.N) : Pay.mat (View.ld (iblk1 V c 2 t) r1_10) = vmat (V c main_arg1) 2 := by
  funext j e
  show iblk1 V c 2 t (r1_10.idx (ix2 j e)) = _
  unfold vmat
  blk_ext [iblk1, idx1 t]
  · show k1_off3 0 + 1 * j.val = _
    rw [k1_off3_eq]
    show 0 + 1 * j.val = _
    omega
  · show 1024 + (k1_off3 1 + 1 * e.val) = 1024 + (2 * 256 + e.val)
    rw [k1_off3_eq]
    show 1024 + (512 + 1 * e.val) = 1024 + (2 * 256 + e.val)
    omega

theorem l1_2 (t : Fin cfg1.N) (x : Fin 1024) (r : Fin 2048) (hr : r.val = t.val * 1024 + x.val) :
    View.ld (iblk1 V c 5 t) r1_6 (ix3 0 x 0) = V c main_v0_1 (ix3 2 r 0) := by
  show iblk1 V c 5 t (r1_6.idx (ix3 0 x 0)) = _
  blk_ext [iblk1, idx1 t]
  · rfl
  · show t.val * 1024 + (0 + 1 * x.val) = _
    omega

theorem q1_3 (t : Fin cfg1.N) (x : Fin 1024) (r : Fin 2048) (hr : r.val = t.val * 1024 + x.val) :
    Pay.row (View.ld (iblk1 V c 0 t) r1_3) x = qrow (V c main_arg0) 3 r := by
  funext e
  show iblk1 V c 0 t (r1_3.idx (ix2 x e)) = _
  unfold qrow
  blk_ext [iblk1, idx1 t]
  · show t.val * 1024 + (0 + 1 * x.val) = _
    omega
  · show 768 + 1 * e.val = 3 * 256 + e.val
    omega

theorem o1_3 (t : Fin cfg1.N) (x : Fin 1024) (r : Fin 2048) (hr : r.val = t.val * 1024 + x.val) :
    Pay.row (View.ld (iblk1 V c 3 t) r1_3) x = qrow (V c main_v0_0) 3 r := by
  funext e
  show iblk1 V c 3 t (r1_3.idx (ix2 x e)) = _
  unfold qrow
  blk_ext [iblk1, idx1 t]
  · show t.val * 1024 + (0 + 1 * x.val) = _
    omega
  · show 768 + 1 * e.val = 3 * 256 + e.val
    omega

theorem y1_3 (t : Fin cfg1.N) (x : Fin 1024) (r : Fin 2048) (hr : r.val = t.val * 1024 + x.val) :
    Pay.row (View.ld (iblk1 V c 4 t) r1_3) x = qrow (V c main_arg2) 3 r := by
  funext e
  show iblk1 V c 4 t (r1_3.idx (ix2 x e)) = _
  unfold qrow
  blk_ext [iblk1, idx1 t]
  · show t.val * 1024 + (0 + 1 * x.val) = _
    omega
  · show 768 + 1 * e.val = 3 * 256 + e.val
    omega

theorem k1_3 (t : Fin cfg1.N) : Pay.mat (View.ld (iblk1 V c 1 t) r1_11) = kmat (V c main_arg1) 3 := by
  funext j e
  show iblk1 V c 1 t (r1_11.idx (ix2 j e)) = _
  unfold kmat
  blk_ext [iblk1, idx1 t]
  · show k1_off4 0 + 1 * j.val = _
    rw [k1_off4_eq]
    show 0 + 1 * j.val = _
    omega
  · show k1_off4 1 + 1 * e.val = 3 * 256 + e.val
    rw [k1_off4_eq]
    show 768 + 1 * e.val = 3 * 256 + e.val
    omega

theorem v1_3 (t : Fin cfg1.N) : Pay.mat (View.ld (iblk1 V c 2 t) r1_11) = vmat (V c main_arg1) 3 := by
  funext j e
  show iblk1 V c 2 t (r1_11.idx (ix2 j e)) = _
  unfold vmat
  blk_ext [iblk1, idx1 t]
  · show k1_off4 0 + 1 * j.val = _
    rw [k1_off4_eq]
    show 0 + 1 * j.val = _
    omega
  · show 1024 + (k1_off4 1 + 1 * e.val) = 1024 + (3 * 256 + e.val)
    rw [k1_off4_eq]
    show 1024 + (768 + 1 * e.val) = 1024 + (3 * 256 + e.val)
    omega

theorem l1_3 (t : Fin cfg1.N) (x : Fin 1024) (r : Fin 2048) (hr : r.val = t.val * 1024 + x.val) :
    View.ld (iblk1 V c 5 t) r1_7 (ix3 0 x 0) = V c main_v0_1 (ix3 3 r 0) := by
  show iblk1 V c 5 t (r1_7.idx (ix3 0 x 0)) = _
  blk_ext [iblk1, idx1 t]
  · rfl
  · show t.val * 1024 + (0 + 1 * x.val) = _
    omega

theorem final6 (hO : V c main_v0_0 = oArr (V c main_arg0) (V c main_arg1)) (hL : V c main_v0_1 = lArr (V c main_arg0) (V c main_arg1)) :
    (dat1 V c).arrAt 6 cfg1.N = dqArr (V c main_arg0) (V c main_arg1) (V c main_arg2) := by
  refine (dat1 V c).arrAt_eq_of_covers 6 _ (by decide +kernel) fun t _ y => ?_
  blk_simp
  rw [after1_6]
  unfold_out out1_6
  have hb : t.val < 2 := t.isLt
  canon_tiles x h
  all_goals idx_vars x
  case piece3 =>
    refine (Pay.dq0 _ _ _ _ _ _ _ _).trans ?_
    rw [q1_0 V c t x0 ⟨t.val * 1024 + x0.val, by omega⟩ rfl, o1_0 V c t x0 ⟨t.val * 1024 + x0.val, by omega⟩ rfl,
      y1_0 V c t x0 ⟨t.val * 1024 + x0.val, by omega⟩ rfl, l1_0 V c t x0 ⟨t.val * 1024 + x0.val, by omega⟩ rfl,
      k1_0 V c t, v1_0 V c t, hO, hL, qrow_oArr]
    refine (dqAt_head _ _ _ _ 0 x1 ⟨0 * 256 + x1.val, by omega⟩ rfl).symm.trans ?_
    show dqAt _ _ _ _ _ = dqAt _ _ _ _ _
    refine congrArg₂ (dqAt _ _ _) (Fin.ext ?_) (Fin.ext ?_)
    · blk_simp [idx1 t]
      exact congrArg (t.val * 1024 + ·) h0.symm
    · blk_simp [idx1 t]
      exact h1.symm
  case piece2 =>
    refine (Pay.dq1 _ _ _ _ _ _ _ _).trans ?_
    rw [q1_1 V c t x0 ⟨t.val * 1024 + x0.val, by omega⟩ rfl, o1_1 V c t x0 ⟨t.val * 1024 + x0.val, by omega⟩ rfl,
      y1_1 V c t x0 ⟨t.val * 1024 + x0.val, by omega⟩ rfl, l1_1 V c t x0 ⟨t.val * 1024 + x0.val, by omega⟩ rfl,
      k1_1 V c t, v1_1 V c t, hO, hL, qrow_oArr]
    refine (dqAt_head _ _ _ _ 1 x1 ⟨1 * 256 + x1.val, by omega⟩ rfl).symm.trans ?_
    show dqAt _ _ _ _ _ = dqAt _ _ _ _ _
    refine congrArg₂ (dqAt _ _ _) (Fin.ext ?_) (Fin.ext ?_)
    · blk_simp [idx1 t]
      exact congrArg (t.val * 1024 + ·) h0.symm
    · blk_simp [idx1 t]
      refine Eq.trans ?_ h1.symm
      show 1 * 256 + x1.val = _
      omega
  case piece1 =>
    refine (Pay.dq2 _ _ _ _ _ _ _ _).trans ?_
    rw [q1_2 V c t x0 ⟨t.val * 1024 + x0.val, by omega⟩ rfl, o1_2 V c t x0 ⟨t.val * 1024 + x0.val, by omega⟩ rfl,
      y1_2 V c t x0 ⟨t.val * 1024 + x0.val, by omega⟩ rfl, l1_2 V c t x0 ⟨t.val * 1024 + x0.val, by omega⟩ rfl,
      k1_2 V c t, v1_2 V c t, hO, hL, qrow_oArr]
    refine (dqAt_head _ _ _ _ 2 x1 ⟨2 * 256 + x1.val, by omega⟩ rfl).symm.trans ?_
    show dqAt _ _ _ _ _ = dqAt _ _ _ _ _
    refine congrArg₂ (dqAt _ _ _) (Fin.ext ?_) (Fin.ext ?_)
    · blk_simp [idx1 t]
      exact congrArg (t.val * 1024 + ·) h0.symm
    · blk_simp [idx1 t]
      refine Eq.trans ?_ h1.symm
      show 2 * 256 + x1.val = _
      omega
  case piece0 =>
    refine (Pay.dq3 _ _ _ _ _ _ _ _).trans ?_
    rw [q1_3 V c t x0 ⟨t.val * 1024 + x0.val, by omega⟩ rfl, o1_3 V c t x0 ⟨t.val * 1024 + x0.val, by omega⟩ rfl,
      y1_3 V c t x0 ⟨t.val * 1024 + x0.val, by omega⟩ rfl, l1_3 V c t x0 ⟨t.val * 1024 + x0.val, by omega⟩ rfl,
      k1_3 V c t, v1_3 V c t, hO, hL, qrow_oArr]
    refine (dqAt_head _ _ _ _ 3 x1 ⟨3 * 256 + x1.val, by omega⟩ rfl).symm.trans ?_
    show dqAt _ _ _ _ _ = dqAt _ _ _ _ _
    refine congrArg₂ (dqAt _ _ _) (Fin.ext ?_) (Fin.ext ?_)
    · blk_simp [idx1 t]
      exact congrArg (t.val * 1024 + ·) h0.symm
    · blk_simp [idx1 t]
      refine Eq.trans ?_ h1.symm
      show 3 * 256 + x1.val = _
      omega

theorem final7 (hO : V c main_v0_0 = oArr (V c main_arg0) (V c main_arg1)) :
    (dat1 V c).arrAt 7 cfg1.N = dArr (V c main_arg0) (V c main_arg1) (V c main_arg2) := by
  refine (dat1 V c).arrAt_eq_of_covers 7 _ (by decide +kernel) fun t _ y => ?_
  blk_simp
  rw [after1_7]
  unfold_out out1_7
  have hb : t.val < 2 := t.isLt
  canon_tiles x h
  all_goals idx_vars x
  case piece3 =>
    obtain rfl : x0 = 0 := Subsingleton.elim _ _
    obtain rfl : x2 = 0 := Subsingleton.elim _ _
    refine (Pay.delta0 _ _ _).trans ?_
    rw [o1_0 V c t x1 ⟨t.val * 1024 + x1.val, by omega⟩ rfl, y1_0 V c t x1 ⟨t.val * 1024 + x1.val, by omega⟩ rfl,
      hO, qrow_oArr]
    show dAt _ _ _ _ _ = dAt _ _ _ _ _
    refine congrArg₂ (dAt _ _ _) (Fin.ext ?_) (Fin.ext ?_)
    · blk_simp [idx1 t]
      exact h0.symm
    · blk_simp [idx1 t]
      exact congrArg (t.val * 1024 + ·) h1.symm
  case piece2 =>
    obtain rfl : x0 = 0 := Subsingleton.elim _ _
    obtain rfl : x2 = 0 := Subsingleton.elim _ _
    refine (Pay.delta1 _ _ _).trans ?_
    rw [o1_1 V c t x1 ⟨t.val * 1024 + x1.val, by omega⟩ rfl, y1_1 V c t x1 ⟨t.val * 1024 + x1.val, by omega⟩ rfl,
      hO, qrow_oArr]
    show dAt _ _ _ _ _ = dAt _ _ _ _ _
    refine congrArg₂ (dAt _ _ _) (Fin.ext ?_) (Fin.ext ?_)
    · blk_simp [idx1 t]
      exact h0.symm
    · blk_simp [idx1 t]
      exact congrArg (t.val * 1024 + ·) h1.symm
  case piece1 =>
    obtain rfl : x0 = 0 := Subsingleton.elim _ _
    obtain rfl : x2 = 0 := Subsingleton.elim _ _
    refine (Pay.delta2 _ _ _).trans ?_
    rw [o1_2 V c t x1 ⟨t.val * 1024 + x1.val, by omega⟩ rfl, y1_2 V c t x1 ⟨t.val * 1024 + x1.val, by omega⟩ rfl,
      hO, qrow_oArr]
    show dAt _ _ _ _ _ = dAt _ _ _ _ _
    refine congrArg₂ (dAt _ _ _) (Fin.ext ?_) (Fin.ext ?_)
    · blk_simp [idx1 t]
      exact h0.symm
    · blk_simp [idx1 t]
      exact congrArg (t.val * 1024 + ·) h1.symm
  case piece0 =>
    obtain rfl : x0 = 0 := Subsingleton.elim _ _
    obtain rfl : x2 = 0 := Subsingleton.elim _ _
    refine (Pay.delta3 _ _ _).trans ?_
    rw [o1_3 V c t x1 ⟨t.val * 1024 + x1.val, by omega⟩ rfl, y1_3 V c t x1 ⟨t.val * 1024 + x1.val, by omega⟩ rfl,
      hO, qrow_oArr]
    show dAt _ _ _ _ _ = dAt _ _ _ _ _
    refine congrArg₂ (dAt _ _ _) (Fin.ext ?_) (Fin.ext ?_)
    · blk_simp [idx1 t]
      exact h0.symm
    · blk_simp [idx1 t]
      exact congrArg (t.val * 1024 + ·) h1.symm

end Cert.XaIdeal.Arr
end
-- ==== Proof.XaTrip.lean ====
/- One trip of the third call and the sums after both: each head's gradients of keys and values are sums over all rows. -/
module

public import proofs.«01_k».proof.Proof.XaPayKv
public import proofs.«01_k».proof.Proof.XaDq
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.XaIdeal.Arr
open Cert.XaIdeal Cert.XaIdeal.Gen

/-- A row's part of the gradient of a value. -/
def vT (w : FVec Ideal S256x256 .bf16) (x0 x3 : FVec Ideal S2048x1024 .bf16) (x4 : FVec Ideal S4x1x2048 .f32)
    (h : Fin 4) (j d : Fin 256) (r : Fin 2048) : EReal :=
  Ideal.exp ((∑ e, w (ix2 j e) * qrow x0 h r e) * Xm.scale - x4 (ix3 h 0 r)) * qrow x3 h r d
/-- A row's part of the gradient of a key. -/
def kT (w u : FVec Ideal S256x256 .bf16) (x0 x3 : FVec Ideal S2048x1024 .bf16) (x4 x5 : FVec Ideal S4x1x2048 .f32)
    (h : Fin 4) (j d : Fin 256) (r : Fin 2048) : EReal :=
  Ideal.exp ((∑ e, w (ix2 j e) * qrow x0 h r e) * Xm.scale - x4 (ix3 h 0 r))
    * ((∑ e, u (ix2 j e) * qrow x3 h r e) - x5 (ix3 h 0 r)) * Xm.scale * qrow x0 h r d

/-- Row `r` of trip `k`'s block. -/
def blkRow (k : Fin k2_t1_loop.trips) (r : Fin 1024) : Fin 2048 :=
  ⟨1024 * k.val + r.val, by have h := Nat.lt_of_lt_of_le k.isLt k2_t1_abs.2.1; omega⟩

variable (c : Dev nD) (i : grid2.Coords) (arg2 : Memref sig .tc .vmem S2048x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S2048x1024 .bf16) (harg5 : arg5.IsWhole) (arg6 : Memref sig .tc .vmem S4x1x2048 .f32) (harg6 : arg6.IsWhole) (arg7 : Memref sig .tc .vmem S4x1x2048 .f32) (harg7 : arg7.IsWhole) (arg8 : Memref sig .tc .vmem S256x2048 .bf16) (harg8 : arg8.IsWhole)
  (w0 w1 w2 w3 w4 w5 w6 w7 : Vec Ideal S256x256 .bf16) (x0 x3 : Vec Ideal S2048x1024 .bf16) (x4 x5 : Vec Ideal S4x1x2048 .f32)

/-- What the loop carries. -/
abbrev Acc := FVec Ideal S256x256 .f32 × FVec Ideal S256x256 .f32 × FVec Ideal S256x256 .f32 × FVec Ideal S256x256 .f32 × FVec Ideal S256x256 .f32 × FVec Ideal S256x256 .f32 × FVec Ideal S256x256 .f32 × FVec Ideal S256x256 .f32

theorem ldr0 (k : Fin k2_t1_loop.trips) (x : FVec Ideal S2048x1024 .bf16) (r : Fin 1024) (e : Fin 256) :
    x ((Rect.unit (s := S2048x1024) (k2_off1 k) S1024x256.size (k2_off1_inb k)).idx (ix2 r e)) = qrow x 0 (blkRow k r) e := by
  unfold qrow
  refine congrArg x (funext fun a => Fin.ext ?_)
  fin_cases a
  · show k2_off1 k 0 + 1 * r.val = 1024 * k.val + r.val
    rw [k2_off1_eq]
    show 1024 * k.val + 1 * r.val = _
    omega
  · show k2_off1 k 1 + 1 * e.val = 0 * 256 + e.val
    rw [k2_off1_eq]
    show 0 + 1 * e.val = _
    omega

theorem ldl0 (k : Fin k2_t1_loop.trips) (x : FVec Ideal S4x1x2048 .f32) (r : Fin 1024) :
    x ((Rect.unit (s := S4x1x2048) (k2_off2 k) S1x1x1024.size (k2_off2_inb k)).idx (ix3 0 0 r)) = x (ix3 0 0 (blkRow k r)) := by
  refine congrArg x (funext fun a => Fin.ext ?_)
  fin_cases a
  · show k2_off2 k 0 + 1 * 0 = 0
    rw [k2_off2_eq]
    rfl
  · show k2_off2 k 1 + 1 * 0 = 0
    rw [k2_off2_eq]
    rfl
  · show k2_off2 k 2 + 1 * r.val = 1024 * k.val + r.val
    rw [k2_off2_eq]
    show 1024 * k.val + 1 * r.val = _
    omega

theorem ldr1 (k : Fin k2_t1_loop.trips) (x : FVec Ideal S2048x1024 .bf16) (r : Fin 1024) (e : Fin 256) :
    x ((Rect.unit (s := S2048x1024) (k2_off3 k) S1024x256.size (k2_off3_inb k)).idx (ix2 r e)) = qrow x 1 (blkRow k r) e := by
  unfold qrow
  refine congrArg x (funext fun a => Fin.ext ?_)
  fin_cases a
  · show k2_off3 k 0 + 1 * r.val = 1024 * k.val + r.val
    rw [k2_off3_eq]
    show 1024 * k.val + 1 * r.val = _
    omega
  · show k2_off3 k 1 + 1 * e.val = 1 * 256 + e.val
    rw [k2_off3_eq]
    show 256 + 1 * e.val = _
    omega

theorem ldl1 (k : Fin k2_t1_loop.trips) (x : FVec Ideal S4x1x2048 .f32) (r : Fin 1024) :
    x ((Rect.unit (s := S4x1x2048) (k2_off4 k) S1x1x1024.size (k2_off4_inb k)).idx (ix3 0 0 r)) = x (ix3 1 0 (blkRow k r)) := by
  refine congrArg x (funext fun a => Fin.ext ?_)
  fin_cases a
  · show k2_off4 k 0 + 1 * 0 = 1
    rw [k2_off4_eq]
    rfl
  · show k2_off4 k 1 + 1 * 0 = 0
    rw [k2_off4_eq]
    rfl
  · show k2_off4 k 2 + 1 * r.val = 1024 * k.val + r.val
    rw [k2_off4_eq]
    show 1024 * k.val + 1 * r.val = _
    omega

theorem ldr2 (k : Fin k2_t1_loop.trips) (x : FVec Ideal S2048x1024 .bf16) (r : Fin 1024) (e : Fin 256) :
    x ((Rect.unit (s := S2048x1024) (k2_off5 k) S1024x256.size (k2_off5_inb k)).idx (ix2 r e)) = qrow x 2 (blkRow k r) e := by
  unfold qrow
  refine congrArg x (funext fun a => Fin.ext ?_)
  fin_cases a
  · show k2_off5 k 0 + 1 * r.val = 1024 * k.val + r.val
    rw [k2_off5_eq]
    show 1024 * k.val + 1 * r.val = _
    omega
  · show k2_off5 k 1 + 1 * e.val = 2 * 256 + e.val
    rw [k2_off5_eq]
    show 512 + 1 * e.val = _
    omega

theorem ldl2 (k : Fin k2_t1_loop.trips) (x : FVec Ideal S4x1x2048 .f32) (r : Fin 1024) :
    x ((Rect.unit (s := S4x1x2048) (k2_off6 k) S1x1x1024.size (k2_off6_inb k)).idx (ix3 0 0 r)) = x (ix3 2 0 (blkRow k r)) := by
  refine congrArg x (funext fun a => Fin.ext ?_)
  fin_cases a
  · show k2_off6 k 0 + 1 * 0 = 2
    rw [k2_off6_eq]
    rfl
  · show k2_off6 k 1 + 1 * 0 = 0
    rw [k2_off6_eq]
    rfl
  · show k2_off6 k 2 + 1 * r.val = 1024 * k.val + r.val
    rw [k2_off6_eq]
    show 1024 * k.val + 1 * r.val = _
    omega

theorem ldr3 (k : Fin k2_t1_loop.trips) (x : FVec Ideal S2048x1024 .bf16) (r : Fin 1024) (e : Fin 256) :
    x ((Rect.unit (s := S2048x1024) (k2_off7 k) S1024x256.size (k2_off7_inb k)).idx (ix2 r e)) = qrow x 3 (blkRow k r) e := by
  unfold qrow
  refine congrArg x (funext fun a => Fin.ext ?_)
  fin_cases a
  · show k2_off7 k 0 + 1 * r.val = 1024 * k.val + r.val
    rw [k2_off7_eq]
    show 1024 * k.val + 1 * r.val = _
    omega
  · show k2_off7 k 1 + 1 * e.val = 3 * 256 + e.val
    rw [k2_off7_eq]
    show 768 + 1 * e.val = _
    omega

theorem ldl3 (k : Fin k2_t1_loop.trips) (x : FVec Ideal S4x1x2048 .f32) (r : Fin 1024) :
    x ((Rect.unit (s := S4x1x2048) (k2_off8 k) S1x1x1024.size (k2_off8_inb k)).idx (ix3 0 0 r)) = x (ix3 3 0 (blkRow k r)) := by
  refine congrArg x (funext fun a => Fin.ext ?_)
  fin_cases a
  · show k2_off8 k 0 + 1 * 0 = 3
    rw [k2_off8_eq]
    rfl
  · show k2_off8 k 1 + 1 * 0 = 0
    rw [k2_off8_eq]
    rfl
  · show k2_off8 k 2 + 1 * r.val = 1024 * k.val + r.val
    rw [k2_off8_eq]
    show 1024 * k.val + 1 * r.val = _
    omega

theorem tripk0 (k : Fin k2_t1_loop.trips) (acc : Acc) (j d : Fin 256) :
    (tripR_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5) k acc).1 (ix2 j d)
      = acc.1 (ix2 j d) + ∑ r : Fin 1024, kT w0 w4 x0 x3 x4 x5 0 j d (blkRow k r) := by
  unfold tripR_k2_t1 trip_k2_t1
  dsimp only
  sl_unfold_run_names
  simp only [View.readAt_eq_ld, Memref.IsWhole.read_unread]
  refine (Pay.dk0 _ _ _ _ _ _ _ _ _).trans ?_
  refine congrArg (acc.1 (ix2 j d) + ·) (Finset.sum_congr rfl fun r _ => ?_)
  exact congrArg₂ (· * ·) (congrArg (· * Xm.scale) (congrArg₂ (· * ·) (congrArg Ideal.exp (congrArg₂ (· - ·)
      (congrArg (· * Xm.scale) (Finset.sum_congr rfl fun e _ => congrArg (w0 (ix2 j e) * ·) (ldr0 k x0 r e))) (ldl0 k x4 r)))
      (congrArg₂ (· - ·) (Finset.sum_congr rfl fun e _ => congrArg (w4 (ix2 j e) * ·) (ldr0 k x3 r e)) (ldl0 k x5 r)))) (ldr0 k x0 r d)

theorem tripv0 (k : Fin k2_t1_loop.trips) (acc : Acc) (j d : Fin 256) :
    (tripR_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5) k acc).2.1 (ix2 j d)
      = acc.2.1 (ix2 j d) + ∑ r : Fin 1024, vT w0 x0 x3 x4 0 j d (blkRow k r) := by
  unfold tripR_k2_t1 trip_k2_t1
  dsimp only
  sl_unfold_run_names
  simp only [View.readAt_eq_ld, Memref.IsWhole.read_unread]
  refine (Pay.dv0 _ _ _ _ _ _ _).trans ?_
  refine congrArg (acc.2.1 (ix2 j d) + ·) (Finset.sum_congr rfl fun r _ => ?_)
  exact congrArg₂ (· * ·) (congrArg Ideal.exp (congrArg₂ (· - ·)
      (congrArg (· * Xm.scale) (Finset.sum_congr rfl fun e _ => congrArg (w0 (ix2 j e) * ·) (ldr0 k x0 r e))) (ldl0 k x4 r))) (ldr0 k x3 r d)

theorem tripk1 (k : Fin k2_t1_loop.trips) (acc : Acc) (j d : Fin 256) :
    (tripR_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5) k acc).2.2.1 (ix2 j d)
      = acc.2.2.1 (ix2 j d) + ∑ r : Fin 1024, kT w1 w5 x0 x3 x4 x5 1 j d (blkRow k r) := by
  unfold tripR_k2_t1 trip_k2_t1
  dsimp only
  sl_unfold_run_names
  simp only [View.readAt_eq_ld, Memref.IsWhole.read_unread]
  refine (Pay.dk1 _ _ _ _ _ _ _ _ _).trans ?_
  refine congrArg (acc.2.2.1 (ix2 j d) + ·) (Finset.sum_congr rfl fun r _ => ?_)
  exact congrArg₂ (· * ·) (congrArg (· * Xm.scale) (congrArg₂ (· * ·) (congrArg Ideal.exp (congrArg₂ (· - ·)
      (congrArg (· * Xm.scale) (Finset.sum_congr rfl fun e _ => congrArg (w1 (ix2 j e) * ·) (ldr1 k x0 r e))) (ldl1 k x4 r)))
      (congrArg₂ (· - ·) (Finset.sum_congr rfl fun e _ => congrArg (w5 (ix2 j e) * ·) (ldr1 k x3 r e)) (ldl1 k x5 r)))) (ldr1 k x0 r d)

theorem tripv1 (k : Fin k2_t1_loop.trips) (acc : Acc) (j d : Fin 256) :
    (tripR_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5) k acc).2.2.2.1 (ix2 j d)
      = acc.2.2.2.1 (ix2 j d) + ∑ r : Fin 1024, vT w1 x0 x3 x4 1 j d (blkRow k r) := by
  unfold tripR_k2_t1 trip_k2_t1
  dsimp only
  sl_unfold_run_names
  simp only [View.readAt_eq_ld, Memref.IsWhole.read_unread]
  refine (Pay.dv1 _ _ _ _ _ _ _).trans ?_
  refine congrArg (acc.2.2.2.1 (ix2 j d) + ·) (Finset.sum_congr rfl fun r _ => ?_)
  exact congrArg₂ (· * ·) (congrArg Ideal.exp (congrArg₂ (· - ·)
      (congrArg (· * Xm.scale) (Finset.sum_congr rfl fun e _ => congrArg (w1 (ix2 j e) * ·) (ldr1 k x0 r e))) (ldl1 k x4 r))) (ldr1 k x3 r d)

theorem tripk2 (k : Fin k2_t1_loop.trips) (acc : Acc) (j d : Fin 256) :
    (tripR_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5) k acc).2.2.2.2.1 (ix2 j d)
      = acc.2.2.2.2.1 (ix2 j d) + ∑ r : Fin 1024, kT w2 w6 x0 x3 x4 x5 2 j d (blkRow k r) := by
  unfold tripR_k2_t1 trip_k2_t1
  dsimp only
  sl_unfold_run_names
  simp only [View.readAt_eq_ld, Memref.IsWhole.read_unread]
  refine (Pay.dk2 _ _ _ _ _ _ _ _ _).trans ?_
  refine congrArg (acc.2.2.2.2.1 (ix2 j d) + ·) (Finset.sum_congr rfl fun r _ => ?_)
  exact congrArg₂ (· * ·) (congrArg (· * Xm.scale) (congrArg₂ (· * ·) (congrArg Ideal.exp (congrArg₂ (· - ·)
      (congrArg (· * Xm.scale) (Finset.sum_congr rfl fun e _ => congrArg (w2 (ix2 j e) * ·) (ldr2 k x0 r e))) (ldl2 k x4 r)))
      (congrArg₂ (· - ·) (Finset.sum_congr rfl fun e _ => congrArg (w6 (ix2 j e) * ·) (ldr2 k x3 r e)) (ldl2 k x5 r)))) (ldr2 k x0 r d)

theorem tripv2 (k : Fin k2_t1_loop.trips) (acc : Acc) (j d : Fin 256) :
    (tripR_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5) k acc).2.2.2.2.2.1 (ix2 j d)
      = acc.2.2.2.2.2.1 (ix2 j d) + ∑ r : Fin 1024, vT w2 x0 x3 x4 2 j d (blkRow k r) := by
  unfold tripR_k2_t1 trip_k2_t1
  dsimp only
  sl_unfold_run_names
  simp only [View.readAt_eq_ld, Memref.IsWhole.read_unread]
  refine (Pay.dv2 _ _ _ _ _ _ _).trans ?_
  refine congrArg (acc.2.2.2.2.2.1 (ix2 j d) + ·) (Finset.sum_congr rfl fun r _ => ?_)
  exact congrArg₂ (· * ·) (congrArg Ideal.exp (congrArg₂ (· - ·)
      (congrArg (· * Xm.scale) (Finset.sum_congr rfl fun e _ => congrArg (w2 (ix2 j e) * ·) (ldr2 k x0 r e))) (ldl2 k x4 r))) (ldr2 k x3 r d)

theorem tripk3 (k : Fin k2_t1_loop.trips) (acc : Acc) (j d : Fin 256) :
    (tripR_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5) k acc).2.2.2.2.2.2.1 (ix2 j d)
      = acc.2.2.2.2.2.2.1 (ix2 j d) + ∑ r : Fin 1024, kT w3 w7 x0 x3 x4 x5 3 j d (blkRow k r) := by
  unfold tripR_k2_t1 trip_k2_t1
  dsimp only
  sl_unfold_run_names
  simp only [View.readAt_eq_ld, Memref.IsWhole.read_unread]
  refine (Pay.dk3 _ _ _ _ _ _ _ _ _).trans ?_
  refine congrArg (acc.2.2.2.2.2.2.1 (ix2 j d) + ·) (Finset.sum_congr rfl fun r _ => ?_)
  exact congrArg₂ (· * ·) (congrArg (· * Xm.scale) (congrArg₂ (· * ·) (congrArg Ideal.exp (congrArg₂ (· - ·)
      (congrArg (· * Xm.scale) (Finset.sum_congr rfl fun e _ => congrArg (w3 (ix2 j e) * ·) (ldr3 k x0 r e))) (ldl3 k x4 r)))
      (congrArg₂ (· - ·) (Finset.sum_congr rfl fun e _ => congrArg (w7 (ix2 j e) * ·) (ldr3 k x3 r e)) (ldl3 k x5 r)))) (ldr3 k x0 r d)

theorem tripv3 (k : Fin k2_t1_loop.trips) (acc : Acc) (j d : Fin 256) :
    (tripR_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5) k acc).2.2.2.2.2.2.2 (ix2 j d)
      = acc.2.2.2.2.2.2.2 (ix2 j d) + ∑ r : Fin 1024, vT w3 x0 x3 x4 3 j d (blkRow k r) := by
  unfold tripR_k2_t1 trip_k2_t1
  dsimp only
  sl_unfold_run_names
  simp only [View.readAt_eq_ld, Memref.IsWhole.read_unread]
  refine (Pay.dv3 _ _ _ _ _ _ _).trans ?_
  refine congrArg (acc.2.2.2.2.2.2.2 (ix2 j d) + ·) (Finset.sum_congr rfl fun r _ => ?_)
  exact congrArg₂ (· * ·) (congrArg Ideal.exp (congrArg₂ (· - ·)
      (congrArg (· * Xm.scale) (Finset.sum_congr rfl fun e _ => congrArg (w3 (ix2 j e) * ·) (ldr3 k x0 r e))) (ldl3 k x4 r))) (ldr3 k x3 r d)

theorem sum_two (f : Fin 2048 → EReal) (k0 k1 : Fin k2_t1_loop.trips) (h0 : k0.val = 0) (h1 : k1.val = 1) :
    (0 : EReal) + ∑ r : Fin 1024, f (blkRow k0 r) + ∑ r : Fin 1024, f (blkRow k1 r) = ∑ r, f r := by
  rw [zero_add]
  refine Eq.trans ?_ (Fin.sum_univ_add (a := 1024) (b := 1024) f).symm
  refine congrArg₂ (· + ·) (Finset.sum_congr rfl fun r _ => congrArg f (Fin.ext ?_))
    (Finset.sum_congr rfl fun r _ => congrArg f (Fin.ext ?_))
  · show 1024 * k0.val + r.val = r.val
    omega
  · show 1024 * k1.val + r.val = 1024 + r.val
    omega

theorem trips_two : k2_t1_loop.trips = 2 := by decide +kernel

theorem stk0 (j d : Fin 256) :
    (st_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5)
      (k2_pay17, k2_pay18, k2_pay19, k2_pay20, k2_pay21, k2_pay22, k2_pay23, k2_pay24)
      (Scf.trips (0#32) (Scalar.addi 0#32 2#32) 1#32)).1 (ix2 j d)
      = ∑ r, kT w0 w4 x0 x3 x4 x5 0 j d r := by
  have hT : Scf.trips (0#32) (Scalar.addi 0#32 2#32) 1#32 = 2 := by decide +kernel
  rw [hT]
  have t1 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨1, by rw [trips_two]; decide⟩ : Fin k2_t1_loop.trips)
  have t0 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨0, by rw [trips_two]; decide⟩ : Fin k2_t1_loop.trips)
  refine (congrArg (fun a : Acc => a.1 (ix2 j d)) t1).trans ?_
  refine (tripk0 c i arg2 harg2 arg3 harg3 arg4 harg4 arg5 harg5 arg6 harg6 arg7 harg7 arg8 harg8 w0 w1 w2 w3 w4 w5 w6 w7 x0 x3 x4 x5 _ _ j d).trans ?_
  refine Eq.trans (congrArg (· + _) ?_) (sum_two (kT w0 w4 x0 x3 x4 x5 0 j d) ⟨0, by rw [trips_two]; decide⟩ ⟨1, by rw [trips_two]; decide⟩ rfl rfl)
  refine (congrArg (fun a : Acc => a.1 (ix2 j d)) t0).trans ?_
  refine (tripk0 c i arg2 harg2 arg3 harg3 arg4 harg4 arg5 harg5 arg6 harg6 arg7 harg7 arg8 harg8 w0 w1 w2 w3 w4 w5 w6 w7 x0 x3 x4 x5 _ _ j d).trans ?_
  refine congrArg (· + _) ?_
  show k2_pay17 (F := Ideal) (ix2 j d) = 0
  pointwise [k2_pay17]

theorem stv0 (j d : Fin 256) :
    (st_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5)
      (k2_pay17, k2_pay18, k2_pay19, k2_pay20, k2_pay21, k2_pay22, k2_pay23, k2_pay24)
      (Scf.trips (0#32) (Scalar.addi 0#32 2#32) 1#32)).2.1 (ix2 j d)
      = ∑ r, vT w0 x0 x3 x4 0 j d r := by
  have hT : Scf.trips (0#32) (Scalar.addi 0#32 2#32) 1#32 = 2 := by decide +kernel
  rw [hT]
  have t1 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨1, by rw [trips_two]; decide⟩ : Fin k2_t1_loop.trips)
  have t0 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨0, by rw [trips_two]; decide⟩ : Fin k2_t1_loop.trips)
  refine (congrArg (fun a : Acc => a.2.1 (ix2 j d)) t1).trans ?_
  refine (tripv0 c i arg2 harg2 arg3 harg3 arg4 harg4 arg5 harg5 arg6 harg6 arg7 harg7 arg8 harg8 w0 w1 w2 w3 w4 w5 w6 w7 x0 x3 x4 x5 _ _ j d).trans ?_
  refine Eq.trans (congrArg (· + _) ?_) (sum_two (vT w0 x0 x3 x4 0 j d) ⟨0, by rw [trips_two]; decide⟩ ⟨1, by rw [trips_two]; decide⟩ rfl rfl)
  refine (congrArg (fun a : Acc => a.2.1 (ix2 j d)) t0).trans ?_
  refine (tripv0 c i arg2 harg2 arg3 harg3 arg4 harg4 arg5 harg5 arg6 harg6 arg7 harg7 arg8 harg8 w0 w1 w2 w3 w4 w5 w6 w7 x0 x3 x4 x5 _ _ j d).trans ?_
  refine congrArg (· + _) ?_
  show k2_pay18 (F := Ideal) (ix2 j d) = 0
  pointwise [k2_pay18]

theorem stk1 (j d : Fin 256) :
    (st_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5)
      (k2_pay17, k2_pay18, k2_pay19, k2_pay20, k2_pay21, k2_pay22, k2_pay23, k2_pay24)
      (Scf.trips (0#32) (Scalar.addi 0#32 2#32) 1#32)).2.2.1 (ix2 j d)
      = ∑ r, kT w1 w5 x0 x3 x4 x5 1 j d r := by
  have hT : Scf.trips (0#32) (Scalar.addi 0#32 2#32) 1#32 = 2 := by decide +kernel
  rw [hT]
  have t1 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨1, by rw [trips_two]; decide⟩ : Fin k2_t1_loop.trips)
  have t0 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨0, by rw [trips_two]; decide⟩ : Fin k2_t1_loop.trips)
  refine (congrArg (fun a : Acc => a.2.2.1 (ix2 j d)) t1).trans ?_
  refine (tripk1 c i arg2 harg2 arg3 harg3 arg4 harg4 arg5 harg5 arg6 harg6 arg7 harg7 arg8 harg8 w0 w1 w2 w3 w4 w5 w6 w7 x0 x3 x4 x5 _ _ j d).trans ?_
  refine Eq.trans (congrArg (· + _) ?_) (sum_two (kT w1 w5 x0 x3 x4 x5 1 j d) ⟨0, by rw [trips_two]; decide⟩ ⟨1, by rw [trips_two]; decide⟩ rfl rfl)
  refine (congrArg (fun a : Acc => a.2.2.1 (ix2 j d)) t0).trans ?_
  refine (tripk1 c i arg2 harg2 arg3 harg3 arg4 harg4 arg5 harg5 arg6 harg6 arg7 harg7 arg8 harg8 w0 w1 w2 w3 w4 w5 w6 w7 x0 x3 x4 x5 _ _ j d).trans ?_
  refine congrArg (· + _) ?_
  show k2_pay19 (F := Ideal) (ix2 j d) = 0
  pointwise [k2_pay19]

theorem stv1 (j d : Fin 256) :
    (st_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5)
      (k2_pay17, k2_pay18, k2_pay19, k2_pay20, k2_pay21, k2_pay22, k2_pay23, k2_pay24)
      (Scf.trips (0#32) (Scalar.addi 0#32 2#32) 1#32)).2.2.2.1 (ix2 j d)
      = ∑ r, vT w1 x0 x3 x4 1 j d r := by
  have hT : Scf.trips (0#32) (Scalar.addi 0#32 2#32) 1#32 = 2 := by decide +kernel
  rw [hT]
  have t1 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨1, by rw [trips_two]; decide⟩ : Fin k2_t1_loop.trips)
  have t0 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨0, by rw [trips_two]; decide⟩ : Fin k2_t1_loop.trips)
  refine (congrArg (fun a : Acc => a.2.2.2.1 (ix2 j d)) t1).trans ?_
  refine (tripv1 c i arg2 harg2 arg3 harg3 arg4 harg4 arg5 harg5 arg6 harg6 arg7 harg7 arg8 harg8 w0 w1 w2 w3 w4 w5 w6 w7 x0 x3 x4 x5 _ _ j d).trans ?_
  refine Eq.trans (congrArg (· + _) ?_) (sum_two (vT w1 x0 x3 x4 1 j d) ⟨0, by rw [trips_two]; decide⟩ ⟨1, by rw [trips_two]; decide⟩ rfl rfl)
  refine (congrArg (fun a : Acc => a.2.2.2.1 (ix2 j d)) t0).trans ?_
  refine (tripv1 c i arg2 harg2 arg3 harg3 arg4 harg4 arg5 harg5 arg6 harg6 arg7 harg7 arg8 harg8 w0 w1 w2 w3 w4 w5 w6 w7 x0 x3 x4 x5 _ _ j d).trans ?_
  refine congrArg (· + _) ?_
  show k2_pay20 (F := Ideal) (ix2 j d) = 0
  pointwise [k2_pay20]

theorem stk2 (j d : Fin 256) :
    (st_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5)
      (k2_pay17, k2_pay18, k2_pay19, k2_pay20, k2_pay21, k2_pay22, k2_pay23, k2_pay24)
      (Scf.trips (0#32) (Scalar.addi 0#32 2#32) 1#32)).2.2.2.2.1 (ix2 j d)
      = ∑ r, kT w2 w6 x0 x3 x4 x5 2 j d r := by
  have hT : Scf.trips (0#32) (Scalar.addi 0#32 2#32) 1#32 = 2 := by decide +kernel
  rw [hT]
  have t1 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨1, by rw [trips_two]; decide⟩ : Fin k2_t1_loop.trips)
  have t0 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨0, by rw [trips_two]; decide⟩ : Fin k2_t1_loop.trips)
  refine (congrArg (fun a : Acc => a.2.2.2.2.1 (ix2 j d)) t1).trans ?_
  refine (tripk2 c i arg2 harg2 arg3 harg3 arg4 harg4 arg5 harg5 arg6 harg6 arg7 harg7 arg8 harg8 w0 w1 w2 w3 w4 w5 w6 w7 x0 x3 x4 x5 _ _ j d).trans ?_
  refine Eq.trans (congrArg (· + _) ?_) (sum_two (kT w2 w6 x0 x3 x4 x5 2 j d) ⟨0, by rw [trips_two]; decide⟩ ⟨1, by rw [trips_two]; decide⟩ rfl rfl)
  refine (congrArg (fun a : Acc => a.2.2.2.2.1 (ix2 j d)) t0).trans ?_
  refine (tripk2 c i arg2 harg2 arg3 harg3 arg4 harg4 arg5 harg5 arg6 harg6 arg7 harg7 arg8 harg8 w0 w1 w2 w3 w4 w5 w6 w7 x0 x3 x4 x5 _ _ j d).trans ?_
  refine congrArg (· + _) ?_
  show k2_pay21 (F := Ideal) (ix2 j d) = 0
  pointwise [k2_pay21]

theorem stv2 (j d : Fin 256) :
    (st_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5)
      (k2_pay17, k2_pay18, k2_pay19, k2_pay20, k2_pay21, k2_pay22, k2_pay23, k2_pay24)
      (Scf.trips (0#32) (Scalar.addi 0#32 2#32) 1#32)).2.2.2.2.2.1 (ix2 j d)
      = ∑ r, vT w2 x0 x3 x4 2 j d r := by
  have hT : Scf.trips (0#32) (Scalar.addi 0#32 2#32) 1#32 = 2 := by decide +kernel
  rw [hT]
  have t1 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨1, by rw [trips_two]; decide⟩ : Fin k2_t1_loop.trips)
  have t0 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨0, by rw [trips_two]; decide⟩ : Fin k2_t1_loop.trips)
  refine (congrArg (fun a : Acc => a.2.2.2.2.2.1 (ix2 j d)) t1).trans ?_
  refine (tripv2 c i arg2 harg2 arg3 harg3 arg4 harg4 arg5 harg5 arg6 harg6 arg7 harg7 arg8 harg8 w0 w1 w2 w3 w4 w5 w6 w7 x0 x3 x4 x5 _ _ j d).trans ?_
  refine Eq.trans (congrArg (· + _) ?_) (sum_two (vT w2 x0 x3 x4 2 j d) ⟨0, by rw [trips_two]; decide⟩ ⟨1, by rw [trips_two]; decide⟩ rfl rfl)
  refine (congrArg (fun a : Acc => a.2.2.2.2.2.1 (ix2 j d)) t0).trans ?_
  refine (tripv2 c i arg2 harg2 arg3 harg3 arg4 harg4 arg5 harg5 arg6 harg6 arg7 harg7 arg8 harg8 w0 w1 w2 w3 w4 w5 w6 w7 x0 x3 x4 x5 _ _ j d).trans ?_
  refine congrArg (· + _) ?_
  show k2_pay22 (F := Ideal) (ix2 j d) = 0
  pointwise [k2_pay22]

theorem stk3 (j d : Fin 256) :
    (st_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5)
      (k2_pay17, k2_pay18, k2_pay19, k2_pay20, k2_pay21, k2_pay22, k2_pay23, k2_pay24)
      (Scf.trips (0#32) (Scalar.addi 0#32 2#32) 1#32)).2.2.2.2.2.2.1 (ix2 j d)
      = ∑ r, kT w3 w7 x0 x3 x4 x5 3 j d r := by
  have hT : Scf.trips (0#32) (Scalar.addi 0#32 2#32) 1#32 = 2 := by decide +kernel
  rw [hT]
  have t1 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨1, by rw [trips_two]; decide⟩ : Fin k2_t1_loop.trips)
  have t0 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨0, by rw [trips_two]; decide⟩ : Fin k2_t1_loop.trips)
  refine (congrArg (fun a : Acc => a.2.2.2.2.2.2.1 (ix2 j d)) t1).trans ?_
  refine (tripk3 c i arg2 harg2 arg3 harg3 arg4 harg4 arg5 harg5 arg6 harg6 arg7 harg7 arg8 harg8 w0 w1 w2 w3 w4 w5 w6 w7 x0 x3 x4 x5 _ _ j d).trans ?_
  refine Eq.trans (congrArg (· + _) ?_) (sum_two (kT w3 w7 x0 x3 x4 x5 3 j d) ⟨0, by rw [trips_two]; decide⟩ ⟨1, by rw [trips_two]; decide⟩ rfl rfl)
  refine (congrArg (fun a : Acc => a.2.2.2.2.2.2.1 (ix2 j d)) t0).trans ?_
  refine (tripk3 c i arg2 harg2 arg3 harg3 arg4 harg4 arg5 harg5 arg6 harg6 arg7 harg7 arg8 harg8 w0 w1 w2 w3 w4 w5 w6 w7 x0 x3 x4 x5 _ _ j d).trans ?_
  refine congrArg (· + _) ?_
  show k2_pay23 (F := Ideal) (ix2 j d) = 0
  pointwise [k2_pay23]

theorem stv3 (j d : Fin 256) :
    (st_k2_t1 (F := Ideal) Variants.none c none i arg2 harg2 arg3 harg3 arg4 harg4 arg5 harg5 arg6 harg6 arg7 harg7 arg8 harg8
      w0 w1 w2 w3 w4 w5 w6 w7 (harg2.unread x0) (harg5.unread x3) (harg6.unread x4) (harg7.unread x5)
      (k2_pay17, k2_pay18, k2_pay19, k2_pay20, k2_pay21, k2_pay22, k2_pay23, k2_pay24)
      (Scf.trips (0#32) (Scalar.addi 0#32 2#32) 1#32)).2.2.2.2.2.2.2 (ix2 j d)
      = ∑ r, vT w3 x0 x3 x4 3 j d r := by
  have hT : Scf.trips (0#32) (Scalar.addi 0#32 2#32) 1#32 = 2 := by decide +kernel
  rw [hT]
  have t1 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨1, by rw [trips_two]; decide⟩ : Fin k2_t1_loop.trips)
  have t0 := st_k2_t1_succ (F := Ideal) Variants.none c none i arg2 harg2 arg3 harg3 arg4 harg4 arg5 harg5 arg6 harg6 arg7 harg7 arg8 harg8
    w0 w1 w2 w3 w4 w5 w6 w7 (harg2.unread x0) (harg5.unread x3) (harg6.unread x4) (harg7.unread x5)
    (k2_pay17, k2_pay18, k2_pay19, k2_pay20, k2_pay21, k2_pay22, k2_pay23, k2_pay24) (⟨0, by rw [trips_two]; decide⟩ : Fin k2_t1_loop.trips)
  refine (congrArg (fun a : Acc => a.2.2.2.2.2.2.2 (ix2 j d)) t1).trans ?_
  refine (tripv3 c i arg2 harg2 arg3 harg3 arg4 harg4 arg5 harg5 arg6 harg6 arg7 harg7 arg8 harg8 w0 w1 w2 w3 w4 w5 w6 w7 x0 x3 x4 x5 _ _ j d).trans ?_
  refine Eq.trans (congrArg (· + _) ?_) (sum_two (vT w3 x0 x3 x4 3 j d) ⟨0, by rw [trips_two]; decide⟩ ⟨1, by rw [trips_two]; decide⟩ rfl rfl)
  refine (congrArg (fun a : Acc => a.2.2.2.2.2.2.2 (ix2 j d)) t0).trans ?_
  refine (tripv3 c i arg2 harg2 arg3 harg3 arg4 harg4 arg5 harg5 arg6 harg6 arg7 harg7 arg8 harg8 w0 w1 w2 w3 w4 w5 w6 w7 x0 x3 x4 x5 _ _ j d).trans ?_
  refine congrArg (· + _) ?_
  show k2_pay24 (F := Ideal) (ix2 j d) = 0
  pointwise [k2_pay24]

end Cert.XaIdeal.Arr
end
-- ==== Proof.XaDkv.lean ====
/- The gradients of keys and values, whole array: what the third call leaves when it finds the logarithms and the sums of
   the first two calls, laid out anew. -/
module

public import proofs.«01_k».proof.Proof.XaTrip
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.XaIdeal.Arr
open Cert.XaIdeal Cert.XaIdeal.Gen

/-- Head `h` of the gradient of the keys. -/
def dkHead (q : FVec Ideal S2048x1024 .bf16) (kv : FVec Ideal S256x2048 .bf16) (dy : FVec Ideal S2048x1024 .bf16)
    (h : Fin 4) (j d : Fin 256) : EReal :=
  ∑ r, sAt q kv dy h r j * qrow q h r d
/-- Head `h` of the gradient of the values. -/
def dvHead (q : FVec Ideal S2048x1024 .bf16) (kv : FVec Ideal S256x2048 .bf16) (dy : FVec Ideal S2048x1024 .bf16)
    (h : Fin 4) (j d : Fin 256) : EReal :=
  ∑ r, Ideal.exp (Xm.sc (qrow q h r) (kmat kv h) j - lAt q kv h r) * qrow dy h r d
/-- The keys' heads stand in the first half of the columns, the values' in the second. -/
def dkvAt (q : FVec Ideal S2048x1024 .bf16) (kv : FVec Ideal S256x2048 .bf16) (dy : FVec Ideal S2048x1024 .bf16)
    (j : Fin 256) (n : Fin 2048) : EReal :=
  if n.val < 1024 then dkHead q kv dy ⟨n.val / 256 % 4, Nat.mod_lt _ (by decide)⟩ j ⟨n.val % 256, Nat.mod_lt _ (by decide)⟩
  else dvHead q kv dy ⟨n.val / 256 % 4, Nat.mod_lt _ (by decide)⟩ j ⟨n.val % 256, Nat.mod_lt _ (by decide)⟩
def dkvArr (q : FVec Ideal S2048x1024 .bf16) (kv : FVec Ideal S256x2048 .bf16) (dy : FVec Ideal S2048x1024 .bf16) :
    FVec Ideal S256x2048 .bf16 := fun i => dkvAt q kv dy (i 0) (i 1)

theorem dkvAt_k (q kv dy) (h : Fin 4) (j d : Fin 256) (n : Fin 2048) (hn : n.val = h.val * 256 + d.val) :
    dkvAt q kv dy j n = dkHead q kv dy h j d := by
  unfold dkvAt
  rw [if_pos (by omega)]
  refine congrArg₂ (fun a b => dkHead q kv dy a j b) (Fin.ext ?_) (Fin.ext ?_)
  · show n.val / 256 % 4 = h.val
    omega
  · show n.val % 256 = d.val
    omega

theorem dkvAt_v (q kv dy) (h : Fin 4) (j d : Fin 256) (n : Fin 2048) (hn : n.val = 1024 + (h.val * 256 + d.val)) :
    dkvAt q kv dy j n = dvHead q kv dy h j d := by
  unfold dkvAt
  rw [if_neg (by omega)]
  refine congrArg₂ (fun a b => dvHead q kv dy a j b) (Fin.ext ?_) (Fin.ext ?_)
  · show n.val / 256 % 4 = h.val
    omega
  · show n.val % 256 = d.val
    omega

/-- The product of a key with a row is the row's with the key. -/
theorem dot_comm (a : Fin 256 → EReal) (K : Fin 256 → Fin 256 → EReal) (j : Fin 256) : ∑ e, K j e * a e = ∑ e, a e * K j e :=
  Finset.sum_congr rfl fun e _ => mul_comm _ _

theorem kT_sum (q : FVec Ideal S2048x1024 .bf16) (kv : FVec Ideal S256x2048 .bf16) (dy : FVec Ideal S2048x1024 .bf16)
    (w u : FVec Ideal S256x256 .bf16) (x0 x3 : FVec Ideal S2048x1024 .bf16) (x4 x5 : FVec Ideal S4x1x2048 .f32) (h : Fin 4)
    (hw : ∀ j e, w (ix2 j e) = kmat kv h j e) (hu : ∀ j e, u (ix2 j e) = vmat kv h j e) (hx0 : x0 = q) (hx3 : x3 = dy)
    (hx4 : ∀ r, x4 (ix3 h 0 r) = lAt q kv h r) (hx5 : ∀ r, x5 (ix3 h 0 r) = dAt q kv dy h r) (j d : Fin 256) :
    ∑ r, kT w u x0 x3 x4 x5 h j d r = dkHead q kv dy h j d := by
  subst hx0 hx3
  refine Finset.sum_congr rfl fun r _ => congrArg (· * _) ?_
  unfold sAt Xm.dsk Xm.sc
  rw [hx4, hx5, Finset.sum_congr rfl fun e _ => congrArg (· * _) (hw j e), Finset.sum_congr rfl fun e _ => congrArg (· * _) (hu j e),
    dot_comm, dot_comm]

theorem vT_sum (q : FVec Ideal S2048x1024 .bf16) (kv : FVec Ideal S256x2048 .bf16) (dy : FVec Ideal S2048x1024 .bf16)
    (w : FVec Ideal S256x256 .bf16) (x0 x3 : FVec Ideal S2048x1024 .bf16) (x4 : FVec Ideal S4x1x2048 .f32) (h : Fin 4)
    (hw : ∀ j e, w (ix2 j e) = kmat kv h j e) (hx0 : x0 = q) (hx3 : x3 = dy)
    (hx4 : ∀ r, x4 (ix3 h 0 r) = lAt q kv h r) (j d : Fin 256) :
    ∑ r, vT w x0 x3 x4 h j d r = dvHead q kv dy h j d := by
  subst hx0 hx3
  refine Finset.sum_congr rfl fun r _ => congrArg (· * _) ?_
  unfold Xm.sc
  rw [hx4, Finset.sum_congr rfl fun e _ => congrArg (· * _) (hw j e), dot_comm]

theorem idx2 : ∀ t : Fin cfg2.N, win2_0.index t = ![0, 0] ∧ win2_1.index t = ![0, 0] ∧ win2_2.index t = ![0, 1]
    ∧ win2_3.index t = ![0, 0] ∧ win2_4.index t = ![0, 0, 0] ∧ win2_5.index t = ![0, 0, 0] ∧ win2_6.index t = ![0, 0] :=
  (by decide +kernel : ∀ t : Fin grid2.N, _)

variable (V : (c : Dev nD) → (b : Ref sig .tc) → Buf (Elt Ideal) ((c : Thread nD τ).loc b)) (c : Dev nD)

theorem q2 (t : Fin cfg2.N) : iblk2 V c 0 t = V c main_arg0 := by
  funext y
  idx_vars y
  blk_ext [iblk2, idx2 t]
theorem y2 (t : Fin cfg2.N) : iblk2 V c 3 t = V c main_arg2 := by
  funext y
  idx_vars y
  blk_ext [iblk2, idx2 t]
theorem l2 (t : Fin cfg2.N) : iblk2 V c 4 t = V c main_v2 := by
  funext y
  idx_vars y
  blk_ext [iblk2, idx2 t]
theorem d2 (t : Fin cfg2.N) : iblk2 V c 5 t = V c main_v3 := by
  funext y
  idx_vars y
  blk_ext [iblk2, idx2 t]

theorem k2_0 (t : Fin cfg2.N) (inb) (j e : Fin 256) :
    View.ld (iblk2 V c 1 t) (Rect.unit (s := S256x1024) ![0, 0] ![256, 256] inb) (ix2 j e) = kmat (V c main_arg1) 0 j e := by
  show iblk2 V c 1 t ((Rect.unit (s := S256x1024) ![0, 0] ![256, 256] inb).idx (ix2 j e)) = _
  unfold kmat
  blk_ext [iblk2, idx2 t]
  · show 0 + 1 * j.val = _
    omega
  · show (0 + 1 * e.val) = (0 * 256 + e.val)
    omega

theorem v2_0 (t : Fin cfg2.N) (inb) (j e : Fin 256) :
    View.ld (iblk2 V c 2 t) (Rect.unit (s := S256x1024) ![0, 0] ![256, 256] inb) (ix2 j e) = vmat (V c main_arg1) 0 j e := by
  show iblk2 V c 2 t ((Rect.unit (s := S256x1024) ![0, 0] ![256, 256] inb).idx (ix2 j e)) = _
  unfold vmat
  blk_ext [iblk2, idx2 t]
  · show 0 + 1 * j.val = _
    omega
  · show 1024 + (0 + 1 * e.val) = 1024 + (0 * 256 + e.val)
    omega

theorem k2_1 (t : Fin cfg2.N) (inb) (j e : Fin 256) :
    View.ld (iblk2 V c 1 t) (Rect.unit (s := S256x1024) ![0, 256] ![256, 256] inb) (ix2 j e) = kmat (V c main_arg1) 1 j e := by
  show iblk2 V c 1 t ((Rect.unit (s := S256x1024) ![0, 256] ![256, 256] inb).idx (ix2 j e)) = _
  unfold kmat
  blk_ext [iblk2, idx2 t]
  · show 0 + 1 * j.val = _
    omega
  · show (256 + 1 * e.val) = (1 * 256 + e.val)
    omega

theorem v2_1 (t : Fin cfg2.N) (inb) (j e : Fin 256) :
    View.ld (iblk2 V c 2 t) (Rect.unit (s := S256x1024) ![0, 256] ![256, 256] inb) (ix2 j e) = vmat (V c main_arg1) 1 j e := by
  show iblk2 V c 2 t ((Rect.unit (s := S256x1024) ![0, 256] ![256, 256] inb).idx (ix2 j e)) = _
  unfold vmat
  blk_ext [iblk2, idx2 t]
  · show 0 + 1 * j.val = _
    omega
  · show 1024 + (256 + 1 * e.val) = 1024 + (1 * 256 + e.val)
    omega

theorem k2_2 (t : Fin cfg2.N) (inb) (j e : Fin 256) :
    View.ld (iblk2 V c 1 t) (Rect.unit (s := S256x1024) ![0, 512] ![256, 256] inb) (ix2 j e) = kmat (V c main_arg1) 2 j e := by
  show iblk2 V c 1 t ((Rect.unit (s := S256x1024) ![0, 512] ![256, 256] inb).idx (ix2 j e)) = _
  unfold kmat
  blk_ext [iblk2, idx2 t]
  · show 0 + 1 * j.val = _
    omega
  · show (512 + 1 * e.val) = (2 * 256 + e.val)
    omega

theorem v2_2 (t : Fin cfg2.N) (inb) (j e : Fin 256) :
    View.ld (iblk2 V c 2 t) (Rect.unit (s := S256x1024) ![0, 512] ![256, 256] inb) (ix2 j e) = vmat (V c main_arg1) 2 j e := by
  show iblk2 V c 2 t ((Rect.unit (s := S256x1024) ![0, 512] ![256, 256] inb).idx (ix2 j e)) = _
  unfold vmat
  blk_ext [iblk2, idx2 t]
  · show 0 + 1 * j.val = _
    omega
  · show 1024 + (512 + 1 * e.val) = 1024 + (2 * 256 + e.val)
    omega

theorem k2_3 (t : Fin cfg2.N) (inb) (j e : Fin 256) :
    View.ld (iblk2 V c 1 t) (Rect.unit (s := S256x1024) ![0, 768] ![256, 256] inb) (ix2 j e) = kmat (V c main_arg1) 3 j e := by
  show iblk2 V c 1 t ((Rect.unit (s := S256x1024) ![0, 768] ![256, 256] inb).idx (ix2 j e)) = _
  unfold kmat
  blk_ext [iblk2, idx2 t]
  · show 0 + 1 * j.val = _
    omega
  · show (768 + 1 * e.val) = (3 * 256 + e.val)
    omega

theorem v2_3 (t : Fin cfg2.N) (inb) (j e : Fin 256) :
    View.ld (iblk2 V c 2 t) (Rect.unit (s := S256x1024) ![0, 768] ![256, 256] inb) (ix2 j e) = vmat (V c main_arg1) 3 j e := by
  show iblk2 V c 2 t ((Rect.unit (s := S256x1024) ![0, 768] ![256, 256] inb).idx (ix2 j e)) = _
  unfold vmat
  blk_ext [iblk2, idx2 t]
  · show 0 + 1 * j.val = _
    omega
  · show 1024 + (768 + 1 * e.val) = 1024 + (3 * 256 + e.val)
    omega

theorem final2 (hL : ∀ h r, V c main_v2 (ix3 h 0 r) = lAt (V c main_arg0) (V c main_arg1) h r)
    (hD : ∀ h r, V c main_v3 (ix3 h 0 r) = dAt (V c main_arg0) (V c main_arg1) (V c main_arg2) h r) :
    (dat2 V c).arrAt 6 cfg2.N = dkvArr (V c main_arg0) (V c main_arg1) (V c main_arg2) := by
  refine (dat2 V c).arrAt_eq_of_covers 6 _ (by decide +kernel) fun t _ y => ?_
  blk_simp
  rw [after2_6]
  unfold outsAt2
  frame_out
  canon_tiles x h
  all_goals idx_vars x
  case piece7 =>
    refine (stk0 c _ _ _ _ _ _ _ _ _ _ _ _ _ _ _ _ _ _ _ _ _ _ _ _ _ _ _ x0 x1).trans ?_
    refine (kT_sum (V c main_arg0) (V c main_arg1) (V c main_arg2) _ _ _ _ _ _ 0 (k2_0 V c t _) (v2_0 V c t _) (q2 V c t) (y2 V c t)
      (fun r => (congrFun (l2 V c t) _).trans (hL 0 r)) (fun r => (congrFun (d2 V c t) _).trans (hD 0 r)) x0 x1).trans ?_
    refine (dkvAt_k _ _ _ 0 x0 x1 ⟨(0 * 256 + x1.val), by omega⟩ rfl).symm.trans ?_
    show dkvAt _ _ _ _ _ = dkvAt _ _ _ _ _
    refine congrArg₂ (dkvAt _ _ _) (Fin.ext ?_) (Fin.ext ?_)
    · blk_simp [idx2 t]
      exact h0.symm
    · blk_simp [idx2 t]
      refine Eq.trans ?_ h1.symm
      rfl
  case piece6 =>
    refine (stv0 c _ _ _ _ _ _ _ _ _ _ _ _ _ _ _ _ _ _ _ _ _ _ _ _ _ _ _ x0 x1).trans ?_
    refine (vT_sum (V c main_arg0) (V c main_arg1) (V c main_arg2) _ _ _ _ 0 (k2_0 V c t _) (q2 V c t) (y2 V c t)
      (fun r => (congrFun (l2 V c t) _).trans (hL 0 r)) x0 x1).trans ?_
    refine (dkvAt_v _ _ _ 0 x0 x1 ⟨1024 + (0 * 256 + x1.val), by omega⟩ rfl).symm.trans ?_
    show dkvAt _ _ _ _ _ = dkvAt _ _ _ _ _
    refine congrArg₂ (dkvAt _ _ _) (Fin.ext ?_) (Fin.ext ?_)
    · blk_simp [idx2 t]
      exact h0.symm
    · blk_simp [idx2 t]
      refine Eq.trans ?_ h1.symm
      rfl
  case piece5 =>
    refine (stk1 c _ _ _ _ _ _ _ _ _ _ _ _ _ _ _ _ _ _ _ _ _ _ _ _ _ _ _ x0 x1).trans ?_
    refine (kT_sum (V c main_arg0) (V c main_arg1) (V c main_arg2) _ _ _ _ _ _ 1 (k2_1 V c t _) (v2_1 V c t _) (q2 V c t) (y2 V c t)
      (fun r => (congrFun (l2 V c t) _).trans (hL 1 r)) (fun r => (congrFun (d2 V c t) _).trans (hD 1 r)) x0 x1).trans ?_
    refine (dkvAt_k _ _ _ 1 x0 x1 ⟨(1 * 256 + x1.val), by omega⟩ rfl).symm.trans ?_
    show dkvAt _ _ _ _ _ = dkvAt _ _ _ _ _
    refine congrArg₂ (dkvAt _ _ _) (Fin.ext ?_) (Fin.ext ?_)
    · blk_simp [idx2 t]
      exact h0.symm
    · blk_simp [idx2 t]
      refine Eq.trans ?_ h1.symm
      show (1 * 256 + x1.val) = _
      omega
  case piece4 =>
    refine (stv1 c _ _ _ _ _ _ _ _ _ _ _ _ _ _ _ _ _ _ _ _ _ _ _ _ _ _ _ x0 x1).trans ?_
    refine (vT_sum (V c main_arg0) (V c main_arg1) (V c main_arg2) _ _ _ _ 1 (k2_1 V c t _) (q2 V c t) (y2 V c t)
      (fun r => (congrFun (l2 V c t) _).trans (hL 1 r)) x0 x1).trans ?_
    refine (dkvAt_v _ _ _ 1 x0 x1 ⟨1024 + (1 * 256 + x1.val), by omega⟩ rfl).symm.trans ?_
    show dkvAt _ _ _ _ _ = dkvAt _ _ _ _ _
    refine congrArg₂ (dkvAt _ _ _) (Fin.ext ?_) (Fin.ext ?_)
    · blk_simp [idx2 t]
      exact h0.symm
    · blk_simp [idx2 t]
      refine Eq.trans ?_ h1.symm
      show 1024 + (1 * 256 + x1.val) = _
      omega
  case piece3 =>
    refine (stk2 c _ _ _ _ _ _ _ _ _ _ _ _ _ _ _ _ _ _ _ _ _ _ _ _ _ _ _ x0 x1).trans ?_
    refine (kT_sum (V c main_arg0) (V c main_arg1) (V c main_arg2) _ _ _ _ _ _ 2 (k2_2 V c t _) (v2_2 V c t _) (q2 V c t) (y2 V c t)
      (fun r => (congrFun (l2 V c t) _).trans (hL 2 r)) (fun r => (congrFun (d2 V c t) _).trans (hD 2 r)) x0 x1).trans ?_
    refine (dkvAt_k _ _ _ 2 x0 x1 ⟨(2 * 256 + x1.val), by omega⟩ rfl).symm.trans ?_
    show dkvAt _ _ _ _ _ = dkvAt _ _ _ _ _
    refine congrArg₂ (dkvAt _ _ _) (Fin.ext ?_) (Fin.ext ?_)
    · blk_simp [idx2 t]
      exact h0.symm
    · blk_simp [idx2 t]
      refine Eq.trans ?_ h1.symm
      show (2 * 256 + x1.val) = _
      omega
  case piece2 =>
    refine (stv2 c _ _ _ _ _ _ _ _ _ _ _ _ _ _ _ _ _ _ _ _ _ _ _ _ _ _ _ x0 x1).trans ?_
    refine (vT_sum (V c main_arg0) (V c main_arg1) (V c main_arg2) _ _ _ _ 2 (k2_2 V c t _) (q2 V c t) (y2 V c t)
      (fun r => (congrFun (l2 V c t) _).trans (hL 2 r)) x0 x1).trans ?_
    refine (dkvAt_v _ _ _ 2 x0 x1 ⟨1024 + (2 * 256 + x1.val), by omega⟩ rfl).symm.trans ?_
    show dkvAt _ _ _ _ _ = dkvAt _ _ _ _ _
    refine congrArg₂ (dkvAt _ _ _) (Fin.ext ?_) (Fin.ext ?_)
    · blk_simp [idx2 t]
      exact h0.symm
    · blk_simp [idx2 t]
      refine Eq.trans ?_ h1.symm
      show 1024 + (2 * 256 + x1.val) = _
      omega
  case piece1 =>
    refine (stk3 c _ _ _ _ _ _ _ _ _ _ _ _ _ _ _ _ _ _ _ _ _ _ _ _ _ _ _ x0 x1).trans ?_
    refine (kT_sum (V c main_arg0) (V c main_arg1) (V c main_arg2) _ _ _ _ _ _ 3 (k2_3 V c t _) (v2_3 V c t _) (q2 V c t) (y2 V c t)
      (fun r => (congrFun (l2 V c t) _).trans (hL 3 r)) (fun r => (congrFun (d2 V c t) _).trans (hD 3 r)) x0 x1).trans ?_
    refine (dkvAt_k _ _ _ 3 x0 x1 ⟨(3 * 256 + x1.val), by omega⟩ rfl).symm.trans ?_
    show dkvAt _ _ _ _ _ = dkvAt _ _ _ _ _
    refine congrArg₂ (dkvAt _ _ _) (Fin.ext ?_) (Fin.ext ?_)
    · blk_simp [idx2 t]
      exact h0.symm
    · blk_simp [idx2 t]
      refine Eq.trans ?_ h1.symm
      show (3 * 256 + x1.val) = _
      omega
  case piece0 =>
    refine (stv3 c _ _ _ _ _ _ _ _ _ _ _ _ _ _ _ _ _ _ _ _ _ _ _ _ _ _ _ x0 x1).trans ?_
    refine (vT_sum (V c main_arg0) (V c main_arg1) (V c main_arg2) _ _ _ _ 3 (k2_3 V c t _) (q2 V c t) (y2 V c t)
      (fun r => (congrFun (l2 V c t) _).trans (hL 3 r)) x0 x1).trans ?_
    refine (dkvAt_v _ _ _ 3 x0 x1 ⟨1024 + (3 * 256 + x1.val), by omega⟩ rfl).symm.trans ?_
    show dkvAt _ _ _ _ _ = dkvAt _ _ _ _ _
    refine congrArg₂ (dkvAt _ _ _) (Fin.ext ?_) (Fin.ext ?_)
    · blk_simp [idx2 t]
      exact h0.symm
    · blk_simp [idx2 t]
      refine Eq.trans ?_ h1.symm
      show 1024 + (3 * 256 + x1.val) = _
      omega

end Cert.XaIdeal.Arr
end
-- ==== Proof.XaRun.lean ====
/-
   The run of the three calls: what it leaves in the two results, read back through the contents between the calls.
-/
module

public import proofs.«01_k».proof.Proof.XaDkv

@[expose] public section

set_option maxRecDepth 16384

namespace Cert.XaIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.XaIdeal.Gen Cert.XaIdeal.Arr

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run leaves in each result what the last contents hold of it, and the arguments as they were. -/
theorem leaves : θ_run defs (onTc (τ := τ) (main (F := Ideal))) ⟨m, fun _ => 0, ρ⟩ (fun r => ∀ c : Dev nD,
      r.2.mem ((c.tc : Thread nD τ).loc main_v1_0) = W4 m ρ c (Proc.devRef .tc main_v1_0)
      ∧ r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v1_0 (by decide)), h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

variable (c : Dev nD)

abbrev q : FVec Ideal S2048x1024 .bf16 := m ((c.tc : Thread nD τ).loc main_arg0)
abbrev kv : FVec Ideal S256x2048 .bf16 := m ((c.tc : Thread nD τ).loc main_arg1)
abbrev dy : FVec Ideal S2048x1024 .bf16 := m ((c.tc : Thread nD τ).loc main_arg2)

theorem a0 : V1 m ρ c main_arg0 = q m c := W1_args m ρ c main_arg0 (by decide)
theorem a1 : V1 m ρ c main_arg1 = kv m c := W1_args m ρ c main_arg1 (by decide)
theorem a2 : V1 m ρ c main_arg2 = dy m c := W1_args m ρ c main_arg2 (by decide)
theorem b0 : V3 m ρ c main_arg0 = q m c := W3_args m ρ c main_arg0 (by decide)
theorem b1 : V3 m ρ c main_arg1 = kv m c := W3_args m ρ c main_arg1 (by decide)
theorem b2 : V3 m ρ c main_arg2 = dy m c := W3_args m ρ c main_arg2 (by decide)

theorem o_eq : V1 m ρ c main_v0_0 = oArr (V1 m ρ c main_arg0) (V1 m ρ c main_arg1) := by
  rw [a0, a1]
  exact (W1_arr m ρ c 3).trans (final3 (V0 m ρ) c)
theorem l_eq : V1 m ρ c main_v0_1 = lArr (V1 m ρ c main_arg0) (V1 m ρ c main_arg1) := by
  rw [a0, a1]
  exact (W1_arr m ρ c 4).trans (final4 (V0 m ρ) c)

theorem dq_eq : W4 m ρ c (Proc.devRef .tc main_v1_0) = dqArr (q m c) (kv m c) (dy m c) := by
  rw [W4_of m ρ c main_v1_0 (by decide), W3_of m ρ c main_v1_0 (by decide)]
  refine (W2_arr m ρ c 6).trans ((final6 (V1 m ρ) c (o_eq m ρ c) (l_eq m ρ c)).trans ?_)
  rw [a0, a1, a2]

theorem l2_eq : W2 m ρ c (Proc.devRef .tc main_v0_1) = lArr (q m c) (kv m c) := by
  rw [W2_of m ρ c main_v0_1 (by decide)]
  refine (l_eq m ρ c).trans ?_
  rw [a0, a1]
theorem d2_eq : W2 m ρ c (Proc.devRef .tc main_v1_1) = dArr (q m c) (kv m c) (dy m c) := by
  refine (W2_arr m ρ c 7).trans ((final7 (V1 m ρ) c (o_eq m ρ c)).trans ?_)
  rw [a0, a1, a2]

theorem l3_eq (h : Fin 4) (r : Fin 2048) : V3 m ρ c main_v2 (ix3 h 0 r) = lAt (q m c) (kv m c) h r := by
  have e : V3 m ρ c main_v2 = shapeCast S4x1x2048 (W2 m ρ c (Proc.devRef .tc main_v0_1) : FVec Ideal S4x2048x1 .f32) shapeCasts_S4x2048x1_S4x1x2048 := by
    show StableHlo.after hostOps2 _ _ = _
    after_results
    rfl
  rw [e, l2_eq]
  pointwise []
  rfl
theorem d3_eq (h : Fin 4) (r : Fin 2048) : V3 m ρ c main_v3 (ix3 h 0 r) = dAt (q m c) (kv m c) (dy m c) h r := by
  have e : V3 m ρ c main_v3 = shapeCast S4x1x2048 (W2 m ρ c (Proc.devRef .tc main_v1_1) : FVec Ideal S4x2048x1 .f32) shapeCasts_S4x2048x1_S4x1x2048 := by
    show StableHlo.after hostOps2 _ _ = _
    after_results
    rfl
  rw [e, d2_eq]
  pointwise []
  rfl

theorem dkv_eq : W4 m ρ c (Proc.devRef .tc main_v4) = dkvArr (q m c) (kv m c) (dy m c) := by
  refine (W4_arr m ρ c 6).trans ((final2 (V3 m ρ) c (fun h r => ?_) (fun h r => ?_)).trans ?_)
  · rw [l3_eq, b0, b1]
  · rw [d3_eq, b0, b1, b2]
  · rw [b0, b1, b2]

end Cert.XaIdeal.Run
end
-- ==== Proof.XaRef.lean ====
/- The reference's gradient of attention at one element, read operation by operation: the scores, their greatest, the
   exponentials and their sum, the cotangent of each, and the three products at the end. -/
module

public import proofs.«01_k».proof.Proof.Gen.XaRefIdeal.Read
public import proofs.«01_k».proof.Proof.XaMath
public import Idealize.ShloMosaic.Lib.Pointwise

@[expose] public section

set_option maxRecDepth 16384

noncomputable section

open Idealize.ShloMosaic Idealize.ShloMosaic.TcCoe Idealize.SL.Sem

namespace Cert.XaRefIdeal.At
open Cert.XaRefIdeal Cert.XaRefIdeal.Gen Cert.XaRefIdeal.Read

variable (q : FVec Ideal S2048x1024 .bf16) (kv : FVec Ideal S256x2048 .bf16) (dy : FVec Ideal S2048x1024 .bf16)

/-- A row of a head of the queries, or of a cotangent. -/
def qr (x : FVec Ideal S2048x1024 .bf16) (h : Fin 4) (r : Fin 2048) : Fin 256 → EReal :=
  fun d => x (ix2 r ⟨h.val * 256 + d.val, by omega⟩)
/-- A head of the keys. -/
def km (h : Fin 4) : Fin 256 → Fin 256 → EReal := fun j d => kv (ix2 j ⟨h.val * 256 + d.val, by omega⟩)
/-- A head of the values. -/
def vm (h : Fin 4) : Fin 256 → Fin 256 → EReal := fun j d => kv (ix2 j ⟨1024 + (h.val * 256 + d.val), by omega⟩)

theorem q_at (h : Fin 4) (r : Fin 2048) (d : Fin 256) : val_main_v2 (F := Ideal) q (ix4 0 r h d) = qr q h r d := by
  pointwise [val_main_v2, val_main_v0, qr]
theorem k_at (h : Fin 4) (j d : Fin 256) : val_main_v6 (F := Ideal) kv (ix4 0 j h d) = km kv h j d := by
  pointwise [val_main_v6, val_main_v4, val_main_v3, val_main_v1, km]
theorem v_at (h : Fin 4) (j d : Fin 256) : val_main_v7 (F := Ideal) kv (ix4 0 j h d) = vm kv h j d := by
  pointwise [val_main_v7, val_main_v5, val_main_v3, val_main_v1, vm]
theorem y_at (h : Fin 4) (r : Fin 2048) (d : Fin 256) : val_main_v44 (F := Ideal) dy (ix4 0 h d r) = qr dy h r d := by
  pointwise [val_main_v44, val_main_v43, val_main_v42, qr]

theorem sc_at (h : Fin 4) (r : Fin 2048) (j : Fin 256) :
    val_main_v10 (F := Ideal) q kv (ix4 0 h r j) = Xm.sc (qr q h r) (km kv h) j := by
  pointwise [val_main_v10, val_main_v9, val_main_cst, val_main_v8, val_main_v2, val_main_v0, val_main_v6, val_main_v4, val_main_v3,
    val_main_v1, Xm.sc, qr, km]

theorem top_at (h : Fin 4) (r : Fin 2048) :
    val_main_v11 (F := Ideal) q kv (ix3 0 h r) = Xm.top (qr q h r) (km kv h) := by
  unfold Xm.top
  rw [show Xm.sc (qr q h r) (km kv h) = fun j => val_main_v10 (F := Ideal) q kv (ix4 0 h r j) from funext fun j => (sc_at q kv h r j).symm]
  pointwise [val_main_v11, val_main_cst_0]

theorem er_at (h : Fin 4) (r : Fin 2048) (j : Fin 256) :
    val_main_v31 (F := Ideal) q kv (ix4 0 h r j) = Xm.er (qr q h r) (km kv h) j := by
  unfold Xm.er
  rw [← sc_at, ← top_at]
  pointwise [val_main_v31, val_main_v30, val_main_v29, val_main_v28, val_main_v18, val_main_v17, val_main_cst_2]

theorem zr_at (h : Fin 4) (r : Fin 2048) :
    val_main_v32 (F := Ideal) q kv (ix3 0 h r) = Xm.zr (qr q h r) (km kv h) := by
  unfold Xm.zr
  rw [Finset.sum_congr rfl fun j _ => (er_at q kv h r j).symm]
  pointwise [val_main_v32, val_main_cst_8]

theorem pr_at (h : Fin 4) (r : Fin 2048) (j : Fin 256) :
    val_main_v35 (F := Ideal) q kv (ix4 0 h r j) = Ideal.div (Xm.er (qr q h r) (km kv h) j) (Xm.zr (qr q h r) (km kv h)) := by
  rw [← er_at, ← zr_at]
  pointwise [val_main_v35, val_main_v34, val_main_v33]

theorem ct_at (h : Fin 4) (r : Fin 2048) (j : Fin 256) :
    val_main_v45 (F := Ideal) kv dy (ix4 0 h r j) = ∑ e, qr dy h r e * vm kv h j e := by
  pointwise [val_main_v45, val_main_v44, val_main_v43, val_main_v42, val_main_v7, val_main_v5, val_main_v3, val_main_v1, qr, vm]

theorem inv_at (h : Fin 4) (r : Fin 2048) :
    val_main_v38 (F := Ideal) q kv (ix4 0 h r 0) = Ideal.div 1 (Xm.zr (qr q h r) (km kv h) * Xm.zr (qr q h r) (km kv h)) := by
  rw [← zr_at]
  pointwise [val_main_v38, val_main_v37, val_main_cst_9, val_main_v36, val_main_v33]

theorem sum_at (h : Fin 4) (r : Fin 2048) :
    val_main_v51 (F := Ideal) q kv dy (ix3 0 h r)
      = ∑ i, (∑ e, qr dy h r e * vm kv h i e) * Ideal.div 1 (Xm.zr (qr q h r) (km kv h) * Xm.zr (qr q h r) (km kv h))
          * Xm.er (qr q h r) (km kv h) i := by
  rw [← inv_at, Finset.sum_congr rfl fun i _ => congrArg₂ (fun a b => a * _ * b) (ct_at kv dy h r i).symm (er_at q kv h r i).symm]
  pointwise [val_main_v51, val_main_cst_10, val_main_v50, val_main_v49, val_main_v48]

/-- A sum over two axes of size one is the one element. -/
theorem sum_ones (x : FVec Ideal S1x4x2048x1 .f32) (h : Fin 4) (r : Fin 2048) :
    Ideal.hostReduceAdd reducesTo_S1x4x2048x1_S4x2048_d0_3 x 0 (ix2 h r) = x (ix4 0 h r 0) := by
  unfold Ideal.hostReduceAdd
  rw [zero_add]
  refine (Finset.sum_congr (Finset.ext (s₂ := {ix4 0 h r 0}) fun i => ?_) fun _ _ => rfl).trans (Finset.sum_singleton _ _)
  rw [Finset.mem_filter, Finset.mem_singleton]
  constructor
  · rintro ⟨-, e⟩
    have e0 : i 1 = h := congrFun e 0
    have e1 : i 2 = r := congrFun e 1
    funext a
    fin_cases a
    · exact Subsingleton.elim (α := Fin 1) _ _
    · exact e0
    · exact e1
    · exact Subsingleton.elim (α := Fin 1) _ _
  · rintro rfl
    refine ⟨Finset.mem_univ _, funext fun b => ?_⟩
    fin_cases b <;> rfl

theorem neg_at (h : Fin 4) (r : Fin 2048) :
    val_main_v56 (F := Ideal) q kv dy (ix2 h r) = -(val_main_v51 (F := Ideal) q kv dy (ix3 0 h r)) := by
  pointwise [val_main_v56, val_main_cst_11, val_main_v53, val_main_v52]
  refine (sum_ones _ h r).trans ?_
  pointwise []

theorem ds_at (h : Fin 4) (r : Fin 2048) (j : Fin 256) :
    val_main_v62 (F := Ideal) q kv dy (ix4 0 h r j) = Xm.dsr (qr q h r) (qr dy h r) (km kv h) (vm kv h) j := by
  unfold Xm.dsr
  rw [← sum_at, ← neg_at, ← er_at, ← zr_at, ← ct_at]
  pointwise [val_main_v62, val_main_v61, val_main_cst_12, val_main_v60, val_main_v59, val_main_v58, val_main_v57, val_main_v55,
    val_main_v54, val_main_v33]

/-- The gradient of the queries. -/
theorem dq_at (h : Fin 4) (r : Fin 2048) (d : Fin 256) :
    val_main_v72 (F := Ideal) q kv dy (ix2 r ⟨h.val * 256 + d.val, by omega⟩)
      = ∑ j, Xm.dsr (qr q h r) (qr dy h r) (km kv h) (vm kv h) j * km kv h j d := by
  rw [Finset.sum_congr rfl fun j _ => congrArg₂ (· * ·) (ds_at q kv dy h r j).symm (k_at kv h j d).symm]
  pointwise [val_main_v72, val_main_v71, val_main_v66, val_main_v65]

/-- The gradient of the keys. -/
theorem dk_at (h : Fin 4) (j d : Fin 256) :
    val_main_v73 (F := Ideal) q kv dy (ix2 j ⟨h.val * 256 + d.val, by omega⟩)
      = ∑ r, Xm.dsr (qr q h r) (qr dy h r) (km kv h) (vm kv h) j * qr q h r d := by
  rw [Finset.sum_congr rfl fun r _ => congrArg₂ (· * ·) (ds_at q kv dy h r j).symm (q_at q h r d).symm]
  pointwise [val_main_v73, val_main_v70, val_main_v69, val_main_v68, val_main_v64, val_main_v63]
  rw [dif_pos (by omega)]

/-- The gradient of the values. -/
theorem dv_at (h : Fin 4) (j d : Fin 256) :
    val_main_v73 (F := Ideal) q kv dy (ix2 j ⟨1024 + (h.val * 256 + d.val), by omega⟩)
      = ∑ r, qr dy h r d * Ideal.div (Xm.er (qr q h r) (km kv h) j) (Xm.zr (qr q h r) (km kv h)) := by
  rw [Finset.sum_congr rfl fun r _ => congrArg₂ (· * ·) (y_at dy h r d).symm (pr_at q kv h r j).symm]
  pointwise [val_main_v73, val_main_v70, val_main_v69, val_main_v67, val_main_v47, val_main_v46]

end Cert.XaRefIdeal.At
end
-- ==== Proof.XaPre.lean ====
/- The precondition of the attention claim, read: every entry of the three arrays is a real number. -/
module

public import proofs.«01_k».proof.Pre_xa_finite
public import Idealize.ShloMosaic.Lib.Affine
public import Idealize.ShloMosaic.Lib.Pointwise
public import Idealize.ShloMosaic.Lib.Pipeline.ValueKit

@[expose] public section

noncomputable section

open Idealize.ShloMosaic

namespace Cert.Pre_xa_finite

theorem and_one {c d : BitVec 1} : IntOp.andi c d = 1#1 ↔ c = 1#1 ∧ d = 1#1 := by revert c d; decide

theorem foldl_and {β : Type} (f : β → BitVec 1) (l : List β) : ∀ a : BitVec 1,
    l.foldl (fun r n => IntOp.andi r (f n)) a = 1#1 → a = 1#1 ∧ ∀ n ∈ l, f n = 1#1 := by
  induction l with
  | nil => intro a h; exact ⟨h, fun n hn => absurd hn (List.not_mem_nil)⟩
  | cons b l ih =>
    intro a h
    obtain ⟨h1, h2⟩ := ih _ h
    have h3 : a = 1#1 ∧ f b = 1#1 := and_one.1 h1
    refine ⟨h3.1, fun n hn => ?_⟩
    rcases List.mem_cons.1 hn with rfl | hn
    · exact h3.2
    · exact h2 n hn

theorem all_one {s : Shape} {axes : List (Fin s.rank)} (x : s.Idx → BitVec 1) (h : s.ReducesTo axes S_) (hu : 0 < S_.numel)
    (j : S_.Idx) (hr : Host.reduce IntOp.andi x (constantI S_ 1 1#1) h hu j = 1#1) (i : s.Idx) : x i = 1#1 := by
  unfold Host.reduce at hr
  have e := (foldl_and _ _ _ hr).2 (s.rowMajor i)
    (List.mem_filter.2 ⟨List.mem_finRange _, decide_eq_true (funext fun a => a.elim0)⟩)
  simpa using e

theorem lt_top_real (x : EReal) (h : max x (-x) < ⊤) : ∃ r : ℝ, x = (r : EReal) := by
  induction x using EReal.rec with
  | bot => simp at h
  | top => simp at h
  | coe r => exact ⟨r, rfl⟩

theorem inf_top : Ideal.ofBits FTy.f32 0x7F800000#32 = ⊤ := by
  simp [Ideal.ofBits, Ideal.ieee]

theorem ofBool_lt {x y : EReal} (h : BitVec.ofBool (decide (x < y)) = 1#1) : x < y := by
  by_contra hn
  rw [decide_eq_false hn] at h
  exact absurd h (by decide)

variable [Facts]
open Facts

theorem real2048 (x : FVec Ideal S2048x1024 .bf16) (i : S2048x1024.Idx)
    (h : cmpf .olt (Host.absf (extf .f32 x bitsLt_bf16_f32)) (broadcastInDim S2048x1024 ![] bcast_S_S2048x1024
      (constant (F := Ideal) S_ .f32 0x7F800000#32)) i = 1#1) : ∃ r : ℝ, x i = (r : EReal) := by
  revert h
  pointwise [inf_top]
  intro h
  exact lt_top_real _ (ofBool_lt h)
theorem real256 (x : FVec Ideal S256x2048 .bf16) (i : S256x2048.Idx)
    (h : cmpf .olt (Host.absf (extf .f32 x bitsLt_bf16_f32)) (broadcastInDim S256x2048 ![] bcast_S_S256x2048
      (constant (F := Ideal) S_ .f32 0x7F800000#32)) i = 1#1) : ∃ r : ℝ, x i = (r : EReal) := by
  revert h
  pointwise [inf_top]
  intro h
  exact lt_top_real _ (ofBool_lt h)

theorem reals (q : FVec Ideal S2048x1024 .bf16) (kv : FVec Ideal S256x2048 .bf16) (dy : FVec Ideal S2048x1024 .bf16)
    (h : fn (F := Ideal) q kv dy = fun _ => 1#1) :
    (∀ i, ∃ r : ℝ, q i = (r : EReal)) ∧ (∀ i, ∃ r : ℝ, kv i = (r : EReal)) ∧ ∀ i, ∃ r : ℝ, dy i = (r : EReal) := by
  have e := congrFun h (fun a => a.elim0)
  unfold fn at e
  obtain ⟨e1, e3⟩ := and_one.1 e
  obtain ⟨e1, e2⟩ := and_one.1 e1
  exact ⟨fun i => real2048 q i (all_one _ _ _ _ e1 i), fun i => real256 kv i (all_one _ _ _ _ e2 i),
    fun i => real2048 dy i (all_one _ _ _ _ e3 i)⟩

end Cert.Pre_xa_finite
end
-- ==== Proof.XaValue.lean ====
/- At real arguments the three calls leave what the reference computes. -/
module

public import proofs.«01_k».proof.Proof.XaRun
public import proofs.«01_k».proof.Proof.XaRef
public import proofs.«01_k».proof.Proof.XaPre

@[expose] public section

set_option maxRecDepth 16384

noncomputable section

open Idealize.ShloMosaic Idealize.ShloMosaic.TcCoe Idealize.SL.Sem

namespace Cert.XaValue
open Cert.XaIdeal Cert.XaIdeal.Arr

variable (q : FVec Ideal S2048x1024 .bf16) (kv : FVec Ideal S256x2048 .bf16) (dy : FVec Ideal S2048x1024 .bf16)
  (q' : S2048x1024.Idx → ℝ) (kv' : S256x2048.Idx → ℝ) (dy' : S2048x1024.Idx → ℝ)

theorem qrow_real (x : FVec Ideal S2048x1024 .bf16) (x' : S2048x1024.Idx → ℝ) (hx : ∀ i, x i = (x' i : EReal)) (h : Fin 4) (r : Fin 2048) :
    qrow x h r = fun d => ((x' (ix2 r ⟨h.val * 256 + d.val, by omega⟩) : ℝ) : EReal) := funext fun d => hx _
theorem kmat_real (hk : ∀ i, kv i = (kv' i : EReal)) (h : Fin 4) :
    kmat kv h = fun j d => ((kv' (ix2 j ⟨h.val * 256 + d.val, by omega⟩) : ℝ) : EReal) := funext fun j => funext fun d => hk _
theorem vmat_real (hk : ∀ i, kv i = (kv' i : EReal)) (h : Fin 4) :
    vmat kv h = fun j d => ((kv' (ix2 j ⟨1024 + (h.val * 256 + d.val), by omega⟩) : ℝ) : EReal) := funext fun j => funext fun d => hk _

/-- The gradient of the scores, one way and the other. -/
theorem ds_same (hq : ∀ i, q i = (q' i : EReal)) (hk : ∀ i, kv i = (kv' i : EReal)) (hy : ∀ i, dy i = (dy' i : EReal))
    (h : Fin 4) (r : Fin 2048) (j : Fin 256) :
    Xm.dsr (qrow q h r) (qrow dy h r) (kmat kv h) (vmat kv h) j = sAt q kv dy h r j := by
  unfold sAt lAt dAt
  rw [qrow_real q q' hq, qrow_real dy dy' hy, kmat_real kv kv' hk, vmat_real kv kv' hk]
  exact (Xm.dsr_real _ _ _ _ j).trans (Xm.dsk_real _ _ _ _ j).symm

/-- The softmax, one way and the other. -/
theorem p_same (hq : ∀ i, q i = (q' i : EReal)) (hk : ∀ i, kv i = (kv' i : EReal)) (h : Fin 4) (r : Fin 2048) (j : Fin 256) :
    Ideal.div (Xm.er (qrow q h r) (kmat kv h) j) (Xm.zr (qrow q h r) (kmat kv h))
      = Ideal.exp (Xm.sc (qrow q h r) (kmat kv h) j - lAt q kv h r) := by
  unfold lAt
  rw [qrow_real q q' hq, kmat_real kv kv' hk]
  exact (Xm.pr_real _ _ j).trans (Xm.pk_real _ _ j).symm

theorem dq_same (hq : ∀ i, q i = (q' i : EReal)) (hk : ∀ i, kv i = (kv' i : EReal)) (hy : ∀ i, dy i = (dy' i : EReal)) :
    XaRefIdeal.Read.val_main_v72 (F := Ideal) q kv dy = dqArr q kv dy := by
  funext i
  idx_vars i
  obtain ⟨h, d, e⟩ : ∃ (h : Fin 4) (d : Fin 256), i1 = ⟨h.val * 256 + d.val, by omega⟩ :=
    ⟨⟨i1.val / 256, by omega⟩, ⟨i1.val % 256, by omega⟩, Fin.ext (by show i1.val = i1.val / 256 * 256 + i1.val % 256; omega)⟩
  subst e
  refine (XaRefIdeal.At.dq_at q kv dy h i0 d).trans ?_
  refine Eq.trans ?_ (dqAt_head q kv dy i0 h d _ rfl).symm
  exact Finset.sum_congr rfl fun j _ => congrArg (· * _) (ds_same q kv dy q' kv' dy' hq hk hy h i0 j)

theorem kcol (n : Fin 2048) (hn : n.val < 1024) :
    ∃ (h : Fin 4) (d : Fin 256) (p : h.val * 256 + d.val < 2048), n = ⟨h.val * 256 + d.val, p⟩ :=
  ⟨⟨n.val / 256, by omega⟩, ⟨n.val % 256, by omega⟩, by show n.val / 256 * 256 + n.val % 256 < 2048; omega,
    Fin.ext (by show n.val = n.val / 256 * 256 + n.val % 256; omega)⟩
theorem vcol (n : Fin 2048) (hn : ¬ n.val < 1024) :
    ∃ (h : Fin 4) (d : Fin 256) (p : 1024 + (h.val * 256 + d.val) < 2048), n = ⟨1024 + (h.val * 256 + d.val), p⟩ :=
  ⟨⟨(n.val - 1024) / 256, by omega⟩, ⟨(n.val - 1024) % 256, by omega⟩,
    by show 1024 + ((n.val - 1024) / 256 * 256 + (n.val - 1024) % 256) < 2048; omega,
    Fin.ext (by show n.val = 1024 + ((n.val - 1024) / 256 * 256 + (n.val - 1024) % 256); omega)⟩

theorem dkv_same (hq : ∀ i, q i = (q' i : EReal)) (hk : ∀ i, kv i = (kv' i : EReal)) (hy : ∀ i, dy i = (dy' i : EReal)) :
    XaRefIdeal.Read.val_main_v73 (F := Ideal) q kv dy = dkvArr q kv dy := by
  funext i
  idx_vars i
  by_cases hn : i1.val < 1024
  · obtain ⟨h, d, p, rfl⟩ := kcol i1 hn
    refine (XaRefIdeal.At.dk_at q kv dy h i0 d).trans ?_
    refine Eq.trans ?_ (dkvAt_k q kv dy h i0 d _ rfl).symm
    exact Finset.sum_congr rfl fun r _ => congrArg (· * _) (ds_same q kv dy q' kv' dy' hq hk hy h r i0)
  · obtain ⟨h, d, p, rfl⟩ := vcol i1 hn
    refine (XaRefIdeal.At.dv_at q kv dy h i0 d).trans ?_
    refine Eq.trans ?_ (dkvAt_v q kv dy h i0 d _ rfl).symm
    exact Finset.sum_congr rfl fun r _ => (mul_comm _ _).trans (congrArg (· * _) (p_same q kv q' kv' hq hk h r i0))

end Cert.XaValue
end
-- ==== Proof.AdMath.lean ====
/- One step of the optimiser at one entry: the first moment, the second moment, the change of the weight. -/
module

public import Idealize.ShloMosaic.Lib.Pointwise

@[expose] public section

noncomputable section

open Idealize.ShloMosaic

namespace Cert.Adam

/-- The first moment after the step, from the gradient and the moment before. -/
def mean (g u : Ideal .f32) : Ideal .f32 :=
  Ideal.ofBits .f32 1063675494#32 * u + Ideal.ofBits .f32 1036831949#32 * g

/-- The second moment after the step. -/
def square (g v : Ideal .f32) : Ideal .f32 :=
  Ideal.ofBits .f32 1065336439#32 * v + Ideal.ofBits .f32 981668463#32 * (g * g)

/-- The change of the weight `x`. -/
def delta (g x u v : Ideal .f32) : Ideal .f32 :=
  Ideal.ofBits .f32 3129152111#32 *
    (Ideal.div (Ideal.div (mean g u) (Ideal.ofBits .f32 1059503362#32))
      (Ideal.sqrt (Ideal.div (square g v) (Ideal.ofBits .f32 1008933580#32)) + Ideal.ofBits .f32 841731191#32)
      + Ideal.ofBits .f32 1008981770#32 * x)

end Cert.Adam
end
-- ==== Proof.AdMinValue.lean ====
/- The optimiser's step for the latent attention's input weight. -/
module

public import proofs.«01_k».proof.Proof.AdMath
public import proofs.«01_k».proof.Proof.Gen.AdMinIdeal.Value
public import proofs.«01_k».proof.Proof.Gen.AdMinRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdMinIdeal.Arr
open Cert.AdMinIdeal Cert.AdMinIdeal.Gen Cert.AdMinRefIdeal.Read Cert.Adam

variable (m : (ℓ : Loc nD τ sig) → Buf (Elt Ideal) ℓ) (c : Dev nD)

/-- The gradient, the weight and its moments in the entry store. -/
abbrev G : FVec Ideal S512x704 .bf16 := m ((c : Thread nD τ).loc main_arg0)
abbrev W : FVec Ideal S2x256x704 .f32 := m ((c : Thread nD τ).loc main_arg1)
abbrev U : FVec Ideal S2x256x704 .f32 := m ((c : Thread nD τ).loc main_arg2)
abbrev Q : FVec Ideal S2x256x704 .f32 := m ((c : Thread nD τ).loc main_arg3)

/-- A weight's layers one below the other. -/
def flat (x : FVec Ideal S2x256x704 .f32) : FVec Ideal S512x704 .f32 := shapeCast S512x704 x shapeCasts_S2x256x704_S512x704

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay
variable (g : Vec Ideal S512x704 .bf16) (x u v : Vec Ideal S512x704 .f32) (r : Fin 512) (q : Fin 704)

theorem pay1 : k0_pay1 (F := Ideal) g (ix2 r q) = g (ix2 r q) := by
  pointwise [k0_pay1]

theorem pay2 : k0_pay2 (F := Ideal) g u (ix2 r q) = mean (g (ix2 r q)) (u (ix2 r q)) := by
  pointwise [k0_pay2, k0_pay1, mean]

theorem pay3 : k0_pay3 (F := Ideal) g v (ix2 r q) = square (g (ix2 r q)) (v (ix2 r q)) := by
  pointwise [k0_pay3, k0_pay1, square]

theorem pay4 : k0_pay4 (F := Ideal) g u v x (ix2 r q) = delta (g (ix2 r q)) (x (ix2 r q)) (u (ix2 r q)) (v (ix2 r q)) := by
  pointwise [k0_pay4, k0_pay3, k0_pay2, k0_pay1, delta, mean, square]

end pay

section ref
variable (g : FVec Ideal S512x704 .bf16) (x u v : FVec Ideal S2x256x704 .f32) (r : Fin 512) (q : Fin 704)

theorem refG : val_main_v26 (F := Ideal) g (ix2 r q) = g (ix2 r q) := by
  pointwise [val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refD : val_main_v27 (F := Ideal) g x u v (ix2 r q)
    = delta (g (ix2 r q)) (flat x (ix2 r q)) (flat u (ix2 r q)) (flat v (ix2 r q)) := by
  pointwise [flat, delta, mean, square, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refM : val_main_v28 (F := Ideal) g u (ix2 r q) = mean (g (ix2 r q)) (flat u (ix2 r q)) := by
  pointwise [flat, mean, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refV : val_main_v29 (F := Ideal) g v (ix2 r q) = square (g (ix2 r q)) (flat v (ix2 r q)) := by
  pointwise [flat, square, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

end ref

/-- The blocks a grid point reads. -/
def gb (t : Fin cfg0.N) : Vec Ideal S512x704 .bf16 := iblk m c 0 t
def wb (t : Fin cfg0.N) : Vec Ideal S512x704 .f32 := iblk m c 1 t
def ub (t : Fin cfg0.N) : Vec Ideal S512x704 .f32 := iblk m c 2 t
def qb (t : Fin cfg0.N) : Vec Ideal S512x704 .f32 := iblk m c 3 t

theorem V_w : V m c main_v0 = flat (W m c) := by
  show StableHlo.after hostOps0 _ _ = _
  after_results
  rfl

theorem V_u : V m c main_v1 = flat (U m c) := by
  show StableHlo.after hostOps0 _ _ = _
  after_results
  rfl

theorem V_q : V m c main_v2 = flat (Q m c) := by
  show StableHlo.after hostOps0 _ _ = _
  after_results
  rfl

section reads
variable (t : Fin cfg0.N) (y : Fin 512) (q : Fin 704) (r : Fin 512) (hr : r.val = t.val * 512 + y.val)
include hr

theorem gb_at : gb m c t (ix2 y q) = G m c (ix2 r q) := by
  unfold gb
  blk_ext [iblk, V_main_arg0, idx t, hr]

theorem wb_at : wb m c t (ix2 y q) = flat (W m c) (ix2 r q) := by
  rw [← V_w]
  unfold wb
  blk_ext [iblk, idx t, hr]

theorem ub_at : ub m c t (ix2 y q) = flat (U m c) (ix2 r q) := by
  rw [← V_u]
  unfold ub
  blk_ext [iblk, idx t, hr]

theorem qb_at : qb m c t (ix2 y q) = flat (Q m c) (ix2 r q) := by
  rw [← V_q]
  unfold qb
  blk_ext [iblk, idx t, hr]

end reads

theorem final4 : (dats m 0 c).arrAt 4 (cfgs 0).N = val_main_v26 (F := Ideal) (G m c) := by
  refine (dats m 0 c).arrAt_eq_of_covers 4 _ (by decide +kernel) fun t _ y => ?_
  blk_simp
  rw [after0_4]
  frame_out
  idx_vars y
  have hb : t.val < 1 := t.isLt
  refine (pay1 (gb m c t) y0 y1).trans ?_
  have hr : (⟨t.val * 512 + y0.val, by omega⟩ : Fin 512).val = t.val * 512 + y0.val := rfl
  rw [gb_at m c t y0 y1 _ hr]
  refine (refG ..).symm.trans ?_
  blk_ext [idx t]

theorem final5 : (dats m 0 c).arrAt 5 (cfgs 0).N = val_main_v27 (F := Ideal) (G m c) (W m c) (U m c) (Q m c) := by
  refine (dats m 0 c).arrAt_eq_of_covers 5 _ (by decide +kernel) fun t _ y => ?_
  blk_simp
  rw [after0_5]
  frame_out
  idx_vars y
  have hb : t.val < 1 := t.isLt
  refine (pay4 (gb m c t) (wb m c t) (ub m c t) (qb m c t) y0 y1).trans ?_
  have hr : (⟨t.val * 512 + y0.val, by omega⟩ : Fin 512).val = t.val * 512 + y0.val := rfl
  rw [gb_at m c t y0 y1 _ hr, wb_at m c t y0 y1 _ hr, ub_at m c t y0 y1 _ hr, qb_at m c t y0 y1 _ hr]
  refine (refD ..).symm.trans ?_
  blk_ext [idx t]

theorem final6 : (dats m 0 c).arrAt 6 (cfgs 0).N = val_main_v28 (F := Ideal) (G m c) (U m c) := by
  refine (dats m 0 c).arrAt_eq_of_covers 6 _ (by decide +kernel) fun t _ y => ?_
  blk_simp
  rw [after0_6]
  frame_out
  idx_vars y
  have hb : t.val < 1 := t.isLt
  refine (pay2 (gb m c t) (ub m c t) y0 y1).trans ?_
  have hr : (⟨t.val * 512 + y0.val, by omega⟩ : Fin 512).val = t.val * 512 + y0.val := rfl
  rw [gb_at m c t y0 y1 _ hr, ub_at m c t y0 y1 _ hr]
  refine (refM ..).symm.trans ?_
  blk_ext [idx t]

theorem final7 : (dats m 0 c).arrAt 7 (cfgs 0).N = val_main_v29 (F := Ideal) (G m c) (Q m c) := by
  refine (dats m 0 c).arrAt_eq_of_covers 7 _ (by decide +kernel) fun t _ y => ?_
  blk_simp
  rw [after0_7]
  frame_out
  idx_vars y
  have hb : t.val < 1 := t.isLt
  refine (pay3 (gb m c t) (qb m c t) y0 y1).trans ?_
  have hr : (⟨t.val * 512 + y0.val, by omega⟩ : Fin 512).val = t.val * 512 + y0.val := rfl
  rw [gb_at m c t y0 y1 _ hr, qb_at m c t y0 y1 _ hr]
  refine (refV ..).symm.trans ?_
  blk_ext [idx t]

end Cert.AdMinIdeal.Arr
end
-- ==== Proof.AdMuqValue.lean ====
/- The optimiser's step for the latent attention's query weight. -/
module

public import proofs.«01_k».proof.Proof.AdMath
public import proofs.«01_k».proof.Proof.Gen.AdMuqIdeal.Value
public import proofs.«01_k».proof.Proof.Gen.AdMuqRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdMuqIdeal.Arr
open Cert.AdMuqIdeal Cert.AdMuqIdeal.Gen Cert.AdMuqRefIdeal.Read Cert.Adam

variable (m : (ℓ : Loc nD τ sig) → Buf (Elt Ideal) ℓ) (c : Dev nD)

/-- The gradient, the weight and its moments in the entry store. -/
abbrev G : FVec Ideal S768x384 .bf16 := m ((c : Thread nD τ).loc main_arg0)
abbrev W : FVec Ideal S2x384x384 .f32 := m ((c : Thread nD τ).loc main_arg1)
abbrev U : FVec Ideal S2x384x384 .f32 := m ((c : Thread nD τ).loc main_arg2)
abbrev Q : FVec Ideal S2x384x384 .f32 := m ((c : Thread nD τ).loc main_arg3)

/-- A weight's layers one below the other. -/
def flat (x : FVec Ideal S2x384x384 .f32) : FVec Ideal S768x384 .f32 := shapeCast S768x384 x shapeCasts_S2x384x384_S768x384

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay
variable (g : Vec Ideal S384x384 .bf16) (x u v : Vec Ideal S384x384 .f32) (r : Fin 384) (q : Fin 384)

theorem pay1 : k0_pay1 (F := Ideal) g (ix2 r q) = g (ix2 r q) := by
  pointwise [k0_pay1]

theorem pay2 : k0_pay2 (F := Ideal) g u (ix2 r q) = mean (g (ix2 r q)) (u (ix2 r q)) := by
  pointwise [k0_pay2, k0_pay1, mean]

theorem pay3 : k0_pay3 (F := Ideal) g v (ix2 r q) = square (g (ix2 r q)) (v (ix2 r q)) := by
  pointwise [k0_pay3, k0_pay1, square]

theorem pay4 : k0_pay4 (F := Ideal) g u v x (ix2 r q) = delta (g (ix2 r q)) (x (ix2 r q)) (u (ix2 r q)) (v (ix2 r q)) := by
  pointwise [k0_pay4, k0_pay3, k0_pay2, k0_pay1, delta, mean, square]

end pay

section ref
variable (g : FVec Ideal S768x384 .bf16) (x u v : FVec Ideal S2x384x384 .f32) (r : Fin 768) (q : Fin 384)

theorem refG : val_main_v26 (F := Ideal) g (ix2 r q) = g (ix2 r q) := by
  pointwise [val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refD : val_main_v27 (F := Ideal) g x u v (ix2 r q)
    = delta (g (ix2 r q)) (flat x (ix2 r q)) (flat u (ix2 r q)) (flat v (ix2 r q)) := by
  pointwise [flat, delta, mean, square, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refM : val_main_v28 (F := Ideal) g u (ix2 r q) = mean (g (ix2 r q)) (flat u (ix2 r q)) := by
  pointwise [flat, mean, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refV : val_main_v29 (F := Ideal) g v (ix2 r q) = square (g (ix2 r q)) (flat v (ix2 r q)) := by
  pointwise [flat, square, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

end ref

/-- The blocks a grid point reads. -/
def gb (t : Fin cfg0.N) : Vec Ideal S384x384 .bf16 := iblk m c 0 t
def wb (t : Fin cfg0.N) : Vec Ideal S384x384 .f32 := iblk m c 1 t
def ub (t : Fin cfg0.N) : Vec Ideal S384x384 .f32 := iblk m c 2 t
def qb (t : Fin cfg0.N) : Vec Ideal S384x384 .f32 := iblk m c 3 t

theorem V_w : V m c main_v0 = flat (W m c) := by
  show StableHlo.after hostOps0 _ _ = _
  after_results
  rfl

theorem V_u : V m c main_v1 = flat (U m c) := by
  show StableHlo.after hostOps0 _ _ = _
  after_results
  rfl

theorem V_q : V m c main_v2 = flat (Q m c) := by
  show StableHlo.after hostOps0 _ _ = _
  after_results
  rfl

section reads
variable (t : Fin cfg0.N) (y : Fin 384) (q : Fin 384) (r : Fin 768) (hr : r.val = t.val * 384 + y.val)
include hr

theorem gb_at : gb m c t (ix2 y q) = G m c (ix2 r q) := by
  unfold gb
  blk_ext [iblk, V_main_arg0, idx t, hr]

theorem wb_at : wb m c t (ix2 y q) = flat (W m c) (ix2 r q) := by
  rw [← V_w]
  unfold wb
  blk_ext [iblk, idx t, hr]

theorem ub_at : ub m c t (ix2 y q) = flat (U m c) (ix2 r q) := by
  rw [← V_u]
  unfold ub
  blk_ext [iblk, idx t, hr]

theorem qb_at : qb m c t (ix2 y q) = flat (Q m c) (ix2 r q) := by
  rw [← V_q]
  unfold qb
  blk_ext [iblk, idx t, hr]

end reads

theorem final4 : (dats m 0 c).arrAt 4 (cfgs 0).N = val_main_v26 (F := Ideal) (G m c) := by
  refine (dats m 0 c).arrAt_eq_of_covers 4 _ (by decide +kernel) fun t _ y => ?_
  blk_simp
  rw [after0_4]
  frame_out
  idx_vars y
  have hb : t.val < 2 := t.isLt
  refine (pay1 (gb m c t) y0 y1).trans ?_
  have hr : (⟨t.val * 384 + y0.val, by omega⟩ : Fin 768).val = t.val * 384 + y0.val := rfl
  rw [gb_at m c t y0 y1 _ hr]
  refine (refG ..).symm.trans ?_
  blk_ext [idx t]

theorem final5 : (dats m 0 c).arrAt 5 (cfgs 0).N = val_main_v27 (F := Ideal) (G m c) (W m c) (U m c) (Q m c) := by
  refine (dats m 0 c).arrAt_eq_of_covers 5 _ (by decide +kernel) fun t _ y => ?_
  blk_simp
  rw [after0_5]
  frame_out
  idx_vars y
  have hb : t.val < 2 := t.isLt
  refine (pay4 (gb m c t) (wb m c t) (ub m c t) (qb m c t) y0 y1).trans ?_
  have hr : (⟨t.val * 384 + y0.val, by omega⟩ : Fin 768).val = t.val * 384 + y0.val := rfl
  rw [gb_at m c t y0 y1 _ hr, wb_at m c t y0 y1 _ hr, ub_at m c t y0 y1 _ hr, qb_at m c t y0 y1 _ hr]
  refine (refD ..).symm.trans ?_
  blk_ext [idx t]

theorem final6 : (dats m 0 c).arrAt 6 (cfgs 0).N = val_main_v28 (F := Ideal) (G m c) (U m c) := by
  refine (dats m 0 c).arrAt_eq_of_covers 6 _ (by decide +kernel) fun t _ y => ?_
  blk_simp
  rw [after0_6]
  frame_out
  idx_vars y
  have hb : t.val < 2 := t.isLt
  refine (pay2 (gb m c t) (ub m c t) y0 y1).trans ?_
  have hr : (⟨t.val * 384 + y0.val, by omega⟩ : Fin 768).val = t.val * 384 + y0.val := rfl
  rw [gb_at m c t y0 y1 _ hr, ub_at m c t y0 y1 _ hr]
  refine (refM ..).symm.trans ?_
  blk_ext [idx t]

theorem final7 : (dats m 0 c).arrAt 7 (cfgs 0).N = val_main_v29 (F := Ideal) (G m c) (Q m c) := by
  refine (dats m 0 c).arrAt_eq_of_covers 7 _ (by decide +kernel) fun t _ y => ?_
  blk_simp
  rw [after0_7]
  frame_out
  idx_vars y
  have hb : t.val < 2 := t.isLt
  refine (pay3 (gb m c t) (qb m c t) y0 y1).trans ?_
  have hr : (⟨t.val * 384 + y0.val, by omega⟩ : Fin 768).val = t.val * 384 + y0.val := rfl
  rw [gb_at m c t y0 y1 _ hr, qb_at m c t y0 y1 _ hr]
  refine (refV ..).symm.trans ?_
  blk_ext [idx t]

end Cert.AdMuqIdeal.Arr
end
-- ==== Proof.AdMukvValue.lean ====
/- The optimiser's step for the latent attention's key and value weight. -/
module

public import proofs.«01_k».proof.Proof.AdMath
public import proofs.«01_k».proof.Proof.Gen.AdMukvIdeal.Value
public import proofs.«01_k».proof.Proof.Gen.AdMukvRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdMukvIdeal.Arr
open Cert.AdMukvIdeal Cert.AdMukvIdeal.Gen Cert.AdMukvRefIdeal.Read Cert.Adam

variable (m : (ℓ : Loc nD τ sig) → Buf (Elt Ideal) ℓ) (c : Dev nD)

/-- The gradient, the weight and its moments in the entry store. -/
abbrev G : FVec Ideal S512x512 .bf16 := m ((c : Thread nD τ).loc main_arg0)
abbrev W : FVec Ideal S2x256x512 .f32 := m ((c : Thread nD τ).loc main_arg1)
abbrev U : FVec Ideal S2x256x512 .f32 := m ((c : Thread nD τ).loc main_arg2)
abbrev Q : FVec Ideal S2x256x512 .f32 := m ((c : Thread nD τ).loc main_arg3)

/-- A weight's layers one below the other. -/
def flat (x : FVec Ideal S2x256x512 .f32) : FVec Ideal S512x512 .f32 := shapeCast S512x512 x shapeCasts_S2x256x512_S512x512

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay
variable (g : Vec Ideal S512x512 .bf16) (x u v : Vec Ideal S512x512 .f32) (r : Fin 512) (q : Fin 512)

theorem pay1 : k0_pay1 (F := Ideal) g (ix2 r q) = g (ix2 r q) := by
  pointwise [k0_pay1]

theorem pay2 : k0_pay2 (F := Ideal) g u (ix2 r q) = mean (g (ix2 r q)) (u (ix2 r q)) := by
  pointwise [k0_pay2, k0_pay1, mean]

theorem pay3 : k0_pay3 (F := Ideal) g v (ix2 r q) = square (g (ix2 r q)) (v (ix2 r q)) := by
  pointwise [k0_pay3, k0_pay1, square]

theorem pay4 : k0_pay4 (F := Ideal) g u v x (ix2 r q) = delta (g (ix2 r q)) (x (ix2 r q)) (u (ix2 r q)) (v (ix2 r q)) := by
  pointwise [k0_pay4, k0_pay3, k0_pay2, k0_pay1, delta, mean, square]

end pay

section ref
variable (g : FVec Ideal S512x512 .bf16) (x u v : FVec Ideal S2x256x512 .f32) (r : Fin 512) (q : Fin 512)

theorem refG : val_main_v26 (F := Ideal) g (ix2 r q) = g (ix2 r q) := by
  pointwise [val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refD : val_main_v27 (F := Ideal) g x u v (ix2 r q)
    = delta (g (ix2 r q)) (flat x (ix2 r q)) (flat u (ix2 r q)) (flat v (ix2 r q)) := by
  pointwise [flat, delta, mean, square, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refM : val_main_v28 (F := Ideal) g u (ix2 r q) = mean (g (ix2 r q)) (flat u (ix2 r q)) := by
  pointwise [flat, mean, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refV : val_main_v29 (F := Ideal) g v (ix2 r q) = square (g (ix2 r q)) (flat v (ix2 r q)) := by
  pointwise [flat, square, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

end ref

/-- The blocks a grid point reads. -/
def gb (t : Fin cfg0.N) : Vec Ideal S512x512 .bf16 := iblk m c 0 t
def wb (t : Fin cfg0.N) : Vec Ideal S512x512 .f32 := iblk m c 1 t
def ub (t : Fin cfg0.N) : Vec Ideal S512x512 .f32 := iblk m c 2 t
def qb (t : Fin cfg0.N) : Vec Ideal S512x512 .f32 := iblk m c 3 t

theorem V_w : V m c main_v0 = flat (W m c) := by
  show StableHlo.after hostOps0 _ _ = _
  after_results
  rfl

theorem V_u : V m c main_v1 = flat (U m c) := by
  show StableHlo.after hostOps0 _ _ = _
  after_results
  rfl

theorem V_q : V m c main_v2 = flat (Q m c) := by
  show StableHlo.after hostOps0 _ _ = _
  after_results
  rfl

section reads
variable (t : Fin cfg0.N) (y : Fin 512) (q : Fin 512) (r : Fin 512) (hr : r.val = t.val * 512 + y.val)
include hr

theorem gb_at : gb m c t (ix2 y q) = G m c (ix2 r q) := by
  unfold gb
  blk_ext [iblk, V_main_arg0, idx t, hr]

theorem wb_at : wb m c t (ix2 y q) = flat (W m c) (ix2 r q) := by
  rw [← V_w]
  unfold wb
  blk_ext [iblk, idx t, hr]

theorem ub_at : ub m c t (ix2 y q) = flat (U m c) (ix2 r q) := by
  rw [← V_u]
  unfold ub
  blk_ext [iblk, idx t, hr]

theorem qb_at : qb m c t (ix2 y q) = flat (Q m c) (ix2 r q) := by
  rw [← V_q]
  unfold qb
  blk_ext [iblk, idx t, hr]

end reads

theorem final4 : (dats m 0 c).arrAt 4 (cfgs 0).N = val_main_v26 (F := Ideal) (G m c) := by
  refine (dats m 0 c).arrAt_eq_of_covers 4 _ (by decide +kernel) fun t _ y => ?_
  blk_simp
  rw [after0_4]
  frame_out
  idx_vars y
  have hb : t.val < 1 := t.isLt
  refine (pay1 (gb m c t) y0 y1).trans ?_
  have hr : (⟨t.val * 512 + y0.val, by omega⟩ : Fin 512).val = t.val * 512 + y0.val := rfl
  rw [gb_at m c t y0 y1 _ hr]
  refine (refG ..).symm.trans ?_
  blk_ext [idx t]

theorem final5 : (dats m 0 c).arrAt 5 (cfgs 0).N = val_main_v27 (F := Ideal) (G m c) (W m c) (U m c) (Q m c) := by
  refine (dats m 0 c).arrAt_eq_of_covers 5 _ (by decide +kernel) fun t _ y => ?_
  blk_simp
  rw [after0_5]
  frame_out
  idx_vars y
  have hb : t.val < 1 := t.isLt
  refine (pay4 (gb m c t) (wb m c t) (ub m c t) (qb m c t) y0 y1).trans ?_
  have hr : (⟨t.val * 512 + y0.val, by omega⟩ : Fin 512).val = t.val * 512 + y0.val := rfl
  rw [gb_at m c t y0 y1 _ hr, wb_at m c t y0 y1 _ hr, ub_at m c t y0 y1 _ hr, qb_at m c t y0 y1 _ hr]
  refine (refD ..).symm.trans ?_
  blk_ext [idx t]

theorem final6 : (dats m 0 c).arrAt 6 (cfgs 0).N = val_main_v28 (F := Ideal) (G m c) (U m c) := by
  refine (dats m 0 c).arrAt_eq_of_covers 6 _ (by decide +kernel) fun t _ y => ?_
  blk_simp
  rw [after0_6]
  frame_out
  idx_vars y
  have hb : t.val < 1 := t.isLt
  refine (pay2 (gb m c t) (ub m c t) y0 y1).trans ?_
  have hr : (⟨t.val * 512 + y0.val, by omega⟩ : Fin 512).val = t.val * 512 + y0.val := rfl
  rw [gb_at m c t y0 y1 _ hr, ub_at m c t y0 y1 _ hr]
  refine (refM ..).symm.trans ?_
  blk_ext [idx t]

theorem final7 : (dats m 0 c).arrAt 7 (cfgs 0).N = val_main_v29 (F := Ideal) (G m c) (Q m c) := by
  refine (dats m 0 c).arrAt_eq_of_covers 7 _ (by decide +kernel) fun t _ y => ?_
  blk_simp
  rw [after0_7]
  frame_out
  idx_vars y
  have hb : t.val < 1 := t.isLt
  refine (pay3 (gb m c t) (qb m c t) y0 y1).trans ?_
  have hr : (⟨t.val * 512 + y0.val, by omega⟩ : Fin 512).val = t.val * 512 + y0.val := rfl
  rw [gb_at m c t y0 y1 _ hr, qb_at m c t y0 y1 _ hr]
  refine (refV ..).symm.trans ?_
  blk_ext [idx t]

end Cert.AdMukvIdeal.Arr
end
-- ==== Proof.AdGinValue.lean ====
/- The optimiser's step for the gated DeltaNet's input weight. -/
module

public import proofs.«01_k».proof.Proof.AdMath
public import proofs.«01_k».proof.Proof.Gen.AdGinIdeal.Value
public import proofs.«01_k».proof.Proof.Gen.AdGinRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdGinIdeal.Arr
open Cert.AdGinIdeal Cert.AdGinIdeal.Gen Cert.AdGinRefIdeal.Read Cert.Adam

variable (m : (ℓ : Loc nD τ sig) → Buf (Elt Ideal) ℓ) (c : Dev nD)

/-- The gradient, the weight and its moments in the entry store. -/
abbrev G : FVec Ideal S1024x1028 .bf16 := m ((c : Thread nD τ).loc main_arg0)
abbrev W : FVec Ideal S1x1024x1028 .f32 := m ((c : Thread nD τ).loc main_arg1)
abbrev U : FVec Ideal S1x1024x1028 .f32 := m ((c : Thread nD τ).loc main_arg2)
abbrev Q : FVec Ideal S1x1024x1028 .f32 := m ((c : Thread nD τ).loc main_arg3)

/-- A weight's layers one below the other. -/
def flat (x : FVec Ideal S1x1024x1028 .f32) : FVec Ideal S1024x1028 .f32 := shapeCast S1024x1028 x shapeCasts_S1x1024x1028_S1024x1028

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay
variable (g : Vec Ideal S512x1028 .bf16) (x u v : Vec Ideal S512x1028 .f32) (r : Fin 512) (q : Fin 1028)

theorem pay1 : k0_pay1 (F := Ideal) g (ix2 r q) = g (ix2 r q) := by
  pointwise [k0_pay1]

theorem pay2 : k0_pay2 (F := Ideal) g u (ix2 r q) = mean (g (ix2 r q)) (u (ix2 r q)) := by
  pointwise [k0_pay2, k0_pay1, mean]

theorem pay3 : k0_pay3 (F := Ideal) g v (ix2 r q) = square (g (ix2 r q)) (v (ix2 r q)) := by
  pointwise [k0_pay3, k0_pay1, square]

theorem pay4 : k0_pay4 (F := Ideal) g u v x (ix2 r q) = delta (g (ix2 r q)) (x (ix2 r q)) (u (ix2 r q)) (v (ix2 r q)) := by
  pointwise [k0_pay4, k0_pay3, k0_pay2, k0_pay1, delta, mean, square]

end pay

section ref
variable (g : FVec Ideal S1024x1028 .bf16) (x u v : FVec Ideal S1x1024x1028 .f32) (r : Fin 1024) (q : Fin 1028)

theorem refG : val_main_v26 (F := Ideal) g (ix2 r q) = g (ix2 r q) := by
  pointwise [val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refD : val_main_v27 (F := Ideal) g x u v (ix2 r q)
    = delta (g (ix2 r q)) (flat x (ix2 r q)) (flat u (ix2 r q)) (flat v (ix2 r q)) := by
  pointwise [flat, delta, mean, square, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refM : val_main_v28 (F := Ideal) g u (ix2 r q) = mean (g (ix2 r q)) (flat u (ix2 r q)) := by
  pointwise [flat, mean, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refV : val_main_v29 (F := Ideal) g v (ix2 r q) = square (g (ix2 r q)) (flat v (ix2 r q)) := by
  pointwise [flat, square, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

end ref

/-- The blocks a grid point reads. -/
def gb (t : Fin cfg0.N) : Vec Ideal S512x1028 .bf16 := iblk m c 0 t
def wb (t : Fin cfg0.N) : Vec Ideal S512x1028 .f32 := iblk m c 1 t
def ub (t : Fin cfg0.N) : Vec Ideal S512x1028 .f32 := iblk m c 2 t
def qb (t : Fin cfg0.N) : Vec Ideal S512x1028 .f32 := iblk m c 3 t

theorem V_w : V m c main_v0 = flat (W m c) := by
  show StableHlo.after hostOps0 _ _ = _
  after_results
  rfl

theorem V_u : V m c main_v1 = flat (U m c) := by
  show StableHlo.after hostOps0 _ _ = _
  after_results
  rfl

theorem V_q : V m c main_v2 = flat (Q m c) := by
  show StableHlo.after hostOps0 _ _ = _
  after_results
  rfl

section reads
variable (t : Fin cfg0.N) (y : Fin 512) (q : Fin 1028) (r : Fin 1024) (hr : r.val = t.val * 512 + y.val)
include hr

theorem gb_at : gb m c t (ix2 y q) = G m c (ix2 r q) := by
  unfold gb
  blk_ext [iblk, V_main_arg0, idx t, hr]

theorem wb_at : wb m c t (ix2 y q) = flat (W m c) (ix2 r q) := by
  rw [← V_w]
  unfold wb
  blk_ext [iblk, idx t, hr]

theorem ub_at : ub m c t (ix2 y q) = flat (U m c) (ix2 r q) := by
  rw [← V_u]
  unfold ub
  blk_ext [iblk, idx t, hr]

theorem qb_at : qb m c t (ix2 y q) = flat (Q m c) (ix2 r q) := by
  rw [← V_q]
  unfold qb
  blk_ext [iblk, idx t, hr]

end reads

theorem final4 : (dats m 0 c).arrAt 4 (cfgs 0).N = val_main_v26 (F := Ideal) (G m c) := by
  refine (dats m 0 c).arrAt_eq_of_covers 4 _ (by decide +kernel) fun t _ y => ?_
  blk_simp
  rw [after0_4]
  frame_out
  idx_vars y
  have hb : t.val < 2 := t.isLt
  refine (pay1 (gb m c t) y0 y1).trans ?_
  have hr : (⟨t.val * 512 + y0.val, by omega⟩ : Fin 1024).val = t.val * 512 + y0.val := rfl
  rw [gb_at m c t y0 y1 _ hr]
  refine (refG ..).symm.trans ?_
  blk_ext [idx t]

theorem final5 : (dats m 0 c).arrAt 5 (cfgs 0).N = val_main_v27 (F := Ideal) (G m c) (W m c) (U m c) (Q m c) := by
  refine (dats m 0 c).arrAt_eq_of_covers 5 _ (by decide +kernel) fun t _ y => ?_
  blk_simp
  rw [after0_5]
  frame_out
  idx_vars y
  have hb : t.val < 2 := t.isLt
  refine (pay4 (gb m c t) (wb m c t) (ub m c t) (qb m c t) y0 y1).trans ?_
  have hr : (⟨t.val * 512 + y0.val, by omega⟩ : Fin 1024).val = t.val * 512 + y0.val := rfl
  rw [gb_at m c t y0 y1 _ hr, wb_at m c t y0 y1 _ hr, ub_at m c t y0 y1 _ hr, qb_at m c t y0 y1 _ hr]
  refine (refD ..).symm.trans ?_
  blk_ext [idx t]

theorem final6 : (dats m 0 c).arrAt 6 (cfgs 0).N = val_main_v28 (F := Ideal) (G m c) (U m c) := by
  refine (dats m 0 c).arrAt_eq_of_covers 6 _ (by decide +kernel) fun t _ y => ?_
  blk_simp
  rw [after0_6]
  frame_out
  idx_vars y
  have hb : t.val < 2 := t.isLt
  refine (pay2 (gb m c t) (ub m c t) y0 y1).trans ?_
  have hr : (⟨t.val * 512 + y0.val, by omega⟩ : Fin 1024).val = t.val * 512 + y0.val := rfl
  rw [gb_at m c t y0 y1 _ hr, ub_at m c t y0 y1 _ hr]
  refine (refM ..).symm.trans ?_
  blk_ext [idx t]

theorem final7 : (dats m 0 c).arrAt 7 (cfgs 0).N = val_main_v29 (F := Ideal) (G m c) (Q m c) := by
  refine (dats m 0 c).arrAt_eq_of_covers 7 _ (by decide +kernel) fun t _ y => ?_
  blk_simp
  rw [after0_7]
  frame_out
  idx_vars y
  have hb : t.val < 2 := t.isLt
  refine (pay3 (gb m c t) (qb m c t) y0 y1).trans ?_
  have hr : (⟨t.val * 512 + y0.val, by omega⟩ : Fin 1024).val = t.val * 512 + y0.val := rfl
  rw [gb_at m c t y0 y1 _ hr, qb_at m c t y0 y1 _ hr]
  refine (refV ..).symm.trans ?_
  blk_ext [idx t]

end Cert.AdGinIdeal.Arr
end
-- ==== Proof.AdSinValue.lean ====
/- The optimiser's step for the short convolution's input weight. -/
module

public import proofs.«01_k».proof.Proof.AdMath
public import proofs.«01_k».proof.Proof.Gen.AdSinIdeal.Value
public import proofs.«01_k».proof.Proof.Gen.AdSinRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdSinIdeal.Arr
open Cert.AdSinIdeal Cert.AdSinIdeal.Gen Cert.AdSinRefIdeal.Read Cert.Adam

variable (m : (ℓ : Loc nD τ sig) → Buf (Elt Ideal) ℓ) (c : Dev nD)

/-- The gradient, the weight and its moments in the entry store. -/
abbrev G : FVec Ideal S1024x768 .bf16 := m ((c : Thread nD τ).loc main_arg0)
abbrev W : FVec Ideal S1x1024x768 .f32 := m ((c : Thread nD τ).loc main_arg1)
abbrev U : FVec Ideal S1x1024x768 .f32 := m ((c : Thread nD τ).loc main_arg2)
abbrev Q : FVec Ideal S1x1024x768 .f32 := m ((c : Thread nD τ).loc main_arg3)

/-- A weight's layers one below the other. -/
def flat (x : FVec Ideal S1x1024x768 .f32) : FVec Ideal S1024x768 .f32 := shapeCast S1024x768 x shapeCasts_S1x1024x768_S1024x768

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay
variable (g : Vec Ideal S512x768 .bf16) (x u v : Vec Ideal S512x768 .f32) (r : Fin 512) (q : Fin 768)

theorem pay1 : k0_pay1 (F := Ideal) g (ix2 r q) = g (ix2 r q) := by
  pointwise [k0_pay1]

theorem pay2 : k0_pay2 (F := Ideal) g u (ix2 r q) = mean (g (ix2 r q)) (u (ix2 r q)) := by
  pointwise [k0_pay2, k0_pay1, mean]

theorem pay3 : k0_pay3 (F := Ideal) g v (ix2 r q) = square (g (ix2 r q)) (v (ix2 r q)) := by
  pointwise [k0_pay3, k0_pay1, square]

theorem pay4 : k0_pay4 (F := Ideal) g u v x (ix2 r q) = delta (g (ix2 r q)) (x (ix2 r q)) (u (ix2 r q)) (v (ix2 r q)) := by
  pointwise [k0_pay4, k0_pay3, k0_pay2, k0_pay1, delta, mean, square]

end pay

section ref
variable (g : FVec Ideal S1024x768 .bf16) (x u v : FVec Ideal S1x1024x768 .f32) (r : Fin 1024) (q : Fin 768)

theorem refG : val_main_v26 (F := Ideal) g (ix2 r q) = g (ix2 r q) := by
  pointwise [val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refD : val_main_v27 (F := Ideal) g x u v (ix2 r q)
    = delta (g (ix2 r q)) (flat x (ix2 r q)) (flat u (ix2 r q)) (flat v (ix2 r q)) := by
  pointwise [flat, delta, mean, square, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refM : val_main_v28 (F := Ideal) g u (ix2 r q) = mean (g (ix2 r q)) (flat u (ix2 r q)) := by
  pointwise [flat, mean, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

theorem refV : val_main_v29 (F := Ideal) g v (ix2 r q) = square (g (ix2 r q)) (flat v (ix2 r q)) := by
  pointwise [flat, square, val_main_v0, val_main_v1, val_main_cst, val_main_v2, val_main_v3, val_main_cst_0, val_main_v4, val_main_v5, val_main_v6, val_main_cst_1, val_main_v7, val_main_v8, val_main_v9, val_main_cst_2, val_main_v10, val_main_v11, val_main_v12, val_main_cst_3, val_main_v13, val_main_v14, val_main_cst_4, val_main_v15, val_main_v16, val_main_v17, val_main_cst_5, val_main_v18, val_main_v19, val_main_v20, val_main_cst_6, val_main_v21, val_main_v22, val_main_v23, val_main_cst_7, val_main_v24, val_main_v25, val_main_v26, val_main_v27, val_main_v28, val_main_v29]

end ref

/-- The blocks a grid point reads. -/
def gb (t : Fin cfg0.N) : Vec Ideal S512x768 .bf16 := iblk m c 0 t
def wb (t : Fin cfg0.N) : Vec Ideal S512x768 .f32 := iblk m c 1 t
def ub (t : Fin cfg0.N) : Vec Ideal S512x768 .f32 := iblk m c 2 t
def qb (t : Fin cfg0.N) : Vec Ideal S512x768 .f32 := iblk m c 3 t

theorem V_w : V m c main_v0 = flat (W m c) := by
  show StableHlo.after hostOps0 _ _ = _
  after_results
  rfl

theorem V_u : V m c main_v1 = flat (U m c) := by
  show StableHlo.after hostOps0 _ _ = _
  after_results
  rfl

theorem V_q : V m c main_v2 = flat (Q m c) := by
  show StableHlo.after hostOps0 _ _ = _
  after_results
  rfl

section reads
variable (t : Fin cfg0.N) (y : Fin 512) (q : Fin 768) (r : Fin 1024) (hr : r.val = t.val * 512 + y.val)
include hr

theorem gb_at : gb m c t (ix2 y q) = G m c (ix2 r q) := by
  unfold gb
  blk_ext [iblk, V_main_arg0, idx t, hr]

theorem wb_at : wb m c t (ix2 y q) = flat (W m c) (ix2 r q) := by
  rw [← V_w]
  unfold wb
  blk_ext [iblk, idx t, hr]

theorem ub_at : ub m c t (ix2 y q) = flat (U m c) (ix2 r q) := by
  rw [← V_u]
  unfold ub
  blk_ext [iblk, idx t, hr]

theorem qb_at : qb m c t (ix2 y q) = flat (Q m c) (ix2 r q) := by
  rw [← V_q]
  unfold qb
  blk_ext [iblk, idx t, hr]

end reads

theorem final4 : (dats m 0 c).arrAt 4 (cfgs 0).N = val_main_v26 (F := Ideal) (G m c) := by
  refine (dats m 0 c).arrAt_eq_of_covers 4 _ (by decide +kernel) fun t _ y => ?_
  blk_simp
  rw [after0_4]
  frame_out
  idx_vars y
  have hb : t.val < 2 := t.isLt
  refine (pay1 (gb m c t) y0 y1).trans ?_
  have hr : (⟨t.val * 512 + y0.val, by omega⟩ : Fin 1024).val = t.val * 512 + y0.val := rfl
  rw [gb_at m c t y0 y1 _ hr]
  refine (refG ..).symm.trans ?_
  blk_ext [idx t]

theorem final5 : (dats m 0 c).arrAt 5 (cfgs 0).N = val_main_v27 (F := Ideal) (G m c) (W m c) (U m c) (Q m c) := by
  refine (dats m 0 c).arrAt_eq_of_covers 5 _ (by decide +kernel) fun t _ y => ?_
  blk_simp
  rw [after0_5]
  frame_out
  idx_vars y
  have hb : t.val < 2 := t.isLt
  refine (pay4 (gb m c t) (wb m c t) (ub m c t) (qb m c t) y0 y1).trans ?_
  have hr : (⟨t.val * 512 + y0.val, by omega⟩ : Fin 1024).val = t.val * 512 + y0.val := rfl
  rw [gb_at m c t y0 y1 _ hr, wb_at m c t y0 y1 _ hr, ub_at m c t y0 y1 _ hr, qb_at m c t y0 y1 _ hr]
  refine (refD ..).symm.trans ?_
  blk_ext [idx t]

theorem final6 : (dats m 0 c).arrAt 6 (cfgs 0).N = val_main_v28 (F := Ideal) (G m c) (U m c) := by
  refine (dats m 0 c).arrAt_eq_of_covers 6 _ (by decide +kernel) fun t _ y => ?_
  blk_simp
  rw [after0_6]
  frame_out
  idx_vars y
  have hb : t.val < 2 := t.isLt
  refine (pay2 (gb m c t) (ub m c t) y0 y1).trans ?_
  have hr : (⟨t.val * 512 + y0.val, by omega⟩ : Fin 1024).val = t.val * 512 + y0.val := rfl
  rw [gb_at m c t y0 y1 _ hr, ub_at m c t y0 y1 _ hr]
  refine (refM ..).symm.trans ?_
  blk_ext [idx t]

theorem final7 : (dats m 0 c).arrAt 7 (cfgs 0).N = val_main_v29 (F := Ideal) (G m c) (Q m c) := by
  refine (dats m 0 c).arrAt_eq_of_covers 7 _ (by decide +kernel) fun t _ y => ?_
  blk_simp
  rw [after0_7]
  frame_out
  idx_vars y
  have hb : t.val < 2 := t.isLt
  refine (pay3 (gb m c t) (qb m c t) y0 y1).trans ?_
  have hr : (⟨t.val * 512 + y0.val, by omega⟩ : Fin 1024).val = t.val * 512 + y0.val := rfl
  rw [gb_at m c t y0 y1 _ hr, qb_at m c t y0 y1 _ hr]
  refine (refV ..).symm.trans ?_
  blk_ext [idx t]

end Cert.AdSinIdeal.Arr
end
-- ==== Proof.AdGoValue.lean ====
/- The optimiser's step for the gated DeltaNet's output weight. -/
module

public import proofs.«01_k».proof.Proof.AdMath
public import proofs.«01_k».proof.Proof.Gen.AdGoIdeal.Value
public import proofs.«01_k».proof.Proof.Gen.AdGoRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdGoIdeal.Arr
open Cert.AdGoIdeal Cert.AdGoIdeal.Gen Cert.AdGoRefIdeal.Read Cert.Adam

variable (m : (ℓ : Loc nD τ sig) → Buf (Elt Ideal) ℓ) (c : Dev nD)

/-- The gradient, the weight and its moments in the entry store. -/
abbrev G : FVec Ideal S2816x1024 .bf16 := m ((c : Thread nD τ).loc main_arg0)
abbrev W : FVec Ideal S1x256x1024 .f32 := m ((c : Thread nD τ).loc main_arg1)
abbrev U : FVec Ideal S1x256x1024 .f32 := m ((c : Thread nD τ).loc main_arg2)
abbrev Q : FVec Ideal S1x256x1024 .f32 := m ((c : Thread nD τ).loc main_arg3)

/-- A weight's layers one below the other. -/
def flat (x : FVec Ideal S1x256x1024 .f32) : FVec Ideal S256x1024 .f32 := shapeCast S256x1024 x shapeCasts_S1x256x1024_S256x1024

theorem idx : ∀ t : Fin cfg0.N, win0_0.index t = ![10 + t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay
variable (g : Vec Ideal S256x1024 .bf16) (x u v : Vec Ideal S256x1024 .f32) (r : Fin 256) (q : Fin 1024)

theorem pay1 : k0_pay1 (F := Ideal) g (ix2 r q) = g (ix2 r q) := by
  pointwise [k0_pay1]

theorem pay2 : k0_pay2 (F := Ideal) g u (ix2 r q) = mean (g (ix2 r q)) (u (ix2 r q)) := by
  pointwise [k0_pay2, k0_pay1, mean]

theorem pay3 : k0_pay3 (F := Ideal) g v (ix2 r q) = square (g (ix2 r q)) (v (ix2 r q)) := by
  pointwise [k0_pay3, k0_pay1, square]

theorem pay4 : k0_pay4 (F := Ideal) g u v x (ix2 r q) = delta (g (ix2 r q)) (x (ix2 r q)) (u (ix2 r q)) (v (ix2 r q)) := by
  pointwise [k0_pay4, k0_pay3, k0_pay2, k0_pay1, delta, mean, square]

end pay

section ref
variable (g : FVec Ideal S2816x1024 .bf16) (x u v : FVec Ideal S1x256x1024 .f32) (r : Fin 256) (q : Fin 1024)

theorem refG : val_main_v27 (F := Ideal) g (ix2 r q) = g (ix2 ⟨2560 + r.val, by omega⟩ q) := by
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29, val_main_v30]

theorem refD : val_main_v28 (F := Ideal) g x u v (ix2 r q)
    = delta (g (ix2 ⟨2560 + r.val, by omega⟩ q)) (flat x (ix2 r q)) (flat u (ix2 r q)) (flat v (ix2 r q)) := by
  pointwise [flat, delta, mean, square, val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29, val_main_v30]

theorem refM : val_main_v29 (F := Ideal) g u (ix2 r q) = mean (g (ix2 ⟨2560 + r.val, by omega⟩ q)) (flat u (ix2 r q)) := by
  pointwise [flat, mean, val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29, val_main_v30]

theorem refV : val_main_v30 (F := Ideal) g v (ix2 r q) = square (g (ix2 ⟨2560 + r.val, by omega⟩ q)) (flat v (ix2 r q)) := by
  pointwise [flat, square, val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29, val_main_v30]

end ref

/-- The blocks a grid point reads. -/
def gb (t : Fin cfg0.N) : Vec Ideal S256x1024 .bf16 := iblk m c 0 t
def wb (t : Fin cfg0.N) : Vec Ideal S256x1024 .f32 := iblk m c 1 t
def ub (t : Fin cfg0.N) : Vec Ideal S256x1024 .f32 := iblk m c 2 t
def qb (t : Fin cfg0.N) : Vec Ideal S256x1024 .f32 := iblk m c 3 t

theorem V_w : V m c main_v0 = flat (W m c) := by
  show StableHlo.after hostOps0 _ _ = _
  after_results
  rfl

theorem V_u : V m c main_v1 = flat (U m c) := by
  show StableHlo.after hostOps0 _ _ = _
  after_results
  rfl

theorem V_q : V m c main_v2 = flat (Q m c) := by
  show StableHlo.after hostOps0 _ _ = _
  after_results
  rfl

section reads
variable (t : Fin cfg0.N) (y : Fin 256) (q : Fin 1024) (r : Fin 256) (hr : r.val = t.val * 256 + y.val)
include hr

theorem gb_at : gb m c t (ix2 y q) = G m c (ix2 ⟨2560 + r.val, by omega⟩ q) := by
  unfold gb
  blk_ext [iblk, V_main_arg0, idx t, hr]

theorem wb_at : wb m c t (ix2 y q) = flat (W m c) (ix2 r q) := by
  rw [← V_w]
  unfold wb
  blk_ext [iblk, idx t, hr]

theorem ub_at : ub m c t (ix2 y q) = flat (U m c) (ix2 r q) := by
  rw [← V_u]
  unfold ub
  blk_ext [iblk, idx t, hr]

theorem qb_at : qb m c t (ix2 y q) = flat (Q m c) (ix2 r q) := by
  rw [← V_q]
  unfold qb
  blk_ext [iblk, idx t, hr]

end reads

theorem final4 : (dats m 0 c).arrAt 4 (cfgs 0).N = val_main_v27 (F := Ideal) (G m c) := by
  refine (dats m 0 c).arrAt_eq_of_covers 4 _ (by decide +kernel) fun t _ y => ?_
  blk_simp
  rw [after0_4]
  frame_out
  idx_vars y
  have hb : t.val < 1 := t.isLt
  refine (pay1 (gb m c t) y0 y1).trans ?_
  have hr : (⟨t.val * 256 + y0.val, by omega⟩ : Fin 256).val = t.val * 256 + y0.val := rfl
  rw [gb_at m c t y0 y1 _ hr]
  refine (refG ..).symm.trans ?_
  blk_ext [idx t]

theorem final5 : (dats m 0 c).arrAt 5 (cfgs 0).N = val_main_v28 (F := Ideal) (G m c) (W m c) (U m c) (Q m c) := by
  refine (dats m 0 c).arrAt_eq_of_covers 5 _ (by decide +kernel) fun t _ y => ?_
  blk_simp
  rw [after0_5]
  frame_out
  idx_vars y
  have hb : t.val < 1 := t.isLt
  refine (pay4 (gb m c t) (wb m c t) (ub m c t) (qb m c t) y0 y1).trans ?_
  have hr : (⟨t.val * 256 + y0.val, by omega⟩ : Fin 256).val = t.val * 256 + y0.val := rfl
  rw [gb_at m c t y0 y1 _ hr, wb_at m c t y0 y1 _ hr, ub_at m c t y0 y1 _ hr, qb_at m c t y0 y1 _ hr]
  refine (refD ..).symm.trans ?_
  blk_ext [idx t]

theorem final6 : (dats m 0 c).arrAt 6 (cfgs 0).N = val_main_v29 (F := Ideal) (G m c) (U m c) := by
  refine (dats m 0 c).arrAt_eq_of_covers 6 _ (by decide +kernel) fun t _ y => ?_
  blk_simp
  rw [after0_6]
  frame_out
  idx_vars y
  have hb : t.val < 1 := t.isLt
  refine (pay2 (gb m c t) (ub m c t) y0 y1).trans ?_
  have hr : (⟨t.val * 256 + y0.val, by omega⟩ : Fin 256).val = t.val * 256 + y0.val := rfl
  rw [gb_at m c t y0 y1 _ hr, ub_at m c t y0 y1 _ hr]
  refine (refM ..).symm.trans ?_
  blk_ext [idx t]

theorem final7 : (dats m 0 c).arrAt 7 (cfgs 0).N = val_main_v30 (F := Ideal) (G m c) (Q m c) := by
  refine (dats m 0 c).arrAt_eq_of_covers 7 _ (by decide +kernel) fun t _ y => ?_
  blk_simp
  rw [after0_7]
  frame_out
  idx_vars y
  have hb : t.val < 1 := t.isLt
  refine (pay3 (gb m c t) (qb m c t) y0 y1).trans ?_
  have hr : (⟨t.val * 256 + y0.val, by omega⟩ : Fin 256).val = t.val * 256 + y0.val := rfl
  rw [gb_at m c t y0 y1 _ hr, qb_at m c t y0 y1 _ hr]
  refine (refV ..).symm.trans ?_
  blk_ext [idx t]

end Cert.AdGoIdeal.Arr
end
-- ==== Proof.AdSoValue.lean ====
/- The optimiser's step for the short convolution's output weight. -/
module

public import proofs.«01_k».proof.Proof.AdMath
public import proofs.«01_k».proof.Proof.Gen.AdSoIdeal.Value
public import proofs.«01_k».proof.Proof.Gen.AdSoRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdSoIdeal.Arr
open Cert.AdSoIdeal Cert.AdSoIdeal.Gen Cert.AdSoRefIdeal.Read Cert.Adam

variable (m : (ℓ : Loc nD τ sig) → Buf (Elt Ideal) ℓ) (c : Dev nD)

/-- The gradient, the weight and its moments in the entry store. -/
abbrev G : FVec Ideal S5632x1024 .bf16 := m ((c : Thread nD τ).loc main_arg0)
abbrev W : FVec Ideal S1x256x1024 .f32 := m ((c : Thread nD τ).loc main_arg1)
abbrev U : FVec Ideal S1x256x1024 .f32 := m ((c : Thread nD τ).loc main_arg2)
abbrev Q : FVec Ideal S1x256x1024 .f32 := m ((c : Thread nD τ).loc main_arg3)

/-- A weight's layers one below the other. -/
def flat (x : FVec Ideal S1x256x1024 .f32) : FVec Ideal S256x1024 .f32 := shapeCast S256x1024 x shapeCasts_S1x256x1024_S256x1024

theorem idx : ∀ t : Fin cfg0.N, win0_0.index t = ![21 + t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay
variable (g : Vec Ideal S256x1024 .bf16) (x u v : Vec Ideal S256x1024 .f32) (r : Fin 256) (q : Fin 1024)

theorem pay1 : k0_pay1 (F := Ideal) g (ix2 r q) = g (ix2 r q) := by
  pointwise [k0_pay1]

theorem pay2 : k0_pay2 (F := Ideal) g u (ix2 r q) = mean (g (ix2 r q)) (u (ix2 r q)) := by
  pointwise [k0_pay2, k0_pay1, mean]

theorem pay3 : k0_pay3 (F := Ideal) g v (ix2 r q) = square (g (ix2 r q)) (v (ix2 r q)) := by
  pointwise [k0_pay3, k0_pay1, square]

theorem pay4 : k0_pay4 (F := Ideal) g u v x (ix2 r q) = delta (g (ix2 r q)) (x (ix2 r q)) (u (ix2 r q)) (v (ix2 r q)) := by
  pointwise [k0_pay4, k0_pay3, k0_pay2, k0_pay1, delta, mean, square]

end pay

section ref
variable (g : FVec Ideal S5632x1024 .bf16) (x u v : FVec Ideal S1x256x1024 .f32) (r : Fin 256) (q : Fin 1024)

theorem refG : val_main_v27 (F := Ideal) g (ix2 r q) = g (ix2 ⟨5376 + r.val, by omega⟩ q) := by
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29, val_main_v30]

theorem refD : val_main_v28 (F := Ideal) g x u v (ix2 r q)
    = delta (g (ix2 ⟨5376 + r.val, by omega⟩ q)) (flat x (ix2 r q)) (flat u (ix2 r q)) (flat v (ix2 r q)) := by
  pointwise [flat, delta, mean, square, val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29, val_main_v30]

theorem refM : val_main_v29 (F := Ideal) g u (ix2 r q) = mean (g (ix2 ⟨5376 + r.val, by omega⟩ q)) (flat u (ix2 r q)) := by
  pointwise [flat, mean, val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29, val_main_v30]

theorem refV : val_main_v30 (F := Ideal) g v (ix2 r q) = square (g (ix2 ⟨5376 + r.val, by omega⟩ q)) (flat v (ix2 r q)) := by
  pointwise [flat, square, val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29, val_main_v30]

end ref

/-- The blocks a grid point reads. -/
def gb (t : Fin cfg0.N) : Vec Ideal S256x1024 .bf16 := iblk m c 0 t
def wb (t : Fin cfg0.N) : Vec Ideal S256x1024 .f32 := iblk m c 1 t
def ub (t : Fin cfg0.N) : Vec Ideal S256x1024 .f32 := iblk m c 2 t
def qb (t : Fin cfg0.N) : Vec Ideal S256x1024 .f32 := iblk m c 3 t

theorem V_w : V m c main_v0 = flat (W m c) := by
  show StableHlo.after hostOps0 _ _ = _
  after_results
  rfl

theorem V_u : V m c main_v1 = flat (U m c) := by
  show StableHlo.after hostOps0 _ _ = _
  after_results
  rfl

theorem V_q : V m c main_v2 = flat (Q m c) := by
  show StableHlo.after hostOps0 _ _ = _
  after_results
  rfl

section reads
variable (t : Fin cfg0.N) (y : Fin 256) (q : Fin 1024) (r : Fin 256) (hr : r.val = t.val * 256 + y.val)
include hr

theorem gb_at : gb m c t (ix2 y q) = G m c (ix2 ⟨5376 + r.val, by omega⟩ q) := by
  unfold gb
  blk_ext [iblk, V_main_arg0, idx t, hr]

theorem wb_at : wb m c t (ix2 y q) = flat (W m c) (ix2 r q) := by
  rw [← V_w]
  unfold wb
  blk_ext [iblk, idx t, hr]

theorem ub_at : ub m c t (ix2 y q) = flat (U m c) (ix2 r q) := by
  rw [← V_u]
  unfold ub
  blk_ext [iblk, idx t, hr]

theorem qb_at : qb m c t (ix2 y q) = flat (Q m c) (ix2 r q) := by
  rw [← V_q]
  unfold qb
  blk_ext [iblk, idx t, hr]

end reads

theorem final4 : (dats m 0 c).arrAt 4 (cfgs 0).N = val_main_v27 (F := Ideal) (G m c) := by
  refine (dats m 0 c).arrAt_eq_of_covers 4 _ (by decide +kernel) fun t _ y => ?_
  blk_simp
  rw [after0_4]
  frame_out
  idx_vars y
  have hb : t.val < 1 := t.isLt
  refine (pay1 (gb m c t) y0 y1).trans ?_
  have hr : (⟨t.val * 256 + y0.val, by omega⟩ : Fin 256).val = t.val * 256 + y0.val := rfl
  rw [gb_at m c t y0 y1 _ hr]
  refine (refG ..).symm.trans ?_
  blk_ext [idx t]

theorem final5 : (dats m 0 c).arrAt 5 (cfgs 0).N = val_main_v28 (F := Ideal) (G m c) (W m c) (U m c) (Q m c) := by
  refine (dats m 0 c).arrAt_eq_of_covers 5 _ (by decide +kernel) fun t _ y => ?_
  blk_simp
  rw [after0_5]
  frame_out
  idx_vars y
  have hb : t.val < 1 := t.isLt
  refine (pay4 (gb m c t) (wb m c t) (ub m c t) (qb m c t) y0 y1).trans ?_
  have hr : (⟨t.val * 256 + y0.val, by omega⟩ : Fin 256).val = t.val * 256 + y0.val := rfl
  rw [gb_at m c t y0 y1 _ hr, wb_at m c t y0 y1 _ hr, ub_at m c t y0 y1 _ hr, qb_at m c t y0 y1 _ hr]
  refine (refD ..).symm.trans ?_
  blk_ext [idx t]

theorem final6 : (dats m 0 c).arrAt 6 (cfgs 0).N = val_main_v29 (F := Ideal) (G m c) (U m c) := by
  refine (dats m 0 c).arrAt_eq_of_covers 6 _ (by decide +kernel) fun t _ y => ?_
  blk_simp
  rw [after0_6]
  frame_out
  idx_vars y
  have hb : t.val < 1 := t.isLt
  refine (pay2 (gb m c t) (ub m c t) y0 y1).trans ?_
  have hr : (⟨t.val * 256 + y0.val, by omega⟩ : Fin 256).val = t.val * 256 + y0.val := rfl
  rw [gb_at m c t y0 y1 _ hr, ub_at m c t y0 y1 _ hr]
  refine (refM ..).symm.trans ?_
  blk_ext [idx t]

theorem final7 : (dats m 0 c).arrAt 7 (cfgs 0).N = val_main_v30 (F := Ideal) (G m c) (Q m c) := by
  refine (dats m 0 c).arrAt_eq_of_covers 7 _ (by decide +kernel) fun t _ y => ?_
  blk_simp
  rw [after0_7]
  frame_out
  idx_vars y
  have hb : t.val < 1 := t.isLt
  refine (pay3 (gb m c t) (qb m c t) y0 y1).trans ?_
  have hr : (⟨t.val * 256 + y0.val, by omega⟩ : Fin 256).val = t.val * 256 + y0.val := rfl
  rw [gb_at m c t y0 y1 _ hr, qb_at m c t y0 y1 _ hr]
  refine (refV ..).symm.trans ?_
  blk_ext [idx t]

end Cert.AdSoIdeal.Arr
end
-- ==== Proof.AdFiArr.lean ====
/- The optimiser's step for the first layer's weight, whose layers' gradients arrive in 3 slabs: 3 calls, each on the rows of its slab. -/
module

public import proofs.«01_k».proof.Proof.AdMath
public import proofs.«01_k».proof.Proof.Gen.AdFiIdeal.Frame
public import proofs.«01_k».proof.Proof.Gen.AdFiRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdFiIdeal.Arr
open Cert.AdFiIdeal Cert.AdFiIdeal.Gen Cert.AdFiRefIdeal.Read Cert.Adam

/-- A weight's layers one below the other. -/
def flat (x : FVec Ideal S4x1024x1024 .f32) : FVec Ideal S4096x1024 .f32 := shapeCast S4096x1024 x shapeCasts_S4x1024x1024_S4096x1024

section ref
variable (g0 : FVec Ideal S2048x1024 .bf16) (g1 : FVec Ideal S2048x1024 .bf16) (g2 : FVec Ideal S4096x1024 .bf16)
  (x u v : FVec Ideal S4x1024x1024 .f32) (r : Fin 4096) (q : Fin 1024)

/-- The gradient, its layers one below the other. -/
def ga : FVec Ideal S4096x1024 .f32 := flat (val_main_v7 (F := Ideal) g0 g1 g2)

theorem ga0 (h0 : 0 ≤ r.val) (h1 : r.val < 1024) (p : Fin 2048) (hp : p.val = 0 + (r.val - 0)) :
    ga g0 g1 g2 (ix2 r q) = g0 (ix2 p q) := by
  pointwise [ga, flat, val_main_v0, val_main_v1, val_main_v2, val_main_v3, val_main_v4, val_main_v5, val_main_v6, val_main_v7]
  rw [dif_pos (by omega)]
  refine congrArg (fun z => g0 (ix2 z q)) (Fin.ext ?_)
  dsimp only
  omega

theorem ga1 (h0 : 1024 ≤ r.val) (h1 : r.val < 2048) (p : Fin 2048) (hp : p.val = 0 + (r.val - 1024)) :
    ga g0 g1 g2 (ix2 r q) = g1 (ix2 p q) := by
  pointwise [ga, flat, val_main_v0, val_main_v1, val_main_v2, val_main_v3, val_main_v4, val_main_v5, val_main_v6, val_main_v7]
  rw [dif_neg (by omega), dif_pos (by omega)]
  refine congrArg (fun z => g1 (ix2 z q)) (Fin.ext ?_)
  dsimp only
  omega

theorem ga2 (h0 : 2048 ≤ r.val) (h1 : r.val < 4096) (p : Fin 4096) (hp : p.val = 0 + (r.val - 2048)) :
    ga g0 g1 g2 (ix2 r q) = g2 (ix2 p q) := by
  pointwise [ga, flat, val_main_v0, val_main_v1, val_main_v2, val_main_v3, val_main_v4, val_main_v5, val_main_v6, val_main_v7]
  rw [dif_neg (by omega), dif_neg (by omega)]
  refine congrArg (fun z => g2 (ix2 z q)) (Fin.ext ?_)
  dsimp only
  omega

/-- The four results: the gradient, the change of the weight, the moments. -/
def tG : FVec Ideal S4096x1024 .f32 := ga g0 g1 g2
def tD : FVec Ideal S4096x1024 .f32 := fun i => delta (ga g0 g1 g2 i) (flat x i) (flat u i) (flat v i)
def tM : FVec Ideal S4096x1024 .f32 := fun i => mean (ga g0 g1 g2 i) (flat u i)
def tV : FVec Ideal S4096x1024 .f32 := fun i => square (ga g0 g1 g2 i) (flat v i)

theorem refG : val_main_v32 (F := Ideal) g0 g1 g2 = tG g0 g1 g2 := rfl

theorem refD : val_main_v33 (F := Ideal) g0 g1 g2 x u v = tD g0 g1 g2 x u v := by
  funext i
  idx_vars i
  show _ = delta (ga g0 g1 g2 (ix2 i0 i1)) (flat x (ix2 i0 i1)) (flat u (ix2 i0 i1)) (flat v (ix2 i0 i1))
  pointwise [ga, flat, delta, mean, square, val_main_cst, val_main_v8, val_main_v9, val_main_cst_0, val_main_v10, val_main_v11, val_main_v12, val_main_cst_1, val_main_v13, val_main_v14, val_main_v15, val_main_cst_2, val_main_v16, val_main_v17, val_main_v18, val_main_cst_3, val_main_v19, val_main_v20, val_main_cst_4, val_main_v21, val_main_v22, val_main_v23, val_main_cst_5, val_main_v24, val_main_v25, val_main_v26, val_main_cst_6, val_main_v27, val_main_v28, val_main_v29, val_main_cst_7, val_main_v30, val_main_v31, val_main_v32, val_main_v33, val_main_v34, val_main_v35]

theorem refM : val_main_v34 (F := Ideal) g0 g1 g2 u = tM g0 g1 g2 u := by
  funext i
  idx_vars i
  show _ = mean (ga g0 g1 g2 (ix2 i0 i1)) (flat u (ix2 i0 i1))
  pointwise [ga, flat, mean, val_main_cst, val_main_v8, val_main_v9, val_main_cst_0, val_main_v10, val_main_v11, val_main_v12, val_main_cst_1, val_main_v13, val_main_v14, val_main_v15, val_main_cst_2, val_main_v16, val_main_v17, val_main_v18, val_main_cst_3, val_main_v19, val_main_v20, val_main_cst_4, val_main_v21, val_main_v22, val_main_v23, val_main_cst_5, val_main_v24, val_main_v25, val_main_v26, val_main_cst_6, val_main_v27, val_main_v28, val_main_v29, val_main_cst_7, val_main_v30, val_main_v31, val_main_v32, val_main_v33, val_main_v34, val_main_v35]

theorem refV : val_main_v35 (F := Ideal) g0 g1 g2 v = tV g0 g1 g2 v := by
  funext i
  idx_vars i
  show _ = square (ga g0 g1 g2 (ix2 i0 i1)) (flat v (ix2 i0 i1))
  pointwise [ga, flat, square, val_main_cst, val_main_v8, val_main_v9, val_main_cst_0, val_main_v10, val_main_v11, val_main_v12, val_main_cst_1, val_main_v13, val_main_v14, val_main_v15, val_main_cst_2, val_main_v16, val_main_v17, val_main_v18, val_main_cst_3, val_main_v19, val_main_v20, val_main_cst_4, val_main_v21, val_main_v22, val_main_v23, val_main_cst_5, val_main_v24, val_main_v25, val_main_v26, val_main_cst_6, val_main_v27, val_main_v28, val_main_v29, val_main_cst_7, val_main_v30, val_main_v31, val_main_v32, val_main_v33, val_main_v34, val_main_v35]

end ref

variable (V : (c : Dev nD) → (b : Ref sig .tc) → Buf (Elt Ideal) ((c : Thread nD τ).loc b)) (c : Dev nD)
  (g0 : FVec Ideal S2048x1024 .bf16) (g1 : FVec Ideal S2048x1024 .bf16) (g2 : FVec Ideal S4096x1024 .bf16)
  (x u v : FVec Ideal S4x1024x1024 .f32)

/-! ## Call 0: rows 0 to 1024 -/

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay0
variable (g : Vec Ideal S512x1024 .bf16) (x u v : Vec Ideal S512x1024 .f32) (r : Fin 512) (q : Fin 1024)

theorem pay0_1 : k0_pay1 (F := Ideal) g (ix2 r q) = g (ix2 r q) := by
  pointwise [k0_pay1]

theorem pay0_2 : k0_pay2 (F := Ideal) g u (ix2 r q) = mean (g (ix2 r q)) (u (ix2 r q)) := by
  pointwise [k0_pay2, k0_pay1, mean]

theorem pay0_3 : k0_pay3 (F := Ideal) g v (ix2 r q) = square (g (ix2 r q)) (v (ix2 r q)) := by
  pointwise [k0_pay3, k0_pay1, square]

theorem pay0_4 : k0_pay4 (F := Ideal) g u v x (ix2 r q) = delta (g (ix2 r q)) (x (ix2 r q)) (u (ix2 r q)) (v (ix2 r q)) := by
  pointwise [k0_pay4, k0_pay3, k0_pay2, k0_pay1, delta, mean, square]

end pay0

/-- The blocks a grid point reads. -/
def gb0 (t : Fin cfg0.N) : Vec Ideal S512x1024 .bf16 := iblk0 V c 0 t
def wb0 (t : Fin cfg0.N) : Vec Ideal S512x1024 .f32 := iblk0 V c 1 t
def ub0 (t : Fin cfg0.N) : Vec Ideal S512x1024 .f32 := iblk0 V c 2 t
def qb0 (t : Fin cfg0.N) : Vec Ideal S512x1024 .f32 := iblk0 V c 3 t

section reads0
variable (t : Fin cfg0.N) (y : Fin 512) (q : Fin 1024) (r : Fin 4096) (hr : r.val = t.val * 512 + y.val)

include hr in
theorem gb0_at (hG : V c main_arg0 = g0) : gb0 V c t (ix2 y q) = ga g0 g1 g2 (ix2 r q) := by
  have hb : t.val < 2 := t.isLt
  refine Eq.trans ?_ (ga0 g0 g1 g2 r q (by omega) (by omega) ⟨(t.val) * 512 + y.val, by omega⟩ (by show (t.val) * 512 + y.val = _; omega)).symm
  rw [← hG]
  unfold gb0
  blk_ext [iblk0, idx0 t, hr]

include hr in
theorem wb0_at (hW : V c main_v0 = flat x) : wb0 V c t (ix2 y q) = flat x (ix2 r q) := by
  rw [← hW]
  unfold wb0
  blk_ext [iblk0, idx0 t, hr]

include hr in
theorem ub0_at (hW : V c main_v1 = flat u) : ub0 V c t (ix2 y q) = flat u (ix2 r q) := by
  rw [← hW]
  unfold ub0
  blk_ext [iblk0, idx0 t, hr]

include hr in
theorem qb0_at (hW : V c main_v2 = flat v) : qb0 V c t (ix2 y q) = flat v (ix2 r q) := by
  rw [← hW]
  unfold qb0
  blk_ext [iblk0, idx0 t, hr]

end reads0

theorem fin0_4 (hG : V c main_arg0 = g0) :
    (dat0 V c).arrAt 4 cfg0.N = fun i : S4096x1024.Idx => if (i 0).val < 1024 then tG g0 g1 g2 i else V c main_v3_0 i := by
  refine (dat0 V c).arrAt_eq_of_coversWhere 4 _ (fun β => β (0 : Fin 2) < 2) (by decide +kernel) (fun t _ y => ?_)
    (fun i => by blk_simp [Pipeline.Window.cell_apply]; omega)
  blk_simp
  rw [after0_4]
  frame_out
  idx_vars y
  have hb : t.val < 2 := t.isLt
  refine (pay0_1 (gb0 V c t) y0 y1).trans ?_
  have hr : (⟨t.val * 512 + y0.val, by omega⟩ : Fin 4096).val = t.val * 512 + y0.val := rfl
  rw [gb0_at V c g0 g1 g2 t y0 y1 _ hr hG]
  refine (show _ = tG g0 g1 g2 (ix2 ⟨t.val * 512 + y0.val, by omega⟩ y1) from rfl).trans ?_
  blk_ext [idx0 t]

theorem fin0_5 (hG : V c main_arg0 = g0) (hX : V c main_v0 = flat x) (hU : V c main_v1 = flat u) (hV : V c main_v2 = flat v) :
    (dat0 V c).arrAt 5 cfg0.N = fun i : S4096x1024.Idx => if (i 0).val < 1024 then tD g0 g1 g2 x u v i else V c main_v3_1 i := by
  refine (dat0 V c).arrAt_eq_of_coversWhere 5 _ (fun β => β (0 : Fin 2) < 2) (by decide +kernel) (fun t _ y => ?_)
    (fun i => by blk_simp [Pipeline.Window.cell_apply]; omega)
  blk_simp
  rw [after0_5]
  frame_out
  idx_vars y
  have hb : t.val < 2 := t.isLt
  refine (pay0_4 (gb0 V c t) (wb0 V c t) (ub0 V c t) (qb0 V c t) y0 y1).trans ?_
  have hr : (⟨t.val * 512 + y0.val, by omega⟩ : Fin 4096).val = t.val * 512 + y0.val := rfl
  rw [gb0_at V c g0 g1 g2 t y0 y1 _ hr hG, wb0_at V c x t y0 y1 _ hr hX, ub0_at V c u t y0 y1 _ hr hU, qb0_at V c v t y0 y1 _ hr hV]
  refine (show _ = tD g0 g1 g2 x u v (ix2 ⟨t.val * 512 + y0.val, by omega⟩ y1) from rfl).trans ?_
  blk_ext [idx0 t]

theorem fin0_6 (hG : V c main_arg0 = g0) (hU : V c main_v1 = flat u) :
    (dat0 V c).arrAt 6 cfg0.N = fun i : S4096x1024.Idx => if (i 0).val < 1024 then tM g0 g1 g2 u i else V c main_v3_2 i := by
  refine (dat0 V c).arrAt_eq_of_coversWhere 6 _ (fun β => β (0 : Fin 2) < 2) (by decide +kernel) (fun t _ y => ?_)
    (fun i => by blk_simp [Pipeline.Window.cell_apply]; omega)
  blk_simp
  rw [after0_6]
  frame_out
  idx_vars y
  have hb : t.val < 2 := t.isLt
  refine (pay0_2 (gb0 V c t) (ub0 V c t) y0 y1).trans ?_
  have hr : (⟨t.val * 512 + y0.val, by omega⟩ : Fin 4096).val = t.val * 512 + y0.val := rfl
  rw [gb0_at V c g0 g1 g2 t y0 y1 _ hr hG, ub0_at V c u t y0 y1 _ hr hU]
  refine (show _ = tM g0 g1 g2 u (ix2 ⟨t.val * 512 + y0.val, by omega⟩ y1) from rfl).trans ?_
  blk_ext [idx0 t]

theorem fin0_7 (hG : V c main_arg0 = g0) (hV : V c main_v2 = flat v) :
    (dat0 V c).arrAt 7 cfg0.N = fun i : S4096x1024.Idx => if (i 0).val < 1024 then tV g0 g1 g2 v i else V c main_v3_3 i := by
  refine (dat0 V c).arrAt_eq_of_coversWhere 7 _ (fun β => β (0 : Fin 2) < 2) (by decide +kernel) (fun t _ y => ?_)
    (fun i => by blk_simp [Pipeline.Window.cell_apply]; omega)
  blk_simp
  rw [after0_7]
  frame_out
  idx_vars y
  have hb : t.val < 2 := t.isLt
  refine (pay0_3 (gb0 V c t) (qb0 V c t) y0 y1).trans ?_
  have hr : (⟨t.val * 512 + y0.val, by omega⟩ : Fin 4096).val = t.val * 512 + y0.val := rfl
  rw [gb0_at V c g0 g1 g2 t y0 y1 _ hr hG, qb0_at V c v t y0 y1 _ hr hV]
  refine (show _ = tV g0 g1 g2 v (ix2 ⟨t.val * 512 + y0.val, by omega⟩ y1) from rfl).trans ?_
  blk_ext [idx0 t]

/-! ## Call 1: rows 1024 to 2048 -/

theorem idx1 : ∀ t : Fin cfg1.N, win1_0.index t = ![t.val, 0] ∧ win1_1.index t = ![2 + t.val, 0] ∧ win1_2.index t = ![2 + t.val, 0]
    ∧ win1_3.index t = ![2 + t.val, 0] ∧ win1_4.index t = ![2 + t.val, 0] ∧ win1_5.index t = ![2 + t.val, 0]
    ∧ win1_6.index t = ![2 + t.val, 0] ∧ win1_7.index t = ![2 + t.val, 0] :=
  (by decide +kernel : ∀ t : Fin grid1.N, _)

section pay1
variable (g : Vec Ideal S512x1024 .bf16) (x u v : Vec Ideal S512x1024 .f32) (r : Fin 512) (q : Fin 1024)

theorem pay1_1 : k1_pay1 (F := Ideal) g (ix2 r q) = g (ix2 r q) := by
  pointwise [k1_pay1]

theorem pay1_2 : k1_pay2 (F := Ideal) g u (ix2 r q) = mean (g (ix2 r q)) (u (ix2 r q)) := by
  pointwise [k1_pay2, k1_pay1, mean]

theorem pay1_3 : k1_pay3 (F := Ideal) g v (ix2 r q) = square (g (ix2 r q)) (v (ix2 r q)) := by
  pointwise [k1_pay3, k1_pay1, square]

theorem pay1_4 : k1_pay4 (F := Ideal) g u v x (ix2 r q) = delta (g (ix2 r q)) (x (ix2 r q)) (u (ix2 r q)) (v (ix2 r q)) := by
  pointwise [k1_pay4, k1_pay3, k1_pay2, k1_pay1, delta, mean, square]

end pay1

/-- The blocks a grid point reads. -/
def gb1 (t : Fin cfg1.N) : Vec Ideal S512x1024 .bf16 := iblk1 V c 0 t
def wb1 (t : Fin cfg1.N) : Vec Ideal S512x1024 .f32 := iblk1 V c 1 t
def ub1 (t : Fin cfg1.N) : Vec Ideal S512x1024 .f32 := iblk1 V c 2 t
def qb1 (t : Fin cfg1.N) : Vec Ideal S512x1024 .f32 := iblk1 V c 3 t

section reads1
variable (t : Fin cfg1.N) (y : Fin 512) (q : Fin 1024) (r : Fin 4096) (hr : r.val = (2 + t.val) * 512 + y.val)

include hr in
theorem gb1_at (hG : V c main_arg1 = g1) : gb1 V c t (ix2 y q) = ga g0 g1 g2 (ix2 r q) := by
  have hb : t.val < 2 := t.isLt
  refine Eq.trans ?_ (ga1 g0 g1 g2 r q (by omega) (by omega) ⟨(t.val) * 512 + y.val, by omega⟩ (by show (t.val) * 512 + y.val = _; omega)).symm
  rw [← hG]
  unfold gb1
  blk_ext [iblk1, idx1 t, hr]

include hr in
theorem wb1_at (hW : V c main_v4 = flat x) : wb1 V c t (ix2 y q) = flat x (ix2 r q) := by
  rw [← hW]
  unfold wb1
  blk_ext [iblk1, idx1 t, hr]

include hr in
theorem ub1_at (hW : V c main_v5 = flat u) : ub1 V c t (ix2 y q) = flat u (ix2 r q) := by
  rw [← hW]
  unfold ub1
  blk_ext [iblk1, idx1 t, hr]

include hr in
theorem qb1_at (hW : V c main_v6 = flat v) : qb1 V c t (ix2 y q) = flat v (ix2 r q) := by
  rw [← hW]
  unfold qb1
  blk_ext [iblk1, idx1 t, hr]

end reads1

theorem fin1_4 (hG : V c main_arg1 = g1) :
    (dat1 V c).arrAt 4 cfg1.N = fun i : S4096x1024.Idx => if 1024 ≤ (i 0).val ∧ (i 0).val < 2048 then tG g0 g1 g2 i else V c main_v7_0 i := by
  refine (dat1 V c).arrAt_eq_of_coversWhere 4 _ (fun β => 2 ≤ β (0 : Fin 2) ∧ β (0 : Fin 2) < 4) (by decide +kernel) (fun t _ y => ?_)
    (fun i => by blk_simp [Pipeline.Window.cell_apply]; omega)
  blk_simp
  rw [after1_4]
  unfold outsAt1
  frame_out
  idx_vars y
  have hb : t.val < 2 := t.isLt
  refine (pay1_1 (gb1 V c t) y0 y1).trans ?_
  have hr : (⟨(2 + t.val) * 512 + y0.val, by omega⟩ : Fin 4096).val = (2 + t.val) * 512 + y0.val := rfl
  rw [gb1_at V c g0 g1 g2 t y0 y1 _ hr hG]
  refine (show _ = tG g0 g1 g2 (ix2 ⟨(2 + t.val) * 512 + y0.val, by omega⟩ y1) from rfl).trans ?_
  blk_ext [idx1 t]

theorem fin1_5 (hG : V c main_arg1 = g1) (hX : V c main_v4 = flat x) (hU : V c main_v5 = flat u) (hV : V c main_v6 = flat v) :
    (dat1 V c).arrAt 5 cfg1.N = fun i : S4096x1024.Idx => if 1024 ≤ (i 0).val ∧ (i 0).val < 2048 then tD g0 g1 g2 x u v i else V c main_v7_1 i := by
  refine (dat1 V c).arrAt_eq_of_coversWhere 5 _ (fun β => 2 ≤ β (0 : Fin 2) ∧ β (0 : Fin 2) < 4) (by decide +kernel) (fun t _ y => ?_)
    (fun i => by blk_simp [Pipeline.Window.cell_apply]; omega)
  blk_simp
  rw [after1_5]
  unfold outsAt1
  frame_out
  idx_vars y
  have hb : t.val < 2 := t.isLt
  refine (pay1_4 (gb1 V c t) (wb1 V c t) (ub1 V c t) (qb1 V c t) y0 y1).trans ?_
  have hr : (⟨(2 + t.val) * 512 + y0.val, by omega⟩ : Fin 4096).val = (2 + t.val) * 512 + y0.val := rfl
  rw [gb1_at V c g0 g1 g2 t y0 y1 _ hr hG, wb1_at V c x t y0 y1 _ hr hX, ub1_at V c u t y0 y1 _ hr hU, qb1_at V c v t y0 y1 _ hr hV]
  refine (show _ = tD g0 g1 g2 x u v (ix2 ⟨(2 + t.val) * 512 + y0.val, by omega⟩ y1) from rfl).trans ?_
  blk_ext [idx1 t]

theorem fin1_6 (hG : V c main_arg1 = g1) (hU : V c main_v5 = flat u) :
    (dat1 V c).arrAt 6 cfg1.N = fun i : S4096x1024.Idx => if 1024 ≤ (i 0).val ∧ (i 0).val < 2048 then tM g0 g1 g2 u i else V c main_v7_2 i := by
  refine (dat1 V c).arrAt_eq_of_coversWhere 6 _ (fun β => 2 ≤ β (0 : Fin 2) ∧ β (0 : Fin 2) < 4) (by decide +kernel) (fun t _ y => ?_)
    (fun i => by blk_simp [Pipeline.Window.cell_apply]; omega)
  blk_simp
  rw [after1_6]
  unfold outsAt1
  frame_out
  idx_vars y
  have hb : t.val < 2 := t.isLt
  refine (pay1_2 (gb1 V c t) (ub1 V c t) y0 y1).trans ?_
  have hr : (⟨(2 + t.val) * 512 + y0.val, by omega⟩ : Fin 4096).val = (2 + t.val) * 512 + y0.val := rfl
  rw [gb1_at V c g0 g1 g2 t y0 y1 _ hr hG, ub1_at V c u t y0 y1 _ hr hU]
  refine (show _ = tM g0 g1 g2 u (ix2 ⟨(2 + t.val) * 512 + y0.val, by omega⟩ y1) from rfl).trans ?_
  blk_ext [idx1 t]

theorem fin1_7 (hG : V c main_arg1 = g1) (hV : V c main_v6 = flat v) :
    (dat1 V c).arrAt 7 cfg1.N = fun i : S4096x1024.Idx => if 1024 ≤ (i 0).val ∧ (i 0).val < 2048 then tV g0 g1 g2 v i else V c main_v7_3 i := by
  refine (dat1 V c).arrAt_eq_of_coversWhere 7 _ (fun β => 2 ≤ β (0 : Fin 2) ∧ β (0 : Fin 2) < 4) (by decide +kernel) (fun t _ y => ?_)
    (fun i => by blk_simp [Pipeline.Window.cell_apply]; omega)
  blk_simp
  rw [after1_7]
  unfold outsAt1
  frame_out
  idx_vars y
  have hb : t.val < 2 := t.isLt
  refine (pay1_3 (gb1 V c t) (qb1 V c t) y0 y1).trans ?_
  have hr : (⟨(2 + t.val) * 512 + y0.val, by omega⟩ : Fin 4096).val = (2 + t.val) * 512 + y0.val := rfl
  rw [gb1_at V c g0 g1 g2 t y0 y1 _ hr hG, qb1_at V c v t y0 y1 _ hr hV]
  refine (show _ = tV g0 g1 g2 v (ix2 ⟨(2 + t.val) * 512 + y0.val, by omega⟩ y1) from rfl).trans ?_
  blk_ext [idx1 t]

/-! ## Call 2: rows 2048 to 4096 -/

theorem idx2 : ∀ t : Fin cfg2.N, win2_0.index t = ![t.val, 0] ∧ win2_1.index t = ![4 + t.val, 0] ∧ win2_2.index t = ![4 + t.val, 0]
    ∧ win2_3.index t = ![4 + t.val, 0] ∧ win2_4.index t = ![4 + t.val, 0] ∧ win2_5.index t = ![4 + t.val, 0]
    ∧ win2_6.index t = ![4 + t.val, 0] ∧ win2_7.index t = ![4 + t.val, 0] :=
  (by decide +kernel : ∀ t : Fin grid2.N, _)

section pay2
variable (g : Vec Ideal S512x1024 .bf16) (x u v : Vec Ideal S512x1024 .f32) (r : Fin 512) (q : Fin 1024)

theorem pay2_1 : k2_pay1 (F := Ideal) g (ix2 r q) = g (ix2 r q) := by
  pointwise [k2_pay1]

theorem pay2_2 : k2_pay2 (F := Ideal) g u (ix2 r q) = mean (g (ix2 r q)) (u (ix2 r q)) := by
  pointwise [k2_pay2, k2_pay1, mean]

theorem pay2_3 : k2_pay3 (F := Ideal) g v (ix2 r q) = square (g (ix2 r q)) (v (ix2 r q)) := by
  pointwise [k2_pay3, k2_pay1, square]

theorem pay2_4 : k2_pay4 (F := Ideal) g u v x (ix2 r q) = delta (g (ix2 r q)) (x (ix2 r q)) (u (ix2 r q)) (v (ix2 r q)) := by
  pointwise [k2_pay4, k2_pay3, k2_pay2, k2_pay1, delta, mean, square]

end pay2

/-- The blocks a grid point reads. -/
def gb2 (t : Fin cfg2.N) : Vec Ideal S512x1024 .bf16 := iblk2 V c 0 t
def wb2 (t : Fin cfg2.N) : Vec Ideal S512x1024 .f32 := iblk2 V c 1 t
def ub2 (t : Fin cfg2.N) : Vec Ideal S512x1024 .f32 := iblk2 V c 2 t
def qb2 (t : Fin cfg2.N) : Vec Ideal S512x1024 .f32 := iblk2 V c 3 t

section reads2
variable (t : Fin cfg2.N) (y : Fin 512) (q : Fin 1024) (r : Fin 4096) (hr : r.val = (4 + t.val) * 512 + y.val)

include hr in
theorem gb2_at (hG : V c main_arg2 = g2) : gb2 V c t (ix2 y q) = ga g0 g1 g2 (ix2 r q) := by
  have hb : t.val < 4 := t.isLt
  refine Eq.trans ?_ (ga2 g0 g1 g2 r q (by omega) (by omega) ⟨(t.val) * 512 + y.val, by omega⟩ (by show (t.val) * 512 + y.val = _; omega)).symm
  rw [← hG]
  unfold gb2
  blk_ext [iblk2, idx2 t, hr]

include hr in
theorem wb2_at (hW : V c main_v8 = flat x) : wb2 V c t (ix2 y q) = flat x (ix2 r q) := by
  rw [← hW]
  unfold wb2
  blk_ext [iblk2, idx2 t, hr]

include hr in
theorem ub2_at (hW : V c main_v9 = flat u) : ub2 V c t (ix2 y q) = flat u (ix2 r q) := by
  rw [← hW]
  unfold ub2
  blk_ext [iblk2, idx2 t, hr]

include hr in
theorem qb2_at (hW : V c main_v10 = flat v) : qb2 V c t (ix2 y q) = flat v (ix2 r q) := by
  rw [← hW]
  unfold qb2
  blk_ext [iblk2, idx2 t, hr]

end reads2

theorem fin2_4 (hG : V c main_arg2 = g2) :
    (dat2 V c).arrAt 4 cfg2.N = fun i : S4096x1024.Idx => if 2048 ≤ (i 0).val ∧ (i 0).val < 4096 then tG g0 g1 g2 i else V c main_v11_0 i := by
  refine (dat2 V c).arrAt_eq_of_coversWhere 4 _ (fun β => 4 ≤ β (0 : Fin 2) ∧ β (0 : Fin 2) < 8) (by decide +kernel) (fun t _ y => ?_)
    (fun i => by blk_simp [Pipeline.Window.cell_apply]; omega)
  blk_simp
  rw [after2_4]
  unfold outsAt2
  frame_out
  idx_vars y
  have hb : t.val < 4 := t.isLt
  refine (pay2_1 (gb2 V c t) y0 y1).trans ?_
  have hr : (⟨(4 + t.val) * 512 + y0.val, by omega⟩ : Fin 4096).val = (4 + t.val) * 512 + y0.val := rfl
  rw [gb2_at V c g0 g1 g2 t y0 y1 _ hr hG]
  refine (show _ = tG g0 g1 g2 (ix2 ⟨(4 + t.val) * 512 + y0.val, by omega⟩ y1) from rfl).trans ?_
  blk_ext [idx2 t]

theorem fin2_5 (hG : V c main_arg2 = g2) (hX : V c main_v8 = flat x) (hU : V c main_v9 = flat u) (hV : V c main_v10 = flat v) :
    (dat2 V c).arrAt 5 cfg2.N = fun i : S4096x1024.Idx => if 2048 ≤ (i 0).val ∧ (i 0).val < 4096 then tD g0 g1 g2 x u v i else V c main_v11_1 i := by
  refine (dat2 V c).arrAt_eq_of_coversWhere 5 _ (fun β => 4 ≤ β (0 : Fin 2) ∧ β (0 : Fin 2) < 8) (by decide +kernel) (fun t _ y => ?_)
    (fun i => by blk_simp [Pipeline.Window.cell_apply]; omega)
  blk_simp
  rw [after2_5]
  unfold outsAt2
  frame_out
  idx_vars y
  have hb : t.val < 4 := t.isLt
  refine (pay2_4 (gb2 V c t) (wb2 V c t) (ub2 V c t) (qb2 V c t) y0 y1).trans ?_
  have hr : (⟨(4 + t.val) * 512 + y0.val, by omega⟩ : Fin 4096).val = (4 + t.val) * 512 + y0.val := rfl
  rw [gb2_at V c g0 g1 g2 t y0 y1 _ hr hG, wb2_at V c x t y0 y1 _ hr hX, ub2_at V c u t y0 y1 _ hr hU, qb2_at V c v t y0 y1 _ hr hV]
  refine (show _ = tD g0 g1 g2 x u v (ix2 ⟨(4 + t.val) * 512 + y0.val, by omega⟩ y1) from rfl).trans ?_
  blk_ext [idx2 t]

theorem fin2_6 (hG : V c main_arg2 = g2) (hU : V c main_v9 = flat u) :
    (dat2 V c).arrAt 6 cfg2.N = fun i : S4096x1024.Idx => if 2048 ≤ (i 0).val ∧ (i 0).val < 4096 then tM g0 g1 g2 u i else V c main_v11_2 i := by
  refine (dat2 V c).arrAt_eq_of_coversWhere 6 _ (fun β => 4 ≤ β (0 : Fin 2) ∧ β (0 : Fin 2) < 8) (by decide +kernel) (fun t _ y => ?_)
    (fun i => by blk_simp [Pipeline.Window.cell_apply]; omega)
  blk_simp
  rw [after2_6]
  unfold outsAt2
  frame_out
  idx_vars y
  have hb : t.val < 4 := t.isLt
  refine (pay2_2 (gb2 V c t) (ub2 V c t) y0 y1).trans ?_
  have hr : (⟨(4 + t.val) * 512 + y0.val, by omega⟩ : Fin 4096).val = (4 + t.val) * 512 + y0.val := rfl
  rw [gb2_at V c g0 g1 g2 t y0 y1 _ hr hG, ub2_at V c u t y0 y1 _ hr hU]
  refine (show _ = tM g0 g1 g2 u (ix2 ⟨(4 + t.val) * 512 + y0.val, by omega⟩ y1) from rfl).trans ?_
  blk_ext [idx2 t]

theorem fin2_7 (hG : V c main_arg2 = g2) (hV : V c main_v10 = flat v) :
    (dat2 V c).arrAt 7 cfg2.N = fun i : S4096x1024.Idx => if 2048 ≤ (i 0).val ∧ (i 0).val < 4096 then tV g0 g1 g2 v i else V c main_v11_3 i := by
  refine (dat2 V c).arrAt_eq_of_coversWhere 7 _ (fun β => 4 ≤ β (0 : Fin 2) ∧ β (0 : Fin 2) < 8) (by decide +kernel) (fun t _ y => ?_)
    (fun i => by blk_simp [Pipeline.Window.cell_apply]; omega)
  blk_simp
  rw [after2_7]
  unfold outsAt2
  frame_out
  idx_vars y
  have hb : t.val < 4 := t.isLt
  refine (pay2_3 (gb2 V c t) (qb2 V c t) y0 y1).trans ?_
  have hr : (⟨(4 + t.val) * 512 + y0.val, by omega⟩ : Fin 4096).val = (4 + t.val) * 512 + y0.val := rfl
  rw [gb2_at V c g0 g1 g2 t y0 y1 _ hr hG, qb2_at V c v t y0 y1 _ hr hV]
  refine (show _ = tV g0 g1 g2 v (ix2 ⟨(4 + t.val) * 512 + y0.val, by omega⟩ y1) from rfl).trans ?_
  blk_ext [idx2 t]

end Cert.AdFiIdeal.Arr
end
-- ==== Proof.AdFiRun.lean ====
/- The run of the calls for the first layer's weight: what it leaves in the results, read back through the contents between the calls. -/
module

public import proofs.«01_k».proof.Proof.AdFiArr

@[expose] public section

set_option maxRecDepth 16384

noncomputable section

namespace Cert.AdFiIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdFiIdeal Cert.AdFiIdeal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments: the slabs, the weight, its moments. -/
abbrev g0 : FVec Ideal S2048x1024 .bf16 := m ((c.tc : Thread nD τ).loc main_arg0)
abbrev g1 : FVec Ideal S2048x1024 .bf16 := m ((c.tc : Thread nD τ).loc main_arg1)
abbrev g2 : FVec Ideal S4096x1024 .bf16 := m ((c.tc : Thread nD τ).loc main_arg2)
abbrev x : FVec Ideal S4x1024x1024 .f32 := m ((c.tc : Thread nD τ).loc main_arg3)
abbrev u : FVec Ideal S4x1024x1024 .f32 := m ((c.tc : Thread nD τ).loc main_arg4)
abbrev v : FVec Ideal S4x1024x1024 .f32 := m ((c.tc : Thread nD τ).loc main_arg5)

/-! ## Call 0 -/

theorem hG0 : V1 m ρ c main_arg0 = g0 m c := W1_args m ρ c main_arg0 (by decide)
theorem hX0 : V1 m ρ c main_v0 = flat (x m c) := by
  have e : V1 m ρ c main_v0 = flat (W0 m ρ c (Proc.devRef .tc main_arg3)) := by
    show StableHlo.after hostOps0 _ _ = _
    after_results
    rfl
  exact e.trans (congrArg flat (W0_args m ρ c main_arg3 (by decide)))
theorem hU0 : V1 m ρ c main_v1 = flat (u m c) := by
  have e : V1 m ρ c main_v1 = flat (W0 m ρ c (Proc.devRef .tc main_arg4)) := by
    show StableHlo.after hostOps0 _ _ = _
    after_results
    rfl
  exact e.trans (congrArg flat (W0_args m ρ c main_arg4 (by decide)))
theorem hV0 : V1 m ρ c main_v2 = flat (v m c) := by
  have e : V1 m ρ c main_v2 = flat (W0 m ρ c (Proc.devRef .tc main_arg5)) := by
    show StableHlo.after hostOps0 _ _ = _
    after_results
    rfl
  exact e.trans (congrArg flat (W0_args m ρ c main_arg5 (by decide)))
theorem end0_0 : W2 m ρ c (Proc.devRef .tc main_v3_0)
    = fun i : S4096x1024.Idx => if (i 0).val < 1024 then tG (g0 m c) (g1 m c) (g2 m c) i else V1 m ρ c main_v3_0 i :=
  (W2_arr m ρ c 4).trans (fin0_4 (V1 m ρ) c (g0 m c) (g1 m c) (g2 m c) (hG0 m ρ c))
theorem end0_1 : W2 m ρ c (Proc.devRef .tc main_v3_1)
    = fun i : S4096x1024.Idx => if (i 0).val < 1024 then tD (g0 m c) (g1 m c) (g2 m c) (x m c) (u m c) (v m c) i else V1 m ρ c main_v3_1 i :=
  (W2_arr m ρ c 5).trans (fin0_5 (V1 m ρ) c (g0 m c) (g1 m c) (g2 m c) (x m c) (u m c) (v m c) (hG0 m ρ c) (hX0 m ρ c) (hU0 m ρ c) (hV0 m ρ c))
theorem end0_2 : W2 m ρ c (Proc.devRef .tc main_v3_2)
    = fun i : S4096x1024.Idx => if (i 0).val < 1024 then tM (g0 m c) (g1 m c) (g2 m c) (u m c) i else V1 m ρ c main_v3_2 i :=
  (W2_arr m ρ c 6).trans (fin0_6 (V1 m ρ) c (g0 m c) (g1 m c) (g2 m c) (u m c) (hG0 m ρ c) (hU0 m ρ c))
theorem end0_3 : W2 m ρ c (Proc.devRef .tc main_v3_3)
    = fun i : S4096x1024.Idx => if (i 0).val < 1024 then tV (g0 m c) (g1 m c) (g2 m c) (v m c) i else V1 m ρ c main_v3_3 i :=
  (W2_arr m ρ c 7).trans (fin0_7 (V1 m ρ) c (g0 m c) (g1 m c) (g2 m c) (v m c) (hG0 m ρ c) (hV0 m ρ c))

/-! ## Call 1 -/

theorem hG1 : V3 m ρ c main_arg1 = g1 m c := W3_args m ρ c main_arg1 (by decide)
theorem hX1 : V3 m ρ c main_v4 = flat (x m c) := by
  have e : V3 m ρ c main_v4 = flat (W2 m ρ c (Proc.devRef .tc main_arg3)) := by
    show StableHlo.after hostOps1 _ _ = _
    after_results
    rfl
  exact e.trans (congrArg flat (W2_args m ρ c main_arg3 (by decide)))
theorem hU1 : V3 m ρ c main_v5 = flat (u m c) := by
  have e : V3 m ρ c main_v5 = flat (W2 m ρ c (Proc.devRef .tc main_arg4)) := by
    show StableHlo.after hostOps1 _ _ = _
    after_results
    rfl
  exact e.trans (congrArg flat (W2_args m ρ c main_arg4 (by decide)))
theorem hV1 : V3 m ρ c main_v6 = flat (v m c) := by
  have e : V3 m ρ c main_v6 = flat (W2 m ρ c (Proc.devRef .tc main_arg5)) := by
    show StableHlo.after hostOps1 _ _ = _
    after_results
    rfl
  exact e.trans (congrArg flat (W2_args m ρ c main_arg5 (by decide)))
theorem end1_0 : W4 m ρ c (Proc.devRef .tc main_v7_0)
    = fun i : S4096x1024.Idx => if 1024 ≤ (i 0).val ∧ (i 0).val < 2048 then tG (g0 m c) (g1 m c) (g2 m c) i else V3 m ρ c main_v7_0 i :=
  (W4_arr m ρ c 4).trans (fin1_4 (V3 m ρ) c (g0 m c) (g1 m c) (g2 m c) (hG1 m ρ c))
theorem copy1_0 : V3 m ρ c main_v7_0 = W2 m ρ c (Proc.devRef .tc main_v3_0) := by
  show StableHlo.after hostOps1 _ _ = _
  after_results
  rfl
theorem end1_1 : W4 m ρ c (Proc.devRef .tc main_v7_1)
    = fun i : S4096x1024.Idx => if 1024 ≤ (i 0).val ∧ (i 0).val < 2048 then tD (g0 m c) (g1 m c) (g2 m c) (x m c) (u m c) (v m c) i else V3 m ρ c main_v7_1 i :=
  (W4_arr m ρ c 5).trans (fin1_5 (V3 m ρ) c (g0 m c) (g1 m c) (g2 m c) (x m c) (u m c) (v m c) (hG1 m ρ c) (hX1 m ρ c) (hU1 m ρ c) (hV1 m ρ c))
theorem copy1_1 : V3 m ρ c main_v7_1 = W2 m ρ c (Proc.devRef .tc main_v3_1) := by
  show StableHlo.after hostOps1 _ _ = _
  after_results
  rfl
theorem end1_2 : W4 m ρ c (Proc.devRef .tc main_v7_2)
    = fun i : S4096x1024.Idx => if 1024 ≤ (i 0).val ∧ (i 0).val < 2048 then tM (g0 m c) (g1 m c) (g2 m c) (u m c) i else V3 m ρ c main_v7_2 i :=
  (W4_arr m ρ c 6).trans (fin1_6 (V3 m ρ) c (g0 m c) (g1 m c) (g2 m c) (u m c) (hG1 m ρ c) (hU1 m ρ c))
theorem copy1_2 : V3 m ρ c main_v7_2 = W2 m ρ c (Proc.devRef .tc main_v3_2) := by
  show StableHlo.after hostOps1 _ _ = _
  after_results
  rfl
theorem end1_3 : W4 m ρ c (Proc.devRef .tc main_v7_3)
    = fun i : S4096x1024.Idx => if 1024 ≤ (i 0).val ∧ (i 0).val < 2048 then tV (g0 m c) (g1 m c) (g2 m c) (v m c) i else V3 m ρ c main_v7_3 i :=
  (W4_arr m ρ c 7).trans (fin1_7 (V3 m ρ) c (g0 m c) (g1 m c) (g2 m c) (v m c) (hG1 m ρ c) (hV1 m ρ c))
theorem copy1_3 : V3 m ρ c main_v7_3 = W2 m ρ c (Proc.devRef .tc main_v3_3) := by
  show StableHlo.after hostOps1 _ _ = _
  after_results
  rfl

/-! ## Call 2 -/

theorem hG2 : V5 m ρ c main_arg2 = g2 m c := W5_args m ρ c main_arg2 (by decide)
theorem hX2 : V5 m ρ c main_v8 = flat (x m c) := by
  have e : V5 m ρ c main_v8 = flat (W4 m ρ c (Proc.devRef .tc main_arg3)) := by
    show StableHlo.after hostOps2 _ _ = _
    after_results
    rfl
  exact e.trans (congrArg flat (W4_args m ρ c main_arg3 (by decide)))
theorem hU2 : V5 m ρ c main_v9 = flat (u m c) := by
  have e : V5 m ρ c main_v9 = flat (W4 m ρ c (Proc.devRef .tc main_arg4)) := by
    show StableHlo.after hostOps2 _ _ = _
    after_results
    rfl
  exact e.trans (congrArg flat (W4_args m ρ c main_arg4 (by decide)))
theorem hV2 : V5 m ρ c main_v10 = flat (v m c) := by
  have e : V5 m ρ c main_v10 = flat (W4 m ρ c (Proc.devRef .tc main_arg5)) := by
    show StableHlo.after hostOps2 _ _ = _
    after_results
    rfl
  exact e.trans (congrArg flat (W4_args m ρ c main_arg5 (by decide)))
theorem end2_0 : W6 m ρ c (Proc.devRef .tc main_v11_0)
    = fun i : S4096x1024.Idx => if 2048 ≤ (i 0).val ∧ (i 0).val < 4096 then tG (g0 m c) (g1 m c) (g2 m c) i else V5 m ρ c main_v11_0 i :=
  (W6_arr m ρ c 4).trans (fin2_4 (V5 m ρ) c (g0 m c) (g1 m c) (g2 m c) (hG2 m ρ c))
theorem copy2_0 : V5 m ρ c main_v11_0 = W4 m ρ c (Proc.devRef .tc main_v7_0) := by
  show StableHlo.after hostOps2 _ _ = _
  after_results
  rfl
theorem end2_1 : W6 m ρ c (Proc.devRef .tc main_v11_1)
    = fun i : S4096x1024.Idx => if 2048 ≤ (i 0).val ∧ (i 0).val < 4096 then tD (g0 m c) (g1 m c) (g2 m c) (x m c) (u m c) (v m c) i else V5 m ρ c main_v11_1 i :=
  (W6_arr m ρ c 5).trans (fin2_5 (V5 m ρ) c (g0 m c) (g1 m c) (g2 m c) (x m c) (u m c) (v m c) (hG2 m ρ c) (hX2 m ρ c) (hU2 m ρ c) (hV2 m ρ c))
theorem copy2_1 : V5 m ρ c main_v11_1 = W4 m ρ c (Proc.devRef .tc main_v7_1) := by
  show StableHlo.after hostOps2 _ _ = _
  after_results
  rfl
theorem end2_2 : W6 m ρ c (Proc.devRef .tc main_v11_2)
    = fun i : S4096x1024.Idx => if 2048 ≤ (i 0).val ∧ (i 0).val < 4096 then tM (g0 m c) (g1 m c) (g2 m c) (u m c) i else V5 m ρ c main_v11_2 i :=
  (W6_arr m ρ c 6).trans (fin2_6 (V5 m ρ) c (g0 m c) (g1 m c) (g2 m c) (u m c) (hG2 m ρ c) (hU2 m ρ c))
theorem copy2_2 : V5 m ρ c main_v11_2 = W4 m ρ c (Proc.devRef .tc main_v7_2) := by
  show StableHlo.after hostOps2 _ _ = _
  after_results
  rfl
theorem end2_3 : W6 m ρ c (Proc.devRef .tc main_v11_3)
    = fun i : S4096x1024.Idx => if 2048 ≤ (i 0).val ∧ (i 0).val < 4096 then tV (g0 m c) (g1 m c) (g2 m c) (v m c) i else V5 m ρ c main_v11_3 i :=
  (W6_arr m ρ c 7).trans (fin2_7 (V5 m ρ) c (g0 m c) (g1 m c) (g2 m c) (v m c) (hG2 m ρ c) (hV2 m ρ c))
theorem copy2_3 : V5 m ρ c main_v11_3 = W4 m ρ c (Proc.devRef .tc main_v7_3) := by
  show StableHlo.after hostOps2 _ _ = _
  after_results
  rfl

/-! ## What the last call leaves -/

theorem last0 : W6 m ρ c (Proc.devRef .tc main_v11_0) = tG (g0 m c) (g1 m c) (g2 m c) := by
  refine (end2_0 m ρ c).trans (funext fun i => ?_)
  have hb : (i 0).val < 4096 := (i 0).isLt
  split_ifs with h2
  · rfl
  refine (congrFun ((copy2_0 m ρ c).trans (end1_0 m ρ c)) i).trans ?_
  split_ifs with h1
  · rfl
  refine (congrFun ((copy1_0 m ρ c).trans (end0_0 m ρ c)) i).trans ?_
  rw [if_pos (by omega)]

theorem last1 : W6 m ρ c (Proc.devRef .tc main_v11_1) = tD (g0 m c) (g1 m c) (g2 m c) (x m c) (u m c) (v m c) := by
  refine (end2_1 m ρ c).trans (funext fun i => ?_)
  have hb : (i 0).val < 4096 := (i 0).isLt
  split_ifs with h2
  · rfl
  refine (congrFun ((copy2_1 m ρ c).trans (end1_1 m ρ c)) i).trans ?_
  split_ifs with h1
  · rfl
  refine (congrFun ((copy1_1 m ρ c).trans (end0_1 m ρ c)) i).trans ?_
  rw [if_pos (by omega)]

theorem last2 : W6 m ρ c (Proc.devRef .tc main_v11_2) = tM (g0 m c) (g1 m c) (g2 m c) (u m c) := by
  refine (end2_2 m ρ c).trans (funext fun i => ?_)
  have hb : (i 0).val < 4096 := (i 0).isLt
  split_ifs with h2
  · rfl
  refine (congrFun ((copy2_2 m ρ c).trans (end1_2 m ρ c)) i).trans ?_
  split_ifs with h1
  · rfl
  refine (congrFun ((copy1_2 m ρ c).trans (end0_2 m ρ c)) i).trans ?_
  rw [if_pos (by omega)]

theorem last3 : W6 m ρ c (Proc.devRef .tc main_v11_3) = tV (g0 m c) (g1 m c) (g2 m c) (v m c) := by
  refine (end2_3 m ρ c).trans (funext fun i => ?_)
  have hb : (i 0).val < 4096 := (i 0).isLt
  split_ifs with h2
  · rfl
  refine (congrFun ((copy2_3 m ρ c).trans (end1_3 m ρ c)) i).trans ?_
  split_ifs with h1
  · rfl
  refine (congrFun ((copy1_3 m ρ c).trans (end0_3 m ρ c)) i).trans ?_
  rw [if_pos (by omega)]

set_option backward.isDefEq.respectTransparency.types false in
/-- The run leaves the gradient, the change of the weight and the moments in the results, and the arguments as they were. -/
theorem leaves : θ_run defs (onTc (τ := τ) (main (F := Ideal))) ⟨m, fun _ => 0, ρ⟩ (fun r => ∀ c : Dev nD,
      r.2.mem ((c.tc : Thread nD τ).loc main_v11_0) = tG (g0 m c) (g1 m c) (g2 m c)
      ∧ r.2.mem ((c.tc : Thread nD τ).loc main_v11_1) = tD (g0 m c) (g1 m c) (g2 m c) (x m c) (u m c) (v m c)
      ∧ r.2.mem ((c.tc : Thread nD τ).loc main_v11_2) = tM (g0 m c) (g1 m c) (g2 m c) (u m c)
      ∧ r.2.mem ((c.tc : Thread nD τ).loc main_v11_3) = tV (g0 m c) (g1 m c) (g2 m c) (v m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v11_0 (by decide))).trans (last0 m ρ c),
       (h c _ (mem_uc main_v11_1 (by decide))).trans (last1 m ρ c),
       (h c _ (mem_uc main_v11_2 (by decide))).trans (last2 m ρ c),
       (h c _ (mem_uc main_v11_3 (by decide))).trans (last3 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.AdFiIdeal.Arr
end
-- ==== Proof.AdFoArr.lean ====
/- The optimiser's step for the second layer's weight, whose layers' gradients arrive in 3 slabs: 3 calls, each on the rows of its slab. -/
module

public import proofs.«01_k».proof.Proof.AdMath
public import proofs.«01_k».proof.Proof.Gen.AdFoIdeal.Frame
public import proofs.«01_k».proof.Proof.Gen.AdFoRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdFoIdeal.Arr
open Cert.AdFoIdeal Cert.AdFoIdeal.Gen Cert.AdFoRefIdeal.Read Cert.Adam

/-- A weight's layers one below the other. -/
def flat (x : FVec Ideal S4x1024x1024 .f32) : FVec Ideal S4096x1024 .f32 := shapeCast S4096x1024 x shapeCasts_S4x1024x1024_S4096x1024

section ref
variable (g0 : FVec Ideal S2048x1024 .bf16) (g1 : FVec Ideal S2048x1024 .bf16) (g2 : FVec Ideal S4096x1024 .bf16)
  (x u v : FVec Ideal S4x1024x1024 .f32) (r : Fin 4096) (q : Fin 1024)

/-- The gradient, its layers one below the other. -/
def ga : FVec Ideal S4096x1024 .f32 := flat (val_main_v7 (F := Ideal) g0 g1 g2)

theorem ga0 (h0 : 0 ≤ r.val) (h1 : r.val < 1024) (p : Fin 2048) (hp : p.val = 1024 + (r.val - 0)) :
    ga g0 g1 g2 (ix2 r q) = g0 (ix2 p q) := by
  pointwise [ga, flat, val_main_v0, val_main_v1, val_main_v2, val_main_v3, val_main_v4, val_main_v5, val_main_v6, val_main_v7]
  rw [dif_pos (by omega)]
  refine congrArg (fun z => g0 (ix2 z q)) (Fin.ext ?_)
  dsimp only
  omega

theorem ga1 (h0 : 1024 ≤ r.val) (h1 : r.val < 2048) (p : Fin 2048) (hp : p.val = 1024 + (r.val - 1024)) :
    ga g0 g1 g2 (ix2 r q) = g1 (ix2 p q) := by
  pointwise [ga, flat, val_main_v0, val_main_v1, val_main_v2, val_main_v3, val_main_v4, val_main_v5, val_main_v6, val_main_v7]
  rw [dif_neg (by omega), dif_pos (by omega)]
  refine congrArg (fun z => g1 (ix2 z q)) (Fin.ext ?_)
  dsimp only
  omega

theorem ga2 (h0 : 2048 ≤ r.val) (h1 : r.val < 4096) (p : Fin 4096) (hp : p.val = 2048 + (r.val - 2048)) :
    ga g0 g1 g2 (ix2 r q) = g2 (ix2 p q) := by
  pointwise [ga, flat, val_main_v0, val_main_v1, val_main_v2, val_main_v3, val_main_v4, val_main_v5, val_main_v6, val_main_v7]
  rw [dif_neg (by omega), dif_neg (by omega)]
  refine congrArg (fun z => g2 (ix2 z q)) (Fin.ext ?_)
  dsimp only
  omega

/-- The four results: the gradient, the change of the weight, the moments. -/
def tG : FVec Ideal S4096x1024 .f32 := ga g0 g1 g2
def tD : FVec Ideal S4096x1024 .f32 := fun i => delta (ga g0 g1 g2 i) (flat x i) (flat u i) (flat v i)
def tM : FVec Ideal S4096x1024 .f32 := fun i => mean (ga g0 g1 g2 i) (flat u i)
def tV : FVec Ideal S4096x1024 .f32 := fun i => square (ga g0 g1 g2 i) (flat v i)

theorem refG : val_main_v32 (F := Ideal) g0 g1 g2 = tG g0 g1 g2 := rfl

theorem refD : val_main_v33 (F := Ideal) g0 g1 g2 x u v = tD g0 g1 g2 x u v := by
  funext i
  idx_vars i
  show _ = delta (ga g0 g1 g2 (ix2 i0 i1)) (flat x (ix2 i0 i1)) (flat u (ix2 i0 i1)) (flat v (ix2 i0 i1))
  pointwise [ga, flat, delta, mean, square, val_main_cst, val_main_v8, val_main_v9, val_main_cst_0, val_main_v10, val_main_v11, val_main_v12, val_main_cst_1, val_main_v13, val_main_v14, val_main_v15, val_main_cst_2, val_main_v16, val_main_v17, val_main_v18, val_main_cst_3, val_main_v19, val_main_v20, val_main_cst_4, val_main_v21, val_main_v22, val_main_v23, val_main_cst_5, val_main_v24, val_main_v25, val_main_v26, val_main_cst_6, val_main_v27, val_main_v28, val_main_v29, val_main_cst_7, val_main_v30, val_main_v31, val_main_v32, val_main_v33, val_main_v34, val_main_v35]

theorem refM : val_main_v34 (F := Ideal) g0 g1 g2 u = tM g0 g1 g2 u := by
  funext i
  idx_vars i
  show _ = mean (ga g0 g1 g2 (ix2 i0 i1)) (flat u (ix2 i0 i1))
  pointwise [ga, flat, mean, val_main_cst, val_main_v8, val_main_v9, val_main_cst_0, val_main_v10, val_main_v11, val_main_v12, val_main_cst_1, val_main_v13, val_main_v14, val_main_v15, val_main_cst_2, val_main_v16, val_main_v17, val_main_v18, val_main_cst_3, val_main_v19, val_main_v20, val_main_cst_4, val_main_v21, val_main_v22, val_main_v23, val_main_cst_5, val_main_v24, val_main_v25, val_main_v26, val_main_cst_6, val_main_v27, val_main_v28, val_main_v29, val_main_cst_7, val_main_v30, val_main_v31, val_main_v32, val_main_v33, val_main_v34, val_main_v35]

theorem refV : val_main_v35 (F := Ideal) g0 g1 g2 v = tV g0 g1 g2 v := by
  funext i
  idx_vars i
  show _ = square (ga g0 g1 g2 (ix2 i0 i1)) (flat v (ix2 i0 i1))
  pointwise [ga, flat, square, val_main_cst, val_main_v8, val_main_v9, val_main_cst_0, val_main_v10, val_main_v11, val_main_v12, val_main_cst_1, val_main_v13, val_main_v14, val_main_v15, val_main_cst_2, val_main_v16, val_main_v17, val_main_v18, val_main_cst_3, val_main_v19, val_main_v20, val_main_cst_4, val_main_v21, val_main_v22, val_main_v23, val_main_cst_5, val_main_v24, val_main_v25, val_main_v26, val_main_cst_6, val_main_v27, val_main_v28, val_main_v29, val_main_cst_7, val_main_v30, val_main_v31, val_main_v32, val_main_v33, val_main_v34, val_main_v35]

end ref

variable (V : (c : Dev nD) → (b : Ref sig .tc) → Buf (Elt Ideal) ((c : Thread nD τ).loc b)) (c : Dev nD)
  (g0 : FVec Ideal S2048x1024 .bf16) (g1 : FVec Ideal S2048x1024 .bf16) (g2 : FVec Ideal S4096x1024 .bf16)
  (x u v : FVec Ideal S4x1024x1024 .f32)

/-! ## Call 0: rows 0 to 1024 -/

theorem idx0 : ∀ t : Fin cfg0.N, win0_0.index t = ![2 + t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay0
variable (g : Vec Ideal S512x1024 .bf16) (x u v : Vec Ideal S512x1024 .f32) (r : Fin 512) (q : Fin 1024)

theorem pay0_1 : k0_pay1 (F := Ideal) g (ix2 r q) = g (ix2 r q) := by
  pointwise [k0_pay1]

theorem pay0_2 : k0_pay2 (F := Ideal) g u (ix2 r q) = mean (g (ix2 r q)) (u (ix2 r q)) := by
  pointwise [k0_pay2, k0_pay1, mean]

theorem pay0_3 : k0_pay3 (F := Ideal) g v (ix2 r q) = square (g (ix2 r q)) (v (ix2 r q)) := by
  pointwise [k0_pay3, k0_pay1, square]

theorem pay0_4 : k0_pay4 (F := Ideal) g u v x (ix2 r q) = delta (g (ix2 r q)) (x (ix2 r q)) (u (ix2 r q)) (v (ix2 r q)) := by
  pointwise [k0_pay4, k0_pay3, k0_pay2, k0_pay1, delta, mean, square]

end pay0

/-- The blocks a grid point reads. -/
def gb0 (t : Fin cfg0.N) : Vec Ideal S512x1024 .bf16 := iblk0 V c 0 t
def wb0 (t : Fin cfg0.N) : Vec Ideal S512x1024 .f32 := iblk0 V c 1 t
def ub0 (t : Fin cfg0.N) : Vec Ideal S512x1024 .f32 := iblk0 V c 2 t
def qb0 (t : Fin cfg0.N) : Vec Ideal S512x1024 .f32 := iblk0 V c 3 t

section reads0
variable (t : Fin cfg0.N) (y : Fin 512) (q : Fin 1024) (r : Fin 4096) (hr : r.val = t.val * 512 + y.val)

include hr in
theorem gb0_at (hG : V c main_arg0 = g0) : gb0 V c t (ix2 y q) = ga g0 g1 g2 (ix2 r q) := by
  have hb : t.val < 2 := t.isLt
  refine Eq.trans ?_ (ga0 g0 g1 g2 r q (by omega) (by omega) ⟨(2 + t.val) * 512 + y.val, by omega⟩ (by show (2 + t.val) * 512 + y.val = _; omega)).symm
  rw [← hG]
  unfold gb0
  blk_ext [iblk0, idx0 t, hr]

include hr in
theorem wb0_at (hW : V c main_v0 = flat x) : wb0 V c t (ix2 y q) = flat x (ix2 r q) := by
  rw [← hW]
  unfold wb0
  blk_ext [iblk0, idx0 t, hr]

include hr in
theorem ub0_at (hW : V c main_v1 = flat u) : ub0 V c t (ix2 y q) = flat u (ix2 r q) := by
  rw [← hW]
  unfold ub0
  blk_ext [iblk0, idx0 t, hr]

include hr in
theorem qb0_at (hW : V c main_v2 = flat v) : qb0 V c t (ix2 y q) = flat v (ix2 r q) := by
  rw [← hW]
  unfold qb0
  blk_ext [iblk0, idx0 t, hr]

end reads0

theorem fin0_4 (hG : V c main_arg0 = g0) :
    (dat0 V c).arrAt 4 cfg0.N = fun i : S4096x1024.Idx => if (i 0).val < 1024 then tG g0 g1 g2 i else V c main_v3_0 i := by
  refine (dat0 V c).arrAt_eq_of_coversWhere 4 _ (fun β => β (0 : Fin 2) < 2) (by decide +kernel) (fun t _ y => ?_)
    (fun i => by blk_simp [Pipeline.Window.cell_apply]; omega)
  blk_simp
  rw [after0_4]
  frame_out
  idx_vars y
  have hb : t.val < 2 := t.isLt
  refine (pay0_1 (gb0 V c t) y0 y1).trans ?_
  have hr : (⟨t.val * 512 + y0.val, by omega⟩ : Fin 4096).val = t.val * 512 + y0.val := rfl
  rw [gb0_at V c g0 g1 g2 t y0 y1 _ hr hG]
  refine (show _ = tG g0 g1 g2 (ix2 ⟨t.val * 512 + y0.val, by omega⟩ y1) from rfl).trans ?_
  blk_ext [idx0 t]

theorem fin0_5 (hG : V c main_arg0 = g0) (hX : V c main_v0 = flat x) (hU : V c main_v1 = flat u) (hV : V c main_v2 = flat v) :
    (dat0 V c).arrAt 5 cfg0.N = fun i : S4096x1024.Idx => if (i 0).val < 1024 then tD g0 g1 g2 x u v i else V c main_v3_1 i := by
  refine (dat0 V c).arrAt_eq_of_coversWhere 5 _ (fun β => β (0 : Fin 2) < 2) (by decide +kernel) (fun t _ y => ?_)
    (fun i => by blk_simp [Pipeline.Window.cell_apply]; omega)
  blk_simp
  rw [after0_5]
  frame_out
  idx_vars y
  have hb : t.val < 2 := t.isLt
  refine (pay0_4 (gb0 V c t) (wb0 V c t) (ub0 V c t) (qb0 V c t) y0 y1).trans ?_
  have hr : (⟨t.val * 512 + y0.val, by omega⟩ : Fin 4096).val = t.val * 512 + y0.val := rfl
  rw [gb0_at V c g0 g1 g2 t y0 y1 _ hr hG, wb0_at V c x t y0 y1 _ hr hX, ub0_at V c u t y0 y1 _ hr hU, qb0_at V c v t y0 y1 _ hr hV]
  refine (show _ = tD g0 g1 g2 x u v (ix2 ⟨t.val * 512 + y0.val, by omega⟩ y1) from rfl).trans ?_
  blk_ext [idx0 t]

theorem fin0_6 (hG : V c main_arg0 = g0) (hU : V c main_v1 = flat u) :
    (dat0 V c).arrAt 6 cfg0.N = fun i : S4096x1024.Idx => if (i 0).val < 1024 then tM g0 g1 g2 u i else V c main_v3_2 i := by
  refine (dat0 V c).arrAt_eq_of_coversWhere 6 _ (fun β => β (0 : Fin 2) < 2) (by decide +kernel) (fun t _ y => ?_)
    (fun i => by blk_simp [Pipeline.Window.cell_apply]; omega)
  blk_simp
  rw [after0_6]
  frame_out
  idx_vars y
  have hb : t.val < 2 := t.isLt
  refine (pay0_2 (gb0 V c t) (ub0 V c t) y0 y1).trans ?_
  have hr : (⟨t.val * 512 + y0.val, by omega⟩ : Fin 4096).val = t.val * 512 + y0.val := rfl
  rw [gb0_at V c g0 g1 g2 t y0 y1 _ hr hG, ub0_at V c u t y0 y1 _ hr hU]
  refine (show _ = tM g0 g1 g2 u (ix2 ⟨t.val * 512 + y0.val, by omega⟩ y1) from rfl).trans ?_
  blk_ext [idx0 t]

theorem fin0_7 (hG : V c main_arg0 = g0) (hV : V c main_v2 = flat v) :
    (dat0 V c).arrAt 7 cfg0.N = fun i : S4096x1024.Idx => if (i 0).val < 1024 then tV g0 g1 g2 v i else V c main_v3_3 i := by
  refine (dat0 V c).arrAt_eq_of_coversWhere 7 _ (fun β => β (0 : Fin 2) < 2) (by decide +kernel) (fun t _ y => ?_)
    (fun i => by blk_simp [Pipeline.Window.cell_apply]; omega)
  blk_simp
  rw [after0_7]
  frame_out
  idx_vars y
  have hb : t.val < 2 := t.isLt
  refine (pay0_3 (gb0 V c t) (qb0 V c t) y0 y1).trans ?_
  have hr : (⟨t.val * 512 + y0.val, by omega⟩ : Fin 4096).val = t.val * 512 + y0.val := rfl
  rw [gb0_at V c g0 g1 g2 t y0 y1 _ hr hG, qb0_at V c v t y0 y1 _ hr hV]
  refine (show _ = tV g0 g1 g2 v (ix2 ⟨t.val * 512 + y0.val, by omega⟩ y1) from rfl).trans ?_
  blk_ext [idx0 t]

/-! ## Call 1: rows 1024 to 2048 -/

theorem idx1 : ∀ t : Fin cfg1.N, win1_0.index t = ![2 + t.val, 0] ∧ win1_1.index t = ![2 + t.val, 0] ∧ win1_2.index t = ![2 + t.val, 0]
    ∧ win1_3.index t = ![2 + t.val, 0] ∧ win1_4.index t = ![2 + t.val, 0] ∧ win1_5.index t = ![2 + t.val, 0]
    ∧ win1_6.index t = ![2 + t.val, 0] ∧ win1_7.index t = ![2 + t.val, 0] :=
  (by decide +kernel : ∀ t : Fin grid1.N, _)

section pay1
variable (g : Vec Ideal S512x1024 .bf16) (x u v : Vec Ideal S512x1024 .f32) (r : Fin 512) (q : Fin 1024)

theorem pay1_1 : k1_pay1 (F := Ideal) g (ix2 r q) = g (ix2 r q) := by
  pointwise [k1_pay1]

theorem pay1_2 : k1_pay2 (F := Ideal) g u (ix2 r q) = mean (g (ix2 r q)) (u (ix2 r q)) := by
  pointwise [k1_pay2, k1_pay1, mean]

theorem pay1_3 : k1_pay3 (F := Ideal) g v (ix2 r q) = square (g (ix2 r q)) (v (ix2 r q)) := by
  pointwise [k1_pay3, k1_pay1, square]

theorem pay1_4 : k1_pay4 (F := Ideal) g u v x (ix2 r q) = delta (g (ix2 r q)) (x (ix2 r q)) (u (ix2 r q)) (v (ix2 r q)) := by
  pointwise [k1_pay4, k1_pay3, k1_pay2, k1_pay1, delta, mean, square]

end pay1

/-- The blocks a grid point reads. -/
def gb1 (t : Fin cfg1.N) : Vec Ideal S512x1024 .bf16 := iblk1 V c 0 t
def wb1 (t : Fin cfg1.N) : Vec Ideal S512x1024 .f32 := iblk1 V c 1 t
def ub1 (t : Fin cfg1.N) : Vec Ideal S512x1024 .f32 := iblk1 V c 2 t
def qb1 (t : Fin cfg1.N) : Vec Ideal S512x1024 .f32 := iblk1 V c 3 t

section reads1
variable (t : Fin cfg1.N) (y : Fin 512) (q : Fin 1024) (r : Fin 4096) (hr : r.val = (2 + t.val) * 512 + y.val)

include hr in
theorem gb1_at (hG : V c main_arg1 = g1) : gb1 V c t (ix2 y q) = ga g0 g1 g2 (ix2 r q) := by
  have hb : t.val < 2 := t.isLt
  refine Eq.trans ?_ (ga1 g0 g1 g2 r q (by omega) (by omega) ⟨(2 + t.val) * 512 + y.val, by omega⟩ (by show (2 + t.val) * 512 + y.val = _; omega)).symm
  rw [← hG]
  unfold gb1
  blk_ext [iblk1, idx1 t, hr]

include hr in
theorem wb1_at (hW : V c main_v4 = flat x) : wb1 V c t (ix2 y q) = flat x (ix2 r q) := by
  rw [← hW]
  unfold wb1
  blk_ext [iblk1, idx1 t, hr]

include hr in
theorem ub1_at (hW : V c main_v5 = flat u) : ub1 V c t (ix2 y q) = flat u (ix2 r q) := by
  rw [← hW]
  unfold ub1
  blk_ext [iblk1, idx1 t, hr]

include hr in
theorem qb1_at (hW : V c main_v6 = flat v) : qb1 V c t (ix2 y q) = flat v (ix2 r q) := by
  rw [← hW]
  unfold qb1
  blk_ext [iblk1, idx1 t, hr]

end reads1

theorem fin1_4 (hG : V c main_arg1 = g1) :
    (dat1 V c).arrAt 4 cfg1.N = fun i : S4096x1024.Idx => if 1024 ≤ (i 0).val ∧ (i 0).val < 2048 then tG g0 g1 g2 i else V c main_v7_0 i := by
  refine (dat1 V c).arrAt_eq_of_coversWhere 4 _ (fun β => 2 ≤ β (0 : Fin 2) ∧ β (0 : Fin 2) < 4) (by decide +kernel) (fun t _ y => ?_)
    (fun i => by blk_simp [Pipeline.Window.cell_apply]; omega)
  blk_simp
  rw [after1_4]
  unfold outsAt1
  frame_out
  idx_vars y
  have hb : t.val < 2 := t.isLt
  refine (pay1_1 (gb1 V c t) y0 y1).trans ?_
  have hr : (⟨(2 + t.val) * 512 + y0.val, by omega⟩ : Fin 4096).val = (2 + t.val) * 512 + y0.val := rfl
  rw [gb1_at V c g0 g1 g2 t y0 y1 _ hr hG]
  refine (show _ = tG g0 g1 g2 (ix2 ⟨(2 + t.val) * 512 + y0.val, by omega⟩ y1) from rfl).trans ?_
  blk_ext [idx1 t]

theorem fin1_5 (hG : V c main_arg1 = g1) (hX : V c main_v4 = flat x) (hU : V c main_v5 = flat u) (hV : V c main_v6 = flat v) :
    (dat1 V c).arrAt 5 cfg1.N = fun i : S4096x1024.Idx => if 1024 ≤ (i 0).val ∧ (i 0).val < 2048 then tD g0 g1 g2 x u v i else V c main_v7_1 i := by
  refine (dat1 V c).arrAt_eq_of_coversWhere 5 _ (fun β => 2 ≤ β (0 : Fin 2) ∧ β (0 : Fin 2) < 4) (by decide +kernel) (fun t _ y => ?_)
    (fun i => by blk_simp [Pipeline.Window.cell_apply]; omega)
  blk_simp
  rw [after1_5]
  unfold outsAt1
  frame_out
  idx_vars y
  have hb : t.val < 2 := t.isLt
  refine (pay1_4 (gb1 V c t) (wb1 V c t) (ub1 V c t) (qb1 V c t) y0 y1).trans ?_
  have hr : (⟨(2 + t.val) * 512 + y0.val, by omega⟩ : Fin 4096).val = (2 + t.val) * 512 + y0.val := rfl
  rw [gb1_at V c g0 g1 g2 t y0 y1 _ hr hG, wb1_at V c x t y0 y1 _ hr hX, ub1_at V c u t y0 y1 _ hr hU, qb1_at V c v t y0 y1 _ hr hV]
  refine (show _ = tD g0 g1 g2 x u v (ix2 ⟨(2 + t.val) * 512 + y0.val, by omega⟩ y1) from rfl).trans ?_
  blk_ext [idx1 t]

theorem fin1_6 (hG : V c main_arg1 = g1) (hU : V c main_v5 = flat u) :
    (dat1 V c).arrAt 6 cfg1.N = fun i : S4096x1024.Idx => if 1024 ≤ (i 0).val ∧ (i 0).val < 2048 then tM g0 g1 g2 u i else V c main_v7_2 i := by
  refine (dat1 V c).arrAt_eq_of_coversWhere 6 _ (fun β => 2 ≤ β (0 : Fin 2) ∧ β (0 : Fin 2) < 4) (by decide +kernel) (fun t _ y => ?_)
    (fun i => by blk_simp [Pipeline.Window.cell_apply]; omega)
  blk_simp
  rw [after1_6]
  unfold outsAt1
  frame_out
  idx_vars y
  have hb : t.val < 2 := t.isLt
  refine (pay1_2 (gb1 V c t) (ub1 V c t) y0 y1).trans ?_
  have hr : (⟨(2 + t.val) * 512 + y0.val, by omega⟩ : Fin 4096).val = (2 + t.val) * 512 + y0.val := rfl
  rw [gb1_at V c g0 g1 g2 t y0 y1 _ hr hG, ub1_at V c u t y0 y1 _ hr hU]
  refine (show _ = tM g0 g1 g2 u (ix2 ⟨(2 + t.val) * 512 + y0.val, by omega⟩ y1) from rfl).trans ?_
  blk_ext [idx1 t]

theorem fin1_7 (hG : V c main_arg1 = g1) (hV : V c main_v6 = flat v) :
    (dat1 V c).arrAt 7 cfg1.N = fun i : S4096x1024.Idx => if 1024 ≤ (i 0).val ∧ (i 0).val < 2048 then tV g0 g1 g2 v i else V c main_v7_3 i := by
  refine (dat1 V c).arrAt_eq_of_coversWhere 7 _ (fun β => 2 ≤ β (0 : Fin 2) ∧ β (0 : Fin 2) < 4) (by decide +kernel) (fun t _ y => ?_)
    (fun i => by blk_simp [Pipeline.Window.cell_apply]; omega)
  blk_simp
  rw [after1_7]
  unfold outsAt1
  frame_out
  idx_vars y
  have hb : t.val < 2 := t.isLt
  refine (pay1_3 (gb1 V c t) (qb1 V c t) y0 y1).trans ?_
  have hr : (⟨(2 + t.val) * 512 + y0.val, by omega⟩ : Fin 4096).val = (2 + t.val) * 512 + y0.val := rfl
  rw [gb1_at V c g0 g1 g2 t y0 y1 _ hr hG, qb1_at V c v t y0 y1 _ hr hV]
  refine (show _ = tV g0 g1 g2 v (ix2 ⟨(2 + t.val) * 512 + y0.val, by omega⟩ y1) from rfl).trans ?_
  blk_ext [idx1 t]

/-! ## Call 2: rows 2048 to 4096 -/

theorem idx2 : ∀ t : Fin cfg2.N, win2_0.index t = ![4 + t.val, 0] ∧ win2_1.index t = ![4 + t.val, 0] ∧ win2_2.index t = ![4 + t.val, 0]
    ∧ win2_3.index t = ![4 + t.val, 0] ∧ win2_4.index t = ![4 + t.val, 0] ∧ win2_5.index t = ![4 + t.val, 0]
    ∧ win2_6.index t = ![4 + t.val, 0] ∧ win2_7.index t = ![4 + t.val, 0] :=
  (by decide +kernel : ∀ t : Fin grid2.N, _)

section pay2
variable (g : Vec Ideal S512x1024 .bf16) (x u v : Vec Ideal S512x1024 .f32) (r : Fin 512) (q : Fin 1024)

theorem pay2_1 : k2_pay1 (F := Ideal) g (ix2 r q) = g (ix2 r q) := by
  pointwise [k2_pay1]

theorem pay2_2 : k2_pay2 (F := Ideal) g u (ix2 r q) = mean (g (ix2 r q)) (u (ix2 r q)) := by
  pointwise [k2_pay2, k2_pay1, mean]

theorem pay2_3 : k2_pay3 (F := Ideal) g v (ix2 r q) = square (g (ix2 r q)) (v (ix2 r q)) := by
  pointwise [k2_pay3, k2_pay1, square]

theorem pay2_4 : k2_pay4 (F := Ideal) g u v x (ix2 r q) = delta (g (ix2 r q)) (x (ix2 r q)) (u (ix2 r q)) (v (ix2 r q)) := by
  pointwise [k2_pay4, k2_pay3, k2_pay2, k2_pay1, delta, mean, square]

end pay2

/-- The blocks a grid point reads. -/
def gb2 (t : Fin cfg2.N) : Vec Ideal S512x1024 .bf16 := iblk2 V c 0 t
def wb2 (t : Fin cfg2.N) : Vec Ideal S512x1024 .f32 := iblk2 V c 1 t
def ub2 (t : Fin cfg2.N) : Vec Ideal S512x1024 .f32 := iblk2 V c 2 t
def qb2 (t : Fin cfg2.N) : Vec Ideal S512x1024 .f32 := iblk2 V c 3 t

section reads2
variable (t : Fin cfg2.N) (y : Fin 512) (q : Fin 1024) (r : Fin 4096) (hr : r.val = (4 + t.val) * 512 + y.val)

include hr in
theorem gb2_at (hG : V c main_arg2 = g2) : gb2 V c t (ix2 y q) = ga g0 g1 g2 (ix2 r q) := by
  have hb : t.val < 4 := t.isLt
  refine Eq.trans ?_ (ga2 g0 g1 g2 r q (by omega) (by omega) ⟨(4 + t.val) * 512 + y.val, by omega⟩ (by show (4 + t.val) * 512 + y.val = _; omega)).symm
  rw [← hG]
  unfold gb2
  blk_ext [iblk2, idx2 t, hr]

include hr in
theorem wb2_at (hW : V c main_v8 = flat x) : wb2 V c t (ix2 y q) = flat x (ix2 r q) := by
  rw [← hW]
  unfold wb2
  blk_ext [iblk2, idx2 t, hr]

include hr in
theorem ub2_at (hW : V c main_v9 = flat u) : ub2 V c t (ix2 y q) = flat u (ix2 r q) := by
  rw [← hW]
  unfold ub2
  blk_ext [iblk2, idx2 t, hr]

include hr in
theorem qb2_at (hW : V c main_v10 = flat v) : qb2 V c t (ix2 y q) = flat v (ix2 r q) := by
  rw [← hW]
  unfold qb2
  blk_ext [iblk2, idx2 t, hr]

end reads2

theorem fin2_4 (hG : V c main_arg2 = g2) :
    (dat2 V c).arrAt 4 cfg2.N = fun i : S4096x1024.Idx => if 2048 ≤ (i 0).val ∧ (i 0).val < 4096 then tG g0 g1 g2 i else V c main_v11_0 i := by
  refine (dat2 V c).arrAt_eq_of_coversWhere 4 _ (fun β => 4 ≤ β (0 : Fin 2) ∧ β (0 : Fin 2) < 8) (by decide +kernel) (fun t _ y => ?_)
    (fun i => by blk_simp [Pipeline.Window.cell_apply]; omega)
  blk_simp
  rw [after2_4]
  unfold outsAt2
  frame_out
  idx_vars y
  have hb : t.val < 4 := t.isLt
  refine (pay2_1 (gb2 V c t) y0 y1).trans ?_
  have hr : (⟨(4 + t.val) * 512 + y0.val, by omega⟩ : Fin 4096).val = (4 + t.val) * 512 + y0.val := rfl
  rw [gb2_at V c g0 g1 g2 t y0 y1 _ hr hG]
  refine (show _ = tG g0 g1 g2 (ix2 ⟨(4 + t.val) * 512 + y0.val, by omega⟩ y1) from rfl).trans ?_
  blk_ext [idx2 t]

theorem fin2_5 (hG : V c main_arg2 = g2) (hX : V c main_v8 = flat x) (hU : V c main_v9 = flat u) (hV : V c main_v10 = flat v) :
    (dat2 V c).arrAt 5 cfg2.N = fun i : S4096x1024.Idx => if 2048 ≤ (i 0).val ∧ (i 0).val < 4096 then tD g0 g1 g2 x u v i else V c main_v11_1 i := by
  refine (dat2 V c).arrAt_eq_of_coversWhere 5 _ (fun β => 4 ≤ β (0 : Fin 2) ∧ β (0 : Fin 2) < 8) (by decide +kernel) (fun t _ y => ?_)
    (fun i => by blk_simp [Pipeline.Window.cell_apply]; omega)
  blk_simp
  rw [after2_5]
  unfold outsAt2
  frame_out
  idx_vars y
  have hb : t.val < 4 := t.isLt
  refine (pay2_4 (gb2 V c t) (wb2 V c t) (ub2 V c t) (qb2 V c t) y0 y1).trans ?_
  have hr : (⟨(4 + t.val) * 512 + y0.val, by omega⟩ : Fin 4096).val = (4 + t.val) * 512 + y0.val := rfl
  rw [gb2_at V c g0 g1 g2 t y0 y1 _ hr hG, wb2_at V c x t y0 y1 _ hr hX, ub2_at V c u t y0 y1 _ hr hU, qb2_at V c v t y0 y1 _ hr hV]
  refine (show _ = tD g0 g1 g2 x u v (ix2 ⟨(4 + t.val) * 512 + y0.val, by omega⟩ y1) from rfl).trans ?_
  blk_ext [idx2 t]

theorem fin2_6 (hG : V c main_arg2 = g2) (hU : V c main_v9 = flat u) :
    (dat2 V c).arrAt 6 cfg2.N = fun i : S4096x1024.Idx => if 2048 ≤ (i 0).val ∧ (i 0).val < 4096 then tM g0 g1 g2 u i else V c main_v11_2 i := by
  refine (dat2 V c).arrAt_eq_of_coversWhere 6 _ (fun β => 4 ≤ β (0 : Fin 2) ∧ β (0 : Fin 2) < 8) (by decide +kernel) (fun t _ y => ?_)
    (fun i => by blk_simp [Pipeline.Window.cell_apply]; omega)
  blk_simp
  rw [after2_6]
  unfold outsAt2
  frame_out
  idx_vars y
  have hb : t.val < 4 := t.isLt
  refine (pay2_2 (gb2 V c t) (ub2 V c t) y0 y1).trans ?_
  have hr : (⟨(4 + t.val) * 512 + y0.val, by omega⟩ : Fin 4096).val = (4 + t.val) * 512 + y0.val := rfl
  rw [gb2_at V c g0 g1 g2 t y0 y1 _ hr hG, ub2_at V c u t y0 y1 _ hr hU]
  refine (show _ = tM g0 g1 g2 u (ix2 ⟨(4 + t.val) * 512 + y0.val, by omega⟩ y1) from rfl).trans ?_
  blk_ext [idx2 t]

theorem fin2_7 (hG : V c main_arg2 = g2) (hV : V c main_v10 = flat v) :
    (dat2 V c).arrAt 7 cfg2.N = fun i : S4096x1024.Idx => if 2048 ≤ (i 0).val ∧ (i 0).val < 4096 then tV g0 g1 g2 v i else V c main_v11_3 i := by
  refine (dat2 V c).arrAt_eq_of_coversWhere 7 _ (fun β => 4 ≤ β (0 : Fin 2) ∧ β (0 : Fin 2) < 8) (by decide +kernel) (fun t _ y => ?_)
    (fun i => by blk_simp [Pipeline.Window.cell_apply]; omega)
  blk_simp
  rw [after2_7]
  unfold outsAt2
  frame_out
  idx_vars y
  have hb : t.val < 4 := t.isLt
  refine (pay2_3 (gb2 V c t) (qb2 V c t) y0 y1).trans ?_
  have hr : (⟨(4 + t.val) * 512 + y0.val, by omega⟩ : Fin 4096).val = (4 + t.val) * 512 + y0.val := rfl
  rw [gb2_at V c g0 g1 g2 t y0 y1 _ hr hG, qb2_at V c v t y0 y1 _ hr hV]
  refine (show _ = tV g0 g1 g2 v (ix2 ⟨(4 + t.val) * 512 + y0.val, by omega⟩ y1) from rfl).trans ?_
  blk_ext [idx2 t]

end Cert.AdFoIdeal.Arr
end
-- ==== Proof.AdFoRun.lean ====
/- The run of the calls for the second layer's weight: what it leaves in the results, read back through the contents between the calls. -/
module

public import proofs.«01_k».proof.Proof.AdFoArr

@[expose] public section

set_option maxRecDepth 16384

noncomputable section

namespace Cert.AdFoIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdFoIdeal Cert.AdFoIdeal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments: the slabs, the weight, its moments. -/
abbrev g0 : FVec Ideal S2048x1024 .bf16 := m ((c.tc : Thread nD τ).loc main_arg0)
abbrev g1 : FVec Ideal S2048x1024 .bf16 := m ((c.tc : Thread nD τ).loc main_arg1)
abbrev g2 : FVec Ideal S4096x1024 .bf16 := m ((c.tc : Thread nD τ).loc main_arg2)
abbrev x : FVec Ideal S4x1024x1024 .f32 := m ((c.tc : Thread nD τ).loc main_arg3)
abbrev u : FVec Ideal S4x1024x1024 .f32 := m ((c.tc : Thread nD τ).loc main_arg4)
abbrev v : FVec Ideal S4x1024x1024 .f32 := m ((c.tc : Thread nD τ).loc main_arg5)

/-! ## Call 0 -/

theorem hG0 : V1 m ρ c main_arg0 = g0 m c := W1_args m ρ c main_arg0 (by decide)
theorem hX0 : V1 m ρ c main_v0 = flat (x m c) := by
  have e : V1 m ρ c main_v0 = flat (W0 m ρ c (Proc.devRef .tc main_arg3)) := by
    show StableHlo.after hostOps0 _ _ = _
    after_results
    rfl
  exact e.trans (congrArg flat (W0_args m ρ c main_arg3 (by decide)))
theorem hU0 : V1 m ρ c main_v1 = flat (u m c) := by
  have e : V1 m ρ c main_v1 = flat (W0 m ρ c (Proc.devRef .tc main_arg4)) := by
    show StableHlo.after hostOps0 _ _ = _
    after_results
    rfl
  exact e.trans (congrArg flat (W0_args m ρ c main_arg4 (by decide)))
theorem hV0 : V1 m ρ c main_v2 = flat (v m c) := by
  have e : V1 m ρ c main_v2 = flat (W0 m ρ c (Proc.devRef .tc main_arg5)) := by
    show StableHlo.after hostOps0 _ _ = _
    after_results
    rfl
  exact e.trans (congrArg flat (W0_args m ρ c main_arg5 (by decide)))
theorem end0_0 : W2 m ρ c (Proc.devRef .tc main_v3_0)
    = fun i : S4096x1024.Idx => if (i 0).val < 1024 then tG (g0 m c) (g1 m c) (g2 m c) i else V1 m ρ c main_v3_0 i :=
  (W2_arr m ρ c 4).trans (fin0_4 (V1 m ρ) c (g0 m c) (g1 m c) (g2 m c) (hG0 m ρ c))
theorem end0_1 : W2 m ρ c (Proc.devRef .tc main_v3_1)
    = fun i : S4096x1024.Idx => if (i 0).val < 1024 then tD (g0 m c) (g1 m c) (g2 m c) (x m c) (u m c) (v m c) i else V1 m ρ c main_v3_1 i :=
  (W2_arr m ρ c 5).trans (fin0_5 (V1 m ρ) c (g0 m c) (g1 m c) (g2 m c) (x m c) (u m c) (v m c) (hG0 m ρ c) (hX0 m ρ c) (hU0 m ρ c) (hV0 m ρ c))
theorem end0_2 : W2 m ρ c (Proc.devRef .tc main_v3_2)
    = fun i : S4096x1024.Idx => if (i 0).val < 1024 then tM (g0 m c) (g1 m c) (g2 m c) (u m c) i else V1 m ρ c main_v3_2 i :=
  (W2_arr m ρ c 6).trans (fin0_6 (V1 m ρ) c (g0 m c) (g1 m c) (g2 m c) (u m c) (hG0 m ρ c) (hU0 m ρ c))
theorem end0_3 : W2 m ρ c (Proc.devRef .tc main_v3_3)
    = fun i : S4096x1024.Idx => if (i 0).val < 1024 then tV (g0 m c) (g1 m c) (g2 m c) (v m c) i else V1 m ρ c main_v3_3 i :=
  (W2_arr m ρ c 7).trans (fin0_7 (V1 m ρ) c (g0 m c) (g1 m c) (g2 m c) (v m c) (hG0 m ρ c) (hV0 m ρ c))

/-! ## Call 1 -/

theorem hG1 : V3 m ρ c main_arg1 = g1 m c := W3_args m ρ c main_arg1 (by decide)
theorem hX1 : V3 m ρ c main_v4 = flat (x m c) := by
  have e : V3 m ρ c main_v4 = flat (W2 m ρ c (Proc.devRef .tc main_arg3)) := by
    show StableHlo.after hostOps1 _ _ = _
    after_results
    rfl
  exact e.trans (congrArg flat (W2_args m ρ c main_arg3 (by decide)))
theorem hU1 : V3 m ρ c main_v5 = flat (u m c) := by
  have e : V3 m ρ c main_v5 = flat (W2 m ρ c (Proc.devRef .tc main_arg4)) := by
    show StableHlo.after hostOps1 _ _ = _
    after_results
    rfl
  exact e.trans (congrArg flat (W2_args m ρ c main_arg4 (by decide)))
theorem hV1 : V3 m ρ c main_v6 = flat (v m c) := by
  have e : V3 m ρ c main_v6 = flat (W2 m ρ c (Proc.devRef .tc main_arg5)) := by
    show StableHlo.after hostOps1 _ _ = _
    after_results
    rfl
  exact e.trans (congrArg flat (W2_args m ρ c main_arg5 (by decide)))
theorem end1_0 : W4 m ρ c (Proc.devRef .tc main_v7_0)
    = fun i : S4096x1024.Idx => if 1024 ≤ (i 0).val ∧ (i 0).val < 2048 then tG (g0 m c) (g1 m c) (g2 m c) i else V3 m ρ c main_v7_0 i :=
  (W4_arr m ρ c 4).trans (fin1_4 (V3 m ρ) c (g0 m c) (g1 m c) (g2 m c) (hG1 m ρ c))
theorem copy1_0 : V3 m ρ c main_v7_0 = W2 m ρ c (Proc.devRef .tc main_v3_0) := by
  show StableHlo.after hostOps1 _ _ = _
  after_results
  rfl
theorem end1_1 : W4 m ρ c (Proc.devRef .tc main_v7_1)
    = fun i : S4096x1024.Idx => if 1024 ≤ (i 0).val ∧ (i 0).val < 2048 then tD (g0 m c) (g1 m c) (g2 m c) (x m c) (u m c) (v m c) i else V3 m ρ c main_v7_1 i :=
  (W4_arr m ρ c 5).trans (fin1_5 (V3 m ρ) c (g0 m c) (g1 m c) (g2 m c) (x m c) (u m c) (v m c) (hG1 m ρ c) (hX1 m ρ c) (hU1 m ρ c) (hV1 m ρ c))
theorem copy1_1 : V3 m ρ c main_v7_1 = W2 m ρ c (Proc.devRef .tc main_v3_1) := by
  show StableHlo.after hostOps1 _ _ = _
  after_results
  rfl
theorem end1_2 : W4 m ρ c (Proc.devRef .tc main_v7_2)
    = fun i : S4096x1024.Idx => if 1024 ≤ (i 0).val ∧ (i 0).val < 2048 then tM (g0 m c) (g1 m c) (g2 m c) (u m c) i else V3 m ρ c main_v7_2 i :=
  (W4_arr m ρ c 6).trans (fin1_6 (V3 m ρ) c (g0 m c) (g1 m c) (g2 m c) (u m c) (hG1 m ρ c) (hU1 m ρ c))
theorem copy1_2 : V3 m ρ c main_v7_2 = W2 m ρ c (Proc.devRef .tc main_v3_2) := by
  show StableHlo.after hostOps1 _ _ = _
  after_results
  rfl
theorem end1_3 : W4 m ρ c (Proc.devRef .tc main_v7_3)
    = fun i : S4096x1024.Idx => if 1024 ≤ (i 0).val ∧ (i 0).val < 2048 then tV (g0 m c) (g1 m c) (g2 m c) (v m c) i else V3 m ρ c main_v7_3 i :=
  (W4_arr m ρ c 7).trans (fin1_7 (V3 m ρ) c (g0 m c) (g1 m c) (g2 m c) (v m c) (hG1 m ρ c) (hV1 m ρ c))
theorem copy1_3 : V3 m ρ c main_v7_3 = W2 m ρ c (Proc.devRef .tc main_v3_3) := by
  show StableHlo.after hostOps1 _ _ = _
  after_results
  rfl

/-! ## Call 2 -/

theorem hG2 : V5 m ρ c main_arg2 = g2 m c := W5_args m ρ c main_arg2 (by decide)
theorem hX2 : V5 m ρ c main_v8 = flat (x m c) := by
  have e : V5 m ρ c main_v8 = flat (W4 m ρ c (Proc.devRef .tc main_arg3)) := by
    show StableHlo.after hostOps2 _ _ = _
    after_results
    rfl
  exact e.trans (congrArg flat (W4_args m ρ c main_arg3 (by decide)))
theorem hU2 : V5 m ρ c main_v9 = flat (u m c) := by
  have e : V5 m ρ c main_v9 = flat (W4 m ρ c (Proc.devRef .tc main_arg4)) := by
    show StableHlo.after hostOps2 _ _ = _
    after_results
    rfl
  exact e.trans (congrArg flat (W4_args m ρ c main_arg4 (by decide)))
theorem hV2 : V5 m ρ c main_v10 = flat (v m c) := by
  have e : V5 m ρ c main_v10 = flat (W4 m ρ c (Proc.devRef .tc main_arg5)) := by
    show StableHlo.after hostOps2 _ _ = _
    after_results
    rfl
  exact e.trans (congrArg flat (W4_args m ρ c main_arg5 (by decide)))
theorem end2_0 : W6 m ρ c (Proc.devRef .tc main_v11_0)
    = fun i : S4096x1024.Idx => if 2048 ≤ (i 0).val ∧ (i 0).val < 4096 then tG (g0 m c) (g1 m c) (g2 m c) i else V5 m ρ c main_v11_0 i :=
  (W6_arr m ρ c 4).trans (fin2_4 (V5 m ρ) c (g0 m c) (g1 m c) (g2 m c) (hG2 m ρ c))
theorem copy2_0 : V5 m ρ c main_v11_0 = W4 m ρ c (Proc.devRef .tc main_v7_0) := by
  show StableHlo.after hostOps2 _ _ = _
  after_results
  rfl
theorem end2_1 : W6 m ρ c (Proc.devRef .tc main_v11_1)
    = fun i : S4096x1024.Idx => if 2048 ≤ (i 0).val ∧ (i 0).val < 4096 then tD (g0 m c) (g1 m c) (g2 m c) (x m c) (u m c) (v m c) i else V5 m ρ c main_v11_1 i :=
  (W6_arr m ρ c 5).trans (fin2_5 (V5 m ρ) c (g0 m c) (g1 m c) (g2 m c) (x m c) (u m c) (v m c) (hG2 m ρ c) (hX2 m ρ c) (hU2 m ρ c) (hV2 m ρ c))
theorem copy2_1 : V5 m ρ c main_v11_1 = W4 m ρ c (Proc.devRef .tc main_v7_1) := by
  show StableHlo.after hostOps2 _ _ = _
  after_results
  rfl
theorem end2_2 : W6 m ρ c (Proc.devRef .tc main_v11_2)
    = fun i : S4096x1024.Idx => if 2048 ≤ (i 0).val ∧ (i 0).val < 4096 then tM (g0 m c) (g1 m c) (g2 m c) (u m c) i else V5 m ρ c main_v11_2 i :=
  (W6_arr m ρ c 6).trans (fin2_6 (V5 m ρ) c (g0 m c) (g1 m c) (g2 m c) (u m c) (hG2 m ρ c) (hU2 m ρ c))
theorem copy2_2 : V5 m ρ c main_v11_2 = W4 m ρ c (Proc.devRef .tc main_v7_2) := by
  show StableHlo.after hostOps2 _ _ = _
  after_results
  rfl
theorem end2_3 : W6 m ρ c (Proc.devRef .tc main_v11_3)
    = fun i : S4096x1024.Idx => if 2048 ≤ (i 0).val ∧ (i 0).val < 4096 then tV (g0 m c) (g1 m c) (g2 m c) (v m c) i else V5 m ρ c main_v11_3 i :=
  (W6_arr m ρ c 7).trans (fin2_7 (V5 m ρ) c (g0 m c) (g1 m c) (g2 m c) (v m c) (hG2 m ρ c) (hV2 m ρ c))
theorem copy2_3 : V5 m ρ c main_v11_3 = W4 m ρ c (Proc.devRef .tc main_v7_3) := by
  show StableHlo.after hostOps2 _ _ = _
  after_results
  rfl

/-! ## What the last call leaves -/

theorem last0 : W6 m ρ c (Proc.devRef .tc main_v11_0) = tG (g0 m c) (g1 m c) (g2 m c) := by
  refine (end2_0 m ρ c).trans (funext fun i => ?_)
  have hb : (i 0).val < 4096 := (i 0).isLt
  split_ifs with h2
  · rfl
  refine (congrFun ((copy2_0 m ρ c).trans (end1_0 m ρ c)) i).trans ?_
  split_ifs with h1
  · rfl
  refine (congrFun ((copy1_0 m ρ c).trans (end0_0 m ρ c)) i).trans ?_
  rw [if_pos (by omega)]

theorem last1 : W6 m ρ c (Proc.devRef .tc main_v11_1) = tD (g0 m c) (g1 m c) (g2 m c) (x m c) (u m c) (v m c) := by
  refine (end2_1 m ρ c).trans (funext fun i => ?_)
  have hb : (i 0).val < 4096 := (i 0).isLt
  split_ifs with h2
  · rfl
  refine (congrFun ((copy2_1 m ρ c).trans (end1_1 m ρ c)) i).trans ?_
  split_ifs with h1
  · rfl
  refine (congrFun ((copy1_1 m ρ c).trans (end0_1 m ρ c)) i).trans ?_
  rw [if_pos (by omega)]

theorem last2 : W6 m ρ c (Proc.devRef .tc main_v11_2) = tM (g0 m c) (g1 m c) (g2 m c) (u m c) := by
  refine (end2_2 m ρ c).trans (funext fun i => ?_)
  have hb : (i 0).val < 4096 := (i 0).isLt
  split_ifs with h2
  · rfl
  refine (congrFun ((copy2_2 m ρ c).trans (end1_2 m ρ c)) i).trans ?_
  split_ifs with h1
  · rfl
  refine (congrFun ((copy1_2 m ρ c).trans (end0_2 m ρ c)) i).trans ?_
  rw [if_pos (by omega)]

theorem last3 : W6 m ρ c (Proc.devRef .tc main_v11_3) = tV (g0 m c) (g1 m c) (g2 m c) (v m c) := by
  refine (end2_3 m ρ c).trans (funext fun i => ?_)
  have hb : (i 0).val < 4096 := (i 0).isLt
  split_ifs with h2
  · rfl
  refine (congrFun ((copy2_3 m ρ c).trans (end1_3 m ρ c)) i).trans ?_
  split_ifs with h1
  · rfl
  refine (congrFun ((copy1_3 m ρ c).trans (end0_3 m ρ c)) i).trans ?_
  rw [if_pos (by omega)]

set_option backward.isDefEq.respectTransparency.types false in
/-- The run leaves the gradient, the change of the weight and the moments in the results, and the arguments as they were. -/
theorem leaves : θ_run defs (onTc (τ := τ) (main (F := Ideal))) ⟨m, fun _ => 0, ρ⟩ (fun r => ∀ c : Dev nD,
      r.2.mem ((c.tc : Thread nD τ).loc main_v11_0) = tG (g0 m c) (g1 m c) (g2 m c)
      ∧ r.2.mem ((c.tc : Thread nD τ).loc main_v11_1) = tD (g0 m c) (g1 m c) (g2 m c) (x m c) (u m c) (v m c)
      ∧ r.2.mem ((c.tc : Thread nD τ).loc main_v11_2) = tM (g0 m c) (g1 m c) (g2 m c) (u m c)
      ∧ r.2.mem ((c.tc : Thread nD τ).loc main_v11_3) = tV (g0 m c) (g1 m c) (g2 m c) (v m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v11_0 (by decide))).trans (last0 m ρ c),
       (h c _ (mem_uc main_v11_1 (by decide))).trans (last1 m ρ c),
       (h c _ (mem_uc main_v11_2 (by decide))).trans (last2 m ρ c),
       (h c _ (mem_uc main_v11_3 (by decide))).trans (last3 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.AdFoIdeal.Arr
end
-- ==== Proof.AdXqArr.lean ====
/- The optimiser's step for the cross-attention's query weight, whose layers' gradients arrive in 3 slabs: 3 calls, each on the rows of its slab. -/
module

public import proofs.«01_k».proof.Proof.AdMath
public import proofs.«01_k».proof.Proof.Gen.AdXqIdeal.Frame
public import proofs.«01_k».proof.Proof.Gen.AdXqRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdXqIdeal.Arr
open Cert.AdXqIdeal Cert.AdXqIdeal.Gen Cert.AdXqRefIdeal.Read Cert.Adam

/-- A weight's layers one below the other. -/
def flat (x : FVec Ideal S4x256x1024 .f32) : FVec Ideal S1024x1024 .f32 := shapeCast S1024x1024 x shapeCasts_S4x256x1024_S1024x1024

section ref
variable (g0 : FVec Ideal S2560x1024 .bf16) (g1 : FVec Ideal S2816x1024 .bf16) (g2 : FVec Ideal S5632x1024 .bf16)
  (x u v : FVec Ideal S4x256x1024 .f32) (r : Fin 1024) (q : Fin 1024)

/-- The gradient, its layers one below the other. -/
def ga : FVec Ideal S1024x1024 .f32 := flat (val_main_v7 (F := Ideal) g0 g1 g2)

theorem ga0 (h0 : 0 ≤ r.val) (h1 : r.val < 256) (p : Fin 2560) (hp : p.val = 2048 + (r.val - 0)) :
    ga g0 g1 g2 (ix2 r q) = g0 (ix2 p q) := by
  pointwise [ga, flat, val_main_v0, val_main_v1, val_main_v2, val_main_v3, val_main_v4, val_main_v5, val_main_v6, val_main_v7]
  rw [dif_pos (by omega)]
  refine congrArg (fun z => g0 (ix2 z q)) (Fin.ext ?_)
  dsimp only
  omega

theorem ga1 (h0 : 256 ≤ r.val) (h1 : r.val < 512) (p : Fin 2816) (hp : p.val = 2048 + (r.val - 256)) :
    ga g0 g1 g2 (ix2 r q) = g1 (ix2 p q) := by
  pointwise [ga, flat, val_main_v0, val_main_v1, val_main_v2, val_main_v3, val_main_v4, val_main_v5, val_main_v6, val_main_v7]
  rw [dif_neg (by omega), dif_pos (by omega)]
  refine congrArg (fun z => g1 (ix2 z q)) (Fin.ext ?_)
  dsimp only
  omega

theorem ga2 (h0 : 512 ≤ r.val) (h1 : r.val < 1024) (p : Fin 5632) (hp : p.val = 4096 + (r.val - 512)) :
    ga g0 g1 g2 (ix2 r q) = g2 (ix2 p q) := by
  pointwise [ga, flat, val_main_v0, val_main_v1, val_main_v2, val_main_v3, val_main_v4, val_main_v5, val_main_v6, val_main_v7]
  rw [dif_neg (by omega), dif_neg (by omega)]
  refine congrArg (fun z => g2 (ix2 z q)) (Fin.ext ?_)
  dsimp only
  omega

/-- The four results: the gradient, the change of the weight, the moments. -/
def tG : FVec Ideal S1024x1024 .f32 := ga g0 g1 g2
def tD : FVec Ideal S1024x1024 .f32 := fun i => delta (ga g0 g1 g2 i) (flat x i) (flat u i) (flat v i)
def tM : FVec Ideal S1024x1024 .f32 := fun i => mean (ga g0 g1 g2 i) (flat u i)
def tV : FVec Ideal S1024x1024 .f32 := fun i => square (ga g0 g1 g2 i) (flat v i)

theorem refG : val_main_v32 (F := Ideal) g0 g1 g2 = tG g0 g1 g2 := rfl

theorem refD : val_main_v33 (F := Ideal) g0 g1 g2 x u v = tD g0 g1 g2 x u v := by
  funext i
  idx_vars i
  show _ = delta (ga g0 g1 g2 (ix2 i0 i1)) (flat x (ix2 i0 i1)) (flat u (ix2 i0 i1)) (flat v (ix2 i0 i1))
  pointwise [ga, flat, delta, mean, square, val_main_cst, val_main_v8, val_main_v9, val_main_cst_0, val_main_v10, val_main_v11, val_main_v12, val_main_cst_1, val_main_v13, val_main_v14, val_main_v15, val_main_cst_2, val_main_v16, val_main_v17, val_main_v18, val_main_cst_3, val_main_v19, val_main_v20, val_main_cst_4, val_main_v21, val_main_v22, val_main_v23, val_main_cst_5, val_main_v24, val_main_v25, val_main_v26, val_main_cst_6, val_main_v27, val_main_v28, val_main_v29, val_main_cst_7, val_main_v30, val_main_v31, val_main_v32, val_main_v33, val_main_v34, val_main_v35]

theorem refM : val_main_v34 (F := Ideal) g0 g1 g2 u = tM g0 g1 g2 u := by
  funext i
  idx_vars i
  show _ = mean (ga g0 g1 g2 (ix2 i0 i1)) (flat u (ix2 i0 i1))
  pointwise [ga, flat, mean, val_main_cst, val_main_v8, val_main_v9, val_main_cst_0, val_main_v10, val_main_v11, val_main_v12, val_main_cst_1, val_main_v13, val_main_v14, val_main_v15, val_main_cst_2, val_main_v16, val_main_v17, val_main_v18, val_main_cst_3, val_main_v19, val_main_v20, val_main_cst_4, val_main_v21, val_main_v22, val_main_v23, val_main_cst_5, val_main_v24, val_main_v25, val_main_v26, val_main_cst_6, val_main_v27, val_main_v28, val_main_v29, val_main_cst_7, val_main_v30, val_main_v31, val_main_v32, val_main_v33, val_main_v34, val_main_v35]

theorem refV : val_main_v35 (F := Ideal) g0 g1 g2 v = tV g0 g1 g2 v := by
  funext i
  idx_vars i
  show _ = square (ga g0 g1 g2 (ix2 i0 i1)) (flat v (ix2 i0 i1))
  pointwise [ga, flat, square, val_main_cst, val_main_v8, val_main_v9, val_main_cst_0, val_main_v10, val_main_v11, val_main_v12, val_main_cst_1, val_main_v13, val_main_v14, val_main_v15, val_main_cst_2, val_main_v16, val_main_v17, val_main_v18, val_main_cst_3, val_main_v19, val_main_v20, val_main_cst_4, val_main_v21, val_main_v22, val_main_v23, val_main_cst_5, val_main_v24, val_main_v25, val_main_v26, val_main_cst_6, val_main_v27, val_main_v28, val_main_v29, val_main_cst_7, val_main_v30, val_main_v31, val_main_v32, val_main_v33, val_main_v34, val_main_v35]

end ref

variable (V : (c : Dev nD) → (b : Ref sig .tc) → Buf (Elt Ideal) ((c : Thread nD τ).loc b)) (c : Dev nD)
  (g0 : FVec Ideal S2560x1024 .bf16) (g1 : FVec Ideal S2816x1024 .bf16) (g2 : FVec Ideal S5632x1024 .bf16)
  (x u v : FVec Ideal S4x256x1024 .f32)

/-! ## Call 0: rows 0 to 256 -/

theorem idx0 : ∀ t : Fin cfg0.N, win0_0.index t = ![8 + t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay0
variable (g : Vec Ideal S256x1024 .bf16) (x u v : Vec Ideal S256x1024 .f32) (r : Fin 256) (q : Fin 1024)

theorem pay0_1 : k0_pay1 (F := Ideal) g (ix2 r q) = g (ix2 r q) := by
  pointwise [k0_pay1]

theorem pay0_2 : k0_pay2 (F := Ideal) g u (ix2 r q) = mean (g (ix2 r q)) (u (ix2 r q)) := by
  pointwise [k0_pay2, k0_pay1, mean]

theorem pay0_3 : k0_pay3 (F := Ideal) g v (ix2 r q) = square (g (ix2 r q)) (v (ix2 r q)) := by
  pointwise [k0_pay3, k0_pay1, square]

theorem pay0_4 : k0_pay4 (F := Ideal) g u v x (ix2 r q) = delta (g (ix2 r q)) (x (ix2 r q)) (u (ix2 r q)) (v (ix2 r q)) := by
  pointwise [k0_pay4, k0_pay3, k0_pay2, k0_pay1, delta, mean, square]

end pay0

/-- The blocks a grid point reads. -/
def gb0 (t : Fin cfg0.N) : Vec Ideal S256x1024 .bf16 := iblk0 V c 0 t
def wb0 (t : Fin cfg0.N) : Vec Ideal S256x1024 .f32 := iblk0 V c 1 t
def ub0 (t : Fin cfg0.N) : Vec Ideal S256x1024 .f32 := iblk0 V c 2 t
def qb0 (t : Fin cfg0.N) : Vec Ideal S256x1024 .f32 := iblk0 V c 3 t

section reads0
variable (t : Fin cfg0.N) (y : Fin 256) (q : Fin 1024) (r : Fin 1024) (hr : r.val = t.val * 256 + y.val)

include hr in
theorem gb0_at (hG : V c main_arg0 = g0) : gb0 V c t (ix2 y q) = ga g0 g1 g2 (ix2 r q) := by
  have hb : t.val < 1 := t.isLt
  refine Eq.trans ?_ (ga0 g0 g1 g2 r q (by omega) (by omega) ⟨(8 + t.val) * 256 + y.val, by omega⟩ (by show (8 + t.val) * 256 + y.val = _; omega)).symm
  rw [← hG]
  unfold gb0
  blk_ext [iblk0, idx0 t, hr]

include hr in
theorem wb0_at (hW : V c main_v0 = flat x) : wb0 V c t (ix2 y q) = flat x (ix2 r q) := by
  rw [← hW]
  unfold wb0
  blk_ext [iblk0, idx0 t, hr]

include hr in
theorem ub0_at (hW : V c main_v1 = flat u) : ub0 V c t (ix2 y q) = flat u (ix2 r q) := by
  rw [← hW]
  unfold ub0
  blk_ext [iblk0, idx0 t, hr]

include hr in
theorem qb0_at (hW : V c main_v2 = flat v) : qb0 V c t (ix2 y q) = flat v (ix2 r q) := by
  rw [← hW]
  unfold qb0
  blk_ext [iblk0, idx0 t, hr]

end reads0

theorem fin0_4 (hG : V c main_arg0 = g0) :
    (dat0 V c).arrAt 4 cfg0.N = fun i : S1024x1024.Idx => if (i 0).val < 256 then tG g0 g1 g2 i else V c main_v3_0 i := by
  refine (dat0 V c).arrAt_eq_of_coversWhere 4 _ (fun β => β (0 : Fin 2) < 1) (by decide +kernel) (fun t _ y => ?_)
    (fun i => by blk_simp [Pipeline.Window.cell_apply]; omega)
  blk_simp
  rw [after0_4]
  frame_out
  idx_vars y
  have hb : t.val < 1 := t.isLt
  refine (pay0_1 (gb0 V c t) y0 y1).trans ?_
  have hr : (⟨t.val * 256 + y0.val, by omega⟩ : Fin 1024).val = t.val * 256 + y0.val := rfl
  rw [gb0_at V c g0 g1 g2 t y0 y1 _ hr hG]
  refine (show _ = tG g0 g1 g2 (ix2 ⟨t.val * 256 + y0.val, by omega⟩ y1) from rfl).trans ?_
  blk_ext [idx0 t]

theorem fin0_5 (hG : V c main_arg0 = g0) (hX : V c main_v0 = flat x) (hU : V c main_v1 = flat u) (hV : V c main_v2 = flat v) :
    (dat0 V c).arrAt 5 cfg0.N = fun i : S1024x1024.Idx => if (i 0).val < 256 then tD g0 g1 g2 x u v i else V c main_v3_1 i := by
  refine (dat0 V c).arrAt_eq_of_coversWhere 5 _ (fun β => β (0 : Fin 2) < 1) (by decide +kernel) (fun t _ y => ?_)
    (fun i => by blk_simp [Pipeline.Window.cell_apply]; omega)
  blk_simp
  rw [after0_5]
  frame_out
  idx_vars y
  have hb : t.val < 1 := t.isLt
  refine (pay0_4 (gb0 V c t) (wb0 V c t) (ub0 V c t) (qb0 V c t) y0 y1).trans ?_
  have hr : (⟨t.val * 256 + y0.val, by omega⟩ : Fin 1024).val = t.val * 256 + y0.val := rfl
  rw [gb0_at V c g0 g1 g2 t y0 y1 _ hr hG, wb0_at V c x t y0 y1 _ hr hX, ub0_at V c u t y0 y1 _ hr hU, qb0_at V c v t y0 y1 _ hr hV]
  refine (show _ = tD g0 g1 g2 x u v (ix2 ⟨t.val * 256 + y0.val, by omega⟩ y1) from rfl).trans ?_
  blk_ext [idx0 t]

theorem fin0_6 (hG : V c main_arg0 = g0) (hU : V c main_v1 = flat u) :
    (dat0 V c).arrAt 6 cfg0.N = fun i : S1024x1024.Idx => if (i 0).val < 256 then tM g0 g1 g2 u i else V c main_v3_2 i := by
  refine (dat0 V c).arrAt_eq_of_coversWhere 6 _ (fun β => β (0 : Fin 2) < 1) (by decide +kernel) (fun t _ y => ?_)
    (fun i => by blk_simp [Pipeline.Window.cell_apply]; omega)
  blk_simp
  rw [after0_6]
  frame_out
  idx_vars y
  have hb : t.val < 1 := t.isLt
  refine (pay0_2 (gb0 V c t) (ub0 V c t) y0 y1).trans ?_
  have hr : (⟨t.val * 256 + y0.val, by omega⟩ : Fin 1024).val = t.val * 256 + y0.val := rfl
  rw [gb0_at V c g0 g1 g2 t y0 y1 _ hr hG, ub0_at V c u t y0 y1 _ hr hU]
  refine (show _ = tM g0 g1 g2 u (ix2 ⟨t.val * 256 + y0.val, by omega⟩ y1) from rfl).trans ?_
  blk_ext [idx0 t]

theorem fin0_7 (hG : V c main_arg0 = g0) (hV : V c main_v2 = flat v) :
    (dat0 V c).arrAt 7 cfg0.N = fun i : S1024x1024.Idx => if (i 0).val < 256 then tV g0 g1 g2 v i else V c main_v3_3 i := by
  refine (dat0 V c).arrAt_eq_of_coversWhere 7 _ (fun β => β (0 : Fin 2) < 1) (by decide +kernel) (fun t _ y => ?_)
    (fun i => by blk_simp [Pipeline.Window.cell_apply]; omega)
  blk_simp
  rw [after0_7]
  frame_out
  idx_vars y
  have hb : t.val < 1 := t.isLt
  refine (pay0_3 (gb0 V c t) (qb0 V c t) y0 y1).trans ?_
  have hr : (⟨t.val * 256 + y0.val, by omega⟩ : Fin 1024).val = t.val * 256 + y0.val := rfl
  rw [gb0_at V c g0 g1 g2 t y0 y1 _ hr hG, qb0_at V c v t y0 y1 _ hr hV]
  refine (show _ = tV g0 g1 g2 v (ix2 ⟨t.val * 256 + y0.val, by omega⟩ y1) from rfl).trans ?_
  blk_ext [idx0 t]

/-! ## Call 1: rows 256 to 512 -/

theorem idx1 : ∀ t : Fin cfg1.N, win1_0.index t = ![8 + t.val, 0] ∧ win1_1.index t = ![1 + t.val, 0] ∧ win1_2.index t = ![1 + t.val, 0]
    ∧ win1_3.index t = ![1 + t.val, 0] ∧ win1_4.index t = ![1 + t.val, 0] ∧ win1_5.index t = ![1 + t.val, 0]
    ∧ win1_6.index t = ![1 + t.val, 0] ∧ win1_7.index t = ![1 + t.val, 0] :=
  (by decide +kernel : ∀ t : Fin grid1.N, _)

section pay1
variable (g : Vec Ideal S256x1024 .bf16) (x u v : Vec Ideal S256x1024 .f32) (r : Fin 256) (q : Fin 1024)

theorem pay1_1 : k1_pay1 (F := Ideal) g (ix2 r q) = g (ix2 r q) := by
  pointwise [k1_pay1]

theorem pay1_2 : k1_pay2 (F := Ideal) g u (ix2 r q) = mean (g (ix2 r q)) (u (ix2 r q)) := by
  pointwise [k1_pay2, k1_pay1, mean]

theorem pay1_3 : k1_pay3 (F := Ideal) g v (ix2 r q) = square (g (ix2 r q)) (v (ix2 r q)) := by
  pointwise [k1_pay3, k1_pay1, square]

theorem pay1_4 : k1_pay4 (F := Ideal) g u v x (ix2 r q) = delta (g (ix2 r q)) (x (ix2 r q)) (u (ix2 r q)) (v (ix2 r q)) := by
  pointwise [k1_pay4, k1_pay3, k1_pay2, k1_pay1, delta, mean, square]

end pay1

/-- The blocks a grid point reads. -/
def gb1 (t : Fin cfg1.N) : Vec Ideal S256x1024 .bf16 := iblk1 V c 0 t
def wb1 (t : Fin cfg1.N) : Vec Ideal S256x1024 .f32 := iblk1 V c 1 t
def ub1 (t : Fin cfg1.N) : Vec Ideal S256x1024 .f32 := iblk1 V c 2 t
def qb1 (t : Fin cfg1.N) : Vec Ideal S256x1024 .f32 := iblk1 V c 3 t

section reads1
variable (t : Fin cfg1.N) (y : Fin 256) (q : Fin 1024) (r : Fin 1024) (hr : r.val = (1 + t.val) * 256 + y.val)

include hr in
theorem gb1_at (hG : V c main_arg1 = g1) : gb1 V c t (ix2 y q) = ga g0 g1 g2 (ix2 r q) := by
  have hb : t.val < 1 := t.isLt
  refine Eq.trans ?_ (ga1 g0 g1 g2 r q (by omega) (by omega) ⟨(8 + t.val) * 256 + y.val, by omega⟩ (by show (8 + t.val) * 256 + y.val = _; omega)).symm
  rw [← hG]
  unfold gb1
  blk_ext [iblk1, idx1 t, hr]

include hr in
theorem wb1_at (hW : V c main_v4 = flat x) : wb1 V c t (ix2 y q) = flat x (ix2 r q) := by
  rw [← hW]
  unfold wb1
  blk_ext [iblk1, idx1 t, hr]

include hr in
theorem ub1_at (hW : V c main_v5 = flat u) : ub1 V c t (ix2 y q) = flat u (ix2 r q) := by
  rw [← hW]
  unfold ub1
  blk_ext [iblk1, idx1 t, hr]

include hr in
theorem qb1_at (hW : V c main_v6 = flat v) : qb1 V c t (ix2 y q) = flat v (ix2 r q) := by
  rw [← hW]
  unfold qb1
  blk_ext [iblk1, idx1 t, hr]

end reads1

theorem fin1_4 (hG : V c main_arg1 = g1) :
    (dat1 V c).arrAt 4 cfg1.N = fun i : S1024x1024.Idx => if 256 ≤ (i 0).val ∧ (i 0).val < 512 then tG g0 g1 g2 i else V c main_v7_0 i := by
  refine (dat1 V c).arrAt_eq_of_coversWhere 4 _ (fun β => 1 ≤ β (0 : Fin 2) ∧ β (0 : Fin 2) < 2) (by decide +kernel) (fun t _ y => ?_)
    (fun i => by blk_simp [Pipeline.Window.cell_apply]; omega)
  blk_simp
  rw [after1_4]
  unfold outsAt1
  frame_out
  idx_vars y
  have hb : t.val < 1 := t.isLt
  refine (pay1_1 (gb1 V c t) y0 y1).trans ?_
  have hr : (⟨(1 + t.val) * 256 + y0.val, by omega⟩ : Fin 1024).val = (1 + t.val) * 256 + y0.val := rfl
  rw [gb1_at V c g0 g1 g2 t y0 y1 _ hr hG]
  refine (show _ = tG g0 g1 g2 (ix2 ⟨(1 + t.val) * 256 + y0.val, by omega⟩ y1) from rfl).trans ?_
  blk_ext [idx1 t]

theorem fin1_5 (hG : V c main_arg1 = g1) (hX : V c main_v4 = flat x) (hU : V c main_v5 = flat u) (hV : V c main_v6 = flat v) :
    (dat1 V c).arrAt 5 cfg1.N = fun i : S1024x1024.Idx => if 256 ≤ (i 0).val ∧ (i 0).val < 512 then tD g0 g1 g2 x u v i else V c main_v7_1 i := by
  refine (dat1 V c).arrAt_eq_of_coversWhere 5 _ (fun β => 1 ≤ β (0 : Fin 2) ∧ β (0 : Fin 2) < 2) (by decide +kernel) (fun t _ y => ?_)
    (fun i => by blk_simp [Pipeline.Window.cell_apply]; omega)
  blk_simp
  rw [after1_5]
  unfold outsAt1
  frame_out
  idx_vars y
  have hb : t.val < 1 := t.isLt
  refine (pay1_4 (gb1 V c t) (wb1 V c t) (ub1 V c t) (qb1 V c t) y0 y1).trans ?_
  have hr : (⟨(1 + t.val) * 256 + y0.val, by omega⟩ : Fin 1024).val = (1 + t.val) * 256 + y0.val := rfl
  rw [gb1_at V c g0 g1 g2 t y0 y1 _ hr hG, wb1_at V c x t y0 y1 _ hr hX, ub1_at V c u t y0 y1 _ hr hU, qb1_at V c v t y0 y1 _ hr hV]
  refine (show _ = tD g0 g1 g2 x u v (ix2 ⟨(1 + t.val) * 256 + y0.val, by omega⟩ y1) from rfl).trans ?_
  blk_ext [idx1 t]

theorem fin1_6 (hG : V c main_arg1 = g1) (hU : V c main_v5 = flat u) :
    (dat1 V c).arrAt 6 cfg1.N = fun i : S1024x1024.Idx => if 256 ≤ (i 0).val ∧ (i 0).val < 512 then tM g0 g1 g2 u i else V c main_v7_2 i := by
  refine (dat1 V c).arrAt_eq_of_coversWhere 6 _ (fun β => 1 ≤ β (0 : Fin 2) ∧ β (0 : Fin 2) < 2) (by decide +kernel) (fun t _ y => ?_)
    (fun i => by blk_simp [Pipeline.Window.cell_apply]; omega)
  blk_simp
  rw [after1_6]
  unfold outsAt1
  frame_out
  idx_vars y
  have hb : t.val < 1 := t.isLt
  refine (pay1_2 (gb1 V c t) (ub1 V c t) y0 y1).trans ?_
  have hr : (⟨(1 + t.val) * 256 + y0.val, by omega⟩ : Fin 1024).val = (1 + t.val) * 256 + y0.val := rfl
  rw [gb1_at V c g0 g1 g2 t y0 y1 _ hr hG, ub1_at V c u t y0 y1 _ hr hU]
  refine (show _ = tM g0 g1 g2 u (ix2 ⟨(1 + t.val) * 256 + y0.val, by omega⟩ y1) from rfl).trans ?_
  blk_ext [idx1 t]

theorem fin1_7 (hG : V c main_arg1 = g1) (hV : V c main_v6 = flat v) :
    (dat1 V c).arrAt 7 cfg1.N = fun i : S1024x1024.Idx => if 256 ≤ (i 0).val ∧ (i 0).val < 512 then tV g0 g1 g2 v i else V c main_v7_3 i := by
  refine (dat1 V c).arrAt_eq_of_coversWhere 7 _ (fun β => 1 ≤ β (0 : Fin 2) ∧ β (0 : Fin 2) < 2) (by decide +kernel) (fun t _ y => ?_)
    (fun i => by blk_simp [Pipeline.Window.cell_apply]; omega)
  blk_simp
  rw [after1_7]
  unfold outsAt1
  frame_out
  idx_vars y
  have hb : t.val < 1 := t.isLt
  refine (pay1_3 (gb1 V c t) (qb1 V c t) y0 y1).trans ?_
  have hr : (⟨(1 + t.val) * 256 + y0.val, by omega⟩ : Fin 1024).val = (1 + t.val) * 256 + y0.val := rfl
  rw [gb1_at V c g0 g1 g2 t y0 y1 _ hr hG, qb1_at V c v t y0 y1 _ hr hV]
  refine (show _ = tV g0 g1 g2 v (ix2 ⟨(1 + t.val) * 256 + y0.val, by omega⟩ y1) from rfl).trans ?_
  blk_ext [idx1 t]

/-! ## Call 2: rows 512 to 1024 -/

theorem idx2 : ∀ t : Fin cfg2.N, win2_0.index t = ![8 + t.val, 0] ∧ win2_1.index t = ![1 + t.val, 0] ∧ win2_2.index t = ![1 + t.val, 0]
    ∧ win2_3.index t = ![1 + t.val, 0] ∧ win2_4.index t = ![1 + t.val, 0] ∧ win2_5.index t = ![1 + t.val, 0]
    ∧ win2_6.index t = ![1 + t.val, 0] ∧ win2_7.index t = ![1 + t.val, 0] :=
  (by decide +kernel : ∀ t : Fin grid2.N, _)

section pay2
variable (g : Vec Ideal S512x1024 .bf16) (x u v : Vec Ideal S512x1024 .f32) (r : Fin 512) (q : Fin 1024)

theorem pay2_1 : k2_pay1 (F := Ideal) g (ix2 r q) = g (ix2 r q) := by
  pointwise [k2_pay1]

theorem pay2_2 : k2_pay2 (F := Ideal) g u (ix2 r q) = mean (g (ix2 r q)) (u (ix2 r q)) := by
  pointwise [k2_pay2, k2_pay1, mean]

theorem pay2_3 : k2_pay3 (F := Ideal) g v (ix2 r q) = square (g (ix2 r q)) (v (ix2 r q)) := by
  pointwise [k2_pay3, k2_pay1, square]

theorem pay2_4 : k2_pay4 (F := Ideal) g u v x (ix2 r q) = delta (g (ix2 r q)) (x (ix2 r q)) (u (ix2 r q)) (v (ix2 r q)) := by
  pointwise [k2_pay4, k2_pay3, k2_pay2, k2_pay1, delta, mean, square]

end pay2

/-- The blocks a grid point reads. -/
def gb2 (t : Fin cfg2.N) : Vec Ideal S512x1024 .bf16 := iblk2 V c 0 t
def wb2 (t : Fin cfg2.N) : Vec Ideal S512x1024 .f32 := iblk2 V c 1 t
def ub2 (t : Fin cfg2.N) : Vec Ideal S512x1024 .f32 := iblk2 V c 2 t
def qb2 (t : Fin cfg2.N) : Vec Ideal S512x1024 .f32 := iblk2 V c 3 t

section reads2
variable (t : Fin cfg2.N) (y : Fin 512) (q : Fin 1024) (r : Fin 1024) (hr : r.val = (1 + t.val) * 512 + y.val)

include hr in
theorem gb2_at (hG : V c main_arg2 = g2) : gb2 V c t (ix2 y q) = ga g0 g1 g2 (ix2 r q) := by
  have hb : t.val < 1 := t.isLt
  refine Eq.trans ?_ (ga2 g0 g1 g2 r q (by omega) (by omega) ⟨(8 + t.val) * 512 + y.val, by omega⟩ (by show (8 + t.val) * 512 + y.val = _; omega)).symm
  rw [← hG]
  unfold gb2
  blk_ext [iblk2, idx2 t, hr]

include hr in
theorem wb2_at (hW : V c main_v8 = flat x) : wb2 V c t (ix2 y q) = flat x (ix2 r q) := by
  rw [← hW]
  unfold wb2
  blk_ext [iblk2, idx2 t, hr]

include hr in
theorem ub2_at (hW : V c main_v9 = flat u) : ub2 V c t (ix2 y q) = flat u (ix2 r q) := by
  rw [← hW]
  unfold ub2
  blk_ext [iblk2, idx2 t, hr]

include hr in
theorem qb2_at (hW : V c main_v10 = flat v) : qb2 V c t (ix2 y q) = flat v (ix2 r q) := by
  rw [← hW]
  unfold qb2
  blk_ext [iblk2, idx2 t, hr]

end reads2

theorem fin2_4 (hG : V c main_arg2 = g2) :
    (dat2 V c).arrAt 4 cfg2.N = fun i : S1024x1024.Idx => if 512 ≤ (i 0).val ∧ (i 0).val < 1024 then tG g0 g1 g2 i else V c main_v11_0 i := by
  refine (dat2 V c).arrAt_eq_of_coversWhere 4 _ (fun β => 1 ≤ β (0 : Fin 2) ∧ β (0 : Fin 2) < 2) (by decide +kernel) (fun t _ y => ?_)
    (fun i => by blk_simp [Pipeline.Window.cell_apply]; omega)
  blk_simp
  rw [after2_4]
  unfold outsAt2
  frame_out
  idx_vars y
  have hb : t.val < 1 := t.isLt
  refine (pay2_1 (gb2 V c t) y0 y1).trans ?_
  have hr : (⟨(1 + t.val) * 512 + y0.val, by omega⟩ : Fin 1024).val = (1 + t.val) * 512 + y0.val := rfl
  rw [gb2_at V c g0 g1 g2 t y0 y1 _ hr hG]
  refine (show _ = tG g0 g1 g2 (ix2 ⟨(1 + t.val) * 512 + y0.val, by omega⟩ y1) from rfl).trans ?_
  blk_ext [idx2 t]

theorem fin2_5 (hG : V c main_arg2 = g2) (hX : V c main_v8 = flat x) (hU : V c main_v9 = flat u) (hV : V c main_v10 = flat v) :
    (dat2 V c).arrAt 5 cfg2.N = fun i : S1024x1024.Idx => if 512 ≤ (i 0).val ∧ (i 0).val < 1024 then tD g0 g1 g2 x u v i else V c main_v11_1 i := by
  refine (dat2 V c).arrAt_eq_of_coversWhere 5 _ (fun β => 1 ≤ β (0 : Fin 2) ∧ β (0 : Fin 2) < 2) (by decide +kernel) (fun t _ y => ?_)
    (fun i => by blk_simp [Pipeline.Window.cell_apply]; omega)
  blk_simp
  rw [after2_5]
  unfold outsAt2
  frame_out
  idx_vars y
  have hb : t.val < 1 := t.isLt
  refine (pay2_4 (gb2 V c t) (wb2 V c t) (ub2 V c t) (qb2 V c t) y0 y1).trans ?_
  have hr : (⟨(1 + t.val) * 512 + y0.val, by omega⟩ : Fin 1024).val = (1 + t.val) * 512 + y0.val := rfl
  rw [gb2_at V c g0 g1 g2 t y0 y1 _ hr hG, wb2_at V c x t y0 y1 _ hr hX, ub2_at V c u t y0 y1 _ hr hU, qb2_at V c v t y0 y1 _ hr hV]
  refine (show _ = tD g0 g1 g2 x u v (ix2 ⟨(1 + t.val) * 512 + y0.val, by omega⟩ y1) from rfl).trans ?_
  blk_ext [idx2 t]

theorem fin2_6 (hG : V c main_arg2 = g2) (hU : V c main_v9 = flat u) :
    (dat2 V c).arrAt 6 cfg2.N = fun i : S1024x1024.Idx => if 512 ≤ (i 0).val ∧ (i 0).val < 1024 then tM g0 g1 g2 u i else V c main_v11_2 i := by
  refine (dat2 V c).arrAt_eq_of_coversWhere 6 _ (fun β => 1 ≤ β (0 : Fin 2) ∧ β (0 : Fin 2) < 2) (by decide +kernel) (fun t _ y => ?_)
    (fun i => by blk_simp [Pipeline.Window.cell_apply]; omega)
  blk_simp
  rw [after2_6]
  unfold outsAt2
  frame_out
  idx_vars y
  have hb : t.val < 1 := t.isLt
  refine (pay2_2 (gb2 V c t) (ub2 V c t) y0 y1).trans ?_
  have hr : (⟨(1 + t.val) * 512 + y0.val, by omega⟩ : Fin 1024).val = (1 + t.val) * 512 + y0.val := rfl
  rw [gb2_at V c g0 g1 g2 t y0 y1 _ hr hG, ub2_at V c u t y0 y1 _ hr hU]
  refine (show _ = tM g0 g1 g2 u (ix2 ⟨(1 + t.val) * 512 + y0.val, by omega⟩ y1) from rfl).trans ?_
  blk_ext [idx2 t]

theorem fin2_7 (hG : V c main_arg2 = g2) (hV : V c main_v10 = flat v) :
    (dat2 V c).arrAt 7 cfg2.N = fun i : S1024x1024.Idx => if 512 ≤ (i 0).val ∧ (i 0).val < 1024 then tV g0 g1 g2 v i else V c main_v11_3 i := by
  refine (dat2 V c).arrAt_eq_of_coversWhere 7 _ (fun β => 1 ≤ β (0 : Fin 2) ∧ β (0 : Fin 2) < 2) (by decide +kernel) (fun t _ y => ?_)
    (fun i => by blk_simp [Pipeline.Window.cell_apply]; omega)
  blk_simp
  rw [after2_7]
  unfold outsAt2
  frame_out
  idx_vars y
  have hb : t.val < 1 := t.isLt
  refine (pay2_3 (gb2 V c t) (qb2 V c t) y0 y1).trans ?_
  have hr : (⟨(1 + t.val) * 512 + y0.val, by omega⟩ : Fin 1024).val = (1 + t.val) * 512 + y0.val := rfl
  rw [gb2_at V c g0 g1 g2 t y0 y1 _ hr hG, qb2_at V c v t y0 y1 _ hr hV]
  refine (show _ = tV g0 g1 g2 v (ix2 ⟨(1 + t.val) * 512 + y0.val, by omega⟩ y1) from rfl).trans ?_
  blk_ext [idx2 t]

end Cert.AdXqIdeal.Arr
end
-- ==== Proof.AdXqRun.lean ====
/- The run of the calls for the cross-attention's query weight: what it leaves in the results, read back through the contents between the calls. -/
module

public import proofs.«01_k».proof.Proof.AdXqArr

@[expose] public section

set_option maxRecDepth 16384

noncomputable section

namespace Cert.AdXqIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdXqIdeal Cert.AdXqIdeal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments: the slabs, the weight, its moments. -/
abbrev g0 : FVec Ideal S2560x1024 .bf16 := m ((c.tc : Thread nD τ).loc main_arg0)
abbrev g1 : FVec Ideal S2816x1024 .bf16 := m ((c.tc : Thread nD τ).loc main_arg1)
abbrev g2 : FVec Ideal S5632x1024 .bf16 := m ((c.tc : Thread nD τ).loc main_arg2)
abbrev x : FVec Ideal S4x256x1024 .f32 := m ((c.tc : Thread nD τ).loc main_arg3)
abbrev u : FVec Ideal S4x256x1024 .f32 := m ((c.tc : Thread nD τ).loc main_arg4)
abbrev v : FVec Ideal S4x256x1024 .f32 := m ((c.tc : Thread nD τ).loc main_arg5)

/-! ## Call 0 -/

theorem hG0 : V1 m ρ c main_arg0 = g0 m c := W1_args m ρ c main_arg0 (by decide)
theorem hX0 : V1 m ρ c main_v0 = flat (x m c) := by
  have e : V1 m ρ c main_v0 = flat (W0 m ρ c (Proc.devRef .tc main_arg3)) := by
    show StableHlo.after hostOps0 _ _ = _
    after_results
    rfl
  exact e.trans (congrArg flat (W0_args m ρ c main_arg3 (by decide)))
theorem hU0 : V1 m ρ c main_v1 = flat (u m c) := by
  have e : V1 m ρ c main_v1 = flat (W0 m ρ c (Proc.devRef .tc main_arg4)) := by
    show StableHlo.after hostOps0 _ _ = _
    after_results
    rfl
  exact e.trans (congrArg flat (W0_args m ρ c main_arg4 (by decide)))
theorem hV0 : V1 m ρ c main_v2 = flat (v m c) := by
  have e : V1 m ρ c main_v2 = flat (W0 m ρ c (Proc.devRef .tc main_arg5)) := by
    show StableHlo.after hostOps0 _ _ = _
    after_results
    rfl
  exact e.trans (congrArg flat (W0_args m ρ c main_arg5 (by decide)))
theorem end0_0 : W2 m ρ c (Proc.devRef .tc main_v3_0)
    = fun i : S1024x1024.Idx => if (i 0).val < 256 then tG (g0 m c) (g1 m c) (g2 m c) i else V1 m ρ c main_v3_0 i :=
  (W2_arr m ρ c 4).trans (fin0_4 (V1 m ρ) c (g0 m c) (g1 m c) (g2 m c) (hG0 m ρ c))
theorem end0_1 : W2 m ρ c (Proc.devRef .tc main_v3_1)
    = fun i : S1024x1024.Idx => if (i 0).val < 256 then tD (g0 m c) (g1 m c) (g2 m c) (x m c) (u m c) (v m c) i else V1 m ρ c main_v3_1 i :=
  (W2_arr m ρ c 5).trans (fin0_5 (V1 m ρ) c (g0 m c) (g1 m c) (g2 m c) (x m c) (u m c) (v m c) (hG0 m ρ c) (hX0 m ρ c) (hU0 m ρ c) (hV0 m ρ c))
theorem end0_2 : W2 m ρ c (Proc.devRef .tc main_v3_2)
    = fun i : S1024x1024.Idx => if (i 0).val < 256 then tM (g0 m c) (g1 m c) (g2 m c) (u m c) i else V1 m ρ c main_v3_2 i :=
  (W2_arr m ρ c 6).trans (fin0_6 (V1 m ρ) c (g0 m c) (g1 m c) (g2 m c) (u m c) (hG0 m ρ c) (hU0 m ρ c))
theorem end0_3 : W2 m ρ c (Proc.devRef .tc main_v3_3)
    = fun i : S1024x1024.Idx => if (i 0).val < 256 then tV (g0 m c) (g1 m c) (g2 m c) (v m c) i else V1 m ρ c main_v3_3 i :=
  (W2_arr m ρ c 7).trans (fin0_7 (V1 m ρ) c (g0 m c) (g1 m c) (g2 m c) (v m c) (hG0 m ρ c) (hV0 m ρ c))

/-! ## Call 1 -/

theorem hG1 : V3 m ρ c main_arg1 = g1 m c := W3_args m ρ c main_arg1 (by decide)
theorem hX1 : V3 m ρ c main_v4 = flat (x m c) := by
  have e : V3 m ρ c main_v4 = flat (W2 m ρ c (Proc.devRef .tc main_arg3)) := by
    show StableHlo.after hostOps1 _ _ = _
    after_results
    rfl
  exact e.trans (congrArg flat (W2_args m ρ c main_arg3 (by decide)))
theorem hU1 : V3 m ρ c main_v5 = flat (u m c) := by
  have e : V3 m ρ c main_v5 = flat (W2 m ρ c (Proc.devRef .tc main_arg4)) := by
    show StableHlo.after hostOps1 _ _ = _
    after_results
    rfl
  exact e.trans (congrArg flat (W2_args m ρ c main_arg4 (by decide)))
theorem hV1 : V3 m ρ c main_v6 = flat (v m c) := by
  have e : V3 m ρ c main_v6 = flat (W2 m ρ c (Proc.devRef .tc main_arg5)) := by
    show StableHlo.after hostOps1 _ _ = _
    after_results
    rfl
  exact e.trans (congrArg flat (W2_args m ρ c main_arg5 (by decide)))
theorem end1_0 : W4 m ρ c (Proc.devRef .tc main_v7_0)
    = fun i : S1024x1024.Idx => if 256 ≤ (i 0).val ∧ (i 0).val < 512 then tG (g0 m c) (g1 m c) (g2 m c) i else V3 m ρ c main_v7_0 i :=
  (W4_arr m ρ c 4).trans (fin1_4 (V3 m ρ) c (g0 m c) (g1 m c) (g2 m c) (hG1 m ρ c))
theorem copy1_0 : V3 m ρ c main_v7_0 = W2 m ρ c (Proc.devRef .tc main_v3_0) := by
  show StableHlo.after hostOps1 _ _ = _
  after_results
  rfl
theorem end1_1 : W4 m ρ c (Proc.devRef .tc main_v7_1)
    = fun i : S1024x1024.Idx => if 256 ≤ (i 0).val ∧ (i 0).val < 512 then tD (g0 m c) (g1 m c) (g2 m c) (x m c) (u m c) (v m c) i else V3 m ρ c main_v7_1 i :=
  (W4_arr m ρ c 5).trans (fin1_5 (V3 m ρ) c (g0 m c) (g1 m c) (g2 m c) (x m c) (u m c) (v m c) (hG1 m ρ c) (hX1 m ρ c) (hU1 m ρ c) (hV1 m ρ c))
theorem copy1_1 : V3 m ρ c main_v7_1 = W2 m ρ c (Proc.devRef .tc main_v3_1) := by
  show StableHlo.after hostOps1 _ _ = _
  after_results
  rfl
theorem end1_2 : W4 m ρ c (Proc.devRef .tc main_v7_2)
    = fun i : S1024x1024.Idx => if 256 ≤ (i 0).val ∧ (i 0).val < 512 then tM (g0 m c) (g1 m c) (g2 m c) (u m c) i else V3 m ρ c main_v7_2 i :=
  (W4_arr m ρ c 6).trans (fin1_6 (V3 m ρ) c (g0 m c) (g1 m c) (g2 m c) (u m c) (hG1 m ρ c) (hU1 m ρ c))
theorem copy1_2 : V3 m ρ c main_v7_2 = W2 m ρ c (Proc.devRef .tc main_v3_2) := by
  show StableHlo.after hostOps1 _ _ = _
  after_results
  rfl
theorem end1_3 : W4 m ρ c (Proc.devRef .tc main_v7_3)
    = fun i : S1024x1024.Idx => if 256 ≤ (i 0).val ∧ (i 0).val < 512 then tV (g0 m c) (g1 m c) (g2 m c) (v m c) i else V3 m ρ c main_v7_3 i :=
  (W4_arr m ρ c 7).trans (fin1_7 (V3 m ρ) c (g0 m c) (g1 m c) (g2 m c) (v m c) (hG1 m ρ c) (hV1 m ρ c))
theorem copy1_3 : V3 m ρ c main_v7_3 = W2 m ρ c (Proc.devRef .tc main_v3_3) := by
  show StableHlo.after hostOps1 _ _ = _
  after_results
  rfl

/-! ## Call 2 -/

theorem hG2 : V5 m ρ c main_arg2 = g2 m c := W5_args m ρ c main_arg2 (by decide)
theorem hX2 : V5 m ρ c main_v8 = flat (x m c) := by
  have e : V5 m ρ c main_v8 = flat (W4 m ρ c (Proc.devRef .tc main_arg3)) := by
    show StableHlo.after hostOps2 _ _ = _
    after_results
    rfl
  exact e.trans (congrArg flat (W4_args m ρ c main_arg3 (by decide)))
theorem hU2 : V5 m ρ c main_v9 = flat (u m c) := by
  have e : V5 m ρ c main_v9 = flat (W4 m ρ c (Proc.devRef .tc main_arg4)) := by
    show StableHlo.after hostOps2 _ _ = _
    after_results
    rfl
  exact e.trans (congrArg flat (W4_args m ρ c main_arg4 (by decide)))
theorem hV2 : V5 m ρ c main_v10 = flat (v m c) := by
  have e : V5 m ρ c main_v10 = flat (W4 m ρ c (Proc.devRef .tc main_arg5)) := by
    show StableHlo.after hostOps2 _ _ = _
    after_results
    rfl
  exact e.trans (congrArg flat (W4_args m ρ c main_arg5 (by decide)))
theorem end2_0 : W6 m ρ c (Proc.devRef .tc main_v11_0)
    = fun i : S1024x1024.Idx => if 512 ≤ (i 0).val ∧ (i 0).val < 1024 then tG (g0 m c) (g1 m c) (g2 m c) i else V5 m ρ c main_v11_0 i :=
  (W6_arr m ρ c 4).trans (fin2_4 (V5 m ρ) c (g0 m c) (g1 m c) (g2 m c) (hG2 m ρ c))
theorem copy2_0 : V5 m ρ c main_v11_0 = W4 m ρ c (Proc.devRef .tc main_v7_0) := by
  show StableHlo.after hostOps2 _ _ = _
  after_results
  rfl
theorem end2_1 : W6 m ρ c (Proc.devRef .tc main_v11_1)
    = fun i : S1024x1024.Idx => if 512 ≤ (i 0).val ∧ (i 0).val < 1024 then tD (g0 m c) (g1 m c) (g2 m c) (x m c) (u m c) (v m c) i else V5 m ρ c main_v11_1 i :=
  (W6_arr m ρ c 5).trans (fin2_5 (V5 m ρ) c (g0 m c) (g1 m c) (g2 m c) (x m c) (u m c) (v m c) (hG2 m ρ c) (hX2 m ρ c) (hU2 m ρ c) (hV2 m ρ c))
theorem copy2_1 : V5 m ρ c main_v11_1 = W4 m ρ c (Proc.devRef .tc main_v7_1) := by
  show StableHlo.after hostOps2 _ _ = _
  after_results
  rfl
theorem end2_2 : W6 m ρ c (Proc.devRef .tc main_v11_2)
    = fun i : S1024x1024.Idx => if 512 ≤ (i 0).val ∧ (i 0).val < 1024 then tM (g0 m c) (g1 m c) (g2 m c) (u m c) i else V5 m ρ c main_v11_2 i :=
  (W6_arr m ρ c 6).trans (fin2_6 (V5 m ρ) c (g0 m c) (g1 m c) (g2 m c) (u m c) (hG2 m ρ c) (hU2 m ρ c))
theorem copy2_2 : V5 m ρ c main_v11_2 = W4 m ρ c (Proc.devRef .tc main_v7_2) := by
  show StableHlo.after hostOps2 _ _ = _
  after_results
  rfl
theorem end2_3 : W6 m ρ c (Proc.devRef .tc main_v11_3)
    = fun i : S1024x1024.Idx => if 512 ≤ (i 0).val ∧ (i 0).val < 1024 then tV (g0 m c) (g1 m c) (g2 m c) (v m c) i else V5 m ρ c main_v11_3 i :=
  (W6_arr m ρ c 7).trans (fin2_7 (V5 m ρ) c (g0 m c) (g1 m c) (g2 m c) (v m c) (hG2 m ρ c) (hV2 m ρ c))
theorem copy2_3 : V5 m ρ c main_v11_3 = W4 m ρ c (Proc.devRef .tc main_v7_3) := by
  show StableHlo.after hostOps2 _ _ = _
  after_results
  rfl

/-! ## What the last call leaves -/

theorem last0 : W6 m ρ c (Proc.devRef .tc main_v11_0) = tG (g0 m c) (g1 m c) (g2 m c) := by
  refine (end2_0 m ρ c).trans (funext fun i => ?_)
  have hb : (i 0).val < 1024 := (i 0).isLt
  split_ifs with h2
  · rfl
  refine (congrFun ((copy2_0 m ρ c).trans (end1_0 m ρ c)) i).trans ?_
  split_ifs with h1
  · rfl
  refine (congrFun ((copy1_0 m ρ c).trans (end0_0 m ρ c)) i).trans ?_
  rw [if_pos (by omega)]

theorem last1 : W6 m ρ c (Proc.devRef .tc main_v11_1) = tD (g0 m c) (g1 m c) (g2 m c) (x m c) (u m c) (v m c) := by
  refine (end2_1 m ρ c).trans (funext fun i => ?_)
  have hb : (i 0).val < 1024 := (i 0).isLt
  split_ifs with h2
  · rfl
  refine (congrFun ((copy2_1 m ρ c).trans (end1_1 m ρ c)) i).trans ?_
  split_ifs with h1
  · rfl
  refine (congrFun ((copy1_1 m ρ c).trans (end0_1 m ρ c)) i).trans ?_
  rw [if_pos (by omega)]

theorem last2 : W6 m ρ c (Proc.devRef .tc main_v11_2) = tM (g0 m c) (g1 m c) (g2 m c) (u m c) := by
  refine (end2_2 m ρ c).trans (funext fun i => ?_)
  have hb : (i 0).val < 1024 := (i 0).isLt
  split_ifs with h2
  · rfl
  refine (congrFun ((copy2_2 m ρ c).trans (end1_2 m ρ c)) i).trans ?_
  split_ifs with h1
  · rfl
  refine (congrFun ((copy1_2 m ρ c).trans (end0_2 m ρ c)) i).trans ?_
  rw [if_pos (by omega)]

theorem last3 : W6 m ρ c (Proc.devRef .tc main_v11_3) = tV (g0 m c) (g1 m c) (g2 m c) (v m c) := by
  refine (end2_3 m ρ c).trans (funext fun i => ?_)
  have hb : (i 0).val < 1024 := (i 0).isLt
  split_ifs with h2
  · rfl
  refine (congrFun ((copy2_3 m ρ c).trans (end1_3 m ρ c)) i).trans ?_
  split_ifs with h1
  · rfl
  refine (congrFun ((copy1_3 m ρ c).trans (end0_3 m ρ c)) i).trans ?_
  rw [if_pos (by omega)]

set_option backward.isDefEq.respectTransparency.types false in
/-- The run leaves the gradient, the change of the weight and the moments in the results, and the arguments as they were. -/
theorem leaves : θ_run defs (onTc (τ := τ) (main (F := Ideal))) ⟨m, fun _ => 0, ρ⟩ (fun r => ∀ c : Dev nD,
      r.2.mem ((c.tc : Thread nD τ).loc main_v11_0) = tG (g0 m c) (g1 m c) (g2 m c)
      ∧ r.2.mem ((c.tc : Thread nD τ).loc main_v11_1) = tD (g0 m c) (g1 m c) (g2 m c) (x m c) (u m c) (v m c)
      ∧ r.2.mem ((c.tc : Thread nD τ).loc main_v11_2) = tM (g0 m c) (g1 m c) (g2 m c) (u m c)
      ∧ r.2.mem ((c.tc : Thread nD τ).loc main_v11_3) = tV (g0 m c) (g1 m c) (g2 m c) (v m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v11_0 (by decide))).trans (last0 m ρ c),
       (h c _ (mem_uc main_v11_1 (by decide))).trans (last1 m ρ c),
       (h c _ (mem_uc main_v11_2 (by decide))).trans (last2 m ρ c),
       (h c _ (mem_uc main_v11_3 (by decide))).trans (last3 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.AdXqIdeal.Arr
end
-- ==== Proof.AdXoArr.lean ====
/- The optimiser's step for the cross-attention's output weight, whose layers' gradients arrive in 3 slabs: 3 calls, each on the rows of its slab. -/
module

public import proofs.«01_k».proof.Proof.AdMath
public import proofs.«01_k».proof.Proof.Gen.AdXoIdeal.Frame
public import proofs.«01_k».proof.Proof.Gen.AdXoRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdXoIdeal.Arr
open Cert.AdXoIdeal Cert.AdXoIdeal.Gen Cert.AdXoRefIdeal.Read Cert.Adam

/-- A weight's layers one below the other. -/
def flat (x : FVec Ideal S4x256x1024 .f32) : FVec Ideal S1024x1024 .f32 := shapeCast S1024x1024 x shapeCasts_S4x256x1024_S1024x1024

section ref
variable (g0 : FVec Ideal S2560x1024 .bf16) (g1 : FVec Ideal S2816x1024 .bf16) (g2 : FVec Ideal S5632x1024 .bf16)
  (x u v : FVec Ideal S4x256x1024 .f32) (r : Fin 1024) (q : Fin 1024)

/-- The gradient, its layers one below the other. -/
def ga : FVec Ideal S1024x1024 .f32 := flat (val_main_v7 (F := Ideal) g0 g1 g2)

theorem ga0 (h0 : 0 ≤ r.val) (h1 : r.val < 256) (p : Fin 2560) (hp : p.val = 2304 + (r.val - 0)) :
    ga g0 g1 g2 (ix2 r q) = g0 (ix2 p q) := by
  pointwise [ga, flat, val_main_v0, val_main_v1, val_main_v2, val_main_v3, val_main_v4, val_main_v5, val_main_v6, val_main_v7]
  rw [dif_pos (by omega)]
  refine congrArg (fun z => g0 (ix2 z q)) (Fin.ext ?_)
  dsimp only
  omega

theorem ga1 (h0 : 256 ≤ r.val) (h1 : r.val < 512) (p : Fin 2816) (hp : p.val = 2304 + (r.val - 256)) :
    ga g0 g1 g2 (ix2 r q) = g1 (ix2 p q) := by
  pointwise [ga, flat, val_main_v0, val_main_v1, val_main_v2, val_main_v3, val_main_v4, val_main_v5, val_main_v6, val_main_v7]
  rw [dif_neg (by omega), dif_pos (by omega)]
  refine congrArg (fun z => g1 (ix2 z q)) (Fin.ext ?_)
  dsimp only
  omega

theorem ga2 (h0 : 512 ≤ r.val) (h1 : r.val < 1024) (p : Fin 5632) (hp : p.val = 4608 + (r.val - 512)) :
    ga g0 g1 g2 (ix2 r q) = g2 (ix2 p q) := by
  pointwise [ga, flat, val_main_v0, val_main_v1, val_main_v2, val_main_v3, val_main_v4, val_main_v5, val_main_v6, val_main_v7]
  rw [dif_neg (by omega), dif_neg (by omega)]
  refine congrArg (fun z => g2 (ix2 z q)) (Fin.ext ?_)
  dsimp only
  omega

/-- The four results: the gradient, the change of the weight, the moments. -/
def tG : FVec Ideal S1024x1024 .f32 := ga g0 g1 g2
def tD : FVec Ideal S1024x1024 .f32 := fun i => delta (ga g0 g1 g2 i) (flat x i) (flat u i) (flat v i)
def tM : FVec Ideal S1024x1024 .f32 := fun i => mean (ga g0 g1 g2 i) (flat u i)
def tV : FVec Ideal S1024x1024 .f32 := fun i => square (ga g0 g1 g2 i) (flat v i)

theorem refG : val_main_v32 (F := Ideal) g0 g1 g2 = tG g0 g1 g2 := rfl

theorem refD : val_main_v33 (F := Ideal) g0 g1 g2 x u v = tD g0 g1 g2 x u v := by
  funext i
  idx_vars i
  show _ = delta (ga g0 g1 g2 (ix2 i0 i1)) (flat x (ix2 i0 i1)) (flat u (ix2 i0 i1)) (flat v (ix2 i0 i1))
  pointwise [ga, flat, delta, mean, square, val_main_cst, val_main_v8, val_main_v9, val_main_cst_0, val_main_v10, val_main_v11, val_main_v12, val_main_cst_1, val_main_v13, val_main_v14, val_main_v15, val_main_cst_2, val_main_v16, val_main_v17, val_main_v18, val_main_cst_3, val_main_v19, val_main_v20, val_main_cst_4, val_main_v21, val_main_v22, val_main_v23, val_main_cst_5, val_main_v24, val_main_v25, val_main_v26, val_main_cst_6, val_main_v27, val_main_v28, val_main_v29, val_main_cst_7, val_main_v30, val_main_v31, val_main_v32, val_main_v33, val_main_v34, val_main_v35]

theorem refM : val_main_v34 (F := Ideal) g0 g1 g2 u = tM g0 g1 g2 u := by
  funext i
  idx_vars i
  show _ = mean (ga g0 g1 g2 (ix2 i0 i1)) (flat u (ix2 i0 i1))
  pointwise [ga, flat, mean, val_main_cst, val_main_v8, val_main_v9, val_main_cst_0, val_main_v10, val_main_v11, val_main_v12, val_main_cst_1, val_main_v13, val_main_v14, val_main_v15, val_main_cst_2, val_main_v16, val_main_v17, val_main_v18, val_main_cst_3, val_main_v19, val_main_v20, val_main_cst_4, val_main_v21, val_main_v22, val_main_v23, val_main_cst_5, val_main_v24, val_main_v25, val_main_v26, val_main_cst_6, val_main_v27, val_main_v28, val_main_v29, val_main_cst_7, val_main_v30, val_main_v31, val_main_v32, val_main_v33, val_main_v34, val_main_v35]

theorem refV : val_main_v35 (F := Ideal) g0 g1 g2 v = tV g0 g1 g2 v := by
  funext i
  idx_vars i
  show _ = square (ga g0 g1 g2 (ix2 i0 i1)) (flat v (ix2 i0 i1))
  pointwise [ga, flat, square, val_main_cst, val_main_v8, val_main_v9, val_main_cst_0, val_main_v10, val_main_v11, val_main_v12, val_main_cst_1, val_main_v13, val_main_v14, val_main_v15, val_main_cst_2, val_main_v16, val_main_v17, val_main_v18, val_main_cst_3, val_main_v19, val_main_v20, val_main_cst_4, val_main_v21, val_main_v22, val_main_v23, val_main_cst_5, val_main_v24, val_main_v25, val_main_v26, val_main_cst_6, val_main_v27, val_main_v28, val_main_v29, val_main_cst_7, val_main_v30, val_main_v31, val_main_v32, val_main_v33, val_main_v34, val_main_v35]

end ref

variable (V : (c : Dev nD) → (b : Ref sig .tc) → Buf (Elt Ideal) ((c : Thread nD τ).loc b)) (c : Dev nD)
  (g0 : FVec Ideal S2560x1024 .bf16) (g1 : FVec Ideal S2816x1024 .bf16) (g2 : FVec Ideal S5632x1024 .bf16)
  (x u v : FVec Ideal S4x256x1024 .f32)

/-! ## Call 0: rows 0 to 256 -/

theorem idx0 : ∀ t : Fin cfg0.N, win0_0.index t = ![9 + t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay0
variable (g : Vec Ideal S256x1024 .bf16) (x u v : Vec Ideal S256x1024 .f32) (r : Fin 256) (q : Fin 1024)

theorem pay0_1 : k0_pay1 (F := Ideal) g (ix2 r q) = g (ix2 r q) := by
  pointwise [k0_pay1]

theorem pay0_2 : k0_pay2 (F := Ideal) g u (ix2 r q) = mean (g (ix2 r q)) (u (ix2 r q)) := by
  pointwise [k0_pay2, k0_pay1, mean]

theorem pay0_3 : k0_pay3 (F := Ideal) g v (ix2 r q) = square (g (ix2 r q)) (v (ix2 r q)) := by
  pointwise [k0_pay3, k0_pay1, square]

theorem pay0_4 : k0_pay4 (F := Ideal) g u v x (ix2 r q) = delta (g (ix2 r q)) (x (ix2 r q)) (u (ix2 r q)) (v (ix2 r q)) := by
  pointwise [k0_pay4, k0_pay3, k0_pay2, k0_pay1, delta, mean, square]

end pay0

/-- The blocks a grid point reads. -/
def gb0 (t : Fin cfg0.N) : Vec Ideal S256x1024 .bf16 := iblk0 V c 0 t
def wb0 (t : Fin cfg0.N) : Vec Ideal S256x1024 .f32 := iblk0 V c 1 t
def ub0 (t : Fin cfg0.N) : Vec Ideal S256x1024 .f32 := iblk0 V c 2 t
def qb0 (t : Fin cfg0.N) : Vec Ideal S256x1024 .f32 := iblk0 V c 3 t

section reads0
variable (t : Fin cfg0.N) (y : Fin 256) (q : Fin 1024) (r : Fin 1024) (hr : r.val = t.val * 256 + y.val)

include hr in
theorem gb0_at (hG : V c main_arg0 = g0) : gb0 V c t (ix2 y q) = ga g0 g1 g2 (ix2 r q) := by
  have hb : t.val < 1 := t.isLt
  refine Eq.trans ?_ (ga0 g0 g1 g2 r q (by omega) (by omega) ⟨(9 + t.val) * 256 + y.val, by omega⟩ (by show (9 + t.val) * 256 + y.val = _; omega)).symm
  rw [← hG]
  unfold gb0
  blk_ext [iblk0, idx0 t, hr]

include hr in
theorem wb0_at (hW : V c main_v0 = flat x) : wb0 V c t (ix2 y q) = flat x (ix2 r q) := by
  rw [← hW]
  unfold wb0
  blk_ext [iblk0, idx0 t, hr]

include hr in
theorem ub0_at (hW : V c main_v1 = flat u) : ub0 V c t (ix2 y q) = flat u (ix2 r q) := by
  rw [← hW]
  unfold ub0
  blk_ext [iblk0, idx0 t, hr]

include hr in
theorem qb0_at (hW : V c main_v2 = flat v) : qb0 V c t (ix2 y q) = flat v (ix2 r q) := by
  rw [← hW]
  unfold qb0
  blk_ext [iblk0, idx0 t, hr]

end reads0

theorem fin0_4 (hG : V c main_arg0 = g0) :
    (dat0 V c).arrAt 4 cfg0.N = fun i : S1024x1024.Idx => if (i 0).val < 256 then tG g0 g1 g2 i else V c main_v3_0 i := by
  refine (dat0 V c).arrAt_eq_of_coversWhere 4 _ (fun β => β (0 : Fin 2) < 1) (by decide +kernel) (fun t _ y => ?_)
    (fun i => by blk_simp [Pipeline.Window.cell_apply]; omega)
  blk_simp
  rw [after0_4]
  frame_out
  idx_vars y
  have hb : t.val < 1 := t.isLt
  refine (pay0_1 (gb0 V c t) y0 y1).trans ?_
  have hr : (⟨t.val * 256 + y0.val, by omega⟩ : Fin 1024).val = t.val * 256 + y0.val := rfl
  rw [gb0_at V c g0 g1 g2 t y0 y1 _ hr hG]
  refine (show _ = tG g0 g1 g2 (ix2 ⟨t.val * 256 + y0.val, by omega⟩ y1) from rfl).trans ?_
  blk_ext [idx0 t]

theorem fin0_5 (hG : V c main_arg0 = g0) (hX : V c main_v0 = flat x) (hU : V c main_v1 = flat u) (hV : V c main_v2 = flat v) :
    (dat0 V c).arrAt 5 cfg0.N = fun i : S1024x1024.Idx => if (i 0).val < 256 then tD g0 g1 g2 x u v i else V c main_v3_1 i := by
  refine (dat0 V c).arrAt_eq_of_coversWhere 5 _ (fun β => β (0 : Fin 2) < 1) (by decide +kernel) (fun t _ y => ?_)
    (fun i => by blk_simp [Pipeline.Window.cell_apply]; omega)
  blk_simp
  rw [after0_5]
  frame_out
  idx_vars y
  have hb : t.val < 1 := t.isLt
  refine (pay0_4 (gb0 V c t) (wb0 V c t) (ub0 V c t) (qb0 V c t) y0 y1).trans ?_
  have hr : (⟨t.val * 256 + y0.val, by omega⟩ : Fin 1024).val = t.val * 256 + y0.val := rfl
  rw [gb0_at V c g0 g1 g2 t y0 y1 _ hr hG, wb0_at V c x t y0 y1 _ hr hX, ub0_at V c u t y0 y1 _ hr hU, qb0_at V c v t y0 y1 _ hr hV]
  refine (show _ = tD g0 g1 g2 x u v (ix2 ⟨t.val * 256 + y0.val, by omega⟩ y1) from rfl).trans ?_
  blk_ext [idx0 t]

theorem fin0_6 (hG : V c main_arg0 = g0) (hU : V c main_v1 = flat u) :
    (dat0 V c).arrAt 6 cfg0.N = fun i : S1024x1024.Idx => if (i 0).val < 256 then tM g0 g1 g2 u i else V c main_v3_2 i := by
  refine (dat0 V c).arrAt_eq_of_coversWhere 6 _ (fun β => β (0 : Fin 2) < 1) (by decide +kernel) (fun t _ y => ?_)
    (fun i => by blk_simp [Pipeline.Window.cell_apply]; omega)
  blk_simp
  rw [after0_6]
  frame_out
  idx_vars y
  have hb : t.val < 1 := t.isLt
  refine (pay0_2 (gb0 V c t) (ub0 V c t) y0 y1).trans ?_
  have hr : (⟨t.val * 256 + y0.val, by omega⟩ : Fin 1024).val = t.val * 256 + y0.val := rfl
  rw [gb0_at V c g0 g1 g2 t y0 y1 _ hr hG, ub0_at V c u t y0 y1 _ hr hU]
  refine (show _ = tM g0 g1 g2 u (ix2 ⟨t.val * 256 + y0.val, by omega⟩ y1) from rfl).trans ?_
  blk_ext [idx0 t]

theorem fin0_7 (hG : V c main_arg0 = g0) (hV : V c main_v2 = flat v) :
    (dat0 V c).arrAt 7 cfg0.N = fun i : S1024x1024.Idx => if (i 0).val < 256 then tV g0 g1 g2 v i else V c main_v3_3 i := by
  refine (dat0 V c).arrAt_eq_of_coversWhere 7 _ (fun β => β (0 : Fin 2) < 1) (by decide +kernel) (fun t _ y => ?_)
    (fun i => by blk_simp [Pipeline.Window.cell_apply]; omega)
  blk_simp
  rw [after0_7]
  frame_out
  idx_vars y
  have hb : t.val < 1 := t.isLt
  refine (pay0_3 (gb0 V c t) (qb0 V c t) y0 y1).trans ?_
  have hr : (⟨t.val * 256 + y0.val, by omega⟩ : Fin 1024).val = t.val * 256 + y0.val := rfl
  rw [gb0_at V c g0 g1 g2 t y0 y1 _ hr hG, qb0_at V c v t y0 y1 _ hr hV]
  refine (show _ = tV g0 g1 g2 v (ix2 ⟨t.val * 256 + y0.val, by omega⟩ y1) from rfl).trans ?_
  blk_ext [idx0 t]

/-! ## Call 1: rows 256 to 512 -/

theorem idx1 : ∀ t : Fin cfg1.N, win1_0.index t = ![9 + t.val, 0] ∧ win1_1.index t = ![1 + t.val, 0] ∧ win1_2.index t = ![1 + t.val, 0]
    ∧ win1_3.index t = ![1 + t.val, 0] ∧ win1_4.index t = ![1 + t.val, 0] ∧ win1_5.index t = ![1 + t.val, 0]
    ∧ win1_6.index t = ![1 + t.val, 0] ∧ win1_7.index t = ![1 + t.val, 0] :=
  (by decide +kernel : ∀ t : Fin grid1.N, _)

section pay1
variable (g : Vec Ideal S256x1024 .bf16) (x u v : Vec Ideal S256x1024 .f32) (r : Fin 256) (q : Fin 1024)

theorem pay1_1 : k1_pay1 (F := Ideal) g (ix2 r q) = g (ix2 r q) := by
  pointwise [k1_pay1]

theorem pay1_2 : k1_pay2 (F := Ideal) g u (ix2 r q) = mean (g (ix2 r q)) (u (ix2 r q)) := by
  pointwise [k1_pay2, k1_pay1, mean]

theorem pay1_3 : k1_pay3 (F := Ideal) g v (ix2 r q) = square (g (ix2 r q)) (v (ix2 r q)) := by
  pointwise [k1_pay3, k1_pay1, square]

theorem pay1_4 : k1_pay4 (F := Ideal) g u v x (ix2 r q) = delta (g (ix2 r q)) (x (ix2 r q)) (u (ix2 r q)) (v (ix2 r q)) := by
  pointwise [k1_pay4, k1_pay3, k1_pay2, k1_pay1, delta, mean, square]

end pay1

/-- The blocks a grid point reads. -/
def gb1 (t : Fin cfg1.N) : Vec Ideal S256x1024 .bf16 := iblk1 V c 0 t
def wb1 (t : Fin cfg1.N) : Vec Ideal S256x1024 .f32 := iblk1 V c 1 t
def ub1 (t : Fin cfg1.N) : Vec Ideal S256x1024 .f32 := iblk1 V c 2 t
def qb1 (t : Fin cfg1.N) : Vec Ideal S256x1024 .f32 := iblk1 V c 3 t

section reads1
variable (t : Fin cfg1.N) (y : Fin 256) (q : Fin 1024) (r : Fin 1024) (hr : r.val = (1 + t.val) * 256 + y.val)

include hr in
theorem gb1_at (hG : V c main_arg1 = g1) : gb1 V c t (ix2 y q) = ga g0 g1 g2 (ix2 r q) := by
  have hb : t.val < 1 := t.isLt
  refine Eq.trans ?_ (ga1 g0 g1 g2 r q (by omega) (by omega) ⟨(9 + t.val) * 256 + y.val, by omega⟩ (by show (9 + t.val) * 256 + y.val = _; omega)).symm
  rw [← hG]
  unfold gb1
  blk_ext [iblk1, idx1 t, hr]

include hr in
theorem wb1_at (hW : V c main_v4 = flat x) : wb1 V c t (ix2 y q) = flat x (ix2 r q) := by
  rw [← hW]
  unfold wb1
  blk_ext [iblk1, idx1 t, hr]

include hr in
theorem ub1_at (hW : V c main_v5 = flat u) : ub1 V c t (ix2 y q) = flat u (ix2 r q) := by
  rw [← hW]
  unfold ub1
  blk_ext [iblk1, idx1 t, hr]

include hr in
theorem qb1_at (hW : V c main_v6 = flat v) : qb1 V c t (ix2 y q) = flat v (ix2 r q) := by
  rw [← hW]
  unfold qb1
  blk_ext [iblk1, idx1 t, hr]

end reads1

theorem fin1_4 (hG : V c main_arg1 = g1) :
    (dat1 V c).arrAt 4 cfg1.N = fun i : S1024x1024.Idx => if 256 ≤ (i 0).val ∧ (i 0).val < 512 then tG g0 g1 g2 i else V c main_v7_0 i := by
  refine (dat1 V c).arrAt_eq_of_coversWhere 4 _ (fun β => 1 ≤ β (0 : Fin 2) ∧ β (0 : Fin 2) < 2) (by decide +kernel) (fun t _ y => ?_)
    (fun i => by blk_simp [Pipeline.Window.cell_apply]; omega)
  blk_simp
  rw [after1_4]
  unfold outsAt1
  frame_out
  idx_vars y
  have hb : t.val < 1 := t.isLt
  refine (pay1_1 (gb1 V c t) y0 y1).trans ?_
  have hr : (⟨(1 + t.val) * 256 + y0.val, by omega⟩ : Fin 1024).val = (1 + t.val) * 256 + y0.val := rfl
  rw [gb1_at V c g0 g1 g2 t y0 y1 _ hr hG]
  refine (show _ = tG g0 g1 g2 (ix2 ⟨(1 + t.val) * 256 + y0.val, by omega⟩ y1) from rfl).trans ?_
  blk_ext [idx1 t]

theorem fin1_5 (hG : V c main_arg1 = g1) (hX : V c main_v4 = flat x) (hU : V c main_v5 = flat u) (hV : V c main_v6 = flat v) :
    (dat1 V c).arrAt 5 cfg1.N = fun i : S1024x1024.Idx => if 256 ≤ (i 0).val ∧ (i 0).val < 512 then tD g0 g1 g2 x u v i else V c main_v7_1 i := by
  refine (dat1 V c).arrAt_eq_of_coversWhere 5 _ (fun β => 1 ≤ β (0 : Fin 2) ∧ β (0 : Fin 2) < 2) (by decide +kernel) (fun t _ y => ?_)
    (fun i => by blk_simp [Pipeline.Window.cell_apply]; omega)
  blk_simp
  rw [after1_5]
  unfold outsAt1
  frame_out
  idx_vars y
  have hb : t.val < 1 := t.isLt
  refine (pay1_4 (gb1 V c t) (wb1 V c t) (ub1 V c t) (qb1 V c t) y0 y1).trans ?_
  have hr : (⟨(1 + t.val) * 256 + y0.val, by omega⟩ : Fin 1024).val = (1 + t.val) * 256 + y0.val := rfl
  rw [gb1_at V c g0 g1 g2 t y0 y1 _ hr hG, wb1_at V c x t y0 y1 _ hr hX, ub1_at V c u t y0 y1 _ hr hU, qb1_at V c v t y0 y1 _ hr hV]
  refine (show _ = tD g0 g1 g2 x u v (ix2 ⟨(1 + t.val) * 256 + y0.val, by omega⟩ y1) from rfl).trans ?_
  blk_ext [idx1 t]

theorem fin1_6 (hG : V c main_arg1 = g1) (hU : V c main_v5 = flat u) :
    (dat1 V c).arrAt 6 cfg1.N = fun i : S1024x1024.Idx => if 256 ≤ (i 0).val ∧ (i 0).val < 512 then tM g0 g1 g2 u i else V c main_v7_2 i := by
  refine (dat1 V c).arrAt_eq_of_coversWhere 6 _ (fun β => 1 ≤ β (0 : Fin 2) ∧ β (0 : Fin 2) < 2) (by decide +kernel) (fun t _ y => ?_)
    (fun i => by blk_simp [Pipeline.Window.cell_apply]; omega)
  blk_simp
  rw [after1_6]
  unfold outsAt1
  frame_out
  idx_vars y
  have hb : t.val < 1 := t.isLt
  refine (pay1_2 (gb1 V c t) (ub1 V c t) y0 y1).trans ?_
  have hr : (⟨(1 + t.val) * 256 + y0.val, by omega⟩ : Fin 1024).val = (1 + t.val) * 256 + y0.val := rfl
  rw [gb1_at V c g0 g1 g2 t y0 y1 _ hr hG, ub1_at V c u t y0 y1 _ hr hU]
  refine (show _ = tM g0 g1 g2 u (ix2 ⟨(1 + t.val) * 256 + y0.val, by omega⟩ y1) from rfl).trans ?_
  blk_ext [idx1 t]

theorem fin1_7 (hG : V c main_arg1 = g1) (hV : V c main_v6 = flat v) :
    (dat1 V c).arrAt 7 cfg1.N = fun i : S1024x1024.Idx => if 256 ≤ (i 0).val ∧ (i 0).val < 512 then tV g0 g1 g2 v i else V c main_v7_3 i := by
  refine (dat1 V c).arrAt_eq_of_coversWhere 7 _ (fun β => 1 ≤ β (0 : Fin 2) ∧ β (0 : Fin 2) < 2) (by decide +kernel) (fun t _ y => ?_)
    (fun i => by blk_simp [Pipeline.Window.cell_apply]; omega)
  blk_simp
  rw [after1_7]
  unfold outsAt1
  frame_out
  idx_vars y
  have hb : t.val < 1 := t.isLt
  refine (pay1_3 (gb1 V c t) (qb1 V c t) y0 y1).trans ?_
  have hr : (⟨(1 + t.val) * 256 + y0.val, by omega⟩ : Fin 1024).val = (1 + t.val) * 256 + y0.val := rfl
  rw [gb1_at V c g0 g1 g2 t y0 y1 _ hr hG, qb1_at V c v t y0 y1 _ hr hV]
  refine (show _ = tV g0 g1 g2 v (ix2 ⟨(1 + t.val) * 256 + y0.val, by omega⟩ y1) from rfl).trans ?_
  blk_ext [idx1 t]

/-! ## Call 2: rows 512 to 1024 -/

theorem idx2 : ∀ t : Fin cfg2.N, win2_0.index t = ![9 + t.val, 0] ∧ win2_1.index t = ![1 + t.val, 0] ∧ win2_2.index t = ![1 + t.val, 0]
    ∧ win2_3.index t = ![1 + t.val, 0] ∧ win2_4.index t = ![1 + t.val, 0] ∧ win2_5.index t = ![1 + t.val, 0]
    ∧ win2_6.index t = ![1 + t.val, 0] ∧ win2_7.index t = ![1 + t.val, 0] :=
  (by decide +kernel : ∀ t : Fin grid2.N, _)

section pay2
variable (g : Vec Ideal S512x1024 .bf16) (x u v : Vec Ideal S512x1024 .f32) (r : Fin 512) (q : Fin 1024)

theorem pay2_1 : k2_pay1 (F := Ideal) g (ix2 r q) = g (ix2 r q) := by
  pointwise [k2_pay1]

theorem pay2_2 : k2_pay2 (F := Ideal) g u (ix2 r q) = mean (g (ix2 r q)) (u (ix2 r q)) := by
  pointwise [k2_pay2, k2_pay1, mean]

theorem pay2_3 : k2_pay3 (F := Ideal) g v (ix2 r q) = square (g (ix2 r q)) (v (ix2 r q)) := by
  pointwise [k2_pay3, k2_pay1, square]

theorem pay2_4 : k2_pay4 (F := Ideal) g u v x (ix2 r q) = delta (g (ix2 r q)) (x (ix2 r q)) (u (ix2 r q)) (v (ix2 r q)) := by
  pointwise [k2_pay4, k2_pay3, k2_pay2, k2_pay1, delta, mean, square]

end pay2

/-- The blocks a grid point reads. -/
def gb2 (t : Fin cfg2.N) : Vec Ideal S512x1024 .bf16 := iblk2 V c 0 t
def wb2 (t : Fin cfg2.N) : Vec Ideal S512x1024 .f32 := iblk2 V c 1 t
def ub2 (t : Fin cfg2.N) : Vec Ideal S512x1024 .f32 := iblk2 V c 2 t
def qb2 (t : Fin cfg2.N) : Vec Ideal S512x1024 .f32 := iblk2 V c 3 t

section reads2
variable (t : Fin cfg2.N) (y : Fin 512) (q : Fin 1024) (r : Fin 1024) (hr : r.val = (1 + t.val) * 512 + y.val)

include hr in
theorem gb2_at (hG : V c main_arg2 = g2) : gb2 V c t (ix2 y q) = ga g0 g1 g2 (ix2 r q) := by
  have hb : t.val < 1 := t.isLt
  refine Eq.trans ?_ (ga2 g0 g1 g2 r q (by omega) (by omega) ⟨(9 + t.val) * 512 + y.val, by omega⟩ (by show (9 + t.val) * 512 + y.val = _; omega)).symm
  rw [← hG]
  unfold gb2
  blk_ext [iblk2, idx2 t, hr]

include hr in
theorem wb2_at (hW : V c main_v8 = flat x) : wb2 V c t (ix2 y q) = flat x (ix2 r q) := by
  rw [← hW]
  unfold wb2
  blk_ext [iblk2, idx2 t, hr]

include hr in
theorem ub2_at (hW : V c main_v9 = flat u) : ub2 V c t (ix2 y q) = flat u (ix2 r q) := by
  rw [← hW]
  unfold ub2
  blk_ext [iblk2, idx2 t, hr]

include hr in
theorem qb2_at (hW : V c main_v10 = flat v) : qb2 V c t (ix2 y q) = flat v (ix2 r q) := by
  rw [← hW]
  unfold qb2
  blk_ext [iblk2, idx2 t, hr]

end reads2

theorem fin2_4 (hG : V c main_arg2 = g2) :
    (dat2 V c).arrAt 4 cfg2.N = fun i : S1024x1024.Idx => if 512 ≤ (i 0).val ∧ (i 0).val < 1024 then tG g0 g1 g2 i else V c main_v11_0 i := by
  refine (dat2 V c).arrAt_eq_of_coversWhere 4 _ (fun β => 1 ≤ β (0 : Fin 2) ∧ β (0 : Fin 2) < 2) (by decide +kernel) (fun t _ y => ?_)
    (fun i => by blk_simp [Pipeline.Window.cell_apply]; omega)
  blk_simp
  rw [after2_4]
  unfold outsAt2
  frame_out
  idx_vars y
  have hb : t.val < 1 := t.isLt
  refine (pay2_1 (gb2 V c t) y0 y1).trans ?_
  have hr : (⟨(1 + t.val) * 512 + y0.val, by omega⟩ : Fin 1024).val = (1 + t.val) * 512 + y0.val := rfl
  rw [gb2_at V c g0 g1 g2 t y0 y1 _ hr hG]
  refine (show _ = tG g0 g1 g2 (ix2 ⟨(1 + t.val) * 512 + y0.val, by omega⟩ y1) from rfl).trans ?_
  blk_ext [idx2 t]

theorem fin2_5 (hG : V c main_arg2 = g2) (hX : V c main_v8 = flat x) (hU : V c main_v9 = flat u) (hV : V c main_v10 = flat v) :
    (dat2 V c).arrAt 5 cfg2.N = fun i : S1024x1024.Idx => if 512 ≤ (i 0).val ∧ (i 0).val < 1024 then tD g0 g1 g2 x u v i else V c main_v11_1 i := by
  refine (dat2 V c).arrAt_eq_of_coversWhere 5 _ (fun β => 1 ≤ β (0 : Fin 2) ∧ β (0 : Fin 2) < 2) (by decide +kernel) (fun t _ y => ?_)
    (fun i => by blk_simp [Pipeline.Window.cell_apply]; omega)
  blk_simp
  rw [after2_5]
  unfold outsAt2
  frame_out
  idx_vars y
  have hb : t.val < 1 := t.isLt
  refine (pay2_4 (gb2 V c t) (wb2 V c t) (ub2 V c t) (qb2 V c t) y0 y1).trans ?_
  have hr : (⟨(1 + t.val) * 512 + y0.val, by omega⟩ : Fin 1024).val = (1 + t.val) * 512 + y0.val := rfl
  rw [gb2_at V c g0 g1 g2 t y0 y1 _ hr hG, wb2_at V c x t y0 y1 _ hr hX, ub2_at V c u t y0 y1 _ hr hU, qb2_at V c v t y0 y1 _ hr hV]
  refine (show _ = tD g0 g1 g2 x u v (ix2 ⟨(1 + t.val) * 512 + y0.val, by omega⟩ y1) from rfl).trans ?_
  blk_ext [idx2 t]

theorem fin2_6 (hG : V c main_arg2 = g2) (hU : V c main_v9 = flat u) :
    (dat2 V c).arrAt 6 cfg2.N = fun i : S1024x1024.Idx => if 512 ≤ (i 0).val ∧ (i 0).val < 1024 then tM g0 g1 g2 u i else V c main_v11_2 i := by
  refine (dat2 V c).arrAt_eq_of_coversWhere 6 _ (fun β => 1 ≤ β (0 : Fin 2) ∧ β (0 : Fin 2) < 2) (by decide +kernel) (fun t _ y => ?_)
    (fun i => by blk_simp [Pipeline.Window.cell_apply]; omega)
  blk_simp
  rw [after2_6]
  unfold outsAt2
  frame_out
  idx_vars y
  have hb : t.val < 1 := t.isLt
  refine (pay2_2 (gb2 V c t) (ub2 V c t) y0 y1).trans ?_
  have hr : (⟨(1 + t.val) * 512 + y0.val, by omega⟩ : Fin 1024).val = (1 + t.val) * 512 + y0.val := rfl
  rw [gb2_at V c g0 g1 g2 t y0 y1 _ hr hG, ub2_at V c u t y0 y1 _ hr hU]
  refine (show _ = tM g0 g1 g2 u (ix2 ⟨(1 + t.val) * 512 + y0.val, by omega⟩ y1) from rfl).trans ?_
  blk_ext [idx2 t]

theorem fin2_7 (hG : V c main_arg2 = g2) (hV : V c main_v10 = flat v) :
    (dat2 V c).arrAt 7 cfg2.N = fun i : S1024x1024.Idx => if 512 ≤ (i 0).val ∧ (i 0).val < 1024 then tV g0 g1 g2 v i else V c main_v11_3 i := by
  refine (dat2 V c).arrAt_eq_of_coversWhere 7 _ (fun β => 1 ≤ β (0 : Fin 2) ∧ β (0 : Fin 2) < 2) (by decide +kernel) (fun t _ y => ?_)
    (fun i => by blk_simp [Pipeline.Window.cell_apply]; omega)
  blk_simp
  rw [after2_7]
  unfold outsAt2
  frame_out
  idx_vars y
  have hb : t.val < 1 := t.isLt
  refine (pay2_3 (gb2 V c t) (qb2 V c t) y0 y1).trans ?_
  have hr : (⟨(1 + t.val) * 512 + y0.val, by omega⟩ : Fin 1024).val = (1 + t.val) * 512 + y0.val := rfl
  rw [gb2_at V c g0 g1 g2 t y0 y1 _ hr hG, qb2_at V c v t y0 y1 _ hr hV]
  refine (show _ = tV g0 g1 g2 v (ix2 ⟨(1 + t.val) * 512 + y0.val, by omega⟩ y1) from rfl).trans ?_
  blk_ext [idx2 t]

end Cert.AdXoIdeal.Arr
end
-- ==== Proof.AdXoRun.lean ====
/- The run of the calls for the cross-attention's output weight: what it leaves in the results, read back through the contents between the calls. -/
module

public import proofs.«01_k».proof.Proof.AdXoArr

@[expose] public section

set_option maxRecDepth 16384

noncomputable section

namespace Cert.AdXoIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdXoIdeal Cert.AdXoIdeal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments: the slabs, the weight, its moments. -/
abbrev g0 : FVec Ideal S2560x1024 .bf16 := m ((c.tc : Thread nD τ).loc main_arg0)
abbrev g1 : FVec Ideal S2816x1024 .bf16 := m ((c.tc : Thread nD τ).loc main_arg1)
abbrev g2 : FVec Ideal S5632x1024 .bf16 := m ((c.tc : Thread nD τ).loc main_arg2)
abbrev x : FVec Ideal S4x256x1024 .f32 := m ((c.tc : Thread nD τ).loc main_arg3)
abbrev u : FVec Ideal S4x256x1024 .f32 := m ((c.tc : Thread nD τ).loc main_arg4)
abbrev v : FVec Ideal S4x256x1024 .f32 := m ((c.tc : Thread nD τ).loc main_arg5)

/-! ## Call 0 -/

theorem hG0 : V1 m ρ c main_arg0 = g0 m c := W1_args m ρ c main_arg0 (by decide)
theorem hX0 : V1 m ρ c main_v0 = flat (x m c) := by
  have e : V1 m ρ c main_v0 = flat (W0 m ρ c (Proc.devRef .tc main_arg3)) := by
    show StableHlo.after hostOps0 _ _ = _
    after_results
    rfl
  exact e.trans (congrArg flat (W0_args m ρ c main_arg3 (by decide)))
theorem hU0 : V1 m ρ c main_v1 = flat (u m c) := by
  have e : V1 m ρ c main_v1 = flat (W0 m ρ c (Proc.devRef .tc main_arg4)) := by
    show StableHlo.after hostOps0 _ _ = _
    after_results
    rfl
  exact e.trans (congrArg flat (W0_args m ρ c main_arg4 (by decide)))
theorem hV0 : V1 m ρ c main_v2 = flat (v m c) := by
  have e : V1 m ρ c main_v2 = flat (W0 m ρ c (Proc.devRef .tc main_arg5)) := by
    show StableHlo.after hostOps0 _ _ = _
    after_results
    rfl
  exact e.trans (congrArg flat (W0_args m ρ c main_arg5 (by decide)))
theorem end0_0 : W2 m ρ c (Proc.devRef .tc main_v3_0)
    = fun i : S1024x1024.Idx => if (i 0).val < 256 then tG (g0 m c) (g1 m c) (g2 m c) i else V1 m ρ c main_v3_0 i :=
  (W2_arr m ρ c 4).trans (fin0_4 (V1 m ρ) c (g0 m c) (g1 m c) (g2 m c) (hG0 m ρ c))
theorem end0_1 : W2 m ρ c (Proc.devRef .tc main_v3_1)
    = fun i : S1024x1024.Idx => if (i 0).val < 256 then tD (g0 m c) (g1 m c) (g2 m c) (x m c) (u m c) (v m c) i else V1 m ρ c main_v3_1 i :=
  (W2_arr m ρ c 5).trans (fin0_5 (V1 m ρ) c (g0 m c) (g1 m c) (g2 m c) (x m c) (u m c) (v m c) (hG0 m ρ c) (hX0 m ρ c) (hU0 m ρ c) (hV0 m ρ c))
theorem end0_2 : W2 m ρ c (Proc.devRef .tc main_v3_2)
    = fun i : S1024x1024.Idx => if (i 0).val < 256 then tM (g0 m c) (g1 m c) (g2 m c) (u m c) i else V1 m ρ c main_v3_2 i :=
  (W2_arr m ρ c 6).trans (fin0_6 (V1 m ρ) c (g0 m c) (g1 m c) (g2 m c) (u m c) (hG0 m ρ c) (hU0 m ρ c))
theorem end0_3 : W2 m ρ c (Proc.devRef .tc main_v3_3)
    = fun i : S1024x1024.Idx => if (i 0).val < 256 then tV (g0 m c) (g1 m c) (g2 m c) (v m c) i else V1 m ρ c main_v3_3 i :=
  (W2_arr m ρ c 7).trans (fin0_7 (V1 m ρ) c (g0 m c) (g1 m c) (g2 m c) (v m c) (hG0 m ρ c) (hV0 m ρ c))

/-! ## Call 1 -/

theorem hG1 : V3 m ρ c main_arg1 = g1 m c := W3_args m ρ c main_arg1 (by decide)
theorem hX1 : V3 m ρ c main_v4 = flat (x m c) := by
  have e : V3 m ρ c main_v4 = flat (W2 m ρ c (Proc.devRef .tc main_arg3)) := by
    show StableHlo.after hostOps1 _ _ = _
    after_results
    rfl
  exact e.trans (congrArg flat (W2_args m ρ c main_arg3 (by decide)))
theorem hU1 : V3 m ρ c main_v5 = flat (u m c) := by
  have e : V3 m ρ c main_v5 = flat (W2 m ρ c (Proc.devRef .tc main_arg4)) := by
    show StableHlo.after hostOps1 _ _ = _
    after_results
    rfl
  exact e.trans (congrArg flat (W2_args m ρ c main_arg4 (by decide)))
theorem hV1 : V3 m ρ c main_v6 = flat (v m c) := by
  have e : V3 m ρ c main_v6 = flat (W2 m ρ c (Proc.devRef .tc main_arg5)) := by
    show StableHlo.after hostOps1 _ _ = _
    after_results
    rfl
  exact e.trans (congrArg flat (W2_args m ρ c main_arg5 (by decide)))
theorem end1_0 : W4 m ρ c (Proc.devRef .tc main_v7_0)
    = fun i : S1024x1024.Idx => if 256 ≤ (i 0).val ∧ (i 0).val < 512 then tG (g0 m c) (g1 m c) (g2 m c) i else V3 m ρ c main_v7_0 i :=
  (W4_arr m ρ c 4).trans (fin1_4 (V3 m ρ) c (g0 m c) (g1 m c) (g2 m c) (hG1 m ρ c))
theorem copy1_0 : V3 m ρ c main_v7_0 = W2 m ρ c (Proc.devRef .tc main_v3_0) := by
  show StableHlo.after hostOps1 _ _ = _
  after_results
  rfl
theorem end1_1 : W4 m ρ c (Proc.devRef .tc main_v7_1)
    = fun i : S1024x1024.Idx => if 256 ≤ (i 0).val ∧ (i 0).val < 512 then tD (g0 m c) (g1 m c) (g2 m c) (x m c) (u m c) (v m c) i else V3 m ρ c main_v7_1 i :=
  (W4_arr m ρ c 5).trans (fin1_5 (V3 m ρ) c (g0 m c) (g1 m c) (g2 m c) (x m c) (u m c) (v m c) (hG1 m ρ c) (hX1 m ρ c) (hU1 m ρ c) (hV1 m ρ c))
theorem copy1_1 : V3 m ρ c main_v7_1 = W2 m ρ c (Proc.devRef .tc main_v3_1) := by
  show StableHlo.after hostOps1 _ _ = _
  after_results
  rfl
theorem end1_2 : W4 m ρ c (Proc.devRef .tc main_v7_2)
    = fun i : S1024x1024.Idx => if 256 ≤ (i 0).val ∧ (i 0).val < 512 then tM (g0 m c) (g1 m c) (g2 m c) (u m c) i else V3 m ρ c main_v7_2 i :=
  (W4_arr m ρ c 6).trans (fin1_6 (V3 m ρ) c (g0 m c) (g1 m c) (g2 m c) (u m c) (hG1 m ρ c) (hU1 m ρ c))
theorem copy1_2 : V3 m ρ c main_v7_2 = W2 m ρ c (Proc.devRef .tc main_v3_2) := by
  show StableHlo.after hostOps1 _ _ = _
  after_results
  rfl
theorem end1_3 : W4 m ρ c (Proc.devRef .tc main_v7_3)
    = fun i : S1024x1024.Idx => if 256 ≤ (i 0).val ∧ (i 0).val < 512 then tV (g0 m c) (g1 m c) (g2 m c) (v m c) i else V3 m ρ c main_v7_3 i :=
  (W4_arr m ρ c 7).trans (fin1_7 (V3 m ρ) c (g0 m c) (g1 m c) (g2 m c) (v m c) (hG1 m ρ c) (hV1 m ρ c))
theorem copy1_3 : V3 m ρ c main_v7_3 = W2 m ρ c (Proc.devRef .tc main_v3_3) := by
  show StableHlo.after hostOps1 _ _ = _
  after_results
  rfl

/-! ## Call 2 -/

theorem hG2 : V5 m ρ c main_arg2 = g2 m c := W5_args m ρ c main_arg2 (by decide)
theorem hX2 : V5 m ρ c main_v8 = flat (x m c) := by
  have e : V5 m ρ c main_v8 = flat (W4 m ρ c (Proc.devRef .tc main_arg3)) := by
    show StableHlo.after hostOps2 _ _ = _
    after_results
    rfl
  exact e.trans (congrArg flat (W4_args m ρ c main_arg3 (by decide)))
theorem hU2 : V5 m ρ c main_v9 = flat (u m c) := by
  have e : V5 m ρ c main_v9 = flat (W4 m ρ c (Proc.devRef .tc main_arg4)) := by
    show StableHlo.after hostOps2 _ _ = _
    after_results
    rfl
  exact e.trans (congrArg flat (W4_args m ρ c main_arg4 (by decide)))
theorem hV2 : V5 m ρ c main_v10 = flat (v m c) := by
  have e : V5 m ρ c main_v10 = flat (W4 m ρ c (Proc.devRef .tc main_arg5)) := by
    show StableHlo.after hostOps2 _ _ = _
    after_results
    rfl
  exact e.trans (congrArg flat (W4_args m ρ c main_arg5 (by decide)))
theorem end2_0 : W6 m ρ c (Proc.devRef .tc main_v11_0)
    = fun i : S1024x1024.Idx => if 512 ≤ (i 0).val ∧ (i 0).val < 1024 then tG (g0 m c) (g1 m c) (g2 m c) i else V5 m ρ c main_v11_0 i :=
  (W6_arr m ρ c 4).trans (fin2_4 (V5 m ρ) c (g0 m c) (g1 m c) (g2 m c) (hG2 m ρ c))
theorem copy2_0 : V5 m ρ c main_v11_0 = W4 m ρ c (Proc.devRef .tc main_v7_0) := by
  show StableHlo.after hostOps2 _ _ = _
  after_results
  rfl
theorem end2_1 : W6 m ρ c (Proc.devRef .tc main_v11_1)
    = fun i : S1024x1024.Idx => if 512 ≤ (i 0).val ∧ (i 0).val < 1024 then tD (g0 m c) (g1 m c) (g2 m c) (x m c) (u m c) (v m c) i else V5 m ρ c main_v11_1 i :=
  (W6_arr m ρ c 5).trans (fin2_5 (V5 m ρ) c (g0 m c) (g1 m c) (g2 m c) (x m c) (u m c) (v m c) (hG2 m ρ c) (hX2 m ρ c) (hU2 m ρ c) (hV2 m ρ c))
theorem copy2_1 : V5 m ρ c main_v11_1 = W4 m ρ c (Proc.devRef .tc main_v7_1) := by
  show StableHlo.after hostOps2 _ _ = _
  after_results
  rfl
theorem end2_2 : W6 m ρ c (Proc.devRef .tc main_v11_2)
    = fun i : S1024x1024.Idx => if 512 ≤ (i 0).val ∧ (i 0).val < 1024 then tM (g0 m c) (g1 m c) (g2 m c) (u m c) i else V5 m ρ c main_v11_2 i :=
  (W6_arr m ρ c 6).trans (fin2_6 (V5 m ρ) c (g0 m c) (g1 m c) (g2 m c) (u m c) (hG2 m ρ c) (hU2 m ρ c))
theorem copy2_2 : V5 m ρ c main_v11_2 = W4 m ρ c (Proc.devRef .tc main_v7_2) := by
  show StableHlo.after hostOps2 _ _ = _
  after_results
  rfl
theorem end2_3 : W6 m ρ c (Proc.devRef .tc main_v11_3)
    = fun i : S1024x1024.Idx => if 512 ≤ (i 0).val ∧ (i 0).val < 1024 then tV (g0 m c) (g1 m c) (g2 m c) (v m c) i else V5 m ρ c main_v11_3 i :=
  (W6_arr m ρ c 7).trans (fin2_7 (V5 m ρ) c (g0 m c) (g1 m c) (g2 m c) (v m c) (hG2 m ρ c) (hV2 m ρ c))
theorem copy2_3 : V5 m ρ c main_v11_3 = W4 m ρ c (Proc.devRef .tc main_v7_3) := by
  show StableHlo.after hostOps2 _ _ = _
  after_results
  rfl

/-! ## What the last call leaves -/

theorem last0 : W6 m ρ c (Proc.devRef .tc main_v11_0) = tG (g0 m c) (g1 m c) (g2 m c) := by
  refine (end2_0 m ρ c).trans (funext fun i => ?_)
  have hb : (i 0).val < 1024 := (i 0).isLt
  split_ifs with h2
  · rfl
  refine (congrFun ((copy2_0 m ρ c).trans (end1_0 m ρ c)) i).trans ?_
  split_ifs with h1
  · rfl
  refine (congrFun ((copy1_0 m ρ c).trans (end0_0 m ρ c)) i).trans ?_
  rw [if_pos (by omega)]

theorem last1 : W6 m ρ c (Proc.devRef .tc main_v11_1) = tD (g0 m c) (g1 m c) (g2 m c) (x m c) (u m c) (v m c) := by
  refine (end2_1 m ρ c).trans (funext fun i => ?_)
  have hb : (i 0).val < 1024 := (i 0).isLt
  split_ifs with h2
  · rfl
  refine (congrFun ((copy2_1 m ρ c).trans (end1_1 m ρ c)) i).trans ?_
  split_ifs with h1
  · rfl
  refine (congrFun ((copy1_1 m ρ c).trans (end0_1 m ρ c)) i).trans ?_
  rw [if_pos (by omega)]

theorem last2 : W6 m ρ c (Proc.devRef .tc main_v11_2) = tM (g0 m c) (g1 m c) (g2 m c) (u m c) := by
  refine (end2_2 m ρ c).trans (funext fun i => ?_)
  have hb : (i 0).val < 1024 := (i 0).isLt
  split_ifs with h2
  · rfl
  refine (congrFun ((copy2_2 m ρ c).trans (end1_2 m ρ c)) i).trans ?_
  split_ifs with h1
  · rfl
  refine (congrFun ((copy1_2 m ρ c).trans (end0_2 m ρ c)) i).trans ?_
  rw [if_pos (by omega)]

theorem last3 : W6 m ρ c (Proc.devRef .tc main_v11_3) = tV (g0 m c) (g1 m c) (g2 m c) (v m c) := by
  refine (end2_3 m ρ c).trans (funext fun i => ?_)
  have hb : (i 0).val < 1024 := (i 0).isLt
  split_ifs with h2
  · rfl
  refine (congrFun ((copy2_3 m ρ c).trans (end1_3 m ρ c)) i).trans ?_
  split_ifs with h1
  · rfl
  refine (congrFun ((copy1_3 m ρ c).trans (end0_3 m ρ c)) i).trans ?_
  rw [if_pos (by omega)]

set_option backward.isDefEq.respectTransparency.types false in
/-- The run leaves the gradient, the change of the weight and the moments in the results, and the arguments as they were. -/
theorem leaves : θ_run defs (onTc (τ := τ) (main (F := Ideal))) ⟨m, fun _ => 0, ρ⟩ (fun r => ∀ c : Dev nD,
      r.2.mem ((c.tc : Thread nD τ).loc main_v11_0) = tG (g0 m c) (g1 m c) (g2 m c)
      ∧ r.2.mem ((c.tc : Thread nD τ).loc main_v11_1) = tD (g0 m c) (g1 m c) (g2 m c) (x m c) (u m c) (v m c)
      ∧ r.2.mem ((c.tc : Thread nD τ).loc main_v11_2) = tM (g0 m c) (g1 m c) (g2 m c) (u m c)
      ∧ r.2.mem ((c.tc : Thread nD τ).loc main_v11_3) = tV (g0 m c) (g1 m c) (g2 m c) (v m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v11_0 (by decide))).trans (last0 m ρ c),
       (h c _ (mem_uc main_v11_1 (by decide))).trans (last1 m ρ c),
       (h c _ (mem_uc main_v11_2 (by decide))).trans (last2 m ρ c),
       (h c _ (mem_uc main_v11_3 (by decide))).trans (last3 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.AdXoIdeal.Arr
end
-- ==== Proof.AdXkvArr.lean ====
/- The optimiser's step for the cross-attention's key and value weight, whose layers' gradients arrive in 3 slabs: 3 calls, each on the rows of its slab. -/
module

public import proofs.«01_k».proof.Proof.AdMath
public import proofs.«01_k».proof.Proof.Gen.AdXkvIdeal.Frame
public import proofs.«01_k».proof.Proof.Gen.AdXkvRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdXkvIdeal.Arr
open Cert.AdXkvIdeal Cert.AdXkvIdeal.Gen Cert.AdXkvRefIdeal.Read Cert.Adam

/-- A weight's layers one below the other. -/
def flat (x : FVec Ideal S4x1024x512 .f32) : FVec Ideal S4096x512 .f32 := shapeCast S4096x512 x shapeCasts_S4x1024x512_S4096x512

section ref
variable (g0 : FVec Ideal S1024x512 .bf16) (g1 : FVec Ideal S1024x512 .bf16) (g2 : FVec Ideal S2048x512 .bf16)
  (x u v : FVec Ideal S4x1024x512 .f32) (r : Fin 4096) (q : Fin 512)

/-- The gradient, its layers one below the other. -/
def ga : FVec Ideal S4096x512 .f32 := flat (val_main_v4 (F := Ideal) g0 g1 g2)

theorem ga0 (h0 : 0 ≤ r.val) (h1 : r.val < 1024) (p : Fin 1024) (hp : p.val = 0 + (r.val - 0)) :
    ga g0 g1 g2 (ix2 r q) = g0 (ix2 p q) := by
  pointwise [ga, flat, val_main_v0, val_main_v1, val_main_v2, val_main_v3, val_main_v4]
  rw [dif_pos (by omega)]
  refine congrArg (fun z => g0 (ix2 z q)) (Fin.ext ?_)
  dsimp only
  omega

theorem ga1 (h0 : 1024 ≤ r.val) (h1 : r.val < 2048) (p : Fin 1024) (hp : p.val = 0 + (r.val - 1024)) :
    ga g0 g1 g2 (ix2 r q) = g1 (ix2 p q) := by
  pointwise [ga, flat, val_main_v0, val_main_v1, val_main_v2, val_main_v3, val_main_v4]
  rw [dif_neg (by omega), dif_pos (by omega)]
  refine congrArg (fun z => g1 (ix2 z q)) (Fin.ext ?_)
  dsimp only
  omega

theorem ga2 (h0 : 2048 ≤ r.val) (h1 : r.val < 4096) (p : Fin 2048) (hp : p.val = 0 + (r.val - 2048)) :
    ga g0 g1 g2 (ix2 r q) = g2 (ix2 p q) := by
  pointwise [ga, flat, val_main_v0, val_main_v1, val_main_v2, val_main_v3, val_main_v4]
  rw [dif_neg (by omega), dif_neg (by omega)]
  refine congrArg (fun z => g2 (ix2 z q)) (Fin.ext ?_)
  dsimp only
  omega

/-- The four results: the gradient, the change of the weight, the moments. -/
def tG : FVec Ideal S4096x512 .f32 := ga g0 g1 g2
def tD : FVec Ideal S4096x512 .f32 := fun i => delta (ga g0 g1 g2 i) (flat x i) (flat u i) (flat v i)
def tM : FVec Ideal S4096x512 .f32 := fun i => mean (ga g0 g1 g2 i) (flat u i)
def tV : FVec Ideal S4096x512 .f32 := fun i => square (ga g0 g1 g2 i) (flat v i)

theorem refG : val_main_v29 (F := Ideal) g0 g1 g2 = tG g0 g1 g2 := rfl

theorem refD : val_main_v30 (F := Ideal) g0 g1 g2 x u v = tD g0 g1 g2 x u v := by
  funext i
  idx_vars i
  show _ = delta (ga g0 g1 g2 (ix2 i0 i1)) (flat x (ix2 i0 i1)) (flat u (ix2 i0 i1)) (flat v (ix2 i0 i1))
  pointwise [ga, flat, delta, mean, square, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, val_main_v29, val_main_v30, val_main_v31, val_main_v32]

theorem refM : val_main_v31 (F := Ideal) g0 g1 g2 u = tM g0 g1 g2 u := by
  funext i
  idx_vars i
  show _ = mean (ga g0 g1 g2 (ix2 i0 i1)) (flat u (ix2 i0 i1))
  pointwise [ga, flat, mean, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, val_main_v29, val_main_v30, val_main_v31, val_main_v32]

theorem refV : val_main_v32 (F := Ideal) g0 g1 g2 v = tV g0 g1 g2 v := by
  funext i
  idx_vars i
  show _ = square (ga g0 g1 g2 (ix2 i0 i1)) (flat v (ix2 i0 i1))
  pointwise [ga, flat, square, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, val_main_v29, val_main_v30, val_main_v31, val_main_v32]

end ref

variable (V : (c : Dev nD) → (b : Ref sig .tc) → Buf (Elt Ideal) ((c : Thread nD τ).loc b)) (c : Dev nD)
  (g0 : FVec Ideal S1024x512 .bf16) (g1 : FVec Ideal S1024x512 .bf16) (g2 : FVec Ideal S2048x512 .bf16)
  (x u v : FVec Ideal S4x1024x512 .f32)

/-! ## Call 0: rows 0 to 1024 -/

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay0
variable (g : Vec Ideal S512x512 .bf16) (x u v : Vec Ideal S512x512 .f32) (r : Fin 512) (q : Fin 512)

theorem pay0_1 : k0_pay1 (F := Ideal) g (ix2 r q) = g (ix2 r q) := by
  pointwise [k0_pay1]

theorem pay0_2 : k0_pay2 (F := Ideal) g u (ix2 r q) = mean (g (ix2 r q)) (u (ix2 r q)) := by
  pointwise [k0_pay2, k0_pay1, mean]

theorem pay0_3 : k0_pay3 (F := Ideal) g v (ix2 r q) = square (g (ix2 r q)) (v (ix2 r q)) := by
  pointwise [k0_pay3, k0_pay1, square]

theorem pay0_4 : k0_pay4 (F := Ideal) g u v x (ix2 r q) = delta (g (ix2 r q)) (x (ix2 r q)) (u (ix2 r q)) (v (ix2 r q)) := by
  pointwise [k0_pay4, k0_pay3, k0_pay2, k0_pay1, delta, mean, square]

end pay0

/-- The blocks a grid point reads. -/
def gb0 (t : Fin cfg0.N) : Vec Ideal S512x512 .bf16 := iblk0 V c 0 t
def wb0 (t : Fin cfg0.N) : Vec Ideal S512x512 .f32 := iblk0 V c 1 t
def ub0 (t : Fin cfg0.N) : Vec Ideal S512x512 .f32 := iblk0 V c 2 t
def qb0 (t : Fin cfg0.N) : Vec Ideal S512x512 .f32 := iblk0 V c 3 t

section reads0
variable (t : Fin cfg0.N) (y : Fin 512) (q : Fin 512) (r : Fin 4096) (hr : r.val = t.val * 512 + y.val)

include hr in
theorem gb0_at (hG : V c main_arg0 = g0) : gb0 V c t (ix2 y q) = ga g0 g1 g2 (ix2 r q) := by
  have hb : t.val < 2 := t.isLt
  refine Eq.trans ?_ (ga0 g0 g1 g2 r q (by omega) (by omega) ⟨(t.val) * 512 + y.val, by omega⟩ (by show (t.val) * 512 + y.val = _; omega)).symm
  rw [← hG]
  unfold gb0
  blk_ext [iblk0, idx0 t, hr]

include hr in
theorem wb0_at (hW : V c main_v0 = flat x) : wb0 V c t (ix2 y q) = flat x (ix2 r q) := by
  rw [← hW]
  unfold wb0
  blk_ext [iblk0, idx0 t, hr]

include hr in
theorem ub0_at (hW : V c main_v1 = flat u) : ub0 V c t (ix2 y q) = flat u (ix2 r q) := by
  rw [← hW]
  unfold ub0
  blk_ext [iblk0, idx0 t, hr]

include hr in
theorem qb0_at (hW : V c main_v2 = flat v) : qb0 V c t (ix2 y q) = flat v (ix2 r q) := by
  rw [← hW]
  unfold qb0
  blk_ext [iblk0, idx0 t, hr]

end reads0

theorem fin0_4 (hG : V c main_arg0 = g0) :
    (dat0 V c).arrAt 4 cfg0.N = fun i : S4096x512.Idx => if (i 0).val < 1024 then tG g0 g1 g2 i else V c main_v3_0 i := by
  refine (dat0 V c).arrAt_eq_of_coversWhere 4 _ (fun β => β (0 : Fin 2) < 2) (by decide +kernel) (fun t _ y => ?_)
    (fun i => by blk_simp [Pipeline.Window.cell_apply]; omega)
  blk_simp
  rw [after0_4]
  frame_out
  idx_vars y
  have hb : t.val < 2 := t.isLt
  refine (pay0_1 (gb0 V c t) y0 y1).trans ?_
  have hr : (⟨t.val * 512 + y0.val, by omega⟩ : Fin 4096).val = t.val * 512 + y0.val := rfl
  rw [gb0_at V c g0 g1 g2 t y0 y1 _ hr hG]
  refine (show _ = tG g0 g1 g2 (ix2 ⟨t.val * 512 + y0.val, by omega⟩ y1) from rfl).trans ?_
  blk_ext [idx0 t]

theorem fin0_5 (hG : V c main_arg0 = g0) (hX : V c main_v0 = flat x) (hU : V c main_v1 = flat u) (hV : V c main_v2 = flat v) :
    (dat0 V c).arrAt 5 cfg0.N = fun i : S4096x512.Idx => if (i 0).val < 1024 then tD g0 g1 g2 x u v i else V c main_v3_1 i := by
  refine (dat0 V c).arrAt_eq_of_coversWhere 5 _ (fun β => β (0 : Fin 2) < 2) (by decide +kernel) (fun t _ y => ?_)
    (fun i => by blk_simp [Pipeline.Window.cell_apply]; omega)
  blk_simp
  rw [after0_5]
  frame_out
  idx_vars y
  have hb : t.val < 2 := t.isLt
  refine (pay0_4 (gb0 V c t) (wb0 V c t) (ub0 V c t) (qb0 V c t) y0 y1).trans ?_
  have hr : (⟨t.val * 512 + y0.val, by omega⟩ : Fin 4096).val = t.val * 512 + y0.val := rfl
  rw [gb0_at V c g0 g1 g2 t y0 y1 _ hr hG, wb0_at V c x t y0 y1 _ hr hX, ub0_at V c u t y0 y1 _ hr hU, qb0_at V c v t y0 y1 _ hr hV]
  refine (show _ = tD g0 g1 g2 x u v (ix2 ⟨t.val * 512 + y0.val, by omega⟩ y1) from rfl).trans ?_
  blk_ext [idx0 t]

theorem fin0_6 (hG : V c main_arg0 = g0) (hU : V c main_v1 = flat u) :
    (dat0 V c).arrAt 6 cfg0.N = fun i : S4096x512.Idx => if (i 0).val < 1024 then tM g0 g1 g2 u i else V c main_v3_2 i := by
  refine (dat0 V c).arrAt_eq_of_coversWhere 6 _ (fun β => β (0 : Fin 2) < 2) (by decide +kernel) (fun t _ y => ?_)
    (fun i => by blk_simp [Pipeline.Window.cell_apply]; omega)
  blk_simp
  rw [after0_6]
  frame_out
  idx_vars y
  have hb : t.val < 2 := t.isLt
  refine (pay0_2 (gb0 V c t) (ub0 V c t) y0 y1).trans ?_
  have hr : (⟨t.val * 512 + y0.val, by omega⟩ : Fin 4096).val = t.val * 512 + y0.val := rfl
  rw [gb0_at V c g0 g1 g2 t y0 y1 _ hr hG, ub0_at V c u t y0 y1 _ hr hU]
  refine (show _ = tM g0 g1 g2 u (ix2 ⟨t.val * 512 + y0.val, by omega⟩ y1) from rfl).trans ?_
  blk_ext [idx0 t]

theorem fin0_7 (hG : V c main_arg0 = g0) (hV : V c main_v2 = flat v) :
    (dat0 V c).arrAt 7 cfg0.N = fun i : S4096x512.Idx => if (i 0).val < 1024 then tV g0 g1 g2 v i else V c main_v3_3 i := by
  refine (dat0 V c).arrAt_eq_of_coversWhere 7 _ (fun β => β (0 : Fin 2) < 2) (by decide +kernel) (fun t _ y => ?_)
    (fun i => by blk_simp [Pipeline.Window.cell_apply]; omega)
  blk_simp
  rw [after0_7]
  frame_out
  idx_vars y
  have hb : t.val < 2 := t.isLt
  refine (pay0_3 (gb0 V c t) (qb0 V c t) y0 y1).trans ?_
  have hr : (⟨t.val * 512 + y0.val, by omega⟩ : Fin 4096).val = t.val * 512 + y0.val := rfl
  rw [gb0_at V c g0 g1 g2 t y0 y1 _ hr hG, qb0_at V c v t y0 y1 _ hr hV]
  refine (show _ = tV g0 g1 g2 v (ix2 ⟨t.val * 512 + y0.val, by omega⟩ y1) from rfl).trans ?_
  blk_ext [idx0 t]

/-! ## Call 1: rows 1024 to 2048 -/

theorem idx1 : ∀ t : Fin cfg1.N, win1_0.index t = ![t.val, 0] ∧ win1_1.index t = ![2 + t.val, 0] ∧ win1_2.index t = ![2 + t.val, 0]
    ∧ win1_3.index t = ![2 + t.val, 0] ∧ win1_4.index t = ![2 + t.val, 0] ∧ win1_5.index t = ![2 + t.val, 0]
    ∧ win1_6.index t = ![2 + t.val, 0] ∧ win1_7.index t = ![2 + t.val, 0] :=
  (by decide +kernel : ∀ t : Fin grid1.N, _)

section pay1
variable (g : Vec Ideal S512x512 .bf16) (x u v : Vec Ideal S512x512 .f32) (r : Fin 512) (q : Fin 512)

theorem pay1_1 : k1_pay1 (F := Ideal) g (ix2 r q) = g (ix2 r q) := by
  pointwise [k1_pay1]

theorem pay1_2 : k1_pay2 (F := Ideal) g u (ix2 r q) = mean (g (ix2 r q)) (u (ix2 r q)) := by
  pointwise [k1_pay2, k1_pay1, mean]

theorem pay1_3 : k1_pay3 (F := Ideal) g v (ix2 r q) = square (g (ix2 r q)) (v (ix2 r q)) := by
  pointwise [k1_pay3, k1_pay1, square]

theorem pay1_4 : k1_pay4 (F := Ideal) g u v x (ix2 r q) = delta (g (ix2 r q)) (x (ix2 r q)) (u (ix2 r q)) (v (ix2 r q)) := by
  pointwise [k1_pay4, k1_pay3, k1_pay2, k1_pay1, delta, mean, square]

end pay1

/-- The blocks a grid point reads. -/
def gb1 (t : Fin cfg1.N) : Vec Ideal S512x512 .bf16 := iblk1 V c 0 t
def wb1 (t : Fin cfg1.N) : Vec Ideal S512x512 .f32 := iblk1 V c 1 t
def ub1 (t : Fin cfg1.N) : Vec Ideal S512x512 .f32 := iblk1 V c 2 t
def qb1 (t : Fin cfg1.N) : Vec Ideal S512x512 .f32 := iblk1 V c 3 t

section reads1
variable (t : Fin cfg1.N) (y : Fin 512) (q : Fin 512) (r : Fin 4096) (hr : r.val = (2 + t.val) * 512 + y.val)

include hr in
theorem gb1_at (hG : V c main_arg1 = g1) : gb1 V c t (ix2 y q) = ga g0 g1 g2 (ix2 r q) := by
  have hb : t.val < 2 := t.isLt
  refine Eq.trans ?_ (ga1 g0 g1 g2 r q (by omega) (by omega) ⟨(t.val) * 512 + y.val, by omega⟩ (by show (t.val) * 512 + y.val = _; omega)).symm
  rw [← hG]
  unfold gb1
  blk_ext [iblk1, idx1 t, hr]

include hr in
theorem wb1_at (hW : V c main_v4 = flat x) : wb1 V c t (ix2 y q) = flat x (ix2 r q) := by
  rw [← hW]
  unfold wb1
  blk_ext [iblk1, idx1 t, hr]

include hr in
theorem ub1_at (hW : V c main_v5 = flat u) : ub1 V c t (ix2 y q) = flat u (ix2 r q) := by
  rw [← hW]
  unfold ub1
  blk_ext [iblk1, idx1 t, hr]

include hr in
theorem qb1_at (hW : V c main_v6 = flat v) : qb1 V c t (ix2 y q) = flat v (ix2 r q) := by
  rw [← hW]
  unfold qb1
  blk_ext [iblk1, idx1 t, hr]

end reads1

theorem fin1_4 (hG : V c main_arg1 = g1) :
    (dat1 V c).arrAt 4 cfg1.N = fun i : S4096x512.Idx => if 1024 ≤ (i 0).val ∧ (i 0).val < 2048 then tG g0 g1 g2 i else V c main_v7_0 i := by
  refine (dat1 V c).arrAt_eq_of_coversWhere 4 _ (fun β => 2 ≤ β (0 : Fin 2) ∧ β (0 : Fin 2) < 4) (by decide +kernel) (fun t _ y => ?_)
    (fun i => by blk_simp [Pipeline.Window.cell_apply]; omega)
  blk_simp
  rw [after1_4]
  unfold outsAt1
  frame_out
  idx_vars y
  have hb : t.val < 2 := t.isLt
  refine (pay1_1 (gb1 V c t) y0 y1).trans ?_
  have hr : (⟨(2 + t.val) * 512 + y0.val, by omega⟩ : Fin 4096).val = (2 + t.val) * 512 + y0.val := rfl
  rw [gb1_at V c g0 g1 g2 t y0 y1 _ hr hG]
  refine (show _ = tG g0 g1 g2 (ix2 ⟨(2 + t.val) * 512 + y0.val, by omega⟩ y1) from rfl).trans ?_
  blk_ext [idx1 t]

theorem fin1_5 (hG : V c main_arg1 = g1) (hX : V c main_v4 = flat x) (hU : V c main_v5 = flat u) (hV : V c main_v6 = flat v) :
    (dat1 V c).arrAt 5 cfg1.N = fun i : S4096x512.Idx => if 1024 ≤ (i 0).val ∧ (i 0).val < 2048 then tD g0 g1 g2 x u v i else V c main_v7_1 i := by
  refine (dat1 V c).arrAt_eq_of_coversWhere 5 _ (fun β => 2 ≤ β (0 : Fin 2) ∧ β (0 : Fin 2) < 4) (by decide +kernel) (fun t _ y => ?_)
    (fun i => by blk_simp [Pipeline.Window.cell_apply]; omega)
  blk_simp
  rw [after1_5]
  unfold outsAt1
  frame_out
  idx_vars y
  have hb : t.val < 2 := t.isLt
  refine (pay1_4 (gb1 V c t) (wb1 V c t) (ub1 V c t) (qb1 V c t) y0 y1).trans ?_
  have hr : (⟨(2 + t.val) * 512 + y0.val, by omega⟩ : Fin 4096).val = (2 + t.val) * 512 + y0.val := rfl
  rw [gb1_at V c g0 g1 g2 t y0 y1 _ hr hG, wb1_at V c x t y0 y1 _ hr hX, ub1_at V c u t y0 y1 _ hr hU, qb1_at V c v t y0 y1 _ hr hV]
  refine (show _ = tD g0 g1 g2 x u v (ix2 ⟨(2 + t.val) * 512 + y0.val, by omega⟩ y1) from rfl).trans ?_
  blk_ext [idx1 t]

theorem fin1_6 (hG : V c main_arg1 = g1) (hU : V c main_v5 = flat u) :
    (dat1 V c).arrAt 6 cfg1.N = fun i : S4096x512.Idx => if 1024 ≤ (i 0).val ∧ (i 0).val < 2048 then tM g0 g1 g2 u i else V c main_v7_2 i := by
  refine (dat1 V c).arrAt_eq_of_coversWhere 6 _ (fun β => 2 ≤ β (0 : Fin 2) ∧ β (0 : Fin 2) < 4) (by decide +kernel) (fun t _ y => ?_)
    (fun i => by blk_simp [Pipeline.Window.cell_apply]; omega)
  blk_simp
  rw [after1_6]
  unfold outsAt1
  frame_out
  idx_vars y
  have hb : t.val < 2 := t.isLt
  refine (pay1_2 (gb1 V c t) (ub1 V c t) y0 y1).trans ?_
  have hr : (⟨(2 + t.val) * 512 + y0.val, by omega⟩ : Fin 4096).val = (2 + t.val) * 512 + y0.val := rfl
  rw [gb1_at V c g0 g1 g2 t y0 y1 _ hr hG, ub1_at V c u t y0 y1 _ hr hU]
  refine (show _ = tM g0 g1 g2 u (ix2 ⟨(2 + t.val) * 512 + y0.val, by omega⟩ y1) from rfl).trans ?_
  blk_ext [idx1 t]

theorem fin1_7 (hG : V c main_arg1 = g1) (hV : V c main_v6 = flat v) :
    (dat1 V c).arrAt 7 cfg1.N = fun i : S4096x512.Idx => if 1024 ≤ (i 0).val ∧ (i 0).val < 2048 then tV g0 g1 g2 v i else V c main_v7_3 i := by
  refine (dat1 V c).arrAt_eq_of_coversWhere 7 _ (fun β => 2 ≤ β (0 : Fin 2) ∧ β (0 : Fin 2) < 4) (by decide +kernel) (fun t _ y => ?_)
    (fun i => by blk_simp [Pipeline.Window.cell_apply]; omega)
  blk_simp
  rw [after1_7]
  unfold outsAt1
  frame_out
  idx_vars y
  have hb : t.val < 2 := t.isLt
  refine (pay1_3 (gb1 V c t) (qb1 V c t) y0 y1).trans ?_
  have hr : (⟨(2 + t.val) * 512 + y0.val, by omega⟩ : Fin 4096).val = (2 + t.val) * 512 + y0.val := rfl
  rw [gb1_at V c g0 g1 g2 t y0 y1 _ hr hG, qb1_at V c v t y0 y1 _ hr hV]
  refine (show _ = tV g0 g1 g2 v (ix2 ⟨(2 + t.val) * 512 + y0.val, by omega⟩ y1) from rfl).trans ?_
  blk_ext [idx1 t]

/-! ## Call 2: rows 2048 to 4096 -/

theorem idx2 : ∀ t : Fin cfg2.N, win2_0.index t = ![t.val, 0] ∧ win2_1.index t = ![4 + t.val, 0] ∧ win2_2.index t = ![4 + t.val, 0]
    ∧ win2_3.index t = ![4 + t.val, 0] ∧ win2_4.index t = ![4 + t.val, 0] ∧ win2_5.index t = ![4 + t.val, 0]
    ∧ win2_6.index t = ![4 + t.val, 0] ∧ win2_7.index t = ![4 + t.val, 0] :=
  (by decide +kernel : ∀ t : Fin grid2.N, _)

section pay2
variable (g : Vec Ideal S512x512 .bf16) (x u v : Vec Ideal S512x512 .f32) (r : Fin 512) (q : Fin 512)

theorem pay2_1 : k2_pay1 (F := Ideal) g (ix2 r q) = g (ix2 r q) := by
  pointwise [k2_pay1]

theorem pay2_2 : k2_pay2 (F := Ideal) g u (ix2 r q) = mean (g (ix2 r q)) (u (ix2 r q)) := by
  pointwise [k2_pay2, k2_pay1, mean]

theorem pay2_3 : k2_pay3 (F := Ideal) g v (ix2 r q) = square (g (ix2 r q)) (v (ix2 r q)) := by
  pointwise [k2_pay3, k2_pay1, square]

theorem pay2_4 : k2_pay4 (F := Ideal) g u v x (ix2 r q) = delta (g (ix2 r q)) (x (ix2 r q)) (u (ix2 r q)) (v (ix2 r q)) := by
  pointwise [k2_pay4, k2_pay3, k2_pay2, k2_pay1, delta, mean, square]

end pay2

/-- The blocks a grid point reads. -/
def gb2 (t : Fin cfg2.N) : Vec Ideal S512x512 .bf16 := iblk2 V c 0 t
def wb2 (t : Fin cfg2.N) : Vec Ideal S512x512 .f32 := iblk2 V c 1 t
def ub2 (t : Fin cfg2.N) : Vec Ideal S512x512 .f32 := iblk2 V c 2 t
def qb2 (t : Fin cfg2.N) : Vec Ideal S512x512 .f32 := iblk2 V c 3 t

section reads2
variable (t : Fin cfg2.N) (y : Fin 512) (q : Fin 512) (r : Fin 4096) (hr : r.val = (4 + t.val) * 512 + y.val)

include hr in
theorem gb2_at (hG : V c main_arg2 = g2) : gb2 V c t (ix2 y q) = ga g0 g1 g2 (ix2 r q) := by
  have hb : t.val < 4 := t.isLt
  refine Eq.trans ?_ (ga2 g0 g1 g2 r q (by omega) (by omega) ⟨(t.val) * 512 + y.val, by omega⟩ (by show (t.val) * 512 + y.val = _; omega)).symm
  rw [← hG]
  unfold gb2
  blk_ext [iblk2, idx2 t, hr]

include hr in
theorem wb2_at (hW : V c main_v8 = flat x) : wb2 V c t (ix2 y q) = flat x (ix2 r q) := by
  rw [← hW]
  unfold wb2
  blk_ext [iblk2, idx2 t, hr]

include hr in
theorem ub2_at (hW : V c main_v9 = flat u) : ub2 V c t (ix2 y q) = flat u (ix2 r q) := by
  rw [← hW]
  unfold ub2
  blk_ext [iblk2, idx2 t, hr]

include hr in
theorem qb2_at (hW : V c main_v10 = flat v) : qb2 V c t (ix2 y q) = flat v (ix2 r q) := by
  rw [← hW]
  unfold qb2
  blk_ext [iblk2, idx2 t, hr]

end reads2

theorem fin2_4 (hG : V c main_arg2 = g2) :
    (dat2 V c).arrAt 4 cfg2.N = fun i : S4096x512.Idx => if 2048 ≤ (i 0).val ∧ (i 0).val < 4096 then tG g0 g1 g2 i else V c main_v11_0 i := by
  refine (dat2 V c).arrAt_eq_of_coversWhere 4 _ (fun β => 4 ≤ β (0 : Fin 2) ∧ β (0 : Fin 2) < 8) (by decide +kernel) (fun t _ y => ?_)
    (fun i => by blk_simp [Pipeline.Window.cell_apply]; omega)
  blk_simp
  rw [after2_4]
  unfold outsAt2
  frame_out
  idx_vars y
  have hb : t.val < 4 := t.isLt
  refine (pay2_1 (gb2 V c t) y0 y1).trans ?_
  have hr : (⟨(4 + t.val) * 512 + y0.val, by omega⟩ : Fin 4096).val = (4 + t.val) * 512 + y0.val := rfl
  rw [gb2_at V c g0 g1 g2 t y0 y1 _ hr hG]
  refine (show _ = tG g0 g1 g2 (ix2 ⟨(4 + t.val) * 512 + y0.val, by omega⟩ y1) from rfl).trans ?_
  blk_ext [idx2 t]

theorem fin2_5 (hG : V c main_arg2 = g2) (hX : V c main_v8 = flat x) (hU : V c main_v9 = flat u) (hV : V c main_v10 = flat v) :
    (dat2 V c).arrAt 5 cfg2.N = fun i : S4096x512.Idx => if 2048 ≤ (i 0).val ∧ (i 0).val < 4096 then tD g0 g1 g2 x u v i else V c main_v11_1 i := by
  refine (dat2 V c).arrAt_eq_of_coversWhere 5 _ (fun β => 4 ≤ β (0 : Fin 2) ∧ β (0 : Fin 2) < 8) (by decide +kernel) (fun t _ y => ?_)
    (fun i => by blk_simp [Pipeline.Window.cell_apply]; omega)
  blk_simp
  rw [after2_5]
  unfold outsAt2
  frame_out
  idx_vars y
  have hb : t.val < 4 := t.isLt
  refine (pay2_4 (gb2 V c t) (wb2 V c t) (ub2 V c t) (qb2 V c t) y0 y1).trans ?_
  have hr : (⟨(4 + t.val) * 512 + y0.val, by omega⟩ : Fin 4096).val = (4 + t.val) * 512 + y0.val := rfl
  rw [gb2_at V c g0 g1 g2 t y0 y1 _ hr hG, wb2_at V c x t y0 y1 _ hr hX, ub2_at V c u t y0 y1 _ hr hU, qb2_at V c v t y0 y1 _ hr hV]
  refine (show _ = tD g0 g1 g2 x u v (ix2 ⟨(4 + t.val) * 512 + y0.val, by omega⟩ y1) from rfl).trans ?_
  blk_ext [idx2 t]

theorem fin2_6 (hG : V c main_arg2 = g2) (hU : V c main_v9 = flat u) :
    (dat2 V c).arrAt 6 cfg2.N = fun i : S4096x512.Idx => if 2048 ≤ (i 0).val ∧ (i 0).val < 4096 then tM g0 g1 g2 u i else V c main_v11_2 i := by
  refine (dat2 V c).arrAt_eq_of_coversWhere 6 _ (fun β => 4 ≤ β (0 : Fin 2) ∧ β (0 : Fin 2) < 8) (by decide +kernel) (fun t _ y => ?_)
    (fun i => by blk_simp [Pipeline.Window.cell_apply]; omega)
  blk_simp
  rw [after2_6]
  unfold outsAt2
  frame_out
  idx_vars y
  have hb : t.val < 4 := t.isLt
  refine (pay2_2 (gb2 V c t) (ub2 V c t) y0 y1).trans ?_
  have hr : (⟨(4 + t.val) * 512 + y0.val, by omega⟩ : Fin 4096).val = (4 + t.val) * 512 + y0.val := rfl
  rw [gb2_at V c g0 g1 g2 t y0 y1 _ hr hG, ub2_at V c u t y0 y1 _ hr hU]
  refine (show _ = tM g0 g1 g2 u (ix2 ⟨(4 + t.val) * 512 + y0.val, by omega⟩ y1) from rfl).trans ?_
  blk_ext [idx2 t]

theorem fin2_7 (hG : V c main_arg2 = g2) (hV : V c main_v10 = flat v) :
    (dat2 V c).arrAt 7 cfg2.N = fun i : S4096x512.Idx => if 2048 ≤ (i 0).val ∧ (i 0).val < 4096 then tV g0 g1 g2 v i else V c main_v11_3 i := by
  refine (dat2 V c).arrAt_eq_of_coversWhere 7 _ (fun β => 4 ≤ β (0 : Fin 2) ∧ β (0 : Fin 2) < 8) (by decide +kernel) (fun t _ y => ?_)
    (fun i => by blk_simp [Pipeline.Window.cell_apply]; omega)
  blk_simp
  rw [after2_7]
  unfold outsAt2
  frame_out
  idx_vars y
  have hb : t.val < 4 := t.isLt
  refine (pay2_3 (gb2 V c t) (qb2 V c t) y0 y1).trans ?_
  have hr : (⟨(4 + t.val) * 512 + y0.val, by omega⟩ : Fin 4096).val = (4 + t.val) * 512 + y0.val := rfl
  rw [gb2_at V c g0 g1 g2 t y0 y1 _ hr hG, qb2_at V c v t y0 y1 _ hr hV]
  refine (show _ = tV g0 g1 g2 v (ix2 ⟨(4 + t.val) * 512 + y0.val, by omega⟩ y1) from rfl).trans ?_
  blk_ext [idx2 t]

end Cert.AdXkvIdeal.Arr
end
-- ==== Proof.AdXkvRun.lean ====
/- The run of the calls for the cross-attention's key and value weight: what it leaves in the results, read back through the contents between the calls. -/
module

public import proofs.«01_k».proof.Proof.AdXkvArr

@[expose] public section

set_option maxRecDepth 16384

noncomputable section

namespace Cert.AdXkvIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdXkvIdeal Cert.AdXkvIdeal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments: the slabs, the weight, its moments. -/
abbrev g0 : FVec Ideal S1024x512 .bf16 := m ((c.tc : Thread nD τ).loc main_arg0)
abbrev g1 : FVec Ideal S1024x512 .bf16 := m ((c.tc : Thread nD τ).loc main_arg1)
abbrev g2 : FVec Ideal S2048x512 .bf16 := m ((c.tc : Thread nD τ).loc main_arg2)
abbrev x : FVec Ideal S4x1024x512 .f32 := m ((c.tc : Thread nD τ).loc main_arg3)
abbrev u : FVec Ideal S4x1024x512 .f32 := m ((c.tc : Thread nD τ).loc main_arg4)
abbrev v : FVec Ideal S4x1024x512 .f32 := m ((c.tc : Thread nD τ).loc main_arg5)

/-! ## Call 0 -/

theorem hG0 : V1 m ρ c main_arg0 = g0 m c := W1_args m ρ c main_arg0 (by decide)
theorem hX0 : V1 m ρ c main_v0 = flat (x m c) := by
  have e : V1 m ρ c main_v0 = flat (W0 m ρ c (Proc.devRef .tc main_arg3)) := by
    show StableHlo.after hostOps0 _ _ = _
    after_results
    rfl
  exact e.trans (congrArg flat (W0_args m ρ c main_arg3 (by decide)))
theorem hU0 : V1 m ρ c main_v1 = flat (u m c) := by
  have e : V1 m ρ c main_v1 = flat (W0 m ρ c (Proc.devRef .tc main_arg4)) := by
    show StableHlo.after hostOps0 _ _ = _
    after_results
    rfl
  exact e.trans (congrArg flat (W0_args m ρ c main_arg4 (by decide)))
theorem hV0 : V1 m ρ c main_v2 = flat (v m c) := by
  have e : V1 m ρ c main_v2 = flat (W0 m ρ c (Proc.devRef .tc main_arg5)) := by
    show StableHlo.after hostOps0 _ _ = _
    after_results
    rfl
  exact e.trans (congrArg flat (W0_args m ρ c main_arg5 (by decide)))
theorem end0_0 : W2 m ρ c (Proc.devRef .tc main_v3_0)
    = fun i : S4096x512.Idx => if (i 0).val < 1024 then tG (g0 m c) (g1 m c) (g2 m c) i else V1 m ρ c main_v3_0 i :=
  (W2_arr m ρ c 4).trans (fin0_4 (V1 m ρ) c (g0 m c) (g1 m c) (g2 m c) (hG0 m ρ c))
theorem end0_1 : W2 m ρ c (Proc.devRef .tc main_v3_1)
    = fun i : S4096x512.Idx => if (i 0).val < 1024 then tD (g0 m c) (g1 m c) (g2 m c) (x m c) (u m c) (v m c) i else V1 m ρ c main_v3_1 i :=
  (W2_arr m ρ c 5).trans (fin0_5 (V1 m ρ) c (g0 m c) (g1 m c) (g2 m c) (x m c) (u m c) (v m c) (hG0 m ρ c) (hX0 m ρ c) (hU0 m ρ c) (hV0 m ρ c))
theorem end0_2 : W2 m ρ c (Proc.devRef .tc main_v3_2)
    = fun i : S4096x512.Idx => if (i 0).val < 1024 then tM (g0 m c) (g1 m c) (g2 m c) (u m c) i else V1 m ρ c main_v3_2 i :=
  (W2_arr m ρ c 6).trans (fin0_6 (V1 m ρ) c (g0 m c) (g1 m c) (g2 m c) (u m c) (hG0 m ρ c) (hU0 m ρ c))
theorem end0_3 : W2 m ρ c (Proc.devRef .tc main_v3_3)
    = fun i : S4096x512.Idx => if (i 0).val < 1024 then tV (g0 m c) (g1 m c) (g2 m c) (v m c) i else V1 m ρ c main_v3_3 i :=
  (W2_arr m ρ c 7).trans (fin0_7 (V1 m ρ) c (g0 m c) (g1 m c) (g2 m c) (v m c) (hG0 m ρ c) (hV0 m ρ c))

/-! ## Call 1 -/

theorem hG1 : V3 m ρ c main_arg1 = g1 m c := W3_args m ρ c main_arg1 (by decide)
theorem hX1 : V3 m ρ c main_v4 = flat (x m c) := by
  have e : V3 m ρ c main_v4 = flat (W2 m ρ c (Proc.devRef .tc main_arg3)) := by
    show StableHlo.after hostOps1 _ _ = _
    after_results
    rfl
  exact e.trans (congrArg flat (W2_args m ρ c main_arg3 (by decide)))
theorem hU1 : V3 m ρ c main_v5 = flat (u m c) := by
  have e : V3 m ρ c main_v5 = flat (W2 m ρ c (Proc.devRef .tc main_arg4)) := by
    show StableHlo.after hostOps1 _ _ = _
    after_results
    rfl
  exact e.trans (congrArg flat (W2_args m ρ c main_arg4 (by decide)))
theorem hV1 : V3 m ρ c main_v6 = flat (v m c) := by
  have e : V3 m ρ c main_v6 = flat (W2 m ρ c (Proc.devRef .tc main_arg5)) := by
    show StableHlo.after hostOps1 _ _ = _
    after_results
    rfl
  exact e.trans (congrArg flat (W2_args m ρ c main_arg5 (by decide)))
theorem end1_0 : W4 m ρ c (Proc.devRef .tc main_v7_0)
    = fun i : S4096x512.Idx => if 1024 ≤ (i 0).val ∧ (i 0).val < 2048 then tG (g0 m c) (g1 m c) (g2 m c) i else V3 m ρ c main_v7_0 i :=
  (W4_arr m ρ c 4).trans (fin1_4 (V3 m ρ) c (g0 m c) (g1 m c) (g2 m c) (hG1 m ρ c))
theorem copy1_0 : V3 m ρ c main_v7_0 = W2 m ρ c (Proc.devRef .tc main_v3_0) := by
  show StableHlo.after hostOps1 _ _ = _
  after_results
  rfl
theorem end1_1 : W4 m ρ c (Proc.devRef .tc main_v7_1)
    = fun i : S4096x512.Idx => if 1024 ≤ (i 0).val ∧ (i 0).val < 2048 then tD (g0 m c) (g1 m c) (g2 m c) (x m c) (u m c) (v m c) i else V3 m ρ c main_v7_1 i :=
  (W4_arr m ρ c 5).trans (fin1_5 (V3 m ρ) c (g0 m c) (g1 m c) (g2 m c) (x m c) (u m c) (v m c) (hG1 m ρ c) (hX1 m ρ c) (hU1 m ρ c) (hV1 m ρ c))
theorem copy1_1 : V3 m ρ c main_v7_1 = W2 m ρ c (Proc.devRef .tc main_v3_1) := by
  show StableHlo.after hostOps1 _ _ = _
  after_results
  rfl
theorem end1_2 : W4 m ρ c (Proc.devRef .tc main_v7_2)
    = fun i : S4096x512.Idx => if 1024 ≤ (i 0).val ∧ (i 0).val < 2048 then tM (g0 m c) (g1 m c) (g2 m c) (u m c) i else V3 m ρ c main_v7_2 i :=
  (W4_arr m ρ c 6).trans (fin1_6 (V3 m ρ) c (g0 m c) (g1 m c) (g2 m c) (u m c) (hG1 m ρ c) (hU1 m ρ c))
theorem copy1_2 : V3 m ρ c main_v7_2 = W2 m ρ c (Proc.devRef .tc main_v3_2) := by
  show StableHlo.after hostOps1 _ _ = _
  after_results
  rfl
theorem end1_3 : W4 m ρ c (Proc.devRef .tc main_v7_3)
    = fun i : S4096x512.Idx => if 1024 ≤ (i 0).val ∧ (i 0).val < 2048 then tV (g0 m c) (g1 m c) (g2 m c) (v m c) i else V3 m ρ c main_v7_3 i :=
  (W4_arr m ρ c 7).trans (fin1_7 (V3 m ρ) c (g0 m c) (g1 m c) (g2 m c) (v m c) (hG1 m ρ c) (hV1 m ρ c))
theorem copy1_3 : V3 m ρ c main_v7_3 = W2 m ρ c (Proc.devRef .tc main_v3_3) := by
  show StableHlo.after hostOps1 _ _ = _
  after_results
  rfl

/-! ## Call 2 -/

theorem hG2 : V5 m ρ c main_arg2 = g2 m c := W5_args m ρ c main_arg2 (by decide)
theorem hX2 : V5 m ρ c main_v8 = flat (x m c) := by
  have e : V5 m ρ c main_v8 = flat (W4 m ρ c (Proc.devRef .tc main_arg3)) := by
    show StableHlo.after hostOps2 _ _ = _
    after_results
    rfl
  exact e.trans (congrArg flat (W4_args m ρ c main_arg3 (by decide)))
theorem hU2 : V5 m ρ c main_v9 = flat (u m c) := by
  have e : V5 m ρ c main_v9 = flat (W4 m ρ c (Proc.devRef .tc main_arg4)) := by
    show StableHlo.after hostOps2 _ _ = _
    after_results
    rfl
  exact e.trans (congrArg flat (W4_args m ρ c main_arg4 (by decide)))
theorem hV2 : V5 m ρ c main_v10 = flat (v m c) := by
  have e : V5 m ρ c main_v10 = flat (W4 m ρ c (Proc.devRef .tc main_arg5)) := by
    show StableHlo.after hostOps2 _ _ = _
    after_results
    rfl
  exact e.trans (congrArg flat (W4_args m ρ c main_arg5 (by decide)))
theorem end2_0 : W6 m ρ c (Proc.devRef .tc main_v11_0)
    = fun i : S4096x512.Idx => if 2048 ≤ (i 0).val ∧ (i 0).val < 4096 then tG (g0 m c) (g1 m c) (g2 m c) i else V5 m ρ c main_v11_0 i :=
  (W6_arr m ρ c 4).trans (fin2_4 (V5 m ρ) c (g0 m c) (g1 m c) (g2 m c) (hG2 m ρ c))
theorem copy2_0 : V5 m ρ c main_v11_0 = W4 m ρ c (Proc.devRef .tc main_v7_0) := by
  show StableHlo.after hostOps2 _ _ = _
  after_results
  rfl
theorem end2_1 : W6 m ρ c (Proc.devRef .tc main_v11_1)
    = fun i : S4096x512.Idx => if 2048 ≤ (i 0).val ∧ (i 0).val < 4096 then tD (g0 m c) (g1 m c) (g2 m c) (x m c) (u m c) (v m c) i else V5 m ρ c main_v11_1 i :=
  (W6_arr m ρ c 5).trans (fin2_5 (V5 m ρ) c (g0 m c) (g1 m c) (g2 m c) (x m c) (u m c) (v m c) (hG2 m ρ c) (hX2 m ρ c) (hU2 m ρ c) (hV2 m ρ c))
theorem copy2_1 : V5 m ρ c main_v11_1 = W4 m ρ c (Proc.devRef .tc main_v7_1) := by
  show StableHlo.after hostOps2 _ _ = _
  after_results
  rfl
theorem end2_2 : W6 m ρ c (Proc.devRef .tc main_v11_2)
    = fun i : S4096x512.Idx => if 2048 ≤ (i 0).val ∧ (i 0).val < 4096 then tM (g0 m c) (g1 m c) (g2 m c) (u m c) i else V5 m ρ c main_v11_2 i :=
  (W6_arr m ρ c 6).trans (fin2_6 (V5 m ρ) c (g0 m c) (g1 m c) (g2 m c) (u m c) (hG2 m ρ c) (hU2 m ρ c))
theorem copy2_2 : V5 m ρ c main_v11_2 = W4 m ρ c (Proc.devRef .tc main_v7_2) := by
  show StableHlo.after hostOps2 _ _ = _
  after_results
  rfl
theorem end2_3 : W6 m ρ c (Proc.devRef .tc main_v11_3)
    = fun i : S4096x512.Idx => if 2048 ≤ (i 0).val ∧ (i 0).val < 4096 then tV (g0 m c) (g1 m c) (g2 m c) (v m c) i else V5 m ρ c main_v11_3 i :=
  (W6_arr m ρ c 7).trans (fin2_7 (V5 m ρ) c (g0 m c) (g1 m c) (g2 m c) (v m c) (hG2 m ρ c) (hV2 m ρ c))
theorem copy2_3 : V5 m ρ c main_v11_3 = W4 m ρ c (Proc.devRef .tc main_v7_3) := by
  show StableHlo.after hostOps2 _ _ = _
  after_results
  rfl

/-! ## What the last call leaves -/

theorem last0 : W6 m ρ c (Proc.devRef .tc main_v11_0) = tG (g0 m c) (g1 m c) (g2 m c) := by
  refine (end2_0 m ρ c).trans (funext fun i => ?_)
  have hb : (i 0).val < 4096 := (i 0).isLt
  split_ifs with h2
  · rfl
  refine (congrFun ((copy2_0 m ρ c).trans (end1_0 m ρ c)) i).trans ?_
  split_ifs with h1
  · rfl
  refine (congrFun ((copy1_0 m ρ c).trans (end0_0 m ρ c)) i).trans ?_
  rw [if_pos (by omega)]

theorem last1 : W6 m ρ c (Proc.devRef .tc main_v11_1) = tD (g0 m c) (g1 m c) (g2 m c) (x m c) (u m c) (v m c) := by
  refine (end2_1 m ρ c).trans (funext fun i => ?_)
  have hb : (i 0).val < 4096 := (i 0).isLt
  split_ifs with h2
  · rfl
  refine (congrFun ((copy2_1 m ρ c).trans (end1_1 m ρ c)) i).trans ?_
  split_ifs with h1
  · rfl
  refine (congrFun ((copy1_1 m ρ c).trans (end0_1 m ρ c)) i).trans ?_
  rw [if_pos (by omega)]

theorem last2 : W6 m ρ c (Proc.devRef .tc main_v11_2) = tM (g0 m c) (g1 m c) (g2 m c) (u m c) := by
  refine (end2_2 m ρ c).trans (funext fun i => ?_)
  have hb : (i 0).val < 4096 := (i 0).isLt
  split_ifs with h2
  · rfl
  refine (congrFun ((copy2_2 m ρ c).trans (end1_2 m ρ c)) i).trans ?_
  split_ifs with h1
  · rfl
  refine (congrFun ((copy1_2 m ρ c).trans (end0_2 m ρ c)) i).trans ?_
  rw [if_pos (by omega)]

theorem last3 : W6 m ρ c (Proc.devRef .tc main_v11_3) = tV (g0 m c) (g1 m c) (g2 m c) (v m c) := by
  refine (end2_3 m ρ c).trans (funext fun i => ?_)
  have hb : (i 0).val < 4096 := (i 0).isLt
  split_ifs with h2
  · rfl
  refine (congrFun ((copy2_3 m ρ c).trans (end1_3 m ρ c)) i).trans ?_
  split_ifs with h1
  · rfl
  refine (congrFun ((copy1_3 m ρ c).trans (end0_3 m ρ c)) i).trans ?_
  rw [if_pos (by omega)]

set_option backward.isDefEq.respectTransparency.types false in
/-- The run leaves the gradient, the change of the weight and the moments in the results, and the arguments as they were. -/
theorem leaves : θ_run defs (onTc (τ := τ) (main (F := Ideal))) ⟨m, fun _ => 0, ρ⟩ (fun r => ∀ c : Dev nD,
      r.2.mem ((c.tc : Thread nD τ).loc main_v11_0) = tG (g0 m c) (g1 m c) (g2 m c)
      ∧ r.2.mem ((c.tc : Thread nD τ).loc main_v11_1) = tD (g0 m c) (g1 m c) (g2 m c) (x m c) (u m c) (v m c)
      ∧ r.2.mem ((c.tc : Thread nD τ).loc main_v11_2) = tM (g0 m c) (g1 m c) (g2 m c) (u m c)
      ∧ r.2.mem ((c.tc : Thread nD τ).loc main_v11_3) = tV (g0 m c) (g1 m c) (g2 m c) (v m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v11_0 (by decide))).trans (last0 m ρ c),
       (h c _ (mem_uc main_v11_1 (by decide))).trans (last1 m ρ c),
       (h c _ (mem_uc main_v11_2 (by decide))).trans (last2 m ρ c),
       (h c _ (mem_uc main_v11_3 (by decide))).trans (last3 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.AdXkvIdeal.Arr
end
-- ==== Proof.AdMoArr.lean ====
/- The optimiser's step for latent attention's output weight, whose layers' gradients arrive in 2 slabs: 2 calls, each on the rows of its slab. -/
module

public import proofs.«01_k».proof.Proof.AdMath
public import proofs.«01_k».proof.Proof.Gen.AdMoIdeal.Frame
public import proofs.«01_k».proof.Proof.Gen.AdMoRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdMoIdeal.Arr
open Cert.AdMoIdeal Cert.AdMoIdeal.Gen Cert.AdMoRefIdeal.Read Cert.Adam

/-- A weight's layers one below the other. -/
def flat (x : FVec Ideal S2x256x1024 .f32) : FVec Ideal S512x1024 .f32 := shapeCast S512x1024 x shapeCasts_S2x256x1024_S512x1024

section ref
variable (g0 : FVec Ideal S256x1024 .bf16) (g1 : FVec Ideal S5632x1024 .bf16)
  (x u v : FVec Ideal S2x256x1024 .f32) (r : Fin 512) (q : Fin 1024)

/-- The gradient, its layers one below the other. -/
def ga : FVec Ideal S512x1024 .f32 := flat (val_main_v4 (F := Ideal) g0 g1)

theorem ga0 (h0 : 0 ≤ r.val) (h1 : r.val < 256) (p : Fin 256) (hp : p.val = 0 + (r.val - 0)) :
    ga g0 g1 (ix2 r q) = g0 (ix2 p q) := by
  pointwise [ga, flat, val_main_v0, val_main_v1, val_main_v2, val_main_v3, val_main_v4]
  rw [dif_pos (by omega)]
  refine congrArg (fun z => g0 (ix2 z q)) (Fin.ext ?_)
  dsimp only
  omega

theorem ga1 (h0 : 256 ≤ r.val) (h1 : r.val < 512) (p : Fin 5632) (hp : p.val = 5120 + (r.val - 256)) :
    ga g0 g1 (ix2 r q) = g1 (ix2 p q) := by
  pointwise [ga, flat, val_main_v0, val_main_v1, val_main_v2, val_main_v3, val_main_v4]
  rw [dif_neg (by omega)]
  refine congrArg (fun z => g1 (ix2 z q)) (Fin.ext ?_)
  dsimp only
  omega

/-- The four results: the gradient, the change of the weight, the moments. -/
def tG : FVec Ideal S512x1024 .f32 := ga g0 g1
def tD : FVec Ideal S512x1024 .f32 := fun i => delta (ga g0 g1 i) (flat x i) (flat u i) (flat v i)
def tM : FVec Ideal S512x1024 .f32 := fun i => mean (ga g0 g1 i) (flat u i)
def tV : FVec Ideal S512x1024 .f32 := fun i => square (ga g0 g1 i) (flat v i)

theorem refG : val_main_v29 (F := Ideal) g0 g1 = tG g0 g1 := rfl

theorem refD : val_main_v30 (F := Ideal) g0 g1 x u v = tD g0 g1 x u v := by
  funext i
  idx_vars i
  show _ = delta (ga g0 g1 (ix2 i0 i1)) (flat x (ix2 i0 i1)) (flat u (ix2 i0 i1)) (flat v (ix2 i0 i1))
  pointwise [ga, flat, delta, mean, square, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, val_main_v29, val_main_v30, val_main_v31, val_main_v32]

theorem refM : val_main_v31 (F := Ideal) g0 g1 u = tM g0 g1 u := by
  funext i
  idx_vars i
  show _ = mean (ga g0 g1 (ix2 i0 i1)) (flat u (ix2 i0 i1))
  pointwise [ga, flat, mean, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, val_main_v29, val_main_v30, val_main_v31, val_main_v32]

theorem refV : val_main_v32 (F := Ideal) g0 g1 v = tV g0 g1 v := by
  funext i
  idx_vars i
  show _ = square (ga g0 g1 (ix2 i0 i1)) (flat v (ix2 i0 i1))
  pointwise [ga, flat, square, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28, val_main_v29, val_main_v30, val_main_v31, val_main_v32]

end ref

variable (V : (c : Dev nD) → (b : Ref sig .tc) → Buf (Elt Ideal) ((c : Thread nD τ).loc b)) (c : Dev nD)
  (g0 : FVec Ideal S256x1024 .bf16) (g1 : FVec Ideal S5632x1024 .bf16)
  (x u v : FVec Ideal S2x256x1024 .f32)

/-! ## Call 0: rows 0 to 256 -/

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay0
variable (g : Vec Ideal S256x1024 .bf16) (x u v : Vec Ideal S256x1024 .f32) (r : Fin 256) (q : Fin 1024)

theorem pay0_1 : k0_pay1 (F := Ideal) g (ix2 r q) = g (ix2 r q) := by
  pointwise [k0_pay1]

theorem pay0_2 : k0_pay2 (F := Ideal) g u (ix2 r q) = mean (g (ix2 r q)) (u (ix2 r q)) := by
  pointwise [k0_pay2, k0_pay1, mean]

theorem pay0_3 : k0_pay3 (F := Ideal) g v (ix2 r q) = square (g (ix2 r q)) (v (ix2 r q)) := by
  pointwise [k0_pay3, k0_pay1, square]

theorem pay0_4 : k0_pay4 (F := Ideal) g u v x (ix2 r q) = delta (g (ix2 r q)) (x (ix2 r q)) (u (ix2 r q)) (v (ix2 r q)) := by
  pointwise [k0_pay4, k0_pay3, k0_pay2, k0_pay1, delta, mean, square]

end pay0

/-- The blocks a grid point reads. -/
def gb0 (t : Fin cfg0.N) : Vec Ideal S256x1024 .bf16 := iblk0 V c 0 t
def wb0 (t : Fin cfg0.N) : Vec Ideal S256x1024 .f32 := iblk0 V c 1 t
def ub0 (t : Fin cfg0.N) : Vec Ideal S256x1024 .f32 := iblk0 V c 2 t
def qb0 (t : Fin cfg0.N) : Vec Ideal S256x1024 .f32 := iblk0 V c 3 t

section reads0
variable (t : Fin cfg0.N) (y : Fin 256) (q : Fin 1024) (r : Fin 512) (hr : r.val = t.val * 256 + y.val)

include hr in
theorem gb0_at (hG : V c main_arg0 = g0) : gb0 V c t (ix2 y q) = ga g0 g1 (ix2 r q) := by
  have hb : t.val < 1 := t.isLt
  refine Eq.trans ?_ (ga0 g0 g1 r q (by omega) (by omega) ⟨(t.val) * 256 + y.val, by omega⟩ (by show (t.val) * 256 + y.val = _; omega)).symm
  rw [← hG]
  unfold gb0
  blk_ext [iblk0, idx0 t, hr]

include hr in
theorem wb0_at (hW : V c main_v0 = flat x) : wb0 V c t (ix2 y q) = flat x (ix2 r q) := by
  rw [← hW]
  unfold wb0
  blk_ext [iblk0, idx0 t, hr]

include hr in
theorem ub0_at (hW : V c main_v1 = flat u) : ub0 V c t (ix2 y q) = flat u (ix2 r q) := by
  rw [← hW]
  unfold ub0
  blk_ext [iblk0, idx0 t, hr]

include hr in
theorem qb0_at (hW : V c main_v2 = flat v) : qb0 V c t (ix2 y q) = flat v (ix2 r q) := by
  rw [← hW]
  unfold qb0
  blk_ext [iblk0, idx0 t, hr]

end reads0

theorem fin0_4 (hG : V c main_arg0 = g0) :
    (dat0 V c).arrAt 4 cfg0.N = fun i : S512x1024.Idx => if (i 0).val < 256 then tG g0 g1 i else V c main_v3_0 i := by
  refine (dat0 V c).arrAt_eq_of_coversWhere 4 _ (fun β => β (0 : Fin 2) < 1) (by decide +kernel) (fun t _ y => ?_)
    (fun i => by blk_simp [Pipeline.Window.cell_apply]; omega)
  blk_simp
  rw [after0_4]
  frame_out
  idx_vars y
  have hb : t.val < 1 := t.isLt
  refine (pay0_1 (gb0 V c t) y0 y1).trans ?_
  have hr : (⟨t.val * 256 + y0.val, by omega⟩ : Fin 512).val = t.val * 256 + y0.val := rfl
  rw [gb0_at V c g0 g1 t y0 y1 _ hr hG]
  refine (show _ = tG g0 g1 (ix2 ⟨t.val * 256 + y0.val, by omega⟩ y1) from rfl).trans ?_
  blk_ext [idx0 t]

theorem fin0_5 (hG : V c main_arg0 = g0) (hX : V c main_v0 = flat x) (hU : V c main_v1 = flat u) (hV : V c main_v2 = flat v) :
    (dat0 V c).arrAt 5 cfg0.N = fun i : S512x1024.Idx => if (i 0).val < 256 then tD g0 g1 x u v i else V c main_v3_1 i := by
  refine (dat0 V c).arrAt_eq_of_coversWhere 5 _ (fun β => β (0 : Fin 2) < 1) (by decide +kernel) (fun t _ y => ?_)
    (fun i => by blk_simp [Pipeline.Window.cell_apply]; omega)
  blk_simp
  rw [after0_5]
  frame_out
  idx_vars y
  have hb : t.val < 1 := t.isLt
  refine (pay0_4 (gb0 V c t) (wb0 V c t) (ub0 V c t) (qb0 V c t) y0 y1).trans ?_
  have hr : (⟨t.val * 256 + y0.val, by omega⟩ : Fin 512).val = t.val * 256 + y0.val := rfl
  rw [gb0_at V c g0 g1 t y0 y1 _ hr hG, wb0_at V c x t y0 y1 _ hr hX, ub0_at V c u t y0 y1 _ hr hU, qb0_at V c v t y0 y1 _ hr hV]
  refine (show _ = tD g0 g1 x u v (ix2 ⟨t.val * 256 + y0.val, by omega⟩ y1) from rfl).trans ?_
  blk_ext [idx0 t]

theorem fin0_6 (hG : V c main_arg0 = g0) (hU : V c main_v1 = flat u) :
    (dat0 V c).arrAt 6 cfg0.N = fun i : S512x1024.Idx => if (i 0).val < 256 then tM g0 g1 u i else V c main_v3_2 i := by
  refine (dat0 V c).arrAt_eq_of_coversWhere 6 _ (fun β => β (0 : Fin 2) < 1) (by decide +kernel) (fun t _ y => ?_)
    (fun i => by blk_simp [Pipeline.Window.cell_apply]; omega)
  blk_simp
  rw [after0_6]
  frame_out
  idx_vars y
  have hb : t.val < 1 := t.isLt
  refine (pay0_2 (gb0 V c t) (ub0 V c t) y0 y1).trans ?_
  have hr : (⟨t.val * 256 + y0.val, by omega⟩ : Fin 512).val = t.val * 256 + y0.val := rfl
  rw [gb0_at V c g0 g1 t y0 y1 _ hr hG, ub0_at V c u t y0 y1 _ hr hU]
  refine (show _ = tM g0 g1 u (ix2 ⟨t.val * 256 + y0.val, by omega⟩ y1) from rfl).trans ?_
  blk_ext [idx0 t]

theorem fin0_7 (hG : V c main_arg0 = g0) (hV : V c main_v2 = flat v) :
    (dat0 V c).arrAt 7 cfg0.N = fun i : S512x1024.Idx => if (i 0).val < 256 then tV g0 g1 v i else V c main_v3_3 i := by
  refine (dat0 V c).arrAt_eq_of_coversWhere 7 _ (fun β => β (0 : Fin 2) < 1) (by decide +kernel) (fun t _ y => ?_)
    (fun i => by blk_simp [Pipeline.Window.cell_apply]; omega)
  blk_simp
  rw [after0_7]
  frame_out
  idx_vars y
  have hb : t.val < 1 := t.isLt
  refine (pay0_3 (gb0 V c t) (qb0 V c t) y0 y1).trans ?_
  have hr : (⟨t.val * 256 + y0.val, by omega⟩ : Fin 512).val = t.val * 256 + y0.val := rfl
  rw [gb0_at V c g0 g1 t y0 y1 _ hr hG, qb0_at V c v t y0 y1 _ hr hV]
  refine (show _ = tV g0 g1 v (ix2 ⟨t.val * 256 + y0.val, by omega⟩ y1) from rfl).trans ?_
  blk_ext [idx0 t]

/-! ## Call 1: rows 256 to 512 -/

theorem idx1 : ∀ t : Fin cfg1.N, win1_0.index t = ![20 + t.val, 0] ∧ win1_1.index t = ![1 + t.val, 0] ∧ win1_2.index t = ![1 + t.val, 0]
    ∧ win1_3.index t = ![1 + t.val, 0] ∧ win1_4.index t = ![1 + t.val, 0] ∧ win1_5.index t = ![1 + t.val, 0]
    ∧ win1_6.index t = ![1 + t.val, 0] ∧ win1_7.index t = ![1 + t.val, 0] :=
  (by decide +kernel : ∀ t : Fin grid1.N, _)

section pay1
variable (g : Vec Ideal S256x1024 .bf16) (x u v : Vec Ideal S256x1024 .f32) (r : Fin 256) (q : Fin 1024)

theorem pay1_1 : k1_pay1 (F := Ideal) g (ix2 r q) = g (ix2 r q) := by
  pointwise [k1_pay1]

theorem pay1_2 : k1_pay2 (F := Ideal) g u (ix2 r q) = mean (g (ix2 r q)) (u (ix2 r q)) := by
  pointwise [k1_pay2, k1_pay1, mean]

theorem pay1_3 : k1_pay3 (F := Ideal) g v (ix2 r q) = square (g (ix2 r q)) (v (ix2 r q)) := by
  pointwise [k1_pay3, k1_pay1, square]

theorem pay1_4 : k1_pay4 (F := Ideal) g u v x (ix2 r q) = delta (g (ix2 r q)) (x (ix2 r q)) (u (ix2 r q)) (v (ix2 r q)) := by
  pointwise [k1_pay4, k1_pay3, k1_pay2, k1_pay1, delta, mean, square]

end pay1

/-- The blocks a grid point reads. -/
def gb1 (t : Fin cfg1.N) : Vec Ideal S256x1024 .bf16 := iblk1 V c 0 t
def wb1 (t : Fin cfg1.N) : Vec Ideal S256x1024 .f32 := iblk1 V c 1 t
def ub1 (t : Fin cfg1.N) : Vec Ideal S256x1024 .f32 := iblk1 V c 2 t
def qb1 (t : Fin cfg1.N) : Vec Ideal S256x1024 .f32 := iblk1 V c 3 t

section reads1
variable (t : Fin cfg1.N) (y : Fin 256) (q : Fin 1024) (r : Fin 512) (hr : r.val = (1 + t.val) * 256 + y.val)

include hr in
theorem gb1_at (hG : V c main_arg1 = g1) : gb1 V c t (ix2 y q) = ga g0 g1 (ix2 r q) := by
  have hb : t.val < 1 := t.isLt
  refine Eq.trans ?_ (ga1 g0 g1 r q (by omega) (by omega) ⟨(20 + t.val) * 256 + y.val, by omega⟩ (by show (20 + t.val) * 256 + y.val = _; omega)).symm
  rw [← hG]
  unfold gb1
  blk_ext [iblk1, idx1 t, hr]

include hr in
theorem wb1_at (hW : V c main_v4 = flat x) : wb1 V c t (ix2 y q) = flat x (ix2 r q) := by
  rw [← hW]
  unfold wb1
  blk_ext [iblk1, idx1 t, hr]

include hr in
theorem ub1_at (hW : V c main_v5 = flat u) : ub1 V c t (ix2 y q) = flat u (ix2 r q) := by
  rw [← hW]
  unfold ub1
  blk_ext [iblk1, idx1 t, hr]

include hr in
theorem qb1_at (hW : V c main_v6 = flat v) : qb1 V c t (ix2 y q) = flat v (ix2 r q) := by
  rw [← hW]
  unfold qb1
  blk_ext [iblk1, idx1 t, hr]

end reads1

theorem fin1_4 (hG : V c main_arg1 = g1) :
    (dat1 V c).arrAt 4 cfg1.N = fun i : S512x1024.Idx => if 256 ≤ (i 0).val ∧ (i 0).val < 512 then tG g0 g1 i else V c main_v7_0 i := by
  refine (dat1 V c).arrAt_eq_of_coversWhere 4 _ (fun β => 1 ≤ β (0 : Fin 2) ∧ β (0 : Fin 2) < 2) (by decide +kernel) (fun t _ y => ?_)
    (fun i => by blk_simp [Pipeline.Window.cell_apply]; omega)
  blk_simp
  rw [after1_4]
  unfold outsAt1
  frame_out
  idx_vars y
  have hb : t.val < 1 := t.isLt
  refine (pay1_1 (gb1 V c t) y0 y1).trans ?_
  have hr : (⟨(1 + t.val) * 256 + y0.val, by omega⟩ : Fin 512).val = (1 + t.val) * 256 + y0.val := rfl
  rw [gb1_at V c g0 g1 t y0 y1 _ hr hG]
  refine (show _ = tG g0 g1 (ix2 ⟨(1 + t.val) * 256 + y0.val, by omega⟩ y1) from rfl).trans ?_
  blk_ext [idx1 t]

theorem fin1_5 (hG : V c main_arg1 = g1) (hX : V c main_v4 = flat x) (hU : V c main_v5 = flat u) (hV : V c main_v6 = flat v) :
    (dat1 V c).arrAt 5 cfg1.N = fun i : S512x1024.Idx => if 256 ≤ (i 0).val ∧ (i 0).val < 512 then tD g0 g1 x u v i else V c main_v7_1 i := by
  refine (dat1 V c).arrAt_eq_of_coversWhere 5 _ (fun β => 1 ≤ β (0 : Fin 2) ∧ β (0 : Fin 2) < 2) (by decide +kernel) (fun t _ y => ?_)
    (fun i => by blk_simp [Pipeline.Window.cell_apply]; omega)
  blk_simp
  rw [after1_5]
  unfold outsAt1
  frame_out
  idx_vars y
  have hb : t.val < 1 := t.isLt
  refine (pay1_4 (gb1 V c t) (wb1 V c t) (ub1 V c t) (qb1 V c t) y0 y1).trans ?_
  have hr : (⟨(1 + t.val) * 256 + y0.val, by omega⟩ : Fin 512).val = (1 + t.val) * 256 + y0.val := rfl
  rw [gb1_at V c g0 g1 t y0 y1 _ hr hG, wb1_at V c x t y0 y1 _ hr hX, ub1_at V c u t y0 y1 _ hr hU, qb1_at V c v t y0 y1 _ hr hV]
  refine (show _ = tD g0 g1 x u v (ix2 ⟨(1 + t.val) * 256 + y0.val, by omega⟩ y1) from rfl).trans ?_
  blk_ext [idx1 t]

theorem fin1_6 (hG : V c main_arg1 = g1) (hU : V c main_v5 = flat u) :
    (dat1 V c).arrAt 6 cfg1.N = fun i : S512x1024.Idx => if 256 ≤ (i 0).val ∧ (i 0).val < 512 then tM g0 g1 u i else V c main_v7_2 i := by
  refine (dat1 V c).arrAt_eq_of_coversWhere 6 _ (fun β => 1 ≤ β (0 : Fin 2) ∧ β (0 : Fin 2) < 2) (by decide +kernel) (fun t _ y => ?_)
    (fun i => by blk_simp [Pipeline.Window.cell_apply]; omega)
  blk_simp
  rw [after1_6]
  unfold outsAt1
  frame_out
  idx_vars y
  have hb : t.val < 1 := t.isLt
  refine (pay1_2 (gb1 V c t) (ub1 V c t) y0 y1).trans ?_
  have hr : (⟨(1 + t.val) * 256 + y0.val, by omega⟩ : Fin 512).val = (1 + t.val) * 256 + y0.val := rfl
  rw [gb1_at V c g0 g1 t y0 y1 _ hr hG, ub1_at V c u t y0 y1 _ hr hU]
  refine (show _ = tM g0 g1 u (ix2 ⟨(1 + t.val) * 256 + y0.val, by omega⟩ y1) from rfl).trans ?_
  blk_ext [idx1 t]

theorem fin1_7 (hG : V c main_arg1 = g1) (hV : V c main_v6 = flat v) :
    (dat1 V c).arrAt 7 cfg1.N = fun i : S512x1024.Idx => if 256 ≤ (i 0).val ∧ (i 0).val < 512 then tV g0 g1 v i else V c main_v7_3 i := by
  refine (dat1 V c).arrAt_eq_of_coversWhere 7 _ (fun β => 1 ≤ β (0 : Fin 2) ∧ β (0 : Fin 2) < 2) (by decide +kernel) (fun t _ y => ?_)
    (fun i => by blk_simp [Pipeline.Window.cell_apply]; omega)
  blk_simp
  rw [after1_7]
  unfold outsAt1
  frame_out
  idx_vars y
  have hb : t.val < 1 := t.isLt
  refine (pay1_3 (gb1 V c t) (qb1 V c t) y0 y1).trans ?_
  have hr : (⟨(1 + t.val) * 256 + y0.val, by omega⟩ : Fin 512).val = (1 + t.val) * 256 + y0.val := rfl
  rw [gb1_at V c g0 g1 t y0 y1 _ hr hG, qb1_at V c v t y0 y1 _ hr hV]
  refine (show _ = tV g0 g1 v (ix2 ⟨(1 + t.val) * 256 + y0.val, by omega⟩ y1) from rfl).trans ?_
  blk_ext [idx1 t]

end Cert.AdMoIdeal.Arr
end
-- ==== Proof.AdMoRun.lean ====
/- The run of the calls for latent attention's output weight: what it leaves in the results, read back through the contents between the calls. -/
module

public import proofs.«01_k».proof.Proof.AdMoArr

@[expose] public section

set_option maxRecDepth 16384

noncomputable section

namespace Cert.AdMoIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdMoIdeal Cert.AdMoIdeal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments: the slabs, the weight, its moments. -/
abbrev g0 : FVec Ideal S256x1024 .bf16 := m ((c.tc : Thread nD τ).loc main_arg0)
abbrev g1 : FVec Ideal S5632x1024 .bf16 := m ((c.tc : Thread nD τ).loc main_arg1)
abbrev x : FVec Ideal S2x256x1024 .f32 := m ((c.tc : Thread nD τ).loc main_arg2)
abbrev u : FVec Ideal S2x256x1024 .f32 := m ((c.tc : Thread nD τ).loc main_arg3)
abbrev v : FVec Ideal S2x256x1024 .f32 := m ((c.tc : Thread nD τ).loc main_arg4)

/-! ## Call 0 -/

theorem hG0 : V1 m ρ c main_arg0 = g0 m c := W1_args m ρ c main_arg0 (by decide)
theorem hX0 : V1 m ρ c main_v0 = flat (x m c) := by
  have e : V1 m ρ c main_v0 = flat (W0 m ρ c (Proc.devRef .tc main_arg2)) := by
    show StableHlo.after hostOps0 _ _ = _
    after_results
    rfl
  exact e.trans (congrArg flat (W0_args m ρ c main_arg2 (by decide)))
theorem hU0 : V1 m ρ c main_v1 = flat (u m c) := by
  have e : V1 m ρ c main_v1 = flat (W0 m ρ c (Proc.devRef .tc main_arg3)) := by
    show StableHlo.after hostOps0 _ _ = _
    after_results
    rfl
  exact e.trans (congrArg flat (W0_args m ρ c main_arg3 (by decide)))
theorem hV0 : V1 m ρ c main_v2 = flat (v m c) := by
  have e : V1 m ρ c main_v2 = flat (W0 m ρ c (Proc.devRef .tc main_arg4)) := by
    show StableHlo.after hostOps0 _ _ = _
    after_results
    rfl
  exact e.trans (congrArg flat (W0_args m ρ c main_arg4 (by decide)))
theorem end0_0 : W2 m ρ c (Proc.devRef .tc main_v3_0)
    = fun i : S512x1024.Idx => if (i 0).val < 256 then tG (g0 m c) (g1 m c) i else V1 m ρ c main_v3_0 i :=
  (W2_arr m ρ c 4).trans (fin0_4 (V1 m ρ) c (g0 m c) (g1 m c) (hG0 m ρ c))
theorem end0_1 : W2 m ρ c (Proc.devRef .tc main_v3_1)
    = fun i : S512x1024.Idx => if (i 0).val < 256 then tD (g0 m c) (g1 m c) (x m c) (u m c) (v m c) i else V1 m ρ c main_v3_1 i :=
  (W2_arr m ρ c 5).trans (fin0_5 (V1 m ρ) c (g0 m c) (g1 m c) (x m c) (u m c) (v m c) (hG0 m ρ c) (hX0 m ρ c) (hU0 m ρ c) (hV0 m ρ c))
theorem end0_2 : W2 m ρ c (Proc.devRef .tc main_v3_2)
    = fun i : S512x1024.Idx => if (i 0).val < 256 then tM (g0 m c) (g1 m c) (u m c) i else V1 m ρ c main_v3_2 i :=
  (W2_arr m ρ c 6).trans (fin0_6 (V1 m ρ) c (g0 m c) (g1 m c) (u m c) (hG0 m ρ c) (hU0 m ρ c))
theorem end0_3 : W2 m ρ c (Proc.devRef .tc main_v3_3)
    = fun i : S512x1024.Idx => if (i 0).val < 256 then tV (g0 m c) (g1 m c) (v m c) i else V1 m ρ c main_v3_3 i :=
  (W2_arr m ρ c 7).trans (fin0_7 (V1 m ρ) c (g0 m c) (g1 m c) (v m c) (hG0 m ρ c) (hV0 m ρ c))

/-! ## Call 1 -/

theorem hG1 : V3 m ρ c main_arg1 = g1 m c := W3_args m ρ c main_arg1 (by decide)
theorem hX1 : V3 m ρ c main_v4 = flat (x m c) := by
  have e : V3 m ρ c main_v4 = flat (W2 m ρ c (Proc.devRef .tc main_arg2)) := by
    show StableHlo.after hostOps1 _ _ = _
    after_results
    rfl
  exact e.trans (congrArg flat (W2_args m ρ c main_arg2 (by decide)))
theorem hU1 : V3 m ρ c main_v5 = flat (u m c) := by
  have e : V3 m ρ c main_v5 = flat (W2 m ρ c (Proc.devRef .tc main_arg3)) := by
    show StableHlo.after hostOps1 _ _ = _
    after_results
    rfl
  exact e.trans (congrArg flat (W2_args m ρ c main_arg3 (by decide)))
theorem hV1 : V3 m ρ c main_v6 = flat (v m c) := by
  have e : V3 m ρ c main_v6 = flat (W2 m ρ c (Proc.devRef .tc main_arg4)) := by
    show StableHlo.after hostOps1 _ _ = _
    after_results
    rfl
  exact e.trans (congrArg flat (W2_args m ρ c main_arg4 (by decide)))
theorem end1_0 : W4 m ρ c (Proc.devRef .tc main_v7_0)
    = fun i : S512x1024.Idx => if 256 ≤ (i 0).val ∧ (i 0).val < 512 then tG (g0 m c) (g1 m c) i else V3 m ρ c main_v7_0 i :=
  (W4_arr m ρ c 4).trans (fin1_4 (V3 m ρ) c (g0 m c) (g1 m c) (hG1 m ρ c))
theorem copy1_0 : V3 m ρ c main_v7_0 = W2 m ρ c (Proc.devRef .tc main_v3_0) := by
  show StableHlo.after hostOps1 _ _ = _
  after_results
  rfl
theorem end1_1 : W4 m ρ c (Proc.devRef .tc main_v7_1)
    = fun i : S512x1024.Idx => if 256 ≤ (i 0).val ∧ (i 0).val < 512 then tD (g0 m c) (g1 m c) (x m c) (u m c) (v m c) i else V3 m ρ c main_v7_1 i :=
  (W4_arr m ρ c 5).trans (fin1_5 (V3 m ρ) c (g0 m c) (g1 m c) (x m c) (u m c) (v m c) (hG1 m ρ c) (hX1 m ρ c) (hU1 m ρ c) (hV1 m ρ c))
theorem copy1_1 : V3 m ρ c main_v7_1 = W2 m ρ c (Proc.devRef .tc main_v3_1) := by
  show StableHlo.after hostOps1 _ _ = _
  after_results
  rfl
theorem end1_2 : W4 m ρ c (Proc.devRef .tc main_v7_2)
    = fun i : S512x1024.Idx => if 256 ≤ (i 0).val ∧ (i 0).val < 512 then tM (g0 m c) (g1 m c) (u m c) i else V3 m ρ c main_v7_2 i :=
  (W4_arr m ρ c 6).trans (fin1_6 (V3 m ρ) c (g0 m c) (g1 m c) (u m c) (hG1 m ρ c) (hU1 m ρ c))
theorem copy1_2 : V3 m ρ c main_v7_2 = W2 m ρ c (Proc.devRef .tc main_v3_2) := by
  show StableHlo.after hostOps1 _ _ = _
  after_results
  rfl
theorem end1_3 : W4 m ρ c (Proc.devRef .tc main_v7_3)
    = fun i : S512x1024.Idx => if 256 ≤ (i 0).val ∧ (i 0).val < 512 then tV (g0 m c) (g1 m c) (v m c) i else V3 m ρ c main_v7_3 i :=
  (W4_arr m ρ c 7).trans (fin1_7 (V3 m ρ) c (g0 m c) (g1 m c) (v m c) (hG1 m ρ c) (hV1 m ρ c))
theorem copy1_3 : V3 m ρ c main_v7_3 = W2 m ρ c (Proc.devRef .tc main_v3_3) := by
  show StableHlo.after hostOps1 _ _ = _
  after_results
  rfl

/-! ## What the last call leaves -/

theorem last0 : W4 m ρ c (Proc.devRef .tc main_v7_0) = tG (g0 m c) (g1 m c) := by
  refine (end1_0 m ρ c).trans (funext fun i => ?_)
  have hb : (i 0).val < 512 := (i 0).isLt
  split_ifs with h1
  · rfl
  refine (congrFun ((copy1_0 m ρ c).trans (end0_0 m ρ c)) i).trans ?_
  rw [if_pos (by omega)]

theorem last1 : W4 m ρ c (Proc.devRef .tc main_v7_1) = tD (g0 m c) (g1 m c) (x m c) (u m c) (v m c) := by
  refine (end1_1 m ρ c).trans (funext fun i => ?_)
  have hb : (i 0).val < 512 := (i 0).isLt
  split_ifs with h1
  · rfl
  refine (congrFun ((copy1_1 m ρ c).trans (end0_1 m ρ c)) i).trans ?_
  rw [if_pos (by omega)]

theorem last2 : W4 m ρ c (Proc.devRef .tc main_v7_2) = tM (g0 m c) (g1 m c) (u m c) := by
  refine (end1_2 m ρ c).trans (funext fun i => ?_)
  have hb : (i 0).val < 512 := (i 0).isLt
  split_ifs with h1
  · rfl
  refine (congrFun ((copy1_2 m ρ c).trans (end0_2 m ρ c)) i).trans ?_
  rw [if_pos (by omega)]

theorem last3 : W4 m ρ c (Proc.devRef .tc main_v7_3) = tV (g0 m c) (g1 m c) (v m c) := by
  refine (end1_3 m ρ c).trans (funext fun i => ?_)
  have hb : (i 0).val < 512 := (i 0).isLt
  split_ifs with h1
  · rfl
  refine (congrFun ((copy1_3 m ρ c).trans (end0_3 m ρ c)) i).trans ?_
  rw [if_pos (by omega)]

set_option backward.isDefEq.respectTransparency.types false in
/-- The run leaves the gradient, the change of the weight and the moments in the results, and the arguments as they were. -/
theorem leaves : θ_run defs (onTc (τ := τ) (main (F := Ideal))) ⟨m, fun _ => 0, ρ⟩ (fun r => ∀ c : Dev nD,
      r.2.mem ((c.tc : Thread nD τ).loc main_v7_0) = tG (g0 m c) (g1 m c)
      ∧ r.2.mem ((c.tc : Thread nD τ).loc main_v7_1) = tD (g0 m c) (g1 m c) (x m c) (u m c) (v m c)
      ∧ r.2.mem ((c.tc : Thread nD τ).loc main_v7_2) = tM (g0 m c) (g1 m c) (u m c)
      ∧ r.2.mem ((c.tc : Thread nD τ).loc main_v7_3) = tV (g0 m c) (g1 m c) (v m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v7_0 (by decide))).trans (last0 m ρ c),
       (h c _ (mem_uc main_v7_1 (by decide))).trans (last1 m ρ c),
       (h c _ (mem_uc main_v7_2 (by decide))).trans (last2 m ρ c),
       (h c _ (mem_uc main_v7_3 (by decide))).trans (last3 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.AdMoIdeal.Arr
end
-- ==== Proof.lean ====
module

public import proofs.«01_k».proof.Defs
public import proofs.«01_k».proof.Proof.Gen.Sc
public import proofs.«01_k».proof.Proof.Gen.Sc.Skeleton
public import proofs.«01_k».proof.Proof.Gen.Sc.Launch
public import proofs.«01_k».proof.Proof.Gen.Sc.Points
public import proofs.«01_k».proof.Proof.Gen.Sc.Frame
public import proofs.«01_k».proof.Proof.Gen.ScIdeal
public import proofs.«01_k».proof.Proof.Gen.ScIdeal.Skeleton
public import proofs.«01_k».proof.Proof.Gen.ScIdeal.Launch
public import proofs.«01_k».proof.Proof.Gen.ScIdeal.Points
public import proofs.«01_k».proof.Proof.Gen.ScIdeal.Frame
public import proofs.«01_k».proof.Proof.Gen.ScIdeal.Value
public import proofs.«01_k».proof.Proof.Gen.ScRefIdeal
public import proofs.«01_k».proof.Proof.Gen.ScRefIdeal.Run
public import proofs.«01_k».proof.Proof.Gen.ScRefIdeal.Read
public import proofs.«01_k».proof.Proof.ScValue
public import proofs.«01_k».proof.Proof.Gen.Dwo
public import proofs.«01_k».proof.Proof.Gen.Dwo.Skeleton
public import proofs.«01_k».proof.Proof.Gen.Dwo.Launch
public import proofs.«01_k».proof.Proof.Gen.Dwo.Points
public import proofs.«01_k».proof.Proof.Gen.Dwo.Frame
public import proofs.«01_k».proof.Proof.Gen.DwoIdeal
public import proofs.«01_k».proof.Proof.Gen.DwoIdeal.Skeleton
public import proofs.«01_k».proof.Proof.Gen.DwoIdeal.Launch
public import proofs.«01_k».proof.Proof.Gen.DwoIdeal.Points
public import proofs.«01_k».proof.Proof.Gen.DwoIdeal.Frame
public import proofs.«01_k».proof.Proof.Gen.DwoIdeal.Value
public import proofs.«01_k».proof.Proof.Gen.DwoRefIdeal
public import proofs.«01_k».proof.Proof.Gen.DwoRefIdeal.Run
public import proofs.«01_k».proof.Proof.Gen.DwoRefIdeal.Read
public import proofs.«01_k».proof.Proof.DwoValue
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import proofs.«01_k».proof.Proof.Gen.DhRefIdeal.Read
public import proofs.«01_k».proof.Proof.DhValue
public import proofs.«01_k».proof.Proof.Gen.Dwi
public import proofs.«01_k».proof.Proof.Gen.Dwi.Skeleton
public import proofs.«01_k».proof.Proof.Gen.Dwi.Launch
public import proofs.«01_k».proof.Proof.Gen.Dwi.Points
public import proofs.«01_k».proof.Proof.Gen.Dwi.Frame
public import proofs.«01_k».proof.Proof.Gen.DwiIdeal
public import proofs.«01_k».proof.Proof.Gen.DwiIdeal.Skeleton
public import proofs.«01_k».proof.Proof.Gen.DwiIdeal.Launch
public import proofs.«01_k».proof.Proof.Gen.DwiIdeal.Points
public import proofs.«01_k».proof.Proof.Gen.DwiIdeal.Frame
public import proofs.«01_k».proof.Proof.Gen.DwiIdeal.Value
public import proofs.«01_k».proof.Proof.Gen.DwiRefIdeal
public import proofs.«01_k».proof.Proof.Gen.DwiRefIdeal.Run
public import proofs.«01_k».proof.Proof.Gen.DwiRefIdeal.Read
public import proofs.«01_k».proof.Proof.DwiValue
public import proofs.«01_k».proof.Proof.Gen.Dn
public import proofs.«01_k».proof.Proof.Gen.Dn.Skeleton
public import proofs.«01_k».proof.Proof.Gen.Dn.Launch
public import proofs.«01_k».proof.Proof.Gen.Dn.Points
public import proofs.«01_k».proof.Proof.Gen.Dn.Frame
public import proofs.«01_k».proof.Proof.Gen.DnIdeal
public import proofs.«01_k».proof.Proof.Gen.DnIdeal.Skeleton
public import proofs.«01_k».proof.Proof.Gen.DnIdeal.Launch
public import proofs.«01_k».proof.Proof.Gen.DnIdeal.Points
public import proofs.«01_k».proof.Proof.Gen.DnIdeal.Frame
public import proofs.«01_k».proof.Proof.Gen.DnIdeal.Value
public import proofs.«01_k».proof.Proof.Gen.DnRefIdeal
public import proofs.«01_k».proof.Proof.Gen.DnRefIdeal.Run
public import proofs.«01_k».proof.Proof.Gen.DnRefIdeal.Read
public import proofs.«01_k».proof.Proof.DnValue
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.UpValue
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.DownValue
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxIdeal.Value
public import proofs.«01_k».proof.Proof.Gen.DxRefIdeal
public import proofs.«01_k».proof.Proof.Gen.DxRefIdeal.Run
public import proofs.«01_k».proof.Proof.Gen.DxRefIdeal.Read
public import proofs.«01_k».proof.Proof.DxValue
public import proofs.«01_k».proof.Proof.Gen.Xa
public import proofs.«01_k».proof.Proof.Gen.Xa.Skeleton
public import proofs.«01_k».proof.Proof.Gen.Xa.Launch
public import proofs.«01_k».proof.Proof.Gen.Xa.Points
public import proofs.«01_k».proof.Proof.Gen.Xa.Frame
public import proofs.«01_k».proof.Proof.Gen.XaIdeal
public import proofs.«01_k».proof.Proof.Gen.XaIdeal.Skeleton
public import proofs.«01_k».proof.Proof.Gen.XaIdeal.Launch
public import proofs.«01_k».proof.Proof.Gen.XaIdeal.Points
public import proofs.«01_k».proof.Proof.Gen.XaIdeal.Frame
public import proofs.«01_k».proof.Proof.Gen.XaRefIdeal
public import proofs.«01_k».proof.Proof.Gen.XaRefIdeal.Run
public import proofs.«01_k».proof.Proof.Gen.XaRefIdeal.Read
public import proofs.«01_k».proof.Proof.XaValue
public import proofs.«01_k».proof.Proof.Gen.AdMin
public import proofs.«01_k».proof.Proof.Gen.AdMin.Skeleton
public import proofs.«01_k».proof.Proof.Gen.AdMin.Launch
public import proofs.«01_k».proof.Proof.Gen.AdMin.Points
public import proofs.«01_k».proof.Proof.Gen.AdMin.Frame
public import proofs.«01_k».proof.Proof.Gen.AdMinIdeal
public import proofs.«01_k».proof.Proof.Gen.AdMinIdeal.Skeleton
public import proofs.«01_k».proof.Proof.Gen.AdMinIdeal.Launch
public import proofs.«01_k».proof.Proof.Gen.AdMinIdeal.Points
public import proofs.«01_k».proof.Proof.Gen.AdMinIdeal.Frame
public import proofs.«01_k».proof.Proof.Gen.AdMinIdeal.Value
public import proofs.«01_k».proof.Proof.Gen.AdMinRefIdeal
public import proofs.«01_k».proof.Proof.Gen.AdMinRefIdeal.Run
public import proofs.«01_k».proof.Proof.Gen.AdMinRefIdeal.Read
public import proofs.«01_k».proof.Proof.AdMinValue
public import proofs.«01_k».proof.Proof.Gen.AdMuq
public import proofs.«01_k».proof.Proof.Gen.AdMuq.Skeleton
public import proofs.«01_k».proof.Proof.Gen.AdMuq.Launch
public import proofs.«01_k».proof.Proof.Gen.AdMuq.Points
public import proofs.«01_k».proof.Proof.Gen.AdMuq.Frame
public import proofs.«01_k».proof.Proof.Gen.AdMuqIdeal
public import proofs.«01_k».proof.Proof.Gen.AdMuqIdeal.Skeleton
public import proofs.«01_k».proof.Proof.Gen.AdMuqIdeal.Launch
public import proofs.«01_k».proof.Proof.Gen.AdMuqIdeal.Points
public import proofs.«01_k».proof.Proof.Gen.AdMuqIdeal.Frame
public import proofs.«01_k».proof.Proof.Gen.AdMuqIdeal.Value
public import proofs.«01_k».proof.Proof.Gen.AdMuqRefIdeal
public import proofs.«01_k».proof.Proof.Gen.AdMuqRefIdeal.Run
public import proofs.«01_k».proof.Proof.Gen.AdMuqRefIdeal.Read
public import proofs.«01_k».proof.Proof.AdMuqValue
public import proofs.«01_k».proof.Proof.Gen.AdMukv
public import proofs.«01_k».proof.Proof.Gen.AdMukv.Skeleton
public import proofs.«01_k».proof.Proof.Gen.AdMukv.Launch
public import proofs.«01_k».proof.Proof.Gen.AdMukv.Points
public import proofs.«01_k».proof.Proof.Gen.AdMukv.Frame
public import proofs.«01_k».proof.Proof.Gen.AdMukvIdeal
public import proofs.«01_k».proof.Proof.Gen.AdMukvIdeal.Skeleton
public import proofs.«01_k».proof.Proof.Gen.AdMukvIdeal.Launch
public import proofs.«01_k».proof.Proof.Gen.AdMukvIdeal.Points
public import proofs.«01_k».proof.Proof.Gen.AdMukvIdeal.Frame
public import proofs.«01_k».proof.Proof.Gen.AdMukvIdeal.Value
public import proofs.«01_k».proof.Proof.Gen.AdMukvRefIdeal
public import proofs.«01_k».proof.Proof.Gen.AdMukvRefIdeal.Run
public import proofs.«01_k».proof.Proof.Gen.AdMukvRefIdeal.Read
public import proofs.«01_k».proof.Proof.AdMukvValue
public import proofs.«01_k».proof.Proof.Gen.AdGin
public import proofs.«01_k».proof.Proof.Gen.AdGin.Skeleton
public import proofs.«01_k».proof.Proof.Gen.AdGin.Launch
public import proofs.«01_k».proof.Proof.Gen.AdGin.Points
public import proofs.«01_k».proof.Proof.Gen.AdGin.Frame
public import proofs.«01_k».proof.Proof.Gen.AdGinIdeal
public import proofs.«01_k».proof.Proof.Gen.AdGinIdeal.Skeleton
public import proofs.«01_k».proof.Proof.Gen.AdGinIdeal.Launch
public import proofs.«01_k».proof.Proof.Gen.AdGinIdeal.Points
public import proofs.«01_k».proof.Proof.Gen.AdGinIdeal.Frame
public import proofs.«01_k».proof.Proof.Gen.AdGinIdeal.Value
public import proofs.«01_k».proof.Proof.Gen.AdGinRefIdeal
public import proofs.«01_k».proof.Proof.Gen.AdGinRefIdeal.Run
public import proofs.«01_k».proof.Proof.Gen.AdGinRefIdeal.Read
public import proofs.«01_k».proof.Proof.AdGinValue
public import proofs.«01_k».proof.Proof.Gen.AdSin
public import proofs.«01_k».proof.Proof.Gen.AdSin.Skeleton
public import proofs.«01_k».proof.Proof.Gen.AdSin.Launch
public import proofs.«01_k».proof.Proof.Gen.AdSin.Points
public import proofs.«01_k».proof.Proof.Gen.AdSin.Frame
public import proofs.«01_k».proof.Proof.Gen.AdSinIdeal
public import proofs.«01_k».proof.Proof.Gen.AdSinIdeal.Skeleton
public import proofs.«01_k».proof.Proof.Gen.AdSinIdeal.Launch
public import proofs.«01_k».proof.Proof.Gen.AdSinIdeal.Points
public import proofs.«01_k».proof.Proof.Gen.AdSinIdeal.Frame
public import proofs.«01_k».proof.Proof.Gen.AdSinIdeal.Value
public import proofs.«01_k».proof.Proof.Gen.AdSinRefIdeal
public import proofs.«01_k».proof.Proof.Gen.AdSinRefIdeal.Run
public import proofs.«01_k».proof.Proof.Gen.AdSinRefIdeal.Read
public import proofs.«01_k».proof.Proof.AdSinValue
public import proofs.«01_k».proof.Proof.Gen.AdGo
public import proofs.«01_k».proof.Proof.Gen.AdGo.Skeleton
public import proofs.«01_k».proof.Proof.Gen.AdGo.Launch
public import proofs.«01_k».proof.Proof.Gen.AdGo.Points
public import proofs.«01_k».proof.Proof.Gen.AdGo.Frame
public import proofs.«01_k».proof.Proof.Gen.AdGoIdeal
public import proofs.«01_k».proof.Proof.Gen.AdGoIdeal.Skeleton
public import proofs.«01_k».proof.Proof.Gen.AdGoIdeal.Launch
public import proofs.«01_k».proof.Proof.Gen.AdGoIdeal.Points
public import proofs.«01_k».proof.Proof.Gen.AdGoIdeal.Frame
public import proofs.«01_k».proof.Proof.Gen.AdGoIdeal.Value
public import proofs.«01_k».proof.Proof.Gen.AdGoRefIdeal
public import proofs.«01_k».proof.Proof.Gen.AdGoRefIdeal.Run
public import proofs.«01_k».proof.Proof.Gen.AdGoRefIdeal.Read
public import proofs.«01_k».proof.Proof.AdGoValue
public import proofs.«01_k».proof.Proof.Gen.AdSo
public import proofs.«01_k».proof.Proof.Gen.AdSo.Skeleton
public import proofs.«01_k».proof.Proof.Gen.AdSo.Launch
public import proofs.«01_k».proof.Proof.Gen.AdSo.Points
public import proofs.«01_k».proof.Proof.Gen.AdSo.Frame
public import proofs.«01_k».proof.Proof.Gen.AdSoIdeal
public import proofs.«01_k».proof.Proof.Gen.AdSoIdeal.Skeleton
public import proofs.«01_k».proof.Proof.Gen.AdSoIdeal.Launch
public import proofs.«01_k».proof.Proof.Gen.AdSoIdeal.Points
public import proofs.«01_k».proof.Proof.Gen.AdSoIdeal.Frame
public import proofs.«01_k».proof.Proof.Gen.AdSoIdeal.Value
public import proofs.«01_k».proof.Proof.Gen.AdSoRefIdeal
public import proofs.«01_k».proof.Proof.Gen.AdSoRefIdeal.Run
public import proofs.«01_k».proof.Proof.Gen.AdSoRefIdeal.Read
public import proofs.«01_k».proof.Proof.AdSoValue
public import proofs.«01_k».proof.Proof.Gen.AdFi
public import proofs.«01_k».proof.Proof.Gen.AdFi.Skeleton
public import proofs.«01_k».proof.Proof.Gen.AdFi.Launch
public import proofs.«01_k».proof.Proof.Gen.AdFi.Points
public import proofs.«01_k».proof.Proof.Gen.AdFi.Frame
public import proofs.«01_k».proof.Proof.Gen.AdFiIdeal
public import proofs.«01_k».proof.Proof.Gen.AdFiIdeal.Skeleton
public import proofs.«01_k».proof.Proof.Gen.AdFiIdeal.Launch
public import proofs.«01_k».proof.Proof.Gen.AdFiIdeal.Points
public import proofs.«01_k».proof.Proof.Gen.AdFiIdeal.Frame
public import proofs.«01_k».proof.Proof.Gen.AdFiRefIdeal
public import proofs.«01_k».proof.Proof.Gen.AdFiRefIdeal.Run
public import proofs.«01_k».proof.Proof.Gen.AdFiRefIdeal.Read
public import proofs.«01_k».proof.Proof.AdFiRun
public import proofs.«01_k».proof.Proof.Gen.AdFo
public import proofs.«01_k».proof.Proof.Gen.AdFo.Skeleton
public import proofs.«01_k».proof.Proof.Gen.AdFo.Launch
public import proofs.«01_k».proof.Proof.Gen.AdFo.Points
public import proofs.«01_k».proof.Proof.Gen.AdFo.Frame
public import proofs.«01_k».proof.Proof.Gen.AdFoIdeal
public import proofs.«01_k».proof.Proof.Gen.AdFoIdeal.Skeleton
public import proofs.«01_k».proof.Proof.Gen.AdFoIdeal.Launch
public import proofs.«01_k».proof.Proof.Gen.AdFoIdeal.Points
public import proofs.«01_k».proof.Proof.Gen.AdFoIdeal.Frame
public import proofs.«01_k».proof.Proof.Gen.AdFoRefIdeal
public import proofs.«01_k».proof.Proof.Gen.AdFoRefIdeal.Run
public import proofs.«01_k».proof.Proof.Gen.AdFoRefIdeal.Read
public import proofs.«01_k».proof.Proof.AdFoRun
public import proofs.«01_k».proof.Proof.Gen.AdXq
public import proofs.«01_k».proof.Proof.Gen.AdXq.Skeleton
public import proofs.«01_k».proof.Proof.Gen.AdXq.Launch
public import proofs.«01_k».proof.Proof.Gen.AdXq.Points
public import proofs.«01_k».proof.Proof.Gen.AdXq.Frame
public import proofs.«01_k».proof.Proof.Gen.AdXqIdeal
public import proofs.«01_k».proof.Proof.Gen.AdXqIdeal.Skeleton
public import proofs.«01_k».proof.Proof.Gen.AdXqIdeal.Launch
public import proofs.«01_k».proof.Proof.Gen.AdXqIdeal.Points
public import proofs.«01_k».proof.Proof.Gen.AdXqIdeal.Frame
public import proofs.«01_k».proof.Proof.Gen.AdXqRefIdeal
public import proofs.«01_k».proof.Proof.Gen.AdXqRefIdeal.Run
public import proofs.«01_k».proof.Proof.Gen.AdXqRefIdeal.Read
public import proofs.«01_k».proof.Proof.AdXqRun
public import proofs.«01_k».proof.Proof.Gen.AdXo
public import proofs.«01_k».proof.Proof.Gen.AdXo.Skeleton
public import proofs.«01_k».proof.Proof.Gen.AdXo.Launch
public import proofs.«01_k».proof.Proof.Gen.AdXo.Points
public import proofs.«01_k».proof.Proof.Gen.AdXo.Frame
public import proofs.«01_k».proof.Proof.Gen.AdXoIdeal
public import proofs.«01_k».proof.Proof.Gen.AdXoIdeal.Skeleton
public import proofs.«01_k».proof.Proof.Gen.AdXoIdeal.Launch
public import proofs.«01_k».proof.Proof.Gen.AdXoIdeal.Points
public import proofs.«01_k».proof.Proof.Gen.AdXoIdeal.Frame
public import proofs.«01_k».proof.Proof.Gen.AdXoRefIdeal
public import proofs.«01_k».proof.Proof.Gen.AdXoRefIdeal.Run
public import proofs.«01_k».proof.Proof.Gen.AdXoRefIdeal.Read
public import proofs.«01_k».proof.Proof.AdXoRun
public import proofs.«01_k».proof.Proof.Gen.AdXkv
public import proofs.«01_k».proof.Proof.Gen.AdXkv.Skeleton
public import proofs.«01_k».proof.Proof.Gen.AdXkv.Launch
public import proofs.«01_k».proof.Proof.Gen.AdXkv.Points
public import proofs.«01_k».proof.Proof.Gen.AdXkv.Frame
public import proofs.«01_k».proof.Proof.Gen.AdXkvIdeal
public import proofs.«01_k».proof.Proof.Gen.AdXkvIdeal.Skeleton
public import proofs.«01_k».proof.Proof.Gen.AdXkvIdeal.Launch
public import proofs.«01_k».proof.Proof.Gen.AdXkvIdeal.Points
public import proofs.«01_k».proof.Proof.Gen.AdXkvIdeal.Frame
public import proofs.«01_k».proof.Proof.Gen.AdXkvRefIdeal
public import proofs.«01_k».proof.Proof.Gen.AdXkvRefIdeal.Run
public import proofs.«01_k».proof.Proof.Gen.AdXkvRefIdeal.Read
public import proofs.«01_k».proof.Proof.AdXkvRun
public import proofs.«01_k».proof.Proof.Gen.AdMo
public import proofs.«01_k».proof.Proof.Gen.AdMo.Skeleton
public import proofs.«01_k».proof.Proof.Gen.AdMo.Launch
public import proofs.«01_k».proof.Proof.Gen.AdMo.Points
public import proofs.«01_k».proof.Proof.Gen.AdMo.Frame
public import proofs.«01_k».proof.Proof.Gen.AdMoIdeal
public import proofs.«01_k».proof.Proof.Gen.AdMoIdeal.Skeleton
public import proofs.«01_k».proof.Proof.Gen.AdMoIdeal.Launch
public import proofs.«01_k».proof.Proof.Gen.AdMoIdeal.Points
public import proofs.«01_k».proof.Proof.Gen.AdMoIdeal.Frame
public import proofs.«01_k».proof.Proof.Gen.AdMoRefIdeal
public import proofs.«01_k».proof.Proof.Gen.AdMoRefIdeal.Run
public import proofs.«01_k».proof.Proof.Gen.AdMoRefIdeal.Read
public import proofs.«01_k».proof.Proof.AdMoRun
public import Idealize.ShloMosaic.Lib.Claim
public import Idealize.ShloMosaic.Adequacy
public import Idealize.ShloMosaic.Init

@[expose] public section

noncomputable section

namespace Cert.Proof

open Idealize.ShloMosaic Idealize.SL.Sem

/-! ## The gradient of the gated short convolution -/

theorem preserves_Sc_ScIdeal : Cert.preserves_Sc_ScIdeal := trivial

/-- The reference's run, its results as functions of the arguments. -/
theorem ref_run_Sc (m : (ℓ : Loc Cert.ScRefIdeal.nD Cert.ScRefIdeal.τ Cert.ScRefIdeal.sig) → Buf (Elt Ideal) ℓ) (ρ : Dev Cert.ScRefIdeal.nD → PrngReg) :
    θ_run (Cert.ScRefIdeal.defs (F := Ideal)) (onTc (τ := Cert.ScRefIdeal.τ) (Cert.ScRefIdeal.main (F := Ideal))) ⟨m, fun _ => 0, ρ⟩ fun r => ∀ c : Dev Cert.ScRefIdeal.nD,
      r.2.mem ((c.tc : Thread Cert.ScRefIdeal.nD Cert.ScRefIdeal.τ).loc Cert.ScRefIdeal.main_v71)
          = Cert.ScRefIdeal.Read.val_main_v71 (F := Ideal) (m (c.tc.loc Cert.ScRefIdeal.main_arg0)) (m (c.tc.loc Cert.ScRefIdeal.main_arg1)) (m (c.tc.loc Cert.ScRefIdeal.main_arg2))
      ∧ r.2.mem ((c.tc : Thread Cert.ScRefIdeal.nD Cert.ScRefIdeal.τ).loc Cert.ScRefIdeal.main_v72)
          = Cert.ScRefIdeal.Read.val_main_v72 (F := Ideal) (m (c.tc.loc Cert.ScRefIdeal.main_arg0)) (m (c.tc.loc Cert.ScRefIdeal.main_arg1)) (m (c.tc.loc Cert.ScRefIdeal.main_arg2))
      ∧ r.2.mem ((c.tc : Thread Cert.ScRefIdeal.nD Cert.ScRefIdeal.τ).loc Cert.ScRefIdeal.main_v73)
          = Cert.ScRefIdeal.Read.val_main_v73 (F := Ideal) (m (c.tc.loc Cert.ScRefIdeal.main_arg0)) (m (c.tc.loc Cert.ScRefIdeal.main_arg1)) (m (c.tc.loc Cert.ScRefIdeal.main_arg2))
      ∧ r.2.mem ((c.tc : Thread Cert.ScRefIdeal.nD Cert.ScRefIdeal.τ).loc Cert.ScRefIdeal.main_v62)
          = Cert.ScRefIdeal.Read.val_main_v62 (F := Ideal) (m (c.tc.loc Cert.ScRefIdeal.main_arg0)) (m (c.tc.loc Cert.ScRefIdeal.main_arg2))
      ∧ r.2.mem ((c.tc : Thread Cert.ScRefIdeal.nD Cert.ScRefIdeal.τ).loc Cert.ScRefIdeal.main_arg0) = m ((c.tc : Thread Cert.ScRefIdeal.nD Cert.ScRefIdeal.τ).loc Cert.ScRefIdeal.main_arg0)
      ∧ r.2.mem ((c.tc : Thread Cert.ScRefIdeal.nD Cert.ScRefIdeal.τ).loc Cert.ScRefIdeal.main_arg1) = m ((c.tc : Thread Cert.ScRefIdeal.nD Cert.ScRefIdeal.τ).loc Cert.ScRefIdeal.main_arg1)
      ∧ r.2.mem ((c.tc : Thread Cert.ScRefIdeal.nD Cert.ScRefIdeal.τ).loc Cert.ScRefIdeal.main_arg2) = m ((c.tc : Thread Cert.ScRefIdeal.nD Cert.ScRefIdeal.τ).loc Cert.ScRefIdeal.main_arg2) :=
  (θ_run _ _ _).mono (fun _ h c => ⟨(h c).1.trans (Cert.ScRefIdeal.Read.val_main_v71_eq m c),
      (h c).2.1.trans (Cert.ScRefIdeal.Read.val_main_v72_eq m c),
      (h c).2.2.1.trans (Cert.ScRefIdeal.Read.val_main_v73_eq m c),
      (h c).2.2.2.1.trans (Cert.ScRefIdeal.Read.val_main_v62_eq _ _),
      (h c).2.2.2.2⟩)
    (Cert.ScRefIdeal.Value.run (F := Ideal) m ρ)

theorem quiescent_ScRefIdeal : Cert.quiescent_ScRefIdeal := fun m ρ _ =>
  (θ_run _ _ _).mono (fun r h => ⟨fun c => (h c).2.2.2.2, sem_eq_zero_of_no_sems (by decide) r.2⟩) (ref_run_Sc m ρ)

theorem algebraic_ScIdeal_ScRefIdeal : Cert.algebraic_ScIdeal_ScRefIdeal := by
  pair_intro
  · run_from Cert.ScIdeal.Gen.run_main m g
  · run_from ref_run_Sc m' g'
    · exact (Cert.ScIdeal.Arr.final5 m c).symm
    · exact (Cert.ScIdeal.Arr.final6 m c).symm
    · exact (Cert.ScIdeal.Arr.final7 m c).symm
    · exact (Cert.ScIdeal.Arr.final8 m c).symm

/-! ## The gradient of the second layer's weight -/

theorem preserves_Dwo_DwoIdeal : Cert.preserves_Dwo_DwoIdeal := trivial

/-- The reference's run, its results as functions of the arguments. -/
theorem ref_run_Dwo (m : (ℓ : Loc Cert.DwoRefIdeal.nD Cert.DwoRefIdeal.τ Cert.DwoRefIdeal.sig) → Buf (Elt Ideal) ℓ) (ρ : Dev Cert.DwoRefIdeal.nD → PrngReg) :
    θ_run (Cert.DwoRefIdeal.defs (F := Ideal)) (onTc (τ := Cert.DwoRefIdeal.τ) (Cert.DwoRefIdeal.main (F := Ideal))) ⟨m, fun _ => 0, ρ⟩ fun r => ∀ c : Dev Cert.DwoRefIdeal.nD,
      r.2.mem ((c.tc : Thread Cert.DwoRefIdeal.nD Cert.DwoRefIdeal.τ).loc Cert.DwoRefIdeal.main_v6)
          = Cert.DwoRefIdeal.Read.val_main_v6 (F := Ideal) (m (c.tc.loc Cert.DwoRefIdeal.main_arg0)) (m (c.tc.loc Cert.DwoRefIdeal.main_arg2))
      ∧ r.2.mem ((c.tc : Thread Cert.DwoRefIdeal.nD Cert.DwoRefIdeal.τ).loc Cert.DwoRefIdeal.main_arg0) = m ((c.tc : Thread Cert.DwoRefIdeal.nD Cert.DwoRefIdeal.τ).loc Cert.DwoRefIdeal.main_arg0)
      ∧ r.2.mem ((c.tc : Thread Cert.DwoRefIdeal.nD Cert.DwoRefIdeal.τ).loc Cert.DwoRefIdeal.main_arg1) = m ((c.tc : Thread Cert.DwoRefIdeal.nD Cert.DwoRefIdeal.τ).loc Cert.DwoRefIdeal.main_arg1)
      ∧ r.2.mem ((c.tc : Thread Cert.DwoRefIdeal.nD Cert.DwoRefIdeal.τ).loc Cert.DwoRefIdeal.main_arg2) = m ((c.tc : Thread Cert.DwoRefIdeal.nD Cert.DwoRefIdeal.τ).loc Cert.DwoRefIdeal.main_arg2) :=
  (θ_run _ _ _).mono (fun _ h c => ⟨(h c).1.trans (Cert.DwoRefIdeal.Read.val_main_v6_eq _ _),
      (h c).2⟩)
    (Cert.DwoRefIdeal.Value.run (F := Ideal) m ρ)

theorem quiescent_DwoRefIdeal : Cert.quiescent_DwoRefIdeal := fun m ρ _ =>
  (θ_run _ _ _).mono (fun r h => ⟨fun c => (h c).2, sem_eq_zero_of_no_sems (by decide) r.2⟩) (ref_run_Dwo m ρ)

theorem algebraic_DwoIdeal_DwoRefIdeal : Cert.algebraic_DwoIdeal_DwoRefIdeal := by
  pair_intro
  · run_from Cert.DwoIdeal.Gen.run_main m g
  · run_from ref_run_Dwo m' g'
    · exact (Cert.DwoIdeal.Arr.final2 m c).symm

/-! ## The gradient behind the square of the positive part -/

theorem preserves_Dh_DhIdeal : Cert.preserves_Dh_DhIdeal := trivial

/-- The reference's run, its results as functions of the arguments. -/
theorem ref_run_Dh (m : (ℓ : Loc Cert.DhRefIdeal.nD Cert.DhRefIdeal.τ Cert.DhRefIdeal.sig) → Buf (Elt Ideal) ℓ) (ρ : Dev Cert.DhRefIdeal.nD → PrngReg) :
    θ_run (Cert.DhRefIdeal.defs (F := Ideal)) (onTc (τ := Cert.DhRefIdeal.τ) (Cert.DhRefIdeal.main (F := Ideal))) ⟨m, fun _ => 0, ρ⟩ fun r => ∀ c : Dev Cert.DhRefIdeal.nD,
      r.2.mem ((c.tc : Thread Cert.DhRefIdeal.nD Cert.DhRefIdeal.τ).loc Cert.DhRefIdeal.main_v14)
          = Cert.DhRefIdeal.Read.val_main_v14 (F := Ideal) (m (c.tc.loc Cert.DhRefIdeal.main_arg0)) (m (c.tc.loc Cert.DhRefIdeal.main_arg1)) (m (c.tc.loc Cert.DhRefIdeal.main_arg2))
      ∧ r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2) :=
  (θ_run _ _ _).mono (fun _ h c => ⟨(h c).1.trans (Cert.DhRefIdeal.Read.val_main_v14_eq _ _ _),
      (h c).2⟩)
    (Cert.DhRefIdeal.Value.run (F := Ideal) m ρ)

theorem quiescent_DhRefIdeal : Cert.quiescent_DhRefIdeal := fun m ρ _ =>
  (θ_run _ _ _).mono (fun r h => ⟨fun c => (h c).2, sem_eq_zero_of_no_sems (by decide) r.2⟩) (ref_run_Dh m ρ)

theorem algebraic_DhIdeal_DhRefIdeal : Cert.algebraic_DhIdeal_DhRefIdeal := by
  pair_intro
  · run_from Cert.DhIdeal.Gen.run_main m g
  · run_from ref_run_Dh m' g'
    · exact (Cert.DhIdeal.Arr.final3 m c).symm

/-! ## The gradient of the first layer's weight -/

theorem preserves_Dwi_DwiIdeal : Cert.preserves_Dwi_DwiIdeal := trivial

/-- The reference's run, its results as functions of the arguments. -/
theorem ref_run_Dwi (m : (ℓ : Loc Cert.DwiRefIdeal.nD Cert.DwiRefIdeal.τ Cert.DwiRefIdeal.sig) → Buf (Elt Ideal) ℓ) (ρ : Dev Cert.DwiRefIdeal.nD → PrngReg) :
    θ_run (Cert.DwiRefIdeal.defs (F := Ideal)) (onTc (τ := Cert.DwiRefIdeal.τ) (Cert.DwiRefIdeal.main (F := Ideal))) ⟨m, fun _ => 0, ρ⟩ fun r => ∀ c : Dev Cert.DwiRefIdeal.nD,
      r.2.mem ((c.tc : Thread Cert.DwiRefIdeal.nD Cert.DwiRefIdeal.τ).loc Cert.DwiRefIdeal.main_v7)
          = Cert.DwiRefIdeal.Read.val_main_v7 (F := Ideal) (m (c.tc.loc Cert.DwiRefIdeal.main_arg0)) (m (c.tc.loc Cert.DwiRefIdeal.main_arg2))
      ∧ r.2.mem ((c.tc : Thread Cert.DwiRefIdeal.nD Cert.DwiRefIdeal.τ).loc Cert.DwiRefIdeal.main_arg0) = m ((c.tc : Thread Cert.DwiRefIdeal.nD Cert.DwiRefIdeal.τ).loc Cert.DwiRefIdeal.main_arg0)
      ∧ r.2.mem ((c.tc : Thread Cert.DwiRefIdeal.nD Cert.DwiRefIdeal.τ).loc Cert.DwiRefIdeal.main_arg1) = m ((c.tc : Thread Cert.DwiRefIdeal.nD Cert.DwiRefIdeal.τ).loc Cert.DwiRefIdeal.main_arg1)
      ∧ r.2.mem ((c.tc : Thread Cert.DwiRefIdeal.nD Cert.DwiRefIdeal.τ).loc Cert.DwiRefIdeal.main_arg2) = m ((c.tc : Thread Cert.DwiRefIdeal.nD Cert.DwiRefIdeal.τ).loc Cert.DwiRefIdeal.main_arg2) :=
  (θ_run _ _ _).mono (fun _ h c => ⟨(h c).1.trans (Cert.DwiRefIdeal.Read.val_main_v7_eq _ _),
      (h c).2⟩)
    (Cert.DwiRefIdeal.Value.run (F := Ideal) m ρ)

theorem quiescent_DwiRefIdeal : Cert.quiescent_DwiRefIdeal := fun m ρ _ =>
  (θ_run _ _ _).mono (fun r h => ⟨fun c => (h c).2, sem_eq_zero_of_no_sems (by decide) r.2⟩) (ref_run_Dwi m ρ)

theorem algebraic_DwiIdeal_DwiRefIdeal : Cert.algebraic_DwiIdeal_DwiRefIdeal := by
  pair_intro
  · run_from Cert.DwiIdeal.Gen.run_main m g
  · run_from ref_run_Dwi m' g'
    · exact (Cert.DwiIdeal.Arr.final2 m c).symm

/-! ## The gradient of the layer's input, through the norm -/

theorem preserves_Dn_DnIdeal : Cert.preserves_Dn_DnIdeal := trivial

/-- The reference's run, its results as functions of the arguments. -/
theorem ref_run_Dn (m : (ℓ : Loc Cert.DnRefIdeal.nD Cert.DnRefIdeal.τ Cert.DnRefIdeal.sig) → Buf (Elt Ideal) ℓ) (ρ : Dev Cert.DnRefIdeal.nD → PrngReg) :
    θ_run (Cert.DnRefIdeal.defs (F := Ideal)) (onTc (τ := Cert.DnRefIdeal.τ) (Cert.DnRefIdeal.main (F := Ideal))) ⟨m, fun _ => 0, ρ⟩ fun r => ∀ c : Dev Cert.DnRefIdeal.nD,
      r.2.mem ((c.tc : Thread Cert.DnRefIdeal.nD Cert.DnRefIdeal.τ).loc Cert.DnRefIdeal.main_v39)
          = Cert.DnRefIdeal.Read.val_main_v39 (F := Ideal) (m (c.tc.loc Cert.DnRefIdeal.main_arg0)) (m (c.tc.loc Cert.DnRefIdeal.main_arg1)) (m (c.tc.loc Cert.DnRefIdeal.main_arg2)) (m (c.tc.loc Cert.DnRefIdeal.main_arg3)) (m (c.tc.loc Cert.DnRefIdeal.main_arg4))
      ∧ r.2.mem ((c.tc : Thread Cert.DnRefIdeal.nD Cert.DnRefIdeal.τ).loc Cert.DnRefIdeal.main_v40)
          = Cert.DnRefIdeal.Read.val_main_v40 (F := Ideal) (m (c.tc.loc Cert.DnRefIdeal.main_arg0)) (m (c.tc.loc Cert.DnRefIdeal.main_arg1)) (m (c.tc.loc Cert.DnRefIdeal.main_arg2)) (m (c.tc.loc Cert.DnRefIdeal.main_arg3)) (m (c.tc.loc Cert.DnRefIdeal.main_arg4))
      ∧ r.2.mem ((c.tc : Thread Cert.DnRefIdeal.nD Cert.DnRefIdeal.τ).loc Cert.DnRefIdeal.main_v41)
          = Cert.DnRefIdeal.Read.val_main_v41 (F := Ideal) (m (c.tc.loc Cert.DnRefIdeal.main_arg0)) (m (c.tc.loc Cert.DnRefIdeal.main_arg2)) (m (c.tc.loc Cert.DnRefIdeal.main_arg3))
      ∧ r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1)
      ∧ r.2.mem ((c.tc : Thread Cert.DnRefIdeal.nD Cert.DnRefIdeal.τ).loc Cert.DnRefIdeal.main_arg2) = m ((c.tc : Thread Cert.DnRefIdeal.nD Cert.DnRefIdeal.τ).loc Cert.DnRefIdeal.main_arg2)
      ∧ r.2.mem ((c.tc : Thread Cert.DnRefIdeal.nD Cert.DnRefIdeal.τ).loc Cert.DnRefIdeal.main_arg3) = m ((c.tc : Thread Cert.DnRefIdeal.nD Cert.DnRefIdeal.τ).loc Cert.DnRefIdeal.main_arg3)
      ∧ r.2.mem ((c.tc : Thread Cert.DnRefIdeal.nD Cert.DnRefIdeal.τ).loc Cert.DnRefIdeal.main_arg4) = m ((c.tc : Thread Cert.DnRefIdeal.nD Cert.DnRefIdeal.τ).loc Cert.DnRefIdeal.main_arg4) :=
  (θ_run _ _ _).mono (fun _ h c => ⟨(h c).1.trans (Cert.DnRefIdeal.Read.val_main_v39_eq m c),
      (h c).2.1.trans (Cert.DnRefIdeal.Read.val_main_v40_eq m c),
      (h c).2.2.1.trans (Cert.DnRefIdeal.Read.val_main_v41_eq _ _ _),
      (h c).2.2.2⟩)
    (Cert.DnRefIdeal.Value.run (F := Ideal) m ρ)

theorem quiescent_DnRefIdeal : Cert.quiescent_DnRefIdeal := fun m ρ _ =>
  (θ_run _ _ _).mono (fun r h => ⟨fun c => (h c).2.2.2, sem_eq_zero_of_no_sems (by decide) r.2⟩) (ref_run_Dn m ρ)

theorem algebraic_DnIdeal_DnRefIdeal : Cert.algebraic_DnIdeal_DnRefIdeal := by
  pair_intro
  · run_from Cert.DnIdeal.Gen.run_main m g
  · run_from ref_run_Dn m' g'
    · exact (Cert.DnIdeal.Arr.final8 m c).symm
    · exact (Cert.DnIdeal.Arr.final9 m c).symm
    · exact (Cert.DnIdeal.Arr.final10 m c).symm

/-! ## The first layer's product and the square of its positive part -/

theorem preserves_Up_UpIdeal : Cert.preserves_Up_UpIdeal := trivial

/-- The reference's run, its results as functions of the arguments. -/
theorem ref_run_Up (m : (ℓ : Loc Cert.UpRefIdeal.nD Cert.UpRefIdeal.τ Cert.UpRefIdeal.sig) → Buf (Elt Ideal) ℓ) (ρ : Dev Cert.UpRefIdeal.nD → PrngReg) :
    θ_run (Cert.UpRefIdeal.defs (F := Ideal)) (onTc (τ := Cert.UpRefIdeal.τ) (Cert.UpRefIdeal.main (F := Ideal))) ⟨m, fun _ => 0, ρ⟩ fun r => ∀ c : Dev Cert.UpRefIdeal.nD,
      r.2.mem ((c.tc : Thread Cert.UpRefIdeal.nD Cert.UpRefIdeal.τ).loc Cert.UpRefIdeal.main_v2)
          = Cert.UpRefIdeal.Read.val_main_v2 (F := Ideal) (m (c.tc.loc Cert.UpRefIdeal.main_arg0)) (m (c.tc.loc Cert.UpRefIdeal.main_arg1))
      ∧ r.2.mem ((c.tc : Thread Cert.UpRefIdeal.nD Cert.UpRefIdeal.τ).loc Cert.UpRefIdeal.main_v5)
          = Cert.UpRefIdeal.Read.val_main_v5 (F := Ideal) (m (c.tc.loc Cert.UpRefIdeal.main_arg0)) (m (c.tc.loc Cert.UpRefIdeal.main_arg1))
      ∧ r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1) :=
  (θ_run _ _ _).mono (fun _ h c => ⟨(h c).1.trans (Cert.UpRefIdeal.Read.val_main_v2_eq _ _),
      (h c).2.1.trans (Cert.UpRefIdeal.Read.val_main_v5_eq _ _),
      (h c).2.2⟩)
    (Cert.UpRefIdeal.Value.run (F := Ideal) m ρ)

theorem quiescent_UpRefIdeal : Cert.quiescent_UpRefIdeal := fun m ρ _ =>
  (θ_run _ _ _).mono (fun r h => ⟨fun c => (h c).2.2, sem_eq_zero_of_no_sems (by decide) r.2⟩) (ref_run_Up m ρ)

theorem algebraic_UpIdeal_UpRefIdeal : Cert.algebraic_UpIdeal_UpRefIdeal := by
  pair_intro
  · run_from Cert.UpIdeal.Gen.run_main m g
  · run_from ref_run_Up m' g'
    · exact (Cert.UpIdeal.Arr.final2 m c).symm
    · exact (Cert.UpIdeal.Arr.final3 m c).symm

/-! ## The second layer's product, the residual and the next norm -/

theorem preserves_Down_DownIdeal : Cert.preserves_Down_DownIdeal := trivial

/-- The reference's run, its results as functions of the arguments. -/
theorem ref_run_Down (m : (ℓ : Loc Cert.DownRefIdeal.nD Cert.DownRefIdeal.τ Cert.DownRefIdeal.sig) → Buf (Elt Ideal) ℓ) (ρ : Dev Cert.DownRefIdeal.nD → PrngReg) :
    θ_run (Cert.DownRefIdeal.defs (F := Ideal)) (onTc (τ := Cert.DownRefIdeal.τ) (Cert.DownRefIdeal.main (F := Ideal))) ⟨m, fun _ => 0, ρ⟩ fun r => ∀ c : Dev Cert.DownRefIdeal.nD,
      r.2.mem ((c.tc : Thread Cert.DownRefIdeal.nD Cert.DownRefIdeal.τ).loc Cert.DownRefIdeal.main_v2)
          = Cert.DownRefIdeal.Read.val_main_v2 (F := Ideal) (m (c.tc.loc Cert.DownRefIdeal.main_arg0)) (m (c.tc.loc Cert.DownRefIdeal.main_arg1)) (m (c.tc.loc Cert.DownRefIdeal.main_arg2))
      ∧ r.2.mem ((c.tc : Thread Cert.DownRefIdeal.nD Cert.DownRefIdeal.τ).loc Cert.DownRefIdeal.main_v16)
          = Cert.DownRefIdeal.Read.val_main_v16 (F := Ideal) (m (c.tc.loc Cert.DownRefIdeal.main_arg0)) (m (c.tc.loc Cert.DownRefIdeal.main_arg1)) (m (c.tc.loc Cert.DownRefIdeal.main_arg2)) (m (c.tc.loc Cert.DownRefIdeal.main_arg3))
      ∧ r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3) :=
  (θ_run _ _ _).mono (fun _ h c => ⟨(h c).1.trans (Cert.DownRefIdeal.Read.val_main_v2_eq _ _ _),
      (h c).2.1.trans (Cert.DownRefIdeal.Read.val_main_v16_eq _ _ _ _),
      (h c).2.2⟩)
    (Cert.DownRefIdeal.Value.run (F := Ideal) m ρ)

theorem quiescent_DownRefIdeal : Cert.quiescent_DownRefIdeal := fun m ρ _ =>
  (θ_run _ _ _).mono (fun r h => ⟨fun c => (h c).2.2, sem_eq_zero_of_no_sems (by decide) r.2⟩) (ref_run_Down m ρ)

theorem algebraic_DownIdeal_DownRefIdeal : Cert.algebraic_DownIdeal_DownRefIdeal := by
  pair_intro
  · run_from Cert.DownIdeal.Gen.run_main m g
  · run_from ref_run_Down m' g'
    · exact (Cert.DownIdeal.Arr.final7 m c).symm
    · exact (Cert.DownIdeal.Arr.final8 m c).symm

/-! ## The gradient of the step's input, through the first mixer's product and norm -/

theorem preserves_Dx_DxIdeal : Cert.preserves_Dx_DxIdeal := trivial

/-- The reference's run, its results as functions of the arguments. -/
theorem ref_run_Dx (m : (ℓ : Loc Cert.DxRefIdeal.nD Cert.DxRefIdeal.τ Cert.DxRefIdeal.sig) → Buf (Elt Ideal) ℓ) (ρ : Dev Cert.DxRefIdeal.nD → PrngReg) :
    θ_run (Cert.DxRefIdeal.defs (F := Ideal)) (onTc (τ := Cert.DxRefIdeal.τ) (Cert.DxRefIdeal.main (F := Ideal))) ⟨m, fun _ => 0, ρ⟩ fun r => ∀ c : Dev Cert.DxRefIdeal.nD,
      r.2.mem ((c.tc : Thread Cert.DxRefIdeal.nD Cert.DxRefIdeal.τ).loc Cert.DxRefIdeal.main_v40)
          = Cert.DxRefIdeal.Read.val_main_v40 (F := Ideal) (m (c.tc.loc Cert.DxRefIdeal.main_arg0)) (m (c.tc.loc Cert.DxRefIdeal.main_arg1)) (m (c.tc.loc Cert.DxRefIdeal.main_arg2)) (m (c.tc.loc Cert.DxRefIdeal.main_arg3)) (m (c.tc.loc Cert.DxRefIdeal.main_arg4))
      ∧ r.2.mem ((c.tc : Thread Cert.DxRefIdeal.nD Cert.DxRefIdeal.τ).loc Cert.DxRefIdeal.main_v41)
          = Cert.DxRefIdeal.Read.val_main_v41 (F := Ideal) (m (c.tc.loc Cert.DxRefIdeal.main_arg0)) (m (c.tc.loc Cert.DxRefIdeal.main_arg1)) (m (c.tc.loc Cert.DxRefIdeal.main_arg2)) (m (c.tc.loc Cert.DxRefIdeal.main_arg3)) (m (c.tc.loc Cert.DxRefIdeal.main_arg4))
      ∧ r.2.mem ((c.tc : Thread Cert.DxRefIdeal.nD Cert.DxRefIdeal.τ).loc Cert.DxRefIdeal.main_v42)
          = Cert.DxRefIdeal.Read.val_main_v42 (F := Ideal) (m (c.tc.loc Cert.DxRefIdeal.main_arg0)) (m (c.tc.loc Cert.DxRefIdeal.main_arg2)) (m (c.tc.loc Cert.DxRefIdeal.main_arg3))
      ∧ r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4) :=
  (θ_run _ _ _).mono (fun _ h c => ⟨(h c).1.trans (Cert.DxRefIdeal.Read.val_main_v40_eq m c),
      (h c).2.1.trans (Cert.DxRefIdeal.Read.val_main_v41_eq m c),
      (h c).2.2.1.trans (Cert.DxRefIdeal.Read.val_main_v42_eq _ _ _),
      (h c).2.2.2⟩)
    (Cert.DxRefIdeal.Value.run (F := Ideal) m ρ)

theorem quiescent_DxRefIdeal : Cert.quiescent_DxRefIdeal := fun m ρ _ =>
  (θ_run _ _ _).mono (fun r h => ⟨fun c => (h c).2.2.2, sem_eq_zero_of_no_sems (by decide) r.2⟩) (ref_run_Dx m ρ)

theorem algebraic_DxIdeal_DxRefIdeal : Cert.algebraic_DxIdeal_DxRefIdeal := by
  pair_intro
  · run_from Cert.DxIdeal.Gen.run_main m g
    all_goals first | exact Cert.DxIdeal.Gen.V_main_arg1 m c | exact Cert.DxIdeal.Gen.V_main_arg2 m c
  · run_from ref_run_Dx m' g'
    · exact (Cert.DxIdeal.Arr.final5 m c).symm
    · exact (Cert.DxIdeal.Arr.final6 m c).symm
    · exact (Cert.DxIdeal.Arr.final7 m c).symm

/-! ## The gradient of the cross-attention, at real arguments -/

theorem preserves_Xa_XaIdeal : Cert.preserves_Xa_XaIdeal := trivial

/-- The reference's run, its results as functions of the arguments. -/
theorem ref_run_Xa (m : (ℓ : Loc Cert.XaRefIdeal.nD Cert.XaRefIdeal.τ Cert.XaRefIdeal.sig) → Buf (Elt Ideal) ℓ) (ρ : Dev Cert.XaRefIdeal.nD → PrngReg) :
    θ_run (Cert.XaRefIdeal.defs (F := Ideal)) (onTc (τ := Cert.XaRefIdeal.τ) (Cert.XaRefIdeal.main (F := Ideal))) ⟨m, fun _ => 0, ρ⟩ fun r => ∀ c : Dev Cert.XaRefIdeal.nD,
      r.2.mem ((c.tc : Thread Cert.XaRefIdeal.nD Cert.XaRefIdeal.τ).loc Cert.XaRefIdeal.main_v72)
          = Cert.XaRefIdeal.Read.val_main_v72 (F := Ideal) (m (c.tc.loc Cert.XaRefIdeal.main_arg0)) (m (c.tc.loc Cert.XaRefIdeal.main_arg1)) (m (c.tc.loc Cert.XaRefIdeal.main_arg2))
      ∧ r.2.mem ((c.tc : Thread Cert.XaRefIdeal.nD Cert.XaRefIdeal.τ).loc Cert.XaRefIdeal.main_v73)
          = Cert.XaRefIdeal.Read.val_main_v73 (F := Ideal) (m (c.tc.loc Cert.XaRefIdeal.main_arg0)) (m (c.tc.loc Cert.XaRefIdeal.main_arg1)) (m (c.tc.loc Cert.XaRefIdeal.main_arg2))
      ∧ r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2) :=
  (θ_run _ _ _).mono (fun _ h c => ⟨(h c).1.trans (Cert.XaRefIdeal.Read.val_main_v72_eq m c),
      (h c).2.1.trans (Cert.XaRefIdeal.Read.val_main_v73_eq m c),
      (h c).2.2⟩)
    (Cert.XaRefIdeal.Value.run (F := Ideal) m ρ)

theorem quiescent_XaRefIdeal : Cert.quiescent_XaRefIdeal := fun m ρ _ =>
  (θ_run _ _ _).mono (fun r h => ⟨fun c => (h c).2.2, sem_eq_zero_of_no_sems (by decide) r.2⟩) (ref_run_Xa m ρ)

/-- The side conditions of the precondition's function. -/
theorem pre_facts : Cert.Pre_xa_finite.Facts where
  bitsLt_bf16_f32 := by decide
  bcast_S_S2048x1024 := by decide
  reducesTo_S2048x1024_S_d0_1 := by decide
  h_S_ := by decide
  bcast_S_S256x2048 := by decide
  reducesTo_S256x2048_S_d0_1 := by decide

theorem algebraic_XaIdeal_XaRefIdeal : Cert.algebraic_XaIdeal_XaRefIdeal_pre_xa_finite (hPre_xa_finite := pre_facts) := by
  intro m g m' g' hpre hargs
  refine ⟨fun c => Cert.XaIdeal.Arr.dqArr (Cert.XaIdeal.Run.q m c) (Cert.XaIdeal.Run.kv m c) (Cert.XaIdeal.Run.dy m c),
    fun c => Cert.XaIdeal.Arr.dkvArr (Cert.XaIdeal.Run.q m c) (Cert.XaIdeal.Run.kv m c) (Cert.XaIdeal.Run.dy m c), ?_, ?_⟩
  · exact (θ_run _ _ _).mono (fun r h c => ⟨(h c).1.trans (Cert.XaIdeal.Run.dq_eq m g c),
      (h c).2.1.trans (Cert.XaIdeal.Run.dkv_eq m g c), (h c).2.2⟩) (Cert.XaIdeal.Run.leaves m g)
  · refine (θ_run _ _ _).mono (fun r h c => ?_) (ref_run_Xa m' g')
    obtain ⟨hq, hk, hy⟩ := @Cert.Pre_xa_finite.reals pre_facts _ _ _ (hpre c)
    choose q' hq using hq
    choose kv' hk using hk
    choose dy' hy using hy
    obtain ⟨a0, a1, a2⟩ := hargs c
    refine ⟨(h c).1.trans ?_, (h c).2.1.trans ?_, (h c).2.2⟩
    · rw [a0, a1, a2]
      exact Cert.XaValue.dq_same _ _ _ q' kv' dy' hq hk hy
    · rw [a0, a1, a2]
      exact Cert.XaValue.dkv_same _ _ _ q' kv' dy' hq hk hy

/-! ## The optimiser's step for latent attention's input weight -/

theorem preserves_AdMin_AdMinIdeal : Cert.preserves_AdMin_AdMinIdeal := trivial

/-- The reference's run, its results as functions of the arguments. -/
theorem ref_run_AdMin (m : (ℓ : Loc Cert.AdMinRefIdeal.nD Cert.AdMinRefIdeal.τ Cert.AdMinRefIdeal.sig) → Buf (Elt Ideal) ℓ) (ρ : Dev Cert.AdMinRefIdeal.nD → PrngReg) :
    θ_run (Cert.AdMinRefIdeal.defs (F := Ideal)) (onTc (τ := Cert.AdMinRefIdeal.τ) (Cert.AdMinRefIdeal.main (F := Ideal))) ⟨m, fun _ => 0, ρ⟩ fun r => ∀ c : Dev Cert.AdMinRefIdeal.nD,
      r.2.mem ((c.tc : Thread Cert.AdMinRefIdeal.nD Cert.AdMinRefIdeal.τ).loc Cert.AdMinRefIdeal.main_v26)
          = Cert.AdMinRefIdeal.Read.val_main_v26 (F := Ideal) (m (c.tc.loc Cert.AdMinRefIdeal.main_arg0))
      ∧ r.2.mem ((c.tc : Thread Cert.AdMinRefIdeal.nD Cert.AdMinRefIdeal.τ).loc Cert.AdMinRefIdeal.main_v27)
          = Cert.AdMinRefIdeal.Read.val_main_v27 (F := Ideal) (m (c.tc.loc Cert.AdMinRefIdeal.main_arg0)) (m (c.tc.loc Cert.AdMinRefIdeal.main_arg1)) (m (c.tc.loc Cert.AdMinRefIdeal.main_arg2)) (m (c.tc.loc Cert.AdMinRefIdeal.main_arg3))
      ∧ r.2.mem ((c.tc : Thread Cert.AdMinRefIdeal.nD Cert.AdMinRefIdeal.τ).loc Cert.AdMinRefIdeal.main_v28)
          = Cert.AdMinRefIdeal.Read.val_main_v28 (F := Ideal) (m (c.tc.loc Cert.AdMinRefIdeal.main_arg0)) (m (c.tc.loc Cert.AdMinRefIdeal.main_arg2))
      ∧ r.2.mem ((c.tc : Thread Cert.AdMinRefIdeal.nD Cert.AdMinRefIdeal.τ).loc Cert.AdMinRefIdeal.main_v29)
          = Cert.AdMinRefIdeal.Read.val_main_v29 (F := Ideal) (m (c.tc.loc Cert.AdMinRefIdeal.main_arg0)) (m (c.tc.loc Cert.AdMinRefIdeal.main_arg3))
      ∧ r.2.mem ((c.tc : Thread Cert.AdMinRefIdeal.nD Cert.AdMinRefIdeal.τ).loc Cert.AdMinRefIdeal.main_arg0) = m ((c.tc : Thread Cert.AdMinRefIdeal.nD Cert.AdMinRefIdeal.τ).loc Cert.AdMinRefIdeal.main_arg0)
      ∧ r.2.mem ((c.tc : Thread Cert.AdMinRefIdeal.nD Cert.AdMinRefIdeal.τ).loc Cert.AdMinRefIdeal.main_arg1) = m ((c.tc : Thread Cert.AdMinRefIdeal.nD Cert.AdMinRefIdeal.τ).loc Cert.AdMinRefIdeal.main_arg1)
      ∧ r.2.mem ((c.tc : Thread Cert.AdMinRefIdeal.nD Cert.AdMinRefIdeal.τ).loc Cert.AdMinRefIdeal.main_arg2) = m ((c.tc : Thread Cert.AdMinRefIdeal.nD Cert.AdMinRefIdeal.τ).loc Cert.AdMinRefIdeal.main_arg2)
      ∧ r.2.mem ((c.tc : Thread Cert.AdMinRefIdeal.nD Cert.AdMinRefIdeal.τ).loc Cert.AdMinRefIdeal.main_arg3) = m ((c.tc : Thread Cert.AdMinRefIdeal.nD Cert.AdMinRefIdeal.τ).loc Cert.AdMinRefIdeal.main_arg3) :=
  (θ_run _ _ _).mono (fun _ h c => ⟨(h c).1.trans (Cert.AdMinRefIdeal.Read.val_main_v26_eq _),
      (h c).2.1.trans (Cert.AdMinRefIdeal.Read.val_main_v27_eq _ _ _ _),
      (h c).2.2.1.trans (Cert.AdMinRefIdeal.Read.val_main_v28_eq _ _),
      (h c).2.2.2.1.trans (Cert.AdMinRefIdeal.Read.val_main_v29_eq _ _),
      (h c).2.2.2.2⟩)
    (Cert.AdMinRefIdeal.Value.run (F := Ideal) m ρ)

theorem quiescent_AdMinRefIdeal : Cert.quiescent_AdMinRefIdeal := fun m ρ _ =>
  (θ_run _ _ _).mono (fun r h => ⟨fun c => (h c).2.2.2.2, sem_eq_zero_of_no_sems (by decide) r.2⟩) (ref_run_AdMin m ρ)

theorem algebraic_AdMinIdeal_AdMinRefIdeal : Cert.algebraic_AdMinIdeal_AdMinRefIdeal := by
  pair_intro
  · run_from Cert.AdMinIdeal.Gen.run_main m g
    all_goals first | exact Cert.AdMinIdeal.Gen.V_main_arg1 m c | exact Cert.AdMinIdeal.Gen.V_main_arg2 m c | exact Cert.AdMinIdeal.Gen.V_main_arg3 m c
  · run_from ref_run_AdMin m' g'
    · exact (Cert.AdMinIdeal.Arr.final4 m c).symm
    · exact (Cert.AdMinIdeal.Arr.final5 m c).symm
    · exact (Cert.AdMinIdeal.Arr.final6 m c).symm
    · exact (Cert.AdMinIdeal.Arr.final7 m c).symm

/-! ## The optimiser's step for latent attention's query weight -/

theorem preserves_AdMuq_AdMuqIdeal : Cert.preserves_AdMuq_AdMuqIdeal := trivial

/-- The reference's run, its results as functions of the arguments. -/
theorem ref_run_AdMuq (m : (ℓ : Loc Cert.AdMuqRefIdeal.nD Cert.AdMuqRefIdeal.τ Cert.AdMuqRefIdeal.sig) → Buf (Elt Ideal) ℓ) (ρ : Dev Cert.AdMuqRefIdeal.nD → PrngReg) :
    θ_run (Cert.AdMuqRefIdeal.defs (F := Ideal)) (onTc (τ := Cert.AdMuqRefIdeal.τ) (Cert.AdMuqRefIdeal.main (F := Ideal))) ⟨m, fun _ => 0, ρ⟩ fun r => ∀ c : Dev Cert.AdMuqRefIdeal.nD,
      r.2.mem ((c.tc : Thread Cert.AdMuqRefIdeal.nD Cert.AdMuqRefIdeal.τ).loc Cert.AdMuqRefIdeal.main_v26)
          = Cert.AdMuqRefIdeal.Read.val_main_v26 (F := Ideal) (m (c.tc.loc Cert.AdMuqRefIdeal.main_arg0))
      ∧ r.2.mem ((c.tc : Thread Cert.AdMuqRefIdeal.nD Cert.AdMuqRefIdeal.τ).loc Cert.AdMuqRefIdeal.main_v27)
          = Cert.AdMuqRefIdeal.Read.val_main_v27 (F := Ideal) (m (c.tc.loc Cert.AdMuqRefIdeal.main_arg0)) (m (c.tc.loc Cert.AdMuqRefIdeal.main_arg1)) (m (c.tc.loc Cert.AdMuqRefIdeal.main_arg2)) (m (c.tc.loc Cert.AdMuqRefIdeal.main_arg3))
      ∧ r.2.mem ((c.tc : Thread Cert.AdMuqRefIdeal.nD Cert.AdMuqRefIdeal.τ).loc Cert.AdMuqRefIdeal.main_v28)
          = Cert.AdMuqRefIdeal.Read.val_main_v28 (F := Ideal) (m (c.tc.loc Cert.AdMuqRefIdeal.main_arg0)) (m (c.tc.loc Cert.AdMuqRefIdeal.main_arg2))
      ∧ r.2.mem ((c.tc : Thread Cert.AdMuqRefIdeal.nD Cert.AdMuqRefIdeal.τ).loc Cert.AdMuqRefIdeal.main_v29)
          = Cert.AdMuqRefIdeal.Read.val_main_v29 (F := Ideal) (m (c.tc.loc Cert.AdMuqRefIdeal.main_arg0)) (m (c.tc.loc Cert.AdMuqRefIdeal.main_arg3))
      ∧ r.2.mem ((c.tc : Thread Cert.AdMuqRefIdeal.nD Cert.AdMuqRefIdeal.τ).loc Cert.AdMuqRefIdeal.main_arg0) = m ((c.tc : Thread Cert.AdMuqRefIdeal.nD Cert.AdMuqRefIdeal.τ).loc Cert.AdMuqRefIdeal.main_arg0)
      ∧ r.2.mem ((c.tc : Thread Cert.AdMuqRefIdeal.nD Cert.AdMuqRefIdeal.τ).loc Cert.AdMuqRefIdeal.main_arg1) = m ((c.tc : Thread Cert.AdMuqRefIdeal.nD Cert.AdMuqRefIdeal.τ).loc Cert.AdMuqRefIdeal.main_arg1)
      ∧ r.2.mem ((c.tc : Thread Cert.AdMuqRefIdeal.nD Cert.AdMuqRefIdeal.τ).loc Cert.AdMuqRefIdeal.main_arg2) = m ((c.tc : Thread Cert.AdMuqRefIdeal.nD Cert.AdMuqRefIdeal.τ).loc Cert.AdMuqRefIdeal.main_arg2)
      ∧ r.2.mem ((c.tc : Thread Cert.AdMuqRefIdeal.nD Cert.AdMuqRefIdeal.τ).loc Cert.AdMuqRefIdeal.main_arg3) = m ((c.tc : Thread Cert.AdMuqRefIdeal.nD Cert.AdMuqRefIdeal.τ).loc Cert.AdMuqRefIdeal.main_arg3) :=
  (θ_run _ _ _).mono (fun _ h c => ⟨(h c).1.trans (Cert.AdMuqRefIdeal.Read.val_main_v26_eq _),
      (h c).2.1.trans (Cert.AdMuqRefIdeal.Read.val_main_v27_eq _ _ _ _),
      (h c).2.2.1.trans (Cert.AdMuqRefIdeal.Read.val_main_v28_eq _ _),
      (h c).2.2.2.1.trans (Cert.AdMuqRefIdeal.Read.val_main_v29_eq _ _),
      (h c).2.2.2.2⟩)
    (Cert.AdMuqRefIdeal.Value.run (F := Ideal) m ρ)

theorem quiescent_AdMuqRefIdeal : Cert.quiescent_AdMuqRefIdeal := fun m ρ _ =>
  (θ_run _ _ _).mono (fun r h => ⟨fun c => (h c).2.2.2.2, sem_eq_zero_of_no_sems (by decide) r.2⟩) (ref_run_AdMuq m ρ)

theorem algebraic_AdMuqIdeal_AdMuqRefIdeal : Cert.algebraic_AdMuqIdeal_AdMuqRefIdeal := by
  pair_intro
  · run_from Cert.AdMuqIdeal.Gen.run_main m g
    all_goals first | exact Cert.AdMuqIdeal.Gen.V_main_arg1 m c | exact Cert.AdMuqIdeal.Gen.V_main_arg2 m c | exact Cert.AdMuqIdeal.Gen.V_main_arg3 m c
  · run_from ref_run_AdMuq m' g'
    · exact (Cert.AdMuqIdeal.Arr.final4 m c).symm
    · exact (Cert.AdMuqIdeal.Arr.final5 m c).symm
    · exact (Cert.AdMuqIdeal.Arr.final6 m c).symm
    · exact (Cert.AdMuqIdeal.Arr.final7 m c).symm

/-! ## The optimiser's step for latent attention's key and value weight -/

theorem preserves_AdMukv_AdMukvIdeal : Cert.preserves_AdMukv_AdMukvIdeal := trivial

/-- The reference's run, its results as functions of the arguments. -/
theorem ref_run_AdMukv (m : (ℓ : Loc Cert.AdMukvRefIdeal.nD Cert.AdMukvRefIdeal.τ Cert.AdMukvRefIdeal.sig) → Buf (Elt Ideal) ℓ) (ρ : Dev Cert.AdMukvRefIdeal.nD → PrngReg) :
    θ_run (Cert.AdMukvRefIdeal.defs (F := Ideal)) (onTc (τ := Cert.AdMukvRefIdeal.τ) (Cert.AdMukvRefIdeal.main (F := Ideal))) ⟨m, fun _ => 0, ρ⟩ fun r => ∀ c : Dev Cert.AdMukvRefIdeal.nD,
      r.2.mem ((c.tc : Thread Cert.AdMukvRefIdeal.nD Cert.AdMukvRefIdeal.τ).loc Cert.AdMukvRefIdeal.main_v26)
          = Cert.AdMukvRefIdeal.Read.val_main_v26 (F := Ideal) (m (c.tc.loc Cert.AdMukvRefIdeal.main_arg0))
      ∧ r.2.mem ((c.tc : Thread Cert.AdMukvRefIdeal.nD Cert.AdMukvRefIdeal.τ).loc Cert.AdMukvRefIdeal.main_v27)
          = Cert.AdMukvRefIdeal.Read.val_main_v27 (F := Ideal) (m (c.tc.loc Cert.AdMukvRefIdeal.main_arg0)) (m (c.tc.loc Cert.AdMukvRefIdeal.main_arg1)) (m (c.tc.loc Cert.AdMukvRefIdeal.main_arg2)) (m (c.tc.loc Cert.AdMukvRefIdeal.main_arg3))
      ∧ r.2.mem ((c.tc : Thread Cert.AdMukvRefIdeal.nD Cert.AdMukvRefIdeal.τ).loc Cert.AdMukvRefIdeal.main_v28)
          = Cert.AdMukvRefIdeal.Read.val_main_v28 (F := Ideal) (m (c.tc.loc Cert.AdMukvRefIdeal.main_arg0)) (m (c.tc.loc Cert.AdMukvRefIdeal.main_arg2))
      ∧ r.2.mem ((c.tc : Thread Cert.AdMukvRefIdeal.nD Cert.AdMukvRefIdeal.τ).loc Cert.AdMukvRefIdeal.main_v29)
          = Cert.AdMukvRefIdeal.Read.val_main_v29 (F := Ideal) (m (c.tc.loc Cert.AdMukvRefIdeal.main_arg0)) (m (c.tc.loc Cert.AdMukvRefIdeal.main_arg3))
      ∧ r.2.mem ((c.tc : Thread Cert.AdMukvRefIdeal.nD Cert.AdMukvRefIdeal.τ).loc Cert.AdMukvRefIdeal.main_arg0) = m ((c.tc : Thread Cert.AdMukvRefIdeal.nD Cert.AdMukvRefIdeal.τ).loc Cert.AdMukvRefIdeal.main_arg0)
      ∧ r.2.mem ((c.tc : Thread Cert.AdMukvRefIdeal.nD Cert.AdMukvRefIdeal.τ).loc Cert.AdMukvRefIdeal.main_arg1) = m ((c.tc : Thread Cert.AdMukvRefIdeal.nD Cert.AdMukvRefIdeal.τ).loc Cert.AdMukvRefIdeal.main_arg1)
      ∧ r.2.mem ((c.tc : Thread Cert.AdMukvRefIdeal.nD Cert.AdMukvRefIdeal.τ).loc Cert.AdMukvRefIdeal.main_arg2) = m ((c.tc : Thread Cert.AdMukvRefIdeal.nD Cert.AdMukvRefIdeal.τ).loc Cert.AdMukvRefIdeal.main_arg2)
      ∧ r.2.mem ((c.tc : Thread Cert.AdMukvRefIdeal.nD Cert.AdMukvRefIdeal.τ).loc Cert.AdMukvRefIdeal.main_arg3) = m ((c.tc : Thread Cert.AdMukvRefIdeal.nD Cert.AdMukvRefIdeal.τ).loc Cert.AdMukvRefIdeal.main_arg3) :=
  (θ_run _ _ _).mono (fun _ h c => ⟨(h c).1.trans (Cert.AdMukvRefIdeal.Read.val_main_v26_eq _),
      (h c).2.1.trans (Cert.AdMukvRefIdeal.Read.val_main_v27_eq _ _ _ _),
      (h c).2.2.1.trans (Cert.AdMukvRefIdeal.Read.val_main_v28_eq _ _),
      (h c).2.2.2.1.trans (Cert.AdMukvRefIdeal.Read.val_main_v29_eq _ _),
      (h c).2.2.2.2⟩)
    (Cert.AdMukvRefIdeal.Value.run (F := Ideal) m ρ)

theorem quiescent_AdMukvRefIdeal : Cert.quiescent_AdMukvRefIdeal := fun m ρ _ =>
  (θ_run _ _ _).mono (fun r h => ⟨fun c => (h c).2.2.2.2, sem_eq_zero_of_no_sems (by decide) r.2⟩) (ref_run_AdMukv m ρ)

theorem algebraic_AdMukvIdeal_AdMukvRefIdeal : Cert.algebraic_AdMukvIdeal_AdMukvRefIdeal := by
  pair_intro
  · run_from Cert.AdMukvIdeal.Gen.run_main m g
    all_goals first | exact Cert.AdMukvIdeal.Gen.V_main_arg1 m c | exact Cert.AdMukvIdeal.Gen.V_main_arg2 m c | exact Cert.AdMukvIdeal.Gen.V_main_arg3 m c
  · run_from ref_run_AdMukv m' g'
    · exact (Cert.AdMukvIdeal.Arr.final4 m c).symm
    · exact (Cert.AdMukvIdeal.Arr.final5 m c).symm
    · exact (Cert.AdMukvIdeal.Arr.final6 m c).symm
    · exact (Cert.AdMukvIdeal.Arr.final7 m c).symm

/-! ## The optimiser's step for gated DeltaNet's input weight -/

theorem preserves_AdGin_AdGinIdeal : Cert.preserves_AdGin_AdGinIdeal := trivial

/-- The reference's run, its results as functions of the arguments. -/
theorem ref_run_AdGin (m : (ℓ : Loc Cert.AdGinRefIdeal.nD Cert.AdGinRefIdeal.τ Cert.AdGinRefIdeal.sig) → Buf (Elt Ideal) ℓ) (ρ : Dev Cert.AdGinRefIdeal.nD → PrngReg) :
    θ_run (Cert.AdGinRefIdeal.defs (F := Ideal)) (onTc (τ := Cert.AdGinRefIdeal.τ) (Cert.AdGinRefIdeal.main (F := Ideal))) ⟨m, fun _ => 0, ρ⟩ fun r => ∀ c : Dev Cert.AdGinRefIdeal.nD,
      r.2.mem ((c.tc : Thread Cert.AdGinRefIdeal.nD Cert.AdGinRefIdeal.τ).loc Cert.AdGinRefIdeal.main_v26)
          = Cert.AdGinRefIdeal.Read.val_main_v26 (F := Ideal) (m (c.tc.loc Cert.AdGinRefIdeal.main_arg0))
      ∧ r.2.mem ((c.tc : Thread Cert.AdGinRefIdeal.nD Cert.AdGinRefIdeal.τ).loc Cert.AdGinRefIdeal.main_v27)
          = Cert.AdGinRefIdeal.Read.val_main_v27 (F := Ideal) (m (c.tc.loc Cert.AdGinRefIdeal.main_arg0)) (m (c.tc.loc Cert.AdGinRefIdeal.main_arg1)) (m (c.tc.loc Cert.AdGinRefIdeal.main_arg2)) (m (c.tc.loc Cert.AdGinRefIdeal.main_arg3))
      ∧ r.2.mem ((c.tc : Thread Cert.AdGinRefIdeal.nD Cert.AdGinRefIdeal.τ).loc Cert.AdGinRefIdeal.main_v28)
          = Cert.AdGinRefIdeal.Read.val_main_v28 (F := Ideal) (m (c.tc.loc Cert.AdGinRefIdeal.main_arg0)) (m (c.tc.loc Cert.AdGinRefIdeal.main_arg2))
      ∧ r.2.mem ((c.tc : Thread Cert.AdGinRefIdeal.nD Cert.AdGinRefIdeal.τ).loc Cert.AdGinRefIdeal.main_v29)
          = Cert.AdGinRefIdeal.Read.val_main_v29 (F := Ideal) (m (c.tc.loc Cert.AdGinRefIdeal.main_arg0)) (m (c.tc.loc Cert.AdGinRefIdeal.main_arg3))
      ∧ r.2.mem ((c.tc : Thread Cert.AdGinRefIdeal.nD Cert.AdGinRefIdeal.τ).loc Cert.AdGinRefIdeal.main_arg0) = m ((c.tc : Thread Cert.AdGinRefIdeal.nD Cert.AdGinRefIdeal.τ).loc Cert.AdGinRefIdeal.main_arg0)
      ∧ r.2.mem ((c.tc : Thread Cert.AdGinRefIdeal.nD Cert.AdGinRefIdeal.τ).loc Cert.AdGinRefIdeal.main_arg1) = m ((c.tc : Thread Cert.AdGinRefIdeal.nD Cert.AdGinRefIdeal.τ).loc Cert.AdGinRefIdeal.main_arg1)
      ∧ r.2.mem ((c.tc : Thread Cert.AdGinRefIdeal.nD Cert.AdGinRefIdeal.τ).loc Cert.AdGinRefIdeal.main_arg2) = m ((c.tc : Thread Cert.AdGinRefIdeal.nD Cert.AdGinRefIdeal.τ).loc Cert.AdGinRefIdeal.main_arg2)
      ∧ r.2.mem ((c.tc : Thread Cert.AdGinRefIdeal.nD Cert.AdGinRefIdeal.τ).loc Cert.AdGinRefIdeal.main_arg3) = m ((c.tc : Thread Cert.AdGinRefIdeal.nD Cert.AdGinRefIdeal.τ).loc Cert.AdGinRefIdeal.main_arg3) :=
  (θ_run _ _ _).mono (fun _ h c => ⟨(h c).1.trans (Cert.AdGinRefIdeal.Read.val_main_v26_eq _),
      (h c).2.1.trans (Cert.AdGinRefIdeal.Read.val_main_v27_eq _ _ _ _),
      (h c).2.2.1.trans (Cert.AdGinRefIdeal.Read.val_main_v28_eq _ _),
      (h c).2.2.2.1.trans (Cert.AdGinRefIdeal.Read.val_main_v29_eq _ _),
      (h c).2.2.2.2⟩)
    (Cert.AdGinRefIdeal.Value.run (F := Ideal) m ρ)

theorem quiescent_AdGinRefIdeal : Cert.quiescent_AdGinRefIdeal := fun m ρ _ =>
  (θ_run _ _ _).mono (fun r h => ⟨fun c => (h c).2.2.2.2, sem_eq_zero_of_no_sems (by decide) r.2⟩) (ref_run_AdGin m ρ)

theorem algebraic_AdGinIdeal_AdGinRefIdeal : Cert.algebraic_AdGinIdeal_AdGinRefIdeal := by
  pair_intro
  · run_from Cert.AdGinIdeal.Gen.run_main m g
    all_goals first | exact Cert.AdGinIdeal.Gen.V_main_arg1 m c | exact Cert.AdGinIdeal.Gen.V_main_arg2 m c | exact Cert.AdGinIdeal.Gen.V_main_arg3 m c
  · run_from ref_run_AdGin m' g'
    · exact (Cert.AdGinIdeal.Arr.final4 m c).symm
    · exact (Cert.AdGinIdeal.Arr.final5 m c).symm
    · exact (Cert.AdGinIdeal.Arr.final6 m c).symm
    · exact (Cert.AdGinIdeal.Arr.final7 m c).symm

/-! ## The optimiser's step for the short convolution's input weight -/

theorem preserves_AdSin_AdSinIdeal : Cert.preserves_AdSin_AdSinIdeal := trivial

/-- The reference's run, its results as functions of the arguments. -/
theorem ref_run_AdSin (m : (ℓ : Loc Cert.AdSinRefIdeal.nD Cert.AdSinRefIdeal.τ Cert.AdSinRefIdeal.sig) → Buf (Elt Ideal) ℓ) (ρ : Dev Cert.AdSinRefIdeal.nD → PrngReg) :
    θ_run (Cert.AdSinRefIdeal.defs (F := Ideal)) (onTc (τ := Cert.AdSinRefIdeal.τ) (Cert.AdSinRefIdeal.main (F := Ideal))) ⟨m, fun _ => 0, ρ⟩ fun r => ∀ c : Dev Cert.AdSinRefIdeal.nD,
      r.2.mem ((c.tc : Thread Cert.AdSinRefIdeal.nD Cert.AdSinRefIdeal.τ).loc Cert.AdSinRefIdeal.main_v26)
          = Cert.AdSinRefIdeal.Read.val_main_v26 (F := Ideal) (m (c.tc.loc Cert.AdSinRefIdeal.main_arg0))
      ∧ r.2.mem ((c.tc : Thread Cert.AdSinRefIdeal.nD Cert.AdSinRefIdeal.τ).loc Cert.AdSinRefIdeal.main_v27)
          = Cert.AdSinRefIdeal.Read.val_main_v27 (F := Ideal) (m (c.tc.loc Cert.AdSinRefIdeal.main_arg0)) (m (c.tc.loc Cert.AdSinRefIdeal.main_arg1)) (m (c.tc.loc Cert.AdSinRefIdeal.main_arg2)) (m (c.tc.loc Cert.AdSinRefIdeal.main_arg3))
      ∧ r.2.mem ((c.tc : Thread Cert.AdSinRefIdeal.nD Cert.AdSinRefIdeal.τ).loc Cert.AdSinRefIdeal.main_v28)
          = Cert.AdSinRefIdeal.Read.val_main_v28 (F := Ideal) (m (c.tc.loc Cert.AdSinRefIdeal.main_arg0)) (m (c.tc.loc Cert.AdSinRefIdeal.main_arg2))
      ∧ r.2.mem ((c.tc : Thread Cert.AdSinRefIdeal.nD Cert.AdSinRefIdeal.τ).loc Cert.AdSinRefIdeal.main_v29)
          = Cert.AdSinRefIdeal.Read.val_main_v29 (F := Ideal) (m (c.tc.loc Cert.AdSinRefIdeal.main_arg0)) (m (c.tc.loc Cert.AdSinRefIdeal.main_arg3))
      ∧ r.2.mem ((c.tc : Thread Cert.AdSinRefIdeal.nD Cert.AdSinRefIdeal.τ).loc Cert.AdSinRefIdeal.main_arg0) = m ((c.tc : Thread Cert.AdSinRefIdeal.nD Cert.AdSinRefIdeal.τ).loc Cert.AdSinRefIdeal.main_arg0)
      ∧ r.2.mem ((c.tc : Thread Cert.AdSinRefIdeal.nD Cert.AdSinRefIdeal.τ).loc Cert.AdSinRefIdeal.main_arg1) = m ((c.tc : Thread Cert.AdSinRefIdeal.nD Cert.AdSinRefIdeal.τ).loc Cert.AdSinRefIdeal.main_arg1)
      ∧ r.2.mem ((c.tc : Thread Cert.AdSinRefIdeal.nD Cert.AdSinRefIdeal.τ).loc Cert.AdSinRefIdeal.main_arg2) = m ((c.tc : Thread Cert.AdSinRefIdeal.nD Cert.AdSinRefIdeal.τ).loc Cert.AdSinRefIdeal.main_arg2)
      ∧ r.2.mem ((c.tc : Thread Cert.AdSinRefIdeal.nD Cert.AdSinRefIdeal.τ).loc Cert.AdSinRefIdeal.main_arg3) = m ((c.tc : Thread Cert.AdSinRefIdeal.nD Cert.AdSinRefIdeal.τ).loc Cert.AdSinRefIdeal.main_arg3) :=
  (θ_run _ _ _).mono (fun _ h c => ⟨(h c).1.trans (Cert.AdSinRefIdeal.Read.val_main_v26_eq _),
      (h c).2.1.trans (Cert.AdSinRefIdeal.Read.val_main_v27_eq _ _ _ _),
      (h c).2.2.1.trans (Cert.AdSinRefIdeal.Read.val_main_v28_eq _ _),
      (h c).2.2.2.1.trans (Cert.AdSinRefIdeal.Read.val_main_v29_eq _ _),
      (h c).2.2.2.2⟩)
    (Cert.AdSinRefIdeal.Value.run (F := Ideal) m ρ)

theorem quiescent_AdSinRefIdeal : Cert.quiescent_AdSinRefIdeal := fun m ρ _ =>
  (θ_run _ _ _).mono (fun r h => ⟨fun c => (h c).2.2.2.2, sem_eq_zero_of_no_sems (by decide) r.2⟩) (ref_run_AdSin m ρ)

theorem algebraic_AdSinIdeal_AdSinRefIdeal : Cert.algebraic_AdSinIdeal_AdSinRefIdeal := by
  pair_intro
  · run_from Cert.AdSinIdeal.Gen.run_main m g
    all_goals first | exact Cert.AdSinIdeal.Gen.V_main_arg1 m c | exact Cert.AdSinIdeal.Gen.V_main_arg2 m c | exact Cert.AdSinIdeal.Gen.V_main_arg3 m c
  · run_from ref_run_AdSin m' g'
    · exact (Cert.AdSinIdeal.Arr.final4 m c).symm
    · exact (Cert.AdSinIdeal.Arr.final5 m c).symm
    · exact (Cert.AdSinIdeal.Arr.final6 m c).symm
    · exact (Cert.AdSinIdeal.Arr.final7 m c).symm

/-! ## The optimiser's step for gated DeltaNet's output weight -/

theorem preserves_AdGo_AdGoIdeal : Cert.preserves_AdGo_AdGoIdeal := trivial

/-- The reference's run, its results as functions of the arguments. -/
theorem ref_run_AdGo (m : (ℓ : Loc Cert.AdGoRefIdeal.nD Cert.AdGoRefIdeal.τ Cert.AdGoRefIdeal.sig) → Buf (Elt Ideal) ℓ) (ρ : Dev Cert.AdGoRefIdeal.nD → PrngReg) :
    θ_run (Cert.AdGoRefIdeal.defs (F := Ideal)) (onTc (τ := Cert.AdGoRefIdeal.τ) (Cert.AdGoRefIdeal.main (F := Ideal))) ⟨m, fun _ => 0, ρ⟩ fun r => ∀ c : Dev Cert.AdGoRefIdeal.nD,
      r.2.mem ((c.tc : Thread Cert.AdGoRefIdeal.nD Cert.AdGoRefIdeal.τ).loc Cert.AdGoRefIdeal.main_v27)
          = Cert.AdGoRefIdeal.Read.val_main_v27 (F := Ideal) (m (c.tc.loc Cert.AdGoRefIdeal.main_arg0))
      ∧ r.2.mem ((c.tc : Thread Cert.AdGoRefIdeal.nD Cert.AdGoRefIdeal.τ).loc Cert.AdGoRefIdeal.main_v28)
          = Cert.AdGoRefIdeal.Read.val_main_v28 (F := Ideal) (m (c.tc.loc Cert.AdGoRefIdeal.main_arg0)) (m (c.tc.loc Cert.AdGoRefIdeal.main_arg1)) (m (c.tc.loc Cert.AdGoRefIdeal.main_arg2)) (m (c.tc.loc Cert.AdGoRefIdeal.main_arg3))
      ∧ r.2.mem ((c.tc : Thread Cert.AdGoRefIdeal.nD Cert.AdGoRefIdeal.τ).loc Cert.AdGoRefIdeal.main_v29)
          = Cert.AdGoRefIdeal.Read.val_main_v29 (F := Ideal) (m (c.tc.loc Cert.AdGoRefIdeal.main_arg0)) (m (c.tc.loc Cert.AdGoRefIdeal.main_arg2))
      ∧ r.2.mem ((c.tc : Thread Cert.AdGoRefIdeal.nD Cert.AdGoRefIdeal.τ).loc Cert.AdGoRefIdeal.main_v30)
          = Cert.AdGoRefIdeal.Read.val_main_v30 (F := Ideal) (m (c.tc.loc Cert.AdGoRefIdeal.main_arg0)) (m (c.tc.loc Cert.AdGoRefIdeal.main_arg3))
      ∧ r.2.mem ((c.tc : Thread Cert.AdGoRefIdeal.nD Cert.AdGoRefIdeal.τ).loc Cert.AdGoRefIdeal.main_arg0) = m ((c.tc : Thread Cert.AdGoRefIdeal.nD Cert.AdGoRefIdeal.τ).loc Cert.AdGoRefIdeal.main_arg0)
      ∧ r.2.mem ((c.tc : Thread Cert.AdGoRefIdeal.nD Cert.AdGoRefIdeal.τ).loc Cert.AdGoRefIdeal.main_arg1) = m ((c.tc : Thread Cert.AdGoRefIdeal.nD Cert.AdGoRefIdeal.τ).loc Cert.AdGoRefIdeal.main_arg1)
      ∧ r.2.mem ((c.tc : Thread Cert.AdGoRefIdeal.nD Cert.AdGoRefIdeal.τ).loc Cert.AdGoRefIdeal.main_arg2) = m ((c.tc : Thread Cert.AdGoRefIdeal.nD Cert.AdGoRefIdeal.τ).loc Cert.AdGoRefIdeal.main_arg2)
      ∧ r.2.mem ((c.tc : Thread Cert.AdGoRefIdeal.nD Cert.AdGoRefIdeal.τ).loc Cert.AdGoRefIdeal.main_arg3) = m ((c.tc : Thread Cert.AdGoRefIdeal.nD Cert.AdGoRefIdeal.τ).loc Cert.AdGoRefIdeal.main_arg3) :=
  (θ_run _ _ _).mono (fun _ h c => ⟨(h c).1.trans (Cert.AdGoRefIdeal.Read.val_main_v27_eq _),
      (h c).2.1.trans (Cert.AdGoRefIdeal.Read.val_main_v28_eq _ _ _ _),
      (h c).2.2.1.trans (Cert.AdGoRefIdeal.Read.val_main_v29_eq _ _),
      (h c).2.2.2.1.trans (Cert.AdGoRefIdeal.Read.val_main_v30_eq _ _),
      (h c).2.2.2.2⟩)
    (Cert.AdGoRefIdeal.Value.run (F := Ideal) m ρ)

theorem quiescent_AdGoRefIdeal : Cert.quiescent_AdGoRefIdeal := fun m ρ _ =>
  (θ_run _ _ _).mono (fun r h => ⟨fun c => (h c).2.2.2.2, sem_eq_zero_of_no_sems (by decide) r.2⟩) (ref_run_AdGo m ρ)

theorem algebraic_AdGoIdeal_AdGoRefIdeal : Cert.algebraic_AdGoIdeal_AdGoRefIdeal := by
  pair_intro
  · run_from Cert.AdGoIdeal.Gen.run_main m g
    all_goals first | exact Cert.AdGoIdeal.Gen.V_main_arg1 m c | exact Cert.AdGoIdeal.Gen.V_main_arg2 m c | exact Cert.AdGoIdeal.Gen.V_main_arg3 m c
  · run_from ref_run_AdGo m' g'
    · exact (Cert.AdGoIdeal.Arr.final4 m c).symm
    · exact (Cert.AdGoIdeal.Arr.final5 m c).symm
    · exact (Cert.AdGoIdeal.Arr.final6 m c).symm
    · exact (Cert.AdGoIdeal.Arr.final7 m c).symm

/-! ## The optimiser's step for the short convolution's output weight -/

theorem preserves_AdSo_AdSoIdeal : Cert.preserves_AdSo_AdSoIdeal := trivial

/-- The reference's run, its results as functions of the arguments. -/
theorem ref_run_AdSo (m : (ℓ : Loc Cert.AdSoRefIdeal.nD Cert.AdSoRefIdeal.τ Cert.AdSoRefIdeal.sig) → Buf (Elt Ideal) ℓ) (ρ : Dev Cert.AdSoRefIdeal.nD → PrngReg) :
    θ_run (Cert.AdSoRefIdeal.defs (F := Ideal)) (onTc (τ := Cert.AdSoRefIdeal.τ) (Cert.AdSoRefIdeal.main (F := Ideal))) ⟨m, fun _ => 0, ρ⟩ fun r => ∀ c : Dev Cert.AdSoRefIdeal.nD,
      r.2.mem ((c.tc : Thread Cert.AdSoRefIdeal.nD Cert.AdSoRefIdeal.τ).loc Cert.AdSoRefIdeal.main_v27)
          = Cert.AdSoRefIdeal.Read.val_main_v27 (F := Ideal) (m (c.tc.loc Cert.AdSoRefIdeal.main_arg0))
      ∧ r.2.mem ((c.tc : Thread Cert.AdSoRefIdeal.nD Cert.AdSoRefIdeal.τ).loc Cert.AdSoRefIdeal.main_v28)
          = Cert.AdSoRefIdeal.Read.val_main_v28 (F := Ideal) (m (c.tc.loc Cert.AdSoRefIdeal.main_arg0)) (m (c.tc.loc Cert.AdSoRefIdeal.main_arg1)) (m (c.tc.loc Cert.AdSoRefIdeal.main_arg2)) (m (c.tc.loc Cert.AdSoRefIdeal.main_arg3))
      ∧ r.2.mem ((c.tc : Thread Cert.AdSoRefIdeal.nD Cert.AdSoRefIdeal.τ).loc Cert.AdSoRefIdeal.main_v29)
          = Cert.AdSoRefIdeal.Read.val_main_v29 (F := Ideal) (m (c.tc.loc Cert.AdSoRefIdeal.main_arg0)) (m (c.tc.loc Cert.AdSoRefIdeal.main_arg2))
      ∧ r.2.mem ((c.tc : Thread Cert.AdSoRefIdeal.nD Cert.AdSoRefIdeal.τ).loc Cert.AdSoRefIdeal.main_v30)
          = Cert.AdSoRefIdeal.Read.val_main_v30 (F := Ideal) (m (c.tc.loc Cert.AdSoRefIdeal.main_arg0)) (m (c.tc.loc Cert.AdSoRefIdeal.main_arg3))
      ∧ r.2.mem ((c.tc : Thread Cert.AdSoRefIdeal.nD Cert.AdSoRefIdeal.τ).loc Cert.AdSoRefIdeal.main_arg0) = m ((c.tc : Thread Cert.AdSoRefIdeal.nD Cert.AdSoRefIdeal.τ).loc Cert.AdSoRefIdeal.main_arg0)
      ∧ r.2.mem ((c.tc : Thread Cert.AdSoRefIdeal.nD Cert.AdSoRefIdeal.τ).loc Cert.AdSoRefIdeal.main_arg1) = m ((c.tc : Thread Cert.AdSoRefIdeal.nD Cert.AdSoRefIdeal.τ).loc Cert.AdSoRefIdeal.main_arg1)
      ∧ r.2.mem ((c.tc : Thread Cert.AdSoRefIdeal.nD Cert.AdSoRefIdeal.τ).loc Cert.AdSoRefIdeal.main_arg2) = m ((c.tc : Thread Cert.AdSoRefIdeal.nD Cert.AdSoRefIdeal.τ).loc Cert.AdSoRefIdeal.main_arg2)
      ∧ r.2.mem ((c.tc : Thread Cert.AdSoRefIdeal.nD Cert.AdSoRefIdeal.τ).loc Cert.AdSoRefIdeal.main_arg3) = m ((c.tc : Thread Cert.AdSoRefIdeal.nD Cert.AdSoRefIdeal.τ).loc Cert.AdSoRefIdeal.main_arg3) :=
  (θ_run _ _ _).mono (fun _ h c => ⟨(h c).1.trans (Cert.AdSoRefIdeal.Read.val_main_v27_eq _),
      (h c).2.1.trans (Cert.AdSoRefIdeal.Read.val_main_v28_eq _ _ _ _),
      (h c).2.2.1.trans (Cert.AdSoRefIdeal.Read.val_main_v29_eq _ _),
      (h c).2.2.2.1.trans (Cert.AdSoRefIdeal.Read.val_main_v30_eq _ _),
      (h c).2.2.2.2⟩)
    (Cert.AdSoRefIdeal.Value.run (F := Ideal) m ρ)

theorem quiescent_AdSoRefIdeal : Cert.quiescent_AdSoRefIdeal := fun m ρ _ =>
  (θ_run _ _ _).mono (fun r h => ⟨fun c => (h c).2.2.2.2, sem_eq_zero_of_no_sems (by decide) r.2⟩) (ref_run_AdSo m ρ)

theorem algebraic_AdSoIdeal_AdSoRefIdeal : Cert.algebraic_AdSoIdeal_AdSoRefIdeal := by
  pair_intro
  · run_from Cert.AdSoIdeal.Gen.run_main m g
    all_goals first | exact Cert.AdSoIdeal.Gen.V_main_arg1 m c | exact Cert.AdSoIdeal.Gen.V_main_arg2 m c | exact Cert.AdSoIdeal.Gen.V_main_arg3 m c
  · run_from ref_run_AdSo m' g'
    · exact (Cert.AdSoIdeal.Arr.final4 m c).symm
    · exact (Cert.AdSoIdeal.Arr.final5 m c).symm
    · exact (Cert.AdSoIdeal.Arr.final6 m c).symm
    · exact (Cert.AdSoIdeal.Arr.final7 m c).symm

/-! ## The optimiser's step for the first layer's weight -/

theorem preserves_AdFi_AdFiIdeal : Cert.preserves_AdFi_AdFiIdeal := trivial

/-- The reference's run, its results as functions of the arguments. -/
theorem ref_run_AdFi (m : (ℓ : Loc Cert.AdFiRefIdeal.nD Cert.AdFiRefIdeal.τ Cert.AdFiRefIdeal.sig) → Buf (Elt Ideal) ℓ) (ρ : Dev Cert.AdFiRefIdeal.nD → PrngReg) :
    θ_run (Cert.AdFiRefIdeal.defs (F := Ideal)) (onTc (τ := Cert.AdFiRefIdeal.τ) (Cert.AdFiRefIdeal.main (F := Ideal))) ⟨m, fun _ => 0, ρ⟩ fun r => ∀ c : Dev Cert.AdFiRefIdeal.nD,
      r.2.mem ((c.tc : Thread Cert.AdFiRefIdeal.nD Cert.AdFiRefIdeal.τ).loc Cert.AdFiRefIdeal.main_v32)
          = Cert.AdFiRefIdeal.Read.val_main_v32 (F := Ideal) (m (c.tc.loc Cert.AdFiRefIdeal.main_arg0)) (m (c.tc.loc Cert.AdFiRefIdeal.main_arg1)) (m (c.tc.loc Cert.AdFiRefIdeal.main_arg2))
      ∧ r.2.mem ((c.tc : Thread Cert.AdFiRefIdeal.nD Cert.AdFiRefIdeal.τ).loc Cert.AdFiRefIdeal.main_v33)
          = Cert.AdFiRefIdeal.Read.val_main_v33 (F := Ideal) (m (c.tc.loc Cert.AdFiRefIdeal.main_arg0)) (m (c.tc.loc Cert.AdFiRefIdeal.main_arg1)) (m (c.tc.loc Cert.AdFiRefIdeal.main_arg2)) (m (c.tc.loc Cert.AdFiRefIdeal.main_arg3)) (m (c.tc.loc Cert.AdFiRefIdeal.main_arg4)) (m (c.tc.loc Cert.AdFiRefIdeal.main_arg5))
      ∧ r.2.mem ((c.tc : Thread Cert.AdFiRefIdeal.nD Cert.AdFiRefIdeal.τ).loc Cert.AdFiRefIdeal.main_v34)
          = Cert.AdFiRefIdeal.Read.val_main_v34 (F := Ideal) (m (c.tc.loc Cert.AdFiRefIdeal.main_arg0)) (m (c.tc.loc Cert.AdFiRefIdeal.main_arg1)) (m (c.tc.loc Cert.AdFiRefIdeal.main_arg2)) (m (c.tc.loc Cert.AdFiRefIdeal.main_arg4))
      ∧ r.2.mem ((c.tc : Thread Cert.AdFiRefIdeal.nD Cert.AdFiRefIdeal.τ).loc Cert.AdFiRefIdeal.main_v35)
          = Cert.AdFiRefIdeal.Read.val_main_v35 (F := Ideal) (m (c.tc.loc Cert.AdFiRefIdeal.main_arg0)) (m (c.tc.loc Cert.AdFiRefIdeal.main_arg1)) (m (c.tc.loc Cert.AdFiRefIdeal.main_arg2)) (m (c.tc.loc Cert.AdFiRefIdeal.main_arg5))
      ∧ r.2.mem ((c.tc : Thread Cert.AdFiRefIdeal.nD Cert.AdFiRefIdeal.τ).loc Cert.AdFiRefIdeal.main_arg0) = m ((c.tc : Thread Cert.AdFiRefIdeal.nD Cert.AdFiRefIdeal.τ).loc Cert.AdFiRefIdeal.main_arg0)
      ∧ r.2.mem ((c.tc : Thread Cert.AdFiRefIdeal.nD Cert.AdFiRefIdeal.τ).loc Cert.AdFiRefIdeal.main_arg1) = m ((c.tc : Thread Cert.AdFiRefIdeal.nD Cert.AdFiRefIdeal.τ).loc Cert.AdFiRefIdeal.main_arg1)
      ∧ r.2.mem ((c.tc : Thread Cert.AdFiRefIdeal.nD Cert.AdFiRefIdeal.τ).loc Cert.AdFiRefIdeal.main_arg2) = m ((c.tc : Thread Cert.AdFiRefIdeal.nD Cert.AdFiRefIdeal.τ).loc Cert.AdFiRefIdeal.main_arg2)
      ∧ r.2.mem ((c.tc : Thread Cert.AdFiRefIdeal.nD Cert.AdFiRefIdeal.τ).loc Cert.AdFiRefIdeal.main_arg3) = m ((c.tc : Thread Cert.AdFiRefIdeal.nD Cert.AdFiRefIdeal.τ).loc Cert.AdFiRefIdeal.main_arg3)
      ∧ r.2.mem ((c.tc : Thread Cert.AdFiRefIdeal.nD Cert.AdFiRefIdeal.τ).loc Cert.AdFiRefIdeal.main_arg4) = m ((c.tc : Thread Cert.AdFiRefIdeal.nD Cert.AdFiRefIdeal.τ).loc Cert.AdFiRefIdeal.main_arg4)
      ∧ r.2.mem ((c.tc : Thread Cert.AdFiRefIdeal.nD Cert.AdFiRefIdeal.τ).loc Cert.AdFiRefIdeal.main_arg5) = m ((c.tc : Thread Cert.AdFiRefIdeal.nD Cert.AdFiRefIdeal.τ).loc Cert.AdFiRefIdeal.main_arg5) :=
  (θ_run _ _ _).mono (fun _ h c => ⟨(h c).1.trans (Cert.AdFiRefIdeal.Read.val_main_v32_eq _ _ _),
      (h c).2.1.trans (Cert.AdFiRefIdeal.Read.val_main_v33_eq _ _ _ _ _ _),
      (h c).2.2.1.trans (Cert.AdFiRefIdeal.Read.val_main_v34_eq _ _ _ _),
      (h c).2.2.2.1.trans (Cert.AdFiRefIdeal.Read.val_main_v35_eq _ _ _ _),
      (h c).2.2.2.2⟩)
    (Cert.AdFiRefIdeal.Value.run (F := Ideal) m ρ)

theorem quiescent_AdFiRefIdeal : Cert.quiescent_AdFiRefIdeal := fun m ρ _ =>
  (θ_run _ _ _).mono (fun r h => ⟨fun c => (h c).2.2.2.2, sem_eq_zero_of_no_sems (by decide) r.2⟩) (ref_run_AdFi m ρ)

theorem algebraic_AdFiIdeal_AdFiRefIdeal : Cert.algebraic_AdFiIdeal_AdFiRefIdeal := by
  intro m g m' g' hpre hargs
  refine ⟨fun c => Cert.AdFiIdeal.Arr.tG (Cert.AdFiIdeal.Arr.g0 m c) (Cert.AdFiIdeal.Arr.g1 m c) (Cert.AdFiIdeal.Arr.g2 m c), fun c => Cert.AdFiIdeal.Arr.tD (Cert.AdFiIdeal.Arr.g0 m c) (Cert.AdFiIdeal.Arr.g1 m c) (Cert.AdFiIdeal.Arr.g2 m c) (Cert.AdFiIdeal.Arr.x m c) (Cert.AdFiIdeal.Arr.u m c) (Cert.AdFiIdeal.Arr.v m c),
    fun c => Cert.AdFiIdeal.Arr.tM (Cert.AdFiIdeal.Arr.g0 m c) (Cert.AdFiIdeal.Arr.g1 m c) (Cert.AdFiIdeal.Arr.g2 m c) (Cert.AdFiIdeal.Arr.u m c), fun c => Cert.AdFiIdeal.Arr.tV (Cert.AdFiIdeal.Arr.g0 m c) (Cert.AdFiIdeal.Arr.g1 m c) (Cert.AdFiIdeal.Arr.g2 m c) (Cert.AdFiIdeal.Arr.v m c), ?_, ?_⟩
  · exact Cert.AdFiIdeal.Arr.leaves m g
  · refine (θ_run _ _ _).mono (fun r h c => ?_) (ref_run_AdFi m' g')
    obtain ⟨a0, a1, a2, a3, a4, a5⟩ := hargs c
    refine ⟨(h c).1.trans ?_, (h c).2.1.trans ?_, (h c).2.2.1.trans ?_, (h c).2.2.2.1.trans ?_, (h c).2.2.2.2⟩
    · rw [a0, a1, a2]
      exact Cert.AdFiIdeal.Arr.refG _ _ _
    · rw [a0, a1, a2, a3, a4, a5]
      exact Cert.AdFiIdeal.Arr.refD _ _ _ _ _ _
    · rw [a0, a1, a2, a4]
      exact Cert.AdFiIdeal.Arr.refM _ _ _ _
    · rw [a0, a1, a2, a5]
      exact Cert.AdFiIdeal.Arr.refV _ _ _ _

/-! ## The optimiser's step for the second layer's weight -/

theorem preserves_AdFo_AdFoIdeal : Cert.preserves_AdFo_AdFoIdeal := trivial

/-- The reference's run, its results as functions of the arguments. -/
theorem ref_run_AdFo (m : (ℓ : Loc Cert.AdFoRefIdeal.nD Cert.AdFoRefIdeal.τ Cert.AdFoRefIdeal.sig) → Buf (Elt Ideal) ℓ) (ρ : Dev Cert.AdFoRefIdeal.nD → PrngReg) :
    θ_run (Cert.AdFoRefIdeal.defs (F := Ideal)) (onTc (τ := Cert.AdFoRefIdeal.τ) (Cert.AdFoRefIdeal.main (F := Ideal))) ⟨m, fun _ => 0, ρ⟩ fun r => ∀ c : Dev Cert.AdFoRefIdeal.nD,
      r.2.mem ((c.tc : Thread Cert.AdFoRefIdeal.nD Cert.AdFoRefIdeal.τ).loc Cert.AdFoRefIdeal.main_v32)
          = Cert.AdFoRefIdeal.Read.val_main_v32 (F := Ideal) (m (c.tc.loc Cert.AdFoRefIdeal.main_arg0)) (m (c.tc.loc Cert.AdFoRefIdeal.main_arg1)) (m (c.tc.loc Cert.AdFoRefIdeal.main_arg2))
      ∧ r.2.mem ((c.tc : Thread Cert.AdFoRefIdeal.nD Cert.AdFoRefIdeal.τ).loc Cert.AdFoRefIdeal.main_v33)
          = Cert.AdFoRefIdeal.Read.val_main_v33 (F := Ideal) (m (c.tc.loc Cert.AdFoRefIdeal.main_arg0)) (m (c.tc.loc Cert.AdFoRefIdeal.main_arg1)) (m (c.tc.loc Cert.AdFoRefIdeal.main_arg2)) (m (c.tc.loc Cert.AdFoRefIdeal.main_arg3)) (m (c.tc.loc Cert.AdFoRefIdeal.main_arg4)) (m (c.tc.loc Cert.AdFoRefIdeal.main_arg5))
      ∧ r.2.mem ((c.tc : Thread Cert.AdFoRefIdeal.nD Cert.AdFoRefIdeal.τ).loc Cert.AdFoRefIdeal.main_v34)
          = Cert.AdFoRefIdeal.Read.val_main_v34 (F := Ideal) (m (c.tc.loc Cert.AdFoRefIdeal.main_arg0)) (m (c.tc.loc Cert.AdFoRefIdeal.main_arg1)) (m (c.tc.loc Cert.AdFoRefIdeal.main_arg2)) (m (c.tc.loc Cert.AdFoRefIdeal.main_arg4))
      ∧ r.2.mem ((c.tc : Thread Cert.AdFoRefIdeal.nD Cert.AdFoRefIdeal.τ).loc Cert.AdFoRefIdeal.main_v35)
          = Cert.AdFoRefIdeal.Read.val_main_v35 (F := Ideal) (m (c.tc.loc Cert.AdFoRefIdeal.main_arg0)) (m (c.tc.loc Cert.AdFoRefIdeal.main_arg1)) (m (c.tc.loc Cert.AdFoRefIdeal.main_arg2)) (m (c.tc.loc Cert.AdFoRefIdeal.main_arg5))
      ∧ r.2.mem ((c.tc : Thread Cert.AdFoRefIdeal.nD Cert.AdFoRefIdeal.τ).loc Cert.AdFoRefIdeal.main_arg0) = m ((c.tc : Thread Cert.AdFoRefIdeal.nD Cert.AdFoRefIdeal.τ).loc Cert.AdFoRefIdeal.main_arg0)
      ∧ r.2.mem ((c.tc : Thread Cert.AdFoRefIdeal.nD Cert.AdFoRefIdeal.τ).loc Cert.AdFoRefIdeal.main_arg1) = m ((c.tc : Thread Cert.AdFoRefIdeal.nD Cert.AdFoRefIdeal.τ).loc Cert.AdFoRefIdeal.main_arg1)
      ∧ r.2.mem ((c.tc : Thread Cert.AdFoRefIdeal.nD Cert.AdFoRefIdeal.τ).loc Cert.AdFoRefIdeal.main_arg2) = m ((c.tc : Thread Cert.AdFoRefIdeal.nD Cert.AdFoRefIdeal.τ).loc Cert.AdFoRefIdeal.main_arg2)
      ∧ r.2.mem ((c.tc : Thread Cert.AdFoRefIdeal.nD Cert.AdFoRefIdeal.τ).loc Cert.AdFoRefIdeal.main_arg3) = m ((c.tc : Thread Cert.AdFoRefIdeal.nD Cert.AdFoRefIdeal.τ).loc Cert.AdFoRefIdeal.main_arg3)
      ∧ r.2.mem ((c.tc : Thread Cert.AdFoRefIdeal.nD Cert.AdFoRefIdeal.τ).loc Cert.AdFoRefIdeal.main_arg4) = m ((c.tc : Thread Cert.AdFoRefIdeal.nD Cert.AdFoRefIdeal.τ).loc Cert.AdFoRefIdeal.main_arg4)
      ∧ r.2.mem ((c.tc : Thread Cert.AdFoRefIdeal.nD Cert.AdFoRefIdeal.τ).loc Cert.AdFoRefIdeal.main_arg5) = m ((c.tc : Thread Cert.AdFoRefIdeal.nD Cert.AdFoRefIdeal.τ).loc Cert.AdFoRefIdeal.main_arg5) :=
  (θ_run _ _ _).mono (fun _ h c => ⟨(h c).1.trans (Cert.AdFoRefIdeal.Read.val_main_v32_eq _ _ _),
      (h c).2.1.trans (Cert.AdFoRefIdeal.Read.val_main_v33_eq _ _ _ _ _ _),
      (h c).2.2.1.trans (Cert.AdFoRefIdeal.Read.val_main_v34_eq _ _ _ _),
      (h c).2.2.2.1.trans (Cert.AdFoRefIdeal.Read.val_main_v35_eq _ _ _ _),
      (h c).2.2.2.2⟩)
    (Cert.AdFoRefIdeal.Value.run (F := Ideal) m ρ)

theorem quiescent_AdFoRefIdeal : Cert.quiescent_AdFoRefIdeal := fun m ρ _ =>
  (θ_run _ _ _).mono (fun r h => ⟨fun c => (h c).2.2.2.2, sem_eq_zero_of_no_sems (by decide) r.2⟩) (ref_run_AdFo m ρ)

theorem algebraic_AdFoIdeal_AdFoRefIdeal : Cert.algebraic_AdFoIdeal_AdFoRefIdeal := by
  intro m g m' g' hpre hargs
  refine ⟨fun c => Cert.AdFoIdeal.Arr.tG (Cert.AdFoIdeal.Arr.g0 m c) (Cert.AdFoIdeal.Arr.g1 m c) (Cert.AdFoIdeal.Arr.g2 m c), fun c => Cert.AdFoIdeal.Arr.tD (Cert.AdFoIdeal.Arr.g0 m c) (Cert.AdFoIdeal.Arr.g1 m c) (Cert.AdFoIdeal.Arr.g2 m c) (Cert.AdFoIdeal.Arr.x m c) (Cert.AdFoIdeal.Arr.u m c) (Cert.AdFoIdeal.Arr.v m c),
    fun c => Cert.AdFoIdeal.Arr.tM (Cert.AdFoIdeal.Arr.g0 m c) (Cert.AdFoIdeal.Arr.g1 m c) (Cert.AdFoIdeal.Arr.g2 m c) (Cert.AdFoIdeal.Arr.u m c), fun c => Cert.AdFoIdeal.Arr.tV (Cert.AdFoIdeal.Arr.g0 m c) (Cert.AdFoIdeal.Arr.g1 m c) (Cert.AdFoIdeal.Arr.g2 m c) (Cert.AdFoIdeal.Arr.v m c), ?_, ?_⟩
  · exact Cert.AdFoIdeal.Arr.leaves m g
  · refine (θ_run _ _ _).mono (fun r h c => ?_) (ref_run_AdFo m' g')
    obtain ⟨a0, a1, a2, a3, a4, a5⟩ := hargs c
    refine ⟨(h c).1.trans ?_, (h c).2.1.trans ?_, (h c).2.2.1.trans ?_, (h c).2.2.2.1.trans ?_, (h c).2.2.2.2⟩
    · rw [a0, a1, a2]
      exact Cert.AdFoIdeal.Arr.refG _ _ _
    · rw [a0, a1, a2, a3, a4, a5]
      exact Cert.AdFoIdeal.Arr.refD _ _ _ _ _ _
    · rw [a0, a1, a2, a4]
      exact Cert.AdFoIdeal.Arr.refM _ _ _ _
    · rw [a0, a1, a2, a5]
      exact Cert.AdFoIdeal.Arr.refV _ _ _ _

/-! ## The optimiser's step for the cross-attention's query weight -/

theorem preserves_AdXq_AdXqIdeal : Cert.preserves_AdXq_AdXqIdeal := trivial

/-- The reference's run, its results as functions of the arguments. -/
theorem ref_run_AdXq (m : (ℓ : Loc Cert.AdXqRefIdeal.nD Cert.AdXqRefIdeal.τ Cert.AdXqRefIdeal.sig) → Buf (Elt Ideal) ℓ) (ρ : Dev Cert.AdXqRefIdeal.nD → PrngReg) :
    θ_run (Cert.AdXqRefIdeal.defs (F := Ideal)) (onTc (τ := Cert.AdXqRefIdeal.τ) (Cert.AdXqRefIdeal.main (F := Ideal))) ⟨m, fun _ => 0, ρ⟩ fun r => ∀ c : Dev Cert.AdXqRefIdeal.nD,
      r.2.mem ((c.tc : Thread Cert.AdXqRefIdeal.nD Cert.AdXqRefIdeal.τ).loc Cert.AdXqRefIdeal.main_v32)
          = Cert.AdXqRefIdeal.Read.val_main_v32 (F := Ideal) (m (c.tc.loc Cert.AdXqRefIdeal.main_arg0)) (m (c.tc.loc Cert.AdXqRefIdeal.main_arg1)) (m (c.tc.loc Cert.AdXqRefIdeal.main_arg2))
      ∧ r.2.mem ((c.tc : Thread Cert.AdXqRefIdeal.nD Cert.AdXqRefIdeal.τ).loc Cert.AdXqRefIdeal.main_v33)
          = Cert.AdXqRefIdeal.Read.val_main_v33 (F := Ideal) (m (c.tc.loc Cert.AdXqRefIdeal.main_arg0)) (m (c.tc.loc Cert.AdXqRefIdeal.main_arg1)) (m (c.tc.loc Cert.AdXqRefIdeal.main_arg2)) (m (c.tc.loc Cert.AdXqRefIdeal.main_arg3)) (m (c.tc.loc Cert.AdXqRefIdeal.main_arg4)) (m (c.tc.loc Cert.AdXqRefIdeal.main_arg5))
      ∧ r.2.mem ((c.tc : Thread Cert.AdXqRefIdeal.nD Cert.AdXqRefIdeal.τ).loc Cert.AdXqRefIdeal.main_v34)
          = Cert.AdXqRefIdeal.Read.val_main_v34 (F := Ideal) (m (c.tc.loc Cert.AdXqRefIdeal.main_arg0)) (m (c.tc.loc Cert.AdXqRefIdeal.main_arg1)) (m (c.tc.loc Cert.AdXqRefIdeal.main_arg2)) (m (c.tc.loc Cert.AdXqRefIdeal.main_arg4))
      ∧ r.2.mem ((c.tc : Thread Cert.AdXqRefIdeal.nD Cert.AdXqRefIdeal.τ).loc Cert.AdXqRefIdeal.main_v35)
          = Cert.AdXqRefIdeal.Read.val_main_v35 (F := Ideal) (m (c.tc.loc Cert.AdXqRefIdeal.main_arg0)) (m (c.tc.loc Cert.AdXqRefIdeal.main_arg1)) (m (c.tc.loc Cert.AdXqRefIdeal.main_arg2)) (m (c.tc.loc Cert.AdXqRefIdeal.main_arg5))
      ∧ r.2.mem ((c.tc : Thread Cert.AdXqRefIdeal.nD Cert.AdXqRefIdeal.τ).loc Cert.AdXqRefIdeal.main_arg0) = m ((c.tc : Thread Cert.AdXqRefIdeal.nD Cert.AdXqRefIdeal.τ).loc Cert.AdXqRefIdeal.main_arg0)
      ∧ r.2.mem ((c.tc : Thread Cert.AdXqRefIdeal.nD Cert.AdXqRefIdeal.τ).loc Cert.AdXqRefIdeal.main_arg1) = m ((c.tc : Thread Cert.AdXqRefIdeal.nD Cert.AdXqRefIdeal.τ).loc Cert.AdXqRefIdeal.main_arg1)
      ∧ r.2.mem ((c.tc : Thread Cert.AdXqRefIdeal.nD Cert.AdXqRefIdeal.τ).loc Cert.AdXqRefIdeal.main_arg2) = m ((c.tc : Thread Cert.AdXqRefIdeal.nD Cert.AdXqRefIdeal.τ).loc Cert.AdXqRefIdeal.main_arg2)
      ∧ r.2.mem ((c.tc : Thread Cert.AdXqRefIdeal.nD Cert.AdXqRefIdeal.τ).loc Cert.AdXqRefIdeal.main_arg3) = m ((c.tc : Thread Cert.AdXqRefIdeal.nD Cert.AdXqRefIdeal.τ).loc Cert.AdXqRefIdeal.main_arg3)
      ∧ r.2.mem ((c.tc : Thread Cert.AdXqRefIdeal.nD Cert.AdXqRefIdeal.τ).loc Cert.AdXqRefIdeal.main_arg4) = m ((c.tc : Thread Cert.AdXqRefIdeal.nD Cert.AdXqRefIdeal.τ).loc Cert.AdXqRefIdeal.main_arg4)
      ∧ r.2.mem ((c.tc : Thread Cert.AdXqRefIdeal.nD Cert.AdXqRefIdeal.τ).loc Cert.AdXqRefIdeal.main_arg5) = m ((c.tc : Thread Cert.AdXqRefIdeal.nD Cert.AdXqRefIdeal.τ).loc Cert.AdXqRefIdeal.main_arg5) :=
  (θ_run _ _ _).mono (fun _ h c => ⟨(h c).1.trans (Cert.AdXqRefIdeal.Read.val_main_v32_eq _ _ _),
      (h c).2.1.trans (Cert.AdXqRefIdeal.Read.val_main_v33_eq _ _ _ _ _ _),
      (h c).2.2.1.trans (Cert.AdXqRefIdeal.Read.val_main_v34_eq _ _ _ _),
      (h c).2.2.2.1.trans (Cert.AdXqRefIdeal.Read.val_main_v35_eq _ _ _ _),
      (h c).2.2.2.2⟩)
    (Cert.AdXqRefIdeal.Value.run (F := Ideal) m ρ)

theorem quiescent_AdXqRefIdeal : Cert.quiescent_AdXqRefIdeal := fun m ρ _ =>
  (θ_run _ _ _).mono (fun r h => ⟨fun c => (h c).2.2.2.2, sem_eq_zero_of_no_sems (by decide) r.2⟩) (ref_run_AdXq m ρ)

theorem algebraic_AdXqIdeal_AdXqRefIdeal : Cert.algebraic_AdXqIdeal_AdXqRefIdeal := by
  intro m g m' g' hpre hargs
  refine ⟨fun c => Cert.AdXqIdeal.Arr.tG (Cert.AdXqIdeal.Arr.g0 m c) (Cert.AdXqIdeal.Arr.g1 m c) (Cert.AdXqIdeal.Arr.g2 m c), fun c => Cert.AdXqIdeal.Arr.tD (Cert.AdXqIdeal.Arr.g0 m c) (Cert.AdXqIdeal.Arr.g1 m c) (Cert.AdXqIdeal.Arr.g2 m c) (Cert.AdXqIdeal.Arr.x m c) (Cert.AdXqIdeal.Arr.u m c) (Cert.AdXqIdeal.Arr.v m c),
    fun c => Cert.AdXqIdeal.Arr.tM (Cert.AdXqIdeal.Arr.g0 m c) (Cert.AdXqIdeal.Arr.g1 m c) (Cert.AdXqIdeal.Arr.g2 m c) (Cert.AdXqIdeal.Arr.u m c), fun c => Cert.AdXqIdeal.Arr.tV (Cert.AdXqIdeal.Arr.g0 m c) (Cert.AdXqIdeal.Arr.g1 m c) (Cert.AdXqIdeal.Arr.g2 m c) (Cert.AdXqIdeal.Arr.v m c), ?_, ?_⟩
  · exact Cert.AdXqIdeal.Arr.leaves m g
  · refine (θ_run _ _ _).mono (fun r h c => ?_) (ref_run_AdXq m' g')
    obtain ⟨a0, a1, a2, a3, a4, a5⟩ := hargs c
    refine ⟨(h c).1.trans ?_, (h c).2.1.trans ?_, (h c).2.2.1.trans ?_, (h c).2.2.2.1.trans ?_, (h c).2.2.2.2⟩
    · rw [a0, a1, a2]
      exact Cert.AdXqIdeal.Arr.refG _ _ _
    · rw [a0, a1, a2, a3, a4, a5]
      exact Cert.AdXqIdeal.Arr.refD _ _ _ _ _ _
    · rw [a0, a1, a2, a4]
      exact Cert.AdXqIdeal.Arr.refM _ _ _ _
    · rw [a0, a1, a2, a5]
      exact Cert.AdXqIdeal.Arr.refV _ _ _ _

/-! ## The optimiser's step for the cross-attention's output weight -/

theorem preserves_AdXo_AdXoIdeal : Cert.preserves_AdXo_AdXoIdeal := trivial

/-- The reference's run, its results as functions of the arguments. -/
theorem ref_run_AdXo (m : (ℓ : Loc Cert.AdXoRefIdeal.nD Cert.AdXoRefIdeal.τ Cert.AdXoRefIdeal.sig) → Buf (Elt Ideal) ℓ) (ρ : Dev Cert.AdXoRefIdeal.nD → PrngReg) :
    θ_run (Cert.AdXoRefIdeal.defs (F := Ideal)) (onTc (τ := Cert.AdXoRefIdeal.τ) (Cert.AdXoRefIdeal.main (F := Ideal))) ⟨m, fun _ => 0, ρ⟩ fun r => ∀ c : Dev Cert.AdXoRefIdeal.nD,
      r.2.mem ((c.tc : Thread Cert.AdXoRefIdeal.nD Cert.AdXoRefIdeal.τ).loc Cert.AdXoRefIdeal.main_v32)
          = Cert.AdXoRefIdeal.Read.val_main_v32 (F := Ideal) (m (c.tc.loc Cert.AdXoRefIdeal.main_arg0)) (m (c.tc.loc Cert.AdXoRefIdeal.main_arg1)) (m (c.tc.loc Cert.AdXoRefIdeal.main_arg2))
      ∧ r.2.mem ((c.tc : Thread Cert.AdXoRefIdeal.nD Cert.AdXoRefIdeal.τ).loc Cert.AdXoRefIdeal.main_v33)
          = Cert.AdXoRefIdeal.Read.val_main_v33 (F := Ideal) (m (c.tc.loc Cert.AdXoRefIdeal.main_arg0)) (m (c.tc.loc Cert.AdXoRefIdeal.main_arg1)) (m (c.tc.loc Cert.AdXoRefIdeal.main_arg2)) (m (c.tc.loc Cert.AdXoRefIdeal.main_arg3)) (m (c.tc.loc Cert.AdXoRefIdeal.main_arg4)) (m (c.tc.loc Cert.AdXoRefIdeal.main_arg5))
      ∧ r.2.mem ((c.tc : Thread Cert.AdXoRefIdeal.nD Cert.AdXoRefIdeal.τ).loc Cert.AdXoRefIdeal.main_v34)
          = Cert.AdXoRefIdeal.Read.val_main_v34 (F := Ideal) (m (c.tc.loc Cert.AdXoRefIdeal.main_arg0)) (m (c.tc.loc Cert.AdXoRefIdeal.main_arg1)) (m (c.tc.loc Cert.AdXoRefIdeal.main_arg2)) (m (c.tc.loc Cert.AdXoRefIdeal.main_arg4))
      ∧ r.2.mem ((c.tc : Thread Cert.AdXoRefIdeal.nD Cert.AdXoRefIdeal.τ).loc Cert.AdXoRefIdeal.main_v35)
          = Cert.AdXoRefIdeal.Read.val_main_v35 (F := Ideal) (m (c.tc.loc Cert.AdXoRefIdeal.main_arg0)) (m (c.tc.loc Cert.AdXoRefIdeal.main_arg1)) (m (c.tc.loc Cert.AdXoRefIdeal.main_arg2)) (m (c.tc.loc Cert.AdXoRefIdeal.main_arg5))
      ∧ r.2.mem ((c.tc : Thread Cert.AdXoRefIdeal.nD Cert.AdXoRefIdeal.τ).loc Cert.AdXoRefIdeal.main_arg0) = m ((c.tc : Thread Cert.AdXoRefIdeal.nD Cert.AdXoRefIdeal.τ).loc Cert.AdXoRefIdeal.main_arg0)
      ∧ r.2.mem ((c.tc : Thread Cert.AdXoRefIdeal.nD Cert.AdXoRefIdeal.τ).loc Cert.AdXoRefIdeal.main_arg1) = m ((c.tc : Thread Cert.AdXoRefIdeal.nD Cert.AdXoRefIdeal.τ).loc Cert.AdXoRefIdeal.main_arg1)
      ∧ r.2.mem ((c.tc : Thread Cert.AdXoRefIdeal.nD Cert.AdXoRefIdeal.τ).loc Cert.AdXoRefIdeal.main_arg2) = m ((c.tc : Thread Cert.AdXoRefIdeal.nD Cert.AdXoRefIdeal.τ).loc Cert.AdXoRefIdeal.main_arg2)
      ∧ r.2.mem ((c.tc : Thread Cert.AdXoRefIdeal.nD Cert.AdXoRefIdeal.τ).loc Cert.AdXoRefIdeal.main_arg3) = m ((c.tc : Thread Cert.AdXoRefIdeal.nD Cert.AdXoRefIdeal.τ).loc Cert.AdXoRefIdeal.main_arg3)
      ∧ r.2.mem ((c.tc : Thread Cert.AdXoRefIdeal.nD Cert.AdXoRefIdeal.τ).loc Cert.AdXoRefIdeal.main_arg4) = m ((c.tc : Thread Cert.AdXoRefIdeal.nD Cert.AdXoRefIdeal.τ).loc Cert.AdXoRefIdeal.main_arg4)
      ∧ r.2.mem ((c.tc : Thread Cert.AdXoRefIdeal.nD Cert.AdXoRefIdeal.τ).loc Cert.AdXoRefIdeal.main_arg5) = m ((c.tc : Thread Cert.AdXoRefIdeal.nD Cert.AdXoRefIdeal.τ).loc Cert.AdXoRefIdeal.main_arg5) :=
  (θ_run _ _ _).mono (fun _ h c => ⟨(h c).1.trans (Cert.AdXoRefIdeal.Read.val_main_v32_eq _ _ _),
      (h c).2.1.trans (Cert.AdXoRefIdeal.Read.val_main_v33_eq _ _ _ _ _ _),
      (h c).2.2.1.trans (Cert.AdXoRefIdeal.Read.val_main_v34_eq _ _ _ _),
      (h c).2.2.2.1.trans (Cert.AdXoRefIdeal.Read.val_main_v35_eq _ _ _ _),
      (h c).2.2.2.2⟩)
    (Cert.AdXoRefIdeal.Value.run (F := Ideal) m ρ)

theorem quiescent_AdXoRefIdeal : Cert.quiescent_AdXoRefIdeal := fun m ρ _ =>
  (θ_run _ _ _).mono (fun r h => ⟨fun c => (h c).2.2.2.2, sem_eq_zero_of_no_sems (by decide) r.2⟩) (ref_run_AdXo m ρ)

theorem algebraic_AdXoIdeal_AdXoRefIdeal : Cert.algebraic_AdXoIdeal_AdXoRefIdeal := by
  intro m g m' g' hpre hargs
  refine ⟨fun c => Cert.AdXoIdeal.Arr.tG (Cert.AdXoIdeal.Arr.g0 m c) (Cert.AdXoIdeal.Arr.g1 m c) (Cert.AdXoIdeal.Arr.g2 m c), fun c => Cert.AdXoIdeal.Arr.tD (Cert.AdXoIdeal.Arr.g0 m c) (Cert.AdXoIdeal.Arr.g1 m c) (Cert.AdXoIdeal.Arr.g2 m c) (Cert.AdXoIdeal.Arr.x m c) (Cert.AdXoIdeal.Arr.u m c) (Cert.AdXoIdeal.Arr.v m c),
    fun c => Cert.AdXoIdeal.Arr.tM (Cert.AdXoIdeal.Arr.g0 m c) (Cert.AdXoIdeal.Arr.g1 m c) (Cert.AdXoIdeal.Arr.g2 m c) (Cert.AdXoIdeal.Arr.u m c), fun c => Cert.AdXoIdeal.Arr.tV (Cert.AdXoIdeal.Arr.g0 m c) (Cert.AdXoIdeal.Arr.g1 m c) (Cert.AdXoIdeal.Arr.g2 m c) (Cert.AdXoIdeal.Arr.v m c), ?_, ?_⟩
  · exact Cert.AdXoIdeal.Arr.leaves m g
  · refine (θ_run _ _ _).mono (fun r h c => ?_) (ref_run_AdXo m' g')
    obtain ⟨a0, a1, a2, a3, a4, a5⟩ := hargs c
    refine ⟨(h c).1.trans ?_, (h c).2.1.trans ?_, (h c).2.2.1.trans ?_, (h c).2.2.2.1.trans ?_, (h c).2.2.2.2⟩
    · rw [a0, a1, a2]
      exact Cert.AdXoIdeal.Arr.refG _ _ _
    · rw [a0, a1, a2, a3, a4, a5]
      exact Cert.AdXoIdeal.Arr.refD _ _ _ _ _ _
    · rw [a0, a1, a2, a4]
      exact Cert.AdXoIdeal.Arr.refM _ _ _ _
    · rw [a0, a1, a2, a5]
      exact Cert.AdXoIdeal.Arr.refV _ _ _ _

/-! ## The optimiser's step for the cross-attention's key and value weight -/

theorem preserves_AdXkv_AdXkvIdeal : Cert.preserves_AdXkv_AdXkvIdeal := trivial

/-- The reference's run, its results as functions of the arguments. -/
theorem ref_run_AdXkv (m : (ℓ : Loc Cert.AdXkvRefIdeal.nD Cert.AdXkvRefIdeal.τ Cert.AdXkvRefIdeal.sig) → Buf (Elt Ideal) ℓ) (ρ : Dev Cert.AdXkvRefIdeal.nD → PrngReg) :
    θ_run (Cert.AdXkvRefIdeal.defs (F := Ideal)) (onTc (τ := Cert.AdXkvRefIdeal.τ) (Cert.AdXkvRefIdeal.main (F := Ideal))) ⟨m, fun _ => 0, ρ⟩ fun r => ∀ c : Dev Cert.AdXkvRefIdeal.nD,
      r.2.mem ((c.tc : Thread Cert.AdXkvRefIdeal.nD Cert.AdXkvRefIdeal.τ).loc Cert.AdXkvRefIdeal.main_v29)
          = Cert.AdXkvRefIdeal.Read.val_main_v29 (F := Ideal) (m (c.tc.loc Cert.AdXkvRefIdeal.main_arg0)) (m (c.tc.loc Cert.AdXkvRefIdeal.main_arg1)) (m (c.tc.loc Cert.AdXkvRefIdeal.main_arg2))
      ∧ r.2.mem ((c.tc : Thread Cert.AdXkvRefIdeal.nD Cert.AdXkvRefIdeal.τ).loc Cert.AdXkvRefIdeal.main_v30)
          = Cert.AdXkvRefIdeal.Read.val_main_v30 (F := Ideal) (m (c.tc.loc Cert.AdXkvRefIdeal.main_arg0)) (m (c.tc.loc Cert.AdXkvRefIdeal.main_arg1)) (m (c.tc.loc Cert.AdXkvRefIdeal.main_arg2)) (m (c.tc.loc Cert.AdXkvRefIdeal.main_arg3)) (m (c.tc.loc Cert.AdXkvRefIdeal.main_arg4)) (m (c.tc.loc Cert.AdXkvRefIdeal.main_arg5))
      ∧ r.2.mem ((c.tc : Thread Cert.AdXkvRefIdeal.nD Cert.AdXkvRefIdeal.τ).loc Cert.AdXkvRefIdeal.main_v31)
          = Cert.AdXkvRefIdeal.Read.val_main_v31 (F := Ideal) (m (c.tc.loc Cert.AdXkvRefIdeal.main_arg0)) (m (c.tc.loc Cert.AdXkvRefIdeal.main_arg1)) (m (c.tc.loc Cert.AdXkvRefIdeal.main_arg2)) (m (c.tc.loc Cert.AdXkvRefIdeal.main_arg4))
      ∧ r.2.mem ((c.tc : Thread Cert.AdXkvRefIdeal.nD Cert.AdXkvRefIdeal.τ).loc Cert.AdXkvRefIdeal.main_v32)
          = Cert.AdXkvRefIdeal.Read.val_main_v32 (F := Ideal) (m (c.tc.loc Cert.AdXkvRefIdeal.main_arg0)) (m (c.tc.loc Cert.AdXkvRefIdeal.main_arg1)) (m (c.tc.loc Cert.AdXkvRefIdeal.main_arg2)) (m (c.tc.loc Cert.AdXkvRefIdeal.main_arg5))
      ∧ r.2.mem ((c.tc : Thread Cert.AdXkvRefIdeal.nD Cert.AdXkvRefIdeal.τ).loc Cert.AdXkvRefIdeal.main_arg0) = m ((c.tc : Thread Cert.AdXkvRefIdeal.nD Cert.AdXkvRefIdeal.τ).loc Cert.AdXkvRefIdeal.main_arg0)
      ∧ r.2.mem ((c.tc : Thread Cert.AdXkvRefIdeal.nD Cert.AdXkvRefIdeal.τ).loc Cert.AdXkvRefIdeal.main_arg1) = m ((c.tc : Thread Cert.AdXkvRefIdeal.nD Cert.AdXkvRefIdeal.τ).loc Cert.AdXkvRefIdeal.main_arg1)
      ∧ r.2.mem ((c.tc : Thread Cert.AdXkvRefIdeal.nD Cert.AdXkvRefIdeal.τ).loc Cert.AdXkvRefIdeal.main_arg2) = m ((c.tc : Thread Cert.AdXkvRefIdeal.nD Cert.AdXkvRefIdeal.τ).loc Cert.AdXkvRefIdeal.main_arg2)
      ∧ r.2.mem ((c.tc : Thread Cert.AdXkvRefIdeal.nD Cert.AdXkvRefIdeal.τ).loc Cert.AdXkvRefIdeal.main_arg3) = m ((c.tc : Thread Cert.AdXkvRefIdeal.nD Cert.AdXkvRefIdeal.τ).loc Cert.AdXkvRefIdeal.main_arg3)
      ∧ r.2.mem ((c.tc : Thread Cert.AdXkvRefIdeal.nD Cert.AdXkvRefIdeal.τ).loc Cert.AdXkvRefIdeal.main_arg4) = m ((c.tc : Thread Cert.AdXkvRefIdeal.nD Cert.AdXkvRefIdeal.τ).loc Cert.AdXkvRefIdeal.main_arg4)
      ∧ r.2.mem ((c.tc : Thread Cert.AdXkvRefIdeal.nD Cert.AdXkvRefIdeal.τ).loc Cert.AdXkvRefIdeal.main_arg5) = m ((c.tc : Thread Cert.AdXkvRefIdeal.nD Cert.AdXkvRefIdeal.τ).loc Cert.AdXkvRefIdeal.main_arg5) :=
  (θ_run _ _ _).mono (fun _ h c => ⟨(h c).1.trans (Cert.AdXkvRefIdeal.Read.val_main_v29_eq _ _ _),
      (h c).2.1.trans (Cert.AdXkvRefIdeal.Read.val_main_v30_eq _ _ _ _ _ _),
      (h c).2.2.1.trans (Cert.AdXkvRefIdeal.Read.val_main_v31_eq _ _ _ _),
      (h c).2.2.2.1.trans (Cert.AdXkvRefIdeal.Read.val_main_v32_eq _ _ _ _),
      (h c).2.2.2.2⟩)
    (Cert.AdXkvRefIdeal.Value.run (F := Ideal) m ρ)

theorem quiescent_AdXkvRefIdeal : Cert.quiescent_AdXkvRefIdeal := fun m ρ _ =>
  (θ_run _ _ _).mono (fun r h => ⟨fun c => (h c).2.2.2.2, sem_eq_zero_of_no_sems (by decide) r.2⟩) (ref_run_AdXkv m ρ)

theorem algebraic_AdXkvIdeal_AdXkvRefIdeal : Cert.algebraic_AdXkvIdeal_AdXkvRefIdeal := by
  intro m g m' g' hpre hargs
  refine ⟨fun c => Cert.AdXkvIdeal.Arr.tG (Cert.AdXkvIdeal.Arr.g0 m c) (Cert.AdXkvIdeal.Arr.g1 m c) (Cert.AdXkvIdeal.Arr.g2 m c), fun c => Cert.AdXkvIdeal.Arr.tD (Cert.AdXkvIdeal.Arr.g0 m c) (Cert.AdXkvIdeal.Arr.g1 m c) (Cert.AdXkvIdeal.Arr.g2 m c) (Cert.AdXkvIdeal.Arr.x m c) (Cert.AdXkvIdeal.Arr.u m c) (Cert.AdXkvIdeal.Arr.v m c),
    fun c => Cert.AdXkvIdeal.Arr.tM (Cert.AdXkvIdeal.Arr.g0 m c) (Cert.AdXkvIdeal.Arr.g1 m c) (Cert.AdXkvIdeal.Arr.g2 m c) (Cert.AdXkvIdeal.Arr.u m c), fun c => Cert.AdXkvIdeal.Arr.tV (Cert.AdXkvIdeal.Arr.g0 m c) (Cert.AdXkvIdeal.Arr.g1 m c) (Cert.AdXkvIdeal.Arr.g2 m c) (Cert.AdXkvIdeal.Arr.v m c), ?_, ?_⟩
  · exact Cert.AdXkvIdeal.Arr.leaves m g
  · refine (θ_run _ _ _).mono (fun r h c => ?_) (ref_run_AdXkv m' g')
    obtain ⟨a0, a1, a2, a3, a4, a5⟩ := hargs c
    refine ⟨(h c).1.trans ?_, (h c).2.1.trans ?_, (h c).2.2.1.trans ?_, (h c).2.2.2.1.trans ?_, (h c).2.2.2.2⟩
    · rw [a0, a1, a2]
      exact Cert.AdXkvIdeal.Arr.refG _ _ _
    · rw [a0, a1, a2, a3, a4, a5]
      exact Cert.AdXkvIdeal.Arr.refD _ _ _ _ _ _
    · rw [a0, a1, a2, a4]
      exact Cert.AdXkvIdeal.Arr.refM _ _ _ _
    · rw [a0, a1, a2, a5]
      exact Cert.AdXkvIdeal.Arr.refV _ _ _ _

/-! ## The optimiser's step for latent attention's output weight -/

theorem preserves_AdMo_AdMoIdeal : Cert.preserves_AdMo_AdMoIdeal := trivial

/-- The reference's run, its results as functions of the arguments. -/
theorem ref_run_AdMo (m : (ℓ : Loc Cert.AdMoRefIdeal.nD Cert.AdMoRefIdeal.τ Cert.AdMoRefIdeal.sig) → Buf (Elt Ideal) ℓ) (ρ : Dev Cert.AdMoRefIdeal.nD → PrngReg) :
    θ_run (Cert.AdMoRefIdeal.defs (F := Ideal)) (onTc (τ := Cert.AdMoRefIdeal.τ) (Cert.AdMoRefIdeal.main (F := Ideal))) ⟨m, fun _ => 0, ρ⟩ fun r => ∀ c : Dev Cert.AdMoRefIdeal.nD,
      r.2.mem ((c.tc : Thread Cert.AdMoRefIdeal.nD Cert.AdMoRefIdeal.τ).loc Cert.AdMoRefIdeal.main_v29)
          = Cert.AdMoRefIdeal.Read.val_main_v29 (F := Ideal) (m (c.tc.loc Cert.AdMoRefIdeal.main_arg0)) (m (c.tc.loc Cert.AdMoRefIdeal.main_arg1))
      ∧ r.2.mem ((c.tc : Thread Cert.AdMoRefIdeal.nD Cert.AdMoRefIdeal.τ).loc Cert.AdMoRefIdeal.main_v30)
          = Cert.AdMoRefIdeal.Read.val_main_v30 (F := Ideal) (m (c.tc.loc Cert.AdMoRefIdeal.main_arg0)) (m (c.tc.loc Cert.AdMoRefIdeal.main_arg1)) (m (c.tc.loc Cert.AdMoRefIdeal.main_arg2)) (m (c.tc.loc Cert.AdMoRefIdeal.main_arg3)) (m (c.tc.loc Cert.AdMoRefIdeal.main_arg4))
      ∧ r.2.mem ((c.tc : Thread Cert.AdMoRefIdeal.nD Cert.AdMoRefIdeal.τ).loc Cert.AdMoRefIdeal.main_v31)
          = Cert.AdMoRefIdeal.Read.val_main_v31 (F := Ideal) (m (c.tc.loc Cert.AdMoRefIdeal.main_arg0)) (m (c.tc.loc Cert.AdMoRefIdeal.main_arg1)) (m (c.tc.loc Cert.AdMoRefIdeal.main_arg3))
      ∧ r.2.mem ((c.tc : Thread Cert.AdMoRefIdeal.nD Cert.AdMoRefIdeal.τ).loc Cert.AdMoRefIdeal.main_v32)
          = Cert.AdMoRefIdeal.Read.val_main_v32 (F := Ideal) (m (c.tc.loc Cert.AdMoRefIdeal.main_arg0)) (m (c.tc.loc Cert.AdMoRefIdeal.main_arg1)) (m (c.tc.loc Cert.AdMoRefIdeal.main_arg4))
      ∧ r.2.mem ((c.tc : Thread Cert.AdMoRefIdeal.nD Cert.AdMoRefIdeal.τ).loc Cert.AdMoRefIdeal.main_arg0) = m ((c.tc : Thread Cert.AdMoRefIdeal.nD Cert.AdMoRefIdeal.τ).loc Cert.AdMoRefIdeal.main_arg0)
      ∧ r.2.mem ((c.tc : Thread Cert.AdMoRefIdeal.nD Cert.AdMoRefIdeal.τ).loc Cert.AdMoRefIdeal.main_arg1) = m ((c.tc : Thread Cert.AdMoRefIdeal.nD Cert.AdMoRefIdeal.τ).loc Cert.AdMoRefIdeal.main_arg1)
      ∧ r.2.mem ((c.tc : Thread Cert.AdMoRefIdeal.nD Cert.AdMoRefIdeal.τ).loc Cert.AdMoRefIdeal.main_arg2) = m ((c.tc : Thread Cert.AdMoRefIdeal.nD Cert.AdMoRefIdeal.τ).loc Cert.AdMoRefIdeal.main_arg2)
      ∧ r.2.mem ((c.tc : Thread Cert.AdMoRefIdeal.nD Cert.AdMoRefIdeal.τ).loc Cert.AdMoRefIdeal.main_arg3) = m ((c.tc : Thread Cert.AdMoRefIdeal.nD Cert.AdMoRefIdeal.τ).loc Cert.AdMoRefIdeal.main_arg3)
      ∧ r.2.mem ((c.tc : Thread Cert.AdMoRefIdeal.nD Cert.AdMoRefIdeal.τ).loc Cert.AdMoRefIdeal.main_arg4) = m ((c.tc : Thread Cert.AdMoRefIdeal.nD Cert.AdMoRefIdeal.τ).loc Cert.AdMoRefIdeal.main_arg4) :=
  (θ_run _ _ _).mono (fun _ h c => ⟨(h c).1.trans (Cert.AdMoRefIdeal.Read.val_main_v29_eq _ _),
      (h c).2.1.trans (Cert.AdMoRefIdeal.Read.val_main_v30_eq _ _ _ _ _),
      (h c).2.2.1.trans (Cert.AdMoRefIdeal.Read.val_main_v31_eq _ _ _),
      (h c).2.2.2.1.trans (Cert.AdMoRefIdeal.Read.val_main_v32_eq _ _ _),
      (h c).2.2.2.2⟩)
    (Cert.AdMoRefIdeal.Value.run (F := Ideal) m ρ)

theorem quiescent_AdMoRefIdeal : Cert.quiescent_AdMoRefIdeal := fun m ρ _ =>
  (θ_run _ _ _).mono (fun r h => ⟨fun c => (h c).2.2.2.2, sem_eq_zero_of_no_sems (by decide) r.2⟩) (ref_run_AdMo m ρ)

theorem algebraic_AdMoIdeal_AdMoRefIdeal : Cert.algebraic_AdMoIdeal_AdMoRefIdeal := by
  intro m g m' g' hpre hargs
  refine ⟨fun c => Cert.AdMoIdeal.Arr.tG (Cert.AdMoIdeal.Arr.g0 m c) (Cert.AdMoIdeal.Arr.g1 m c), fun c => Cert.AdMoIdeal.Arr.tD (Cert.AdMoIdeal.Arr.g0 m c) (Cert.AdMoIdeal.Arr.g1 m c) (Cert.AdMoIdeal.Arr.x m c) (Cert.AdMoIdeal.Arr.u m c) (Cert.AdMoIdeal.Arr.v m c),
    fun c => Cert.AdMoIdeal.Arr.tM (Cert.AdMoIdeal.Arr.g0 m c) (Cert.AdMoIdeal.Arr.g1 m c) (Cert.AdMoIdeal.Arr.u m c), fun c => Cert.AdMoIdeal.Arr.tV (Cert.AdMoIdeal.Arr.g0 m c) (Cert.AdMoIdeal.Arr.g1 m c) (Cert.AdMoIdeal.Arr.v m c), ?_, ?_⟩
  · exact Cert.AdMoIdeal.Arr.leaves m g
  · refine (θ_run _ _ _).mono (fun r h c => ?_) (ref_run_AdMo m' g')
    obtain ⟨a0, a1, a2, a3, a4⟩ := hargs c
    refine ⟨(h c).1.trans ?_, (h c).2.1.trans ?_, (h c).2.2.1.trans ?_, (h c).2.2.2.1.trans ?_, (h c).2.2.2.2⟩
    · rw [a0, a1]
      exact Cert.AdMoIdeal.Arr.refG _ _
    · rw [a0, a1, a2, a3, a4]
      exact Cert.AdMoIdeal.Arr.refD _ _ _ _ _
    · rw [a0, a1, a3]
      exact Cert.AdMoIdeal.Arr.refM _ _ _
    · rw [a0, a1, a4]
      exact Cert.AdMoIdeal.Arr.refV _ _ _

theorem claim : Cert.Claim := ⟨Cert.Sc.Gen.facts, Cert.ScIdeal.Gen.facts, Cert.ScRefIdeal.Gen.facts, Cert.Dwo.Gen.facts, Cert.DwoIdeal.Gen.facts, Cert.DwoRefIdeal.Gen.facts, Cert.Dh.Gen.facts, Cert.DhIdeal.Gen.facts, Cert.DhRefIdeal.Gen.facts, Cert.Dwi.Gen.facts, Cert.DwiIdeal.Gen.facts, Cert.DwiRefIdeal.Gen.facts, Cert.Dn.Gen.facts, Cert.DnIdeal.Gen.facts, Cert.DnRefIdeal.Gen.facts, Cert.Up.Gen.facts, Cert.UpIdeal.Gen.facts, Cert.UpRefIdeal.Gen.facts, Cert.Down.Gen.facts, Cert.DownIdeal.Gen.facts, Cert.DownRefIdeal.Gen.facts, Cert.Dx.Gen.facts, Cert.DxIdeal.Gen.facts, Cert.DxRefIdeal.Gen.facts, Cert.Xa.Gen.facts, Cert.XaIdeal.Gen.facts, Cert.XaRefIdeal.Gen.facts, Cert.AdMin.Gen.facts, Cert.AdMinIdeal.Gen.facts, Cert.AdMinRefIdeal.Gen.facts, Cert.AdMuq.Gen.facts, Cert.AdMuqIdeal.Gen.facts, Cert.AdMuqRefIdeal.Gen.facts, Cert.AdMukv.Gen.facts, Cert.AdMukvIdeal.Gen.facts, Cert.AdMukvRefIdeal.Gen.facts, Cert.AdGin.Gen.facts, Cert.AdGinIdeal.Gen.facts, Cert.AdGinRefIdeal.Gen.facts, Cert.AdSin.Gen.facts, Cert.AdSinIdeal.Gen.facts, Cert.AdSinRefIdeal.Gen.facts, Cert.AdGo.Gen.facts, Cert.AdGoIdeal.Gen.facts, Cert.AdGoRefIdeal.Gen.facts, Cert.AdSo.Gen.facts, Cert.AdSoIdeal.Gen.facts, Cert.AdSoRefIdeal.Gen.facts, Cert.AdFi.Gen.facts, Cert.AdFiIdeal.Gen.facts, Cert.AdFiRefIdeal.Gen.facts, Cert.AdFo.Gen.facts, Cert.AdFoIdeal.Gen.facts, Cert.AdFoRefIdeal.Gen.facts, Cert.AdXq.Gen.facts, Cert.AdXqIdeal.Gen.facts, Cert.AdXqRefIdeal.Gen.facts, Cert.AdXo.Gen.facts, Cert.AdXoIdeal.Gen.facts, Cert.AdXoRefIdeal.Gen.facts, Cert.AdXkv.Gen.facts, Cert.AdXkvIdeal.Gen.facts, Cert.AdXkvRefIdeal.Gen.facts, Cert.AdMo.Gen.facts, Cert.AdMoIdeal.Gen.facts, Cert.AdMoRefIdeal.Gen.facts, pre_facts,
  fun m ρ _ => Cert.Sc.Gen.frame m ρ, fun m ρ _ => Cert.ScIdeal.Gen.frame m ρ, quiescent_ScRefIdeal,
  fun m ρ _ => Cert.Dwo.Gen.frame m ρ, fun m ρ _ => Cert.DwoIdeal.Gen.frame m ρ, quiescent_DwoRefIdeal,
  fun m ρ _ => Cert.Dh.Gen.frame m ρ, fun m ρ _ => Cert.DhIdeal.Gen.frame m ρ, quiescent_DhRefIdeal,
  fun m ρ _ => Cert.Dwi.Gen.frame m ρ, fun m ρ _ => Cert.DwiIdeal.Gen.frame m ρ, quiescent_DwiRefIdeal,
  fun m ρ _ => Cert.Dn.Gen.frame m ρ, fun m ρ _ => Cert.DnIdeal.Gen.frame m ρ, quiescent_DnRefIdeal,
  fun m ρ _ => Cert.Up.Gen.frame m ρ, fun m ρ _ => Cert.UpIdeal.Gen.frame m ρ, quiescent_UpRefIdeal,
  fun m ρ _ => Cert.Down.Gen.frame m ρ, fun m ρ _ => Cert.DownIdeal.Gen.frame m ρ, quiescent_DownRefIdeal,
  fun m ρ _ => Cert.Dx.Gen.frame m ρ, fun m ρ _ => Cert.DxIdeal.Gen.frame m ρ, quiescent_DxRefIdeal,
  fun m ρ _ => Cert.Xa.Gen.frame m ρ, fun m ρ _ => Cert.XaIdeal.Gen.frame m ρ, fun m ρ _ => Cert.XaIdeal.Gen.frame m ρ, quiescent_XaRefIdeal, fun m ρ _ => quiescent_XaRefIdeal m ρ trivial,
  fun m ρ _ => Cert.AdMin.Gen.frame m ρ, fun m ρ _ => Cert.AdMinIdeal.Gen.frame m ρ, quiescent_AdMinRefIdeal,
  fun m ρ _ => Cert.AdMuq.Gen.frame m ρ, fun m ρ _ => Cert.AdMuqIdeal.Gen.frame m ρ, quiescent_AdMuqRefIdeal,
  fun m ρ _ => Cert.AdMukv.Gen.frame m ρ, fun m ρ _ => Cert.AdMukvIdeal.Gen.frame m ρ, quiescent_AdMukvRefIdeal,
  fun m ρ _ => Cert.AdGin.Gen.frame m ρ, fun m ρ _ => Cert.AdGinIdeal.Gen.frame m ρ, quiescent_AdGinRefIdeal,
  fun m ρ _ => Cert.AdSin.Gen.frame m ρ, fun m ρ _ => Cert.AdSinIdeal.Gen.frame m ρ, quiescent_AdSinRefIdeal,
  fun m ρ _ => Cert.AdGo.Gen.frame m ρ, fun m ρ _ => Cert.AdGoIdeal.Gen.frame m ρ, quiescent_AdGoRefIdeal,
  fun m ρ _ => Cert.AdSo.Gen.frame m ρ, fun m ρ _ => Cert.AdSoIdeal.Gen.frame m ρ, quiescent_AdSoRefIdeal,
  fun m ρ _ => Cert.AdFi.Gen.frame m ρ, fun m ρ _ => Cert.AdFiIdeal.Gen.frame m ρ, quiescent_AdFiRefIdeal,
  fun m ρ _ => Cert.AdFo.Gen.frame m ρ, fun m ρ _ => Cert.AdFoIdeal.Gen.frame m ρ, quiescent_AdFoRefIdeal,
  fun m ρ _ => Cert.AdXq.Gen.frame m ρ, fun m ρ _ => Cert.AdXqIdeal.Gen.frame m ρ, quiescent_AdXqRefIdeal,
  fun m ρ _ => Cert.AdXo.Gen.frame m ρ, fun m ρ _ => Cert.AdXoIdeal.Gen.frame m ρ, quiescent_AdXoRefIdeal,
  fun m ρ _ => Cert.AdXkv.Gen.frame m ρ, fun m ρ _ => Cert.AdXkvIdeal.Gen.frame m ρ, quiescent_AdXkvRefIdeal,
  fun m ρ _ => Cert.AdMo.Gen.frame m ρ, fun m ρ _ => Cert.AdMoIdeal.Gen.frame m ρ, quiescent_AdMoRefIdeal,
  preserves_Sc_ScIdeal, algebraic_ScIdeal_ScRefIdeal,
  preserves_Dwo_DwoIdeal, algebraic_DwoIdeal_DwoRefIdeal,
  preserves_Dh_DhIdeal, algebraic_DhIdeal_DhRefIdeal,
  preserves_Dwi_DwiIdeal, algebraic_DwiIdeal_DwiRefIdeal,
  preserves_Dn_DnIdeal, algebraic_DnIdeal_DnRefIdeal,
  preserves_Up_UpIdeal, algebraic_UpIdeal_UpRefIdeal,
  preserves_Down_DownIdeal, algebraic_DownIdeal_DownRefIdeal,
  preserves_Dx_DxIdeal, algebraic_DxIdeal_DxRefIdeal,
  preserves_Xa_XaIdeal, algebraic_XaIdeal_XaRefIdeal,
  preserves_AdMin_AdMinIdeal, algebraic_AdMinIdeal_AdMinRefIdeal,
  preserves_AdMuq_AdMuqIdeal, algebraic_AdMuqIdeal_AdMuqRefIdeal,
  preserves_AdMukv_AdMukvIdeal, algebraic_AdMukvIdeal_AdMukvRefIdeal,
  preserves_AdGin_AdGinIdeal, algebraic_AdGinIdeal_AdGinRefIdeal,
  preserves_AdSin_AdSinIdeal, algebraic_AdSinIdeal_AdSinRefIdeal,
  preserves_AdGo_AdGoIdeal, algebraic_AdGoIdeal_AdGoRefIdeal,
  preserves_AdSo_AdSoIdeal, algebraic_AdSoIdeal_AdSoRefIdeal,
  preserves_AdFi_AdFiIdeal, algebraic_AdFiIdeal_AdFiRefIdeal,
  preserves_AdFo_AdFoIdeal, algebraic_AdFoIdeal_AdFoRefIdeal,
  preserves_AdXq_AdXqIdeal, algebraic_AdXqIdeal_AdXqRefIdeal,
  preserves_AdXo_AdXoIdeal, algebraic_AdXoIdeal_AdXoRefIdeal,
  preserves_AdXkv_AdXkvIdeal, algebraic_AdXkvIdeal_AdXkvRefIdeal,
  preserves_AdMo_AdMoIdeal, algebraic_AdMoIdeal_AdMoRefIdeal⟩

end Cert.Proof

end
